-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_steps [hPre_finite_steps : Cert.Pre_finite_steps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_steps [hPre_finite_steps : Cert.Pre_finite_steps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelXbc (m : (ℓ : Loc Cert.KernelXbc.nD Cert.KernelXbc.τ Cert.KernelXbc.sig) → Buf (Elt Bits) ℓ) : Prop :=
  True

def Pre_KernelXbcIdeal (m : (ℓ : Loc Cert.KernelXbcIdeal.nD Cert.KernelXbcIdeal.τ Cert.KernelXbcIdeal.sig) → Buf (Elt Ideal) ℓ) : Prop :=
  True

def Pre_ReferenceXbcIdeal (m : (ℓ : Loc Cert.ReferenceXbcIdeal.nD Cert.ReferenceXbcIdeal.τ Cert.ReferenceXbcIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelRkvo (m : (ℓ : Loc Cert.KernelRkvo.nD Cert.KernelRkvo.τ Cert.KernelRkvo.sig) → Buf (Elt Bits) ℓ) : Prop :=
  True

def Pre_KernelRkvoIdeal (m : (ℓ : Loc Cert.KernelRkvoIdeal.nD Cert.KernelRkvoIdeal.τ Cert.KernelRkvoIdeal.sig) → Buf (Elt Ideal) ℓ) : Prop :=
  True

def Pre_ReferenceRkvoIdeal (m : (ℓ : Loc Cert.ReferenceRkvoIdeal.nD Cert.ReferenceRkvoIdeal.τ Cert.ReferenceRkvoIdeal.sig) → Buf (Elt Ideal) ℓ) : Prop :=
  True

def Pre_KernelDecay (m : (ℓ : Loc Cert.KernelDecay.nD Cert.KernelDecay.τ Cert.KernelDecay.sig) → Buf (Elt Bits) ℓ) : Prop :=
  True

def Pre_KernelDecayIdeal (m : (ℓ : Loc Cert.KernelDecayIdeal.nD Cert.KernelDecayIdeal.τ Cert.KernelDecayIdeal.sig) → Buf (Elt Ideal) ℓ) : Prop :=
  True

def Pre_ReferenceDecayIdeal (m : (ℓ : Loc Cert.ReferenceDecayIdeal.nD Cert.ReferenceDecayIdeal.τ Cert.ReferenceDecayIdeal.sig) → Buf (Elt Ideal) ℓ) : Prop :=
  True

def Pre_KernelRate (m : (ℓ : Loc Cert.KernelRate.nD Cert.KernelRate.τ Cert.KernelRate.sig) → Buf (Elt Bits) ℓ) : Prop :=
  True

def Pre_KernelRateIdeal (m : (ℓ : Loc Cert.KernelRateIdeal.nD Cert.KernelRateIdeal.τ Cert.KernelRateIdeal.sig) → Buf (Elt Ideal) ℓ) : Prop :=
  True

def Pre_ReferenceRateIdeal (m : (ℓ : Loc Cert.ReferenceRateIdeal.nD Cert.ReferenceRateIdeal.τ Cert.ReferenceRateIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelUp [hPre_runs_ok : Cert.Pre_runs_ok.Facts] (m : (ℓ : Loc Cert.KernelUp.nD Cert.KernelUp.τ Cert.KernelUp.sig) → Buf (Elt Bits) ℓ) : Prop :=
  ∀ c : Dev Cert.KernelUp.nD,
    (Cert.Pre_runs_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3))).1 = (fun _ => 1#1)
    ∧ (Cert.Pre_runs_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3))).2.1 = (fun _ => 1#1)
    ∧ (Cert.Pre_runs_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3))).2.2.1 = (fun _ => 1#1)
    ∧ (Cert.Pre_runs_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3))).2.2.2.1 = (fun _ => 1#1)
    ∧ (Cert.Pre_runs_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3))).2.2.2.2.1 = (fun _ => 1#1)
    ∧ (Cert.Pre_runs_ok.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3))).2.2.2.2.2 = (fun _ => 1#1)

def Pre_KernelUpIdeal [hPre_runs_ok : Cert.Pre_runs_ok.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_runs_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).1 = (fun _ => 1#1)
    ∧ (Cert.Pre_runs_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).2.1 = (fun _ => 1#1)
    ∧ (Cert.Pre_runs_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).2.2.1 = (fun _ => 1#1)
    ∧ (Cert.Pre_runs_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).2.2.2.1 = (fun _ => 1#1)
    ∧ (Cert.Pre_runs_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).2.2.2.2.1 = (fun _ => 1#1)
    ∧ (Cert.Pre_runs_ok.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3))).2.2.2.2.2 = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_runs_ok [hPre_runs_ok : Cert.Pre_runs_ok.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_runs_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3))).1 = (fun _ => 1#1)
    ∧ (Cert.Pre_runs_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3))).2.1 = (fun _ => 1#1)
    ∧ (Cert.Pre_runs_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3))).2.2.1 = (fun _ => 1#1)
    ∧ (Cert.Pre_runs_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3))).2.2.2.1 = (fun _ => 1#1)
    ∧ (Cert.Pre_runs_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3))).2.2.2.2.1 = (fun _ => 1#1)
    ∧ (Cert.Pre_runs_ok.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3))).2.2.2.2.2 = (fun _ => 1#1)

def Pre_KernelUp1 [hPre_runs_ok : Cert.Pre_runs_ok.Facts] (m : (ℓ : Loc Cert.KernelUp1.nD Cert.KernelUp1.τ Cert.KernelUp1.sig) → Buf (Elt Bits) ℓ) : Prop :=
  ∀ c : Dev Cert.KernelUp1.nD,
    (Cert.Pre_runs_ok.fn (F := Bits) (m ((c.tc : Thread Cert.KernelUp1.nD Cert.KernelUp1.τ).loc Cert.KernelUp1.main_arg0)) (m ((c.tc : Thread Cert.KernelUp1.nD Cert.KernelUp1.τ).loc Cert.KernelUp1.main_arg1)) (m ((c.tc : Thread Cert.KernelUp1.nD Cert.KernelUp1.τ).loc Cert.KernelUp1.main_arg2)) (m ((c.tc : Thread Cert.KernelUp1.nD Cert.KernelUp1.τ).loc Cert.KernelUp1.main_arg3))).1 = (fun _ => 1#1)
    ∧ (Cert.Pre_runs_ok.fn (F := Bits) (m ((c.tc : Thread Cert.KernelUp1.nD Cert.KernelUp1.τ).loc Cert.KernelUp1.main_arg0)) (m ((c.tc : Thread Cert.KernelUp1.nD Cert.KernelUp1.τ).loc Cert.KernelUp1.main_arg1)) (m ((c.tc : Thread Cert.KernelUp1.nD Cert.KernelUp1.τ).loc Cert.KernelUp1.main_arg2)) (m ((c.tc : Thread Cert.KernelUp1.nD Cert.KernelUp1.τ).loc Cert.KernelUp1.main_arg3))).2.1 = (fun _ => 1#1)
    ∧ (Cert.Pre_runs_ok.fn (F := Bits) (m ((c.tc : Thread Cert.KernelUp1.nD Cert.KernelUp1.τ).loc Cert.KernelUp1.main_arg0)) (m ((c.tc : Thread Cert.KernelUp1.nD Cert.KernelUp1.τ).loc Cert.KernelUp1.main_arg1)) (m ((c.tc : Thread Cert.KernelUp1.nD Cert.KernelUp1.τ).loc Cert.KernelUp1.main_arg2)) (m ((c.tc : Thread Cert.KernelUp1.nD Cert.KernelUp1.τ).loc Cert.KernelUp1.main_arg3))).2.2.1 = (fun _ => 1#1)
    ∧ (Cert.Pre_runs_ok.fn (F := Bits) (m ((c.tc : Thread Cert.KernelUp1.nD Cert.KernelUp1.τ).loc Cert.KernelUp1.main_arg0)) (m ((c.tc : Thread Cert.KernelUp1.nD Cert.KernelUp1.τ).loc Cert.KernelUp1.main_arg1)) (m ((c.tc : Thread Cert.KernelUp1.nD Cert.KernelUp1.τ).loc Cert.KernelUp1.main_arg2)) (m ((c.tc : Thread Cert.KernelUp1.nD Cert.KernelUp1.τ).loc Cert.KernelUp1.main_arg3))).2.2.2.1 = (fun _ => 1#1)
    ∧ (Cert.Pre_runs_ok.fn (F := Bits) (m ((c.tc : Thread Cert.KernelUp1.nD Cert.KernelUp1.τ).loc Cert.KernelUp1.main_arg0)) (m ((c.tc : Thread Cert.KernelUp1.nD Cert.KernelUp1.τ).loc Cert.KernelUp1.main_arg1)) (m ((c.tc : Thread Cert.KernelUp1.nD Cert.KernelUp1.τ).loc Cert.KernelUp1.main_arg2)) (m ((c.tc : Thread Cert.KernelUp1.nD Cert.KernelUp1.τ).loc Cert.KernelUp1.main_arg3))).2.2.2.2.1 = (fun _ => 1#1)
    ∧ (Cert.Pre_runs_ok.fn (F := Bits) (m ((c.tc : Thread Cert.KernelUp1.nD Cert.KernelUp1.τ).loc Cert.KernelUp1.main_arg0)) (m ((c.tc : Thread Cert.KernelUp1.nD Cert.KernelUp1.τ).loc Cert.KernelUp1.main_arg1)) (m ((c.tc : Thread Cert.KernelUp1.nD Cert.KernelUp1.τ).loc Cert.KernelUp1.main_arg2)) (m ((c.tc : Thread Cert.KernelUp1.nD Cert.KernelUp1.τ).loc Cert.KernelUp1.main_arg3))).2.2.2.2.2 = (fun _ => 1#1)

def Pre_KernelUp1Ideal [hPre_runs_ok : Cert.Pre_runs_ok.Facts] (m : (ℓ : Loc Cert.KernelUp1Ideal.nD Cert.KernelUp1Ideal.τ Cert.KernelUp1Ideal.sig) → Buf (Elt Ideal) ℓ) : Prop :=
  ∀ c : Dev Cert.KernelUp1Ideal.nD,
    (Cert.Pre_runs_ok.fn (F := Ideal) (m ((c.tc : Thread Cert.KernelUp1Ideal.nD Cert.KernelUp1Ideal.τ).loc Cert.KernelUp1Ideal.main_arg0)) (m ((c.tc : Thread Cert.KernelUp1Ideal.nD Cert.KernelUp1Ideal.τ).loc Cert.KernelUp1Ideal.main_arg1)) (m ((c.tc : Thread Cert.KernelUp1Ideal.nD Cert.KernelUp1Ideal.τ).loc Cert.KernelUp1Ideal.main_arg2)) (m ((c.tc : Thread Cert.KernelUp1Ideal.nD Cert.KernelUp1Ideal.τ).loc Cert.KernelUp1Ideal.main_arg3))).1 = (fun _ => 1#1)
    ∧ (Cert.Pre_runs_ok.fn (F := Ideal) (m ((c.tc : Thread Cert.KernelUp1Ideal.nD Cert.KernelUp1Ideal.τ).loc Cert.KernelUp1Ideal.main_arg0)) (m ((c.tc : Thread Cert.KernelUp1Ideal.nD Cert.KernelUp1Ideal.τ).loc Cert.KernelUp1Ideal.main_arg1)) (m ((c.tc : Thread Cert.KernelUp1Ideal.nD Cert.KernelUp1Ideal.τ).loc Cert.KernelUp1Ideal.main_arg2)) (m ((c.tc : Thread Cert.KernelUp1Ideal.nD Cert.KernelUp1Ideal.τ).loc Cert.KernelUp1Ideal.main_arg3))).2.1 = (fun _ => 1#1)
    ∧ (Cert.Pre_runs_ok.fn (F := Ideal) (m ((c.tc : Thread Cert.KernelUp1Ideal.nD Cert.KernelUp1Ideal.τ).loc Cert.KernelUp1Ideal.main_arg0)) (m ((c.tc : Thread Cert.KernelUp1Ideal.nD Cert.KernelUp1Ideal.τ).loc Cert.KernelUp1Ideal.main_arg1)) (m ((c.tc : Thread Cert.KernelUp1Ideal.nD Cert.KernelUp1Ideal.τ).loc Cert.KernelUp1Ideal.main_arg2)) (m ((c.tc : Thread Cert.KernelUp1Ideal.nD Cert.KernelUp1Ideal.τ).loc Cert.KernelUp1Ideal.main_arg3))).2.2.1 = (fun _ => 1#1)
    ∧ (Cert.Pre_runs_ok.fn (F := Ideal) (m ((c.tc : Thread Cert.KernelUp1Ideal.nD Cert.KernelUp1Ideal.τ).loc Cert.KernelUp1Ideal.main_arg0)) (m ((c.tc : Thread Cert.KernelUp1Ideal.nD Cert.KernelUp1Ideal.τ).loc Cert.KernelUp1Ideal.main_arg1)) (m ((c.tc : Thread Cert.KernelUp1Ideal.nD Cert.KernelUp1Ideal.τ).loc Cert.KernelUp1Ideal.main_arg2)) (m ((c.tc : Thread Cert.KernelUp1Ideal.nD Cert.KernelUp1Ideal.τ).loc Cert.KernelUp1Ideal.main_arg3))).2.2.2.1 = (fun _ => 1#1)
    ∧ (Cert.Pre_runs_ok.fn (F := Ideal) (m ((c.tc : Thread Cert.KernelUp1Ideal.nD Cert.KernelUp1Ideal.τ).loc Cert.KernelUp1Ideal.main_arg0)) (m ((c.tc : Thread Cert.KernelUp1Ideal.nD Cert.KernelUp1Ideal.τ).loc Cert.KernelUp1Ideal.main_arg1)) (m ((c.tc : Thread Cert.KernelUp1Ideal.nD Cert.KernelUp1Ideal.τ).loc Cert.KernelUp1Ideal.main_arg2)) (m ((c.tc : Thread Cert.KernelUp1Ideal.nD Cert.KernelUp1Ideal.τ).loc Cert.KernelUp1Ideal.main_arg3))).2.2.2.2.1 = (fun _ => 1#1)
    ∧ (Cert.Pre_runs_ok.fn (F := Ideal) (m ((c.tc : Thread Cert.KernelUp1Ideal.nD Cert.KernelUp1Ideal.τ).loc Cert.KernelUp1Ideal.main_arg0)) (m ((c.tc : Thread Cert.KernelUp1Ideal.nD Cert.KernelUp1Ideal.τ).loc Cert.KernelUp1Ideal.main_arg1)) (m ((c.tc : Thread Cert.KernelUp1Ideal.nD Cert.KernelUp1Ideal.τ).loc Cert.KernelUp1Ideal.main_arg2)) (m ((c.tc : Thread Cert.KernelUp1Ideal.nD Cert.KernelUp1Ideal.τ).loc Cert.KernelUp1Ideal.main_arg3))).2.2.2.2.2 = (fun _ => 1#1)

def Pre_ReferenceUp1Ideal (m : (ℓ : Loc Cert.ReferenceUp1Ideal.nD Cert.ReferenceUp1Ideal.τ Cert.ReferenceUp1Ideal.sig) → Buf (Elt Ideal) ℓ) : Prop :=
  True

def Pre_ReferenceUp1Ideal_runs_ok [hPre_runs_ok : Cert.Pre_runs_ok.Facts] (m : (ℓ : Loc Cert.ReferenceUp1Ideal.nD Cert.ReferenceUp1Ideal.τ Cert.ReferenceUp1Ideal.sig) → Buf (Elt Ideal) ℓ) : Prop :=
  ∀ c : Dev Cert.ReferenceUp1Ideal.nD,
    (Cert.Pre_runs_ok.fn (F := Ideal) (m ((c.tc : Thread Cert.ReferenceUp1Ideal.nD Cert.ReferenceUp1Ideal.τ).loc Cert.ReferenceUp1Ideal.main_arg0)) (m ((c.tc : Thread Cert.ReferenceUp1Ideal.nD Cert.ReferenceUp1Ideal.τ).loc Cert.ReferenceUp1Ideal.main_arg1)) (m ((c.tc : Thread Cert.ReferenceUp1Ideal.nD Cert.ReferenceUp1Ideal.τ).loc Cert.ReferenceUp1Ideal.main_arg2)) (m ((c.tc : Thread Cert.ReferenceUp1Ideal.nD Cert.ReferenceUp1Ideal.τ).loc Cert.ReferenceUp1Ideal.main_arg3))).1 = (fun _ => 1#1)
    ∧ (Cert.Pre_runs_ok.fn (F := Ideal) (m ((c.tc : Thread Cert.ReferenceUp1Ideal.nD Cert.ReferenceUp1Ideal.τ).loc Cert.ReferenceUp1Ideal.main_arg0)) (m ((c.tc : Thread Cert.ReferenceUp1Ideal.nD Cert.ReferenceUp1Ideal.τ).loc Cert.ReferenceUp1Ideal.main_arg1)) (m ((c.tc : Thread Cert.ReferenceUp1Ideal.nD Cert.ReferenceUp1Ideal.τ).loc Cert.ReferenceUp1Ideal.main_arg2)) (m ((c.tc : Thread Cert.ReferenceUp1Ideal.nD Cert.ReferenceUp1Ideal.τ).loc Cert.ReferenceUp1Ideal.main_arg3))).2.1 = (fun _ => 1#1)
    ∧ (Cert.Pre_runs_ok.fn (F := Ideal) (m ((c.tc : Thread Cert.ReferenceUp1Ideal.nD Cert.ReferenceUp1Ideal.τ).loc Cert.ReferenceUp1Ideal.main_arg0)) (m ((c.tc : Thread Cert.ReferenceUp1Ideal.nD Cert.ReferenceUp1Ideal.τ).loc Cert.ReferenceUp1Ideal.main_arg1)) (m ((c.tc : Thread Cert.ReferenceUp1Ideal.nD Cert.ReferenceUp1Ideal.τ).loc Cert.ReferenceUp1Ideal.main_arg2)) (m ((c.tc : Thread Cert.ReferenceUp1Ideal.nD Cert.ReferenceUp1Ideal.τ).loc Cert.ReferenceUp1Ideal.main_arg3))).2.2.1 = (fun _ => 1#1)
    ∧ (Cert.Pre_runs_ok.fn (F := Ideal) (m ((c.tc : Thread Cert.ReferenceUp1Ideal.nD Cert.ReferenceUp1Ideal.τ).loc Cert.ReferenceUp1Ideal.main_arg0)) (m ((c.tc : Thread Cert.ReferenceUp1Ideal.nD Cert.ReferenceUp1Ideal.τ).loc Cert.ReferenceUp1Ideal.main_arg1)) (m ((c.tc : Thread Cert.ReferenceUp1Ideal.nD Cert.ReferenceUp1Ideal.τ).loc Cert.ReferenceUp1Ideal.main_arg2)) (m ((c.tc : Thread Cert.ReferenceUp1Ideal.nD Cert.ReferenceUp1Ideal.τ).loc Cert.ReferenceUp1Ideal.main_arg3))).2.2.2.1 = (fun _ => 1#1)
    ∧ (Cert.Pre_runs_ok.fn (F := Ideal) (m ((c.tc : Thread Cert.ReferenceUp1Ideal.nD Cert.ReferenceUp1Ideal.τ).loc Cert.ReferenceUp1Ideal.main_arg0)) (m ((c.tc : Thread Cert.ReferenceUp1Ideal.nD Cert.ReferenceUp1Ideal.τ).loc Cert.ReferenceUp1Ideal.main_arg1)) (m ((c.tc : Thread Cert.ReferenceUp1Ideal.nD Cert.ReferenceUp1Ideal.τ).loc Cert.ReferenceUp1Ideal.main_arg2)) (m ((c.tc : Thread Cert.ReferenceUp1Ideal.nD Cert.ReferenceUp1Ideal.τ).loc Cert.ReferenceUp1Ideal.main_arg3))).2.2.2.2.1 = (fun _ => 1#1)
    ∧ (Cert.Pre_runs_ok.fn (F := Ideal) (m ((c.tc : Thread Cert.ReferenceUp1Ideal.nD Cert.ReferenceUp1Ideal.τ).loc Cert.ReferenceUp1Ideal.main_arg0)) (m ((c.tc : Thread Cert.ReferenceUp1Ideal.nD Cert.ReferenceUp1Ideal.τ).loc Cert.ReferenceUp1Ideal.main_arg1)) (m ((c.tc : Thread Cert.ReferenceUp1Ideal.nD Cert.ReferenceUp1Ideal.τ).loc Cert.ReferenceUp1Ideal.main_arg2)) (m ((c.tc : Thread Cert.ReferenceUp1Ideal.nD Cert.ReferenceUp1Ideal.τ).loc Cert.ReferenceUp1Ideal.main_arg3))).2.2.2.2.2 = (fun _ => 1#1)

def Pre_KernelDown [hPre_runs_ok_down : Cert.Pre_runs_ok_down.Facts] (m : (ℓ : Loc Cert.KernelDown.nD Cert.KernelDown.τ Cert.KernelDown.sig) → Buf (Elt Bits) ℓ) : Prop :=
  ∀ c : Dev Cert.KernelDown.nD,
    (Cert.Pre_runs_ok_down.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2)) (m ((c.tc : Thread Cert.KernelDown.nD Cert.KernelDown.τ).loc Cert.KernelDown.main_arg3))).1 = (fun _ => 1#1)
    ∧ (Cert.Pre_runs_ok_down.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2)) (m ((c.tc : Thread Cert.KernelDown.nD Cert.KernelDown.τ).loc Cert.KernelDown.main_arg3))).2.1 = (fun _ => 1#1)
    ∧ (Cert.Pre_runs_ok_down.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2)) (m ((c.tc : Thread Cert.KernelDown.nD Cert.KernelDown.τ).loc Cert.KernelDown.main_arg3))).2.2.1 = (fun _ => 1#1)
    ∧ (Cert.Pre_runs_ok_down.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2)) (m ((c.tc : Thread Cert.KernelDown.nD Cert.KernelDown.τ).loc Cert.KernelDown.main_arg3))).2.2.2.1 = (fun _ => 1#1)
    ∧ (Cert.Pre_runs_ok_down.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2)) (m ((c.tc : Thread Cert.KernelDown.nD Cert.KernelDown.τ).loc Cert.KernelDown.main_arg3))).2.2.2.2.1 = (fun _ => 1#1)
    ∧ (Cert.Pre_runs_ok_down.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2)) (m ((c.tc : Thread Cert.KernelDown.nD Cert.KernelDown.τ).loc Cert.KernelDown.main_arg3))).2.2.2.2.2 = (fun _ => 1#1)

def Pre_KernelDownIdeal [hPre_runs_ok_down : Cert.Pre_runs_ok_down.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_runs_ok_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3))).1 = (fun _ => 1#1)
    ∧ (Cert.Pre_runs_ok_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3))).2.1 = (fun _ => 1#1)
    ∧ (Cert.Pre_runs_ok_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3))).2.2.1 = (fun _ => 1#1)
    ∧ (Cert.Pre_runs_ok_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3))).2.2.2.1 = (fun _ => 1#1)
    ∧ (Cert.Pre_runs_ok_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3))).2.2.2.2.1 = (fun _ => 1#1)
    ∧ (Cert.Pre_runs_ok_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3))).2.2.2.2.2 = (fun _ => 1#1)

def Pre_ReferenceDownIdeal (m : (ℓ : Loc Cert.ReferenceDownIdeal.nD Cert.ReferenceDownIdeal.τ Cert.ReferenceDownIdeal.sig) → Buf (Elt Ideal) ℓ) : Prop :=
  True

def Pre_ReferenceDownIdeal_runs_ok_down [hPre_runs_ok_down : Cert.Pre_runs_ok_down.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_runs_ok_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3))).1 = (fun _ => 1#1)
    ∧ (Cert.Pre_runs_ok_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3))).2.1 = (fun _ => 1#1)
    ∧ (Cert.Pre_runs_ok_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3))).2.2.1 = (fun _ => 1#1)
    ∧ (Cert.Pre_runs_ok_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3))).2.2.2.1 = (fun _ => 1#1)
    ∧ (Cert.Pre_runs_ok_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3))).2.2.2.2.1 = (fun _ => 1#1)
    ∧ (Cert.Pre_runs_ok_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3))).2.2.2.2.2 = (fun _ => 1#1)

def Pre_KernelDown1 [hPre_runs_ok_down : Cert.Pre_runs_ok_down.Facts] (m : (ℓ : Loc Cert.KernelDown1.nD Cert.KernelDown1.τ Cert.KernelDown1.sig) → Buf (Elt Bits) ℓ) : Prop :=
  ∀ c : Dev Cert.KernelDown1.nD,
    (Cert.Pre_runs_ok_down.fn (F := Bits) (m ((c.tc : Thread Cert.KernelDown1.nD Cert.KernelDown1.τ).loc Cert.KernelDown1.main_arg0)) (m ((c.tc : Thread Cert.KernelDown1.nD Cert.KernelDown1.τ).loc Cert.KernelDown1.main_arg1)) (m ((c.tc : Thread Cert.KernelDown1.nD Cert.KernelDown1.τ).loc Cert.KernelDown1.main_arg2)) (m ((c.tc : Thread Cert.KernelDown1.nD Cert.KernelDown1.τ).loc Cert.KernelDown1.main_arg3))).1 = (fun _ => 1#1)
    ∧ (Cert.Pre_runs_ok_down.fn (F := Bits) (m ((c.tc : Thread Cert.KernelDown1.nD Cert.KernelDown1.τ).loc Cert.KernelDown1.main_arg0)) (m ((c.tc : Thread Cert.KernelDown1.nD Cert.KernelDown1.τ).loc Cert.KernelDown1.main_arg1)) (m ((c.tc : Thread Cert.KernelDown1.nD Cert.KernelDown1.τ).loc Cert.KernelDown1.main_arg2)) (m ((c.tc : Thread Cert.KernelDown1.nD Cert.KernelDown1.τ).loc Cert.KernelDown1.main_arg3))).2.1 = (fun _ => 1#1)
    ∧ (Cert.Pre_runs_ok_down.fn (F := Bits) (m ((c.tc : Thread Cert.KernelDown1.nD Cert.KernelDown1.τ).loc Cert.KernelDown1.main_arg0)) (m ((c.tc : Thread Cert.KernelDown1.nD Cert.KernelDown1.τ).loc Cert.KernelDown1.main_arg1)) (m ((c.tc : Thread Cert.KernelDown1.nD Cert.KernelDown1.τ).loc Cert.KernelDown1.main_arg2)) (m ((c.tc : Thread Cert.KernelDown1.nD Cert.KernelDown1.τ).loc Cert.KernelDown1.main_arg3))).2.2.1 = (fun _ => 1#1)
    ∧ (Cert.Pre_runs_ok_down.fn (F := Bits) (m ((c.tc : Thread Cert.KernelDown1.nD Cert.KernelDown1.τ).loc Cert.KernelDown1.main_arg0)) (m ((c.tc : Thread Cert.KernelDown1.nD Cert.KernelDown1.τ).loc Cert.KernelDown1.main_arg1)) (m ((c.tc : Thread Cert.KernelDown1.nD Cert.KernelDown1.τ).loc Cert.KernelDown1.main_arg2)) (m ((c.tc : Thread Cert.KernelDown1.nD Cert.KernelDown1.τ).loc Cert.KernelDown1.main_arg3))).2.2.2.1 = (fun _ => 1#1)
    ∧ (Cert.Pre_runs_ok_down.fn (F := Bits) (m ((c.tc : Thread Cert.KernelDown1.nD Cert.KernelDown1.τ).loc Cert.KernelDown1.main_arg0)) (m ((c.tc : Thread Cert.KernelDown1.nD Cert.KernelDown1.τ).loc Cert.KernelDown1.main_arg1)) (m ((c.tc : Thread Cert.KernelDown1.nD Cert.KernelDown1.τ).loc Cert.KernelDown1.main_arg2)) (m ((c.tc : Thread Cert.KernelDown1.nD Cert.KernelDown1.τ).loc Cert.KernelDown1.main_arg3))).2.2.2.2.1 = (fun _ => 1#1)
    ∧ (Cert.Pre_runs_ok_down.fn (F := Bits) (m ((c.tc : Thread Cert.KernelDown1.nD Cert.KernelDown1.τ).loc Cert.KernelDown1.main_arg0)) (m ((c.tc : Thread Cert.KernelDown1.nD Cert.KernelDown1.τ).loc Cert.KernelDown1.main_arg1)) (m ((c.tc : Thread Cert.KernelDown1.nD Cert.KernelDown1.τ).loc Cert.KernelDown1.main_arg2)) (m ((c.tc : Thread Cert.KernelDown1.nD Cert.KernelDown1.τ).loc Cert.KernelDown1.main_arg3))).2.2.2.2.2 = (fun _ => 1#1)

def Pre_KernelDown1Ideal [hPre_runs_ok_down : Cert.Pre_runs_ok_down.Facts] (m : (ℓ : Loc Cert.KernelDown1Ideal.nD Cert.KernelDown1Ideal.τ Cert.KernelDown1Ideal.sig) → Buf (Elt Ideal) ℓ) : Prop :=
  ∀ c : Dev Cert.KernelDown1Ideal.nD,
    (Cert.Pre_runs_ok_down.fn (F := Ideal) (m ((c.tc : Thread Cert.KernelDown1Ideal.nD Cert.KernelDown1Ideal.τ).loc Cert.KernelDown1Ideal.main_arg0)) (m ((c.tc : Thread Cert.KernelDown1Ideal.nD Cert.KernelDown1Ideal.τ).loc Cert.KernelDown1Ideal.main_arg1)) (m ((c.tc : Thread Cert.KernelDown1Ideal.nD Cert.KernelDown1Ideal.τ).loc Cert.KernelDown1Ideal.main_arg2)) (m ((c.tc : Thread Cert.KernelDown1Ideal.nD Cert.KernelDown1Ideal.τ).loc Cert.KernelDown1Ideal.main_arg3))).1 = (fun _ => 1#1)
    ∧ (Cert.Pre_runs_ok_down.fn (F := Ideal) (m ((c.tc : Thread Cert.KernelDown1Ideal.nD Cert.KernelDown1Ideal.τ).loc Cert.KernelDown1Ideal.main_arg0)) (m ((c.tc : Thread Cert.KernelDown1Ideal.nD Cert.KernelDown1Ideal.τ).loc Cert.KernelDown1Ideal.main_arg1)) (m ((c.tc : Thread Cert.KernelDown1Ideal.nD Cert.KernelDown1Ideal.τ).loc Cert.KernelDown1Ideal.main_arg2)) (m ((c.tc : Thread Cert.KernelDown1Ideal.nD Cert.KernelDown1Ideal.τ).loc Cert.KernelDown1Ideal.main_arg3))).2.1 = (fun _ => 1#1)
    ∧ (Cert.Pre_runs_ok_down.fn (F := Ideal) (m ((c.tc : Thread Cert.KernelDown1Ideal.nD Cert.KernelDown1Ideal.τ).loc Cert.KernelDown1Ideal.main_arg0)) (m ((c.tc : Thread Cert.KernelDown1Ideal.nD Cert.KernelDown1Ideal.τ).loc Cert.KernelDown1Ideal.main_arg1)) (m ((c.tc : Thread Cert.KernelDown1Ideal.nD Cert.KernelDown1Ideal.τ).loc Cert.KernelDown1Ideal.main_arg2)) (m ((c.tc : Thread Cert.KernelDown1Ideal.nD Cert.KernelDown1Ideal.τ).loc Cert.KernelDown1Ideal.main_arg3))).2.2.1 = (fun _ => 1#1)
    ∧ (Cert.Pre_runs_ok_down.fn (F := Ideal) (m ((c.tc : Thread Cert.KernelDown1Ideal.nD Cert.KernelDown1Ideal.τ).loc Cert.KernelDown1Ideal.main_arg0)) (m ((c.tc : Thread Cert.KernelDown1Ideal.nD Cert.KernelDown1Ideal.τ).loc Cert.KernelDown1Ideal.main_arg1)) (m ((c.tc : Thread Cert.KernelDown1Ideal.nD Cert.KernelDown1Ideal.τ).loc Cert.KernelDown1Ideal.main_arg2)) (m ((c.tc : Thread Cert.KernelDown1Ideal.nD Cert.KernelDown1Ideal.τ).loc Cert.KernelDown1Ideal.main_arg3))).2.2.2.1 = (fun _ => 1#1)
    ∧ (Cert.Pre_runs_ok_down.fn (F := Ideal) (m ((c.tc : Thread Cert.KernelDown1Ideal.nD Cert.KernelDown1Ideal.τ).loc Cert.KernelDown1Ideal.main_arg0)) (m ((c.tc : Thread Cert.KernelDown1Ideal.nD Cert.KernelDown1Ideal.τ).loc Cert.KernelDown1Ideal.main_arg1)) (m ((c.tc : Thread Cert.KernelDown1Ideal.nD Cert.KernelDown1Ideal.τ).loc Cert.KernelDown1Ideal.main_arg2)) (m ((c.tc : Thread Cert.KernelDown1Ideal.nD Cert.KernelDown1Ideal.τ).loc Cert.KernelDown1Ideal.main_arg3))).2.2.2.2.1 = (fun _ => 1#1)
    ∧ (Cert.Pre_runs_ok_down.fn (F := Ideal) (m ((c.tc : Thread Cert.KernelDown1Ideal.nD Cert.KernelDown1Ideal.τ).loc Cert.KernelDown1Ideal.main_arg0)) (m ((c.tc : Thread Cert.KernelDown1Ideal.nD Cert.KernelDown1Ideal.τ).loc Cert.KernelDown1Ideal.main_arg1)) (m ((c.tc : Thread Cert.KernelDown1Ideal.nD Cert.KernelDown1Ideal.τ).loc Cert.KernelDown1Ideal.main_arg2)) (m ((c.tc : Thread Cert.KernelDown1Ideal.nD Cert.KernelDown1Ideal.τ).loc Cert.KernelDown1Ideal.main_arg3))).2.2.2.2.2 = (fun _ => 1#1)

def Pre_ReferenceDown1Ideal (m : (ℓ : Loc Cert.ReferenceDown1Ideal.nD Cert.ReferenceDown1Ideal.τ Cert.ReferenceDown1Ideal.sig) → Buf (Elt Ideal) ℓ) : Prop :=
  True

def Pre_ReferenceDown1Ideal_runs_ok_down [hPre_runs_ok_down : Cert.Pre_runs_ok_down.Facts] (m : (ℓ : Loc Cert.ReferenceDown1Ideal.nD Cert.ReferenceDown1Ideal.τ Cert.ReferenceDown1Ideal.sig) → Buf (Elt Ideal) ℓ) : Prop :=
  ∀ c : Dev Cert.ReferenceDown1Ideal.nD,
    (Cert.Pre_runs_ok_down.fn (F := Ideal) (m ((c.tc : Thread Cert.ReferenceDown1Ideal.nD Cert.ReferenceDown1Ideal.τ).loc Cert.ReferenceDown1Ideal.main_arg0)) (m ((c.tc : Thread Cert.ReferenceDown1Ideal.nD Cert.ReferenceDown1Ideal.τ).loc Cert.ReferenceDown1Ideal.main_arg1)) (m ((c.tc : Thread Cert.ReferenceDown1Ideal.nD Cert.ReferenceDown1Ideal.τ).loc Cert.ReferenceDown1Ideal.main_arg2)) (m ((c.tc : Thread Cert.ReferenceDown1Ideal.nD Cert.ReferenceDown1Ideal.τ).loc Cert.ReferenceDown1Ideal.main_arg3))).1 = (fun _ => 1#1)
    ∧ (Cert.Pre_runs_ok_down.fn (F := Ideal) (m ((c.tc : Thread Cert.ReferenceDown1Ideal.nD Cert.ReferenceDown1Ideal.τ).loc Cert.ReferenceDown1Ideal.main_arg0)) (m ((c.tc : Thread Cert.ReferenceDown1Ideal.nD Cert.ReferenceDown1Ideal.τ).loc Cert.ReferenceDown1Ideal.main_arg1)) (m ((c.tc : Thread Cert.ReferenceDown1Ideal.nD Cert.ReferenceDown1Ideal.τ).loc Cert.ReferenceDown1Ideal.main_arg2)) (m ((c.tc : Thread Cert.ReferenceDown1Ideal.nD Cert.ReferenceDown1Ideal.τ).loc Cert.ReferenceDown1Ideal.main_arg3))).2.1 = (fun _ => 1#1)
    ∧ (Cert.Pre_runs_ok_down.fn (F := Ideal) (m ((c.tc : Thread Cert.ReferenceDown1Ideal.nD Cert.ReferenceDown1Ideal.τ).loc Cert.ReferenceDown1Ideal.main_arg0)) (m ((c.tc : Thread Cert.ReferenceDown1Ideal.nD Cert.ReferenceDown1Ideal.τ).loc Cert.ReferenceDown1Ideal.main_arg1)) (m ((c.tc : Thread Cert.ReferenceDown1Ideal.nD Cert.ReferenceDown1Ideal.τ).loc Cert.ReferenceDown1Ideal.main_arg2)) (m ((c.tc : Thread Cert.ReferenceDown1Ideal.nD Cert.ReferenceDown1Ideal.τ).loc Cert.ReferenceDown1Ideal.main_arg3))).2.2.1 = (fun _ => 1#1)
    ∧ (Cert.Pre_runs_ok_down.fn (F := Ideal) (m ((c.tc : Thread Cert.ReferenceDown1Ideal.nD Cert.ReferenceDown1Ideal.τ).loc Cert.ReferenceDown1Ideal.main_arg0)) (m ((c.tc : Thread Cert.ReferenceDown1Ideal.nD Cert.ReferenceDown1Ideal.τ).loc Cert.ReferenceDown1Ideal.main_arg1)) (m ((c.tc : Thread Cert.ReferenceDown1Ideal.nD Cert.ReferenceDown1Ideal.τ).loc Cert.ReferenceDown1Ideal.main_arg2)) (m ((c.tc : Thread Cert.ReferenceDown1Ideal.nD Cert.ReferenceDown1Ideal.τ).loc Cert.ReferenceDown1Ideal.main_arg3))).2.2.2.1 = (fun _ => 1#1)
    ∧ (Cert.Pre_runs_ok_down.fn (F := Ideal) (m ((c.tc : Thread Cert.ReferenceDown1Ideal.nD Cert.ReferenceDown1Ideal.τ).loc Cert.ReferenceDown1Ideal.main_arg0)) (m ((c.tc : Thread Cert.ReferenceDown1Ideal.nD Cert.ReferenceDown1Ideal.τ).loc Cert.ReferenceDown1Ideal.main_arg1)) (m ((c.tc : Thread Cert.ReferenceDown1Ideal.nD Cert.ReferenceDown1Ideal.τ).loc Cert.ReferenceDown1Ideal.main_arg2)) (m ((c.tc : Thread Cert.ReferenceDown1Ideal.nD Cert.ReferenceDown1Ideal.τ).loc Cert.ReferenceDown1Ideal.main_arg3))).2.2.2.2.1 = (fun _ => 1#1)
    ∧ (Cert.Pre_runs_ok_down.fn (F := Ideal) (m ((c.tc : Thread Cert.ReferenceDown1Ideal.nD Cert.ReferenceDown1Ideal.τ).loc Cert.ReferenceDown1Ideal.main_arg0)) (m ((c.tc : Thread Cert.ReferenceDown1Ideal.nD Cert.ReferenceDown1Ideal.τ).loc Cert.ReferenceDown1Ideal.main_arg1)) (m ((c.tc : Thread Cert.ReferenceDown1Ideal.nD Cert.ReferenceDown1Ideal.τ).loc Cert.ReferenceDown1Ideal.main_arg2)) (m ((c.tc : Thread Cert.ReferenceDown1Ideal.nD Cert.ReferenceDown1Ideal.τ).loc Cert.ReferenceDown1Ideal.main_arg3))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_steps [hKernelIdeal : Cert.KernelIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_steps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_steps [hReferenceIdeal : Cert.ReferenceIdeal.Facts] [hPre_finite_steps : Cert.Pre_finite_steps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_steps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelXbc [hKernelXbc : Cert.KernelXbc.Facts] : Prop :=
  ∀ (m : (ℓ : Loc Cert.KernelXbc.nD Cert.KernelXbc.τ Cert.KernelXbc.sig) → Buf (Elt Bits) ℓ) (g : Dev Cert.KernelXbc.nD → PrngReg), Pre_KernelXbc m →
    θ_run (Cert.KernelXbc.defs (F := Bits)) (onTc (τ := Cert.KernelXbc.τ) (Cert.KernelXbc.main (F := Bits))) ⟨m, fun _ => 0, g⟩ (fun r => (∀ c : Dev Cert.KernelXbc.nD,
      r.2.mem ((c.tc : Thread Cert.KernelXbc.nD Cert.KernelXbc.τ).loc Cert.KernelXbc.main_arg0) = m ((c.tc : Thread Cert.KernelXbc.nD Cert.KernelXbc.τ).loc Cert.KernelXbc.main_arg0)
      ∧ r.2.mem ((c.tc : Thread Cert.KernelXbc.nD Cert.KernelXbc.τ).loc Cert.KernelXbc.main_arg1) = m ((c.tc : Thread Cert.KernelXbc.nD Cert.KernelXbc.τ).loc Cert.KernelXbc.main_arg1))
      ∧ r.2.sem = fun _ => 0)

def quiescent_KernelXbcIdeal [hKernelXbcIdeal : Cert.KernelXbcIdeal.Facts] : Prop :=
  ∀ (m : (ℓ : Loc Cert.KernelXbcIdeal.nD Cert.KernelXbcIdeal.τ Cert.KernelXbcIdeal.sig) → Buf (Elt Ideal) ℓ) (g : Dev Cert.KernelXbcIdeal.nD → PrngReg), Pre_KernelXbcIdeal m →
    θ_run (Cert.KernelXbcIdeal.defs (F := Ideal)) (onTc (τ := Cert.KernelXbcIdeal.τ) (Cert.KernelXbcIdeal.main (F := Ideal))) ⟨m, fun _ => 0, g⟩ (fun r => (∀ c : Dev Cert.KernelXbcIdeal.nD,
      r.2.mem ((c.tc : Thread Cert.KernelXbcIdeal.nD Cert.KernelXbcIdeal.τ).loc Cert.KernelXbcIdeal.main_arg0) = m ((c.tc : Thread Cert.KernelXbcIdeal.nD Cert.KernelXbcIdeal.τ).loc Cert.KernelXbcIdeal.main_arg0)
      ∧ r.2.mem ((c.tc : Thread Cert.KernelXbcIdeal.nD Cert.KernelXbcIdeal.τ).loc Cert.KernelXbcIdeal.main_arg1) = m ((c.tc : Thread Cert.KernelXbcIdeal.nD Cert.KernelXbcIdeal.τ).loc Cert.KernelXbcIdeal.main_arg1))
      ∧ r.2.sem = fun _ => 0)

def quiescent_ReferenceXbcIdeal [hReferenceXbcIdeal : Cert.ReferenceXbcIdeal.Facts] : Prop :=
  ∀ (m : (ℓ : Loc Cert.ReferenceXbcIdeal.nD Cert.ReferenceXbcIdeal.τ Cert.ReferenceXbcIdeal.sig) → Buf (Elt Ideal) ℓ) (g : Dev Cert.ReferenceXbcIdeal.nD → PrngReg), Pre_ReferenceXbcIdeal m →
    θ_run (Cert.ReferenceXbcIdeal.defs (F := Ideal)) (onTc (τ := Cert.ReferenceXbcIdeal.τ) (Cert.ReferenceXbcIdeal.main (F := Ideal))) ⟨m, fun _ => 0, g⟩ (fun r => (∀ c : Dev Cert.ReferenceXbcIdeal.nD,
      r.2.mem ((c.tc : Thread Cert.ReferenceXbcIdeal.nD Cert.ReferenceXbcIdeal.τ).loc Cert.ReferenceXbcIdeal.main_arg0) = m ((c.tc : Thread Cert.ReferenceXbcIdeal.nD Cert.ReferenceXbcIdeal.τ).loc Cert.ReferenceXbcIdeal.main_arg0)
      ∧ r.2.mem ((c.tc : Thread Cert.ReferenceXbcIdeal.nD Cert.ReferenceXbcIdeal.τ).loc Cert.ReferenceXbcIdeal.main_arg1) = m ((c.tc : Thread Cert.ReferenceXbcIdeal.nD Cert.ReferenceXbcIdeal.τ).loc Cert.ReferenceXbcIdeal.main_arg1))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelRkvo [hKernelRkvo : Cert.KernelRkvo.Facts] : Prop :=
  ∀ (m : (ℓ : Loc Cert.KernelRkvo.nD Cert.KernelRkvo.τ Cert.KernelRkvo.sig) → Buf (Elt Bits) ℓ) (g : Dev Cert.KernelRkvo.nD → PrngReg), Pre_KernelRkvo m →
    θ_run (Cert.KernelRkvo.defs (F := Bits)) (onTc (τ := Cert.KernelRkvo.τ) (Cert.KernelRkvo.main (F := Bits))) ⟨m, fun _ => 0, g⟩ (fun r => (∀ c : Dev Cert.KernelRkvo.nD,
      r.2.mem ((c.tc : Thread Cert.KernelRkvo.nD Cert.KernelRkvo.τ).loc Cert.KernelRkvo.main_arg0) = m ((c.tc : Thread Cert.KernelRkvo.nD Cert.KernelRkvo.τ).loc Cert.KernelRkvo.main_arg0)
      ∧ r.2.mem ((c.tc : Thread Cert.KernelRkvo.nD Cert.KernelRkvo.τ).loc Cert.KernelRkvo.main_arg1) = m ((c.tc : Thread Cert.KernelRkvo.nD Cert.KernelRkvo.τ).loc Cert.KernelRkvo.main_arg1))
      ∧ r.2.sem = fun _ => 0)

def quiescent_KernelRkvoIdeal [hKernelRkvoIdeal : Cert.KernelRkvoIdeal.Facts] : Prop :=
  ∀ (m : (ℓ : Loc Cert.KernelRkvoIdeal.nD Cert.KernelRkvoIdeal.τ Cert.KernelRkvoIdeal.sig) → Buf (Elt Ideal) ℓ) (g : Dev Cert.KernelRkvoIdeal.nD → PrngReg), Pre_KernelRkvoIdeal m →
    θ_run (Cert.KernelRkvoIdeal.defs (F := Ideal)) (onTc (τ := Cert.KernelRkvoIdeal.τ) (Cert.KernelRkvoIdeal.main (F := Ideal))) ⟨m, fun _ => 0, g⟩ (fun r => (∀ c : Dev Cert.KernelRkvoIdeal.nD,
      r.2.mem ((c.tc : Thread Cert.KernelRkvoIdeal.nD Cert.KernelRkvoIdeal.τ).loc Cert.KernelRkvoIdeal.main_arg0) = m ((c.tc : Thread Cert.KernelRkvoIdeal.nD Cert.KernelRkvoIdeal.τ).loc Cert.KernelRkvoIdeal.main_arg0)
      ∧ r.2.mem ((c.tc : Thread Cert.KernelRkvoIdeal.nD Cert.KernelRkvoIdeal.τ).loc Cert.KernelRkvoIdeal.main_arg1) = m ((c.tc : Thread Cert.KernelRkvoIdeal.nD Cert.KernelRkvoIdeal.τ).loc Cert.KernelRkvoIdeal.main_arg1))
      ∧ r.2.sem = fun _ => 0)

def quiescent_ReferenceRkvoIdeal [hReferenceRkvoIdeal : Cert.ReferenceRkvoIdeal.Facts] : Prop :=
  ∀ (m : (ℓ : Loc Cert.ReferenceRkvoIdeal.nD Cert.ReferenceRkvoIdeal.τ Cert.ReferenceRkvoIdeal.sig) → Buf (Elt Ideal) ℓ) (g : Dev Cert.ReferenceRkvoIdeal.nD → PrngReg), Pre_ReferenceRkvoIdeal m →
    θ_run (Cert.ReferenceRkvoIdeal.defs (F := Ideal)) (onTc (τ := Cert.ReferenceRkvoIdeal.τ) (Cert.ReferenceRkvoIdeal.main (F := Ideal))) ⟨m, fun _ => 0, g⟩ (fun r => (∀ c : Dev Cert.ReferenceRkvoIdeal.nD,
      r.2.mem ((c.tc : Thread Cert.ReferenceRkvoIdeal.nD Cert.ReferenceRkvoIdeal.τ).loc Cert.ReferenceRkvoIdeal.main_arg0) = m ((c.tc : Thread Cert.ReferenceRkvoIdeal.nD Cert.ReferenceRkvoIdeal.τ).loc Cert.ReferenceRkvoIdeal.main_arg0)
      ∧ r.2.mem ((c.tc : Thread Cert.ReferenceRkvoIdeal.nD Cert.ReferenceRkvoIdeal.τ).loc Cert.ReferenceRkvoIdeal.main_arg1) = m ((c.tc : Thread Cert.ReferenceRkvoIdeal.nD Cert.ReferenceRkvoIdeal.τ).loc Cert.ReferenceRkvoIdeal.main_arg1))
      ∧ r.2.sem = fun _ => 0)

def quiescent_KernelDecay [hKernelDecay : Cert.KernelDecay.Facts] : Prop :=
  ∀ (m : (ℓ : Loc Cert.KernelDecay.nD Cert.KernelDecay.τ Cert.KernelDecay.sig) → Buf (Elt Bits) ℓ) (g : Dev Cert.KernelDecay.nD → PrngReg), Pre_KernelDecay m →
    θ_run (Cert.KernelDecay.defs (F := Bits)) (onTc (τ := Cert.KernelDecay.τ) (Cert.KernelDecay.main (F := Bits))) ⟨m, fun _ => 0, g⟩ (fun r => (∀ c : Dev Cert.KernelDecay.nD,
      r.2.mem ((c.tc : Thread Cert.KernelDecay.nD Cert.KernelDecay.τ).loc Cert.KernelDecay.main_arg0) = m ((c.tc : Thread Cert.KernelDecay.nD Cert.KernelDecay.τ).loc Cert.KernelDecay.main_arg0)
      ∧ r.2.mem ((c.tc : Thread Cert.KernelDecay.nD Cert.KernelDecay.τ).loc Cert.KernelDecay.main_arg1) = m ((c.tc : Thread Cert.KernelDecay.nD Cert.KernelDecay.τ).loc Cert.KernelDecay.main_arg1)
      ∧ r.2.mem ((c.tc : Thread Cert.KernelDecay.nD Cert.KernelDecay.τ).loc Cert.KernelDecay.main_arg2) = m ((c.tc : Thread Cert.KernelDecay.nD Cert.KernelDecay.τ).loc Cert.KernelDecay.main_arg2)
      ∧ r.2.mem ((c.tc : Thread Cert.KernelDecay.nD Cert.KernelDecay.τ).loc Cert.KernelDecay.main_arg3) = m ((c.tc : Thread Cert.KernelDecay.nD Cert.KernelDecay.τ).loc Cert.KernelDecay.main_arg3))
      ∧ r.2.sem = fun _ => 0)

def quiescent_KernelDecayIdeal [hKernelDecayIdeal : Cert.KernelDecayIdeal.Facts] : Prop :=
  ∀ (m : (ℓ : Loc Cert.KernelDecayIdeal.nD Cert.KernelDecayIdeal.τ Cert.KernelDecayIdeal.sig) → Buf (Elt Ideal) ℓ) (g : Dev Cert.KernelDecayIdeal.nD → PrngReg), Pre_KernelDecayIdeal m →
    θ_run (Cert.KernelDecayIdeal.defs (F := Ideal)) (onTc (τ := Cert.KernelDecayIdeal.τ) (Cert.KernelDecayIdeal.main (F := Ideal))) ⟨m, fun _ => 0, g⟩ (fun r => (∀ c : Dev Cert.KernelDecayIdeal.nD,
      r.2.mem ((c.tc : Thread Cert.KernelDecayIdeal.nD Cert.KernelDecayIdeal.τ).loc Cert.KernelDecayIdeal.main_arg0) = m ((c.tc : Thread Cert.KernelDecayIdeal.nD Cert.KernelDecayIdeal.τ).loc Cert.KernelDecayIdeal.main_arg0)
      ∧ r.2.mem ((c.tc : Thread Cert.KernelDecayIdeal.nD Cert.KernelDecayIdeal.τ).loc Cert.KernelDecayIdeal.main_arg1) = m ((c.tc : Thread Cert.KernelDecayIdeal.nD Cert.KernelDecayIdeal.τ).loc Cert.KernelDecayIdeal.main_arg1)
      ∧ r.2.mem ((c.tc : Thread Cert.KernelDecayIdeal.nD Cert.KernelDecayIdeal.τ).loc Cert.KernelDecayIdeal.main_arg2) = m ((c.tc : Thread Cert.KernelDecayIdeal.nD Cert.KernelDecayIdeal.τ).loc Cert.KernelDecayIdeal.main_arg2)
      ∧ r.2.mem ((c.tc : Thread Cert.KernelDecayIdeal.nD Cert.KernelDecayIdeal.τ).loc Cert.KernelDecayIdeal.main_arg3) = m ((c.tc : Thread Cert.KernelDecayIdeal.nD Cert.KernelDecayIdeal.τ).loc Cert.KernelDecayIdeal.main_arg3))
      ∧ r.2.sem = fun _ => 0)

def quiescent_ReferenceDecayIdeal [hReferenceDecayIdeal : Cert.ReferenceDecayIdeal.Facts] : Prop :=
  ∀ (m : (ℓ : Loc Cert.ReferenceDecayIdeal.nD Cert.ReferenceDecayIdeal.τ Cert.ReferenceDecayIdeal.sig) → Buf (Elt Ideal) ℓ) (g : Dev Cert.ReferenceDecayIdeal.nD → PrngReg), Pre_ReferenceDecayIdeal m →
    θ_run (Cert.ReferenceDecayIdeal.defs (F := Ideal)) (onTc (τ := Cert.ReferenceDecayIdeal.τ) (Cert.ReferenceDecayIdeal.main (F := Ideal))) ⟨m, fun _ => 0, g⟩ (fun r => (∀ c : Dev Cert.ReferenceDecayIdeal.nD,
      r.2.mem ((c.tc : Thread Cert.ReferenceDecayIdeal.nD Cert.ReferenceDecayIdeal.τ).loc Cert.ReferenceDecayIdeal.main_arg0) = m ((c.tc : Thread Cert.ReferenceDecayIdeal.nD Cert.ReferenceDecayIdeal.τ).loc Cert.ReferenceDecayIdeal.main_arg0)
      ∧ r.2.mem ((c.tc : Thread Cert.ReferenceDecayIdeal.nD Cert.ReferenceDecayIdeal.τ).loc Cert.ReferenceDecayIdeal.main_arg1) = m ((c.tc : Thread Cert.ReferenceDecayIdeal.nD Cert.ReferenceDecayIdeal.τ).loc Cert.ReferenceDecayIdeal.main_arg1)
      ∧ r.2.mem ((c.tc : Thread Cert.ReferenceDecayIdeal.nD Cert.ReferenceDecayIdeal.τ).loc Cert.ReferenceDecayIdeal.main_arg2) = m ((c.tc : Thread Cert.ReferenceDecayIdeal.nD Cert.ReferenceDecayIdeal.τ).loc Cert.ReferenceDecayIdeal.main_arg2)
      ∧ r.2.mem ((c.tc : Thread Cert.ReferenceDecayIdeal.nD Cert.ReferenceDecayIdeal.τ).loc Cert.ReferenceDecayIdeal.main_arg3) = m ((c.tc : Thread Cert.ReferenceDecayIdeal.nD Cert.ReferenceDecayIdeal.τ).loc Cert.ReferenceDecayIdeal.main_arg3))
      ∧ r.2.sem = fun _ => 0)

def quiescent_KernelRate [hKernelRate : Cert.KernelRate.Facts] : Prop :=
  ∀ (m : (ℓ : Loc Cert.KernelRate.nD Cert.KernelRate.τ Cert.KernelRate.sig) → Buf (Elt Bits) ℓ) (g : Dev Cert.KernelRate.nD → PrngReg), Pre_KernelRate m →
    θ_run (Cert.KernelRate.defs (F := Bits)) (onTc (τ := Cert.KernelRate.τ) (Cert.KernelRate.main (F := Bits))) ⟨m, fun _ => 0, g⟩ (fun r => (∀ c : Dev Cert.KernelRate.nD,
      r.2.mem ((c.tc : Thread Cert.KernelRate.nD Cert.KernelRate.τ).loc Cert.KernelRate.main_arg0) = m ((c.tc : Thread Cert.KernelRate.nD Cert.KernelRate.τ).loc Cert.KernelRate.main_arg0)
      ∧ r.2.mem ((c.tc : Thread Cert.KernelRate.nD Cert.KernelRate.τ).loc Cert.KernelRate.main_arg1) = m ((c.tc : Thread Cert.KernelRate.nD Cert.KernelRate.τ).loc Cert.KernelRate.main_arg1)
      ∧ r.2.mem ((c.tc : Thread Cert.KernelRate.nD Cert.KernelRate.τ).loc Cert.KernelRate.main_arg2) = m ((c.tc : Thread Cert.KernelRate.nD Cert.KernelRate.τ).loc Cert.KernelRate.main_arg2)
      ∧ r.2.mem ((c.tc : Thread Cert.KernelRate.nD Cert.KernelRate.τ).loc Cert.KernelRate.main_arg3) = m ((c.tc : Thread Cert.KernelRate.nD Cert.KernelRate.τ).loc Cert.KernelRate.main_arg3))
      ∧ r.2.sem = fun _ => 0)

def quiescent_KernelRateIdeal [hKernelRateIdeal : Cert.KernelRateIdeal.Facts] : Prop :=
  ∀ (m : (ℓ : Loc Cert.KernelRateIdeal.nD Cert.KernelRateIdeal.τ Cert.KernelRateIdeal.sig) → Buf (Elt Ideal) ℓ) (g : Dev Cert.KernelRateIdeal.nD → PrngReg), Pre_KernelRateIdeal m →
    θ_run (Cert.KernelRateIdeal.defs (F := Ideal)) (onTc (τ := Cert.KernelRateIdeal.τ) (Cert.KernelRateIdeal.main (F := Ideal))) ⟨m, fun _ => 0, g⟩ (fun r => (∀ c : Dev Cert.KernelRateIdeal.nD,
      r.2.mem ((c.tc : Thread Cert.KernelRateIdeal.nD Cert.KernelRateIdeal.τ).loc Cert.KernelRateIdeal.main_arg0) = m ((c.tc : Thread Cert.KernelRateIdeal.nD Cert.KernelRateIdeal.τ).loc Cert.KernelRateIdeal.main_arg0)
      ∧ r.2.mem ((c.tc : Thread Cert.KernelRateIdeal.nD Cert.KernelRateIdeal.τ).loc Cert.KernelRateIdeal.main_arg1) = m ((c.tc : Thread Cert.KernelRateIdeal.nD Cert.KernelRateIdeal.τ).loc Cert.KernelRateIdeal.main_arg1)
      ∧ r.2.mem ((c.tc : Thread Cert.KernelRateIdeal.nD Cert.KernelRateIdeal.τ).loc Cert.KernelRateIdeal.main_arg2) = m ((c.tc : Thread Cert.KernelRateIdeal.nD Cert.KernelRateIdeal.τ).loc Cert.KernelRateIdeal.main_arg2)
      ∧ r.2.mem ((c.tc : Thread Cert.KernelRateIdeal.nD Cert.KernelRateIdeal.τ).loc Cert.KernelRateIdeal.main_arg3) = m ((c.tc : Thread Cert.KernelRateIdeal.nD Cert.KernelRateIdeal.τ).loc Cert.KernelRateIdeal.main_arg3))
      ∧ r.2.sem = fun _ => 0)

def quiescent_ReferenceRateIdeal [hReferenceRateIdeal : Cert.ReferenceRateIdeal.Facts] : Prop :=
  ∀ (m : (ℓ : Loc Cert.ReferenceRateIdeal.nD Cert.ReferenceRateIdeal.τ Cert.ReferenceRateIdeal.sig) → Buf (Elt Ideal) ℓ) (g : Dev Cert.ReferenceRateIdeal.nD → PrngReg), Pre_ReferenceRateIdeal m →
    θ_run (Cert.ReferenceRateIdeal.defs (F := Ideal)) (onTc (τ := Cert.ReferenceRateIdeal.τ) (Cert.ReferenceRateIdeal.main (F := Ideal))) ⟨m, fun _ => 0, g⟩ (fun r => (∀ c : Dev Cert.ReferenceRateIdeal.nD,
      r.2.mem ((c.tc : Thread Cert.ReferenceRateIdeal.nD Cert.ReferenceRateIdeal.τ).loc Cert.ReferenceRateIdeal.main_arg0) = m ((c.tc : Thread Cert.ReferenceRateIdeal.nD Cert.ReferenceRateIdeal.τ).loc Cert.ReferenceRateIdeal.main_arg0)
      ∧ r.2.mem ((c.tc : Thread Cert.ReferenceRateIdeal.nD Cert.ReferenceRateIdeal.τ).loc Cert.ReferenceRateIdeal.main_arg1) = m ((c.tc : Thread Cert.ReferenceRateIdeal.nD Cert.ReferenceRateIdeal.τ).loc Cert.ReferenceRateIdeal.main_arg1)
      ∧ r.2.mem ((c.tc : Thread Cert.ReferenceRateIdeal.nD Cert.ReferenceRateIdeal.τ).loc Cert.ReferenceRateIdeal.main_arg2) = m ((c.tc : Thread Cert.ReferenceRateIdeal.nD Cert.ReferenceRateIdeal.τ).loc Cert.ReferenceRateIdeal.main_arg2)
      ∧ r.2.mem ((c.tc : Thread Cert.ReferenceRateIdeal.nD Cert.ReferenceRateIdeal.τ).loc Cert.ReferenceRateIdeal.main_arg3) = m ((c.tc : Thread Cert.ReferenceRateIdeal.nD Cert.ReferenceRateIdeal.τ).loc Cert.ReferenceRateIdeal.main_arg3))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelUp [hKernelUp : Cert.KernelUp.Facts] [hPre_runs_ok : Cert.Pre_runs_ok.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] [hPre_runs_ok : Cert.Pre_runs_ok.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_ReferenceUpIdeal_pre_runs_ok [hReferenceUpIdeal : Cert.ReferenceUpIdeal.Facts] [hPre_runs_ok : Cert.Pre_runs_ok.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_runs_ok m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelUp1 [hKernelUp1 : Cert.KernelUp1.Facts] [hPre_runs_ok : Cert.Pre_runs_ok.Facts] : Prop :=
  ∀ (m : (ℓ : Loc Cert.KernelUp1.nD Cert.KernelUp1.τ Cert.KernelUp1.sig) → Buf (Elt Bits) ℓ) (g : Dev Cert.KernelUp1.nD → PrngReg), Pre_KernelUp1 m →
    θ_run (Cert.KernelUp1.defs (F := Bits)) (onTc (τ := Cert.KernelUp1.τ) (Cert.KernelUp1.main (F := Bits))) ⟨m, fun _ => 0, g⟩ (fun r => (∀ c : Dev Cert.KernelUp1.nD,
      r.2.mem ((c.tc : Thread Cert.KernelUp1.nD Cert.KernelUp1.τ).loc Cert.KernelUp1.main_arg0) = m ((c.tc : Thread Cert.KernelUp1.nD Cert.KernelUp1.τ).loc Cert.KernelUp1.main_arg0)
      ∧ r.2.mem ((c.tc : Thread Cert.KernelUp1.nD Cert.KernelUp1.τ).loc Cert.KernelUp1.main_arg1) = m ((c.tc : Thread Cert.KernelUp1.nD Cert.KernelUp1.τ).loc Cert.KernelUp1.main_arg1)
      ∧ r.2.mem ((c.tc : Thread Cert.KernelUp1.nD Cert.KernelUp1.τ).loc Cert.KernelUp1.main_arg2) = m ((c.tc : Thread Cert.KernelUp1.nD Cert.KernelUp1.τ).loc Cert.KernelUp1.main_arg2)
      ∧ r.2.mem ((c.tc : Thread Cert.KernelUp1.nD Cert.KernelUp1.τ).loc Cert.KernelUp1.main_arg3) = m ((c.tc : Thread Cert.KernelUp1.nD Cert.KernelUp1.τ).loc Cert.KernelUp1.main_arg3))
      ∧ r.2.sem = fun _ => 0)

def quiescent_KernelUp1Ideal [hKernelUp1Ideal : Cert.KernelUp1Ideal.Facts] [hPre_runs_ok : Cert.Pre_runs_ok.Facts] : Prop :=
  ∀ (m : (ℓ : Loc Cert.KernelUp1Ideal.nD Cert.KernelUp1Ideal.τ Cert.KernelUp1Ideal.sig) → Buf (Elt Ideal) ℓ) (g : Dev Cert.KernelUp1Ideal.nD → PrngReg), Pre_KernelUp1Ideal m →
    θ_run (Cert.KernelUp1Ideal.defs (F := Ideal)) (onTc (τ := Cert.KernelUp1Ideal.τ) (Cert.KernelUp1Ideal.main (F := Ideal))) ⟨m, fun _ => 0, g⟩ (fun r => (∀ c : Dev Cert.KernelUp1Ideal.nD,
      r.2.mem ((c.tc : Thread Cert.KernelUp1Ideal.nD Cert.KernelUp1Ideal.τ).loc Cert.KernelUp1Ideal.main_arg0) = m ((c.tc : Thread Cert.KernelUp1Ideal.nD Cert.KernelUp1Ideal.τ).loc Cert.KernelUp1Ideal.main_arg0)
      ∧ r.2.mem ((c.tc : Thread Cert.KernelUp1Ideal.nD Cert.KernelUp1Ideal.τ).loc Cert.KernelUp1Ideal.main_arg1) = m ((c.tc : Thread Cert.KernelUp1Ideal.nD Cert.KernelUp1Ideal.τ).loc Cert.KernelUp1Ideal.main_arg1)
      ∧ r.2.mem ((c.tc : Thread Cert.KernelUp1Ideal.nD Cert.KernelUp1Ideal.τ).loc Cert.KernelUp1Ideal.main_arg2) = m ((c.tc : Thread Cert.KernelUp1Ideal.nD Cert.KernelUp1Ideal.τ).loc Cert.KernelUp1Ideal.main_arg2)
      ∧ r.2.mem ((c.tc : Thread Cert.KernelUp1Ideal.nD Cert.KernelUp1Ideal.τ).loc Cert.KernelUp1Ideal.main_arg3) = m ((c.tc : Thread Cert.KernelUp1Ideal.nD Cert.KernelUp1Ideal.τ).loc Cert.KernelUp1Ideal.main_arg3))
      ∧ r.2.sem = fun _ => 0)

def quiescent_ReferenceUp1Ideal [hReferenceUp1Ideal : Cert.ReferenceUp1Ideal.Facts] : Prop :=
  ∀ (m : (ℓ : Loc Cert.ReferenceUp1Ideal.nD Cert.ReferenceUp1Ideal.τ Cert.ReferenceUp1Ideal.sig) → Buf (Elt Ideal) ℓ) (g : Dev Cert.ReferenceUp1Ideal.nD → PrngReg), Pre_ReferenceUp1Ideal m →
    θ_run (Cert.ReferenceUp1Ideal.defs (F := Ideal)) (onTc (τ := Cert.ReferenceUp1Ideal.τ) (Cert.ReferenceUp1Ideal.main (F := Ideal))) ⟨m, fun _ => 0, g⟩ (fun r => (∀ c : Dev Cert.ReferenceUp1Ideal.nD,
      r.2.mem ((c.tc : Thread Cert.ReferenceUp1Ideal.nD Cert.ReferenceUp1Ideal.τ).loc Cert.ReferenceUp1Ideal.main_arg0) = m ((c.tc : Thread Cert.ReferenceUp1Ideal.nD Cert.ReferenceUp1Ideal.τ).loc Cert.ReferenceUp1Ideal.main_arg0)
      ∧ r.2.mem ((c.tc : Thread Cert.ReferenceUp1Ideal.nD Cert.ReferenceUp1Ideal.τ).loc Cert.ReferenceUp1Ideal.main_arg1) = m ((c.tc : Thread Cert.ReferenceUp1Ideal.nD Cert.ReferenceUp1Ideal.τ).loc Cert.ReferenceUp1Ideal.main_arg1)
      ∧ r.2.mem ((c.tc : Thread Cert.ReferenceUp1Ideal.nD Cert.ReferenceUp1Ideal.τ).loc Cert.ReferenceUp1Ideal.main_arg2) = m ((c.tc : Thread Cert.ReferenceUp1Ideal.nD Cert.ReferenceUp1Ideal.τ).loc Cert.ReferenceUp1Ideal.main_arg2)
      ∧ r.2.mem ((c.tc : Thread Cert.ReferenceUp1Ideal.nD Cert.ReferenceUp1Ideal.τ).loc Cert.ReferenceUp1Ideal.main_arg3) = m ((c.tc : Thread Cert.ReferenceUp1Ideal.nD Cert.ReferenceUp1Ideal.τ).loc Cert.ReferenceUp1Ideal.main_arg3))
      ∧ r.2.sem = fun _ => 0)

def quiescent_ReferenceUp1Ideal_pre_runs_ok [hReferenceUp1Ideal : Cert.ReferenceUp1Ideal.Facts] [hPre_runs_ok : Cert.Pre_runs_ok.Facts] : Prop :=
  ∀ (m : (ℓ : Loc Cert.ReferenceUp1Ideal.nD Cert.ReferenceUp1Ideal.τ Cert.ReferenceUp1Ideal.sig) → Buf (Elt Ideal) ℓ) (g : Dev Cert.ReferenceUp1Ideal.nD → PrngReg), Pre_ReferenceUp1Ideal_runs_ok m →
    θ_run (Cert.ReferenceUp1Ideal.defs (F := Ideal)) (onTc (τ := Cert.ReferenceUp1Ideal.τ) (Cert.ReferenceUp1Ideal.main (F := Ideal))) ⟨m, fun _ => 0, g⟩ (fun r => (∀ c : Dev Cert.ReferenceUp1Ideal.nD,
      r.2.mem ((c.tc : Thread Cert.ReferenceUp1Ideal.nD Cert.ReferenceUp1Ideal.τ).loc Cert.ReferenceUp1Ideal.main_arg0) = m ((c.tc : Thread Cert.ReferenceUp1Ideal.nD Cert.ReferenceUp1Ideal.τ).loc Cert.ReferenceUp1Ideal.main_arg0)
      ∧ r.2.mem ((c.tc : Thread Cert.ReferenceUp1Ideal.nD Cert.ReferenceUp1Ideal.τ).loc Cert.ReferenceUp1Ideal.main_arg1) = m ((c.tc : Thread Cert.ReferenceUp1Ideal.nD Cert.ReferenceUp1Ideal.τ).loc Cert.ReferenceUp1Ideal.main_arg1)
      ∧ r.2.mem ((c.tc : Thread Cert.ReferenceUp1Ideal.nD Cert.ReferenceUp1Ideal.τ).loc Cert.ReferenceUp1Ideal.main_arg2) = m ((c.tc : Thread Cert.ReferenceUp1Ideal.nD Cert.ReferenceUp1Ideal.τ).loc Cert.ReferenceUp1Ideal.main_arg2)
      ∧ r.2.mem ((c.tc : Thread Cert.ReferenceUp1Ideal.nD Cert.ReferenceUp1Ideal.τ).loc Cert.ReferenceUp1Ideal.main_arg3) = m ((c.tc : Thread Cert.ReferenceUp1Ideal.nD Cert.ReferenceUp1Ideal.τ).loc Cert.ReferenceUp1Ideal.main_arg3))
      ∧ r.2.sem = fun _ => 0)

def quiescent_KernelDown [hKernelDown : Cert.KernelDown.Facts] [hPre_runs_ok_down : Cert.Pre_runs_ok_down.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] [hPre_runs_ok_down : Cert.Pre_runs_ok_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_ReferenceDownIdeal_pre_runs_ok_down [hReferenceDownIdeal : Cert.ReferenceDownIdeal.Facts] [hPre_runs_ok_down : Cert.Pre_runs_ok_down.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal_runs_ok_down m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelDown1 [hKernelDown1 : Cert.KernelDown1.Facts] [hPre_runs_ok_down : Cert.Pre_runs_ok_down.Facts] : Prop :=
  ∀ (m : (ℓ : Loc Cert.KernelDown1.nD Cert.KernelDown1.τ Cert.KernelDown1.sig) → Buf (Elt Bits) ℓ) (g : Dev Cert.KernelDown1.nD → PrngReg), Pre_KernelDown1 m →
    θ_run (Cert.KernelDown1.defs (F := Bits)) (onTc (τ := Cert.KernelDown1.τ) (Cert.KernelDown1.main (F := Bits))) ⟨m, fun _ => 0, g⟩ (fun r => (∀ c : Dev Cert.KernelDown1.nD,
      r.2.mem ((c.tc : Thread Cert.KernelDown1.nD Cert.KernelDown1.τ).loc Cert.KernelDown1.main_arg0) = m ((c.tc : Thread Cert.KernelDown1.nD Cert.KernelDown1.τ).loc Cert.KernelDown1.main_arg0)
      ∧ r.2.mem ((c.tc : Thread Cert.KernelDown1.nD Cert.KernelDown1.τ).loc Cert.KernelDown1.main_arg1) = m ((c.tc : Thread Cert.KernelDown1.nD Cert.KernelDown1.τ).loc Cert.KernelDown1.main_arg1)
      ∧ r.2.mem ((c.tc : Thread Cert.KernelDown1.nD Cert.KernelDown1.τ).loc Cert.KernelDown1.main_arg2) = m ((c.tc : Thread Cert.KernelDown1.nD Cert.KernelDown1.τ).loc Cert.KernelDown1.main_arg2)
      ∧ r.2.mem ((c.tc : Thread Cert.KernelDown1.nD Cert.KernelDown1.τ).loc Cert.KernelDown1.main_arg3) = m ((c.tc : Thread Cert.KernelDown1.nD Cert.KernelDown1.τ).loc Cert.KernelDown1.main_arg3))
      ∧ r.2.sem = fun _ => 0)

def quiescent_KernelDown1Ideal [hKernelDown1Ideal : Cert.KernelDown1Ideal.Facts] [hPre_runs_ok_down : Cert.Pre_runs_ok_down.Facts] : Prop :=
  ∀ (m : (ℓ : Loc Cert.KernelDown1Ideal.nD Cert.KernelDown1Ideal.τ Cert.KernelDown1Ideal.sig) → Buf (Elt Ideal) ℓ) (g : Dev Cert.KernelDown1Ideal.nD → PrngReg), Pre_KernelDown1Ideal m →
    θ_run (Cert.KernelDown1Ideal.defs (F := Ideal)) (onTc (τ := Cert.KernelDown1Ideal.τ) (Cert.KernelDown1Ideal.main (F := Ideal))) ⟨m, fun _ => 0, g⟩ (fun r => (∀ c : Dev Cert.KernelDown1Ideal.nD,
      r.2.mem ((c.tc : Thread Cert.KernelDown1Ideal.nD Cert.KernelDown1Ideal.τ).loc Cert.KernelDown1Ideal.main_arg0) = m ((c.tc : Thread Cert.KernelDown1Ideal.nD Cert.KernelDown1Ideal.τ).loc Cert.KernelDown1Ideal.main_arg0)
      ∧ r.2.mem ((c.tc : Thread Cert.KernelDown1Ideal.nD Cert.KernelDown1Ideal.τ).loc Cert.KernelDown1Ideal.main_arg1) = m ((c.tc : Thread Cert.KernelDown1Ideal.nD Cert.KernelDown1Ideal.τ).loc Cert.KernelDown1Ideal.main_arg1)
      ∧ r.2.mem ((c.tc : Thread Cert.KernelDown1Ideal.nD Cert.KernelDown1Ideal.τ).loc Cert.KernelDown1Ideal.main_arg2) = m ((c.tc : Thread Cert.KernelDown1Ideal.nD Cert.KernelDown1Ideal.τ).loc Cert.KernelDown1Ideal.main_arg2)
      ∧ r.2.mem ((c.tc : Thread Cert.KernelDown1Ideal.nD Cert.KernelDown1Ideal.τ).loc Cert.KernelDown1Ideal.main_arg3) = m ((c.tc : Thread Cert.KernelDown1Ideal.nD Cert.KernelDown1Ideal.τ).loc Cert.KernelDown1Ideal.main_arg3))
      ∧ r.2.sem = fun _ => 0)

def quiescent_ReferenceDown1Ideal [hReferenceDown1Ideal : Cert.ReferenceDown1Ideal.Facts] : Prop :=
  ∀ (m : (ℓ : Loc Cert.ReferenceDown1Ideal.nD Cert.ReferenceDown1Ideal.τ Cert.ReferenceDown1Ideal.sig) → Buf (Elt Ideal) ℓ) (g : Dev Cert.ReferenceDown1Ideal.nD → PrngReg), Pre_ReferenceDown1Ideal m →
    θ_run (Cert.ReferenceDown1Ideal.defs (F := Ideal)) (onTc (τ := Cert.ReferenceDown1Ideal.τ) (Cert.ReferenceDown1Ideal.main (F := Ideal))) ⟨m, fun _ => 0, g⟩ (fun r => (∀ c : Dev Cert.ReferenceDown1Ideal.nD,
      r.2.mem ((c.tc : Thread Cert.ReferenceDown1Ideal.nD Cert.ReferenceDown1Ideal.τ).loc Cert.ReferenceDown1Ideal.main_arg0) = m ((c.tc : Thread Cert.ReferenceDown1Ideal.nD Cert.ReferenceDown1Ideal.τ).loc Cert.ReferenceDown1Ideal.main_arg0)
      ∧ r.2.mem ((c.tc : Thread Cert.ReferenceDown1Ideal.nD Cert.ReferenceDown1Ideal.τ).loc Cert.ReferenceDown1Ideal.main_arg1) = m ((c.tc : Thread Cert.ReferenceDown1Ideal.nD Cert.ReferenceDown1Ideal.τ).loc Cert.ReferenceDown1Ideal.main_arg1)
      ∧ r.2.mem ((c.tc : Thread Cert.ReferenceDown1Ideal.nD Cert.ReferenceDown1Ideal.τ).loc Cert.ReferenceDown1Ideal.main_arg2) = m ((c.tc : Thread Cert.ReferenceDown1Ideal.nD Cert.ReferenceDown1Ideal.τ).loc Cert.ReferenceDown1Ideal.main_arg2)
      ∧ r.2.mem ((c.tc : Thread Cert.ReferenceDown1Ideal.nD Cert.ReferenceDown1Ideal.τ).loc Cert.ReferenceDown1Ideal.main_arg3) = m ((c.tc : Thread Cert.ReferenceDown1Ideal.nD Cert.ReferenceDown1Ideal.τ).loc Cert.ReferenceDown1Ideal.main_arg3))
      ∧ r.2.sem = fun _ => 0)

def quiescent_ReferenceDown1Ideal_pre_runs_ok_down [hReferenceDown1Ideal : Cert.ReferenceDown1Ideal.Facts] [hPre_runs_ok_down : Cert.Pre_runs_ok_down.Facts] : Prop :=
  ∀ (m : (ℓ : Loc Cert.ReferenceDown1Ideal.nD Cert.ReferenceDown1Ideal.τ Cert.ReferenceDown1Ideal.sig) → Buf (Elt Ideal) ℓ) (g : Dev Cert.ReferenceDown1Ideal.nD → PrngReg), Pre_ReferenceDown1Ideal_runs_ok_down m →
    θ_run (Cert.ReferenceDown1Ideal.defs (F := Ideal)) (onTc (τ := Cert.ReferenceDown1Ideal.τ) (Cert.ReferenceDown1Ideal.main (F := Ideal))) ⟨m, fun _ => 0, g⟩ (fun r => (∀ c : Dev Cert.ReferenceDown1Ideal.nD,
      r.2.mem ((c.tc : Thread Cert.ReferenceDown1Ideal.nD Cert.ReferenceDown1Ideal.τ).loc Cert.ReferenceDown1Ideal.main_arg0) = m ((c.tc : Thread Cert.ReferenceDown1Ideal.nD Cert.ReferenceDown1Ideal.τ).loc Cert.ReferenceDown1Ideal.main_arg0)
      ∧ r.2.mem ((c.tc : Thread Cert.ReferenceDown1Ideal.nD Cert.ReferenceDown1Ideal.τ).loc Cert.ReferenceDown1Ideal.main_arg1) = m ((c.tc : Thread Cert.ReferenceDown1Ideal.nD Cert.ReferenceDown1Ideal.τ).loc Cert.ReferenceDown1Ideal.main_arg1)
      ∧ r.2.mem ((c.tc : Thread Cert.ReferenceDown1Ideal.nD Cert.ReferenceDown1Ideal.τ).loc Cert.ReferenceDown1Ideal.main_arg2) = m ((c.tc : Thread Cert.ReferenceDown1Ideal.nD Cert.ReferenceDown1Ideal.τ).loc Cert.ReferenceDown1Ideal.main_arg2)
      ∧ r.2.mem ((c.tc : Thread Cert.ReferenceDown1Ideal.nD Cert.ReferenceDown1Ideal.τ).loc Cert.ReferenceDown1Ideal.main_arg3) = m ((c.tc : Thread Cert.ReferenceDown1Ideal.nD Cert.ReferenceDown1Ideal.τ).loc Cert.ReferenceDown1Ideal.main_arg3))
      ∧ r.2.sem = fun _ => 0)

def preserves_Kernel_KernelIdeal : Prop :=
  True

def algebraic_KernelIdeal_ReferenceIdeal_pre_finite_steps [hKernelIdeal : Cert.KernelIdeal.Facts] [hReferenceIdeal : Cert.ReferenceIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_steps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v5)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v5) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v1) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelXbc_KernelXbcIdeal : Prop :=
  True

def algebraic_KernelXbcIdeal_ReferenceXbcIdeal [hKernelXbcIdeal : Cert.KernelXbcIdeal.Facts] [hReferenceXbcIdeal : Cert.ReferenceXbcIdeal.Facts] : Prop :=
  ∀ (m : (ℓ : Loc Cert.KernelXbcIdeal.nD Cert.KernelXbcIdeal.τ Cert.KernelXbcIdeal.sig) → Buf (Elt Ideal) ℓ) (g : Dev Cert.KernelXbcIdeal.nD → PrngReg)
    (m' : (ℓ : Loc Cert.ReferenceXbcIdeal.nD Cert.ReferenceXbcIdeal.τ Cert.ReferenceXbcIdeal.sig) → Buf (Elt Ideal) ℓ) (g' : Dev Cert.ReferenceXbcIdeal.nD → PrngReg), Pre_KernelXbcIdeal m →
    (∀ c : Dev Cert.KernelXbcIdeal.nD,
      m' ((c.tc : Thread Cert.ReferenceXbcIdeal.nD Cert.ReferenceXbcIdeal.τ).loc Cert.ReferenceXbcIdeal.main_arg0) = m ((c.tc : Thread Cert.KernelXbcIdeal.nD Cert.KernelXbcIdeal.τ).loc Cert.KernelXbcIdeal.main_arg0)
      ∧ m' ((c.tc : Thread Cert.ReferenceXbcIdeal.nD Cert.ReferenceXbcIdeal.τ).loc Cert.ReferenceXbcIdeal.main_arg1) = m ((c.tc : Thread Cert.KernelXbcIdeal.nD Cert.KernelXbcIdeal.τ).loc Cert.KernelXbcIdeal.main_arg1)) →
    ∃ (v0 : (c : Dev Cert.KernelXbcIdeal.nD) → Buf (Elt Ideal) ((c.tc : Thread Cert.KernelXbcIdeal.nD Cert.KernelXbcIdeal.τ).loc Cert.KernelXbcIdeal.main_v5)),
      θ_run (Cert.KernelXbcIdeal.defs (F := Ideal)) (onTc (τ := Cert.KernelXbcIdeal.τ) (Cert.KernelXbcIdeal.main (F := Ideal))) ⟨m, fun _ => 0, g⟩ (fun r => ∀ c : Dev Cert.KernelXbcIdeal.nD,
          r.2.mem ((c.tc : Thread Cert.KernelXbcIdeal.nD Cert.KernelXbcIdeal.τ).loc Cert.KernelXbcIdeal.main_v5) = v0 c
          ∧ r.2.mem ((c.tc : Thread Cert.KernelXbcIdeal.nD Cert.KernelXbcIdeal.τ).loc Cert.KernelXbcIdeal.main_arg0) = m ((c.tc : Thread Cert.KernelXbcIdeal.nD Cert.KernelXbcIdeal.τ).loc Cert.KernelXbcIdeal.main_arg0)
          ∧ r.2.mem ((c.tc : Thread Cert.KernelXbcIdeal.nD Cert.KernelXbcIdeal.τ).loc Cert.KernelXbcIdeal.main_arg1) = m ((c.tc : Thread Cert.KernelXbcIdeal.nD Cert.KernelXbcIdeal.τ).loc Cert.KernelXbcIdeal.main_arg1))
      ∧ θ_run (Cert.ReferenceXbcIdeal.defs (F := Ideal)) (onTc (τ := Cert.ReferenceXbcIdeal.τ) (Cert.ReferenceXbcIdeal.main (F := Ideal))) ⟨m', fun _ => 0, g'⟩ (fun r => ∀ c : Dev Cert.ReferenceXbcIdeal.nD,
          r.2.mem ((c.tc : Thread Cert.ReferenceXbcIdeal.nD Cert.ReferenceXbcIdeal.τ).loc Cert.ReferenceXbcIdeal.main_v1) = v0 c
          ∧ r.2.mem ((c.tc : Thread Cert.ReferenceXbcIdeal.nD Cert.ReferenceXbcIdeal.τ).loc Cert.ReferenceXbcIdeal.main_arg0) = m' ((c.tc : Thread Cert.ReferenceXbcIdeal.nD Cert.ReferenceXbcIdeal.τ).loc Cert.ReferenceXbcIdeal.main_arg0)
          ∧ r.2.mem ((c.tc : Thread Cert.ReferenceXbcIdeal.nD Cert.ReferenceXbcIdeal.τ).loc Cert.ReferenceXbcIdeal.main_arg1) = m' ((c.tc : Thread Cert.ReferenceXbcIdeal.nD Cert.ReferenceXbcIdeal.τ).loc Cert.ReferenceXbcIdeal.main_arg1))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)) →
    ∃ (v0 : (c : Dev Cert.KernelQkvIdeal.nD) → Buf (Elt Ideal) ((c.tc : Thread Cert.KernelQkvIdeal.nD Cert.KernelQkvIdeal.τ).loc Cert.KernelQkvIdeal.main_v5)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v5) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v4) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelRkvo_KernelRkvoIdeal : Prop :=
  True

def algebraic_KernelRkvoIdeal_ReferenceRkvoIdeal [hKernelRkvoIdeal : Cert.KernelRkvoIdeal.Facts] [hReferenceRkvoIdeal : Cert.ReferenceRkvoIdeal.Facts] : Prop :=
  ∀ (m : (ℓ : Loc Cert.KernelRkvoIdeal.nD Cert.KernelRkvoIdeal.τ Cert.KernelRkvoIdeal.sig) → Buf (Elt Ideal) ℓ) (g : Dev Cert.KernelRkvoIdeal.nD → PrngReg)
    (m' : (ℓ : Loc Cert.ReferenceRkvoIdeal.nD Cert.ReferenceRkvoIdeal.τ Cert.ReferenceRkvoIdeal.sig) → Buf (Elt Ideal) ℓ) (g' : Dev Cert.ReferenceRkvoIdeal.nD → PrngReg), Pre_KernelRkvoIdeal m →
    (∀ c : Dev Cert.KernelRkvoIdeal.nD,
      m' ((c.tc : Thread Cert.ReferenceRkvoIdeal.nD Cert.ReferenceRkvoIdeal.τ).loc Cert.ReferenceRkvoIdeal.main_arg0) = m ((c.tc : Thread Cert.KernelRkvoIdeal.nD Cert.KernelRkvoIdeal.τ).loc Cert.KernelRkvoIdeal.main_arg0)
      ∧ m' ((c.tc : Thread Cert.ReferenceRkvoIdeal.nD Cert.ReferenceRkvoIdeal.τ).loc Cert.ReferenceRkvoIdeal.main_arg1) = m ((c.tc : Thread Cert.KernelRkvoIdeal.nD Cert.KernelRkvoIdeal.τ).loc Cert.KernelRkvoIdeal.main_arg1)) →
    ∃ (v0 : (c : Dev Cert.KernelRkvoIdeal.nD) → Buf (Elt Ideal) ((c.tc : Thread Cert.KernelRkvoIdeal.nD Cert.KernelRkvoIdeal.τ).loc Cert.KernelRkvoIdeal.main_v3)),
      θ_run (Cert.KernelRkvoIdeal.defs (F := Ideal)) (onTc (τ := Cert.KernelRkvoIdeal.τ) (Cert.KernelRkvoIdeal.main (F := Ideal))) ⟨m, fun _ => 0, g⟩ (fun r => ∀ c : Dev Cert.KernelRkvoIdeal.nD,
          r.2.mem ((c.tc : Thread Cert.KernelRkvoIdeal.nD Cert.KernelRkvoIdeal.τ).loc Cert.KernelRkvoIdeal.main_v3) = v0 c
          ∧ r.2.mem ((c.tc : Thread Cert.KernelRkvoIdeal.nD Cert.KernelRkvoIdeal.τ).loc Cert.KernelRkvoIdeal.main_arg0) = m ((c.tc : Thread Cert.KernelRkvoIdeal.nD Cert.KernelRkvoIdeal.τ).loc Cert.KernelRkvoIdeal.main_arg0)
          ∧ r.2.mem ((c.tc : Thread Cert.KernelRkvoIdeal.nD Cert.KernelRkvoIdeal.τ).loc Cert.KernelRkvoIdeal.main_arg1) = m ((c.tc : Thread Cert.KernelRkvoIdeal.nD Cert.KernelRkvoIdeal.τ).loc Cert.KernelRkvoIdeal.main_arg1))
      ∧ θ_run (Cert.ReferenceRkvoIdeal.defs (F := Ideal)) (onTc (τ := Cert.ReferenceRkvoIdeal.τ) (Cert.ReferenceRkvoIdeal.main (F := Ideal))) ⟨m', fun _ => 0, g'⟩ (fun r => ∀ c : Dev Cert.ReferenceRkvoIdeal.nD,
          r.2.mem ((c.tc : Thread Cert.ReferenceRkvoIdeal.nD Cert.ReferenceRkvoIdeal.τ).loc Cert.ReferenceRkvoIdeal.main_v1) = v0 c
          ∧ r.2.mem ((c.tc : Thread Cert.ReferenceRkvoIdeal.nD Cert.ReferenceRkvoIdeal.τ).loc Cert.ReferenceRkvoIdeal.main_arg0) = m' ((c.tc : Thread Cert.ReferenceRkvoIdeal.nD Cert.ReferenceRkvoIdeal.τ).loc Cert.ReferenceRkvoIdeal.main_arg0)
          ∧ r.2.mem ((c.tc : Thread Cert.ReferenceRkvoIdeal.nD Cert.ReferenceRkvoIdeal.τ).loc Cert.ReferenceRkvoIdeal.main_arg1) = m' ((c.tc : Thread Cert.ReferenceRkvoIdeal.nD Cert.ReferenceRkvoIdeal.τ).loc Cert.ReferenceRkvoIdeal.main_arg1))

def preserves_KernelDecay_KernelDecayIdeal : Prop :=
  True

def algebraic_KernelDecayIdeal_ReferenceDecayIdeal [hKernelDecayIdeal : Cert.KernelDecayIdeal.Facts] [hReferenceDecayIdeal : Cert.ReferenceDecayIdeal.Facts] : Prop :=
  ∀ (m : (ℓ : Loc Cert.KernelDecayIdeal.nD Cert.KernelDecayIdeal.τ Cert.KernelDecayIdeal.sig) → Buf (Elt Ideal) ℓ) (g : Dev Cert.KernelDecayIdeal.nD → PrngReg)
    (m' : (ℓ : Loc Cert.ReferenceDecayIdeal.nD Cert.ReferenceDecayIdeal.τ Cert.ReferenceDecayIdeal.sig) → Buf (Elt Ideal) ℓ) (g' : Dev Cert.ReferenceDecayIdeal.nD → PrngReg), Pre_KernelDecayIdeal m →
    (∀ c : Dev Cert.KernelDecayIdeal.nD,
      m' ((c.tc : Thread Cert.ReferenceDecayIdeal.nD Cert.ReferenceDecayIdeal.τ).loc Cert.ReferenceDecayIdeal.main_arg0) = m ((c.tc : Thread Cert.KernelDecayIdeal.nD Cert.KernelDecayIdeal.τ).loc Cert.KernelDecayIdeal.main_arg0)
      ∧ m' ((c.tc : Thread Cert.ReferenceDecayIdeal.nD Cert.ReferenceDecayIdeal.τ).loc Cert.ReferenceDecayIdeal.main_arg1) = m ((c.tc : Thread Cert.KernelDecayIdeal.nD Cert.KernelDecayIdeal.τ).loc Cert.KernelDecayIdeal.main_arg1)
      ∧ m' ((c.tc : Thread Cert.ReferenceDecayIdeal.nD Cert.ReferenceDecayIdeal.τ).loc Cert.ReferenceDecayIdeal.main_arg2) = m ((c.tc : Thread Cert.KernelDecayIdeal.nD Cert.KernelDecayIdeal.τ).loc Cert.KernelDecayIdeal.main_arg2)
      ∧ m' ((c.tc : Thread Cert.ReferenceDecayIdeal.nD Cert.ReferenceDecayIdeal.τ).loc Cert.ReferenceDecayIdeal.main_arg3) = m ((c.tc : Thread Cert.KernelDecayIdeal.nD Cert.KernelDecayIdeal.τ).loc Cert.KernelDecayIdeal.main_arg3)) →
    ∃ (v0 : (c : Dev Cert.KernelDecayIdeal.nD) → Buf (Elt Ideal) ((c.tc : Thread Cert.KernelDecayIdeal.nD Cert.KernelDecayIdeal.τ).loc Cert.KernelDecayIdeal.main_v3)),
      θ_run (Cert.KernelDecayIdeal.defs (F := Ideal)) (onTc (τ := Cert.KernelDecayIdeal.τ) (Cert.KernelDecayIdeal.main (F := Ideal))) ⟨m, fun _ => 0, g⟩ (fun r => ∀ c : Dev Cert.KernelDecayIdeal.nD,
          r.2.mem ((c.tc : Thread Cert.KernelDecayIdeal.nD Cert.KernelDecayIdeal.τ).loc Cert.KernelDecayIdeal.main_v3) = v0 c
          ∧ r.2.mem ((c.tc : Thread Cert.KernelDecayIdeal.nD Cert.KernelDecayIdeal.τ).loc Cert.KernelDecayIdeal.main_arg0) = m ((c.tc : Thread Cert.KernelDecayIdeal.nD Cert.KernelDecayIdeal.τ).loc Cert.KernelDecayIdeal.main_arg0)
          ∧ r.2.mem ((c.tc : Thread Cert.KernelDecayIdeal.nD Cert.KernelDecayIdeal.τ).loc Cert.KernelDecayIdeal.main_arg1) = m ((c.tc : Thread Cert.KernelDecayIdeal.nD Cert.KernelDecayIdeal.τ).loc Cert.KernelDecayIdeal.main_arg1)
          ∧ r.2.mem ((c.tc : Thread Cert.KernelDecayIdeal.nD Cert.KernelDecayIdeal.τ).loc Cert.KernelDecayIdeal.main_arg2) = m ((c.tc : Thread Cert.KernelDecayIdeal.nD Cert.KernelDecayIdeal.τ).loc Cert.KernelDecayIdeal.main_arg2)
          ∧ r.2.mem ((c.tc : Thread Cert.KernelDecayIdeal.nD Cert.KernelDecayIdeal.τ).loc Cert.KernelDecayIdeal.main_arg3) = m ((c.tc : Thread Cert.KernelDecayIdeal.nD Cert.KernelDecayIdeal.τ).loc Cert.KernelDecayIdeal.main_arg3))
      ∧ θ_run (Cert.ReferenceDecayIdeal.defs (F := Ideal)) (onTc (τ := Cert.ReferenceDecayIdeal.τ) (Cert.ReferenceDecayIdeal.main (F := Ideal))) ⟨m', fun _ => 0, g'⟩ (fun r => ∀ c : Dev Cert.ReferenceDecayIdeal.nD,
          r.2.mem ((c.tc : Thread Cert.ReferenceDecayIdeal.nD Cert.ReferenceDecayIdeal.τ).loc Cert.ReferenceDecayIdeal.main_v6) = v0 c
          ∧ r.2.mem ((c.tc : Thread Cert.ReferenceDecayIdeal.nD Cert.ReferenceDecayIdeal.τ).loc Cert.ReferenceDecayIdeal.main_arg0) = m' ((c.tc : Thread Cert.ReferenceDecayIdeal.nD Cert.ReferenceDecayIdeal.τ).loc Cert.ReferenceDecayIdeal.main_arg0)
          ∧ r.2.mem ((c.tc : Thread Cert.ReferenceDecayIdeal.nD Cert.ReferenceDecayIdeal.τ).loc Cert.ReferenceDecayIdeal.main_arg1) = m' ((c.tc : Thread Cert.ReferenceDecayIdeal.nD Cert.ReferenceDecayIdeal.τ).loc Cert.ReferenceDecayIdeal.main_arg1)
          ∧ r.2.mem ((c.tc : Thread Cert.ReferenceDecayIdeal.nD Cert.ReferenceDecayIdeal.τ).loc Cert.ReferenceDecayIdeal.main_arg2) = m' ((c.tc : Thread Cert.ReferenceDecayIdeal.nD Cert.ReferenceDecayIdeal.τ).loc Cert.ReferenceDecayIdeal.main_arg2)
          ∧ r.2.mem ((c.tc : Thread Cert.ReferenceDecayIdeal.nD Cert.ReferenceDecayIdeal.τ).loc Cert.ReferenceDecayIdeal.main_arg3) = m' ((c.tc : Thread Cert.ReferenceDecayIdeal.nD Cert.ReferenceDecayIdeal.τ).loc Cert.ReferenceDecayIdeal.main_arg3))

def preserves_KernelRate_KernelRateIdeal : Prop :=
  True

def algebraic_KernelRateIdeal_ReferenceRateIdeal [hKernelRateIdeal : Cert.KernelRateIdeal.Facts] [hReferenceRateIdeal : Cert.ReferenceRateIdeal.Facts] : Prop :=
  ∀ (m : (ℓ : Loc Cert.KernelRateIdeal.nD Cert.KernelRateIdeal.τ Cert.KernelRateIdeal.sig) → Buf (Elt Ideal) ℓ) (g : Dev Cert.KernelRateIdeal.nD → PrngReg)
    (m' : (ℓ : Loc Cert.ReferenceRateIdeal.nD Cert.ReferenceRateIdeal.τ Cert.ReferenceRateIdeal.sig) → Buf (Elt Ideal) ℓ) (g' : Dev Cert.ReferenceRateIdeal.nD → PrngReg), Pre_KernelRateIdeal m →
    (∀ c : Dev Cert.KernelRateIdeal.nD,
      m' ((c.tc : Thread Cert.ReferenceRateIdeal.nD Cert.ReferenceRateIdeal.τ).loc Cert.ReferenceRateIdeal.main_arg0) = m ((c.tc : Thread Cert.KernelRateIdeal.nD Cert.KernelRateIdeal.τ).loc Cert.KernelRateIdeal.main_arg0)
      ∧ m' ((c.tc : Thread Cert.ReferenceRateIdeal.nD Cert.ReferenceRateIdeal.τ).loc Cert.ReferenceRateIdeal.main_arg1) = m ((c.tc : Thread Cert.KernelRateIdeal.nD Cert.KernelRateIdeal.τ).loc Cert.KernelRateIdeal.main_arg1)
      ∧ m' ((c.tc : Thread Cert.ReferenceRateIdeal.nD Cert.ReferenceRateIdeal.τ).loc Cert.ReferenceRateIdeal.main_arg2) = m ((c.tc : Thread Cert.KernelRateIdeal.nD Cert.KernelRateIdeal.τ).loc Cert.KernelRateIdeal.main_arg2)
      ∧ m' ((c.tc : Thread Cert.ReferenceRateIdeal.nD Cert.ReferenceRateIdeal.τ).loc Cert.ReferenceRateIdeal.main_arg3) = m ((c.tc : Thread Cert.KernelRateIdeal.nD Cert.KernelRateIdeal.τ).loc Cert.KernelRateIdeal.main_arg3)) →
    ∃ (v0 : (c : Dev Cert.KernelRateIdeal.nD) → Buf (Elt Ideal) ((c.tc : Thread Cert.KernelRateIdeal.nD Cert.KernelRateIdeal.τ).loc Cert.KernelRateIdeal.main_v3)),
      θ_run (Cert.KernelRateIdeal.defs (F := Ideal)) (onTc (τ := Cert.KernelRateIdeal.τ) (Cert.KernelRateIdeal.main (F := Ideal))) ⟨m, fun _ => 0, g⟩ (fun r => ∀ c : Dev Cert.KernelRateIdeal.nD,
          r.2.mem ((c.tc : Thread Cert.KernelRateIdeal.nD Cert.KernelRateIdeal.τ).loc Cert.KernelRateIdeal.main_v3) = v0 c
          ∧ r.2.mem ((c.tc : Thread Cert.KernelRateIdeal.nD Cert.KernelRateIdeal.τ).loc Cert.KernelRateIdeal.main_arg0) = m ((c.tc : Thread Cert.KernelRateIdeal.nD Cert.KernelRateIdeal.τ).loc Cert.KernelRateIdeal.main_arg0)
          ∧ r.2.mem ((c.tc : Thread Cert.KernelRateIdeal.nD Cert.KernelRateIdeal.τ).loc Cert.KernelRateIdeal.main_arg1) = m ((c.tc : Thread Cert.KernelRateIdeal.nD Cert.KernelRateIdeal.τ).loc Cert.KernelRateIdeal.main_arg1)
          ∧ r.2.mem ((c.tc : Thread Cert.KernelRateIdeal.nD Cert.KernelRateIdeal.τ).loc Cert.KernelRateIdeal.main_arg2) = m ((c.tc : Thread Cert.KernelRateIdeal.nD Cert.KernelRateIdeal.τ).loc Cert.KernelRateIdeal.main_arg2)
          ∧ r.2.mem ((c.tc : Thread Cert.KernelRateIdeal.nD Cert.KernelRateIdeal.τ).loc Cert.KernelRateIdeal.main_arg3) = m ((c.tc : Thread Cert.KernelRateIdeal.nD Cert.KernelRateIdeal.τ).loc Cert.KernelRateIdeal.main_arg3))
      ∧ θ_run (Cert.ReferenceRateIdeal.defs (F := Ideal)) (onTc (τ := Cert.ReferenceRateIdeal.τ) (Cert.ReferenceRateIdeal.main (F := Ideal))) ⟨m', fun _ => 0, g'⟩ (fun r => ∀ c : Dev Cert.ReferenceRateIdeal.nD,
          r.2.mem ((c.tc : Thread Cert.ReferenceRateIdeal.nD Cert.ReferenceRateIdeal.τ).loc Cert.ReferenceRateIdeal.main_v5) = v0 c
          ∧ r.2.mem ((c.tc : Thread Cert.ReferenceRateIdeal.nD Cert.ReferenceRateIdeal.τ).loc Cert.ReferenceRateIdeal.main_arg0) = m' ((c.tc : Thread Cert.ReferenceRateIdeal.nD Cert.ReferenceRateIdeal.τ).loc Cert.ReferenceRateIdeal.main_arg0)
          ∧ r.2.mem ((c.tc : Thread Cert.ReferenceRateIdeal.nD Cert.ReferenceRateIdeal.τ).loc Cert.ReferenceRateIdeal.main_arg1) = m' ((c.tc : Thread Cert.ReferenceRateIdeal.nD Cert.ReferenceRateIdeal.τ).loc Cert.ReferenceRateIdeal.main_arg1)
          ∧ r.2.mem ((c.tc : Thread Cert.ReferenceRateIdeal.nD Cert.ReferenceRateIdeal.τ).loc Cert.ReferenceRateIdeal.main_arg2) = m' ((c.tc : Thread Cert.ReferenceRateIdeal.nD Cert.ReferenceRateIdeal.τ).loc Cert.ReferenceRateIdeal.main_arg2)
          ∧ r.2.mem ((c.tc : Thread Cert.ReferenceRateIdeal.nD Cert.ReferenceRateIdeal.τ).loc Cert.ReferenceRateIdeal.main_arg3) = m' ((c.tc : Thread Cert.ReferenceRateIdeal.nD Cert.ReferenceRateIdeal.τ).loc Cert.ReferenceRateIdeal.main_arg3))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v4)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v4) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v8) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] [hPre_runs_ok : Cert.Pre_runs_ok.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v300) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelUp1_KernelUp1Ideal : Prop :=
  True

def algebraic_KernelUp1Ideal_ReferenceUp1Ideal [hKernelUp1Ideal : Cert.KernelUp1Ideal.Facts] [hReferenceUp1Ideal : Cert.ReferenceUp1Ideal.Facts] [hPre_runs_ok : Cert.Pre_runs_ok.Facts] : Prop :=
  ∀ (m : (ℓ : Loc Cert.KernelUp1Ideal.nD Cert.KernelUp1Ideal.τ Cert.KernelUp1Ideal.sig) → Buf (Elt Ideal) ℓ) (g : Dev Cert.KernelUp1Ideal.nD → PrngReg)
    (m' : (ℓ : Loc Cert.ReferenceUp1Ideal.nD Cert.ReferenceUp1Ideal.τ Cert.ReferenceUp1Ideal.sig) → Buf (Elt Ideal) ℓ) (g' : Dev Cert.ReferenceUp1Ideal.nD → PrngReg), Pre_KernelUp1Ideal m →
    (∀ c : Dev Cert.KernelUp1Ideal.nD,
      m' ((c.tc : Thread Cert.ReferenceUp1Ideal.nD Cert.ReferenceUp1Ideal.τ).loc Cert.ReferenceUp1Ideal.main_arg0) = m ((c.tc : Thread Cert.KernelUp1Ideal.nD Cert.KernelUp1Ideal.τ).loc Cert.KernelUp1Ideal.main_arg0)
      ∧ m' ((c.tc : Thread Cert.ReferenceUp1Ideal.nD Cert.ReferenceUp1Ideal.τ).loc Cert.ReferenceUp1Ideal.main_arg1) = m ((c.tc : Thread Cert.KernelUp1Ideal.nD Cert.KernelUp1Ideal.τ).loc Cert.KernelUp1Ideal.main_arg1)
      ∧ m' ((c.tc : Thread Cert.ReferenceUp1Ideal.nD Cert.ReferenceUp1Ideal.τ).loc Cert.ReferenceUp1Ideal.main_arg2) = m ((c.tc : Thread Cert.KernelUp1Ideal.nD Cert.KernelUp1Ideal.τ).loc Cert.KernelUp1Ideal.main_arg2)
      ∧ m' ((c.tc : Thread Cert.ReferenceUp1Ideal.nD Cert.ReferenceUp1Ideal.τ).loc Cert.ReferenceUp1Ideal.main_arg3) = m ((c.tc : Thread Cert.KernelUp1Ideal.nD Cert.KernelUp1Ideal.τ).loc Cert.KernelUp1Ideal.main_arg3)) →
    ∃ (v0 : (c : Dev Cert.KernelUp1Ideal.nD) → Buf (Elt Ideal) ((c.tc : Thread Cert.KernelUp1Ideal.nD Cert.KernelUp1Ideal.τ).loc Cert.KernelUp1Ideal.main_v0)),
      θ_run (Cert.KernelUp1Ideal.defs (F := Ideal)) (onTc (τ := Cert.KernelUp1Ideal.τ) (Cert.KernelUp1Ideal.main (F := Ideal))) ⟨m, fun _ => 0, g⟩ (fun r => ∀ c : Dev Cert.KernelUp1Ideal.nD,
          r.2.mem ((c.tc : Thread Cert.KernelUp1Ideal.nD Cert.KernelUp1Ideal.τ).loc Cert.KernelUp1Ideal.main_v0) = v0 c
          ∧ r.2.mem ((c.tc : Thread Cert.KernelUp1Ideal.nD Cert.KernelUp1Ideal.τ).loc Cert.KernelUp1Ideal.main_arg0) = m ((c.tc : Thread Cert.KernelUp1Ideal.nD Cert.KernelUp1Ideal.τ).loc Cert.KernelUp1Ideal.main_arg0)
          ∧ r.2.mem ((c.tc : Thread Cert.KernelUp1Ideal.nD Cert.KernelUp1Ideal.τ).loc Cert.KernelUp1Ideal.main_arg1) = m ((c.tc : Thread Cert.KernelUp1Ideal.nD Cert.KernelUp1Ideal.τ).loc Cert.KernelUp1Ideal.main_arg1)
          ∧ r.2.mem ((c.tc : Thread Cert.KernelUp1Ideal.nD Cert.KernelUp1Ideal.τ).loc Cert.KernelUp1Ideal.main_arg2) = m ((c.tc : Thread Cert.KernelUp1Ideal.nD Cert.KernelUp1Ideal.τ).loc Cert.KernelUp1Ideal.main_arg2)
          ∧ r.2.mem ((c.tc : Thread Cert.KernelUp1Ideal.nD Cert.KernelUp1Ideal.τ).loc Cert.KernelUp1Ideal.main_arg3) = m ((c.tc : Thread Cert.KernelUp1Ideal.nD Cert.KernelUp1Ideal.τ).loc Cert.KernelUp1Ideal.main_arg3))
      ∧ θ_run (Cert.ReferenceUp1Ideal.defs (F := Ideal)) (onTc (τ := Cert.ReferenceUp1Ideal.τ) (Cert.ReferenceUp1Ideal.main (F := Ideal))) ⟨m', fun _ => 0, g'⟩ (fun r => ∀ c : Dev Cert.ReferenceUp1Ideal.nD,
          r.2.mem ((c.tc : Thread Cert.ReferenceUp1Ideal.nD Cert.ReferenceUp1Ideal.τ).loc Cert.ReferenceUp1Ideal.main_v300) = v0 c
          ∧ r.2.mem ((c.tc : Thread Cert.ReferenceUp1Ideal.nD Cert.ReferenceUp1Ideal.τ).loc Cert.ReferenceUp1Ideal.main_arg0) = m' ((c.tc : Thread Cert.ReferenceUp1Ideal.nD Cert.ReferenceUp1Ideal.τ).loc Cert.ReferenceUp1Ideal.main_arg0)
          ∧ r.2.mem ((c.tc : Thread Cert.ReferenceUp1Ideal.nD Cert.ReferenceUp1Ideal.τ).loc Cert.ReferenceUp1Ideal.main_arg1) = m' ((c.tc : Thread Cert.ReferenceUp1Ideal.nD Cert.ReferenceUp1Ideal.τ).loc Cert.ReferenceUp1Ideal.main_arg1)
          ∧ r.2.mem ((c.tc : Thread Cert.ReferenceUp1Ideal.nD Cert.ReferenceUp1Ideal.τ).loc Cert.ReferenceUp1Ideal.main_arg2) = m' ((c.tc : Thread Cert.ReferenceUp1Ideal.nD Cert.ReferenceUp1Ideal.τ).loc Cert.ReferenceUp1Ideal.main_arg2)
          ∧ r.2.mem ((c.tc : Thread Cert.ReferenceUp1Ideal.nD Cert.ReferenceUp1Ideal.τ).loc Cert.ReferenceUp1Ideal.main_arg3) = m' ((c.tc : Thread Cert.ReferenceUp1Ideal.nD Cert.ReferenceUp1Ideal.τ).loc Cert.ReferenceUp1Ideal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] [hPre_runs_ok_down : Cert.Pre_runs_ok_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v172) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelDown1_KernelDown1Ideal : Prop :=
  True

def algebraic_KernelDown1Ideal_ReferenceDown1Ideal [hKernelDown1Ideal : Cert.KernelDown1Ideal.Facts] [hReferenceDown1Ideal : Cert.ReferenceDown1Ideal.Facts] [hPre_runs_ok_down : Cert.Pre_runs_ok_down.Facts] : Prop :=
  ∀ (m : (ℓ : Loc Cert.KernelDown1Ideal.nD Cert.KernelDown1Ideal.τ Cert.KernelDown1Ideal.sig) → Buf (Elt Ideal) ℓ) (g : Dev Cert.KernelDown1Ideal.nD → PrngReg)
    (m' : (ℓ : Loc Cert.ReferenceDown1Ideal.nD Cert.ReferenceDown1Ideal.τ Cert.ReferenceDown1Ideal.sig) → Buf (Elt Ideal) ℓ) (g' : Dev Cert.ReferenceDown1Ideal.nD → PrngReg), Pre_KernelDown1Ideal m →
    (∀ c : Dev Cert.KernelDown1Ideal.nD,
      m' ((c.tc : Thread Cert.ReferenceDown1Ideal.nD Cert.ReferenceDown1Ideal.τ).loc Cert.ReferenceDown1Ideal.main_arg0) = m ((c.tc : Thread Cert.KernelDown1Ideal.nD Cert.KernelDown1Ideal.τ).loc Cert.KernelDown1Ideal.main_arg0)
      ∧ m' ((c.tc : Thread Cert.ReferenceDown1Ideal.nD Cert.ReferenceDown1Ideal.τ).loc Cert.ReferenceDown1Ideal.main_arg1) = m ((c.tc : Thread Cert.KernelDown1Ideal.nD Cert.KernelDown1Ideal.τ).loc Cert.KernelDown1Ideal.main_arg1)
      ∧ m' ((c.tc : Thread Cert.ReferenceDown1Ideal.nD Cert.ReferenceDown1Ideal.τ).loc Cert.ReferenceDown1Ideal.main_arg2) = m ((c.tc : Thread Cert.KernelDown1Ideal.nD Cert.KernelDown1Ideal.τ).loc Cert.KernelDown1Ideal.main_arg2)
      ∧ m' ((c.tc : Thread Cert.ReferenceDown1Ideal.nD Cert.ReferenceDown1Ideal.τ).loc Cert.ReferenceDown1Ideal.main_arg3) = m ((c.tc : Thread Cert.KernelDown1Ideal.nD Cert.KernelDown1Ideal.τ).loc Cert.KernelDown1Ideal.main_arg3)) →
    ∃ (v0 : (c : Dev Cert.KernelDown1Ideal.nD) → Buf (Elt Ideal) ((c.tc : Thread Cert.KernelDown1Ideal.nD Cert.KernelDown1Ideal.τ).loc Cert.KernelDown1Ideal.main_v1)),
      θ_run (Cert.KernelDown1Ideal.defs (F := Ideal)) (onTc (τ := Cert.KernelDown1Ideal.τ) (Cert.KernelDown1Ideal.main (F := Ideal))) ⟨m, fun _ => 0, g⟩ (fun r => ∀ c : Dev Cert.KernelDown1Ideal.nD,
          r.2.mem ((c.tc : Thread Cert.KernelDown1Ideal.nD Cert.KernelDown1Ideal.τ).loc Cert.KernelDown1Ideal.main_v1) = v0 c
          ∧ r.2.mem ((c.tc : Thread Cert.KernelDown1Ideal.nD Cert.KernelDown1Ideal.τ).loc Cert.KernelDown1Ideal.main_arg0) = m ((c.tc : Thread Cert.KernelDown1Ideal.nD Cert.KernelDown1Ideal.τ).loc Cert.KernelDown1Ideal.main_arg0)
          ∧ r.2.mem ((c.tc : Thread Cert.KernelDown1Ideal.nD Cert.KernelDown1Ideal.τ).loc Cert.KernelDown1Ideal.main_arg1) = m ((c.tc : Thread Cert.KernelDown1Ideal.nD Cert.KernelDown1Ideal.τ).loc Cert.KernelDown1Ideal.main_arg1)
          ∧ r.2.mem ((c.tc : Thread Cert.KernelDown1Ideal.nD Cert.KernelDown1Ideal.τ).loc Cert.KernelDown1Ideal.main_arg2) = m ((c.tc : Thread Cert.KernelDown1Ideal.nD Cert.KernelDown1Ideal.τ).loc Cert.KernelDown1Ideal.main_arg2)
          ∧ r.2.mem ((c.tc : Thread Cert.KernelDown1Ideal.nD Cert.KernelDown1Ideal.τ).loc Cert.KernelDown1Ideal.main_arg3) = m ((c.tc : Thread Cert.KernelDown1Ideal.nD Cert.KernelDown1Ideal.τ).loc Cert.KernelDown1Ideal.main_arg3))
      ∧ θ_run (Cert.ReferenceDown1Ideal.defs (F := Ideal)) (onTc (τ := Cert.ReferenceDown1Ideal.τ) (Cert.ReferenceDown1Ideal.main (F := Ideal))) ⟨m', fun _ => 0, g'⟩ (fun r => ∀ c : Dev Cert.ReferenceDown1Ideal.nD,
          r.2.mem ((c.tc : Thread Cert.ReferenceDown1Ideal.nD Cert.ReferenceDown1Ideal.τ).loc Cert.ReferenceDown1Ideal.main_v172) = v0 c
          ∧ r.2.mem ((c.tc : Thread Cert.ReferenceDown1Ideal.nD Cert.ReferenceDown1Ideal.τ).loc Cert.ReferenceDown1Ideal.main_arg0) = m' ((c.tc : Thread Cert.ReferenceDown1Ideal.nD Cert.ReferenceDown1Ideal.τ).loc Cert.ReferenceDown1Ideal.main_arg0)
          ∧ r.2.mem ((c.tc : Thread Cert.ReferenceDown1Ideal.nD Cert.ReferenceDown1Ideal.τ).loc Cert.ReferenceDown1Ideal.main_arg1) = m' ((c.tc : Thread Cert.ReferenceDown1Ideal.nD Cert.ReferenceDown1Ideal.τ).loc Cert.ReferenceDown1Ideal.main_arg1)
          ∧ r.2.mem ((c.tc : Thread Cert.ReferenceDown1Ideal.nD Cert.ReferenceDown1Ideal.τ).loc Cert.ReferenceDown1Ideal.main_arg2) = m' ((c.tc : Thread Cert.ReferenceDown1Ideal.nD Cert.ReferenceDown1Ideal.τ).loc Cert.ReferenceDown1Ideal.main_arg2)
          ∧ r.2.mem ((c.tc : Thread Cert.ReferenceDown1Ideal.nD Cert.ReferenceDown1Ideal.τ).loc Cert.ReferenceDown1Ideal.main_arg3) = m' ((c.tc : Thread Cert.ReferenceDown1Ideal.nD Cert.ReferenceDown1Ideal.τ).loc Cert.ReferenceDown1Ideal.main_arg3))

def Claim : Prop :=
  ∃ (hKernel : Cert.Kernel.Facts) (hKernelIdeal : Cert.KernelIdeal.Facts) (hReferenceIdeal : Cert.ReferenceIdeal.Facts) (hKernelZ : Cert.KernelZ.Facts) (hKernelZIdeal : Cert.KernelZIdeal.Facts) (hReferenceZIdeal : Cert.ReferenceZIdeal.Facts) (hKernelXbc : Cert.KernelXbc.Facts) (hKernelXbcIdeal : Cert.KernelXbcIdeal.Facts) (hReferenceXbcIdeal : Cert.ReferenceXbcIdeal.Facts) (hKernelQkv : Cert.KernelQkv.Facts) (hKernelQkvIdeal : Cert.KernelQkvIdeal.Facts) (hReferenceQkvIdeal : Cert.ReferenceQkvIdeal.Facts) (hKernelOut : Cert.KernelOut.Facts) (hKernelOutIdeal : Cert.KernelOutIdeal.Facts) (hReferenceOutIdeal : Cert.ReferenceOutIdeal.Facts) (hKernelRkvo : Cert.KernelRkvo.Facts) (hKernelRkvoIdeal : Cert.KernelRkvoIdeal.Facts) (hReferenceRkvoIdeal : Cert.ReferenceRkvoIdeal.Facts) (hKernelDecay : Cert.KernelDecay.Facts) (hKernelDecayIdeal : Cert.KernelDecayIdeal.Facts) (hReferenceDecayIdeal : Cert.ReferenceDecayIdeal.Facts) (hKernelRate : Cert.KernelRate.Facts) (hKernelRateIdeal : Cert.KernelRateIdeal.Facts) (hReferenceRateIdeal : Cert.ReferenceRateIdeal.Facts) (hKernelGate : Cert.KernelGate.Facts) (hKernelGateIdeal : Cert.KernelGateIdeal.Facts) (hReferenceGateIdeal : Cert.ReferenceGateIdeal.Facts) (hKernelUp : Cert.KernelUp.Facts) (hKernelUpIdeal : Cert.KernelUpIdeal.Facts) (hReferenceUpIdeal : Cert.ReferenceUpIdeal.Facts) (hKernelUp1 : Cert.KernelUp1.Facts) (hKernelUp1Ideal : Cert.KernelUp1Ideal.Facts) (hReferenceUp1Ideal : Cert.ReferenceUp1Ideal.Facts) (hKernelDown : Cert.KernelDown.Facts) (hKernelDownIdeal : Cert.KernelDownIdeal.Facts) (hReferenceDownIdeal : Cert.ReferenceDownIdeal.Facts) (hKernelDown1 : Cert.KernelDown1.Facts) (hKernelDown1Ideal : Cert.KernelDown1Ideal.Facts) (hReferenceDown1Ideal : Cert.ReferenceDown1Ideal.Facts) (hPre_finite_steps : Cert.Pre_finite_steps.Facts) (hPre_runs_ok : Cert.Pre_runs_ok.Facts) (hPre_runs_ok_down : Cert.Pre_runs_ok_down.Facts),
    quiescent_Kernel (hKernel := hKernel)
    ∧ quiescent_KernelIdeal (hKernelIdeal := hKernelIdeal)
    ∧ quiescent_KernelIdeal_pre_finite_steps (hKernelIdeal := hKernelIdeal) (hPre_finite_steps := hPre_finite_steps)
    ∧ quiescent_ReferenceIdeal (hReferenceIdeal := hReferenceIdeal)
    ∧ quiescent_ReferenceIdeal_pre_finite_steps (hReferenceIdeal := hReferenceIdeal) (hPre_finite_steps := hPre_finite_steps)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelXbc (hKernelXbc := hKernelXbc)
    ∧ quiescent_KernelXbcIdeal (hKernelXbcIdeal := hKernelXbcIdeal)
    ∧ quiescent_ReferenceXbcIdeal (hReferenceXbcIdeal := hReferenceXbcIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelRkvo (hKernelRkvo := hKernelRkvo)
    ∧ quiescent_KernelRkvoIdeal (hKernelRkvoIdeal := hKernelRkvoIdeal)
    ∧ quiescent_ReferenceRkvoIdeal (hReferenceRkvoIdeal := hReferenceRkvoIdeal)
    ∧ quiescent_KernelDecay (hKernelDecay := hKernelDecay)
    ∧ quiescent_KernelDecayIdeal (hKernelDecayIdeal := hKernelDecayIdeal)
    ∧ quiescent_ReferenceDecayIdeal (hReferenceDecayIdeal := hReferenceDecayIdeal)
    ∧ quiescent_KernelRate (hKernelRate := hKernelRate)
    ∧ quiescent_KernelRateIdeal (hKernelRateIdeal := hKernelRateIdeal)
    ∧ quiescent_ReferenceRateIdeal (hReferenceRateIdeal := hReferenceRateIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelUp (hKernelUp := hKernelUp) (hPre_runs_ok := hPre_runs_ok)
    ∧ quiescent_KernelUpIdeal (hKernelUpIdeal := hKernelUpIdeal) (hPre_runs_ok := hPre_runs_ok)
    ∧ quiescent_ReferenceUpIdeal (hReferenceUpIdeal := hReferenceUpIdeal)
    ∧ quiescent_ReferenceUpIdeal_pre_runs_ok (hReferenceUpIdeal := hReferenceUpIdeal) (hPre_runs_ok := hPre_runs_ok)
    ∧ quiescent_KernelUp1 (hKernelUp1 := hKernelUp1) (hPre_runs_ok := hPre_runs_ok)
    ∧ quiescent_KernelUp1Ideal (hKernelUp1Ideal := hKernelUp1Ideal) (hPre_runs_ok := hPre_runs_ok)
    ∧ quiescent_ReferenceUp1Ideal (hReferenceUp1Ideal := hReferenceUp1Ideal)
    ∧ quiescent_ReferenceUp1Ideal_pre_runs_ok (hReferenceUp1Ideal := hReferenceUp1Ideal) (hPre_runs_ok := hPre_runs_ok)
    ∧ quiescent_KernelDown (hKernelDown := hKernelDown) (hPre_runs_ok_down := hPre_runs_ok_down)
    ∧ quiescent_KernelDownIdeal (hKernelDownIdeal := hKernelDownIdeal) (hPre_runs_ok_down := hPre_runs_ok_down)
    ∧ quiescent_ReferenceDownIdeal (hReferenceDownIdeal := hReferenceDownIdeal)
    ∧ quiescent_ReferenceDownIdeal_pre_runs_ok_down (hReferenceDownIdeal := hReferenceDownIdeal) (hPre_runs_ok_down := hPre_runs_ok_down)
    ∧ quiescent_KernelDown1 (hKernelDown1 := hKernelDown1) (hPre_runs_ok_down := hPre_runs_ok_down)
    ∧ quiescent_KernelDown1Ideal (hKernelDown1Ideal := hKernelDown1Ideal) (hPre_runs_ok_down := hPre_runs_ok_down)
    ∧ quiescent_ReferenceDown1Ideal (hReferenceDown1Ideal := hReferenceDown1Ideal)
    ∧ quiescent_ReferenceDown1Ideal_pre_runs_ok_down (hReferenceDown1Ideal := hReferenceDown1Ideal) (hPre_runs_ok_down := hPre_runs_ok_down)
    ∧ preserves_Kernel_KernelIdeal
    ∧ algebraic_KernelIdeal_ReferenceIdeal_pre_finite_steps (hKernelIdeal := hKernelIdeal) (hReferenceIdeal := hReferenceIdeal) (hPre_finite_steps := hPre_finite_steps)
    ∧ preserves_KernelZ_KernelZIdeal
    ∧ algebraic_KernelZIdeal_ReferenceZIdeal (hKernelZIdeal := hKernelZIdeal) (hReferenceZIdeal := hReferenceZIdeal)
    ∧ preserves_KernelXbc_KernelXbcIdeal
    ∧ algebraic_KernelXbcIdeal_ReferenceXbcIdeal (hKernelXbcIdeal := hKernelXbcIdeal) (hReferenceXbcIdeal := hReferenceXbcIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelOut_KernelOutIdeal
    ∧ algebraic_KernelOutIdeal_ReferenceOutIdeal (hKernelOutIdeal := hKernelOutIdeal) (hReferenceOutIdeal := hReferenceOutIdeal)
    ∧ preserves_KernelRkvo_KernelRkvoIdeal
    ∧ algebraic_KernelRkvoIdeal_ReferenceRkvoIdeal (hKernelRkvoIdeal := hKernelRkvoIdeal) (hReferenceRkvoIdeal := hReferenceRkvoIdeal)
    ∧ preserves_KernelDecay_KernelDecayIdeal
    ∧ algebraic_KernelDecayIdeal_ReferenceDecayIdeal (hKernelDecayIdeal := hKernelDecayIdeal) (hReferenceDecayIdeal := hReferenceDecayIdeal)
    ∧ preserves_KernelRate_KernelRateIdeal
    ∧ algebraic_KernelRateIdeal_ReferenceRateIdeal (hKernelRateIdeal := hKernelRateIdeal) (hReferenceRateIdeal := hReferenceRateIdeal)
    ∧ preserves_KernelGate_KernelGateIdeal
    ∧ algebraic_KernelGateIdeal_ReferenceGateIdeal (hKernelGateIdeal := hKernelGateIdeal) (hReferenceGateIdeal := hReferenceGateIdeal)
    ∧ preserves_KernelUp_KernelUpIdeal
    ∧ algebraic_KernelUpIdeal_ReferenceUpIdeal (hKernelUpIdeal := hKernelUpIdeal) (hReferenceUpIdeal := hReferenceUpIdeal) (hPre_runs_ok := hPre_runs_ok)
    ∧ preserves_KernelUp1_KernelUp1Ideal
    ∧ algebraic_KernelUp1Ideal_ReferenceUp1Ideal (hKernelUp1Ideal := hKernelUp1Ideal) (hReferenceUp1Ideal := hReferenceUp1Ideal) (hPre_runs_ok := hPre_runs_ok)
    ∧ preserves_KernelDown_KernelDownIdeal
    ∧ algebraic_KernelDownIdeal_ReferenceDownIdeal (hKernelDownIdeal := hKernelDownIdeal) (hReferenceDownIdeal := hReferenceDownIdeal) (hPre_runs_ok_down := hPre_runs_ok_down)
    ∧ preserves_KernelDown1_KernelDown1Ideal
    ∧ algebraic_KernelDown1Ideal_ReferenceDown1Ideal (hKernelDown1Ideal := hKernelDown1Ideal) (hReferenceDown1Ideal := hReferenceDown1Ideal) (hPre_runs_ok_down := hPre_runs_ok_down)
-- ==== Pre_finite_steps.lean ====
abbrev S8192x4096 : Shape := ⟨2, ![8192, 4096]⟩
abbrev S8192x6144 : Shape := ⟨2, ![8192, 6144]⟩
abbrev S8192x64 : Shape := ⟨2, ![8192, 64]⟩
abbrev S6144x4 : Shape := ⟨2, ![6144, 4]⟩
abbrev S6144 : Shape := ⟨1, ![6144]⟩
abbrev S64 : Shape := ⟨1, ![64]⟩
abbrev S4096 : Shape := ⟨1, ![4096]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8192x4096 .f32) (main_arg1 : FVec F S8192x6144 .f32) (main_arg2 : FVec F S8192x64 .f32) (main_arg3 : FVec F S6144x4 .f32) (main_arg4 : FVec F S6144 .f32) (main_arg5 : FVec F S64 .f32) (main_arg6 : FVec F S64 .f32) (main_arg7 : FVec F S64 .f32) (main_arg8 : FVec F S4096 .f32) : IVec S_ 1 × IVec S_ 1 × IVec S_ 1 :=
  let main_v0 : FVec F S8192x64 .f32 := Host.absf main_arg2
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64 .f32 := Host.absf main_arg5
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : FVec F S64 .f32 := Host.absf main_arg6
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  (main_v3, main_v7, main_v11)
-- ==== Pre_runs_ok.lean ====
abbrev S5x80 : Shape := ⟨2, ![5, 80]⟩
abbrev S20480x4096 : Shape := ⟨2, ![20480, 4096]⟩
abbrev S2x16x4096x1536 : Shape := ⟨4, ![2, 16, 4096, 1536]⟩
abbrev S1x80 : Shape := ⟨2, ![1, 80]⟩
abbrev S80 : Shape := ⟨1, ![80]⟩
abbrev S_ : Shape := ⟨0, ![]⟩
abbrev S1 : Shape := ⟨1, ![1]⟩
abbrev S79 : Shape := ⟨1, ![79]⟩

class Facts : Prop where
  slices_S5x80_S1x80_0_0 : S5x80.Slices ![0, 0] S1x80
  shapeCasts_S1x80_S80 : S1x80.ShapeCasts S80
  slices_S5x80_S1x80_2_0 : S5x80.Slices ![2, 0] S1x80
  slices_S5x80_S1x80_3_0 : S5x80.Slices ![3, 0] S1x80
  slices_S5x80_S1x80_4_0 : S5x80.Slices ![4, 0] S1x80
  bcast_S_S80 : S_.BroadcastsInDim S80 (![] : Fin 0 → Fin S80.rank)
  reducesTo_S80_S_d0 : S80.ReducesTo [0] S_
  h_S_ : 0 < S_.numel
  slices_S80_S1_0 : S80.Slices ![0] S1
  shapeCasts_S1_S_ : S1.ShapeCasts S_
  slices_S80_S79_1 : S80.Slices ![1] S79
  bcast_S_S79 : S_.BroadcastsInDim S79 (![] : Fin 0 → Fin S79.rank)
  slices_S80_S79_0 : S80.Slices ![0] S79
  reducesTo_S79_S_d0 : S79.ReducesTo [0] S_
  slices_S80_S1_79 : S80.Slices ![79] S1

variable [Facts]

def fn_part3 {F : FTy → Type} [FloatOps F] (main_v13 : IVec S_ 1) (main_v19 : IVec S_ 1) (main_v22 : IVec S_ 1) (main_v38 : IVec S_ 1) (main_v50 : IVec S_ 1) (main_v53 : IVec S_ 1) (main_v58 : IVec S_ 1) : IVec S_ 1 × IVec S_ 1 × IVec S_ 1 × IVec S_ 1 × IVec S_ 1 × IVec S_ 1 :=
  let main_v59 : IVec S_ 1 := andi main_v53 main_v58
  (main_v13, main_v19, main_v22, main_v38, main_v50, main_v59)

def fn_part2 {F : FTy → Type} [FloatOps F] (main_v1 : IVec S80 32) (main_v3 : IVec S80 32) (main_v5 : IVec S80 32) (main_v7 : IVec S80 32) (main_v13 : IVec S_ 1) (main_v19 : IVec S_ 1) (main_v22 : IVec S_ 1) (main_v38 : IVec S_ 1) : IVec S_ 1 × IVec S_ 1 × IVec S_ 1 × IVec S_ 1 × IVec S_ 1 × IVec S_ 1 :=
  let main_v39 : IVec S79 32 := (extractStridedSlice S79 ![1] · slices_S80_S79_1) main_v3
  let main_c_8 : IVec S_ 32 := constantI S_ 32 1#32
  let main_v40 : IVec S79 32 := broadcastInDim S79 ![] bcast_S_S79 main_c_8
  let main_v41 : IVec S79 1 := cmpi .ne main_v39 main_v40
  let main_v42 : IVec S79 32 := (extractStridedSlice S79 ![0] · slices_S80_S79_0) main_v7
  let main_c_9 : IVec S_ 32 := constantI S_ 32 1#32
  let main_v43 : IVec S79 32 := broadcastInDim S79 ![] bcast_S_S79 main_c_9
  let main_v44 : IVec S79 1 := cmpi .ne main_v42 main_v43
  let main_v45 : IVec S79 32 := (extractStridedSlice S79 ![0] · slices_S80_S79_0) main_v5
  let main_v46 : IVec S79 32 := (extractStridedSlice S79 ![1] · slices_S80_S79_1) main_v1
  let main_v47 : IVec S79 1 := cmpi .eq main_v45 main_v46
  let main_v48 : IVec S79 1 := andi main_v44 main_v47
  let main_v49 : IVec S79 1 := ori main_v41 main_v48
  let main_c_10 : IVec S_ 1 := constantI S_ 1 1#1
  let main_v50 : IVec S_ 1 := (fun x v => Host.reduce IntOp.andi x v reducesTo_S79_S_d0 h_S_) main_v49 main_c_10
  let main_v51 : IVec S1 32 := (extractStridedSlice S1 ![79] · slices_S80_S1_79) main_v7
  let main_v52 : IVec S_ 32 := shapeCast S_ main_v51 shapeCasts_S1_S_
  let main_c_11 : IVec S_ 32 := constantI S_ 32 1#32
  let main_v53 : IVec S_ 1 := cmpi .eq main_v52 main_c_11
  let main_v54 : IVec S1 32 := (extractStridedSlice S1 ![79] · slices_S80_S1_79) main_v5
  let main_v55 : IVec S_ 32 := shapeCast S_ main_v54 shapeCasts_S1_S_
  let main_v56 : IVec S1 32 := (extractStridedSlice S1 ![0] · slices_S80_S1_0) main_v1
  let main_v57 : IVec S_ 32 := shapeCast S_ main_v56 shapeCasts_S1_S_
  let main_v58 : IVec S_ 1 := cmpi .eq main_v55 main_v57
  fn_part3 (F := F) main_v13 main_v19 main_v22 main_v38 main_v50 main_v53 main_v58

def fn_part1 {F : FTy → Type} [FloatOps F] (main_v1 : IVec S80 32) (main_v3 : IVec S80 32) (main_v5 : IVec S80 32) (main_v7 : IVec S80 32) (main_v13 : IVec S_ 1) (main_v18 : IVec S80 1) : IVec S_ 1 × IVec S_ 1 × IVec S_ 1 × IVec S_ 1 × IVec S_ 1 × IVec S_ 1 :=
  let main_c_4 : IVec S_ 1 := constantI S_ 1 1#1
  let main_v19 : IVec S_ 1 := (fun x v => Host.reduce IntOp.andi x v reducesTo_S80_S_d0 h_S_) main_v18 main_c_4
  let main_v20 : IVec S1 32 := (extractStridedSlice S1 ![0] · slices_S80_S1_0) main_v3
  let main_v21 : IVec S_ 32 := shapeCast S_ main_v20 shapeCasts_S1_S_
  let main_c_5 : IVec S_ 32 := constantI S_ 32 1#32
  let main_v22 : IVec S_ 1 := cmpi .eq main_v21 main_c_5
  let main_v23 : IVec S79 32 := (extractStridedSlice S79 ![1] · slices_S80_S79_1) main_v3
  let main_c_6 : IVec S_ 32 := constantI S_ 32 1#32
  let main_v24 : IVec S79 32 := broadcastInDim S79 ![] bcast_S_S79 main_c_6
  let main_v25 : IVec S79 1 := cmpi .eq main_v23 main_v24
  let main_v26 : IVec S79 32 := (extractStridedSlice S79 ![1] · slices_S80_S79_1) main_v1
  let main_v27 : IVec S79 32 := (extractStridedSlice S79 ![0] · slices_S80_S79_0) main_v1
  let main_v28 : IVec S79 1 := cmpi .eq main_v26 main_v27
  let main_v29 : IVec S79 32 := (extractStridedSlice S79 ![1] · slices_S80_S79_1) main_v5
  let main_v30 : IVec S79 32 := (extractStridedSlice S79 ![0] · slices_S80_S79_0) main_v5
  let main_v31 : IVec S79 1 := cmpi .eq main_v29 main_v30
  let main_v32 : IVec S79 1 := andi main_v28 main_v31
  let main_v33 : IVec S79 32 := (extractStridedSlice S79 ![1] · slices_S80_S79_1) main_v7
  let main_v34 : IVec S79 32 := (extractStridedSlice S79 ![0] · slices_S80_S79_0) main_v7
  let main_v35 : IVec S79 1 := cmpi .eq main_v33 main_v34
  let main_v36 : IVec S79 1 := andi main_v32 main_v35
  let main_v37 : IVec S79 1 := ori main_v25 main_v36
  let main_c_7 : IVec S_ 1 := constantI S_ 1 1#1
  let main_v38 : IVec S_ 1 := (fun x v => Host.reduce IntOp.andi x v reducesTo_S79_S_d0 h_S_) main_v37 main_c_7
  fn_part2 (F := F) main_v1 main_v3 main_v5 main_v7 main_v13 main_v19 main_v22 main_v38

def fn {F : FTy → Type} [FloatOps F] (main_arg0 : IVec S5x80 32) (main_arg1 : FVec F S20480x4096 .bf16) (main_arg2 : FVec F S2x16x4096x1536 .f32) (main_arg3 : FVec F S2x16x4096x1536 .f32) : IVec S_ 1 × IVec S_ 1 × IVec S_ 1 × IVec S_ 1 × IVec S_ 1 × IVec S_ 1 :=
  let main_v0 : IVec S1x80 32 := (extractStridedSlice S1x80 ![0, 0] · slices_S5x80_S1x80_0_0) main_arg0
  let main_v1 : IVec S80 32 := shapeCast S80 main_v0 shapeCasts_S1x80_S80
  let main_v2 : IVec S1x80 32 := (extractStridedSlice S1x80 ![2, 0] · slices_S5x80_S1x80_2_0) main_arg0
  let main_v3 : IVec S80 32 := shapeCast S80 main_v2 shapeCasts_S1x80_S80
  let main_v4 : IVec S1x80 32 := (extractStridedSlice S1x80 ![3, 0] · slices_S5x80_S1x80_3_0) main_arg0
  let main_v5 : IVec S80 32 := shapeCast S80 main_v4 shapeCasts_S1x80_S80
  let main_v6 : IVec S1x80 32 := (extractStridedSlice S1x80 ![4, 0] · slices_S5x80_S1x80_4_0) main_arg0
  let main_v7 : IVec S80 32 := shapeCast S80 main_v6 shapeCasts_S1x80_S80
  let main_c : IVec S_ 32 := constantI S_ 32 0#32
  let main_v8 : IVec S80 32 := broadcastInDim S80 ![] bcast_S_S80 main_c
  let main_v9 : IVec S80 1 := cmpi .sge main_v1 main_v8
  let main_c_0 : IVec S_ 32 := constantI S_ 32 16#32
  let main_v10 : IVec S80 32 := broadcastInDim S80 ![] bcast_S_S80 main_c_0
  let main_v11 : IVec S80 1 := cmpi .slt main_v1 main_v10
  let main_v12 : IVec S80 1 := andi main_v9 main_v11
  let main_c_1 : IVec S_ 1 := constantI S_ 1 1#1
  let main_v13 : IVec S_ 1 := (fun x v => Host.reduce IntOp.andi x v reducesTo_S80_S_d0 h_S_) main_v12 main_c_1
  let main_c_2 : IVec S_ 32 := constantI S_ 32 0#32
  let main_v14 : IVec S80 32 := broadcastInDim S80 ![] bcast_S_S80 main_c_2
  let main_v15 : IVec S80 1 := cmpi .sge main_v5 main_v14
  let main_c_3 : IVec S_ 32 := constantI S_ 32 16#32
  let main_v16 : IVec S80 32 := broadcastInDim S80 ![] bcast_S_S80 main_c_3
  let main_v17 : IVec S80 1 := cmpi .slt main_v5 main_v16
  let main_v18 : IVec S80 1 := andi main_v15 main_v17
  fn_part1 (F := F) main_v1 main_v3 main_v5 main_v7 main_v13 main_v18
-- ==== Pre_runs_ok_down.lean ====
abbrev S5x80 : Shape := ⟨2, ![5, 80]⟩
abbrev S20480x1536 : Shape := ⟨2, ![20480, 1536]⟩
abbrev S2x16x1536x4096 : Shape := ⟨4, ![2, 16, 1536, 4096]⟩
abbrev S20480 : Shape := ⟨1, ![20480]⟩
abbrev S1x80 : Shape := ⟨2, ![1, 80]⟩
abbrev S80 : Shape := ⟨1, ![80]⟩
abbrev S_ : Shape := ⟨0, ![]⟩
abbrev S1 : Shape := ⟨1, ![1]⟩
abbrev S79 : Shape := ⟨1, ![79]⟩

class Facts : Prop where
  slices_S5x80_S1x80_0_0 : S5x80.Slices ![0, 0] S1x80
  shapeCasts_S1x80_S80 : S1x80.ShapeCasts S80
  slices_S5x80_S1x80_2_0 : S5x80.Slices ![2, 0] S1x80
  slices_S5x80_S1x80_3_0 : S5x80.Slices ![3, 0] S1x80
  slices_S5x80_S1x80_4_0 : S5x80.Slices ![4, 0] S1x80
  bcast_S_S80 : S_.BroadcastsInDim S80 (![] : Fin 0 → Fin S80.rank)
  reducesTo_S80_S_d0 : S80.ReducesTo [0] S_
  h_S_ : 0 < S_.numel
  slices_S80_S1_0 : S80.Slices ![0] S1
  shapeCasts_S1_S_ : S1.ShapeCasts S_
  slices_S80_S79_1 : S80.Slices ![1] S79
  bcast_S_S79 : S_.BroadcastsInDim S79 (![] : Fin 0 → Fin S79.rank)
  slices_S80_S79_0 : S80.Slices ![0] S79
  reducesTo_S79_S_d0 : S79.ReducesTo [0] S_
  slices_S80_S1_79 : S80.Slices ![79] S1

variable [Facts]

def fn_part3 {F : FTy → Type} [FloatOps F] (main_v13 : IVec S_ 1) (main_v19 : IVec S_ 1) (main_v22 : IVec S_ 1) (main_v38 : IVec S_ 1) (main_v50 : IVec S_ 1) (main_v53 : IVec S_ 1) (main_v58 : IVec S_ 1) : IVec S_ 1 × IVec S_ 1 × IVec S_ 1 × IVec S_ 1 × IVec S_ 1 × IVec S_ 1 :=
  let main_v59 : IVec S_ 1 := andi main_v53 main_v58
  (main_v13, main_v19, main_v22, main_v38, main_v50, main_v59)

def fn_part2 {F : FTy → Type} [FloatOps F] (main_v1 : IVec S80 32) (main_v3 : IVec S80 32) (main_v5 : IVec S80 32) (main_v7 : IVec S80 32) (main_v13 : IVec S_ 1) (main_v19 : IVec S_ 1) (main_v22 : IVec S_ 1) (main_v38 : IVec S_ 1) : IVec S_ 1 × IVec S_ 1 × IVec S_ 1 × IVec S_ 1 × IVec S_ 1 × IVec S_ 1 :=
  let main_v39 : IVec S79 32 := (extractStridedSlice S79 ![1] · slices_S80_S79_1) main_v3
  let main_c_8 : IVec S_ 32 := constantI S_ 32 1#32
  let main_v40 : IVec S79 32 := broadcastInDim S79 ![] bcast_S_S79 main_c_8
  let main_v41 : IVec S79 1 := cmpi .ne main_v39 main_v40
  let main_v42 : IVec S79 32 := (extractStridedSlice S79 ![0] · slices_S80_S79_0) main_v7
  let main_c_9 : IVec S_ 32 := constantI S_ 32 1#32
  let main_v43 : IVec S79 32 := broadcastInDim S79 ![] bcast_S_S79 main_c_9
  let main_v44 : IVec S79 1 := cmpi .ne main_v42 main_v43
  let main_v45 : IVec S79 32 := (extractStridedSlice S79 ![0] · slices_S80_S79_0) main_v5
  let main_v46 : IVec S79 32 := (extractStridedSlice S79 ![1] · slices_S80_S79_1) main_v1
  let main_v47 : IVec S79 1 := cmpi .eq main_v45 main_v46
  let main_v48 : IVec S79 1 := andi main_v44 main_v47
  let main_v49 : IVec S79 1 := ori main_v41 main_v48
  let main_c_10 : IVec S_ 1 := constantI S_ 1 1#1
  let main_v50 : IVec S_ 1 := (fun x v => Host.reduce IntOp.andi x v reducesTo_S79_S_d0 h_S_) main_v49 main_c_10
  let main_v51 : IVec S1 32 := (extractStridedSlice S1 ![79] · slices_S80_S1_79) main_v7
  let main_v52 : IVec S_ 32 := shapeCast S_ main_v51 shapeCasts_S1_S_
  let main_c_11 : IVec S_ 32 := constantI S_ 32 1#32
  let main_v53 : IVec S_ 1 := cmpi .eq main_v52 main_c_11
  let main_v54 : IVec S1 32 := (extractStridedSlice S1 ![79] · slices_S80_S1_79) main_v5
  let main_v55 : IVec S_ 32 := shapeCast S_ main_v54 shapeCasts_S1_S_
  let main_v56 : IVec S1 32 := (extractStridedSlice S1 ![0] · slices_S80_S1_0) main_v1
  let main_v57 : IVec S_ 32 := shapeCast S_ main_v56 shapeCasts_S1_S_
  let main_v58 : IVec S_ 1 := cmpi .eq main_v55 main_v57
  fn_part3 (F := F) main_v13 main_v19 main_v22 main_v38 main_v50 main_v53 main_v58

def fn_part1 {F : FTy → Type} [FloatOps F] (main_v1 : IVec S80 32) (main_v3 : IVec S80 32) (main_v5 : IVec S80 32) (main_v7 : IVec S80 32) (main_v13 : IVec S_ 1) (main_v18 : IVec S80 1) : IVec S_ 1 × IVec S_ 1 × IVec S_ 1 × IVec S_ 1 × IVec S_ 1 × IVec S_ 1 :=
  let main_c_4 : IVec S_ 1 := constantI S_ 1 1#1
  let main_v19 : IVec S_ 1 := (fun x v => Host.reduce IntOp.andi x v reducesTo_S80_S_d0 h_S_) main_v18 main_c_4
  let main_v20 : IVec S1 32 := (extractStridedSlice S1 ![0] · slices_S80_S1_0) main_v3
  let main_v21 : IVec S_ 32 := shapeCast S_ main_v20 shapeCasts_S1_S_
  let main_c_5 : IVec S_ 32 := constantI S_ 32 1#32
  let main_v22 : IVec S_ 1 := cmpi .eq main_v21 main_c_5
  let main_v23 : IVec S79 32 := (extractStridedSlice S79 ![1] · slices_S80_S79_1) main_v3
  let main_c_6 : IVec S_ 32 := constantI S_ 32 1#32
  let main_v24 : IVec S79 32 := broadcastInDim S79 ![] bcast_S_S79 main_c_6
  let main_v25 : IVec S79 1 := cmpi .eq main_v23 main_v24
  let main_v26 : IVec S79 32 := (extractStridedSlice S79 ![1] · slices_S80_S79_1) main_v1
  let main_v27 : IVec S79 32 := (extractStridedSlice S79 ![0] · slices_S80_S79_0) main_v1
  let main_v28 : IVec S79 1 := cmpi .eq main_v26 main_v27
  let main_v29 : IVec S79 32 := (extractStridedSlice S79 ![1] · slices_S80_S79_1) main_v5
  let main_v30 : IVec S79 32 := (extractStridedSlice S79 ![0] · slices_S80_S79_0) main_v5
  let main_v31 : IVec S79 1 := cmpi .eq main_v29 main_v30
  let main_v32 : IVec S79 1 := andi main_v28 main_v31
  let main_v33 : IVec S79 32 := (extractStridedSlice S79 ![1] · slices_S80_S79_1) main_v7
  let main_v34 : IVec S79 32 := (extractStridedSlice S79 ![0] · slices_S80_S79_0) main_v7
  let main_v35 : IVec S79 1 := cmpi .eq main_v33 main_v34
  let main_v36 : IVec S79 1 := andi main_v32 main_v35
  let main_v37 : IVec S79 1 := ori main_v25 main_v36
  let main_c_7 : IVec S_ 1 := constantI S_ 1 1#1
  let main_v38 : IVec S_ 1 := (fun x v => Host.reduce IntOp.andi x v reducesTo_S79_S_d0 h_S_) main_v37 main_c_7
  fn_part2 (F := F) main_v1 main_v3 main_v5 main_v7 main_v13 main_v19 main_v22 main_v38

def fn {F : FTy → Type} [FloatOps F] (main_arg0 : IVec S5x80 32) (main_arg1 : FVec F S20480x1536 .bf16) (main_arg2 : FVec F S2x16x1536x4096 .f32) (main_arg3 : FVec F S20480 .f32) : IVec S_ 1 × IVec S_ 1 × IVec S_ 1 × IVec S_ 1 × IVec S_ 1 × IVec S_ 1 :=
  let main_v0 : IVec S1x80 32 := (extractStridedSlice S1x80 ![0, 0] · slices_S5x80_S1x80_0_0) main_arg0
  let main_v1 : IVec S80 32 := shapeCast S80 main_v0 shapeCasts_S1x80_S80
  let main_v2 : IVec S1x80 32 := (extractStridedSlice S1x80 ![2, 0] · slices_S5x80_S1x80_2_0) main_arg0
  let main_v3 : IVec S80 32 := shapeCast S80 main_v2 shapeCasts_S1x80_S80
  let main_v4 : IVec S1x80 32 := (extractStridedSlice S1x80 ![3, 0] · slices_S5x80_S1x80_3_0) main_arg0
  let main_v5 : IVec S80 32 := shapeCast S80 main_v4 shapeCasts_S1x80_S80
  let main_v6 : IVec S1x80 32 := (extractStridedSlice S1x80 ![4, 0] · slices_S5x80_S1x80_4_0) main_arg0
  let main_v7 : IVec S80 32 := shapeCast S80 main_v6 shapeCasts_S1x80_S80
  let main_c : IVec S_ 32 := constantI S_ 32 0#32
  let main_v8 : IVec S80 32 := broadcastInDim S80 ![] bcast_S_S80 main_c
  let main_v9 : IVec S80 1 := cmpi .sge main_v1 main_v8
  let main_c_0 : IVec S_ 32 := constantI S_ 32 16#32
  let main_v10 : IVec S80 32 := broadcastInDim S80 ![] bcast_S_S80 main_c_0
  let main_v11 : IVec S80 1 := cmpi .slt main_v1 main_v10
  let main_v12 : IVec S80 1 := andi main_v9 main_v11
  let main_c_1 : IVec S_ 1 := constantI S_ 1 1#1
  let main_v13 : IVec S_ 1 := (fun x v => Host.reduce IntOp.andi x v reducesTo_S80_S_d0 h_S_) main_v12 main_c_1
  let main_c_2 : IVec S_ 32 := constantI S_ 32 0#32
  let main_v14 : IVec S80 32 := broadcastInDim S80 ![] bcast_S_S80 main_c_2
  let main_v15 : IVec S80 1 := cmpi .sge main_v5 main_v14
  let main_c_3 : IVec S_ 32 := constantI S_ 32 16#32
  let main_v16 : IVec S80 32 := broadcastInDim S80 ![] bcast_S_S80 main_c_3
  let main_v17 : IVec S80 1 := cmpi .slt main_v5 main_v16
  let main_v18 : IVec S80 1 := andi main_v15 main_v17
  fn_part1 (F := F) main_v1 main_v3 main_v5 main_v7 main_v13 main_v18
-- ==== Kernel.lean ====
abbrev S8192x4096 : Shape := ⟨2, ![8192, 4096]⟩
abbrev S8192x6144 : Shape := ⟨2, ![8192, 6144]⟩
abbrev S8192x64 : Shape := ⟨2, ![8192, 64]⟩
abbrev S6144x4 : Shape := ⟨2, ![6144, 4]⟩
abbrev S6144 : Shape := ⟨1, ![6144]⟩
abbrev S64 : Shape := ⟨1, ![64]⟩
abbrev S4096 : Shape := ⟨1, ![4096]⟩
abbrev S4x6144 : Shape := ⟨2, ![4, 6144]⟩
abbrev S1x6144 : Shape := ⟨2, ![1, 6144]⟩
abbrev S64x8192 : Shape := ⟨2, ![64, 8192]⟩
abbrev S8x1x8 : Shape := ⟨3, ![8, 1, 8]⟩
abbrev S64x1 : Shape := ⟨2, ![64, 1]⟩
abbrev S64x64 : Shape := ⟨2, ![64, 64]⟩
abbrev S1x4096 : Shape := ⟨2, ![1, 4096]⟩
abbrev S128x512 : Shape := ⟨2, ![128, 512]⟩
abbrev S128x128 : Shape := ⟨2, ![128, 128]⟩
abbrev S4x512 : Shape := ⟨2, ![4, 512]⟩
abbrev S4x128 : Shape := ⟨2, ![4, 128]⟩
abbrev S1x512 : Shape := ⟨2, ![1, 512]⟩
abbrev S1x128 : Shape := ⟨2, ![1, 128]⟩
abbrev S8x128 : Shape := ⟨2, ![8, 128]⟩
abbrev S1x1x8 : Shape := ⟨3, ![1, 1, 8]⟩
abbrev S8x1 : Shape := ⟨2, ![8, 1]⟩
abbrev S136x768 : Shape := ⟨2, ![136, 768]⟩
abbrev S8x768 : Shape := ⟨2, ![8, 768]⟩
abbrev S4x768 : Shape := ⟨2, ![4, 768]⟩
abbrev S1x768 : Shape := ⟨2, ![1, 768]⟩
abbrev S128x768 : Shape := ⟨2, ![128, 768]⟩
abbrev S128x8 : Shape := ⟨2, ![128, 8]⟩
abbrev S1x8 : Shape := ⟨2, ![1, 8]⟩
abbrev S8x512 : Shape := ⟨2, ![8, 512]⟩
abbrev S128x1 : Shape := ⟨2, ![128, 1]⟩
abbrev S128 : Shape := ⟨1, ![128]⟩

abbrev nBuf : Space → Nat
  | .hbm => 21
  | .vmem => 38
  | .smem => 0
  | _ => 0

abbrev bufTy : (tb : Table) → Fin (tcTables nBuf tb) → BufTy
  | .hbm, ⟨0, _⟩ => ⟨S8192x4096, .f32⟩
  | .hbm, ⟨1, _⟩ => ⟨S8192x6144, .f32⟩
  | .hbm, ⟨2, _⟩ => ⟨S8192x64, .f32⟩
  | .hbm, ⟨3, _⟩ => ⟨S6144x4, .f32⟩
  | .hbm, ⟨4, _⟩ => ⟨S6144, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096, .f32⟩
  | .hbm, ⟨9, _⟩ => ⟨S4x6144, .f32⟩
  | .hbm, ⟨10, _⟩ => ⟨S1x6144, .f32⟩
  | .hbm, ⟨11, _⟩ => ⟨S64x8192, .f32⟩
  | .hbm, ⟨12, _⟩ => ⟨S8x1x8, .f32⟩
  | .hbm, ⟨13, _⟩ => ⟨S64x1, .f32⟩
  | .hbm, ⟨14, _⟩ => ⟨S8x1x8, .f32⟩
  | .hbm, ⟨15, _⟩ => ⟨S64x1, .f32⟩
  | .hbm, ⟨16, _⟩ => ⟨S64x64, .f32⟩
  | .hbm, ⟨17, _⟩ => ⟨S4096, .f32⟩
  | .hbm, ⟨18, _⟩ => ⟨S1x4096, .f32⟩
  | .hbm, ⟨19, _⟩ => ⟨S1x4096, .f32⟩
  | .hbm, ⟨20, _⟩ => ⟨S8192x4096, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S4x512, .f32⟩
  | .local _ .vmem, ⟨9, _⟩ => ⟨S4x512, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S1x512, .f32⟩
  | .local _ .vmem, ⟨15, _⟩ => ⟨S1x512, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S8x128, .f32⟩
  | .local _ .vmem, ⟨21, _⟩ => ⟨S8x128, .f32⟩
  | .local _ .vmem, ⟨22, _⟩ => ⟨S1x1x8, .f32⟩
  | .local _ .vmem, ⟨23, _⟩ => ⟨S1x1x8, .f32⟩
  | .local _ .vmem, ⟨24, _⟩ => ⟨S8x1, .f32⟩
  | .local _ .vmem, ⟨25, _⟩ => ⟨S8x1, .f32⟩
  | .local _ .vmem, ⟨26, _⟩ => ⟨S1x1x8, .f32⟩
  | .local _ .vmem, ⟨27, _⟩ => ⟨S1x1x8, .f32⟩
  | .local _ .vmem, ⟨28, _⟩ => ⟨S8x1, .f32⟩
  | .local _ .vmem, ⟨29, _⟩ => ⟨S8x1, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S128x512, .bf16⟩
  | .local _ .vmem, ⟨35, _⟩ => ⟨S128x512, .bf16⟩
  | .local _ .vmem, ⟨36, _⟩ => ⟨S128x512, .f32⟩
  | .local _ .vmem, ⟨37, _⟩ => ⟨S136x768, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![2, 8, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c32_i32_0 : BitVec 32 := 32#32
  let v2 : BitVec 32 := Scalar.addi c32_i32_0 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c40_i32 : BitVec 32 := 40#32
  let v2 : BitVec 32 := Scalar.addi c40_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![arg1.toNat, v1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S8x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x1x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S8x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true, false]

abbrev stage0_17 : Fin 2 → Memref sig .tc .vmem S128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== ReferenceIdeal.lean ====
abbrev S8192x4096 : Shape := ⟨2, ![8192, 4096]⟩
abbrev S8192x6144 : Shape := ⟨2, ![8192, 6144]⟩
abbrev S8192x64 : Shape := ⟨2, ![8192, 64]⟩
abbrev S6144x4 : Shape := ⟨2, ![6144, 4]⟩
abbrev S6144 : Shape := ⟨1, ![6144]⟩
abbrev S64 : Shape := ⟨1, ![64]⟩
abbrev S4096 : Shape := ⟨1, ![4096]⟩
abbrev S2x4096x6144 : Shape := ⟨3, ![2, 4096, 6144]⟩
abbrev S2x4096x64 : Shape := ⟨3, ![2, 4096, 64]⟩
abbrev S_ : Shape := ⟨0, ![]⟩
abbrev S2x4099x6144 : Shape := ⟨3, ![2, 4099, 6144]⟩
abbrev S6144x1 : Shape := ⟨2, ![6144, 1]⟩
abbrev S1x1x6144 : Shape := ⟨3, ![1, 1, 6144]⟩
abbrev S2x4096x4096 : Shape := ⟨3, ![2, 4096, 4096]⟩
abbrev S2x4096x1024 : Shape := ⟨3, ![2, 4096, 1024]⟩
abbrev S2x4096x8x8x64 : Shape := ⟨5, ![2, 4096, 8, 8, 64]⟩
abbrev S2x4096x8x128 : Shape := ⟨4, ![2, 4096, 8, 128]⟩
abbrev S1x1x64 : Shape := ⟨3, ![1, 1, 64]⟩
abbrev S2x4096x8x8 : Shape := ⟨4, ![2, 4096, 8, 8]⟩
abbrev S8x8 : Shape := ⟨2, ![8, 8]⟩
abbrev S2x4096x8x8x1 : Shape := ⟨5, ![2, 4096, 8, 8, 1]⟩
abbrev S2x32x128x8x8x64 : Shape := ⟨6, ![2, 32, 128, 8, 8, 64]⟩
abbrev S1x1x8x8 : Shape := ⟨4, ![1, 1, 8, 8]⟩
abbrev S2x32x128x8x8 : Shape := ⟨5, ![2, 32, 128, 8, 8]⟩
abbrev S2x32x8x8x128 : Shape := ⟨5, ![2, 32, 8, 8, 128]⟩
abbrev S2x32x128x8x128 : Shape := ⟨5, ![2, 32, 128, 8, 128]⟩
abbrev S2x32x8x8x1 : Shape := ⟨5, ![2, 32, 8, 8, 1]⟩
abbrev S2x32x128x8x8x1 : Shape := ⟨6, ![2, 32, 128, 8, 8, 1]⟩
abbrev S2x32x8x8x64x128 : Shape := ⟨6, ![2, 32, 8, 8, 64, 128]⟩
abbrev S2x32x8x8 : Shape := ⟨4, ![2, 32, 8, 8]⟩
abbrev S2x8x8x64x128 : Shape := ⟨5, ![2, 8, 8, 64, 128]⟩
abbrev S32x2x8x8x64x128 : Shape := ⟨6, ![32, 2, 8, 8, 64, 128]⟩
abbrev S32x2x8x8 : Shape := ⟨4, ![32, 2, 8, 8]⟩
abbrev S1x2x8x8x64x128 : Shape := ⟨6, ![1, 2, 8, 8, 64, 128]⟩
abbrev S1x2x8x8 : Shape := ⟨4, ![1, 2, 8, 8]⟩
abbrev S2x8x8 : Shape := ⟨3, ![2, 8, 8]⟩
abbrev S2x8x8x1x1 : Shape := ⟨5, ![2, 8, 8, 1, 1]⟩
abbrev S2x32x8x128x128 : Shape := ⟨5, ![2, 32, 8, 128, 128]⟩
abbrev S2x32x8x1x128x128 : Shape := ⟨6, ![2, 32, 8, 1, 128, 128]⟩
abbrev S2x32x8x8x128x1 : Shape := ⟨6, ![2, 32, 8, 8, 128, 1]⟩
abbrev S2x32x8x8x1x128 : Shape := ⟨6, ![2, 32, 8, 8, 1, 128]⟩
abbrev S2x32x8x8x128x128 : Shape := ⟨6, ![2, 32, 8, 8, 128, 128]⟩
abbrev S128x128 : Shape := ⟨2, ![128, 128]⟩
abbrev S8x8x1 : Shape := ⟨3, ![8, 8, 1]⟩
abbrev S1x1x8x8x1 : Shape := ⟨5, ![1, 1, 8, 8, 1]⟩
abbrev S2x4096x8x512 : Shape := ⟨4, ![2, 4096, 8, 512]⟩
abbrev S2x4096x8 : Shape := ⟨3, ![2, 4096, 8]⟩
abbrev S2x4096x8x1 : Shape := ⟨4, ![2, 4096, 8, 1]⟩
abbrev S1x1x4096 : Shape := ⟨3, ![1, 1, 4096]⟩

abbrev nBuf : Space → Nat
  | .hbm => 317
  | .vmem => 0
  | .smem => 0
  | _ => 0

abbrev hbmTy0_0 (i : Nat) : BufTy := match i % 128 with
  | 0 => ⟨S8192x4096, .f32⟩
  | 1 => ⟨S8192x6144, .f32⟩
  | 2 => ⟨S8192x64, .f32⟩
  | 3 => ⟨S6144x4, .f32⟩
  | 4 => ⟨S6144, .f32⟩
  | 5 => ⟨S64, .f32⟩
  | 6 => ⟨S64, .f32⟩
  | 7 => ⟨S64, .f32⟩
  | 8 => ⟨S4096, .f32⟩
  | 9 => ⟨S2x4096x6144, .f32⟩
  | 10 => ⟨S2x4096x64, .f32⟩
  | 11 => ⟨S_, .i32⟩
  | 12 => ⟨S_, .f32⟩
  | 13 => ⟨S2x4099x6144, .f32⟩
  | 14 => ⟨S2x4096x6144, .f32⟩
  | 15 => ⟨S6144x1, .f32⟩
  | 16 => ⟨S6144, .f32⟩
  | 17 => ⟨S1x1x6144, .f32⟩
  | 18 => ⟨S2x4096x6144, .f32⟩
  | 19 => ⟨S2x4096x6144, .f32⟩
  | 20 => ⟨S_, .f32⟩
  | 21 => ⟨S2x4096x6144, .f32⟩
  | 22 => ⟨S2x4096x6144, .f32⟩
  | 23 => ⟨S2x4096x6144, .f32⟩
  | 24 => ⟨S6144x1, .f32⟩
  | 25 => ⟨S6144, .f32⟩
  | 26 => ⟨S1x1x6144, .f32⟩
  | 27 => ⟨S2x4096x6144, .f32⟩
  | 28 => ⟨S2x4096x6144, .f32⟩
  | 29 => ⟨S2x4096x6144, .f32⟩
  | 30 => ⟨S2x4096x6144, .f32⟩
  | 31 => ⟨S6144x1, .f32⟩
  | 32 => ⟨S6144, .f32⟩
  | 33 => ⟨S1x1x6144, .f32⟩
  | 34 => ⟨S2x4096x6144, .f32⟩
  | 35 => ⟨S2x4096x6144, .f32⟩
  | 36 => ⟨S2x4096x6144, .f32⟩
  | 37 => ⟨S2x4096x6144, .f32⟩
  | 38 => ⟨S6144x1, .f32⟩
  | 39 => ⟨S6144, .f32⟩
  | 40 => ⟨S1x1x6144, .f32⟩
  | 41 => ⟨S2x4096x6144, .f32⟩
  | 42 => ⟨S2x4096x6144, .f32⟩
  | 43 => ⟨S2x4096x6144, .f32⟩
  | 44 => ⟨S1x1x6144, .f32⟩
  | 45 => ⟨S2x4096x6144, .f32⟩
  | 46 => ⟨S2x4096x6144, .f32⟩
  | 47 => ⟨S2x4096x6144, .f32⟩
  | 48 => ⟨S2x4096x6144, .f32⟩
  | 49 => ⟨S_, .f32⟩
  | 50 => ⟨S2x4096x6144, .f32⟩
  | 51 => ⟨S2x4096x6144, .f32⟩
  | 52 => ⟨S_, .f32⟩
  | 53 => ⟨S2x4096x6144, .f32⟩
  | 54 => ⟨S2x4096x6144, .f32⟩
  | 55 => ⟨S2x4096x6144, .f32⟩
  | 56 => ⟨S2x4096x4096, .f32⟩
  | 57 => ⟨S2x4096x1024, .f32⟩
  | 58 => ⟨S2x4096x1024, .f32⟩
  | 59 => ⟨S2x4096x8x8x64, .f32⟩
  | 60 => ⟨S2x4096x8x128, .f32⟩
  | 61 => ⟨S2x4096x8x128, .f32⟩
  | 62 => ⟨S1x1x64, .f32⟩
  | 63 => ⟨S2x4096x64, .f32⟩
  | 64 => ⟨S2x4096x64, .f32⟩
  | 65 => ⟨S_, .f32⟩
  | 66 => ⟨S2x4096x64, .f32⟩
  | 67 => ⟨S2x4096x64, .f32⟩
  | 68 => ⟨S2x4096x64, .f32⟩
  | 69 => ⟨S2x4096x64, .f32⟩
  | 70 => ⟨S2x4096x64, .i1⟩
  | 71 => ⟨S2x4096x64, .f32⟩
  | 72 => ⟨S2x4096x64, .f32⟩
  | 73 => ⟨S2x4096x64, .f32⟩
  | 74 => ⟨S2x4096x64, .f32⟩
  | 75 => ⟨S2x4096x64, .f32⟩
  | 76 => ⟨S2x4096x64, .f32⟩
  | 77 => ⟨S2x4096x64, .f32⟩
  | 78 => ⟨S2x4096x64, .f32⟩
  | 79 => ⟨S2x4096x8x8, .f32⟩
  | 80 => ⟨S64, .f32⟩
  | 81 => ⟨S8x8, .f32⟩
  | 82 => ⟨S8x8, .f32⟩
  | 83 => ⟨S2x4096x8x8x1, .f32⟩
  | 84 => ⟨S2x4096x8x8x64, .f32⟩
  | 85 => ⟨S2x4096x8x8x64, .f32⟩
  | 86 => ⟨S2x32x128x8x8x64, .f32⟩
  | 87 => ⟨S1x1x8x8, .f32⟩
  | 88 => ⟨S2x4096x8x8, .f32⟩
  | 89 => ⟨S2x4096x8x8, .f32⟩
  | 90 => ⟨S2x32x128x8x8, .f32⟩
  | 91 => ⟨S2x32x8x8x128, .f32⟩
  | 92 => ⟨S_, .f32⟩
  | 93 => ⟨S_, .f32⟩
  | 94 => ⟨S2x32x8x8x128, .f32⟩
  | 95 => ⟨S2x32x128x8x128, .f32⟩
  | 96 => ⟨S2x32x128x8x128, .f32⟩
  | 97 => ⟨S2x32x8x8x1, .f32⟩
  | 98 => ⟨S2x32x8x8x128, .f32⟩
  | 99 => ⟨S2x32x8x8x128, .f32⟩
  | 100 => ⟨S2x32x8x8x128, .f32⟩
  | 101 => ⟨S2x32x128x8x8, .f32⟩
  | 102 => ⟨S2x32x128x8x8x1, .f32⟩
  | 103 => ⟨S2x32x128x8x8x64, .f32⟩
  | 104 => ⟨S2x32x128x8x8x64, .f32⟩
  | 105 => ⟨S2x32x8x8x64x128, .f32⟩
  | 106 => ⟨S2x32x8x8x1, .f32⟩
  | 107 => ⟨S2x32x8x8, .f32⟩
  | 108 => ⟨S2x32x8x8, .f32⟩
  | 109 => ⟨S_, .f32⟩
  | 110 => ⟨S2x8x8x64x128, .f32⟩
  | 111 => ⟨S32x2x8x8x64x128, .f32⟩
  | 112 => ⟨S32x2x8x8, .f32⟩
  | 113 => ⟨S_, .f32⟩
  | 114 => ⟨S32x2x8x8x64x128, .f32⟩
  | 115 => ⟨S_, .i32⟩
  | 116 => ⟨S32x2x8x8x64x128, .f32⟩
  | 117 => ⟨S32x2x8x8, .f32⟩
  | 118 => ⟨S_, .i32⟩
  | 119 => ⟨S2x8x8x64x128, .f32⟩
  | 120 => ⟨S32x2x8x8x64x128, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S8192x4096, .f32⟩

abbrev hbmTy0_1 (i : Nat) : BufTy := match i % 128 with
  | 0 => ⟨S1x2x8x8x64x128, .f32⟩
  | 1 => ⟨S2x8x8x64x128, .f32⟩
  | 2 => ⟨S_, .i32⟩
  | 3 => ⟨S_, .i32⟩
  | 4 => ⟨S_, .i32⟩
  | 5 => ⟨S1x2x8x8, .f32⟩
  | 6 => ⟨S2x8x8, .f32⟩
  | 7 => ⟨S2x8x8x1x1, .f32⟩
  | 8 => ⟨S2x8x8x64x128, .f32⟩
  | 9 => ⟨S2x8x8x64x128, .f32⟩
  | 10 => ⟨S2x8x8x64x128, .f32⟩
  | 11 => ⟨S1x2x8x8x64x128, .f32⟩
  | 12 => ⟨S_, .i32⟩
  | 13 => ⟨S_, .i32⟩
  | 14 => ⟨S_, .i32⟩
  | 15 => ⟨S_, .i32⟩
  | 16 => ⟨S_, .i32⟩
  | 17 => ⟨S32x2x8x8x64x128, .f32⟩
  | 18 => ⟨S_, .i32⟩
  | 19 => ⟨S_, .i32⟩
  | 20 => ⟨S2x4096x6144, .f32⟩
  | 21 => ⟨S2x4096x64, .f32⟩
  | 22 => ⟨S_, .i32⟩
  | 23 => ⟨S_, .f32⟩
  | 24 => ⟨S2x4099x6144, .f32⟩
  | 25 => ⟨S2x4096x6144, .f32⟩
  | 26 => ⟨S6144x1, .f32⟩
  | 27 => ⟨S6144, .f32⟩
  | 28 => ⟨S1x1x6144, .f32⟩
  | 29 => ⟨S2x4096x6144, .f32⟩
  | 30 => ⟨S2x4096x6144, .f32⟩
  | 31 => ⟨S_, .f32⟩
  | 32 => ⟨S2x4096x6144, .f32⟩
  | 33 => ⟨S2x4096x6144, .f32⟩
  | 34 => ⟨S2x4096x6144, .f32⟩
  | 35 => ⟨S6144x1, .f32⟩
  | 36 => ⟨S6144, .f32⟩
  | 37 => ⟨S1x1x6144, .f32⟩
  | 38 => ⟨S2x4096x6144, .f32⟩
  | 39 => ⟨S2x4096x6144, .f32⟩
  | 40 => ⟨S2x4096x6144, .f32⟩
  | 41 => ⟨S2x4096x6144, .f32⟩
  | 42 => ⟨S6144x1, .f32⟩
  | 43 => ⟨S6144, .f32⟩
  | 44 => ⟨S1x1x6144, .f32⟩
  | 45 => ⟨S2x4096x6144, .f32⟩
  | 46 => ⟨S2x4096x6144, .f32⟩
  | 47 => ⟨S2x4096x6144, .f32⟩
  | 48 => ⟨S2x4096x6144, .f32⟩
  | 49 => ⟨S6144x1, .f32⟩
  | 50 => ⟨S6144, .f32⟩
  | 51 => ⟨S1x1x6144, .f32⟩
  | 52 => ⟨S2x4096x6144, .f32⟩
  | 53 => ⟨S2x4096x6144, .f32⟩
  | 54 => ⟨S2x4096x6144, .f32⟩
  | 55 => ⟨S1x1x6144, .f32⟩
  | 56 => ⟨S2x4096x6144, .f32⟩
  | 57 => ⟨S2x4096x6144, .f32⟩
  | 58 => ⟨S2x4096x6144, .f32⟩
  | 59 => ⟨S2x4096x6144, .f32⟩
  | 60 => ⟨S_, .f32⟩
  | 61 => ⟨S2x4096x6144, .f32⟩
  | 62 => ⟨S2x4096x6144, .f32⟩
  | 63 => ⟨S_, .f32⟩
  | 64 => ⟨S2x4096x6144, .f32⟩
  | 65 => ⟨S2x4096x6144, .f32⟩
  | 66 => ⟨S2x4096x6144, .f32⟩
  | 67 => ⟨S2x4096x4096, .f32⟩
  | 68 => ⟨S2x4096x1024, .f32⟩
  | 69 => ⟨S2x4096x1024, .f32⟩
  | 70 => ⟨S2x4096x8x8x64, .f32⟩
  | 71 => ⟨S2x4096x8x128, .f32⟩
  | 72 => ⟨S2x4096x8x128, .f32⟩
  | 73 => ⟨S1x1x64, .f32⟩
  | 74 => ⟨S2x4096x64, .f32⟩
  | 75 => ⟨S2x4096x64, .f32⟩
  | 76 => ⟨S_, .f32⟩
  | 77 => ⟨S2x4096x64, .f32⟩
  | 78 => ⟨S2x4096x64, .f32⟩
  | 79 => ⟨S2x4096x64, .f32⟩
  | 80 => ⟨S2x4096x64, .f32⟩
  | 81 => ⟨S2x4096x64, .i1⟩
  | 82 => ⟨S2x4096x64, .f32⟩
  | 83 => ⟨S2x4096x64, .f32⟩
  | 84 => ⟨S2x4096x64, .f32⟩
  | 85 => ⟨S2x4096x64, .f32⟩
  | 86 => ⟨S2x4096x64, .f32⟩
  | 87 => ⟨S2x4096x64, .f32⟩
  | 88 => ⟨S2x4096x64, .f32⟩
  | 89 => ⟨S2x4096x64, .f32⟩
  | 90 => ⟨S2x4096x8x8, .f32⟩
  | 91 => ⟨S64, .f32⟩
  | 92 => ⟨S8x8, .f32⟩
  | 93 => ⟨S8x8, .f32⟩
  | 94 => ⟨S2x4096x8x8x1, .f32⟩
  | 95 => ⟨S2x4096x8x8x64, .f32⟩
  | 96 => ⟨S2x4096x8x8x64, .f32⟩
  | 97 => ⟨S2x32x128x8x8x64, .f32⟩
  | 98 => ⟨S1x1x8x8, .f32⟩
  | 99 => ⟨S2x4096x8x8, .f32⟩
  | 100 => ⟨S2x4096x8x8, .f32⟩
  | 101 => ⟨S2x32x128x8x8, .f32⟩
  | 102 => ⟨S2x32x8x8x128, .f32⟩
  | 103 => ⟨S_, .f32⟩
  | 104 => ⟨S_, .f32⟩
  | 105 => ⟨S2x32x8x8x128, .f32⟩
  | 106 => ⟨S2x32x128x8x128, .f32⟩
  | 107 => ⟨S2x32x128x8x128, .f32⟩
  | 108 => ⟨S2x32x8x128x128, .f32⟩
  | 109 => ⟨S2x32x8x1x128x128, .f32⟩
  | 110 => ⟨S2x32x8x8x128x1, .f32⟩
  | 111 => ⟨S2x32x8x8x1x128, .f32⟩
  | 112 => ⟨S2x32x8x8x128x128, .f32⟩
  | 113 => ⟨S2x32x8x8x128x128, .f32⟩
  | 114 => ⟨S2x32x8x8x128x128, .f32⟩
  | 115 => ⟨S_, .i1⟩
  | 116 => ⟨S128x128, .i1⟩
  | 117 => ⟨S128x128, .i32⟩
  | 118 => ⟨S_, .i32⟩
  | 119 => ⟨S128x128, .i32⟩
  | 120 => ⟨S128x128, .i32⟩
  | 121 => ⟨S128x128, .i32⟩
  | 122 => ⟨S128x128, .i1⟩
  | 123 => ⟨S_, .i1⟩
  | 124 => ⟨S128x128, .i1⟩
  | 125 => ⟨S128x128, .i1⟩
  | 126 => ⟨S_, .f32⟩
  | 127 => ⟨S_, .f32⟩
  | _ => ⟨S8192x4096, .f32⟩

abbrev hbmTy0_2 (i : Nat) : BufTy := match i % 128 with
  | 0 => ⟨S2x32x8x8x128x128, .i1⟩
  | 1 => ⟨S2x32x8x8x128x128, .f32⟩
  | 2 => ⟨S2x32x8x8x128x128, .f32⟩
  | 3 => ⟨S2x32x8x8x128x128, .f32⟩
  | 4 => ⟨S_, .f32⟩
  | 5 => ⟨S_, .f32⟩
  | 6 => ⟨S2x32x8x8x128x128, .i1⟩
  | 7 => ⟨S2x32x8x8x128x128, .f32⟩
  | 8 => ⟨S2x32x8x8x128x128, .f32⟩
  | 9 => ⟨S2x32x8x8x128x128, .f32⟩
  | 10 => ⟨S2x32x8x8x128x128, .f32⟩
  | 11 => ⟨S2x32x8x8x64x128, .f32⟩
  | 12 => ⟨S2x32x128x8x8x64, .f32⟩
  | 13 => ⟨S2x32x8x8x64x128, .f32⟩
  | 14 => ⟨S2x32x8x8x64x128, .f32⟩
  | 15 => ⟨S2x32x128x8x8x64, .f32⟩
  | 16 => ⟨S2x32x8x8x128, .f32⟩
  | 17 => ⟨S2x32x128x8x8, .f32⟩
  | 18 => ⟨S2x32x128x8x8x1, .f32⟩
  | 19 => ⟨S2x32x128x8x8x64, .f32⟩
  | 20 => ⟨S2x32x128x8x8x64, .f32⟩
  | 21 => ⟨S2x32x128x8x8x64, .f32⟩
  | 22 => ⟨S2x4096x8x8x64, .f32⟩
  | 23 => ⟨S8x8, .f32⟩
  | 24 => ⟨S8x8x1, .f32⟩
  | 25 => ⟨S1x1x8x8x1, .f32⟩
  | 26 => ⟨S2x4096x8x8x64, .f32⟩
  | 27 => ⟨S2x4096x8x8x64, .f32⟩
  | 28 => ⟨S2x4096x8x8x64, .f32⟩
  | 29 => ⟨S2x4096x4096, .f32⟩
  | 30 => ⟨S2x4096x4096, .f32⟩
  | 31 => ⟨S2x4096x4096, .f32⟩
  | 32 => ⟨S2x4096x4096, .f32⟩
  | 33 => ⟨S_, .f32⟩
  | 34 => ⟨S2x4096x4096, .f32⟩
  | 35 => ⟨S2x4096x4096, .f32⟩
  | 36 => ⟨S_, .f32⟩
  | 37 => ⟨S2x4096x4096, .f32⟩
  | 38 => ⟨S2x4096x4096, .f32⟩
  | 39 => ⟨S2x4096x4096, .f32⟩
  | 40 => ⟨S2x4096x4096, .f32⟩
  | 41 => ⟨S2x4096x8x512, .f32⟩
  | 42 => ⟨S2x4096x8x512, .f32⟩
  | 43 => ⟨S_, .f32⟩
  | 44 => ⟨S2x4096x8, .f32⟩
  | 45 => ⟨S2x4096x8x1, .f32⟩
  | 46 => ⟨S_, .f32⟩
  | 47 => ⟨S2x4096x8x1, .f32⟩
  | 48 => ⟨S2x4096x8x1, .f32⟩
  | 49 => ⟨S_, .f32⟩
  | 50 => ⟨S2x4096x8x1, .f32⟩
  | 51 => ⟨S2x4096x8x1, .f32⟩
  | 52 => ⟨S2x4096x8x1, .f32⟩
  | 53 => ⟨S2x4096x8x512, .f32⟩
  | 54 => ⟨S2x4096x8x512, .f32⟩
  | 55 => ⟨S2x4096x4096, .f32⟩
  | 56 => ⟨S1x1x4096, .f32⟩
  | 57 => ⟨S2x4096x4096, .f32⟩
  | 58 => ⟨S2x4096x4096, .f32⟩
  | 59 => ⟨S8192x4096, .f32⟩
  | 60 => ⟨S8192x4096, .bf16⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call3_call0_cst : Ref sig .tc := ⟨.hbm, 92, rfl⟩
abbrev main_call3_call0_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_1 : Ref sig .tc := ⟨.hbm, 113, rfl⟩
abbrev main_v77 : Ref sig .tc := ⟨.hbm, 114, rfl⟩
abbrev main_c_2 : Ref sig .tc := ⟨.hbm, 115, rfl⟩
abbrev main_v78_0 : Ref sig .tc := ⟨.hbm, 116, rfl⟩
abbrev main_v78_1 : Ref sig .tc := ⟨.hbm, 117, rfl⟩
abbrev main_v78_2 : Ref sig .tc := ⟨.hbm, 118, rfl⟩
abbrev main_v78_3 : Ref sig .tc := ⟨.hbm, 119, rfl⟩
abbrev main_v78_4 : Ref sig .tc := ⟨.hbm, 120, rfl⟩
abbrev main_while0c_c_15 : Ref sig .tc := ⟨.hbm, 121, rfl⟩
abbrev main_while0c_v194 : Ref sig .tc := ⟨.hbm, 122, rfl⟩
abbrev main_while0b_call4_c : Ref sig .tc := ⟨.hbm, 123, rfl⟩
abbrev main_while0b_call4_c_0 : Ref sig .tc := ⟨.hbm, 124, rfl⟩
abbrev main_while0b_call4_c_1 : Ref sig .tc := ⟨.hbm, 125, rfl⟩
abbrev main_while0b_call4_c_2 : Ref sig .tc := ⟨.hbm, 126, rfl⟩
abbrev main_while0b_call4_c_3 : Ref sig .tc := ⟨.hbm, 127, rfl⟩
abbrev main_while0b_call4_v0 : Ref sig .tc := ⟨.hbm, 128, rfl⟩
abbrev main_while0b_v194 : Ref sig .tc := ⟨.hbm, 129, rfl⟩
abbrev main_while0b_call5_c : Ref sig .tc := ⟨.hbm, 130, rfl⟩
abbrev main_while0b_call5_c_0 : Ref sig .tc := ⟨.hbm, 131, rfl⟩
abbrev main_while0b_call5_c_1 : Ref sig .tc := ⟨.hbm, 132, rfl⟩
abbrev main_while0b_call5_v0 : Ref sig .tc := ⟨.hbm, 133, rfl⟩
abbrev main_while0b_v195 : Ref sig .tc := ⟨.hbm, 134, rfl⟩
abbrev main_while0b_v196 : Ref sig .tc := ⟨.hbm, 135, rfl⟩
abbrev main_while0b_v197 : Ref sig .tc := ⟨.hbm, 136, rfl⟩
abbrev main_while0b_v198 : Ref sig .tc := ⟨.hbm, 137, rfl⟩
abbrev main_while0b_v199 : Ref sig .tc := ⟨.hbm, 138, rfl⟩
abbrev main_while0b_call6_v0 : Ref sig .tc := ⟨.hbm, 139, rfl⟩
abbrev main_while0b_call6_c : Ref sig .tc := ⟨.hbm, 140, rfl⟩
abbrev main_while0b_call6_c_0 : Ref sig .tc := ⟨.hbm, 141, rfl⟩
abbrev main_while0b_call6_c_1 : Ref sig .tc := ⟨.hbm, 142, rfl⟩
abbrev main_while0b_call6_c_2 : Ref sig .tc := ⟨.hbm, 143, rfl⟩
abbrev main_while0b_call6_c_3 : Ref sig .tc := ⟨.hbm, 144, rfl⟩
abbrev main_while0b_v200 : Ref sig .tc := ⟨.hbm, 145, rfl⟩
abbrev main_while0b_c_15 : Ref sig .tc := ⟨.hbm, 146, rfl⟩
abbrev main_while0b_v201 : Ref sig .tc := ⟨.hbm, 147, rfl⟩
abbrev main_v79 : Ref sig .tc := ⟨.hbm, 148, rfl⟩
abbrev main_v80 : Ref sig .tc := ⟨.hbm, 149, rfl⟩
abbrev main_c_3 : Ref sig .tc := ⟨.hbm, 150, rfl⟩
abbrev main_call7_v0 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_4 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_call8_v0 : Ref sig .tc := ⟨.hbm, 186, rfl⟩
abbrev main_call8_v1 : Ref sig .tc := ⟨.hbm, 187, rfl⟩
abbrev main_call8_cst : Ref sig .tc := ⟨.hbm, 188, rfl⟩
abbrev main_call8_v2 : Ref sig .tc := ⟨.hbm, 189, rfl⟩
abbrev main_call8_v3 : Ref sig .tc := ⟨.hbm, 190, rfl⟩
abbrev main_call8_cst_0 : Ref sig .tc := ⟨.hbm, 191, rfl⟩
abbrev main_call8_v4 : Ref sig .tc := ⟨.hbm, 192, rfl⟩
abbrev main_call8_v5 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_call9_cst : Ref sig .tc := ⟨.hbm, 204, rfl⟩
abbrev main_call9_v0 : Ref sig .tc := ⟨.hbm, 205, rfl⟩
abbrev main_call9_v1 : Ref sig .tc := ⟨.hbm, 206, rfl⟩
abbrev main_call9_v2 : Ref sig .tc := ⟨.hbm, 207, rfl⟩
abbrev main_call9_v3 : Ref sig .tc := ⟨.hbm, 208, rfl⟩
abbrev main_call9_v4 : Ref sig .tc := ⟨.hbm, 209, rfl⟩
abbrev main_call9_v5 : Ref sig .tc := ⟨.hbm, 210, rfl⟩
abbrev main_call9_v6 : Ref sig .tc := ⟨.hbm, 211, rfl⟩
abbrev main_call9_v7 : Ref sig .tc := ⟨.hbm, 212, rfl⟩
abbrev main_call9_v8 : Ref sig .tc := ⟨.hbm, 213, rfl⟩
abbrev main_call9_v9 : Ref sig .tc := ⟨.hbm, 214, rfl⟩
abbrev main_call9_v10 : Ref sig .tc := ⟨.hbm, 215, rfl⟩
abbrev main_call9_v11 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_call10_call0_cst : Ref sig .tc := ⟨.hbm, 231, rfl⟩
abbrev main_call10_call0_v0 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_c_5 : Ref sig .tc := ⟨.hbm, 243, rfl⟩
abbrev main_v148 : Ref sig .tc := ⟨.hbm, 244, rfl⟩
abbrev main_call11_v0 : Ref sig .tc := ⟨.hbm, 245, rfl⟩
abbrev main_call11_c : Ref sig .tc := ⟨.hbm, 246, rfl⟩
abbrev main_call11_v1 : Ref sig .tc := ⟨.hbm, 247, rfl⟩
abbrev main_call11_v2 : Ref sig .tc := ⟨.hbm, 248, rfl⟩
abbrev main_call11_v3 : Ref sig .tc := ⟨.hbm, 249, rfl⟩
abbrev main_call11_v4 : Ref sig .tc := ⟨.hbm, 250, rfl⟩
abbrev main_call11_c_0 : Ref sig .tc := ⟨.hbm, 251, rfl⟩
abbrev main_call11_v5 : Ref sig .tc := ⟨.hbm, 252, rfl⟩
abbrev main_v149 : Ref sig .tc := ⟨.hbm, 253, rfl⟩
abbrev main_cst_6 : Ref sig .tc := ⟨.hbm, 254, rfl⟩
abbrev main_call12_v0 : Ref sig .tc := ⟨.hbm, 255, rfl⟩
abbrev main_call12_v1 : Ref sig .tc := ⟨.hbm, 256, rfl⟩
abbrev main_call12_v2 : Ref sig .tc := ⟨.hbm, 257, rfl⟩
abbrev main_v150 : Ref sig .tc := ⟨.hbm, 258, rfl⟩
abbrev main_v151 : Ref sig .tc := ⟨.hbm, 259, rfl⟩
abbrev main_cst_7 : Ref sig .tc := ⟨.hbm, 260, rfl⟩
abbrev main_call13_v0 : Ref sig .tc := ⟨.hbm, 261, rfl⟩
abbrev main_call13_v1 : Ref sig .tc := ⟨.hbm, 262, rfl⟩
abbrev main_call13_v2 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_call14_v0 : Ref sig .tc := ⟨.hbm, 287, rfl⟩
abbrev main_call14_v1 : Ref sig .tc := ⟨.hbm, 288, rfl⟩
abbrev main_call14_cst : Ref sig .tc := ⟨.hbm, 289, rfl⟩
abbrev main_call14_v2 : Ref sig .tc := ⟨.hbm, 290, rfl⟩
abbrev main_call14_v3 : Ref sig .tc := ⟨.hbm, 291, rfl⟩
abbrev main_call14_cst_0 : Ref sig .tc := ⟨.hbm, 292, rfl⟩
abbrev main_call14_v4 : Ref sig .tc := ⟨.hbm, 293, rfl⟩
abbrev main_call14_v5 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_cst_8 : Ref sig .tc := ⟨.hbm, 299, rfl⟩
abbrev main_v179 : Ref sig .tc := ⟨.hbm, 300, rfl⟩
abbrev main_v180 : Ref sig .tc := ⟨.hbm, 301, rfl⟩
abbrev main_cst_9 : Ref sig .tc := ⟨.hbm, 302, rfl⟩
abbrev main_v181 : Ref sig .tc := ⟨.hbm, 303, rfl⟩
abbrev main_v182 : Ref sig .tc := ⟨.hbm, 304, rfl⟩
abbrev main_cst_10 : Ref sig .tc := ⟨.hbm, 305, rfl⟩
abbrev main_v183 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩

abbrev nD : Nat := 1
abbrev τ : Topo := Topo.v7x

variable {F : FTy → Type} [FloatOps F]

abbrev main_while0_count : Scf.Loop 32 := ⟨0#32, 32#32, 1#32⟩
-- ==== KernelZ.lean ====
abbrev S8192x4096 : Shape := ⟨2, ![8192, 4096]⟩
abbrev S4096x15424 : Shape := ⟨2, ![4096, 15424]⟩
abbrev S15424x4096 : Shape := ⟨2, ![15424, 4096]⟩
abbrev S_ : Shape := ⟨0, ![]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x15424, .f32⟩
  | .hbm, ⟨2, _⟩ => ⟨S15424x4096, .f32⟩
  | .hbm, ⟨3, _⟩ => ⟨S15424x4096, .bf16⟩
  | .hbm, ⟨4, _⟩ => ⟨S8192x4096, .bf16⟩
  | .hbm, ⟨5, _⟩ => ⟨S_, .f32⟩
  | .hbm, ⟨6, _⟩ => ⟨S4096, .f32⟩
  | .hbm, ⟨7, _⟩ => ⟨S1x4096, .f32⟩
  | .hbm, ⟨8, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceZIdeal.lean ====
abbrev S8192x4096 : Shape := ⟨2, ![8192, 4096]⟩
abbrev S4096x15424 : Shape := ⟨2, ![4096, 15424]⟩
abbrev S8192x15424 : Shape := ⟨2, ![8192, 15424]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x15424, .f32⟩
  | .hbm, ⟨2, _⟩ => ⟨S8192x15424, .f32⟩
  | .hbm, ⟨3, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelXbc.lean ====
abbrev S8192x4096 : Shape := ⟨2, ![8192, 4096]⟩
abbrev S4096x15424 : Shape := ⟨2, ![4096, 15424]⟩
abbrev S15424x4096 : Shape := ⟨2, ![15424, 4096]⟩
abbrev S_ : Shape := ⟨0, ![]⟩
abbrev S6144 : Shape := ⟨1, ![6144]⟩
abbrev S1x6144 : Shape := ⟨2, ![1, 6144]⟩
abbrev S8192x6144 : Shape := ⟨2, ![8192, 6144]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x15424, .f32⟩
  | .hbm, ⟨2, _⟩ => ⟨S15424x4096, .f32⟩
  | .hbm, ⟨3, _⟩ => ⟨S15424x4096, .bf16⟩
  | .hbm, ⟨4, _⟩ => ⟨S8192x4096, .bf16⟩
  | .hbm, ⟨5, _⟩ => ⟨S_, .f32⟩
  | .hbm, ⟨6, _⟩ => ⟨S6144, .f32⟩
  | .hbm, ⟨7, _⟩ => ⟨S1x6144, .f32⟩
  | .hbm, ⟨8, _⟩ => ⟨S8192x6144, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceXbcIdeal.lean ====
abbrev S8192x4096 : Shape := ⟨2, ![8192, 4096]⟩
abbrev S4096x15424 : Shape := ⟨2, ![4096, 15424]⟩
abbrev S8192x15424 : Shape := ⟨2, ![8192, 15424]⟩
abbrev S8192x6144 : Shape := ⟨2, ![8192, 6144]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x15424, .f32⟩
  | .hbm, ⟨2, _⟩ => ⟨S8192x15424, .f32⟩
  | .hbm, ⟨3, _⟩ => ⟨S8192x6144, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelQkv.lean ====
abbrev S8192x4096 : Shape := ⟨2, ![8192, 4096]⟩
abbrev S4096x15424 : Shape := ⟨2, ![4096, 15424]⟩
abbrev S5120 : Shape := ⟨1, ![5120]⟩
abbrev S15424x4096 : Shape := ⟨2, ![15424, 4096]⟩
abbrev S5120x4096 : Shape := ⟨2, ![5120, 4096]⟩
abbrev S1x5120 : Shape := ⟨2, ![1, 5120]⟩
abbrev S8192x5120 : Shape := ⟨2, ![8192, 5120]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x15424, .f32⟩
  | .hbm, ⟨2, _⟩ => ⟨S5120, .f32⟩
  | .hbm, ⟨3, _⟩ => ⟨S15424x4096, .f32⟩
  | .hbm, ⟨4, _⟩ => ⟨S15424x4096, .bf16⟩
  | .hbm, ⟨5, _⟩ => ⟨S8192x4096, .bf16⟩
  | .hbm, ⟨6, _⟩ => ⟨S5120x4096, .bf16⟩
  | .hbm, ⟨7, _⟩ => ⟨S1x5120, .f32⟩
  | .hbm, ⟨8, _⟩ => ⟨S8192x5120, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQkvIdeal.lean ====
abbrev S8192x4096 : Shape := ⟨2, ![8192, 4096]⟩
abbrev S4096x15424 : Shape := ⟨2, ![4096, 15424]⟩
abbrev S5120 : Shape := ⟨1, ![5120]⟩
abbrev S8192x15424 : Shape := ⟨2, ![8192, 15424]⟩
abbrev S8192x5120 : Shape := ⟨2, ![8192, 5120]⟩
abbrev S1x5120 : Shape := ⟨2, ![1, 5120]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x15424, .f32⟩
  | .hbm, ⟨2, _⟩ => ⟨S5120, .f32⟩
  | .hbm, ⟨3, _⟩ => ⟨S8192x15424, .f32⟩
  | .hbm, ⟨4, _⟩ => ⟨S8192x5120, .f32⟩
  | .hbm, ⟨5, _⟩ => ⟨S1x5120, .f32⟩
  | .hbm, ⟨6, _⟩ => ⟨S8192x5120, .f32⟩
  | .hbm, ⟨7, _⟩ => ⟨S8192x5120, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S8192x4096 : Shape := ⟨2, ![8192, 4096]⟩
abbrev S4096 : Shape := ⟨1, ![4096]⟩
abbrev S1x4096 : Shape := ⟨2, ![1, 4096]⟩
abbrev S1024x4096 : Shape := ⟨2, ![1024, 4096]⟩
abbrev S8192x256 : Shape := ⟨2, ![8192, 256]⟩
abbrev S1x256 : Shape := ⟨2, ![1, 256]⟩
abbrev S1024x256 : Shape := ⟨2, ![1024, 256]⟩
abbrev S4096x256 : Shape := ⟨2, ![4096, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .f32⟩
  | .hbm, ⟨3, _⟩ => ⟨S4096, .f32⟩
  | .hbm, ⟨4, _⟩ => ⟨S8192x4096, .bf16⟩
  | .hbm, ⟨5, _⟩ => ⟨S1x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S8192x256, .bf16⟩
  | .local _ .vmem, ⟨5, _⟩ => ⟨S8192x256, .bf16⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutIdeal.lean ====
abbrev S8192x4096 : Shape := ⟨2, ![8192, 4096]⟩
abbrev S4096 : Shape := ⟨1, ![4096]⟩
abbrev S8192x8192 : Shape := ⟨2, ![8192, 8192]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S8192x8192, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelRkvo.lean ====
abbrev S8192x4096 : Shape := ⟨2, ![8192, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S4096x4096, .bf16⟩
  | .hbm, ⟨3, _⟩ => ⟨S_, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceRkvoIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelDecay.lean ====
abbrev S8192x4096 : Shape := ⟨2, ![8192, 4096]⟩
abbrev S4096x128 : Shape := ⟨2, ![4096, 128]⟩
abbrev S128x4096 : Shape := ⟨2, ![128, 4096]⟩
abbrev S4096 : Shape := ⟨1, ![4096]⟩
abbrev S1x4096 : Shape := ⟨2, ![1, 4096]⟩
abbrev S512x4096 : Shape := ⟨2, ![512, 4096]⟩
abbrev S512x128 : Shape := ⟨2, ![512, 128]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S128x4096, .f32⟩
  | .hbm, ⟨3, _⟩ => ⟨S4096, .f32⟩
  | .hbm, ⟨4, _⟩ => ⟨S4096x128, .bf16⟩
  | .hbm, ⟨5, _⟩ => ⟨S128x4096, .bf16⟩
  | .hbm, ⟨6, _⟩ => ⟨S1x4096, .f32⟩
  | .hbm, ⟨7, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S128x4096, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDecayIdeal.lean ====
abbrev S8192x4096 : Shape := ⟨2, ![8192, 4096]⟩
abbrev S4096x128 : Shape := ⟨2, ![4096, 128]⟩
abbrev S128x4096 : Shape := ⟨2, ![128, 4096]⟩
abbrev S4096 : Shape := ⟨1, ![4096]⟩
abbrev S8192x128 : Shape := ⟨2, ![8192, 128]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S128x4096, .f32⟩
  | .hbm, ⟨3, _⟩ => ⟨S4096, .f32⟩
  | .hbm, ⟨4, _⟩ => ⟨S8192x4096, .f32⟩
  | .hbm, ⟨5, _⟩ => ⟨S8192x128, .f32⟩
  | .hbm, ⟨6, _⟩ => ⟨S8192x128, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelRate.lean ====
abbrev S8192x4096 : Shape := ⟨2, ![8192, 4096]⟩
abbrev S4096x128 : Shape := ⟨2, ![4096, 128]⟩
abbrev S128x4096 : Shape := ⟨2, ![128, 4096]⟩
abbrev S4096 : Shape := ⟨1, ![4096]⟩
abbrev S1x4096 : Shape := ⟨2, ![1, 4096]⟩
abbrev S512x4096 : Shape := ⟨2, ![512, 4096]⟩
abbrev S512x128 : Shape := ⟨2, ![512, 128]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S128x4096, .f32⟩
  | .hbm, ⟨3, _⟩ => ⟨S4096, .f32⟩
  | .hbm, ⟨4, _⟩ => ⟨S4096x128, .bf16⟩
  | .hbm, ⟨5, _⟩ => ⟨S128x4096, .bf16⟩
  | .hbm, ⟨6, _⟩ => ⟨S1x4096, .f32⟩
  | .hbm, ⟨7, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S128x4096, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceRateIdeal.lean ====
abbrev S8192x4096 : Shape := ⟨2, ![8192, 4096]⟩
abbrev S4096x128 : Shape := ⟨2, ![4096, 128]⟩
abbrev S128x4096 : Shape := ⟨2, ![128, 4096]⟩
abbrev S4096 : Shape := ⟨1, ![4096]⟩
abbrev S8192x128 : Shape := ⟨2, ![8192, 128]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x128, .f32⟩
  | .hbm, ⟨2, _⟩ => ⟨S128x4096, .f32⟩
  | .hbm, ⟨3, _⟩ => ⟨S4096, .f32⟩
  | .hbm, ⟨4, _⟩ => ⟨S8192x4096, .f32⟩
  | .hbm, ⟨5, _⟩ => ⟨S8192x128, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelGate.lean ====
abbrev S8192x4096 : Shape := ⟨2, ![8192, 4096]⟩
abbrev S4096x480 : Shape := ⟨2, ![4096, 480]⟩
abbrev S480x4096 : Shape := ⟨2, ![480, 4096]⟩
abbrev S_ : Shape := ⟨0, ![]⟩
abbrev S4096 : Shape := ⟨1, ![4096]⟩
abbrev S1x4096 : Shape := ⟨2, ![1, 4096]⟩
abbrev S512x4096 : Shape := ⟨2, ![512, 4096]⟩
abbrev S512x480 : Shape := ⟨2, ![512, 480]⟩

abbrev nBuf : Space → Nat
  | .hbm => 9
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x480, .f32⟩
  | .hbm, ⟨2, _⟩ => ⟨S480x4096, .f32⟩
  | .hbm, ⟨3, _⟩ => ⟨S4096x480, .bf16⟩
  | .hbm, ⟨4, _⟩ => ⟨S480x4096, .bf16⟩
  | .hbm, ⟨5, _⟩ => ⟨S_, .f32⟩
  | .hbm, ⟨6, _⟩ => ⟨S4096, .f32⟩
  | .hbm, ⟨7, _⟩ => ⟨S1x4096, .f32⟩
  | .hbm, ⟨8, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x480, .bf16⟩
  | .local _ .vmem, ⟨3, _⟩ => ⟨S480x4096, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x480 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S480x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceGateIdeal.lean ====
abbrev S8192x4096 : Shape := ⟨2, ![8192, 4096]⟩
abbrev S4096x480 : Shape := ⟨2, ![4096, 480]⟩
abbrev S480x4096 : Shape := ⟨2, ![480, 4096]⟩
abbrev S8192x480 : Shape := ⟨2, ![8192, 480]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x480, .f32⟩
  | .hbm, ⟨2, _⟩ => ⟨S480x4096, .f32⟩
  | .hbm, ⟨3, _⟩ => ⟨S8192x4096, .f32⟩
  | .hbm, ⟨4, _⟩ => ⟨S8192x480, .f32⟩
  | .hbm, ⟨5, _⟩ => ⟨S8192x480, .f32⟩
  | .hbm, ⟨6, _⟩ => ⟨S8192x480, .f32⟩
  | .hbm, ⟨7, _⟩ => ⟨S_, .f32⟩
  | .hbm, ⟨8, _⟩ => ⟨S8192x480, .f32⟩
  | .hbm, ⟨9, _⟩ => ⟨S8192x480, .f32⟩
  | .hbm, ⟨10, _⟩ => ⟨S_, .f32⟩
  | .hbm, ⟨11, _⟩ => ⟨S8192x480, .f32⟩
  | .hbm, ⟨12, _⟩ => ⟨S8192x480, .f32⟩
  | .hbm, ⟨13, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelUp.lean ====
abbrev S5x80 : Shape := ⟨2, ![5, 80]⟩
abbrev S20480x4096 : Shape := ⟨2, ![20480, 4096]⟩
abbrev S2x16x4096x1536 : Shape := ⟨4, ![2, 16, 4096, 1536]⟩
abbrev S20480x1536 : Shape := ⟨2, ![20480, 1536]⟩
abbrev S256x4096 : Shape := ⟨2, ![256, 4096]⟩
abbrev S256x512 : Shape := ⟨2, ![256, 512]⟩
abbrev S2x4096x512 : Shape := ⟨3, ![2, 4096, 512]⟩
abbrev S2 : Shape := ⟨1, ![2]⟩
abbrev S1x1 : Shape := ⟨2, ![1, 1]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩
abbrev S1x1x4096x512 : Shape := ⟨4, ![1, 1, 4096, 512]⟩

abbrev nBuf : Space → Nat
  | .hbm => 4
  | .vmem => 6
  | .smem => 1
  | _ => 0

abbrev bufTy : (tb : Table) → Fin (tcTables nBuf tb) → BufTy
  | .hbm, ⟨0, _⟩ => ⟨S20480x4096, .bf16⟩
  | .hbm, ⟨1, _⟩ => ⟨S2x16x4096x1536, .f32⟩
  | .hbm, ⟨2, _⟩ => ⟨S2x16x4096x1536, .f32⟩
  | .hbm, ⟨3, _⟩ => ⟨S20480x1536, .bf16⟩
  | .local _ .vmem, ⟨0, _⟩ => ⟨S256x4096, .bf16⟩
  | .local _ .vmem, ⟨1, _⟩ => ⟨S256x4096, .bf16⟩
  | .local _ .vmem, ⟨2, _⟩ => ⟨S256x512, .bf16⟩
  | .local _ .vmem, ⟨3, _⟩ => ⟨S256x512, .bf16⟩
  | .local _ .vmem, ⟨4, _⟩ => ⟨S2x4096x512, .f32⟩
  | .local _ .vmem, ⟨5, _⟩ => ⟨S2x4096x512, .bf16⟩
  | .local _ .smem, ⟨0, _⟩ => ⟨S5x80, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![3, 80], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def k0_mult1 : BitVec 32 :=
  let c0_i32_7 : BitVec 32 := 0#32
  c0_i32_7
def k0_off1 (v19 : BitVec 32) : Fin 4 → Nat :=
  let c0_i32_8 : BitVec 32 := 0#32
  let c0_i32_13 : BitVec 32 := 0#32
  let c0_i32_7 : BitVec 32 := 0#32
  let v20 : BitVec 32 := c0_i32_7
  ![0, v19.toNat, 0, 0]

def k0_chk1 (i : grid0.Coords) (v19 : BitVec 32) : Prop :=
  (∀ (k0_h1 : k0_cond1 i = 1#1), ∀ a, (k0_off1 v19) a + S1x1x4096x512.size a ≤ S2x16x4096x1536.size a)
theorem k0_off1_inb : ∀ (i : grid0.Coords) (v19 : BitVec 32) (k0_hw1 : k0_chk1 i v19), ∀ (k0_h1 : k0_cond1 i = 1#1), ∀ a, (k0_off1 v19) a + S1x1x4096x512.size a ≤ S2x16x4096x1536.size a := fun i v19 k0_hw1 k0_h1 => k0_hw1 k0_h1

def k0_off2 (i : grid0.Coords) : Fin 2 → Nat :=
  let c2 : Index := 2#32
  let arg1 : BitVec 32 := BitVec.ofNat 32 (i 1).val
  let v6 : Index := Scalar.indexCast arg1
  ![2, v6.toNat]
def k0_off3 (i : grid0.Coords) : Fin 2 → Nat :=
  let c0 : Index := 0#32
  let arg1 : BitVec 32 := BitVec.ofNat 32 (i 1).val
  let v19 : Index := Scalar.indexCast arg1
  ![0, v19.toNat]
def k0_mult2 (i : grid0.Coords) : BitVec 32 :=
  let arg0 : BitVec 32 := BitVec.ofNat 32 (i 0).val
  let c512_i32 : BitVec 32 := 512#32
  let v21 : BitVec 32 := Scalar.muli arg0 c512_i32
  v21
def k0_off4 (i : grid0.Coords) (v20 : BitVec 32) : Fin 4 → Nat :=
  let c0_i32_6 : BitVec 32 := 0#32
  let c0_i32_11 : BitVec 32 := 0#32
  let arg0 : BitVec 32 := BitVec.ofNat 32 (i 0).val
  let c512_i32 : BitVec 32 := 512#32
  let v21 : BitVec 32 := Scalar.muli arg0 c512_i32
  let v22 : BitVec 32 := v21
  ![0, v20.toNat, 0, v22.toNat]
def k0_cond2 (v7 : BitVec 32) : BitVec 1 :=
  let c1_i32 : BitVec 32 := 1#32
  let v8 : BitVec 1 := Scalar.cmpi .eq v7 c1_i32
  let v9 : BitVec 32 := Scalar.extui v8
  let c0_i32_2 : BitVec 32 := 0#32
  let v10 : BitVec 1 := Scalar.cmpi .ne v9 c0_i32_2
  v10

def k0_chk2 (i : grid0.Coords) (v7 : BitVec 32) (v20 : BitVec 32) : Prop :=
  (∀ (k0_h2 : k0_cond2 v7 = 1#1), ∀ a, (k0_off4 i v20) a + S1x1x4096x512.size a ≤ S2x16x4096x1536.size a)
theorem k0_off4_inb : ∀ (i : grid0.Coords) (v7 : BitVec 32) (v20 : BitVec 32) (k0_hw2 : k0_chk2 i v7 v20), ∀ (k0_h2 : k0_cond2 v7 = 1#1), ∀ a, (k0_off4 i v20) a + S1x1x4096x512.size a ≤ S2x16x4096x1536.size a := fun i v7 v20 k0_hw2 k0_h2 => k0_hw2 k0_h2

def k0_off5 (i : grid0.Coords) : Fin 2 → Nat :=
  let c4 : Index := 4#32
  let arg1 : BitVec 32 := BitVec.ofNat 32 (i 1).val
  let v47 : Index := Scalar.indexCast arg1
  ![4, v47.toNat]
def k0_off6 (i : grid0.Coords) : Fin 2 → Nat :=
  let c3 : Index := 3#32
  let arg1 : BitVec 32 := BitVec.ofNat 32 (i 1).val
  let v54 : Index := Scalar.indexCast arg1
  ![3, v54.toNat]
def k0_mult3 (i : grid0.Coords) (v48 : BitVec 32) : BitVec 32 :=
  let c1_i32_30 : BitVec 32 := 1#32
  let v49 : BitVec 1 := Scalar.cmpi .eq v48 c1_i32_30
  let arg0 : BitVec 32 := BitVec.ofNat 32 (i 0).val
  let c1_i32_33 : BitVec 32 := 1#32
  let v56 : BitVec 32 := Scalar.addi arg0 c1_i32_33
  let v57 : BitVec 32 := Scalar.select v49 v56 arg0
  let c512_i32_34 : BitVec 32 := 512#32
  let v58 : BitVec 32 := Scalar.muli v57 c512_i32_34
  v58
def k0_cond3 (i : grid0.Coords) (v48 : BitVec 32) : BitVec 1 :=
  let c1_i32_30 : BitVec 32 := 1#32
  let v49 : BitVec 1 := Scalar.cmpi .eq v48 c1_i32_30
  let arg0 : BitVec 32 := BitVec.ofNat 32 (i 0).val
  let c2_i32 : BitVec 32 := 2#32
  let v0 : BitVec 1 := Scalar.cmpi .eq arg0 c2_i32
  let v50 : BitVec 1 := Scalar.andi v49 v0
  let true_31 : BitVec 1 := 1#1
  let v51 : BitVec 1 := Scalar.xori v50 true_31
  let v52 : BitVec 32 := Scalar.extui v51
  let c0_i32_32 : BitVec 32 := 0#32
  let v53 : BitVec 1 := Scalar.cmpi .ne v52 c0_i32_32
  v53

def k0_chk3 (i : grid0.Coords) (v7 : BitVec 32) (v48 : BitVec 32) : Prop :=
  (∀ (k0_h2 : k0_cond2 v7 = 1#1), ∀ (k0_h3 : k0_cond3 i v48 = 1#1), 512 ∣ (k0_mult3 i v48).toNat)
theorem k0_mult3_dvd : ∀ (i : grid0.Coords) (v7 : BitVec 32) (v48 : BitVec 32) (k0_hw3 : k0_chk3 i v7 v48), ∀ (k0_h2 : k0_cond2 v7 = 1#1), ∀ (k0_h3 : k0_cond3 i v48 = 1#1), 512 ∣ (k0_mult3 i v48).toNat := fun i v7 v48 k0_hw3 k0_h2 k0_h3 => k0_hw3 k0_h2 k0_h3

def k0_off7 (i : grid0.Coords) (v48 : BitVec 32) (v55 : BitVec 32) : Fin 4 → Nat :=
  let c0_i32_35 : BitVec 32 := 0#32
  let c0_i32_40 : BitVec 32 := 0#32
  let c1_i32_30 : BitVec 32 := 1#32
  let v49 : BitVec 1 := Scalar.cmpi .eq v48 c1_i32_30
  let arg0 : BitVec 32 := BitVec.ofNat 32 (i 0).val
  let c1_i32_33 : BitVec 32 := 1#32
  let v56 : BitVec 32 := Scalar.addi arg0 c1_i32_33
  let v57 : BitVec 32 := Scalar.select v49 v56 arg0
  let c512_i32_34 : BitVec 32 := 512#32
  let v58 : BitVec 32 := Scalar.muli v57 c512_i32_34
  let v59 : BitVec 32 := v58
  ![0, v55.toNat, 0, v59.toNat]

def k0_chk4 (i : grid0.Coords) (v7 : BitVec 32) (v48 : BitVec 32) (v55 : BitVec 32) : Prop :=
  (∀ (k0_h2 : k0_cond2 v7 = 1#1), ∀ (k0_h3 : k0_cond3 i v48 = 1#1), ∀ a, (k0_off7 i v48 v55) a + S1x1x4096x512.size a ≤ S2x16x4096x1536.size a)
theorem k0_off7_inb : ∀ (i : grid0.Coords) (v7 : BitVec 32) (v48 : BitVec 32) (v55 : BitVec 32) (k0_hw4 : k0_chk4 i v7 v48 v55), ∀ (k0_h2 : k0_cond2 v7 = 1#1), ∀ (k0_h3 : k0_cond3 i v48 = 1#1), ∀ a, (k0_off7 i v48 v55) a + S1x1x4096x512.size a ≤ S2x16x4096x1536.size a := fun i v7 v48 v55 k0_hw4 k0_h2 k0_h3 => k0_hw4 k0_h2 k0_h3

def k0_off8 (i : grid0.Coords) : Fin 2 → Nat :=
  let c1 : Index := 1#32
  let arg1 : BitVec 32 := BitVec.ofNat 32 (i 1).val
  let v11 : Index := Scalar.indexCast arg1
  ![1, v11.toNat]
def k0_cond4 (v12 : BitVec 32) : BitVec 1 :=
  let c1_i32_3 : BitVec 32 := 1#32
  let v13 : BitVec 1 := Scalar.cmpi .eq v12 c1_i32_3
  let v14 : BitVec 32 := Scalar.extui v13
  let c0_i32_4 : BitVec 32 := 0#32
  let v15 : BitVec 1 := Scalar.cmpi .ne v14 c0_i32_4
  v15

def k0_cond5 (v12 : BitVec 32) : BitVec 1 :=
  let c1_i32_3 : BitVec 32 := 1#32
  let v13 : BitVec 1 := Scalar.cmpi .eq v12 c1_i32_3
  let v_true : BitVec 1 := 1#1
  let v16 : BitVec 1 := Scalar.xori v13 v_true
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceUpIdeal.lean ====
abbrev S5x80 : Shape := ⟨2, ![5, 80]⟩
abbrev S20480x4096 : Shape := ⟨2, ![20480, 4096]⟩
abbrev S2x16x4096x1536 : Shape := ⟨4, ![2, 16, 4096, 1536]⟩
abbrev S1x80 : Shape := ⟨2, ![1, 80]⟩
abbrev S80 : Shape := ⟨1, ![80]⟩
abbrev S_ : Shape := ⟨0, ![]⟩
abbrev S80x256 : Shape := ⟨2, ![80, 256]⟩
abbrev S20480 : Shape := ⟨1, ![20480]⟩
abbrev S20480x1 : Shape := ⟨2, ![20480, 1]⟩
abbrev S20480x1536 : Shape := ⟨2, ![20480, 1536]⟩
abbrev S1x1x4096x1536 : Shape := ⟨4, ![1, 1, 4096, 1536]⟩
abbrev S4096x1536 : Shape := ⟨2, ![4096, 1536]⟩

abbrev nBuf : Space → Nat
  | .hbm => 422
  | .vmem => 0
  | .smem => 0
  | _ => 0

abbrev hbmTy0_0 (i : Nat) : BufTy := match i % 128 with
  | 0 => ⟨S5x80, .i32⟩
  | 1 => ⟨S20480x4096, .bf16⟩
  | 2 => ⟨S2x16x4096x1536, .f32⟩
  | 3 => ⟨S2x16x4096x1536, .f32⟩
  | 4 => ⟨S20480x4096, .f32⟩
  | 5 => ⟨S1x80, .i32⟩
  | 6 => ⟨S80, .i32⟩
  | 7 => ⟨S_, .i32⟩
  | 8 => ⟨S80, .i32⟩
  | 9 => ⟨S80, .i1⟩
  | 10 => ⟨S1x80, .i32⟩
  | 11 => ⟨S80, .i32⟩
  | 12 => ⟨S_, .i32⟩
  | 13 => ⟨S_, .i32⟩
  | 14 => ⟨S80, .i32⟩
  | 15 => ⟨S80, .i32⟩
  | 16 => ⟨S80x256, .i32⟩
  | 17 => ⟨S20480, .i32⟩
  | 18 => ⟨S20480x1, .i32⟩
  | 19 => ⟨S_, .f32⟩
  | 20 => ⟨S20480x1536, .f32⟩
  | 21 => ⟨S1x1x4096x1536, .f32⟩
  | 22 => ⟨S4096x1536, .f32⟩
  | 23 => ⟨S20480x1536, .f32⟩
  | 24 => ⟨S20480x1536, .f32⟩
  | 25 => ⟨S20480x1536, .f32⟩
  | 26 => ⟨S_, .f32⟩
  | 27 => ⟨S20480x1536, .f32⟩
  | 28 => ⟨S20480x1536, .f32⟩
  | 29 => ⟨S_, .f32⟩
  | 30 => ⟨S20480x1536, .f32⟩
  | 31 => ⟨S20480x1536, .f32⟩
  | 32 => ⟨S20480x1536, .f32⟩
  | 33 => ⟨S1x1x4096x1536, .f32⟩
  | 34 => ⟨S4096x1536, .f32⟩
  | 35 => ⟨S20480x1536, .f32⟩
  | 36 => ⟨S20480x1536, .f32⟩
  | 37 => ⟨S_, .i32⟩
  | 38 => ⟨S20480x1, .i32⟩
  | 39 => ⟨S20480x1, .i1⟩
  | 40 => ⟨S_, .f32⟩
  | 41 => ⟨S_, .f32⟩
  | 42 => ⟨S20480x1536, .i1⟩
  | 43 => ⟨S20480x1536, .f32⟩
  | 44 => ⟨S20480x1536, .f32⟩
  | 45 => ⟨S20480x1536, .f32⟩
  | 46 => ⟨S1x1x4096x1536, .f32⟩
  | 47 => ⟨S4096x1536, .f32⟩
  | 48 => ⟨S20480x1536, .f32⟩
  | 49 => ⟨S20480x1536, .f32⟩
  | 50 => ⟨S20480x1536, .f32⟩
  | 51 => ⟨S_, .f32⟩
  | 52 => ⟨S20480x1536, .f32⟩
  | 53 => ⟨S20480x1536, .f32⟩
  | 54 => ⟨S_, .f32⟩
  | 55 => ⟨S20480x1536, .f32⟩
  | 56 => ⟨S20480x1536, .f32⟩
  | 57 => ⟨S20480x1536, .f32⟩
  | 58 => ⟨S1x1x4096x1536, .f32⟩
  | 59 => ⟨S4096x1536, .f32⟩
  | 60 => ⟨S20480x1536, .f32⟩
  | 61 => ⟨S20480x1536, .f32⟩
  | 62 => ⟨S_, .i32⟩
  | 63 => ⟨S20480x1, .i32⟩
  | 64 => ⟨S20480x1, .i1⟩
  | 65 => ⟨S_, .f32⟩
  | 66 => ⟨S_, .f32⟩
  | 67 => ⟨S20480x1536, .i1⟩
  | 68 => ⟨S20480x1536, .f32⟩
  | 69 => ⟨S20480x1536, .f32⟩
  | 70 => ⟨S20480x1536, .f32⟩
  | 71 => ⟨S1x1x4096x1536, .f32⟩
  | 72 => ⟨S4096x1536, .f32⟩
  | 73 => ⟨S20480x1536, .f32⟩
  | 74 => ⟨S20480x1536, .f32⟩
  | 75 => ⟨S20480x1536, .f32⟩
  | 76 => ⟨S_, .f32⟩
  | 77 => ⟨S20480x1536, .f32⟩
  | 78 => ⟨S20480x1536, .f32⟩
  | 79 => ⟨S_, .f32⟩
  | 80 => ⟨S20480x1536, .f32⟩
  | 81 => ⟨S20480x1536, .f32⟩
  | 82 => ⟨S20480x1536, .f32⟩
  | 83 => ⟨S1x1x4096x1536, .f32⟩
  | 84 => ⟨S4096x1536, .f32⟩
  | 85 => ⟨S20480x1536, .f32⟩
  | 86 => ⟨S20480x1536, .f32⟩
  | 87 => ⟨S_, .i32⟩
  | 88 => ⟨S20480x1, .i32⟩
  | 89 => ⟨S20480x1, .i1⟩
  | 90 => ⟨S_, .f32⟩
  | 91 => ⟨S_, .f32⟩
  | 92 => ⟨S20480x1536, .i1⟩
  | 93 => ⟨S20480x1536, .f32⟩
  | 94 => ⟨S20480x1536, .f32⟩
  | 95 => ⟨S20480x1536, .f32⟩
  | 96 => ⟨S1x1x4096x1536, .f32⟩
  | 97 => ⟨S4096x1536, .f32⟩
  | 98 => ⟨S20480x1536, .f32⟩
  | 99 => ⟨S20480x1536, .f32⟩
  | 100 => ⟨S20480x1536, .f32⟩
  | 101 => ⟨S_, .f32⟩
  | 102 => ⟨S20480x1536, .f32⟩
  | 103 => ⟨S20480x1536, .f32⟩
  | 104 => ⟨S_, .f32⟩
  | 105 => ⟨S20480x1536, .f32⟩
  | 106 => ⟨S20480x1536, .f32⟩
  | 107 => ⟨S20480x1536, .f32⟩
  | 108 => ⟨S1x1x4096x1536, .f32⟩
  | 109 => ⟨S4096x1536, .f32⟩
  | 110 => ⟨S20480x1536, .f32⟩
  | 111 => ⟨S20480x1536, .f32⟩
  | 112 => ⟨S_, .i32⟩
  | 113 => ⟨S20480x1, .i32⟩
  | 114 => ⟨S20480x1, .i1⟩
  | 115 => ⟨S_, .f32⟩
  | 116 => ⟨S_, .f32⟩
  | 117 => ⟨S20480x1536, .i1⟩
  | 118 => ⟨S20480x1536, .f32⟩
  | 119 => ⟨S20480x1536, .f32⟩
  | 120 => ⟨S20480x1536, .f32⟩
  | 121 => ⟨S1x1x4096x1536, .f32⟩
  | 122 => ⟨S4096x1536, .f32⟩
  | 123 => ⟨S20480x1536, .f32⟩
  | 124 => ⟨S20480x1536, .f32⟩
  | 125 => ⟨S20480x1536, .f32⟩
  | 126 => ⟨S_, .f32⟩
  | 127 => ⟨S20480x1536, .f32⟩
  | _ => ⟨S5x80, .i32⟩

abbrev hbmTy0_1 (i : Nat) : BufTy := match i % 128 with
  | 0 => ⟨S20480x1536, .f32⟩
  | 1 => ⟨S_, .f32⟩
  | 2 => ⟨S20480x1536, .f32⟩
  | 3 => ⟨S20480x1536, .f32⟩
  | 4 => ⟨S20480x1536, .f32⟩
  | 5 => ⟨S1x1x4096x1536, .f32⟩
  | 6 => ⟨S4096x1536, .f32⟩
  | 7 => ⟨S20480x1536, .f32⟩
  | 8 => ⟨S20480x1536, .f32⟩
  | 9 => ⟨S_, .i32⟩
  | 10 => ⟨S20480x1, .i32⟩
  | 11 => ⟨S20480x1, .i1⟩
  | 12 => ⟨S_, .f32⟩
  | 13 => ⟨S_, .f32⟩
  | 14 => ⟨S20480x1536, .i1⟩
  | 15 => ⟨S20480x1536, .f32⟩
  | 16 => ⟨S20480x1536, .f32⟩
  | 17 => ⟨S20480x1536, .f32⟩
  | 18 => ⟨S1x1x4096x1536, .f32⟩
  | 19 => ⟨S4096x1536, .f32⟩
  | 20 => ⟨S20480x1536, .f32⟩
  | 21 => ⟨S20480x1536, .f32⟩
  | 22 => ⟨S20480x1536, .f32⟩
  | 23 => ⟨S_, .f32⟩
  | 24 => ⟨S20480x1536, .f32⟩
  | 25 => ⟨S20480x1536, .f32⟩
  | 26 => ⟨S_, .f32⟩
  | 27 => ⟨S20480x1536, .f32⟩
  | 28 => ⟨S20480x1536, .f32⟩
  | 29 => ⟨S20480x1536, .f32⟩
  | 30 => ⟨S1x1x4096x1536, .f32⟩
  | 31 => ⟨S4096x1536, .f32⟩
  | 32 => ⟨S20480x1536, .f32⟩
  | 33 => ⟨S20480x1536, .f32⟩
  | 34 => ⟨S_, .i32⟩
  | 35 => ⟨S20480x1, .i32⟩
  | 36 => ⟨S20480x1, .i1⟩
  | 37 => ⟨S_, .f32⟩
  | 38 => ⟨S_, .f32⟩
  | 39 => ⟨S20480x1536, .i1⟩
  | 40 => ⟨S20480x1536, .f32⟩
  | 41 => ⟨S20480x1536, .f32⟩
  | 42 => ⟨S20480x1536, .f32⟩
  | 43 => ⟨S1x1x4096x1536, .f32⟩
  | 44 => ⟨S4096x1536, .f32⟩
  | 45 => ⟨S20480x1536, .f32⟩
  | 46 => ⟨S20480x1536, .f32⟩
  | 47 => ⟨S20480x1536, .f32⟩
  | 48 => ⟨S_, .f32⟩
  | 49 => ⟨S20480x1536, .f32⟩
  | 50 => ⟨S20480x1536, .f32⟩
  | 51 => ⟨S_, .f32⟩
  | 52 => ⟨S20480x1536, .f32⟩
  | 53 => ⟨S20480x1536, .f32⟩
  | 54 => ⟨S20480x1536, .f32⟩
  | 55 => ⟨S1x1x4096x1536, .f32⟩
  | 56 => ⟨S4096x1536, .f32⟩
  | 57 => ⟨S20480x1536, .f32⟩
  | 58 => ⟨S20480x1536, .f32⟩
  | 59 => ⟨S_, .i32⟩
  | 60 => ⟨S20480x1, .i32⟩
  | 61 => ⟨S20480x1, .i1⟩
  | 62 => ⟨S_, .f32⟩
  | 63 => ⟨S_, .f32⟩
  | 64 => ⟨S20480x1536, .i1⟩
  | 65 => ⟨S20480x1536, .f32⟩
  | 66 => ⟨S20480x1536, .f32⟩
  | 67 => ⟨S20480x1536, .f32⟩
  | 68 => ⟨S1x1x4096x1536, .f32⟩
  | 69 => ⟨S4096x1536, .f32⟩
  | 70 => ⟨S20480x1536, .f32⟩
  | 71 => ⟨S20480x1536, .f32⟩
  | 72 => ⟨S20480x1536, .f32⟩
  | 73 => ⟨S_, .f32⟩
  | 74 => ⟨S20480x1536, .f32⟩
  | 75 => ⟨S20480x1536, .f32⟩
  | 76 => ⟨S_, .f32⟩
  | 77 => ⟨S20480x1536, .f32⟩
  | 78 => ⟨S20480x1536, .f32⟩
  | 79 => ⟨S20480x1536, .f32⟩
  | 80 => ⟨S1x1x4096x1536, .f32⟩
  | 81 => ⟨S4096x1536, .f32⟩
  | 82 => ⟨S20480x1536, .f32⟩
  | 83 => ⟨S20480x1536, .f32⟩
  | 84 => ⟨S_, .i32⟩
  | 85 => ⟨S20480x1, .i32⟩
  | 86 => ⟨S20480x1, .i1⟩
  | 87 => ⟨S_, .f32⟩
  | 88 => ⟨S_, .f32⟩
  | 89 => ⟨S20480x1536, .i1⟩
  | 90 => ⟨S20480x1536, .f32⟩
  | 91 => ⟨S20480x1536, .f32⟩
  | 92 => ⟨S20480x1536, .f32⟩
  | 93 => ⟨S1x1x4096x1536, .f32⟩
  | 94 => ⟨S4096x1536, .f32⟩
  | 95 => ⟨S20480x1536, .f32⟩
  | 96 => ⟨S20480x1536, .f32⟩
  | 97 => ⟨S20480x1536, .f32⟩
  | 98 => ⟨S_, .f32⟩
  | 99 => ⟨S20480x1536, .f32⟩
  | 100 => ⟨S20480x1536, .f32⟩
  | 101 => ⟨S_, .f32⟩
  | 102 => ⟨S20480x1536, .f32⟩
  | 103 => ⟨S20480x1536, .f32⟩
  | 104 => ⟨S20480x1536, .f32⟩
  | 105 => ⟨S1x1x4096x1536, .f32⟩
  | 106 => ⟨S4096x1536, .f32⟩
  | 107 => ⟨S20480x1536, .f32⟩
  | 108 => ⟨S20480x1536, .f32⟩
  | 109 => ⟨S_, .i32⟩
  | 110 => ⟨S20480x1, .i32⟩
  | 111 => ⟨S20480x1, .i1⟩
  | 112 => ⟨S_, .f32⟩
  | 113 => ⟨S_, .f32⟩
  | 114 => ⟨S20480x1536, .i1⟩
  | 115 => ⟨S20480x1536, .f32⟩
  | 116 => ⟨S20480x1536, .f32⟩
  | 117 => ⟨S20480x1536, .f32⟩
  | 118 => ⟨S1x1x4096x1536, .f32⟩
  | 119 => ⟨S4096x1536, .f32⟩
  | 120 => ⟨S20480x1536, .f32⟩
  | 121 => ⟨S20480x1536, .f32⟩
  | 122 => ⟨S20480x1536, .f32⟩
  | 123 => ⟨S_, .f32⟩
  | 124 => ⟨S20480x1536, .f32⟩
  | 125 => ⟨S20480x1536, .f32⟩
  | 126 => ⟨S_, .f32⟩
  | 127 => ⟨S20480x1536, .f32⟩
  | _ => ⟨S5x80, .i32⟩

abbrev hbmTy0_2 (i : Nat) : BufTy := match i % 128 with
  | 0 => ⟨S20480x1536, .f32⟩
  | 1 => ⟨S20480x1536, .f32⟩
  | 2 => ⟨S1x1x4096x1536, .f32⟩
  | 3 => ⟨S4096x1536, .f32⟩
  | 4 => ⟨S20480x1536, .f32⟩
  | 5 => ⟨S20480x1536, .f32⟩
  | 6 => ⟨S_, .i32⟩
  | 7 => ⟨S20480x1, .i32⟩
  | 8 => ⟨S20480x1, .i1⟩
  | 9 => ⟨S_, .f32⟩
  | 10 => ⟨S_, .f32⟩
  | 11 => ⟨S20480x1536, .i1⟩
  | 12 => ⟨S20480x1536, .f32⟩
  | 13 => ⟨S20480x1536, .f32⟩
  | 14 => ⟨S20480x1536, .f32⟩
  | 15 => ⟨S1x1x4096x1536, .f32⟩
  | 16 => ⟨S4096x1536, .f32⟩
  | 17 => ⟨S20480x1536, .f32⟩
  | 18 => ⟨S20480x1536, .f32⟩
  | 19 => ⟨S20480x1536, .f32⟩
  | 20 => ⟨S_, .f32⟩
  | 21 => ⟨S20480x1536, .f32⟩
  | 22 => ⟨S20480x1536, .f32⟩
  | 23 => ⟨S_, .f32⟩
  | 24 => ⟨S20480x1536, .f32⟩
  | 25 => ⟨S20480x1536, .f32⟩
  | 26 => ⟨S20480x1536, .f32⟩
  | 27 => ⟨S1x1x4096x1536, .f32⟩
  | 28 => ⟨S4096x1536, .f32⟩
  | 29 => ⟨S20480x1536, .f32⟩
  | 30 => ⟨S20480x1536, .f32⟩
  | 31 => ⟨S_, .i32⟩
  | 32 => ⟨S20480x1, .i32⟩
  | 33 => ⟨S20480x1, .i1⟩
  | 34 => ⟨S_, .f32⟩
  | 35 => ⟨S_, .f32⟩
  | 36 => ⟨S20480x1536, .i1⟩
  | 37 => ⟨S20480x1536, .f32⟩
  | 38 => ⟨S20480x1536, .f32⟩
  | 39 => ⟨S20480x1536, .f32⟩
  | 40 => ⟨S1x1x4096x1536, .f32⟩
  | 41 => ⟨S4096x1536, .f32⟩
  | 42 => ⟨S20480x1536, .f32⟩
  | 43 => ⟨S20480x1536, .f32⟩
  | 44 => ⟨S20480x1536, .f32⟩
  | 45 => ⟨S_, .f32⟩
  | 46 => ⟨S20480x1536, .f32⟩
  | 47 => ⟨S20480x1536, .f32⟩
  | 48 => ⟨S_, .f32⟩
  | 49 => ⟨S20480x1536, .f32⟩
  | 50 => ⟨S20480x1536, .f32⟩
  | 51 => ⟨S20480x1536, .f32⟩
  | 52 => ⟨S1x1x4096x1536, .f32⟩
  | 53 => ⟨S4096x1536, .f32⟩
  | 54 => ⟨S20480x1536, .f32⟩
  | 55 => ⟨S20480x1536, .f32⟩
  | 56 => ⟨S_, .i32⟩
  | 57 => ⟨S20480x1, .i32⟩
  | 58 => ⟨S20480x1, .i1⟩
  | 59 => ⟨S_, .f32⟩
  | 60 => ⟨S_, .f32⟩
  | 61 => ⟨S20480x1536, .i1⟩
  | 62 => ⟨S20480x1536, .f32⟩
  | 63 => ⟨S20480x1536, .f32⟩
  | 64 => ⟨S20480x1536, .f32⟩
  | 65 => ⟨S1x1x4096x1536, .f32⟩
  | 66 => ⟨S4096x1536, .f32⟩
  | 67 => ⟨S20480x1536, .f32⟩
  | 68 => ⟨S20480x1536, .f32⟩
  | 69 => ⟨S20480x1536, .f32⟩
  | 70 => ⟨S_, .f32⟩
  | 71 => ⟨S20480x1536, .f32⟩
  | 72 => ⟨S20480x1536, .f32⟩
  | 73 => ⟨S_, .f32⟩
  | 74 => ⟨S20480x1536, .f32⟩
  | 75 => ⟨S20480x1536, .f32⟩
  | 76 => ⟨S20480x1536, .f32⟩
  | 77 => ⟨S1x1x4096x1536, .f32⟩
  | 78 => ⟨S4096x1536, .f32⟩
  | 79 => ⟨S20480x1536, .f32⟩
  | 80 => ⟨S20480x1536, .f32⟩
  | 81 => ⟨S_, .i32⟩
  | 82 => ⟨S20480x1, .i32⟩
  | 83 => ⟨S20480x1, .i1⟩
  | 84 => ⟨S_, .f32⟩
  | 85 => ⟨S_, .f32⟩
  | 86 => ⟨S20480x1536, .i1⟩
  | 87 => ⟨S20480x1536, .f32⟩
  | 88 => ⟨S20480x1536, .f32⟩
  | 89 => ⟨S20480x1536, .f32⟩
  | 90 => ⟨S1x1x4096x1536, .f32⟩
  | 91 => ⟨S4096x1536, .f32⟩
  | 92 => ⟨S20480x1536, .f32⟩
  | 93 => ⟨S20480x1536, .f32⟩
  | 94 => ⟨S20480x1536, .f32⟩
  | 95 => ⟨S_, .f32⟩
  | 96 => ⟨S20480x1536, .f32⟩
  | 97 => ⟨S20480x1536, .f32⟩
  | 98 => ⟨S_, .f32⟩
  | 99 => ⟨S20480x1536, .f32⟩
  | 100 => ⟨S20480x1536, .f32⟩
  | 101 => ⟨S20480x1536, .f32⟩
  | 102 => ⟨S1x1x4096x1536, .f32⟩
  | 103 => ⟨S4096x1536, .f32⟩
  | 104 => ⟨S20480x1536, .f32⟩
  | 105 => ⟨S20480x1536, .f32⟩
  | 106 => ⟨S_, .i32⟩
  | 107 => ⟨S20480x1, .i32⟩
  | 108 => ⟨S20480x1, .i1⟩
  | 109 => ⟨S_, .f32⟩
  | 110 => ⟨S_, .f32⟩
  | 111 => ⟨S20480x1536, .i1⟩
  | 112 => ⟨S20480x1536, .f32⟩
  | 113 => ⟨S20480x1536, .f32⟩
  | 114 => ⟨S20480x1536, .f32⟩
  | 115 => ⟨S1x1x4096x1536, .f32⟩
  | 116 => ⟨S4096x1536, .f32⟩
  | 117 => ⟨S20480x1536, .f32⟩
  | 118 => ⟨S20480x1536, .f32⟩
  | 119 => ⟨S20480x1536, .f32⟩
  | 120 => ⟨S_, .f32⟩
  | 121 => ⟨S20480x1536, .f32⟩
  | 122 => ⟨S20480x1536, .f32⟩
  | 123 => ⟨S_, .f32⟩
  | 124 => ⟨S20480x1536, .f32⟩
  | 125 => ⟨S20480x1536, .f32⟩
  | 126 => ⟨S20480x1536, .f32⟩
  | 127 => ⟨S1x1x4096x1536, .f32⟩
  | _ => ⟨S5x80, .i32⟩

abbrev hbmTy0_3 (i : Nat) : BufTy := match i % 128 with
  | 0 => ⟨S4096x1536, .f32⟩
  | 1 => ⟨S20480x1536, .f32⟩
  | 2 => ⟨S20480x1536, .f32⟩
  | 3 => ⟨S_, .i32⟩
  | 4 => ⟨S20480x1, .i32⟩
  | 5 => ⟨S20480x1, .i1⟩
  | 6 => ⟨S_, .f32⟩
  | 7 => ⟨S_, .f32⟩
  | 8 => ⟨S20480x1536, .i1⟩
  | 9 => ⟨S20480x1536, .f32⟩
  | 10 => ⟨S20480x1536, .f32⟩
  | 11 => ⟨S20480x1536, .f32⟩
  | 12 => ⟨S1x1x4096x1536, .f32⟩
  | 13 => ⟨S4096x1536, .f32⟩
  | 14 => ⟨S20480x1536, .f32⟩
  | 15 => ⟨S20480x1536, .f32⟩
  | 16 => ⟨S20480x1536, .f32⟩
  | 17 => ⟨S_, .f32⟩
  | 18 => ⟨S20480x1536, .f32⟩
  | 19 => ⟨S20480x1536, .f32⟩
  | 20 => ⟨S_, .f32⟩
  | 21 => ⟨S20480x1536, .f32⟩
  | 22 => ⟨S20480x1536, .f32⟩
  | 23 => ⟨S20480x1536, .f32⟩
  | 24 => ⟨S1x1x4096x1536, .f32⟩
  | 25 => ⟨S4096x1536, .f32⟩
  | 26 => ⟨S20480x1536, .f32⟩
  | 27 => ⟨S20480x1536, .f32⟩
  | 28 => ⟨S_, .i32⟩
  | 29 => ⟨S20480x1, .i32⟩
  | 30 => ⟨S20480x1, .i1⟩
  | 31 => ⟨S_, .f32⟩
  | 32 => ⟨S_, .f32⟩
  | 33 => ⟨S20480x1536, .i1⟩
  | 34 => ⟨S20480x1536, .f32⟩
  | 35 => ⟨S20480x1536, .f32⟩
  | 36 => ⟨S20480x1536, .f32⟩
  | 37 => ⟨S20480x1536, .bf16⟩
  | _ => ⟨S5x80, .i32⟩

abbrev hbmTy (i : Nat) : BufTy := match i / 128 with
  | 0 => hbmTy0_0 i
  | 1 => hbmTy0_1 i
  | 2 => hbmTy0_2 i
  | 3 => hbmTy0_3 i
  | _ => ⟨S5x80, .i32⟩

abbrev bufTy : (tb : Table) → Fin (tcTables nBuf tb) → BufTy
  | .hbm, ⟨i, _⟩ => hbmTy i
  | _, _ => ⟨S5x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_13 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_15 : Ref sig .tc := ⟨.hbm, 112, rfl⟩
abbrev main_v80 : Ref sig .tc := ⟨.hbm, 113, rfl⟩
abbrev main_v81 : Ref sig .tc := ⟨.hbm, 114, rfl⟩
abbrev main_cst_16 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_19 : Ref sig .tc := ⟨.hbm, 137, rfl⟩
abbrev main_v98 : Ref sig .tc := ⟨.hbm, 138, rfl⟩
abbrev main_v99 : Ref sig .tc := ⟨.hbm, 139, rfl⟩
abbrev main_cst_20 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_21 : Ref sig .tc := ⟨.hbm, 151, rfl⟩
abbrev main_v107 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_23 : Ref sig .tc := ⟨.hbm, 162, rfl⟩
abbrev main_v116 : Ref sig .tc := ⟨.hbm, 163, rfl⟩
abbrev main_v117 : Ref sig .tc := ⟨.hbm, 164, rfl⟩
abbrev main_cst_24 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_25 : Ref sig .tc := ⟨.hbm, 176, rfl⟩
abbrev main_v125 : Ref sig .tc := ⟨.hbm, 177, rfl⟩
abbrev main_v126 : Ref sig .tc := ⟨.hbm, 178, rfl⟩
abbrev main_cst_26 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_c_27 : Ref sig .tc := ⟨.hbm, 187, rfl⟩
abbrev main_v134 : Ref sig .tc := ⟨.hbm, 188, rfl⟩
abbrev main_v135 : Ref sig .tc := ⟨.hbm, 189, rfl⟩
abbrev main_cst_28 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_29 : Ref sig .tc := ⟨.hbm, 201, rfl⟩
abbrev main_v143 : Ref sig .tc := ⟨.hbm, 202, rfl⟩
abbrev main_v144 : Ref sig .tc := ⟨.hbm, 203, rfl⟩
abbrev main_cst_30 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_31 : Ref sig .tc := ⟨.hbm, 212, rfl⟩
abbrev main_v152 : Ref sig .tc := ⟨.hbm, 213, rfl⟩
abbrev main_v153 : Ref sig .tc := ⟨.hbm, 214, rfl⟩
abbrev main_cst_32 : Ref sig .tc := ⟨.hbm, 215, rfl⟩
abbrev main_call8_v0 : Ref sig .tc := ⟨.hbm, 216, rfl⟩
abbrev main_call8_v1 : Ref sig .tc := ⟨.hbm, 217, rfl⟩
abbrev main_call8_v2 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_cst_33 : Ref sig .tc := ⟨.hbm, 226, rfl⟩
abbrev main_v161 : Ref sig .tc := ⟨.hbm, 227, rfl⟩
abbrev main_v162 : Ref sig .tc := ⟨.hbm, 228, rfl⟩
abbrev main_cst_34 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_c_35 : Ref sig .tc := ⟨.hbm, 237, rfl⟩
abbrev main_v170 : Ref sig .tc := ⟨.hbm, 238, rfl⟩
abbrev main_v171 : Ref sig .tc := ⟨.hbm, 239, rfl⟩
abbrev main_cst_36 : Ref sig .tc := ⟨.hbm, 240, rfl⟩
abbrev main_call9_v0 : Ref sig .tc := ⟨.hbm, 241, rfl⟩
abbrev main_call9_v1 : Ref sig .tc := ⟨.hbm, 242, rfl⟩
abbrev main_call9_v2 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_cst_37 : Ref sig .tc := ⟨.hbm, 251, rfl⟩
abbrev main_v179 : Ref sig .tc := ⟨.hbm, 252, rfl⟩
abbrev main_v180 : Ref sig .tc := ⟨.hbm, 253, rfl⟩
abbrev main_cst_38 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_c_39 : Ref sig .tc := ⟨.hbm, 262, rfl⟩
abbrev main_v188 : Ref sig .tc := ⟨.hbm, 263, rfl⟩
abbrev main_v189 : Ref sig .tc := ⟨.hbm, 264, rfl⟩
abbrev main_cst_40 : Ref sig .tc := ⟨.hbm, 265, rfl⟩
abbrev main_call10_v0 : Ref sig .tc := ⟨.hbm, 266, rfl⟩
abbrev main_call10_v1 : Ref sig .tc := ⟨.hbm, 267, rfl⟩
abbrev main_call10_v2 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_cst_41 : Ref sig .tc := ⟨.hbm, 276, rfl⟩
abbrev main_v197 : Ref sig .tc := ⟨.hbm, 277, rfl⟩
abbrev main_v198 : Ref sig .tc := ⟨.hbm, 278, rfl⟩
abbrev main_cst_42 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_c_43 : Ref sig .tc := ⟨.hbm, 287, rfl⟩
abbrev main_v206 : Ref sig .tc := ⟨.hbm, 288, rfl⟩
abbrev main_v207 : Ref sig .tc := ⟨.hbm, 289, rfl⟩
abbrev main_cst_44 : Ref sig .tc := ⟨.hbm, 290, rfl⟩
abbrev main_call11_v0 : Ref sig .tc := ⟨.hbm, 291, rfl⟩
abbrev main_call11_v1 : Ref sig .tc := ⟨.hbm, 292, rfl⟩
abbrev main_call11_v2 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_cst_45 : Ref sig .tc := ⟨.hbm, 301, rfl⟩
abbrev main_v215 : Ref sig .tc := ⟨.hbm, 302, rfl⟩
abbrev main_v216 : Ref sig .tc := ⟨.hbm, 303, rfl⟩
abbrev main_cst_46 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_c_47 : Ref sig .tc := ⟨.hbm, 312, rfl⟩
abbrev main_v224 : Ref sig .tc := ⟨.hbm, 313, rfl⟩
abbrev main_v225 : Ref sig .tc := ⟨.hbm, 314, rfl⟩
abbrev main_cst_48 : Ref sig .tc := ⟨.hbm, 315, rfl⟩
abbrev main_call12_v0 : Ref sig .tc := ⟨.hbm, 316, rfl⟩
abbrev main_call12_v1 : Ref sig .tc := ⟨.hbm, 317, rfl⟩
abbrev main_call12_v2 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_cst_49 : Ref sig .tc := ⟨.hbm, 326, rfl⟩
abbrev main_v233 : Ref sig .tc := ⟨.hbm, 327, rfl⟩
abbrev main_v234 : Ref sig .tc := ⟨.hbm, 328, rfl⟩
abbrev main_cst_50 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_c_51 : Ref sig .tc := ⟨.hbm, 337, rfl⟩
abbrev main_v242 : Ref sig .tc := ⟨.hbm, 338, rfl⟩
abbrev main_v243 : Ref sig .tc := ⟨.hbm, 339, rfl⟩
abbrev main_cst_52 : Ref sig .tc := ⟨.hbm, 340, rfl⟩
abbrev main_call13_v0 : Ref sig .tc := ⟨.hbm, 341, rfl⟩
abbrev main_call13_v1 : Ref sig .tc := ⟨.hbm, 342, rfl⟩
abbrev main_call13_v2 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_cst_53 : Ref sig .tc := ⟨.hbm, 351, rfl⟩
abbrev main_v251 : Ref sig .tc := ⟨.hbm, 352, rfl⟩
abbrev main_v252 : Ref sig .tc := ⟨.hbm, 353, rfl⟩
abbrev main_cst_54 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_c_55 : Ref sig .tc := ⟨.hbm, 362, rfl⟩
abbrev main_v260 : Ref sig .tc := ⟨.hbm, 363, rfl⟩
abbrev main_v261 : Ref sig .tc := ⟨.hbm, 364, rfl⟩
abbrev main_cst_56 : Ref sig .tc := ⟨.hbm, 365, rfl⟩
abbrev main_call14_v0 : Ref sig .tc := ⟨.hbm, 366, rfl⟩
abbrev main_call14_v1 : Ref sig .tc := ⟨.hbm, 367, rfl⟩
abbrev main_call14_v2 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_v266 : Ref sig .tc := ⟨.hbm, 373, rfl⟩
abbrev main_v267 : Ref sig .tc := ⟨.hbm, 374, rfl⟩
abbrev main_v268 : Ref sig .tc := ⟨.hbm, 375, rfl⟩
abbrev main_cst_57 : Ref sig .tc := ⟨.hbm, 376, rfl⟩
abbrev main_v269 : Ref sig .tc := ⟨.hbm, 377, rfl⟩
abbrev main_v270 : Ref sig .tc := ⟨.hbm, 378, rfl⟩
abbrev main_cst_58 : Ref sig .tc := ⟨.hbm, 379, rfl⟩
abbrev main_v271 : Ref sig .tc := ⟨.hbm, 380, rfl⟩
abbrev main_v272 : Ref sig .tc := ⟨.hbm, 381, rfl⟩
abbrev main_v273 : Ref sig .tc := ⟨.hbm, 382, rfl⟩
abbrev main_v274 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_c_59 : Ref sig .tc := ⟨.hbm, 387, rfl⟩
abbrev main_v278 : Ref sig .tc := ⟨.hbm, 388, rfl⟩
abbrev main_v279 : Ref sig .tc := ⟨.hbm, 389, rfl⟩
abbrev main_cst_60 : Ref sig .tc := ⟨.hbm, 390, rfl⟩
abbrev main_call15_v0 : Ref sig .tc := ⟨.hbm, 391, rfl⟩
abbrev main_call15_v1 : Ref sig .tc := ⟨.hbm, 392, rfl⟩
abbrev main_call15_v2 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_cst_61 : Ref sig .tc := ⟨.hbm, 401, rfl⟩
abbrev main_v287 : Ref sig .tc := ⟨.hbm, 402, rfl⟩
abbrev main_v288 : Ref sig .tc := ⟨.hbm, 403, rfl⟩
abbrev main_cst_62 : Ref sig .tc := ⟨.hbm, 404, rfl⟩
abbrev main_v289 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_v293 : Ref sig .tc := ⟨.hbm, 409, rfl⟩
abbrev main_v294 : Ref sig .tc := ⟨.hbm, 410, rfl⟩
abbrev main_v295 : Ref sig .tc := ⟨.hbm, 411, rfl⟩
abbrev main_c_63 : Ref sig .tc := ⟨.hbm, 412, rfl⟩
abbrev main_v296 : Ref sig .tc := ⟨.hbm, 413, rfl⟩
abbrev main_v297 : Ref sig .tc := ⟨.hbm, 414, rfl⟩
abbrev main_cst_64 : Ref sig .tc := ⟨.hbm, 415, rfl⟩
abbrev main_call16_v0 : Ref sig .tc := ⟨.hbm, 416, rfl⟩
abbrev main_call16_v1 : Ref sig .tc := ⟨.hbm, 417, rfl⟩
abbrev main_call16_v2 : Ref sig .tc := ⟨.hbm, 418, rfl⟩
abbrev main_v298 : Ref sig .tc := ⟨.hbm, 419, rfl⟩
abbrev main_v299 : Ref sig .tc := ⟨.hbm, 420, rfl⟩
abbrev main_v300 : Ref sig .tc := ⟨.hbm, 421, rfl⟩

abbrev nD : Nat := 1
abbrev τ : Topo := Topo.v7x

variable {F : FTy → Type} [FloatOps F]
-- ==== KernelUp1.lean ====
abbrev S5x80 : Shape := ⟨2, ![5, 80]⟩
abbrev S20480x4096 : Shape := ⟨2, ![20480, 4096]⟩
abbrev S2x16x4096x1536 : Shape := ⟨4, ![2, 16, 4096, 1536]⟩
abbrev S20480x1536 : Shape := ⟨2, ![20480, 1536]⟩
abbrev S256x4096 : Shape := ⟨2, ![256, 4096]⟩
abbrev S256x512 : Shape := ⟨2, ![256, 512]⟩
abbrev S2x4096x512 : Shape := ⟨3, ![2, 4096, 512]⟩
abbrev S2 : Shape := ⟨1, ![2]⟩
abbrev S1x1 : Shape := ⟨2, ![1, 1]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩
abbrev S1x1x4096x512 : Shape := ⟨4, ![1, 1, 4096, 512]⟩

abbrev nBuf : Space → Nat
  | .hbm => 4
  | .vmem => 6
  | .smem => 1
  | _ => 0

abbrev bufTy : (tb : Table) → Fin (tcTables nBuf tb) → BufTy
  | .hbm, ⟨0, _⟩ => ⟨S20480x4096, .bf16⟩
  | .hbm, ⟨1, _⟩ => ⟨S2x16x4096x1536, .f32⟩
  | .hbm, ⟨2, _⟩ => ⟨S2x16x4096x1536, .f32⟩
  | .hbm, ⟨3, _⟩ => ⟨S20480x1536, .bf16⟩
  | .local _ .vmem, ⟨0, _⟩ => ⟨S256x4096, .bf16⟩
  | .local _ .vmem, ⟨1, _⟩ => ⟨S256x4096, .bf16⟩
  | .local _ .vmem, ⟨2, _⟩ => ⟨S256x512, .bf16⟩
  | .local _ .vmem, ⟨3, _⟩ => ⟨S256x512, .bf16⟩
  | .local _ .vmem, ⟨4, _⟩ => ⟨S2x4096x512, .f32⟩
  | .local _ .vmem, ⟨5, _⟩ => ⟨S2x4096x512, .bf16⟩
  | .local _ .smem, ⟨0, _⟩ => ⟨S5x80, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![3, 80], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def k0_mult1 : BitVec 32 :=
  let c0_i32_7 : BitVec 32 := 0#32
  c0_i32_7
def k0_off1 (v19 : BitVec 32) : Fin 4 → Nat :=
  let c1_i32_8 : BitVec 32 := 1#32
  let c0_i32_13 : BitVec 32 := 0#32
  let c0_i32_7 : BitVec 32 := 0#32
  let v20 : BitVec 32 := c0_i32_7
  ![1, v19.toNat, 0, 0]

def k0_chk1 (i : grid0.Coords) (v19 : BitVec 32) : Prop :=
  (∀ (k0_h1 : k0_cond1 i = 1#1), ∀ a, (k0_off1 v19) a + S1x1x4096x512.size a ≤ S2x16x4096x1536.size a)
theorem k0_off1_inb : ∀ (i : grid0.Coords) (v19 : BitVec 32) (k0_hw1 : k0_chk1 i v19), ∀ (k0_h1 : k0_cond1 i = 1#1), ∀ a, (k0_off1 v19) a + S1x1x4096x512.size a ≤ S2x16x4096x1536.size a := fun i v19 k0_hw1 k0_h1 => k0_hw1 k0_h1

def k0_off2 (i : grid0.Coords) : Fin 2 → Nat :=
  let c2 : Index := 2#32
  let arg1 : BitVec 32 := BitVec.ofNat 32 (i 1).val
  let v6 : Index := Scalar.indexCast arg1
  ![2, v6.toNat]
def k0_off3 (i : grid0.Coords) : Fin 2 → Nat :=
  let c0 : Index := 0#32
  let arg1 : BitVec 32 := BitVec.ofNat 32 (i 1).val
  let v19 : Index := Scalar.indexCast arg1
  ![0, v19.toNat]
def k0_mult2 (i : grid0.Coords) : BitVec 32 :=
  let arg0 : BitVec 32 := BitVec.ofNat 32 (i 0).val
  let c512_i32 : BitVec 32 := 512#32
  let v21 : BitVec 32 := Scalar.muli arg0 c512_i32
  v21
def k0_off4 (i : grid0.Coords) (v20 : BitVec 32) : Fin 4 → Nat :=
  let c1_i32_6 : BitVec 32 := 1#32
  let c0_i32_11 : BitVec 32 := 0#32
  let arg0 : BitVec 32 := BitVec.ofNat 32 (i 0).val
  let c512_i32 : BitVec 32 := 512#32
  let v21 : BitVec 32 := Scalar.muli arg0 c512_i32
  let v22 : BitVec 32 := v21
  ![1, v20.toNat, 0, v22.toNat]
def k0_cond2 (v7 : BitVec 32) : BitVec 1 :=
  let c1_i32 : BitVec 32 := 1#32
  let v8 : BitVec 1 := Scalar.cmpi .eq v7 c1_i32
  let v9 : BitVec 32 := Scalar.extui v8
  let c0_i32_2 : BitVec 32 := 0#32
  let v10 : BitVec 1 := Scalar.cmpi .ne v9 c0_i32_2
  v10

def k0_chk2 (i : grid0.Coords) (v7 : BitVec 32) (v20 : BitVec 32) : Prop :=
  (∀ (k0_h2 : k0_cond2 v7 = 1#1), ∀ a, (k0_off4 i v20) a + S1x1x4096x512.size a ≤ S2x16x4096x1536.size a)
theorem k0_off4_inb : ∀ (i : grid0.Coords) (v7 : BitVec 32) (v20 : BitVec 32) (k0_hw2 : k0_chk2 i v7 v20), ∀ (k0_h2 : k0_cond2 v7 = 1#1), ∀ a, (k0_off4 i v20) a + S1x1x4096x512.size a ≤ S2x16x4096x1536.size a := fun i v7 v20 k0_hw2 k0_h2 => k0_hw2 k0_h2

def k0_off5 (i : grid0.Coords) : Fin 2 → Nat :=
  let c4 : Index := 4#32
  let arg1 : BitVec 32 := BitVec.ofNat 32 (i 1).val
  let v47 : Index := Scalar.indexCast arg1
  ![4, v47.toNat]
def k0_off6 (i : grid0.Coords) : Fin 2 → Nat :=
  let c3 : Index := 3#32
  let arg1 : BitVec 32 := BitVec.ofNat 32 (i 1).val
  let v54 : Index := Scalar.indexCast arg1
  ![3, v54.toNat]
def k0_mult3 (i : grid0.Coords) (v48 : BitVec 32) : BitVec 32 :=
  let c1_i32_30 : BitVec 32 := 1#32
  let v49 : BitVec 1 := Scalar.cmpi .eq v48 c1_i32_30
  let arg0 : BitVec 32 := BitVec.ofNat 32 (i 0).val
  let c1_i32_33 : BitVec 32 := 1#32
  let v56 : BitVec 32 := Scalar.addi arg0 c1_i32_33
  let v57 : BitVec 32 := Scalar.select v49 v56 arg0
  let c512_i32_34 : BitVec 32 := 512#32
  let v58 : BitVec 32 := Scalar.muli v57 c512_i32_34
  v58
def k0_cond3 (i : grid0.Coords) (v48 : BitVec 32) : BitVec 1 :=
  let c1_i32_30 : BitVec 32 := 1#32
  let v49 : BitVec 1 := Scalar.cmpi .eq v48 c1_i32_30
  let arg0 : BitVec 32 := BitVec.ofNat 32 (i 0).val
  let c2_i32 : BitVec 32 := 2#32
  let v0 : BitVec 1 := Scalar.cmpi .eq arg0 c2_i32
  let v50 : BitVec 1 := Scalar.andi v49 v0
  let true_31 : BitVec 1 := 1#1
  let v51 : BitVec 1 := Scalar.xori v50 true_31
  let v52 : BitVec 32 := Scalar.extui v51
  let c0_i32_32 : BitVec 32 := 0#32
  let v53 : BitVec 1 := Scalar.cmpi .ne v52 c0_i32_32
  v53

def k0_chk3 (i : grid0.Coords) (v7 : BitVec 32) (v48 : BitVec 32) : Prop :=
  (∀ (k0_h2 : k0_cond2 v7 = 1#1), ∀ (k0_h3 : k0_cond3 i v48 = 1#1), 512 ∣ (k0_mult3 i v48).toNat)
theorem k0_mult3_dvd : ∀ (i : grid0.Coords) (v7 : BitVec 32) (v48 : BitVec 32) (k0_hw3 : k0_chk3 i v7 v48), ∀ (k0_h2 : k0_cond2 v7 = 1#1), ∀ (k0_h3 : k0_cond3 i v48 = 1#1), 512 ∣ (k0_mult3 i v48).toNat := fun i v7 v48 k0_hw3 k0_h2 k0_h3 => k0_hw3 k0_h2 k0_h3

def k0_off7 (i : grid0.Coords) (v48 : BitVec 32) (v55 : BitVec 32) : Fin 4 → Nat :=
  let c1_i32_35 : BitVec 32 := 1#32
  let c0_i32_40 : BitVec 32 := 0#32
  let c1_i32_30 : BitVec 32 := 1#32
  let v49 : BitVec 1 := Scalar.cmpi .eq v48 c1_i32_30
  let arg0 : BitVec 32 := BitVec.ofNat 32 (i 0).val
  let c1_i32_33 : BitVec 32 := 1#32
  let v56 : BitVec 32 := Scalar.addi arg0 c1_i32_33
  let v57 : BitVec 32 := Scalar.select v49 v56 arg0
  let c512_i32_34 : BitVec 32 := 512#32
  let v58 : BitVec 32 := Scalar.muli v57 c512_i32_34
  let v59 : BitVec 32 := v58
  ![1, v55.toNat, 0, v59.toNat]

def k0_chk4 (i : grid0.Coords) (v7 : BitVec 32) (v48 : BitVec 32) (v55 : BitVec 32) : Prop :=
  (∀ (k0_h2 : k0_cond2 v7 = 1#1), ∀ (k0_h3 : k0_cond3 i v48 = 1#1), ∀ a, (k0_off7 i v48 v55) a + S1x1x4096x512.size a ≤ S2x16x4096x1536.size a)
theorem k0_off7_inb : ∀ (i : grid0.Coords) (v7 : BitVec 32) (v48 : BitVec 32) (v55 : BitVec 32) (k0_hw4 : k0_chk4 i v7 v48 v55), ∀ (k0_h2 : k0_cond2 v7 = 1#1), ∀ (k0_h3 : k0_cond3 i v48 = 1#1), ∀ a, (k0_off7 i v48 v55) a + S1x1x4096x512.size a ≤ S2x16x4096x1536.size a := fun i v7 v48 v55 k0_hw4 k0_h2 k0_h3 => k0_hw4 k0_h2 k0_h3

def k0_off8 (i : grid0.Coords) : Fin 2 → Nat :=
  let c1 : Index := 1#32
  let arg1 : BitVec 32 := BitVec.ofNat 32 (i 1).val
  let v11 : Index := Scalar.indexCast arg1
  ![1, v11.toNat]
def k0_cond4 (v12 : BitVec 32) : BitVec 1 :=
  let c1_i32_3 : BitVec 32 := 1#32
  let v13 : BitVec 1 := Scalar.cmpi .eq v12 c1_i32_3
  let v14 : BitVec 32 := Scalar.extui v13
  let c0_i32_4 : BitVec 32 := 0#32
  let v15 : BitVec 1 := Scalar.cmpi .ne v14 c0_i32_4
  v15

def k0_cond5 (v12 : BitVec 32) : BitVec 1 :=
  let c1_i32_3 : BitVec 32 := 1#32
  let v13 : BitVec 1 := Scalar.cmpi .eq v12 c1_i32_3
  let v_true : BitVec 1 := 1#1
  let v16 : BitVec 1 := Scalar.xori v13 v_true
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceUp1Ideal.lean ====
abbrev S5x80 : Shape := ⟨2, ![5, 80]⟩
abbrev S20480x4096 : Shape := ⟨2, ![20480, 4096]⟩
abbrev S2x16x4096x1536 : Shape := ⟨4, ![2, 16, 4096, 1536]⟩
abbrev S1x80 : Shape := ⟨2, ![1, 80]⟩
abbrev S80 : Shape := ⟨1, ![80]⟩
abbrev S_ : Shape := ⟨0, ![]⟩
abbrev S80x256 : Shape := ⟨2, ![80, 256]⟩
abbrev S20480 : Shape := ⟨1, ![20480]⟩
abbrev S20480x1 : Shape := ⟨2, ![20480, 1]⟩
abbrev S20480x1536 : Shape := ⟨2, ![20480, 1536]⟩
abbrev S1x1x4096x1536 : Shape := ⟨4, ![1, 1, 4096, 1536]⟩
abbrev S4096x1536 : Shape := ⟨2, ![4096, 1536]⟩

abbrev nBuf : Space → Nat
  | .hbm => 422
  | .vmem => 0
  | .smem => 0
  | _ => 0

abbrev hbmTy0_0 (i : Nat) : BufTy := match i % 128 with
  | 0 => ⟨S5x80, .i32⟩
  | 1 => ⟨S20480x4096, .bf16⟩
  | 2 => ⟨S2x16x4096x1536, .f32⟩
  | 3 => ⟨S2x16x4096x1536, .f32⟩
  | 4 => ⟨S20480x4096, .f32⟩
  | 5 => ⟨S1x80, .i32⟩
  | 6 => ⟨S80, .i32⟩
  | 7 => ⟨S_, .i32⟩
  | 8 => ⟨S80, .i32⟩
  | 9 => ⟨S80, .i1⟩
  | 10 => ⟨S1x80, .i32⟩
  | 11 => ⟨S80, .i32⟩
  | 12 => ⟨S_, .i32⟩
  | 13 => ⟨S_, .i32⟩
  | 14 => ⟨S80, .i32⟩
  | 15 => ⟨S80, .i32⟩
  | 16 => ⟨S80x256, .i32⟩
  | 17 => ⟨S20480, .i32⟩
  | 18 => ⟨S20480x1, .i32⟩
  | 19 => ⟨S_, .f32⟩
  | 20 => ⟨S20480x1536, .f32⟩
  | 21 => ⟨S1x1x4096x1536, .f32⟩
  | 22 => ⟨S4096x1536, .f32⟩
  | 23 => ⟨S20480x1536, .f32⟩
  | 24 => ⟨S20480x1536, .f32⟩
  | 25 => ⟨S20480x1536, .f32⟩
  | 26 => ⟨S_, .f32⟩
  | 27 => ⟨S20480x1536, .f32⟩
  | 28 => ⟨S20480x1536, .f32⟩
  | 29 => ⟨S_, .f32⟩
  | 30 => ⟨S20480x1536, .f32⟩
  | 31 => ⟨S20480x1536, .f32⟩
  | 32 => ⟨S20480x1536, .f32⟩
  | 33 => ⟨S1x1x4096x1536, .f32⟩
  | 34 => ⟨S4096x1536, .f32⟩
  | 35 => ⟨S20480x1536, .f32⟩
  | 36 => ⟨S20480x1536, .f32⟩
  | 37 => ⟨S_, .i32⟩
  | 38 => ⟨S20480x1, .i32⟩
  | 39 => ⟨S20480x1, .i1⟩
  | 40 => ⟨S_, .f32⟩
  | 41 => ⟨S_, .f32⟩
  | 42 => ⟨S20480x1536, .i1⟩
  | 43 => ⟨S20480x1536, .f32⟩
  | 44 => ⟨S20480x1536, .f32⟩
  | 45 => ⟨S20480x1536, .f32⟩
  | 46 => ⟨S1x1x4096x1536, .f32⟩
  | 47 => ⟨S4096x1536, .f32⟩
  | 48 => ⟨S20480x1536, .f32⟩
  | 49 => ⟨S20480x1536, .f32⟩
  | 50 => ⟨S20480x1536, .f32⟩
  | 51 => ⟨S_, .f32⟩
  | 52 => ⟨S20480x1536, .f32⟩
  | 53 => ⟨S20480x1536, .f32⟩
  | 54 => ⟨S_, .f32⟩
  | 55 => ⟨S20480x1536, .f32⟩
  | 56 => ⟨S20480x1536, .f32⟩
  | 57 => ⟨S20480x1536, .f32⟩
  | 58 => ⟨S1x1x4096x1536, .f32⟩
  | 59 => ⟨S4096x1536, .f32⟩
  | 60 => ⟨S20480x1536, .f32⟩
  | 61 => ⟨S20480x1536, .f32⟩
  | 62 => ⟨S_, .i32⟩
  | 63 => ⟨S20480x1, .i32⟩
  | 64 => ⟨S20480x1, .i1⟩
  | 65 => ⟨S_, .f32⟩
  | 66 => ⟨S_, .f32⟩
  | 67 => ⟨S20480x1536, .i1⟩
  | 68 => ⟨S20480x1536, .f32⟩
  | 69 => ⟨S20480x1536, .f32⟩
  | 70 => ⟨S20480x1536, .f32⟩
  | 71 => ⟨S1x1x4096x1536, .f32⟩
  | 72 => ⟨S4096x1536, .f32⟩
  | 73 => ⟨S20480x1536, .f32⟩
  | 74 => ⟨S20480x1536, .f32⟩
  | 75 => ⟨S20480x1536, .f32⟩
  | 76 => ⟨S_, .f32⟩
  | 77 => ⟨S20480x1536, .f32⟩
  | 78 => ⟨S20480x1536, .f32⟩
  | 79 => ⟨S_, .f32⟩
  | 80 => ⟨S20480x1536, .f32⟩
  | 81 => ⟨S20480x1536, .f32⟩
  | 82 => ⟨S20480x1536, .f32⟩
  | 83 => ⟨S1x1x4096x1536, .f32⟩
  | 84 => ⟨S4096x1536, .f32⟩
  | 85 => ⟨S20480x1536, .f32⟩
  | 86 => ⟨S20480x1536, .f32⟩
  | 87 => ⟨S_, .i32⟩
  | 88 => ⟨S20480x1, .i32⟩
  | 89 => ⟨S20480x1, .i1⟩
  | 90 => ⟨S_, .f32⟩
  | 91 => ⟨S_, .f32⟩
  | 92 => ⟨S20480x1536, .i1⟩
  | 93 => ⟨S20480x1536, .f32⟩
  | 94 => ⟨S20480x1536, .f32⟩
  | 95 => ⟨S20480x1536, .f32⟩
  | 96 => ⟨S1x1x4096x1536, .f32⟩
  | 97 => ⟨S4096x1536, .f32⟩
  | 98 => ⟨S20480x1536, .f32⟩
  | 99 => ⟨S20480x1536, .f32⟩
  | 100 => ⟨S20480x1536, .f32⟩
  | 101 => ⟨S_, .f32⟩
  | 102 => ⟨S20480x1536, .f32⟩
  | 103 => ⟨S20480x1536, .f32⟩
  | 104 => ⟨S_, .f32⟩
  | 105 => ⟨S20480x1536, .f32⟩
  | 106 => ⟨S20480x1536, .f32⟩
  | 107 => ⟨S20480x1536, .f32⟩
  | 108 => ⟨S1x1x4096x1536, .f32⟩
  | 109 => ⟨S4096x1536, .f32⟩
  | 110 => ⟨S20480x1536, .f32⟩
  | 111 => ⟨S20480x1536, .f32⟩
  | 112 => ⟨S_, .i32⟩
  | 113 => ⟨S20480x1, .i32⟩
  | 114 => ⟨S20480x1, .i1⟩
  | 115 => ⟨S_, .f32⟩
  | 116 => ⟨S_, .f32⟩
  | 117 => ⟨S20480x1536, .i1⟩
  | 118 => ⟨S20480x1536, .f32⟩
  | 119 => ⟨S20480x1536, .f32⟩
  | 120 => ⟨S20480x1536, .f32⟩
  | 121 => ⟨S1x1x4096x1536, .f32⟩
  | 122 => ⟨S4096x1536, .f32⟩
  | 123 => ⟨S20480x1536, .f32⟩
  | 124 => ⟨S20480x1536, .f32⟩
  | 125 => ⟨S20480x1536, .f32⟩
  | 126 => ⟨S_, .f32⟩
  | 127 => ⟨S20480x1536, .f32⟩
  | _ => ⟨S5x80, .i32⟩

abbrev hbmTy0_1 (i : Nat) : BufTy := match i % 128 with
  | 0 => ⟨S20480x1536, .f32⟩
  | 1 => ⟨S_, .f32⟩
  | 2 => ⟨S20480x1536, .f32⟩
  | 3 => ⟨S20480x1536, .f32⟩
  | 4 => ⟨S20480x1536, .f32⟩
  | 5 => ⟨S1x1x4096x1536, .f32⟩
  | 6 => ⟨S4096x1536, .f32⟩
  | 7 => ⟨S20480x1536, .f32⟩
  | 8 => ⟨S20480x1536, .f32⟩
  | 9 => ⟨S_, .i32⟩
  | 10 => ⟨S20480x1, .i32⟩
  | 11 => ⟨S20480x1, .i1⟩
  | 12 => ⟨S_, .f32⟩
  | 13 => ⟨S_, .f32⟩
  | 14 => ⟨S20480x1536, .i1⟩
  | 15 => ⟨S20480x1536, .f32⟩
  | 16 => ⟨S20480x1536, .f32⟩
  | 17 => ⟨S20480x1536, .f32⟩
  | 18 => ⟨S1x1x4096x1536, .f32⟩
  | 19 => ⟨S4096x1536, .f32⟩
  | 20 => ⟨S20480x1536, .f32⟩
  | 21 => ⟨S20480x1536, .f32⟩
  | 22 => ⟨S20480x1536, .f32⟩
  | 23 => ⟨S_, .f32⟩
  | 24 => ⟨S20480x1536, .f32⟩
  | 25 => ⟨S20480x1536, .f32⟩
  | 26 => ⟨S_, .f32⟩
  | 27 => ⟨S20480x1536, .f32⟩
  | 28 => ⟨S20480x1536, .f32⟩
  | 29 => ⟨S20480x1536, .f32⟩
  | 30 => ⟨S1x1x4096x1536, .f32⟩
  | 31 => ⟨S4096x1536, .f32⟩
  | 32 => ⟨S20480x1536, .f32⟩
  | 33 => ⟨S20480x1536, .f32⟩
  | 34 => ⟨S_, .i32⟩
  | 35 => ⟨S20480x1, .i32⟩
  | 36 => ⟨S20480x1, .i1⟩
  | 37 => ⟨S_, .f32⟩
  | 38 => ⟨S_, .f32⟩
  | 39 => ⟨S20480x1536, .i1⟩
  | 40 => ⟨S20480x1536, .f32⟩
  | 41 => ⟨S20480x1536, .f32⟩
  | 42 => ⟨S20480x1536, .f32⟩
  | 43 => ⟨S1x1x4096x1536, .f32⟩
  | 44 => ⟨S4096x1536, .f32⟩
  | 45 => ⟨S20480x1536, .f32⟩
  | 46 => ⟨S20480x1536, .f32⟩
  | 47 => ⟨S20480x1536, .f32⟩
  | 48 => ⟨S_, .f32⟩
  | 49 => ⟨S20480x1536, .f32⟩
  | 50 => ⟨S20480x1536, .f32⟩
  | 51 => ⟨S_, .f32⟩
  | 52 => ⟨S20480x1536, .f32⟩
  | 53 => ⟨S20480x1536, .f32⟩
  | 54 => ⟨S20480x1536, .f32⟩
  | 55 => ⟨S1x1x4096x1536, .f32⟩
  | 56 => ⟨S4096x1536, .f32⟩
  | 57 => ⟨S20480x1536, .f32⟩
  | 58 => ⟨S20480x1536, .f32⟩
  | 59 => ⟨S_, .i32⟩
  | 60 => ⟨S20480x1, .i32⟩
  | 61 => ⟨S20480x1, .i1⟩
  | 62 => ⟨S_, .f32⟩
  | 63 => ⟨S_, .f32⟩
  | 64 => ⟨S20480x1536, .i1⟩
  | 65 => ⟨S20480x1536, .f32⟩
  | 66 => ⟨S20480x1536, .f32⟩
  | 67 => ⟨S20480x1536, .f32⟩
  | 68 => ⟨S1x1x4096x1536, .f32⟩
  | 69 => ⟨S4096x1536, .f32⟩
  | 70 => ⟨S20480x1536, .f32⟩
  | 71 => ⟨S20480x1536, .f32⟩
  | 72 => ⟨S20480x1536, .f32⟩
  | 73 => ⟨S_, .f32⟩
  | 74 => ⟨S20480x1536, .f32⟩
  | 75 => ⟨S20480x1536, .f32⟩
  | 76 => ⟨S_, .f32⟩
  | 77 => ⟨S20480x1536, .f32⟩
  | 78 => ⟨S20480x1536, .f32⟩
  | 79 => ⟨S20480x1536, .f32⟩
  | 80 => ⟨S1x1x4096x1536, .f32⟩
  | 81 => ⟨S4096x1536, .f32⟩
  | 82 => ⟨S20480x1536, .f32⟩
  | 83 => ⟨S20480x1536, .f32⟩
  | 84 => ⟨S_, .i32⟩
  | 85 => ⟨S20480x1, .i32⟩
  | 86 => ⟨S20480x1, .i1⟩
  | 87 => ⟨S_, .f32⟩
  | 88 => ⟨S_, .f32⟩
  | 89 => ⟨S20480x1536, .i1⟩
  | 90 => ⟨S20480x1536, .f32⟩
  | 91 => ⟨S20480x1536, .f32⟩
  | 92 => ⟨S20480x1536, .f32⟩
  | 93 => ⟨S1x1x4096x1536, .f32⟩
  | 94 => ⟨S4096x1536, .f32⟩
  | 95 => ⟨S20480x1536, .f32⟩
  | 96 => ⟨S20480x1536, .f32⟩
  | 97 => ⟨S20480x1536, .f32⟩
  | 98 => ⟨S_, .f32⟩
  | 99 => ⟨S20480x1536, .f32⟩
  | 100 => ⟨S20480x1536, .f32⟩
  | 101 => ⟨S_, .f32⟩
  | 102 => ⟨S20480x1536, .f32⟩
  | 103 => ⟨S20480x1536, .f32⟩
  | 104 => ⟨S20480x1536, .f32⟩
  | 105 => ⟨S1x1x4096x1536, .f32⟩
  | 106 => ⟨S4096x1536, .f32⟩
  | 107 => ⟨S20480x1536, .f32⟩
  | 108 => ⟨S20480x1536, .f32⟩
  | 109 => ⟨S_, .i32⟩
  | 110 => ⟨S20480x1, .i32⟩
  | 111 => ⟨S20480x1, .i1⟩
  | 112 => ⟨S_, .f32⟩
  | 113 => ⟨S_, .f32⟩
  | 114 => ⟨S20480x1536, .i1⟩
  | 115 => ⟨S20480x1536, .f32⟩
  | 116 => ⟨S20480x1536, .f32⟩
  | 117 => ⟨S20480x1536, .f32⟩
  | 118 => ⟨S1x1x4096x1536, .f32⟩
  | 119 => ⟨S4096x1536, .f32⟩
  | 120 => ⟨S20480x1536, .f32⟩
  | 121 => ⟨S20480x1536, .f32⟩
  | 122 => ⟨S20480x1536, .f32⟩
  | 123 => ⟨S_, .f32⟩
  | 124 => ⟨S20480x1536, .f32⟩
  | 125 => ⟨S20480x1536, .f32⟩
  | 126 => ⟨S_, .f32⟩
  | 127 => ⟨S20480x1536, .f32⟩
  | _ => ⟨S5x80, .i32⟩

abbrev hbmTy0_2 (i : Nat) : BufTy := match i % 128 with
  | 0 => ⟨S20480x1536, .f32⟩
  | 1 => ⟨S20480x1536, .f32⟩
  | 2 => ⟨S1x1x4096x1536, .f32⟩
  | 3 => ⟨S4096x1536, .f32⟩
  | 4 => ⟨S20480x1536, .f32⟩
  | 5 => ⟨S20480x1536, .f32⟩
  | 6 => ⟨S_, .i32⟩
  | 7 => ⟨S20480x1, .i32⟩
  | 8 => ⟨S20480x1, .i1⟩
  | 9 => ⟨S_, .f32⟩
  | 10 => ⟨S_, .f32⟩
  | 11 => ⟨S20480x1536, .i1⟩
  | 12 => ⟨S20480x1536, .f32⟩
  | 13 => ⟨S20480x1536, .f32⟩
  | 14 => ⟨S20480x1536, .f32⟩
  | 15 => ⟨S1x1x4096x1536, .f32⟩
  | 16 => ⟨S4096x1536, .f32⟩
  | 17 => ⟨S20480x1536, .f32⟩
  | 18 => ⟨S20480x1536, .f32⟩
  | 19 => ⟨S20480x1536, .f32⟩
  | 20 => ⟨S_, .f32⟩
  | 21 => ⟨S20480x1536, .f32⟩
  | 22 => ⟨S20480x1536, .f32⟩
  | 23 => ⟨S_, .f32⟩
  | 24 => ⟨S20480x1536, .f32⟩
  | 25 => ⟨S20480x1536, .f32⟩
  | 26 => ⟨S20480x1536, .f32⟩
  | 27 => ⟨S1x1x4096x1536, .f32⟩
  | 28 => ⟨S4096x1536, .f32⟩
  | 29 => ⟨S20480x1536, .f32⟩
  | 30 => ⟨S20480x1536, .f32⟩
  | 31 => ⟨S_, .i32⟩
  | 32 => ⟨S20480x1, .i32⟩
  | 33 => ⟨S20480x1, .i1⟩
  | 34 => ⟨S_, .f32⟩
  | 35 => ⟨S_, .f32⟩
  | 36 => ⟨S20480x1536, .i1⟩
  | 37 => ⟨S20480x1536, .f32⟩
  | 38 => ⟨S20480x1536, .f32⟩
  | 39 => ⟨S20480x1536, .f32⟩
  | 40 => ⟨S1x1x4096x1536, .f32⟩
  | 41 => ⟨S4096x1536, .f32⟩
  | 42 => ⟨S20480x1536, .f32⟩
  | 43 => ⟨S20480x1536, .f32⟩
  | 44 => ⟨S20480x1536, .f32⟩
  | 45 => ⟨S_, .f32⟩
  | 46 => ⟨S20480x1536, .f32⟩
  | 47 => ⟨S20480x1536, .f32⟩
  | 48 => ⟨S_, .f32⟩
  | 49 => ⟨S20480x1536, .f32⟩
  | 50 => ⟨S20480x1536, .f32⟩
  | 51 => ⟨S20480x1536, .f32⟩
  | 52 => ⟨S1x1x4096x1536, .f32⟩
  | 53 => ⟨S4096x1536, .f32⟩
  | 54 => ⟨S20480x1536, .f32⟩
  | 55 => ⟨S20480x1536, .f32⟩
  | 56 => ⟨S_, .i32⟩
  | 57 => ⟨S20480x1, .i32⟩
  | 58 => ⟨S20480x1, .i1⟩
  | 59 => ⟨S_, .f32⟩
  | 60 => ⟨S_, .f32⟩
  | 61 => ⟨S20480x1536, .i1⟩
  | 62 => ⟨S20480x1536, .f32⟩
  | 63 => ⟨S20480x1536, .f32⟩
  | 64 => ⟨S20480x1536, .f32⟩
  | 65 => ⟨S1x1x4096x1536, .f32⟩
  | 66 => ⟨S4096x1536, .f32⟩
  | 67 => ⟨S20480x1536, .f32⟩
  | 68 => ⟨S20480x1536, .f32⟩
  | 69 => ⟨S20480x1536, .f32⟩
  | 70 => ⟨S_, .f32⟩
  | 71 => ⟨S20480x1536, .f32⟩
  | 72 => ⟨S20480x1536, .f32⟩
  | 73 => ⟨S_, .f32⟩
  | 74 => ⟨S20480x1536, .f32⟩
  | 75 => ⟨S20480x1536, .f32⟩
  | 76 => ⟨S20480x1536, .f32⟩
  | 77 => ⟨S1x1x4096x1536, .f32⟩
  | 78 => ⟨S4096x1536, .f32⟩
  | 79 => ⟨S20480x1536, .f32⟩
  | 80 => ⟨S20480x1536, .f32⟩
  | 81 => ⟨S_, .i32⟩
  | 82 => ⟨S20480x1, .i32⟩
  | 83 => ⟨S20480x1, .i1⟩
  | 84 => ⟨S_, .f32⟩
  | 85 => ⟨S_, .f32⟩
  | 86 => ⟨S20480x1536, .i1⟩
  | 87 => ⟨S20480x1536, .f32⟩
  | 88 => ⟨S20480x1536, .f32⟩
  | 89 => ⟨S20480x1536, .f32⟩
  | 90 => ⟨S1x1x4096x1536, .f32⟩
  | 91 => ⟨S4096x1536, .f32⟩
  | 92 => ⟨S20480x1536, .f32⟩
  | 93 => ⟨S20480x1536, .f32⟩
  | 94 => ⟨S20480x1536, .f32⟩
  | 95 => ⟨S_, .f32⟩
  | 96 => ⟨S20480x1536, .f32⟩
  | 97 => ⟨S20480x1536, .f32⟩
  | 98 => ⟨S_, .f32⟩
  | 99 => ⟨S20480x1536, .f32⟩
  | 100 => ⟨S20480x1536, .f32⟩
  | 101 => ⟨S20480x1536, .f32⟩
  | 102 => ⟨S1x1x4096x1536, .f32⟩
  | 103 => ⟨S4096x1536, .f32⟩
  | 104 => ⟨S20480x1536, .f32⟩
  | 105 => ⟨S20480x1536, .f32⟩
  | 106 => ⟨S_, .i32⟩
  | 107 => ⟨S20480x1, .i32⟩
  | 108 => ⟨S20480x1, .i1⟩
  | 109 => ⟨S_, .f32⟩
  | 110 => ⟨S_, .f32⟩
  | 111 => ⟨S20480x1536, .i1⟩
  | 112 => ⟨S20480x1536, .f32⟩
  | 113 => ⟨S20480x1536, .f32⟩
  | 114 => ⟨S20480x1536, .f32⟩
  | 115 => ⟨S1x1x4096x1536, .f32⟩
  | 116 => ⟨S4096x1536, .f32⟩
  | 117 => ⟨S20480x1536, .f32⟩
  | 118 => ⟨S20480x1536, .f32⟩
  | 119 => ⟨S20480x1536, .f32⟩
  | 120 => ⟨S_, .f32⟩
  | 121 => ⟨S20480x1536, .f32⟩
  | 122 => ⟨S20480x1536, .f32⟩
  | 123 => ⟨S_, .f32⟩
  | 124 => ⟨S20480x1536, .f32⟩
  | 125 => ⟨S20480x1536, .f32⟩
  | 126 => ⟨S20480x1536, .f32⟩
  | 127 => ⟨S1x1x4096x1536, .f32⟩
  | _ => ⟨S5x80, .i32⟩

abbrev hbmTy0_3 (i : Nat) : BufTy := match i % 128 with
  | 0 => ⟨S4096x1536, .f32⟩
  | 1 => ⟨S20480x1536, .f32⟩
  | 2 => ⟨S20480x1536, .f32⟩
  | 3 => ⟨S_, .i32⟩
  | 4 => ⟨S20480x1, .i32⟩
  | 5 => ⟨S20480x1, .i1⟩
  | 6 => ⟨S_, .f32⟩
  | 7 => ⟨S_, .f32⟩
  | 8 => ⟨S20480x1536, .i1⟩
  | 9 => ⟨S20480x1536, .f32⟩
  | 10 => ⟨S20480x1536, .f32⟩
  | 11 => ⟨S20480x1536, .f32⟩
  | 12 => ⟨S1x1x4096x1536, .f32⟩
  | 13 => ⟨S4096x1536, .f32⟩
  | 14 => ⟨S20480x1536, .f32⟩
  | 15 => ⟨S20480x1536, .f32⟩
  | 16 => ⟨S20480x1536, .f32⟩
  | 17 => ⟨S_, .f32⟩
  | 18 => ⟨S20480x1536, .f32⟩
  | 19 => ⟨S20480x1536, .f32⟩
  | 20 => ⟨S_, .f32⟩
  | 21 => ⟨S20480x1536, .f32⟩
  | 22 => ⟨S20480x1536, .f32⟩
  | 23 => ⟨S20480x1536, .f32⟩
  | 24 => ⟨S1x1x4096x1536, .f32⟩
  | 25 => ⟨S4096x1536, .f32⟩
  | 26 => ⟨S20480x1536, .f32⟩
  | 27 => ⟨S20480x1536, .f32⟩
  | 28 => ⟨S_, .i32⟩
  | 29 => ⟨S20480x1, .i32⟩
  | 30 => ⟨S20480x1, .i1⟩
  | 31 => ⟨S_, .f32⟩
  | 32 => ⟨S_, .f32⟩
  | 33 => ⟨S20480x1536, .i1⟩
  | 34 => ⟨S20480x1536, .f32⟩
  | 35 => ⟨S20480x1536, .f32⟩
  | 36 => ⟨S20480x1536, .f32⟩
  | 37 => ⟨S20480x1536, .bf16⟩
  | _ => ⟨S5x80, .i32⟩

abbrev hbmTy (i : Nat) : BufTy := match i / 128 with
  | 0 => hbmTy0_0 i
  | 1 => hbmTy0_1 i
  | 2 => hbmTy0_2 i
  | 3 => hbmTy0_3 i
  | _ => ⟨S5x80, .i32⟩

abbrev bufTy : (tb : Table) → Fin (tcTables nBuf tb) → BufTy
  | .hbm, ⟨i, _⟩ => hbmTy i
  | _, _ => ⟨S5x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_13 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_15 : Ref sig .tc := ⟨.hbm, 112, rfl⟩
abbrev main_v80 : Ref sig .tc := ⟨.hbm, 113, rfl⟩
abbrev main_v81 : Ref sig .tc := ⟨.hbm, 114, rfl⟩
abbrev main_cst_16 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_19 : Ref sig .tc := ⟨.hbm, 137, rfl⟩
abbrev main_v98 : Ref sig .tc := ⟨.hbm, 138, rfl⟩
abbrev main_v99 : Ref sig .tc := ⟨.hbm, 139, rfl⟩
abbrev main_cst_20 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_21 : Ref sig .tc := ⟨.hbm, 151, rfl⟩
abbrev main_v107 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_23 : Ref sig .tc := ⟨.hbm, 162, rfl⟩
abbrev main_v116 : Ref sig .tc := ⟨.hbm, 163, rfl⟩
abbrev main_v117 : Ref sig .tc := ⟨.hbm, 164, rfl⟩
abbrev main_cst_24 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_25 : Ref sig .tc := ⟨.hbm, 176, rfl⟩
abbrev main_v125 : Ref sig .tc := ⟨.hbm, 177, rfl⟩
abbrev main_v126 : Ref sig .tc := ⟨.hbm, 178, rfl⟩
abbrev main_cst_26 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_c_27 : Ref sig .tc := ⟨.hbm, 187, rfl⟩
abbrev main_v134 : Ref sig .tc := ⟨.hbm, 188, rfl⟩
abbrev main_v135 : Ref sig .tc := ⟨.hbm, 189, rfl⟩
abbrev main_cst_28 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_29 : Ref sig .tc := ⟨.hbm, 201, rfl⟩
abbrev main_v143 : Ref sig .tc := ⟨.hbm, 202, rfl⟩
abbrev main_v144 : Ref sig .tc := ⟨.hbm, 203, rfl⟩
abbrev main_cst_30 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_31 : Ref sig .tc := ⟨.hbm, 212, rfl⟩
abbrev main_v152 : Ref sig .tc := ⟨.hbm, 213, rfl⟩
abbrev main_v153 : Ref sig .tc := ⟨.hbm, 214, rfl⟩
abbrev main_cst_32 : Ref sig .tc := ⟨.hbm, 215, rfl⟩
abbrev main_call8_v0 : Ref sig .tc := ⟨.hbm, 216, rfl⟩
abbrev main_call8_v1 : Ref sig .tc := ⟨.hbm, 217, rfl⟩
abbrev main_call8_v2 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_cst_33 : Ref sig .tc := ⟨.hbm, 226, rfl⟩
abbrev main_v161 : Ref sig .tc := ⟨.hbm, 227, rfl⟩
abbrev main_v162 : Ref sig .tc := ⟨.hbm, 228, rfl⟩
abbrev main_cst_34 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_c_35 : Ref sig .tc := ⟨.hbm, 237, rfl⟩
abbrev main_v170 : Ref sig .tc := ⟨.hbm, 238, rfl⟩
abbrev main_v171 : Ref sig .tc := ⟨.hbm, 239, rfl⟩
abbrev main_cst_36 : Ref sig .tc := ⟨.hbm, 240, rfl⟩
abbrev main_call9_v0 : Ref sig .tc := ⟨.hbm, 241, rfl⟩
abbrev main_call9_v1 : Ref sig .tc := ⟨.hbm, 242, rfl⟩
abbrev main_call9_v2 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_cst_37 : Ref sig .tc := ⟨.hbm, 251, rfl⟩
abbrev main_v179 : Ref sig .tc := ⟨.hbm, 252, rfl⟩
abbrev main_v180 : Ref sig .tc := ⟨.hbm, 253, rfl⟩
abbrev main_cst_38 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_c_39 : Ref sig .tc := ⟨.hbm, 262, rfl⟩
abbrev main_v188 : Ref sig .tc := ⟨.hbm, 263, rfl⟩
abbrev main_v189 : Ref sig .tc := ⟨.hbm, 264, rfl⟩
abbrev main_cst_40 : Ref sig .tc := ⟨.hbm, 265, rfl⟩
abbrev main_call10_v0 : Ref sig .tc := ⟨.hbm, 266, rfl⟩
abbrev main_call10_v1 : Ref sig .tc := ⟨.hbm, 267, rfl⟩
abbrev main_call10_v2 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_cst_41 : Ref sig .tc := ⟨.hbm, 276, rfl⟩
abbrev main_v197 : Ref sig .tc := ⟨.hbm, 277, rfl⟩
abbrev main_v198 : Ref sig .tc := ⟨.hbm, 278, rfl⟩
abbrev main_cst_42 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_c_43 : Ref sig .tc := ⟨.hbm, 287, rfl⟩
abbrev main_v206 : Ref sig .tc := ⟨.hbm, 288, rfl⟩
abbrev main_v207 : Ref sig .tc := ⟨.hbm, 289, rfl⟩
abbrev main_cst_44 : Ref sig .tc := ⟨.hbm, 290, rfl⟩
abbrev main_call11_v0 : Ref sig .tc := ⟨.hbm, 291, rfl⟩
abbrev main_call11_v1 : Ref sig .tc := ⟨.hbm, 292, rfl⟩
abbrev main_call11_v2 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_cst_45 : Ref sig .tc := ⟨.hbm, 301, rfl⟩
abbrev main_v215 : Ref sig .tc := ⟨.hbm, 302, rfl⟩
abbrev main_v216 : Ref sig .tc := ⟨.hbm, 303, rfl⟩
abbrev main_cst_46 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_c_47 : Ref sig .tc := ⟨.hbm, 312, rfl⟩
abbrev main_v224 : Ref sig .tc := ⟨.hbm, 313, rfl⟩
abbrev main_v225 : Ref sig .tc := ⟨.hbm, 314, rfl⟩
abbrev main_cst_48 : Ref sig .tc := ⟨.hbm, 315, rfl⟩
abbrev main_call12_v0 : Ref sig .tc := ⟨.hbm, 316, rfl⟩
abbrev main_call12_v1 : Ref sig .tc := ⟨.hbm, 317, rfl⟩
abbrev main_call12_v2 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_cst_49 : Ref sig .tc := ⟨.hbm, 326, rfl⟩
abbrev main_v233 : Ref sig .tc := ⟨.hbm, 327, rfl⟩
abbrev main_v234 : Ref sig .tc := ⟨.hbm, 328, rfl⟩
abbrev main_cst_50 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_c_51 : Ref sig .tc := ⟨.hbm, 337, rfl⟩
abbrev main_v242 : Ref sig .tc := ⟨.hbm, 338, rfl⟩
abbrev main_v243 : Ref sig .tc := ⟨.hbm, 339, rfl⟩
abbrev main_cst_52 : Ref sig .tc := ⟨.hbm, 340, rfl⟩
abbrev main_call13_v0 : Ref sig .tc := ⟨.hbm, 341, rfl⟩
abbrev main_call13_v1 : Ref sig .tc := ⟨.hbm, 342, rfl⟩
abbrev main_call13_v2 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_cst_53 : Ref sig .tc := ⟨.hbm, 351, rfl⟩
abbrev main_v251 : Ref sig .tc := ⟨.hbm, 352, rfl⟩
abbrev main_v252 : Ref sig .tc := ⟨.hbm, 353, rfl⟩
abbrev main_cst_54 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_c_55 : Ref sig .tc := ⟨.hbm, 362, rfl⟩
abbrev main_v260 : Ref sig .tc := ⟨.hbm, 363, rfl⟩
abbrev main_v261 : Ref sig .tc := ⟨.hbm, 364, rfl⟩
abbrev main_cst_56 : Ref sig .tc := ⟨.hbm, 365, rfl⟩
abbrev main_call14_v0 : Ref sig .tc := ⟨.hbm, 366, rfl⟩
abbrev main_call14_v1 : Ref sig .tc := ⟨.hbm, 367, rfl⟩
abbrev main_call14_v2 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_v266 : Ref sig .tc := ⟨.hbm, 373, rfl⟩
abbrev main_v267 : Ref sig .tc := ⟨.hbm, 374, rfl⟩
abbrev main_v268 : Ref sig .tc := ⟨.hbm, 375, rfl⟩
abbrev main_cst_57 : Ref sig .tc := ⟨.hbm, 376, rfl⟩
abbrev main_v269 : Ref sig .tc := ⟨.hbm, 377, rfl⟩
abbrev main_v270 : Ref sig .tc := ⟨.hbm, 378, rfl⟩
abbrev main_cst_58 : Ref sig .tc := ⟨.hbm, 379, rfl⟩
abbrev main_v271 : Ref sig .tc := ⟨.hbm, 380, rfl⟩
abbrev main_v272 : Ref sig .tc := ⟨.hbm, 381, rfl⟩
abbrev main_v273 : Ref sig .tc := ⟨.hbm, 382, rfl⟩
abbrev main_v274 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_c_59 : Ref sig .tc := ⟨.hbm, 387, rfl⟩
abbrev main_v278 : Ref sig .tc := ⟨.hbm, 388, rfl⟩
abbrev main_v279 : Ref sig .tc := ⟨.hbm, 389, rfl⟩
abbrev main_cst_60 : Ref sig .tc := ⟨.hbm, 390, rfl⟩
abbrev main_call15_v0 : Ref sig .tc := ⟨.hbm, 391, rfl⟩
abbrev main_call15_v1 : Ref sig .tc := ⟨.hbm, 392, rfl⟩
abbrev main_call15_v2 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_cst_61 : Ref sig .tc := ⟨.hbm, 401, rfl⟩
abbrev main_v287 : Ref sig .tc := ⟨.hbm, 402, rfl⟩
abbrev main_v288 : Ref sig .tc := ⟨.hbm, 403, rfl⟩
abbrev main_cst_62 : Ref sig .tc := ⟨.hbm, 404, rfl⟩
abbrev main_v289 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_v293 : Ref sig .tc := ⟨.hbm, 409, rfl⟩
abbrev main_v294 : Ref sig .tc := ⟨.hbm, 410, rfl⟩
abbrev main_v295 : Ref sig .tc := ⟨.hbm, 411, rfl⟩
abbrev main_c_63 : Ref sig .tc := ⟨.hbm, 412, rfl⟩
abbrev main_v296 : Ref sig .tc := ⟨.hbm, 413, rfl⟩
abbrev main_v297 : Ref sig .tc := ⟨.hbm, 414, rfl⟩
abbrev main_cst_64 : Ref sig .tc := ⟨.hbm, 415, rfl⟩
abbrev main_call16_v0 : Ref sig .tc := ⟨.hbm, 416, rfl⟩
abbrev main_call16_v1 : Ref sig .tc := ⟨.hbm, 417, rfl⟩
abbrev main_call16_v2 : Ref sig .tc := ⟨.hbm, 418, rfl⟩
abbrev main_v298 : Ref sig .tc := ⟨.hbm, 419, rfl⟩
abbrev main_v299 : Ref sig .tc := ⟨.hbm, 420, rfl⟩
abbrev main_v300 : Ref sig .tc := ⟨.hbm, 421, rfl⟩

abbrev nD : Nat := 1
abbrev τ : Topo := Topo.v7x

variable {F : FTy → Type} [FloatOps F]
-- ==== KernelDown.lean ====
abbrev S5x80 : Shape := ⟨2, ![5, 80]⟩
abbrev S20480x1536 : Shape := ⟨2, ![20480, 1536]⟩
abbrev S2x16x1536x4096 : Shape := ⟨4, ![2, 16, 1536, 4096]⟩
abbrev S20480 : Shape := ⟨1, ![20480]⟩
abbrev S20480x1 : Shape := ⟨2, ![20480, 1]⟩
abbrev S20480x32x128 : Shape := ⟨3, ![20480, 32, 128]⟩
abbrev S256x1536 : Shape := ⟨2, ![256, 1536]⟩
abbrev S256x1 : Shape := ⟨2, ![256, 1]⟩
abbrev S256x32x128 : Shape := ⟨3, ![256, 32, 128]⟩
abbrev S1x1536x4096 : Shape := ⟨3, ![1, 1536, 4096]⟩
abbrev S1 : Shape := ⟨1, ![1]⟩
abbrev S1x1 : Shape := ⟨2, ![1, 1]⟩
abbrev S_ : Shape := ⟨0, ![]⟩
abbrev S1536x4096 : Shape := ⟨2, ![1536, 4096]⟩
abbrev S1x1x1536x4096 : Shape := ⟨4, ![1, 1, 1536, 4096]⟩
abbrev S256x4096 : Shape := ⟨2, ![256, 4096]⟩
abbrev S256x128 : Shape := ⟨2, ![256, 128]⟩
abbrev S256x1x128 : Shape := ⟨3, ![256, 1, 128]⟩

abbrev nBuf : Space → Nat
  | .hbm => 5
  | .vmem => 8
  | .smem => 1
  | _ => 0

abbrev bufTy : (tb : Table) → Fin (tcTables nBuf tb) → BufTy
  | .hbm, ⟨0, _⟩ => ⟨S20480x1536, .bf16⟩
  | .hbm, ⟨1, _⟩ => ⟨S2x16x1536x4096, .f32⟩
  | .hbm, ⟨2, _⟩ => ⟨S20480, .f32⟩
  | .hbm, ⟨3, _⟩ => ⟨S20480x1, .f32⟩
  | .hbm, ⟨4, _⟩ => ⟨S20480x32x128, .f32⟩
  | .local _ .vmem, ⟨0, _⟩ => ⟨S256x1536, .bf16⟩
  | .local _ .vmem, ⟨1, _⟩ => ⟨S256x1536, .bf16⟩
  | .local _ .vmem, ⟨2, _⟩ => ⟨S256x1, .f32⟩
  | .local _ .vmem, ⟨3, _⟩ => ⟨S256x1, .f32⟩
  | .local _ .vmem, ⟨4, _⟩ => ⟨S256x32x128, .f32⟩
  | .local _ .vmem, ⟨5, _⟩ => ⟨S256x32x128, .f32⟩
  | .local _ .vmem, ⟨6, _⟩ => ⟨S1x1536x4096, .f32⟩
  | .local _ .vmem, ⟨7, _⟩ => ⟨S1x1536x4096, .bf16⟩
  | .local _ .smem, ⟨0, _⟩ => ⟨S5x80, .i32⟩
  | _, _ => ⟨S20480x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 80], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32_1 : BitVec 32 := 0#32
  let v2 : BitVec 1 := Scalar.cmpi .eq arg1 c0_i32_1
  let v3 : BitVec 1 := Scalar.andi v1 v2
  let v4 : BitVec 32 := Scalar.extui v3
  let c0_i32_2 : BitVec 32 := 0#32
  let v5 : BitVec 1 := Scalar.cmpi .ne v4 c0_i32_2
  v5

def k0_mult1 : BitVec 32 :=
  let c0_i32_8 : BitVec 32 := 0#32
  c0_i32_8
def k0_off1 (v19 : BitVec 32) : Fin 4 → Nat :=
  let c0_i32_9 : BitVec 32 := 0#32
  let c0_i32_14 : BitVec 32 := 0#32
  let c0_i32_8 : BitVec 32 := 0#32
  let v20 : BitVec 32 := c0_i32_8
  ![0, v19.toNat, 0, 0]

def k0_chk1 (i : grid0.Coords) (v19 : BitVec 32) : Prop :=
  (∀ (k0_h1 : k0_cond1 i = 1#1), ∀ a, (k0_off1 v19) a + S1x1x1536x4096.size a ≤ S2x16x1536x4096.size a)
theorem k0_off1_inb : ∀ (i : grid0.Coords) (v19 : BitVec 32) (k0_hw1 : k0_chk1 i v19), ∀ (k0_h1 : k0_cond1 i = 1#1), ∀ a, (k0_off1 v19) a + S1x1x1536x4096.size a ≤ S2x16x1536x4096.size a := fun i v19 k0_hw1 k0_h1 => k0_hw1 k0_h1

def k0_off2 (i : grid0.Coords) : Fin 2 → Nat :=
  let c2 : Index := 2#32
  let arg1 : BitVec 32 := BitVec.ofNat 32 (i 1).val
  let v6 : Index := Scalar.indexCast arg1
  ![2, v6.toNat]
def k0_off3 (i : grid0.Coords) : Fin 2 → Nat :=
  let c0 : Index := 0#32
  let arg1 : BitVec 32 := BitVec.ofNat 32 (i 1).val
  let v19 : Index := Scalar.indexCast arg1
  ![0, v19.toNat]
def k0_mult2 (i : grid0.Coords) : BitVec 32 :=
  let arg0 : BitVec 32 := BitVec.ofNat 32 (i 0).val
  let c4096_i32 : BitVec 32 := 4096#32
  let v21 : BitVec 32 := Scalar.muli arg0 c4096_i32
  v21
def k0_off4 (i : grid0.Coords) (v20 : BitVec 32) : Fin 4 → Nat :=
  let c0_i32_7 : BitVec 32 := 0#32
  let c0_i32_12 : BitVec 32 := 0#32
  let arg0 : BitVec 32 := BitVec.ofNat 32 (i 0).val
  let c4096_i32 : BitVec 32 := 4096#32
  let v21 : BitVec 32 := Scalar.muli arg0 c4096_i32
  let v22 : BitVec 32 := v21
  ![0, v20.toNat, 0, v22.toNat]
def k0_cond2 (v7 : BitVec 32) : BitVec 1 :=
  let c1_i32 : BitVec 32 := 1#32
  let v8 : BitVec 1 := Scalar.cmpi .eq v7 c1_i32
  let v9 : BitVec 32 := Scalar.extui v8
  let c0_i32_3 : BitVec 32 := 0#32
  let v10 : BitVec 1 := Scalar.cmpi .ne v9 c0_i32_3
  v10

def k0_chk2 (i : grid0.Coords) (v7 : BitVec 32) (v20 : BitVec 32) : Prop :=
  (∀ (k0_h2 : k0_cond2 v7 = 1#1), ∀ a, (k0_off4 i v20) a + S1x1x1536x4096.size a ≤ S2x16x1536x4096.size a)
theorem k0_off4_inb : ∀ (i : grid0.Coords) (v7 : BitVec 32) (v20 : BitVec 32) (k0_hw2 : k0_chk2 i v7 v20), ∀ (k0_h2 : k0_cond2 v7 = 1#1), ∀ a, (k0_off4 i v20) a + S1x1x1536x4096.size a ≤ S2x16x1536x4096.size a := fun i v7 v20 k0_hw2 k0_h2 => k0_hw2 k0_h2

def k0_off5 (i : grid0.Coords) : Fin 2 → Nat :=
  let c4 : Index := 4#32
  let arg1 : BitVec 32 := BitVec.ofNat 32 (i 1).val
  let v35 : Index := Scalar.indexCast arg1
  ![4, v35.toNat]
def k0_off6 (i : grid0.Coords) : Fin 2 → Nat :=
  let c3 : Index := 3#32
  let arg1 : BitVec 32 := BitVec.ofNat 32 (i 1).val
  let v42 : Index := Scalar.indexCast arg1
  ![3, v42.toNat]
def k0_mult3 (i : grid0.Coords) (v36 : BitVec 32) : BitVec 32 :=
  let c1_i32_19 : BitVec 32 := 1#32
  let v37 : BitVec 1 := Scalar.cmpi .eq v36 c1_i32_19
  let arg0 : BitVec 32 := BitVec.ofNat 32 (i 0).val
  let c1_i32_22 : BitVec 32 := 1#32
  let v44 : BitVec 32 := Scalar.addi arg0 c1_i32_22
  let v45 : BitVec 32 := Scalar.select v37 v44 arg0
  let c4096_i32_23 : BitVec 32 := 4096#32
  let v46 : BitVec 32 := Scalar.muli v45 c4096_i32_23
  v46
def k0_cond3 (i : grid0.Coords) (v36 : BitVec 32) : BitVec 1 :=
  let c1_i32_19 : BitVec 32 := 1#32
  let v37 : BitVec 1 := Scalar.cmpi .eq v36 c1_i32_19
  let arg0 : BitVec 32 := BitVec.ofNat 32 (i 0).val
  let c0_i32 : BitVec 32 := 0#32
  let v0 : BitVec 1 := Scalar.cmpi .eq arg0 c0_i32
  let v38 : BitVec 1 := Scalar.andi v37 v0
  let true_20 : BitVec 1 := 1#1
  let v39 : BitVec 1 := Scalar.xori v38 true_20
  let v40 : BitVec 32 := Scalar.extui v39
  let c0_i32_21 : BitVec 32 := 0#32
  let v41 : BitVec 1 := Scalar.cmpi .ne v40 c0_i32_21
  v41

def k0_chk3 (i : grid0.Coords) (v7 : BitVec 32) (v36 : BitVec 32) : Prop :=
  (∀ (k0_h2 : k0_cond2 v7 = 1#1), ∀ (k0_h3 : k0_cond3 i v36 = 1#1), 4096 ∣ (k0_mult3 i v36).toNat)
theorem k0_mult3_dvd : ∀ (i : grid0.Coords) (v7 : BitVec 32) (v36 : BitVec 32) (k0_hw3 : k0_chk3 i v7 v36), ∀ (k0_h2 : k0_cond2 v7 = 1#1), ∀ (k0_h3 : k0_cond3 i v36 = 1#1), 4096 ∣ (k0_mult3 i v36).toNat := fun i v7 v36 k0_hw3 k0_h2 k0_h3 => k0_hw3 k0_h2 k0_h3

def k0_off7 (i : grid0.Coords) (v36 : BitVec 32) (v43 : BitVec 32) : Fin 4 → Nat :=
  let c0_i32_24 : BitVec 32 := 0#32
  let c0_i32_29 : BitVec 32 := 0#32
  let c1_i32_19 : BitVec 32 := 1#32
  let v37 : BitVec 1 := Scalar.cmpi .eq v36 c1_i32_19
  let arg0 : BitVec 32 := BitVec.ofNat 32 (i 0).val
  let c1_i32_22 : BitVec 32 := 1#32
  let v44 : BitVec 32 := Scalar.addi arg0 c1_i32_22
  let v45 : BitVec 32 := Scalar.select v37 v44 arg0
  let c4096_i32_23 : BitVec 32 := 4096#32
  let v46 : BitVec 32 := Scalar.muli v45 c4096_i32_23
  let v47 : BitVec 32 := v46
  ![0, v43.toNat, 0, v47.toNat]

def k0_chk4 (i : grid0.Coords) (v7 : BitVec 32) (v36 : BitVec 32) (v43 : BitVec 32) : Prop :=
  (∀ (k0_h2 : k0_cond2 v7 = 1#1), ∀ (k0_h3 : k0_cond3 i v36 = 1#1), ∀ a, (k0_off7 i v36 v43) a + S1x1x1536x4096.size a ≤ S2x16x1536x4096.size a)
theorem k0_off7_inb : ∀ (i : grid0.Coords) (v7 : BitVec 32) (v36 : BitVec 32) (v43 : BitVec 32) (k0_hw4 : k0_chk4 i v7 v36 v43), ∀ (k0_h2 : k0_cond2 v7 = 1#1), ∀ (k0_h3 : k0_cond3 i v36 = 1#1), ∀ a, (k0_off7 i v36 v43) a + S1x1x1536x4096.size a ≤ S2x16x1536x4096.size a := fun i v7 v36 v43 k0_hw4 k0_h2 k0_h3 => k0_hw4 k0_h2 k0_h3

def k0_off8 (i : grid0.Coords) : Fin 2 → Nat :=
  let c1 : Index := 1#32
  let arg1 : BitVec 32 := BitVec.ofNat 32 (i 1).val
  let v11 : Index := Scalar.indexCast arg1
  ![1, v11.toNat]
def k0_cond4 (v12 : BitVec 32) : BitVec 1 :=
  let c1_i32_4 : BitVec 32 := 1#32
  let v13 : BitVec 1 := Scalar.cmpi .eq v12 c1_i32_4
  let v14 : BitVec 32 := Scalar.extui v13
  let c0_i32_5 : BitVec 32 := 0#32
  let v15 : BitVec 1 := Scalar.cmpi .ne v14 c0_i32_5
  v15

def k0_cond5 (v12 : BitVec 32) : BitVec 1 :=
  let c1_i32_4 : BitVec 32 := 1#32
  let v13 : BitVec 1 := Scalar.cmpi .eq v12 c1_i32_4
  let v_true : BitVec 1 := 1#1
  let v16 : BitVec 1 := Scalar.xori v13 v_true
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownIdeal.lean ====
abbrev S5x80 : Shape := ⟨2, ![5, 80]⟩
abbrev S20480x1536 : Shape := ⟨2, ![20480, 1536]⟩
abbrev S2x16x1536x4096 : Shape := ⟨4, ![2, 16, 1536, 4096]⟩
abbrev S20480 : Shape := ⟨1, ![20480]⟩
abbrev S1x80 : Shape := ⟨2, ![1, 80]⟩
abbrev S80 : Shape := ⟨1, ![80]⟩
abbrev S_ : Shape := ⟨0, ![]⟩
abbrev S80x256 : Shape := ⟨2, ![80, 256]⟩
abbrev S20480x1 : Shape := ⟨2, ![20480, 1]⟩
abbrev S20480x4096 : Shape := ⟨2, ![20480, 4096]⟩
abbrev S1x1x1536x4096 : Shape := ⟨4, ![1, 1, 1536, 4096]⟩
abbrev S1536x4096 : Shape := ⟨2, ![1536, 4096]⟩
abbrev S20480x32x128 : Shape := ⟨3, ![20480, 32, 128]⟩

abbrev nBuf : Space → Nat
  | .hbm => 262
  | .vmem => 0
  | .smem => 0
  | _ => 0

abbrev hbmTy0_0 (i : Nat) : BufTy := match i % 128 with
  | 0 => ⟨S5x80, .i32⟩
  | 1 => ⟨S20480x1536, .bf16⟩
  | 2 => ⟨S2x16x1536x4096, .f32⟩
  | 3 => ⟨S20480, .f32⟩
  | 4 => ⟨S20480x1536, .f32⟩
  | 5 => ⟨S1x80, .i32⟩
  | 6 => ⟨S80, .i32⟩
  | 7 => ⟨S_, .i32⟩
  | 8 => ⟨S80, .i32⟩
  | 9 => ⟨S80, .i1⟩
  | 10 => ⟨S1x80, .i32⟩
  | 11 => ⟨S80, .i32⟩
  | 12 => ⟨S_, .i32⟩
  | 13 => ⟨S_, .i32⟩
  | 14 => ⟨S80, .i32⟩
  | 15 => ⟨S80, .i32⟩
  | 16 => ⟨S80x256, .i32⟩
  | 17 => ⟨S20480, .i32⟩
  | 18 => ⟨S20480x1, .i32⟩
  | 19 => ⟨S_, .f32⟩
  | 20 => ⟨S20480x4096, .f32⟩
  | 21 => ⟨S20480x1, .f32⟩
  | 22 => ⟨S1x1x1536x4096, .f32⟩
  | 23 => ⟨S1536x4096, .f32⟩
  | 24 => ⟨S20480x4096, .f32⟩
  | 25 => ⟨S20480x4096, .f32⟩
  | 26 => ⟨S20480x4096, .f32⟩
  | 27 => ⟨S_, .i32⟩
  | 28 => ⟨S20480x1, .i32⟩
  | 29 => ⟨S20480x1, .i1⟩
  | 30 => ⟨S_, .f32⟩
  | 31 => ⟨S_, .f32⟩
  | 32 => ⟨S20480x4096, .i1⟩
  | 33 => ⟨S20480x4096, .f32⟩
  | 34 => ⟨S20480x4096, .f32⟩
  | 35 => ⟨S20480x4096, .f32⟩
  | 36 => ⟨S20480x1, .f32⟩
  | 37 => ⟨S1x1x1536x4096, .f32⟩
  | 38 => ⟨S1536x4096, .f32⟩
  | 39 => ⟨S20480x4096, .f32⟩
  | 40 => ⟨S20480x4096, .f32⟩
  | 41 => ⟨S20480x4096, .f32⟩
  | 42 => ⟨S_, .i32⟩
  | 43 => ⟨S20480x1, .i32⟩
  | 44 => ⟨S20480x1, .i1⟩
  | 45 => ⟨S_, .f32⟩
  | 46 => ⟨S_, .f32⟩
  | 47 => ⟨S20480x4096, .i1⟩
  | 48 => ⟨S20480x4096, .f32⟩
  | 49 => ⟨S20480x4096, .f32⟩
  | 50 => ⟨S20480x4096, .f32⟩
  | 51 => ⟨S20480x1, .f32⟩
  | 52 => ⟨S1x1x1536x4096, .f32⟩
  | 53 => ⟨S1536x4096, .f32⟩
  | 54 => ⟨S20480x4096, .f32⟩
  | 55 => ⟨S20480x4096, .f32⟩
  | 56 => ⟨S20480x4096, .f32⟩
  | 57 => ⟨S_, .i32⟩
  | 58 => ⟨S20480x1, .i32⟩
  | 59 => ⟨S20480x1, .i1⟩
  | 60 => ⟨S_, .f32⟩
  | 61 => ⟨S_, .f32⟩
  | 62 => ⟨S20480x4096, .i1⟩
  | 63 => ⟨S20480x4096, .f32⟩
  | 64 => ⟨S20480x4096, .f32⟩
  | 65 => ⟨S20480x4096, .f32⟩
  | 66 => ⟨S20480x1, .f32⟩
  | 67 => ⟨S1x1x1536x4096, .f32⟩
  | 68 => ⟨S1536x4096, .f32⟩
  | 69 => ⟨S20480x4096, .f32⟩
  | 70 => ⟨S20480x4096, .f32⟩
  | 71 => ⟨S20480x4096, .f32⟩
  | 72 => ⟨S_, .i32⟩
  | 73 => ⟨S20480x1, .i32⟩
  | 74 => ⟨S20480x1, .i1⟩
  | 75 => ⟨S_, .f32⟩
  | 76 => ⟨S_, .f32⟩
  | 77 => ⟨S20480x4096, .i1⟩
  | 78 => ⟨S20480x4096, .f32⟩
  | 79 => ⟨S20480x4096, .f32⟩
  | 80 => ⟨S20480x4096, .f32⟩
  | 81 => ⟨S20480x1, .f32⟩
  | 82 => ⟨S1x1x1536x4096, .f32⟩
  | 83 => ⟨S1536x4096, .f32⟩
  | 84 => ⟨S20480x4096, .f32⟩
  | 85 => ⟨S20480x4096, .f32⟩
  | 86 => ⟨S20480x4096, .f32⟩
  | 87 => ⟨S_, .i32⟩
  | 88 => ⟨S20480x1, .i32⟩
  | 89 => ⟨S20480x1, .i1⟩
  | 90 => ⟨S_, .f32⟩
  | 91 => ⟨S_, .f32⟩
  | 92 => ⟨S20480x4096, .i1⟩
  | 93 => ⟨S20480x4096, .f32⟩
  | 94 => ⟨S20480x4096, .f32⟩
  | 95 => ⟨S20480x4096, .f32⟩
  | 96 => ⟨S20480x1, .f32⟩
  | 97 => ⟨S1x1x1536x4096, .f32⟩
  | 98 => ⟨S1536x4096, .f32⟩
  | 99 => ⟨S20480x4096, .f32⟩
  | 100 => ⟨S20480x4096, .f32⟩
  | 101 => ⟨S20480x4096, .f32⟩
  | 102 => ⟨S_, .i32⟩
  | 103 => ⟨S20480x1, .i32⟩
  | 104 => ⟨S20480x1, .i1⟩
  | 105 => ⟨S_, .f32⟩
  | 106 => ⟨S_, .f32⟩
  | 107 => ⟨S20480x4096, .i1⟩
  | 108 => ⟨S20480x4096, .f32⟩
  | 109 => ⟨S20480x4096, .f32⟩
  | 110 => ⟨S20480x4096, .f32⟩
  | 111 => ⟨S20480x1, .f32⟩
  | 112 => ⟨S1x1x1536x4096, .f32⟩
  | 113 => ⟨S1536x4096, .f32⟩
  | 114 => ⟨S20480x4096, .f32⟩
  | 115 => ⟨S20480x4096, .f32⟩
  | 116 => ⟨S20480x4096, .f32⟩
  | 117 => ⟨S_, .i32⟩
  | 118 => ⟨S20480x1, .i32⟩
  | 119 => ⟨S20480x1, .i1⟩
  | 120 => ⟨S_, .f32⟩
  | 121 => ⟨S_, .f32⟩
  | 122 => ⟨S20480x4096, .i1⟩
  | 123 => ⟨S20480x4096, .f32⟩
  | 124 => ⟨S20480x4096, .f32⟩
  | 125 => ⟨S20480x4096, .f32⟩
  | 126 => ⟨S20480x1, .f32⟩
  | 127 => ⟨S1x1x1536x4096, .f32⟩
  | _ => ⟨S5x80, .i32⟩

abbrev hbmTy0_1 (i : Nat) : BufTy := match i % 128 with
  | 0 => ⟨S1536x4096, .f32⟩
  | 1 => ⟨S20480x4096, .f32⟩
  | 2 => ⟨S20480x4096, .f32⟩
  | 3 => ⟨S20480x4096, .f32⟩
  | 4 => ⟨S_, .i32⟩
  | 5 => ⟨S20480x1, .i32⟩
  | 6 => ⟨S20480x1, .i1⟩
  | 7 => ⟨S_, .f32⟩
  | 8 => ⟨S_, .f32⟩
  | 9 => ⟨S20480x4096, .i1⟩
  | 10 => ⟨S20480x4096, .f32⟩
  | 11 => ⟨S20480x4096, .f32⟩
  | 12 => ⟨S20480x4096, .f32⟩
  | 13 => ⟨S20480x1, .f32⟩
  | 14 => ⟨S1x1x1536x4096, .f32⟩
  | 15 => ⟨S1536x4096, .f32⟩
  | 16 => ⟨S20480x4096, .f32⟩
  | 17 => ⟨S20480x4096, .f32⟩
  | 18 => ⟨S20480x4096, .f32⟩
  | 19 => ⟨S_, .i32⟩
  | 20 => ⟨S20480x1, .i32⟩
  | 21 => ⟨S20480x1, .i1⟩
  | 22 => ⟨S_, .f32⟩
  | 23 => ⟨S_, .f32⟩
  | 24 => ⟨S20480x4096, .i1⟩
  | 25 => ⟨S20480x4096, .f32⟩
  | 26 => ⟨S20480x4096, .f32⟩
  | 27 => ⟨S20480x4096, .f32⟩
  | 28 => ⟨S20480x1, .f32⟩
  | 29 => ⟨S1x1x1536x4096, .f32⟩
  | 30 => ⟨S1536x4096, .f32⟩
  | 31 => ⟨S20480x4096, .f32⟩
  | 32 => ⟨S20480x4096, .f32⟩
  | 33 => ⟨S20480x4096, .f32⟩
  | 34 => ⟨S_, .i32⟩
  | 35 => ⟨S20480x1, .i32⟩
  | 36 => ⟨S20480x1, .i1⟩
  | 37 => ⟨S_, .f32⟩
  | 38 => ⟨S_, .f32⟩
  | 39 => ⟨S20480x4096, .i1⟩
  | 40 => ⟨S20480x4096, .f32⟩
  | 41 => ⟨S20480x4096, .f32⟩
  | 42 => ⟨S20480x4096, .f32⟩
  | 43 => ⟨S20480x1, .f32⟩
  | 44 => ⟨S1x1x1536x4096, .f32⟩
  | 45 => ⟨S1536x4096, .f32⟩
  | 46 => ⟨S20480x4096, .f32⟩
  | 47 => ⟨S20480x4096, .f32⟩
  | 48 => ⟨S20480x4096, .f32⟩
  | 49 => ⟨S_, .i32⟩
  | 50 => ⟨S20480x1, .i32⟩
  | 51 => ⟨S20480x1, .i1⟩
  | 52 => ⟨S_, .f32⟩
  | 53 => ⟨S_, .f32⟩
  | 54 => ⟨S20480x4096, .i1⟩
  | 55 => ⟨S20480x4096, .f32⟩
  | 56 => ⟨S20480x4096, .f32⟩
  | 57 => ⟨S20480x4096, .f32⟩
  | 58 => ⟨S20480x1, .f32⟩
  | 59 => ⟨S1x1x1536x4096, .f32⟩
  | 60 => ⟨S1536x4096, .f32⟩
  | 61 => ⟨S20480x4096, .f32⟩
  | 62 => ⟨S20480x4096, .f32⟩
  | 63 => ⟨S20480x4096, .f32⟩
  | 64 => ⟨S_, .i32⟩
  | 65 => ⟨S20480x1, .i32⟩
  | 66 => ⟨S20480x1, .i1⟩
  | 67 => ⟨S_, .f32⟩
  | 68 => ⟨S_, .f32⟩
  | 69 => ⟨S20480x4096, .i1⟩
  | 70 => ⟨S20480x4096, .f32⟩
  | 71 => ⟨S20480x4096, .f32⟩
  | 72 => ⟨S20480x4096, .f32⟩
  | 73 => ⟨S20480x1, .f32⟩
  | 74 => ⟨S1x1x1536x4096, .f32⟩
  | 75 => ⟨S1536x4096, .f32⟩
  | 76 => ⟨S20480x4096, .f32⟩
  | 77 => ⟨S20480x4096, .f32⟩
  | 78 => ⟨S20480x4096, .f32⟩
  | 79 => ⟨S_, .i32⟩
  | 80 => ⟨S20480x1, .i32⟩
  | 81 => ⟨S20480x1, .i1⟩
  | 82 => ⟨S_, .f32⟩
  | 83 => ⟨S_, .f32⟩
  | 84 => ⟨S20480x4096, .i1⟩
  | 85 => ⟨S20480x4096, .f32⟩
  | 86 => ⟨S20480x4096, .f32⟩
  | 87 => ⟨S20480x4096, .f32⟩
  | 88 => ⟨S20480x1, .f32⟩
  | 89 => ⟨S1x1x1536x4096, .f32⟩
  | 90 => ⟨S1536x4096, .f32⟩
  | 91 => ⟨S20480x4096, .f32⟩
  | 92 => ⟨S20480x4096, .f32⟩
  | 93 => ⟨S20480x4096, .f32⟩
  | 94 => ⟨S_, .i32⟩
  | 95 => ⟨S20480x1, .i32⟩
  | 96 => ⟨S20480x1, .i1⟩
  | 97 => ⟨S_, .f32⟩
  | 98 => ⟨S_, .f32⟩
  | 99 => ⟨S20480x4096, .i1⟩
  | 100 => ⟨S20480x4096, .f32⟩
  | 101 => ⟨S20480x4096, .f32⟩
  | 102 => ⟨S20480x4096, .f32⟩
  | 103 => ⟨S20480x1, .f32⟩
  | 104 => ⟨S1x1x1536x4096, .f32⟩
  | 105 => ⟨S1536x4096, .f32⟩
  | 106 => ⟨S20480x4096, .f32⟩
  | 107 => ⟨S20480x4096, .f32⟩
  | 108 => ⟨S20480x4096, .f32⟩
  | 109 => ⟨S_, .i32⟩
  | 110 => ⟨S20480x1, .i32⟩
  | 111 => ⟨S20480x1, .i1⟩
  | 112 => ⟨S_, .f32⟩
  | 113 => ⟨S_, .f32⟩
  | 114 => ⟨S20480x4096, .i1⟩
  | 115 => ⟨S20480x4096, .f32⟩
  | 116 => ⟨S20480x4096, .f32⟩
  | 117 => ⟨S20480x4096, .f32⟩
  | 118 => ⟨S20480x1, .f32⟩
  | 119 => ⟨S1x1x1536x4096, .f32⟩
  | 120 => ⟨S1536x4096, .f32⟩
  | 121 => ⟨S20480x4096, .f32⟩
  | 122 => ⟨S20480x4096, .f32⟩
  | 123 => ⟨S20480x4096, .f32⟩
  | 124 => ⟨S_, .i32⟩
  | 125 => ⟨S20480x1, .i32⟩
  | 126 => ⟨S20480x1, .i1⟩
  | 127 => ⟨S_, .f32⟩
  | _ => ⟨S5x80, .i32⟩

abbrev hbmTy0_2 (i : Nat) : BufTy := match i % 128 with
  | 0 => ⟨S_, .f32⟩
  | 1 => ⟨S20480x4096, .i1⟩
  | 2 => ⟨S20480x4096, .f32⟩
  | 3 => ⟨S20480x4096, .f32⟩
  | 4 => ⟨S20480x4096, .f32⟩
  | 5 => ⟨S20480x32x128, .f32⟩
  | _ => ⟨S5x80, .i32⟩

abbrev hbmTy (i : Nat) : BufTy := match i / 128 with
  | 0 => hbmTy0_0 i
  | 1 => hbmTy0_1 i
  | 2 => hbmTy0_2 i
  | _ => ⟨S5x80, .i32⟩

abbrev bufTy : (tb : Table) → Fin (tcTables nBuf tb) → BufTy
  | .hbm, ⟨i, _⟩ => hbmTy i
  | _, _ => ⟨S5x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_11 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_13 : Ref sig .tc := ⟨.hbm, 117, rfl⟩
abbrev main_v78 : Ref sig .tc := ⟨.hbm, 118, rfl⟩
abbrev main_v79 : Ref sig .tc := ⟨.hbm, 119, rfl⟩
abbrev main_cst_14 : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_15 : Ref sig .tc := ⟨.hbm, 132, rfl⟩
abbrev main_v88 : Ref sig .tc := ⟨.hbm, 133, rfl⟩
abbrev main_v89 : Ref sig .tc := ⟨.hbm, 134, rfl⟩
abbrev main_cst_16 : Ref sig .tc := ⟨.hbm, 135, rfl⟩
abbrev main_call8_v0 : Ref sig .tc := ⟨.hbm, 136, rfl⟩
abbrev main_call8_v1 : Ref sig .tc := ⟨.hbm, 137, rfl⟩
abbrev main_call8_v2 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_17 : Ref sig .tc := ⟨.hbm, 147, rfl⟩
abbrev main_v98 : Ref sig .tc := ⟨.hbm, 148, rfl⟩
abbrev main_v99 : Ref sig .tc := ⟨.hbm, 149, rfl⟩
abbrev main_cst_18 : Ref sig .tc := ⟨.hbm, 150, rfl⟩
abbrev main_call9_v0 : Ref sig .tc := ⟨.hbm, 151, rfl⟩
abbrev main_call9_v1 : Ref sig .tc := ⟨.hbm, 152, rfl⟩
abbrev main_call9_v2 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_c_19 : Ref sig .tc := ⟨.hbm, 162, rfl⟩
abbrev main_v108 : Ref sig .tc := ⟨.hbm, 163, rfl⟩
abbrev main_v109 : Ref sig .tc := ⟨.hbm, 164, rfl⟩
abbrev main_cst_20 : Ref sig .tc := ⟨.hbm, 165, rfl⟩
abbrev main_call10_v0 : Ref sig .tc := ⟨.hbm, 166, rfl⟩
abbrev main_call10_v1 : Ref sig .tc := ⟨.hbm, 167, rfl⟩
abbrev main_call10_v2 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_c_21 : Ref sig .tc := ⟨.hbm, 177, rfl⟩
abbrev main_v118 : Ref sig .tc := ⟨.hbm, 178, rfl⟩
abbrev main_v119 : Ref sig .tc := ⟨.hbm, 179, rfl⟩
abbrev main_cst_22 : Ref sig .tc := ⟨.hbm, 180, rfl⟩
abbrev main_call11_v0 : Ref sig .tc := ⟨.hbm, 181, rfl⟩
abbrev main_call11_v1 : Ref sig .tc := ⟨.hbm, 182, rfl⟩
abbrev main_call11_v2 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_c_23 : Ref sig .tc := ⟨.hbm, 192, rfl⟩
abbrev main_v128 : Ref sig .tc := ⟨.hbm, 193, rfl⟩
abbrev main_v129 : Ref sig .tc := ⟨.hbm, 194, rfl⟩
abbrev main_cst_24 : Ref sig .tc := ⟨.hbm, 195, rfl⟩
abbrev main_call12_v0 : Ref sig .tc := ⟨.hbm, 196, rfl⟩
abbrev main_call12_v1 : Ref sig .tc := ⟨.hbm, 197, rfl⟩
abbrev main_call12_v2 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_c_25 : Ref sig .tc := ⟨.hbm, 207, rfl⟩
abbrev main_v138 : Ref sig .tc := ⟨.hbm, 208, rfl⟩
abbrev main_v139 : Ref sig .tc := ⟨.hbm, 209, rfl⟩
abbrev main_cst_26 : Ref sig .tc := ⟨.hbm, 210, rfl⟩
abbrev main_call13_v0 : Ref sig .tc := ⟨.hbm, 211, rfl⟩
abbrev main_call13_v1 : Ref sig .tc := ⟨.hbm, 212, rfl⟩
abbrev main_call13_v2 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_c_27 : Ref sig .tc := ⟨.hbm, 222, rfl⟩
abbrev main_v148 : Ref sig .tc := ⟨.hbm, 223, rfl⟩
abbrev main_v149 : Ref sig .tc := ⟨.hbm, 224, rfl⟩
abbrev main_cst_28 : Ref sig .tc := ⟨.hbm, 225, rfl⟩
abbrev main_call14_v0 : Ref sig .tc := ⟨.hbm, 226, rfl⟩
abbrev main_call14_v1 : Ref sig .tc := ⟨.hbm, 227, rfl⟩
abbrev main_call14_v2 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_c_29 : Ref sig .tc := ⟨.hbm, 237, rfl⟩
abbrev main_v158 : Ref sig .tc := ⟨.hbm, 238, rfl⟩
abbrev main_v159 : Ref sig .tc := ⟨.hbm, 239, rfl⟩
abbrev main_cst_30 : Ref sig .tc := ⟨.hbm, 240, rfl⟩
abbrev main_call15_v0 : Ref sig .tc := ⟨.hbm, 241, rfl⟩
abbrev main_call15_v1 : Ref sig .tc := ⟨.hbm, 242, rfl⟩
abbrev main_call15_v2 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_c_31 : Ref sig .tc := ⟨.hbm, 252, rfl⟩
abbrev main_v168 : Ref sig .tc := ⟨.hbm, 253, rfl⟩
abbrev main_v169 : Ref sig .tc := ⟨.hbm, 254, rfl⟩
abbrev main_cst_32 : Ref sig .tc := ⟨.hbm, 255, rfl⟩
abbrev main_call16_v0 : Ref sig .tc := ⟨.hbm, 256, rfl⟩
abbrev main_call16_v1 : Ref sig .tc := ⟨.hbm, 257, rfl⟩
abbrev main_call16_v2 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩

abbrev nD : Nat := 1
abbrev τ : Topo := Topo.v7x

variable {F : FTy → Type} [FloatOps F]
-- ==== KernelDown1.lean ====
abbrev S5x80 : Shape := ⟨2, ![5, 80]⟩
abbrev S20480x1536 : Shape := ⟨2, ![20480, 1536]⟩
abbrev S2x16x1536x4096 : Shape := ⟨4, ![2, 16, 1536, 4096]⟩
abbrev S20480 : Shape := ⟨1, ![20480]⟩
abbrev S20480x1 : Shape := ⟨2, ![20480, 1]⟩
abbrev S20480x32x128 : Shape := ⟨3, ![20480, 32, 128]⟩
abbrev S256x1536 : Shape := ⟨2, ![256, 1536]⟩
abbrev S256x1 : Shape := ⟨2, ![256, 1]⟩
abbrev S256x32x128 : Shape := ⟨3, ![256, 32, 128]⟩
abbrev S1x1536x4096 : Shape := ⟨3, ![1, 1536, 4096]⟩
abbrev S1 : Shape := ⟨1, ![1]⟩
abbrev S1x1 : Shape := ⟨2, ![1, 1]⟩
abbrev S_ : Shape := ⟨0, ![]⟩
abbrev S1536x4096 : Shape := ⟨2, ![1536, 4096]⟩
abbrev S1x1x1536x4096 : Shape := ⟨4, ![1, 1, 1536, 4096]⟩
abbrev S256x4096 : Shape := ⟨2, ![256, 4096]⟩
abbrev S256x128 : Shape := ⟨2, ![256, 128]⟩
abbrev S256x1x128 : Shape := ⟨3, ![256, 1, 128]⟩

abbrev nBuf : Space → Nat
  | .hbm => 5
  | .vmem => 8
  | .smem => 1
  | _ => 0

abbrev bufTy : (tb : Table) → Fin (tcTables nBuf tb) → BufTy
  | .hbm, ⟨0, _⟩ => ⟨S20480x1536, .bf16⟩
  | .hbm, ⟨1, _⟩ => ⟨S2x16x1536x4096, .f32⟩
  | .hbm, ⟨2, _⟩ => ⟨S20480, .f32⟩
  | .hbm, ⟨3, _⟩ => ⟨S20480x1, .f32⟩
  | .hbm, ⟨4, _⟩ => ⟨S20480x32x128, .f32⟩
  | .local _ .vmem, ⟨0, _⟩ => ⟨S256x1536, .bf16⟩
  | .local _ .vmem, ⟨1, _⟩ => ⟨S256x1536, .bf16⟩
  | .local _ .vmem, ⟨2, _⟩ => ⟨S256x1, .f32⟩
  | .local _ .vmem, ⟨3, _⟩ => ⟨S256x1, .f32⟩
  | .local _ .vmem, ⟨4, _⟩ => ⟨S256x32x128, .f32⟩
  | .local _ .vmem, ⟨5, _⟩ => ⟨S256x32x128, .f32⟩
  | .local _ .vmem, ⟨6, _⟩ => ⟨S1x1536x4096, .f32⟩
  | .local _ .vmem, ⟨7, _⟩ => ⟨S1x1536x4096, .bf16⟩
  | .local _ .smem, ⟨0, _⟩ => ⟨S5x80, .i32⟩
  | _, _ => ⟨S20480x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 80], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32_1 : BitVec 32 := 0#32
  let v2 : BitVec 1 := Scalar.cmpi .eq arg1 c0_i32_1
  let v3 : BitVec 1 := Scalar.andi v1 v2
  let v4 : BitVec 32 := Scalar.extui v3
  let c0_i32_2 : BitVec 32 := 0#32
  let v5 : BitVec 1 := Scalar.cmpi .ne v4 c0_i32_2
  v5

def k0_mult1 : BitVec 32 :=
  let c0_i32_8 : BitVec 32 := 0#32
  c0_i32_8
def k0_off1 (v19 : BitVec 32) : Fin 4 → Nat :=
  let c1_i32_9 : BitVec 32 := 1#32
  let c0_i32_14 : BitVec 32 := 0#32
  let c0_i32_8 : BitVec 32 := 0#32
  let v20 : BitVec 32 := c0_i32_8
  ![1, v19.toNat, 0, 0]

def k0_chk1 (i : grid0.Coords) (v19 : BitVec 32) : Prop :=
  (∀ (k0_h1 : k0_cond1 i = 1#1), ∀ a, (k0_off1 v19) a + S1x1x1536x4096.size a ≤ S2x16x1536x4096.size a)
theorem k0_off1_inb : ∀ (i : grid0.Coords) (v19 : BitVec 32) (k0_hw1 : k0_chk1 i v19), ∀ (k0_h1 : k0_cond1 i = 1#1), ∀ a, (k0_off1 v19) a + S1x1x1536x4096.size a ≤ S2x16x1536x4096.size a := fun i v19 k0_hw1 k0_h1 => k0_hw1 k0_h1

def k0_off2 (i : grid0.Coords) : Fin 2 → Nat :=
  let c2 : Index := 2#32
  let arg1 : BitVec 32 := BitVec.ofNat 32 (i 1).val
  let v6 : Index := Scalar.indexCast arg1
  ![2, v6.toNat]
def k0_off3 (i : grid0.Coords) : Fin 2 → Nat :=
  let c0 : Index := 0#32
  let arg1 : BitVec 32 := BitVec.ofNat 32 (i 1).val
  let v19 : Index := Scalar.indexCast arg1
  ![0, v19.toNat]
def k0_mult2 (i : grid0.Coords) : BitVec 32 :=
  let arg0 : BitVec 32 := BitVec.ofNat 32 (i 0).val
  let c4096_i32 : BitVec 32 := 4096#32
  let v21 : BitVec 32 := Scalar.muli arg0 c4096_i32
  v21
def k0_off4 (i : grid0.Coords) (v20 : BitVec 32) : Fin 4 → Nat :=
  let c1_i32_7 : BitVec 32 := 1#32
  let c0_i32_12 : BitVec 32 := 0#32
  let arg0 : BitVec 32 := BitVec.ofNat 32 (i 0).val
  let c4096_i32 : BitVec 32 := 4096#32
  let v21 : BitVec 32 := Scalar.muli arg0 c4096_i32
  let v22 : BitVec 32 := v21
  ![1, v20.toNat, 0, v22.toNat]
def k0_cond2 (v7 : BitVec 32) : BitVec 1 :=
  let c1_i32 : BitVec 32 := 1#32
  let v8 : BitVec 1 := Scalar.cmpi .eq v7 c1_i32
  let v9 : BitVec 32 := Scalar.extui v8
  let c0_i32_3 : BitVec 32 := 0#32
  let v10 : BitVec 1 := Scalar.cmpi .ne v9 c0_i32_3
  v10

def k0_chk2 (i : grid0.Coords) (v7 : BitVec 32) (v20 : BitVec 32) : Prop :=
  (∀ (k0_h2 : k0_cond2 v7 = 1#1), ∀ a, (k0_off4 i v20) a + S1x1x1536x4096.size a ≤ S2x16x1536x4096.size a)
theorem k0_off4_inb : ∀ (i : grid0.Coords) (v7 : BitVec 32) (v20 : BitVec 32) (k0_hw2 : k0_chk2 i v7 v20), ∀ (k0_h2 : k0_cond2 v7 = 1#1), ∀ a, (k0_off4 i v20) a + S1x1x1536x4096.size a ≤ S2x16x1536x4096.size a := fun i v7 v20 k0_hw2 k0_h2 => k0_hw2 k0_h2

def k0_off5 (i : grid0.Coords) : Fin 2 → Nat :=
  let c4 : Index := 4#32
  let arg1 : BitVec 32 := BitVec.ofNat 32 (i 1).val
  let v35 : Index := Scalar.indexCast arg1
  ![4, v35.toNat]
def k0_off6 (i : grid0.Coords) : Fin 2 → Nat :=
  let c3 : Index := 3#32
  let arg1 : BitVec 32 := BitVec.ofNat 32 (i 1).val
  let v42 : Index := Scalar.indexCast arg1
  ![3, v42.toNat]
def k0_mult3 (i : grid0.Coords) (v36 : BitVec 32) : BitVec 32 :=
  let c1_i32_19 : BitVec 32 := 1#32
  let v37 : BitVec 1 := Scalar.cmpi .eq v36 c1_i32_19
  let arg0 : BitVec 32 := BitVec.ofNat 32 (i 0).val
  let c1_i32_22 : BitVec 32 := 1#32
  let v44 : BitVec 32 := Scalar.addi arg0 c1_i32_22
  let v45 : BitVec 32 := Scalar.select v37 v44 arg0
  let c4096_i32_23 : BitVec 32 := 4096#32
  let v46 : BitVec 32 := Scalar.muli v45 c4096_i32_23
  v46
def k0_cond3 (i : grid0.Coords) (v36 : BitVec 32) : BitVec 1 :=
  let c1_i32_19 : BitVec 32 := 1#32
  let v37 : BitVec 1 := Scalar.cmpi .eq v36 c1_i32_19
  let arg0 : BitVec 32 := BitVec.ofNat 32 (i 0).val
  let c0_i32 : BitVec 32 := 0#32
  let v0 : BitVec 1 := Scalar.cmpi .eq arg0 c0_i32
  let v38 : BitVec 1 := Scalar.andi v37 v0
  let true_20 : BitVec 1 := 1#1
  let v39 : BitVec 1 := Scalar.xori v38 true_20
  let v40 : BitVec 32 := Scalar.extui v39
  let c0_i32_21 : BitVec 32 := 0#32
  let v41 : BitVec 1 := Scalar.cmpi .ne v40 c0_i32_21
  v41

def k0_chk3 (i : grid0.Coords) (v7 : BitVec 32) (v36 : BitVec 32) : Prop :=
  (∀ (k0_h2 : k0_cond2 v7 = 1#1), ∀ (k0_h3 : k0_cond3 i v36 = 1#1), 4096 ∣ (k0_mult3 i v36).toNat)
theorem k0_mult3_dvd : ∀ (i : grid0.Coords) (v7 : BitVec 32) (v36 : BitVec 32) (k0_hw3 : k0_chk3 i v7 v36), ∀ (k0_h2 : k0_cond2 v7 = 1#1), ∀ (k0_h3 : k0_cond3 i v36 = 1#1), 4096 ∣ (k0_mult3 i v36).toNat := fun i v7 v36 k0_hw3 k0_h2 k0_h3 => k0_hw3 k0_h2 k0_h3

def k0_off7 (i : grid0.Coords) (v36 : BitVec 32) (v43 : BitVec 32) : Fin 4 → Nat :=
  let c1_i32_24 : BitVec 32 := 1#32
  let c0_i32_29 : BitVec 32 := 0#32
  let c1_i32_19 : BitVec 32 := 1#32
  let v37 : BitVec 1 := Scalar.cmpi .eq v36 c1_i32_19
  let arg0 : BitVec 32 := BitVec.ofNat 32 (i 0).val
  let c1_i32_22 : BitVec 32 := 1#32
  let v44 : BitVec 32 := Scalar.addi arg0 c1_i32_22
  let v45 : BitVec 32 := Scalar.select v37 v44 arg0
  let c4096_i32_23 : BitVec 32 := 4096#32
  let v46 : BitVec 32 := Scalar.muli v45 c4096_i32_23
  let v47 : BitVec 32 := v46
  ![1, v43.toNat, 0, v47.toNat]

def k0_chk4 (i : grid0.Coords) (v7 : BitVec 32) (v36 : BitVec 32) (v43 : BitVec 32) : Prop :=
  (∀ (k0_h2 : k0_cond2 v7 = 1#1), ∀ (k0_h3 : k0_cond3 i v36 = 1#1), ∀ a, (k0_off7 i v36 v43) a + S1x1x1536x4096.size a ≤ S2x16x1536x4096.size a)
theorem k0_off7_inb : ∀ (i : grid0.Coords) (v7 : BitVec 32) (v36 : BitVec 32) (v43 : BitVec 32) (k0_hw4 : k0_chk4 i v7 v36 v43), ∀ (k0_h2 : k0_cond2 v7 = 1#1), ∀ (k0_h3 : k0_cond3 i v36 = 1#1), ∀ a, (k0_off7 i v36 v43) a + S1x1x1536x4096.size a ≤ S2x16x1536x4096.size a := fun i v7 v36 v43 k0_hw4 k0_h2 k0_h3 => k0_hw4 k0_h2 k0_h3

def k0_off8 (i : grid0.Coords) : Fin 2 → Nat :=
  let c1 : Index := 1#32
  let arg1 : BitVec 32 := BitVec.ofNat 32 (i 1).val
  let v11 : Index := Scalar.indexCast arg1
  ![1, v11.toNat]
def k0_cond4 (v12 : BitVec 32) : BitVec 1 :=
  let c1_i32_4 : BitVec 32 := 1#32
  let v13 : BitVec 1 := Scalar.cmpi .eq v12 c1_i32_4
  let v14 : BitVec 32 := Scalar.extui v13
  let c0_i32_5 : BitVec 32 := 0#32
  let v15 : BitVec 1 := Scalar.cmpi .ne v14 c0_i32_5
  v15

def k0_cond5 (v12 : BitVec 32) : BitVec 1 :=
  let c1_i32_4 : BitVec 32 := 1#32
  let v13 : BitVec 1 := Scalar.cmpi .eq v12 c1_i32_4
  let v_true : BitVec 1 := 1#1
  let v16 : BitVec 1 := Scalar.xori v13 v_true
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDown1Ideal.lean ====
abbrev S5x80 : Shape := ⟨2, ![5, 80]⟩
abbrev S20480x1536 : Shape := ⟨2, ![20480, 1536]⟩
abbrev S2x16x1536x4096 : Shape := ⟨4, ![2, 16, 1536, 4096]⟩
abbrev S20480 : Shape := ⟨1, ![20480]⟩
abbrev S1x80 : Shape := ⟨2, ![1, 80]⟩
abbrev S80 : Shape := ⟨1, ![80]⟩
abbrev S_ : Shape := ⟨0, ![]⟩
abbrev S80x256 : Shape := ⟨2, ![80, 256]⟩
abbrev S20480x1 : Shape := ⟨2, ![20480, 1]⟩
abbrev S20480x4096 : Shape := ⟨2, ![20480, 4096]⟩
abbrev S1x1x1536x4096 : Shape := ⟨4, ![1, 1, 1536, 4096]⟩
abbrev S1536x4096 : Shape := ⟨2, ![1536, 4096]⟩
abbrev S20480x32x128 : Shape := ⟨3, ![20480, 32, 128]⟩

abbrev nBuf : Space → Nat
  | .hbm => 262
  | .vmem => 0
  | .smem => 0
  | _ => 0

abbrev hbmTy0_0 (i : Nat) : BufTy := match i % 128 with
  | 0 => ⟨S5x80, .i32⟩
  | 1 => ⟨S20480x1536, .bf16⟩
  | 2 => ⟨S2x16x1536x4096, .f32⟩
  | 3 => ⟨S20480, .f32⟩
  | 4 => ⟨S20480x1536, .f32⟩
  | 5 => ⟨S1x80, .i32⟩
  | 6 => ⟨S80, .i32⟩
  | 7 => ⟨S_, .i32⟩
  | 8 => ⟨S80, .i32⟩
  | 9 => ⟨S80, .i1⟩
  | 10 => ⟨S1x80, .i32⟩
  | 11 => ⟨S80, .i32⟩
  | 12 => ⟨S_, .i32⟩
  | 13 => ⟨S_, .i32⟩
  | 14 => ⟨S80, .i32⟩
  | 15 => ⟨S80, .i32⟩
  | 16 => ⟨S80x256, .i32⟩
  | 17 => ⟨S20480, .i32⟩
  | 18 => ⟨S20480x1, .i32⟩
  | 19 => ⟨S_, .f32⟩
  | 20 => ⟨S20480x4096, .f32⟩
  | 21 => ⟨S20480x1, .f32⟩
  | 22 => ⟨S1x1x1536x4096, .f32⟩
  | 23 => ⟨S1536x4096, .f32⟩
  | 24 => ⟨S20480x4096, .f32⟩
  | 25 => ⟨S20480x4096, .f32⟩
  | 26 => ⟨S20480x4096, .f32⟩
  | 27 => ⟨S_, .i32⟩
  | 28 => ⟨S20480x1, .i32⟩
  | 29 => ⟨S20480x1, .i1⟩
  | 30 => ⟨S_, .f32⟩
  | 31 => ⟨S_, .f32⟩
  | 32 => ⟨S20480x4096, .i1⟩
  | 33 => ⟨S20480x4096, .f32⟩
  | 34 => ⟨S20480x4096, .f32⟩
  | 35 => ⟨S20480x4096, .f32⟩
  | 36 => ⟨S20480x1, .f32⟩
  | 37 => ⟨S1x1x1536x4096, .f32⟩
  | 38 => ⟨S1536x4096, .f32⟩
  | 39 => ⟨S20480x4096, .f32⟩
  | 40 => ⟨S20480x4096, .f32⟩
  | 41 => ⟨S20480x4096, .f32⟩
  | 42 => ⟨S_, .i32⟩
  | 43 => ⟨S20480x1, .i32⟩
  | 44 => ⟨S20480x1, .i1⟩
  | 45 => ⟨S_, .f32⟩
  | 46 => ⟨S_, .f32⟩
  | 47 => ⟨S20480x4096, .i1⟩
  | 48 => ⟨S20480x4096, .f32⟩
  | 49 => ⟨S20480x4096, .f32⟩
  | 50 => ⟨S20480x4096, .f32⟩
  | 51 => ⟨S20480x1, .f32⟩
  | 52 => ⟨S1x1x1536x4096, .f32⟩
  | 53 => ⟨S1536x4096, .f32⟩
  | 54 => ⟨S20480x4096, .f32⟩
  | 55 => ⟨S20480x4096, .f32⟩
  | 56 => ⟨S20480x4096, .f32⟩
  | 57 => ⟨S_, .i32⟩
  | 58 => ⟨S20480x1, .i32⟩
  | 59 => ⟨S20480x1, .i1⟩
  | 60 => ⟨S_, .f32⟩
  | 61 => ⟨S_, .f32⟩
  | 62 => ⟨S20480x4096, .i1⟩
  | 63 => ⟨S20480x4096, .f32⟩
  | 64 => ⟨S20480x4096, .f32⟩
  | 65 => ⟨S20480x4096, .f32⟩
  | 66 => ⟨S20480x1, .f32⟩
  | 67 => ⟨S1x1x1536x4096, .f32⟩
  | 68 => ⟨S1536x4096, .f32⟩
  | 69 => ⟨S20480x4096, .f32⟩
  | 70 => ⟨S20480x4096, .f32⟩
  | 71 => ⟨S20480x4096, .f32⟩
  | 72 => ⟨S_, .i32⟩
  | 73 => ⟨S20480x1, .i32⟩
  | 74 => ⟨S20480x1, .i1⟩
  | 75 => ⟨S_, .f32⟩
  | 76 => ⟨S_, .f32⟩
  | 77 => ⟨S20480x4096, .i1⟩
  | 78 => ⟨S20480x4096, .f32⟩
  | 79 => ⟨S20480x4096, .f32⟩
  | 80 => ⟨S20480x4096, .f32⟩
  | 81 => ⟨S20480x1, .f32⟩
  | 82 => ⟨S1x1x1536x4096, .f32⟩
  | 83 => ⟨S1536x4096, .f32⟩
  | 84 => ⟨S20480x4096, .f32⟩
  | 85 => ⟨S20480x4096, .f32⟩
  | 86 => ⟨S20480x4096, .f32⟩
  | 87 => ⟨S_, .i32⟩
  | 88 => ⟨S20480x1, .i32⟩
  | 89 => ⟨S20480x1, .i1⟩
  | 90 => ⟨S_, .f32⟩
  | 91 => ⟨S_, .f32⟩
  | 92 => ⟨S20480x4096, .i1⟩
  | 93 => ⟨S20480x4096, .f32⟩
  | 94 => ⟨S20480x4096, .f32⟩
  | 95 => ⟨S20480x4096, .f32⟩
  | 96 => ⟨S20480x1, .f32⟩
  | 97 => ⟨S1x1x1536x4096, .f32⟩
  | 98 => ⟨S1536x4096, .f32⟩
  | 99 => ⟨S20480x4096, .f32⟩
  | 100 => ⟨S20480x4096, .f32⟩
  | 101 => ⟨S20480x4096, .f32⟩
  | 102 => ⟨S_, .i32⟩
  | 103 => ⟨S20480x1, .i32⟩
  | 104 => ⟨S20480x1, .i1⟩
  | 105 => ⟨S_, .f32⟩
  | 106 => ⟨S_, .f32⟩
  | 107 => ⟨S20480x4096, .i1⟩
  | 108 => ⟨S20480x4096, .f32⟩
  | 109 => ⟨S20480x4096, .f32⟩
  | 110 => ⟨S20480x4096, .f32⟩
  | 111 => ⟨S20480x1, .f32⟩
  | 112 => ⟨S1x1x1536x4096, .f32⟩
  | 113 => ⟨S1536x4096, .f32⟩
  | 114 => ⟨S20480x4096, .f32⟩
  | 115 => ⟨S20480x4096, .f32⟩
  | 116 => ⟨S20480x4096, .f32⟩
  | 117 => ⟨S_, .i32⟩
  | 118 => ⟨S20480x1, .i32⟩
  | 119 => ⟨S20480x1, .i1⟩
  | 120 => ⟨S_, .f32⟩
  | 121 => ⟨S_, .f32⟩
  | 122 => ⟨S20480x4096, .i1⟩
  | 123 => ⟨S20480x4096, .f32⟩
  | 124 => ⟨S20480x4096, .f32⟩
  | 125 => ⟨S20480x4096, .f32⟩
  | 126 => ⟨S20480x1, .f32⟩
  | 127 => ⟨S1x1x1536x4096, .f32⟩
  | _ => ⟨S5x80, .i32⟩

abbrev hbmTy0_1 (i : Nat) : BufTy := match i % 128 with
  | 0 => ⟨S1536x4096, .f32⟩
  | 1 => ⟨S20480x4096, .f32⟩
  | 2 => ⟨S20480x4096, .f32⟩
  | 3 => ⟨S20480x4096, .f32⟩
  | 4 => ⟨S_, .i32⟩
  | 5 => ⟨S20480x1, .i32⟩
  | 6 => ⟨S20480x1, .i1⟩
  | 7 => ⟨S_, .f32⟩
  | 8 => ⟨S_, .f32⟩
  | 9 => ⟨S20480x4096, .i1⟩
  | 10 => ⟨S20480x4096, .f32⟩
  | 11 => ⟨S20480x4096, .f32⟩
  | 12 => ⟨S20480x4096, .f32⟩
  | 13 => ⟨S20480x1, .f32⟩
  | 14 => ⟨S1x1x1536x4096, .f32⟩
  | 15 => ⟨S1536x4096, .f32⟩
  | 16 => ⟨S20480x4096, .f32⟩
  | 17 => ⟨S20480x4096, .f32⟩
  | 18 => ⟨S20480x4096, .f32⟩
  | 19 => ⟨S_, .i32⟩
  | 20 => ⟨S20480x1, .i32⟩
  | 21 => ⟨S20480x1, .i1⟩
  | 22 => ⟨S_, .f32⟩
  | 23 => ⟨S_, .f32⟩
  | 24 => ⟨S20480x4096, .i1⟩
  | 25 => ⟨S20480x4096, .f32⟩
  | 26 => ⟨S20480x4096, .f32⟩
  | 27 => ⟨S20480x4096, .f32⟩
  | 28 => ⟨S20480x1, .f32⟩
  | 29 => ⟨S1x1x1536x4096, .f32⟩
  | 30 => ⟨S1536x4096, .f32⟩
  | 31 => ⟨S20480x4096, .f32⟩
  | 32 => ⟨S20480x4096, .f32⟩
  | 33 => ⟨S20480x4096, .f32⟩
  | 34 => ⟨S_, .i32⟩
  | 35 => ⟨S20480x1, .i32⟩
  | 36 => ⟨S20480x1, .i1⟩
  | 37 => ⟨S_, .f32⟩
  | 38 => ⟨S_, .f32⟩
  | 39 => ⟨S20480x4096, .i1⟩
  | 40 => ⟨S20480x4096, .f32⟩
  | 41 => ⟨S20480x4096, .f32⟩
  | 42 => ⟨S20480x4096, .f32⟩
  | 43 => ⟨S20480x1, .f32⟩
  | 44 => ⟨S1x1x1536x4096, .f32⟩
  | 45 => ⟨S1536x4096, .f32⟩
  | 46 => ⟨S20480x4096, .f32⟩
  | 47 => ⟨S20480x4096, .f32⟩
  | 48 => ⟨S20480x4096, .f32⟩
  | 49 => ⟨S_, .i32⟩
  | 50 => ⟨S20480x1, .i32⟩
  | 51 => ⟨S20480x1, .i1⟩
  | 52 => ⟨S_, .f32⟩
  | 53 => ⟨S_, .f32⟩
  | 54 => ⟨S20480x4096, .i1⟩
  | 55 => ⟨S20480x4096, .f32⟩
  | 56 => ⟨S20480x4096, .f32⟩
  | 57 => ⟨S20480x4096, .f32⟩
  | 58 => ⟨S20480x1, .f32⟩
  | 59 => ⟨S1x1x1536x4096, .f32⟩
  | 60 => ⟨S1536x4096, .f32⟩
  | 61 => ⟨S20480x4096, .f32⟩
  | 62 => ⟨S20480x4096, .f32⟩
  | 63 => ⟨S20480x4096, .f32⟩
  | 64 => ⟨S_, .i32⟩
  | 65 => ⟨S20480x1, .i32⟩
  | 66 => ⟨S20480x1, .i1⟩
  | 67 => ⟨S_, .f32⟩
  | 68 => ⟨S_, .f32⟩
  | 69 => ⟨S20480x4096, .i1⟩
  | 70 => ⟨S20480x4096, .f32⟩
  | 71 => ⟨S20480x4096, .f32⟩
  | 72 => ⟨S20480x4096, .f32⟩
  | 73 => ⟨S20480x1, .f32⟩
  | 74 => ⟨S1x1x1536x4096, .f32⟩
  | 75 => ⟨S1536x4096, .f32⟩
  | 76 => ⟨S20480x4096, .f32⟩
  | 77 => ⟨S20480x4096, .f32⟩
  | 78 => ⟨S20480x4096, .f32⟩
  | 79 => ⟨S_, .i32⟩
  | 80 => ⟨S20480x1, .i32⟩
  | 81 => ⟨S20480x1, .i1⟩
  | 82 => ⟨S_, .f32⟩
  | 83 => ⟨S_, .f32⟩
  | 84 => ⟨S20480x4096, .i1⟩
  | 85 => ⟨S20480x4096, .f32⟩
  | 86 => ⟨S20480x4096, .f32⟩
  | 87 => ⟨S20480x4096, .f32⟩
  | 88 => ⟨S20480x1, .f32⟩
  | 89 => ⟨S1x1x1536x4096, .f32⟩
  | 90 => ⟨S1536x4096, .f32⟩
  | 91 => ⟨S20480x4096, .f32⟩
  | 92 => ⟨S20480x4096, .f32⟩
  | 93 => ⟨S20480x4096, .f32⟩
  | 94 => ⟨S_, .i32⟩
  | 95 => ⟨S20480x1, .i32⟩
  | 96 => ⟨S20480x1, .i1⟩
  | 97 => ⟨S_, .f32⟩
  | 98 => ⟨S_, .f32⟩
  | 99 => ⟨S20480x4096, .i1⟩
  | 100 => ⟨S20480x4096, .f32⟩
  | 101 => ⟨S20480x4096, .f32⟩
  | 102 => ⟨S20480x4096, .f32⟩
  | 103 => ⟨S20480x1, .f32⟩
  | 104 => ⟨S1x1x1536x4096, .f32⟩
  | 105 => ⟨S1536x4096, .f32⟩
  | 106 => ⟨S20480x4096, .f32⟩
  | 107 => ⟨S20480x4096, .f32⟩
  | 108 => ⟨S20480x4096, .f32⟩
  | 109 => ⟨S_, .i32⟩
  | 110 => ⟨S20480x1, .i32⟩
  | 111 => ⟨S20480x1, .i1⟩
  | 112 => ⟨S_, .f32⟩
  | 113 => ⟨S_, .f32⟩
  | 114 => ⟨S20480x4096, .i1⟩
  | 115 => ⟨S20480x4096, .f32⟩
  | 116 => ⟨S20480x4096, .f32⟩
  | 117 => ⟨S20480x4096, .f32⟩
  | 118 => ⟨S20480x1, .f32⟩
  | 119 => ⟨S1x1x1536x4096, .f32⟩
  | 120 => ⟨S1536x4096, .f32⟩
  | 121 => ⟨S20480x4096, .f32⟩
  | 122 => ⟨S20480x4096, .f32⟩
  | 123 => ⟨S20480x4096, .f32⟩
  | 124 => ⟨S_, .i32⟩
  | 125 => ⟨S20480x1, .i32⟩
  | 126 => ⟨S20480x1, .i1⟩
  | 127 => ⟨S_, .f32⟩
  | _ => ⟨S5x80, .i32⟩

abbrev hbmTy0_2 (i : Nat) : BufTy := match i % 128 with
  | 0 => ⟨S_, .f32⟩
  | 1 => ⟨S20480x4096, .i1⟩
  | 2 => ⟨S20480x4096, .f32⟩
  | 3 => ⟨S20480x4096, .f32⟩
  | 4 => ⟨S20480x4096, .f32⟩
  | 5 => ⟨S20480x32x128, .f32⟩
  | _ => ⟨S5x80, .i32⟩

abbrev hbmTy (i : Nat) : BufTy := match i / 128 with
  | 0 => hbmTy0_0 i
  | 1 => hbmTy0_1 i
  | 2 => hbmTy0_2 i
  | _ => ⟨S5x80, .i32⟩

abbrev bufTy : (tb : Table) → Fin (tcTables nBuf tb) → BufTy
  | .hbm, ⟨i, _⟩ => hbmTy i
  | _, _ => ⟨S5x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_11 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_13 : Ref sig .tc := ⟨.hbm, 117, rfl⟩
abbrev main_v78 : Ref sig .tc := ⟨.hbm, 118, rfl⟩
abbrev main_v79 : Ref sig .tc := ⟨.hbm, 119, rfl⟩
abbrev main_cst_14 : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_15 : Ref sig .tc := ⟨.hbm, 132, rfl⟩
abbrev main_v88 : Ref sig .tc := ⟨.hbm, 133, rfl⟩
abbrev main_v89 : Ref sig .tc := ⟨.hbm, 134, rfl⟩
abbrev main_cst_16 : Ref sig .tc := ⟨.hbm, 135, rfl⟩
abbrev main_call8_v0 : Ref sig .tc := ⟨.hbm, 136, rfl⟩
abbrev main_call8_v1 : Ref sig .tc := ⟨.hbm, 137, rfl⟩
abbrev main_call8_v2 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_17 : Ref sig .tc := ⟨.hbm, 147, rfl⟩
abbrev main_v98 : Ref sig .tc := ⟨.hbm, 148, rfl⟩
abbrev main_v99 : Ref sig .tc := ⟨.hbm, 149, rfl⟩
abbrev main_cst_18 : Ref sig .tc := ⟨.hbm, 150, rfl⟩
abbrev main_call9_v0 : Ref sig .tc := ⟨.hbm, 151, rfl⟩
abbrev main_call9_v1 : Ref sig .tc := ⟨.hbm, 152, rfl⟩
abbrev main_call9_v2 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_c_19 : Ref sig .tc := ⟨.hbm, 162, rfl⟩
abbrev main_v108 : Ref sig .tc := ⟨.hbm, 163, rfl⟩
abbrev main_v109 : Ref sig .tc := ⟨.hbm, 164, rfl⟩
abbrev main_cst_20 : Ref sig .tc := ⟨.hbm, 165, rfl⟩
abbrev main_call10_v0 : Ref sig .tc := ⟨.hbm, 166, rfl⟩
abbrev main_call10_v1 : Ref sig .tc := ⟨.hbm, 167, rfl⟩
abbrev main_call10_v2 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_c_21 : Ref sig .tc := ⟨.hbm, 177, rfl⟩
abbrev main_v118 : Ref sig .tc := ⟨.hbm, 178, rfl⟩
abbrev main_v119 : Ref sig .tc := ⟨.hbm, 179, rfl⟩
abbrev main_cst_22 : Ref sig .tc := ⟨.hbm, 180, rfl⟩
abbrev main_call11_v0 : Ref sig .tc := ⟨.hbm, 181, rfl⟩
abbrev main_call11_v1 : Ref sig .tc := ⟨.hbm, 182, rfl⟩
abbrev main_call11_v2 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_c_23 : Ref sig .tc := ⟨.hbm, 192, rfl⟩
abbrev main_v128 : Ref sig .tc := ⟨.hbm, 193, rfl⟩
abbrev main_v129 : Ref sig .tc := ⟨.hbm, 194, rfl⟩
abbrev main_cst_24 : Ref sig .tc := ⟨.hbm, 195, rfl⟩
abbrev main_call12_v0 : Ref sig .tc := ⟨.hbm, 196, rfl⟩
abbrev main_call12_v1 : Ref sig .tc := ⟨.hbm, 197, rfl⟩
abbrev main_call12_v2 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_c_25 : Ref sig .tc := ⟨.hbm, 207, rfl⟩
abbrev main_v138 : Ref sig .tc := ⟨.hbm, 208, rfl⟩
abbrev main_v139 : Ref sig .tc := ⟨.hbm, 209, rfl⟩
abbrev main_cst_26 : Ref sig .tc := ⟨.hbm, 210, rfl⟩
abbrev main_call13_v0 : Ref sig .tc := ⟨.hbm, 211, rfl⟩
abbrev main_call13_v1 : Ref sig .tc := ⟨.hbm, 212, rfl⟩
abbrev main_call13_v2 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_c_27 : Ref sig .tc := ⟨.hbm, 222, rfl⟩
abbrev main_v148 : Ref sig .tc := ⟨.hbm, 223, rfl⟩
abbrev main_v149 : Ref sig .tc := ⟨.hbm, 224, rfl⟩
abbrev main_cst_28 : Ref sig .tc := ⟨.hbm, 225, rfl⟩
abbrev main_call14_v0 : Ref sig .tc := ⟨.hbm, 226, rfl⟩
abbrev main_call14_v1 : Ref sig .tc := ⟨.hbm, 227, rfl⟩
abbrev main_call14_v2 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_c_29 : Ref sig .tc := ⟨.hbm, 237, rfl⟩
abbrev main_v158 : Ref sig .tc := ⟨.hbm, 238, rfl⟩
abbrev main_v159 : Ref sig .tc := ⟨.hbm, 239, rfl⟩
abbrev main_cst_30 : Ref sig .tc := ⟨.hbm, 240, rfl⟩
abbrev main_call15_v0 : Ref sig .tc := ⟨.hbm, 241, rfl⟩
abbrev main_call15_v1 : Ref sig .tc := ⟨.hbm, 242, rfl⟩
abbrev main_call15_v2 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_c_31 : Ref sig .tc := ⟨.hbm, 252, rfl⟩
abbrev main_v168 : Ref sig .tc := ⟨.hbm, 253, rfl⟩
abbrev main_v169 : Ref sig .tc := ⟨.hbm, 254, rfl⟩
abbrev main_cst_32 : Ref sig .tc := ⟨.hbm, 255, rfl⟩
abbrev main_call16_v0 : Ref sig .tc := ⟨.hbm, 256, rfl⟩
abbrev main_call16_v1 : Ref sig .tc := ⟨.hbm, 257, rfl⟩
abbrev main_call16_v2 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩

abbrev nD : Nat := 1
abbrev τ : Topo := Topo.v7x

variable {F : FTy → Type} [FloatOps F]
-- ==== Proof.Spec.lean ====
module

import Idealize.ShloMosaic.Lib.Pointwise
public import Idealize.ShloMosaic.PureOps.Ideal
public import Idealize.ShloMosaic.Lib.Claim

/-!
# The state-space mixer, as plain functions of numbers

Every function here takes its arguments as functions of `Fin` indices and returns one number.  No
program occurs: the reference and the kernel are each shown to compute these.

Lengths: two sequences of 4096 rows, cut into 32 chunks of 128 rows; 8 groups; each group has 512
channels (8 heads of 64) and a state of 128 numbers per channel.
-/

@[expose] public section

noncomputable section

namespace Mixer

open Idealize.ShloMosaic

/-- `v · σ(v)`. -/
def silu (v : EReal) : EReal := v * Ideal.logistic v

/-- `log(1 + exp v)`, in the form that does not overflow. -/
def softplus (v : EReal) : EReal :=
  max v 0 + Ideal.log1p (Ideal.exp (-(FloatOps.absf (F := Ideal) (φ := .f32) v)))

/-- The head of channel `q` of a group: 64 channels to a head. -/
def hd (q : Fin 512) : Fin 8 := ⟨q.1 / 64, by omega⟩

/-- Column `r` of group `g` among the 64 heads. -/
def headCol (g : Fin 8) (r : Fin 8) : Fin 64 := ⟨g.1 * 8 + r.1, by omega⟩

/-- Column `q` of group `g` among the 4096 channels. -/
def grpCol (g : Fin 8) (q : Fin 512) : Fin 4096 := ⟨g.1 * 512 + q.1, by omega⟩

/-- The column, among the 6144 raw ones, of channel `q` of group `g`. -/
def colX (g : Fin 8) (q : Fin 512) : Fin 6144 := ⟨g.1 * 512 + q.1, by omega⟩

/-- The column, among the 6144 raw ones, of entry `n` of the input map of group `g`. -/
def colB (g : Fin 8) (n : Fin 128) : Fin 6144 := ⟨4096 + (g.1 * 128 + n.1), by omega⟩

/-- The column, among the 6144 raw ones, of entry `n` of the output map of group `g`. -/
def colC (g : Fin 8) (n : Fin 128) : Fin 6144 := ⟨5120 + (g.1 * 128 + n.1), by omega⟩

/-- Row `l` of chunk `c`. -/
def rowOf (c : Fin 32) (l : Fin 128) : Fin 4096 := ⟨c.1 * 128 + l.1, by omega⟩

/-- Row `s` of sequence `b`, in the flattened array of both sequences. -/
def flat (b : Fin 2) (s : Fin 4096) : Fin 8192 := ⟨b.1 * 4096 + s.1, by omega⟩

/-- Row `j - 8` of sequence `b`, zero outside the sequence. -/
def raw (x : Fin 8192 → Fin 6144 → EReal) (b : Fin 2) (j : ℕ) (ch : Fin 6144) : EReal :=
  if h : 8 ≤ j ∧ j - 8 < 4096 then x (flat b ⟨j - 8, h.2⟩) ch else 0

/-- The short causal convolution of four taps with its bias and `silu`, where `y 0 … y 3` are the
four rows that end at the current one. -/
def tap4 (y0 y1 y2 y3 w0 w1 w2 w3 bias : EReal) : EReal :=
  silu (bias + y0 * w0 + y1 * w1 + y2 * w2 + y3 * w3)

/-- A convolved channel. -/
def chan (x : Fin 8192 → Fin 6144 → EReal) (w : Fin 6144 → Fin 4 → EReal) (bias : Fin 6144 → EReal)
    (b : Fin 2) (s : Fin 4096) (ch : Fin 6144) : EReal :=
  tap4 (raw x b (s.1 + 5) ch) (raw x b (s.1 + 6) ch) (raw x b (s.1 + 7) ch) (raw x b (s.1 + 8) ch)
    (w ch 0) (w ch 1) (w ch 2) (w ch 3) (bias ch)

/-- A step size. -/
def step (u : Fin 8192 → Fin 64 → EReal) (bias : Fin 64 → EReal) (b : Fin 2) (s : Fin 4096)
    (h : Fin 64) : EReal :=
  softplus (u (flat b s) h + bias h)

/-- The logarithm of the decay from the start of a chunk to row `l`. -/
def cum (D : Fin 128 → EReal) (a : EReal) (l : Fin 128) : EReal :=
  ∑ k : Fin 128, if k.1 ≤ l.1 then D k * (-(Ideal.exp a)) else 0

section Block

variable (X : Fin 128 → Fin 512 → EReal) (B C : Fin 128 → Fin 128 → EReal)
  (D S : Fin 128 → Fin 8 → EReal) (H : Fin 128 → Fin 512 → EReal) (dk : Fin 8 → EReal)

/-- The part of a chunk's result that comes from the chunk itself. -/
def inside (l : Fin 128) (q : Fin 512) : EReal :=
  ∑ s : Fin 128, if s.1 ≤ l.1 then
    ((∑ n : Fin 128, C l n * B s n) * Ideal.exp (S l (hd q) - S s (hd q)))
      * (X s q * D s (hd q)) else 0

/-- The part of a chunk's result that comes from the state entering it. -/
def outside (l : Fin 128) (q : Fin 512) : EReal :=
  (∑ n : Fin 128, C l n * H n q) * Ideal.exp (S l (hd q))

/-- A chunk's result. -/
def blkY (l : Fin 128) (q : Fin 512) : EReal :=
  inside X B C D S l q + outside C S H l q + dk (hd q) * X l q

/-- What a chunk adds to the state. -/
def gain (n : Fin 128) (q : Fin 512) : EReal :=
  ∑ l : Fin 128, B l n * ((X l q * D l (hd q)) * Ideal.exp (S 127 (hd q) - S l (hd q)))

/-- The state leaving a chunk. -/
def blkH (n : Fin 128) (q : Fin 512) : EReal :=
  H n q * Ideal.exp (S 127 (hd q)) + gain X B D S n q

end Block

/-- A gated row scaled by the root of its mean square and by the weights. -/
def normRow (u : Fin 512 → EReal) (nw : EReal) (q : Fin 512) : EReal :=
  u q * Ideal.rsqrt (Ideal.div (∑ x : Fin 512, u x * u x) (Ideal.ofBits .f32 1140850688#32)
    + Ideal.ofBits .f32 925353388#32) * nw

section Whole

variable (x0 : Fin 8192 → Fin 4096 → EReal) (x1 : Fin 8192 → Fin 6144 → EReal)
  (x2 : Fin 8192 → Fin 64 → EReal) (w : Fin 6144 → Fin 4 → EReal) (cb : Fin 6144 → EReal)
  (db al ds : Fin 64 → EReal) (nw : Fin 4096 → EReal)

/-- Chunk `c` of the channels of group `g`. -/
def cX (b : Fin 2) (g : Fin 8) (c : Fin 32) (l : Fin 128) (q : Fin 512) : EReal :=
  chan x1 w cb b (rowOf c l) (colX g q)

/-- Chunk `c` of the input maps of group `g`. -/
def cB (b : Fin 2) (g : Fin 8) (c : Fin 32) (l n : Fin 128) : EReal :=
  chan x1 w cb b (rowOf c l) (colB g n)

/-- Chunk `c` of the output maps of group `g`. -/
def cC (b : Fin 2) (g : Fin 8) (c : Fin 32) (l n : Fin 128) : EReal :=
  chan x1 w cb b (rowOf c l) (colC g n)

/-- Chunk `c` of the step sizes of group `g`. -/
def cD (b : Fin 2) (g : Fin 8) (c : Fin 32) (l : Fin 128) (r : Fin 8) : EReal :=
  step x2 db b (rowOf c l) (headCol g r)

/-- Chunk `c` of the accumulated decay exponents of group `g`. -/
def cS (b : Fin 2) (g : Fin 8) (c : Fin 32) (l : Fin 128) (r : Fin 8) : EReal :=
  cum (fun k => cD x2 db b g c k r) (al (headCol g r)) l

/-- The state entering chunk `c`: zero at the first, then one `blkH` after the other. -/
def state (b : Fin 2) (g : Fin 8) : ℕ → Fin 128 → Fin 512 → EReal
  | 0 => fun _ _ => 0
  | c + 1 => if h : c < 32 then
      blkH (cX x1 w cb b g ⟨c, h⟩) (cB x1 w cb b g ⟨c, h⟩) (cD x2 db b g ⟨c, h⟩)
        (cS x2 db al b g ⟨c, h⟩) (state b g c)
    else fun _ _ => 0

/-- The mixer's result before gating. -/
def cY (b : Fin 2) (g : Fin 8) (c : Fin 32) (l : Fin 128) (q : Fin 512) : EReal :=
  blkY (cX x1 w cb b g c) (cB x1 w cb b g c) (cC x1 w cb b g c) (cD x2 db b g c)
    (cS x2 db al b g c) (state x1 x2 w cb db al b g c) (fun r => ds (headCol g r)) l q

/-- The mixer's result. -/
def out (b : Fin 2) (g : Fin 8) (c : Fin 32) (l : Fin 128) (q : Fin 512) : EReal :=
  normRow (fun k => cY x1 x2 w cb db al ds b g c l k * silu (x0 (flat b (rowOf c l)) (grpCol g k)))
    (nw (grpCol g q)) q

end Whole

end Mixer

end
-- ==== Proof.Finite.lean ====
module

public import proofs.«01_k».proof.Proof.Spec
public import Idealize.ShloMosaic.Lib.Pointwise
public import Idealize.ShloMosaic.Lib.WordCmp

/-!
# Finite numbers, and sums with an exact three-way split

The kernel multiplies by a zero-one matrix after writing each number as a leading part and two
remainders.  In exact arithmetic the leading part is the number and the remainders are `e - e`,
which is zero for a finite `e`.  This file keeps the finite numbers, and the sums that follow.
-/

@[expose] public section

namespace Mixer

open Idealize.ShloMosaic

/-- `v` is a real number: neither infinity. -/
def Finite (v : EReal) : Prop := ∃ r : ℝ, v = (r : EReal)

/-- A finite number less itself is zero. -/
theorem Finite.sub_self {v : EReal} (h : Finite v) : v - v = 0 := by
  obtain ⟨r, rfl⟩ := h
  exact EReal.sub_self (EReal.coe_ne_top r) (EReal.coe_ne_bot r)

/-- Zero is finite. -/
theorem Finite.zero : Finite 0 := ⟨0, rfl⟩

/-- A sum of two finite numbers is finite. -/
theorem Finite.add {v w : EReal} (h : Finite v) (k : Finite w) : Finite (v + w) := by
  obtain ⟨r, rfl⟩ := h
  obtain ⟨s, rfl⟩ := k
  exact ⟨r + s, (EReal.coe_add r s).symm⟩

/-- A product of two finite numbers is finite. -/
theorem Finite.mul {v w : EReal} (h : Finite v) (k : Finite w) : Finite (v * w) := by
  obtain ⟨r, rfl⟩ := h
  obtain ⟨s, rfl⟩ := k
  exact ⟨r * s, (EReal.coe_mul r s).symm⟩

/-- The opposite of a finite number is finite. -/
theorem Finite.neg {v : EReal} (h : Finite v) : Finite (-v) := by
  obtain ⟨r, rfl⟩ := h
  exact ⟨-r, (EReal.coe_neg r).symm⟩

/-- The exponential of a finite number is finite. -/
theorem Finite.exp {v : EReal} (h : Finite v) : Finite (Ideal.exp v) := by
  obtain ⟨r, rfl⟩ := h
  exact ⟨Real.exp r, rfl⟩

/-- A finite sum of finite numbers is finite. -/
theorem Finite.sum {n : ℕ} {f : Fin n → EReal} (h : ∀ k, Finite (f k)) : Finite (∑ k, f k) := by
  choose r hr using h
  refine ⟨∑ k, r k, ?_⟩
  rw [Finset.sum_congr rfl fun k _ => hr k]
  exact (map_sum (⟨⟨fun x : ℝ => (x : EReal), rfl⟩, EReal.coe_add⟩ : ℝ →+ EReal) r Finset.univ).symm

/-- The larger of two finite numbers is finite. -/
theorem Finite.sup {v w : EReal} (h : Finite v) (k : Finite w) : Finite (Max.max v w) := by
  rcases max_choice v w with e | e <;> rw [e] <;> assumption

/-- `softplus` of a finite number is finite. -/
theorem Finite.softplus {v : EReal} (h : Finite v) : Finite (softplus v) := by
  have ha : Finite (FloatOps.absf (F := Ideal) (φ := .f32) v) := by
    show Finite (Max.max v (-v))
    obtain ⟨r, rfl⟩ := h
    exact Finite.sup ⟨r, rfl⟩ (Finite.neg ⟨r, rfl⟩)
  refine Finite.add (Finite.sup h Finite.zero) ?_
  obtain ⟨r, hr⟩ := ha.neg
  rw [hr]
  show Finite (Ideal.log (1 + ((Real.exp r : ℝ) : EReal)))
  have hp : ¬ (1 + Real.exp r ≤ 0) := by have := Real.exp_pos r; linarith
  refine ⟨Real.log (1 + Real.exp r), ?_⟩
  rw [show (1 + ((Real.exp r : ℝ) : EReal)) = ((1 + Real.exp r : ℝ) : EReal) from (EReal.coe_add 1 _).symm]
  show (if 1 + Real.exp r ≤ 0 then (⊥ : EReal) else (Real.log (1 + Real.exp r) : EReal)) = _
  rw [if_neg hp]

/-- The running sum of finite terms is finite. -/
theorem Finite.cum {D : Fin 128 → EReal} {a : EReal} (h : ∀ k, Finite (D k)) (ha : Finite a) (l : Fin 128) :
    Finite (cum D a l) := by
  refine Finite.sum fun k => ?_
  split
  · exact (h k).mul ha.exp.neg
  · exact Finite.zero

/-- A zero-one number made from a test. -/
theorem flag (p : Prop) [Decidable p] :
    FloatOps.sitofp (F := Ideal) .f32 (BitVec.setWidth 32 (BitVec.ofBool (decide p))) = if p then (1 : EReal) else 0 := by
  by_cases h : p
  · rw [if_pos h, decide_eq_true h]
    show (((BitVec.toInt (BitVec.setWidth 32 (BitVec.ofBool true)) : ℤ) : ℝ) : EReal) = 1
    rw [show BitVec.toInt (BitVec.setWidth 32 (BitVec.ofBool true)) = 1 by decide]
    simp
  · rw [if_neg h, decide_eq_false h]
    show (((BitVec.toInt (BitVec.setWidth 32 (BitVec.ofBool false)) : ℤ) : ℝ) : EReal) = 0
    rw [show BitVec.toInt (BitVec.setWidth 32 (BitVec.ofBool false)) = 0 by decide]
    simp

/-- A product with a three-way split on the right is the plain product. -/
theorem split_right {n : ℕ} (M e : Fin n → EReal) (h : ∀ k, Finite (e k)) :
    ∑ x, M x * e x + ∑ x, M x * (e x - e x) + ∑ x, M x * (e x - e x - (e x - e x)) = ∑ x, M x * e x := by
  have h0 : ∀ x, e x - e x = 0 := fun x => (h x).sub_self
  simp only [h0, sub_zero, mul_zero, Finset.sum_const_zero, add_zero]

/-- A product with a three-way split on the left is the plain product. -/
theorem split_left {n : ℕ} (M e : Fin n → EReal) (h : ∀ k, Finite (e k)) :
    ∑ x, e x * M x + ∑ x, (e x - e x) * M x + ∑ x, (e x - e x - (e x - e x)) * M x = ∑ x, e x * M x := by
  have h0 : ∀ x, e x - e x = 0 := fun x => (h x).sub_self
  simp only [h0, sub_zero, zero_mul, Finset.sum_const_zero, add_zero]

end Mixer

end
-- ==== Proof.KernelSteps.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.WordCmp
public import proofs.«01_k».proof.Proof.Finite

@[expose] public section

set_option maxRecDepth 16384

noncomputable section

namespace Cert.KernelIdeal.Mixer

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The lane index divided by the head width, as the kernel's word arithmetic computes it. -/
theorem word_head : ∀ q : Fin 512,
    Scalar.select
            (IntOp.andi
              (IntOp.cmpi CmpIPredicate.ne
                (IntOp.subi (BitVec.setWidth 32 (IntOp.cmpi CmpIPredicate.sgt (BitVec.ofNat 32 q.1) 0#32))
                  (BitVec.setWidth 32 (IntOp.cmpi CmpIPredicate.slt (BitVec.ofNat 32 q.1) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 q.1) 64#32) 0#32))
            (IntOp.subi (IntOp.divsi ArithUnit.vector (BitVec.ofNat 32 q.1) 64#32) 1#32)
            (IntOp.divsi ArithUnit.vector (BitVec.ofNat 32 q.1) 64#32) = BitVec.ofNat 32 (q.1 / 64) := by
  decide +kernel

/-- The zero-one matrix that spreads a head's number over its 64 channels. -/
theorem spread (r : Fin 8) (q : Fin 512) :
    k0_pay30 (F := Ideal) (iota .tc S8x512 32 [0] iota_S8x512_d0_w32)
      (iota .tc S8x512 32 [1] iota_S8x512_d1_w32) 64#32 k0_pay28 k0_pay29 (ix2 r q) =
      if Mixer.hd q = r then 1 else 0 := by
  pointwise [k0_pay30, k0_pay28, k0_pay29]
  rw [word_head q, WordCmp.cmpi_eq_ofNat (by omega) (by omega), Mixer.flag]
  exact if_congr (by rw [Fin.ext_iff]; exact Iff.rfl) rfl rfl

/-- A sum against the spreading matrix picks the head's number. -/
theorem sum_spread (e : Fin 8 → EReal) (q : Fin 512) :
    ∑ x, e x * k0_pay30 (F := Ideal) (iota .tc S8x512 32 [0] iota_S8x512_d0_w32)
      (iota .tc S8x512 32 [1] iota_S8x512_d1_w32) 64#32 k0_pay28 k0_pay29 (ix2 x q) = e (Mixer.hd q) := by
  rw [Finset.sum_congr rfl fun x _ => by rw [spread x q]]
  simp

/-- The steps spread over the channels. -/
theorem spread_step (v93 : FVec Ideal S128x8 .f32) (h : ∀ l r, Mixer.Finite (v93 (ix2 l r))) (l : Fin 128) (q : Fin 512) :
    k0_pay31 v93 (iota .tc S8x512 32 [0] iota_S8x512_d0_w32) (iota .tc S8x512 32 [1] iota_S8x512_d1_w32)
      64#32 k0_pay28 k0_pay29 (ix2 l q) = v93 (ix2 l (Mixer.hd q)) := by
  pointwise [k0_pay31]
  rw [Mixer.split_left (fun x => k0_pay30 (F := Ideal) (iota .tc S8x512 32 [0] iota_S8x512_d0_w32)
      (iota .tc S8x512 32 [1] iota_S8x512_d1_w32) 64#32 k0_pay28 k0_pay29 (ix2 x q)) (fun x => v93 (ix2 l x)) (fun x => h l x)]
  exact sum_spread (fun x => v93 (ix2 l x)) q

/-- The running sums spread over the channels. -/
theorem spread_sum (v93 : FVec Ideal S128x8 .f32) (h : ∀ l r, Mixer.Finite (v93 (ix2 l r))) (l : Fin 128) (q : Fin 512) :
    k0_pay38 (k0_pay30 (F := Ideal) (iota .tc S8x512 32 [0] iota_S8x512_d0_w32)
        (iota .tc S8x512 32 [1] iota_S8x512_d1_w32) 64#32 k0_pay28 k0_pay29) (k0_pay35 v93)
      (k0_pay36 v93 (iota .tc S8x512 32 [0] iota_S8x512_d0_w32) (iota .tc S8x512 32 [1] iota_S8x512_d1_w32)
        64#32 k0_pay28 k0_pay29)
      (k0_pay37 v93 (iota .tc S8x512 32 [0] iota_S8x512_d0_w32) (iota .tc S8x512 32 [1] iota_S8x512_d1_w32)
        64#32 k0_pay28 k0_pay29) (ix2 l q) = v93 (ix2 l (Mixer.hd q)) := by
  pointwise [k0_pay38, k0_pay35, k0_pay36, k0_pay37, k0_pay34, k0_pay33, k0_pay32]
  rw [Mixer.split_left (fun x => k0_pay30 (F := Ideal) (iota .tc S8x512 32 [0] iota_S8x512_d0_w32)
      (iota .tc S8x512 32 [1] iota_S8x512_d1_w32) 64#32 k0_pay28 k0_pay29 (ix2 x q)) (fun x => v93 (ix2 l x)) (fun x => h l x)]
  exact sum_spread (fun x => v93 (ix2 l x)) q

/-- The steps with rows down and heads across: the raw steps transposed by a product with the
identity matrix, then `softplus` of the biased step. -/
theorem steps_col (v67 : Vec Ideal S8x128 .f32) (v82 : Vec Ideal S1x1x8 .f32)
    (h : ∀ r l, Mixer.Finite (v67 (ix2 r l))) (l : Fin 128) (r : Fin 8) :
    k0_pay22 k0_pay18 (k0_pay19 (F := Ideal) v67) (k0_pay20 (F := Ideal) v67) (k0_pay21 (F := Ideal) v67) v82 (ix2 l r) =
      Mixer.softplus (v67 (ix2 r l) + v82 (ix3 0 0 r)) := by
  have key : ∀ e : Fin 128 → EReal, (∀ x, Mixer.Finite (e x)) →
      ∑ x : Fin 128, FloatOps.sitofp (F := Ideal) FTy.f32
            (BitVec.setWidth 32 (IntOp.cmpi CmpIPredicate.eq (BitVec.ofNat 32 l.1) (BitVec.ofNat 32 x.1))) * e x +
        ∑ x : Fin 128, FloatOps.sitofp (F := Ideal) FTy.f32
            (BitVec.setWidth 32 (IntOp.cmpi CmpIPredicate.eq (BitVec.ofNat 32 l.1) (BitVec.ofNat 32 x.1))) * (e x - e x) +
        ∑ x : Fin 128, FloatOps.sitofp (F := Ideal) FTy.f32
            (BitVec.setWidth 32 (IntOp.cmpi CmpIPredicate.eq (BitVec.ofNat 32 l.1) (BitVec.ofNat 32 x.1))) * (e x - e x - (e x - e x))
        = e l := by
    intro e he
    rw [Mixer.split_right _ e he]
    rw [Finset.sum_congr rfl fun x _ => by
      rw [WordCmp.cmpi_eq_ofNat (by omega) (by omega), Mixer.flag, ite_mul, one_mul, zero_mul,
        if_congr (show l.1 = x.1 ↔ l = x from Fin.ext_iff.symm) rfl rfl]]
    simp
  pointwise [k0_pay22, k0_pay18, k0_pay19, k0_pay20, k0_pay21, k0_pay17]
  rw [key (fun x => v67 (ix2 r x)) (fun x => h r x), zero_sub]
  rfl

/-- The steps with heads down and rows across. -/
theorem steps_row (v67 : Vec Ideal S8x128 .f32) (v82 : Vec Ideal S8x1 .f32) (l : Fin 128) (r : Fin 8) :
    k0_pay23 (k0_pay17 (F := Ideal) v67) v82 (ix2 r l) = Mixer.softplus (v67 (ix2 r l) + v82 (ix2 r 0)) := by
  pointwise [k0_pay23, k0_pay17]
  rw [zero_sub]
  rfl

/-- The running sums with rows down and heads across. -/
theorem sums_col (v93 : FVec Ideal S128x8 .f32) (v : Vec Ideal S1x1x8 .f32)
    (h : ∀ l r, Mixer.Finite (v93 (ix2 l r))) (ha : ∀ r, Mixer.Finite (v (ix3 0 0 r))) (l : Fin 128) (r : Fin 8) :
    k0_pay26 k0_pay16 v93 (k0_pay24 (F := Ideal) v) (ix2 l r) =
      Mixer.cum (fun k => v93 (ix2 k r)) (v (ix3 0 0 r)) l := by
  pointwise [k0_pay26, k0_pay24, k0_pay16]
  rw [Mixer.split_right (fun x : Fin 128 => FloatOps.sitofp (F := Ideal) FTy.f32
        (BitVec.setWidth 32 (IntOp.cmpi CmpIPredicate.sge (BitVec.ofNat 32 l.1) (BitVec.ofNat 32 x.1))))
      (fun x => v93 (ix2 x r) * (0 - Ideal.exp (v (ix3 0 0 r))))
      (fun x => (h x r).mul (by rw [zero_sub]; exact (ha r).exp.neg))]
  refine Finset.sum_congr rfl fun x _ => ?_
  rw [WordCmp.cmpi_sge_ofNat (by omega) (by omega), Mixer.flag, ite_mul, one_mul, zero_mul, zero_sub]

/-- The running sums with heads down and rows across. -/
theorem sums_row (v93 : FVec Ideal S8x128 .f32) (v : Vec Ideal S8x1 .f32)
    (h : ∀ r l, Mixer.Finite (v93 (ix2 r l))) (ha : ∀ r, Mixer.Finite (v (ix2 r 0))) (l : Fin 128) (r : Fin 8) :
    k0_pay27 (iota .tc S128x128 32 [0] iota_S128x128_d0_w32) (iota .tc S128x128 32 [1] iota_S128x128_d1_w32)
      v93 (k0_pay25 (F := Ideal) v) (ix2 r l) = Mixer.cum (fun k => v93 (ix2 r k)) (v (ix2 r 0)) l := by
  pointwise [k0_pay27, k0_pay25]
  rw [Mixer.split_left (fun x : Fin 128 => FloatOps.sitofp (F := Ideal) FTy.f32
        (BitVec.setWidth 32 (IntOp.cmpi CmpIPredicate.sle (BitVec.ofNat 32 x.1) (BitVec.ofNat 32 l.1))))
      (fun x => v93 (ix2 r x) * (0 - Ideal.exp (v (ix2 r 0))))
      (fun x => (h r x).mul (by rw [zero_sub]; exact (ha r).exp.neg))]
  refine Finset.sum_congr rfl fun x _ => ?_
  rw [WordCmp.cmpi_sle_ofNat (by omega) (by omega), Mixer.flag, mul_ite, mul_one, mul_zero, zero_sub]

end Cert.KernelIdeal.Mixer

end
-- ==== Proof.KernelBlock.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.WordCmp
public import proofs.«01_k».proof.Proof.KernelSteps

@[expose] public section

set_option maxRecDepth 16384

noncomputable section

namespace Cert.KernelIdeal.Mixer

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The test "row `x` is not after row `l`", as the kernel's mask holds it, chooses as `if` does. -/
theorem mask_select (l x : Fin 128) (a b : EReal) :
    Scalar.select (IntOp.cmpi CmpIPredicate.sge (BitVec.ofNat 32 l.1) (BitVec.ofNat 32 x.1)) a b = if x ≤ l then a else b := by
  rw [WordCmp.cmpi_sge_ofNat (by omega) (by omega)]
  by_cases h : x ≤ l
  · have h' : x.1 ≤ l.1 := h
    simp only [h, h', decide_true, if_true]; rfl
  · have h' : ¬ x.1 ≤ l.1 := h
    simp only [h, h', decide_false, if_false]; rfl

/-- The test "the first half of a pair of heads" chooses as `if` does. -/
theorem half_select (p : ℕ) (hp : p < 128) (a b : EReal) :
    Scalar.select (IntOp.cmpi CmpIPredicate.slt (BitVec.ofNat 32 p) 64#32) a b = if p < 64 then a else b := by
  rw [WordCmp.cmpi_slt_ofNat (by omega) (by omega)]
  by_cases h : p < 64
  · simp only [h, decide_true, if_true]; rfl
  · simp only [h, decide_false, if_false]; rfl

section Block

variable (X : FVec Ideal S128x512 .f32) (B C : FVec Ideal S128x128 .f32) (SC : FVec Ideal S128x8 .f32)
  (SR : FVec Ideal S8x128 .f32) (DX : FVec Ideal S128x512 .f32) (D S : Fin 128 → Fin 8 → EReal)

/-- One head's masked product: the rows of the chunk up to `l`, each with its decay. -/
theorem head_sum (hDX : ∀ l q, DX (ix2 l q) = D l (Mixer.hd q)) (hSC : ∀ l r, SC (ix2 l r) = S l r)
    (hSR : ∀ l r, SR (ix2 r l) = S l r) (l : Fin 128) (q : Fin 512) (r : Fin 8) (v : Fin 512)
    (hr : Mixer.hd q = r) (hv : v = q) :
    ∑ x : Fin 128, Scalar.select (IntOp.cmpi CmpIPredicate.sge (BitVec.ofNat 32 l.1) (BitVec.ofNat 32 x.1))
        ((∑ n : Fin 128, C (ix2 l n) * B (ix2 x n)) *
          Ideal.exp (Scalar.select (IntOp.cmpi CmpIPredicate.sge (BitVec.ofNat 32 l.1) (BitVec.ofNat 32 x.1))
            (SC (ix2 l r) - SR (ix2 r x)) 0) * (X (ix2 x v) * DX (ix2 x v))) 0 =
      Mixer.inside (fun l q => X (ix2 l q)) (fun l n => B (ix2 l n)) (fun l n => C (ix2 l n)) D S l q := by
  subst hr hv
  refine Finset.sum_congr rfl fun x _ => ?_
  rw [mask_select, mask_select, hSC, hSR, hDX]
  by_cases h : x ≤ l
  · simp only [if_pos h]
    exact (if_pos (show x.1 ≤ l.1 from h)).symm
  · simp only [if_neg h]
    exact (if_neg (show ¬ x.1 ≤ l.1 from h)).symm

set_option maxHeartbeats 1600000 in
/-- The chunk's rows before the gate: all eight heads, what the carried state adds, and the direct
part. -/
theorem block_rows (hDX : ∀ l q, DX (ix2 l q) = D l (Mixer.hd q)) (hSC : ∀ l r, SC (ix2 l r) = S l r)
    (hSR : ∀ l r, SR (ix2 r l) = S l r) (V : FVec Ideal S128x512 .f32) (dk : Vec Ideal S1x512 .f32)
    (l : Fin 128) (q : Fin 512) :
    k0_pay53 X k0_pay16 SC SR (k0_pay40 X DX) (k0_pay43 B C) V
      (iota .tc S128x128 32 [1] iota_S128x128_d1_w32)
      (k0_pay45 X B C k0_pay16 SC SR DX)
      (k0_pay49 k0_pay16 SC SR (k0_pay43 B C) (iota .tc S128x128 32 [1] iota_S128x128_d1_w32)
        (k0_pay46 X DX) (k0_pay47 SR) (k0_pay48 SC))
      (k0_pay50 (k0_pay40 X DX)) (k0_pay51 k0_pay16 SC SR (k0_pay40 X DX) (k0_pay43 B C))
      (k0_pay52 k0_pay16 SC SR) (Scalar.ofBits .f32 0x00000000#32) dk (ix2 l q) =
    Mixer.inside (fun l q => X (ix2 l q)) (fun l n => B (ix2 l n)) (fun l n => C (ix2 l n)) D S l q +
      V (ix2 l q) + dk (ix2 0 q) * X (ix2 l q) := by
  have H := head_sum X B C SC SR DX D S hDX hSC hSR l q
  pointwise [k0_pay53, k0_pay45, k0_pay49, k0_pay51, k0_pay52, k0_pay50, k0_pay48, k0_pay47, k0_pay46, k0_pay43, k0_pay40, k0_pay16]
  refine Ideal.add_congr (Ideal.add_congr ?_ rfl) rfl
  by_cases h1 : q.1 < 128
  · rw [dif_pos h1, half_select _ (by omega)]
    by_cases h : q.1 < 64
    · rw [if_pos h]; exact H 0 _ (Fin.ext (by show q.1 / 64 = 0; omega)) (Fin.ext (by show _ = q.1; simp))
    · rw [if_neg h]; exact H 1 _ (Fin.ext (by show q.1 / 64 = 1; omega)) (Fin.ext (by show _ = q.1; simp))
  · rw [dif_neg h1]
    by_cases h2 : q.1 - 128 < 128
    · rw [dif_pos h2, half_select _ (by omega)]
      by_cases h : q.1 - 128 < 64
      · rw [if_pos h]; exact H 2 _ (Fin.ext (by show q.1 / 64 = 2; omega)) (Fin.ext (by show _ = q.1; simp only []; omega))
      · rw [if_neg h]; exact H 3 _ (Fin.ext (by show q.1 / 64 = 3; omega)) (Fin.ext (by show _ = q.1; simp only []; omega))
    · rw [dif_neg h2]
      by_cases h3 : q.1 - 128 - 128 < 128
      · rw [dif_pos h3, half_select _ (by omega)]
        by_cases h : q.1 - 128 - 128 < 64
        · rw [if_pos h]; exact H 4 _ (Fin.ext (by show q.1 / 64 = 4; omega)) (Fin.ext (by show _ = q.1; simp only []; omega))
        · rw [if_neg h]; exact H 5 _ (Fin.ext (by show q.1 / 64 = 5; omega)) (Fin.ext (by show _ = q.1; simp only []; omega))
      · rw [dif_neg h3, half_select _ (by omega)]
        by_cases h : q.1 - 128 - 128 - 128 < 64
        · rw [if_pos h]; exact H 6 _ (Fin.ext (by show q.1 / 64 = 6; omega)) (Fin.ext (by show _ = q.1; simp only []; omega))
        · rw [if_neg h]; exact H 7 _ (Fin.ext (by show q.1 / 64 = 7; omega)) (Fin.ext (by show _ = q.1; simp only []; omega))

/-- What the carried state adds to the chunk's rows. -/
theorem block_outside (H : Vec Ideal S128x512 .f32) (hf : ∀ l r, Mixer.Finite (SC (ix2 l r)))
    (hSC : ∀ l r, SC (ix2 l r) = S l r) (l : Fin 128) (q : Fin 512) :
    k0_pay44 C (k0_pay30 (F := Ideal) (iota .tc S8x512 32 [0] iota_S8x512_d0_w32)
        (iota .tc S8x512 32 [1] iota_S8x512_d1_w32) 64#32 k0_pay28 k0_pay29) (k0_pay35 SC)
      (k0_pay36 SC (iota .tc S8x512 32 [0] iota_S8x512_d0_w32) (iota .tc S8x512 32 [1] iota_S8x512_d1_w32)
        64#32 k0_pay28 k0_pay29)
      (k0_pay37 SC (iota .tc S8x512 32 [0] iota_S8x512_d0_w32) (iota .tc S8x512 32 [1] iota_S8x512_d1_w32)
        64#32 k0_pay28 k0_pay29) H (ix2 l q) =
      Mixer.outside (fun l n => C (ix2 l n)) S (fun n q => H (ix2 n q)) l q := by
  pointwise [k0_pay44, k0_pay42]
  rw [spread_sum SC hf l q, hSC]
  rfl

/-- The carried state after the chunk. -/
theorem block_state (SX : FVec Ideal S128x512 .f32) (H : Vec Ideal S128x512 .f32)
    (hDX : ∀ l q, DX (ix2 l q) = D l (Mixer.hd q)) (hSX : ∀ l q, SX (ix2 l q) = S l (Mixer.hd q))
    (n : Fin 128) (q : Fin 512) :
    k0_pay1 (k0_pay39 X DX) (k0_pay41 B) H (k0_pay54 SX) (k0_pay55 SX) (ix2 n q) =
      Mixer.blkH (fun l q => X (ix2 l q)) (fun l n => B (ix2 l n)) D S (fun n q => H (ix2 n q)) n q := by
  pointwise [k0_pay1, k0_pay39, k0_pay41, k0_pay54, k0_pay55]
  rw [hSX]
  refine Ideal.add_congr rfl (Finset.sum_congr rfl fun l _ => ?_)
  rw [hDX, hSX]

end Block

/-- The gate and the normalisation of a row. -/
theorem block_norm (Y : FVec Ideal S128x512 .f32) (z : Vec Ideal S128x512 .f32) (nw : Vec Ideal S1x512 .f32)
    (l : Fin 128) (q : Fin 512) :
    k0_pay2 Y z nw (ix2 l q) =
      Mixer.normRow (fun k => Y (ix2 l k) * Mixer.silu (z (ix2 l k))) (nw (ix2 0 q)) q := by
  pointwise [k0_pay2]
  rfl

end Cert.KernelIdeal.Mixer

end
-- ==== Proof.KernelChan.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.WordCmp
public import proofs.«01_k».proof.Proof.Finite

@[expose] public section

set_option maxRecDepth 16384

noncomputable section

namespace Cert.KernelIdeal.Mixer

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

variable (a : Vec Ideal S4x512 .f32) (b c : Vec Ideal S4x128 .f32) (d : Vec Ideal S1x512 .f32)
  (e f : Vec Ideal S1x128 .f32) (v30 v36 v41 v46 : Vec Ideal S128x768 .f32)

/-- The convolved inner channels. -/
theorem chan_inner (l : Fin 128) (q : Fin 512) :
    k0_pay13 (F := Ideal) (k0_pay8 (F := Ideal) a b c) (k0_pay9 (F := Ideal) d) (k0_pay10 (F := Ideal) e) f
      v30 v36 v41 v46 (ix2 l q) =
      Mixer.tap4 (v30 (ix2 l (⟨q.1, by omega⟩ : Fin 768))) (v36 (ix2 l (⟨q.1, by omega⟩ : Fin 768)))
        (v41 (ix2 l (⟨q.1, by omega⟩ : Fin 768))) (v46 (ix2 l (⟨q.1, by omega⟩ : Fin 768)))
        (a (ix2 0 q)) (a (ix2 1 q)) (a (ix2 2 q)) (a (ix2 3 q)) (d (ix2 0 q)) := by
  unfold Mixer.tap4 Mixer.silu
  rw [mul_comm (v30 _), mul_comm (v36 _), mul_comm (v41 _), mul_comm (v46 _)]
  pointwise [k0_pay13, k0_pay8, k0_pay9, k0_pay10, k0_pay12]

/-- The convolved entries of the input map. -/
theorem chan_in (l : Fin 128) (q : Fin 128) :
    k0_pay14 (F := Ideal) (k0_pay8 (F := Ideal) a b c) (k0_pay9 (F := Ideal) d) (k0_pay10 (F := Ideal) e) f
      v30 v36 v41 v46 (ix2 l q) =
      Mixer.tap4 (v30 (ix2 l (⟨512 + q.1, by omega⟩ : Fin 768))) (v36 (ix2 l (⟨512 + q.1, by omega⟩ : Fin 768)))
        (v41 (ix2 l (⟨512 + q.1, by omega⟩ : Fin 768))) (v46 (ix2 l (⟨512 + q.1, by omega⟩ : Fin 768)))
        (b (ix2 0 q)) (b (ix2 1 q)) (b (ix2 2 q)) (b (ix2 3 q)) (e (ix2 0 q)) := by
  unfold Mixer.tap4 Mixer.silu
  rw [mul_comm (v30 _), mul_comm (v36 _), mul_comm (v41 _), mul_comm (v46 _)]
  have h1 : ¬ (512 + q.1 < 512) := by omega
  have h2 : 512 + q.1 - 512 < 128 := by omega
  have h3 : (⟨512 + q.1 - 512, h2⟩ : Fin 128) = q := Fin.ext (by show 512 + q.1 - 512 = q.1; omega)
  pointwise [k0_pay14, k0_pay8, k0_pay9, k0_pay10, k0_pay12]

/-- The convolved entries of the output map. -/
theorem chan_out (l : Fin 128) (q : Fin 128) :
    k0_pay15 (F := Ideal) (k0_pay8 (F := Ideal) a b c) (k0_pay9 (F := Ideal) d) (k0_pay10 (F := Ideal) e) f
      v30 v36 v41 v46 (ix2 l q) =
      Mixer.tap4 (v30 (ix2 l (⟨640 + q.1, by omega⟩ : Fin 768))) (v36 (ix2 l (⟨640 + q.1, by omega⟩ : Fin 768)))
        (v41 (ix2 l (⟨640 + q.1, by omega⟩ : Fin 768))) (v46 (ix2 l (⟨640 + q.1, by omega⟩ : Fin 768)))
        (c (ix2 0 q)) (c (ix2 1 q)) (c (ix2 2 q)) (c (ix2 3 q)) (f (ix2 0 q)) := by
  unfold Mixer.tap4 Mixer.silu
  rw [mul_comm (v30 _), mul_comm (v36 _), mul_comm (v41 _), mul_comm (v46 _)]
  have h1 : ¬ (640 + q.1 < 512) := by omega
  have h2 : ¬ (640 + q.1 - 512 < 128) := by omega
  have h3 : (⟨640 + q.1 - 512 - 128, by omega⟩ : Fin 128) = q := Fin.ext (by show 640 + q.1 - 512 - 128 = q.1; omega)
  pointwise [k0_pay15, k0_pay8, k0_pay9, k0_pay10, k0_pay12]
  simp only [dif_neg h1, dif_neg h2, h3]

end Cert.KernelIdeal.Mixer

end
-- ==== Proof.KernelEntry.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.WordCmp
public import proofs.«01_k».proof.Proof.Finite

@[expose] public section

set_option maxRecDepth 16384

noncomputable section

namespace Cert.KernelIdeal.Mixer

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where the row windows stand at each grid point. -/
theorem idx_rows : ∀ t : Fin cfg0.N,
    (win0_0.index t 0 : ℕ) = t.val / 256 * 32 + t.val % 32 ∧ (win0_0.index t 1 : ℕ) = t.val / 32 % 8 ∧
    (win0_1.index t 0 : ℕ) = t.val / 256 * 32 + t.val % 32 ∧ (win0_1.index t 1 : ℕ) = t.val / 32 % 8 ∧
    (win0_2.index t 0 : ℕ) = t.val / 256 * 32 + t.val % 32 ∧ (win0_2.index t 1 : ℕ) = 32 + t.val / 32 % 8 ∧
    (win0_3.index t 0 : ℕ) = t.val / 256 * 32 + t.val % 32 ∧ (win0_3.index t 1 : ℕ) = 40 + t.val / 32 % 8 ∧
    (win0_17.index t 0 : ℕ) = t.val / 256 * 32 + t.val % 32 ∧ (win0_17.index t 1 : ℕ) = t.val / 32 % 8 :=
  (by decide +kernel : ∀ t : Fin grid0.N, _)

/-- Where the convolution windows stand at each grid point. -/
theorem idx_chan : ∀ t : Fin cfg0.N,
    (win0_4.index t 0 : ℕ) = 0 ∧ (win0_4.index t 1 : ℕ) = t.val / 32 % 8 ∧
    (win0_5.index t 0 : ℕ) = 0 ∧ (win0_5.index t 1 : ℕ) = 32 + t.val / 32 % 8 ∧
    (win0_6.index t 0 : ℕ) = 0 ∧ (win0_6.index t 1 : ℕ) = 40 + t.val / 32 % 8 ∧
    (win0_7.index t 0 : ℕ) = 0 ∧ (win0_7.index t 1 : ℕ) = t.val / 32 % 8 ∧
    (win0_8.index t 0 : ℕ) = 0 ∧ (win0_8.index t 1 : ℕ) = 32 + t.val / 32 % 8 ∧
    (win0_9.index t 0 : ℕ) = 0 ∧ (win0_9.index t 1 : ℕ) = 40 + t.val / 32 % 8 :=
  (by decide +kernel : ∀ t : Fin grid0.N, _)

/-- Where the windows of the steps, decays and scales stand at each grid point. -/
theorem idx_step : ∀ t : Fin cfg0.N,
    (win0_10.index t 0 : ℕ) = t.val / 32 % 8 ∧ (win0_10.index t 1 : ℕ) = t.val / 256 * 32 + t.val % 32 ∧
    (win0_11.index t 0 : ℕ) = t.val / 32 % 8 ∧ (win0_11.index t 1 : ℕ) = 0 ∧ (win0_11.index t 2 : ℕ) = 0 ∧
    (win0_12.index t 0 : ℕ) = t.val / 32 % 8 ∧ (win0_12.index t 1 : ℕ) = 0 ∧
    (win0_13.index t 0 : ℕ) = t.val / 32 % 8 ∧ (win0_13.index t 1 : ℕ) = 0 ∧ (win0_13.index t 2 : ℕ) = 0 ∧
    (win0_14.index t 0 : ℕ) = t.val / 32 % 8 ∧ (win0_14.index t 1 : ℕ) = 0 ∧
    (win0_15.index t 0 : ℕ) = 0 ∧ (win0_15.index t 1 : ℕ) = t.val / 32 % 8 ∧
    (win0_16.index t 0 : ℕ) = 0 ∧ (win0_16.index t 1 : ℕ) = t.val / 32 % 8 :=
  (by decide +kernel : ∀ t : Fin grid0.N, _)

/-- Grid point `t` is chunk `k` of group `g` of sequence `b`. -/
abbrev At (b : Fin 2) (g : Fin 8) (k : Fin 32) (t : Fin cfg0.N) : Prop := t.val = (b.1 * 8 + g.1) * 32 + k.1

variable (c : Dev nD) (b : Fin 2) (g : Fin 8) (k : Fin 32) (t : Fin cfg0.N)

/-- The block of gate inputs. -/
theorem blk0 (ht : At b g k t) (l : Fin 128) (q : Fin 512) : iblk m c 0 t (ix2 l q) = (m (c, Proc.tc.devRef main_arg0) : FVec Ideal S8192x4096 .f32) (ix2 (Mixer.flat b (Mixer.rowOf k l)) (Mixer.grpCol g q)) := by
  have hb := b.isLt
  have hg := g.isLt
  have hk := k.isLt
  unfold At at ht
  have he : (win0_0.blk t).view.emb (ix2 l q) = ix2 (Mixer.flat b (Mixer.rowOf k l)) (Mixer.grpCol g q) := by
    blk_ext [idx_rows t, Mixer.flat, Mixer.rowOf, Mixer.grpCol, Mixer.colX, Mixer.colB, Mixer.colC, Mixer.headCol, Mixer.hd, ht]
    all_goals omega
  simp only [iblk]
  entry_read
  blk_simp
  rw [he]

/-- The block of raw inner channels. -/
theorem blk1 (ht : At b g k t) (l : Fin 128) (q : Fin 512) : iblk m c 1 t (ix2 l q) = (m (c, Proc.tc.devRef main_arg1) : FVec Ideal S8192x6144 .f32) (ix2 (Mixer.flat b (Mixer.rowOf k l)) (Mixer.colX g q)) := by
  have hb := b.isLt
  have hg := g.isLt
  have hk := k.isLt
  unfold At at ht
  have he : (win0_1.blk t).view.emb (ix2 l q) = ix2 (Mixer.flat b (Mixer.rowOf k l)) (Mixer.colX g q) := by
    blk_ext [idx_rows t, Mixer.flat, Mixer.rowOf, Mixer.grpCol, Mixer.colX, Mixer.colB, Mixer.colC, Mixer.headCol, Mixer.hd, ht]
    all_goals omega
  simp only [iblk]
  entry_read
  blk_simp
  rw [he]

/-- The block of raw entries of the input map. -/
theorem blk2 (ht : At b g k t) (l : Fin 128) (n : Fin 128) : iblk m c 2 t (ix2 l n) = (m (c, Proc.tc.devRef main_arg1) : FVec Ideal S8192x6144 .f32) (ix2 (Mixer.flat b (Mixer.rowOf k l)) (Mixer.colB g n)) := by
  have hb := b.isLt
  have hg := g.isLt
  have hk := k.isLt
  unfold At at ht
  have he : (win0_2.blk t).view.emb (ix2 l n) = ix2 (Mixer.flat b (Mixer.rowOf k l)) (Mixer.colB g n) := by
    blk_ext [idx_rows t, Mixer.flat, Mixer.rowOf, Mixer.grpCol, Mixer.colX, Mixer.colB, Mixer.colC, Mixer.headCol, Mixer.hd, ht]
    all_goals omega
  simp only [iblk]
  entry_read
  blk_simp
  rw [he]

/-- The block of raw entries of the output map. -/
theorem blk3 (ht : At b g k t) (l : Fin 128) (n : Fin 128) : iblk m c 3 t (ix2 l n) = (m (c, Proc.tc.devRef main_arg1) : FVec Ideal S8192x6144 .f32) (ix2 (Mixer.flat b (Mixer.rowOf k l)) (Mixer.colC g n)) := by
  have hb := b.isLt
  have hg := g.isLt
  have hk := k.isLt
  unfold At at ht
  have he : (win0_3.blk t).view.emb (ix2 l n) = ix2 (Mixer.flat b (Mixer.rowOf k l)) (Mixer.colC g n) := by
    blk_ext [idx_rows t, Mixer.flat, Mixer.rowOf, Mixer.grpCol, Mixer.colX, Mixer.colB, Mixer.colC, Mixer.headCol, Mixer.hd, ht]
    all_goals omega
  simp only [iblk]
  entry_read
  blk_simp
  rw [he]

/-- The block of taps of the inner channels. -/
theorem blk4 (ht : At b g k t) (j : Fin 4) (q : Fin 512) : iblk m c 4 t (ix2 j q) = (m (c, Proc.tc.devRef main_arg3) : FVec Ideal S6144x4 .f32) (ix2 (Mixer.colX g q) j) := by
  have hb := b.isLt
  have hg := g.isLt
  have hk := k.isLt
  unfold At at ht
  have he : (win0_4.blk t).view.emb (ix2 j q) = ix2 j (Mixer.colX g q) := by
    blk_ext [idx_chan t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of taps of the input map. -/
theorem blk5 (ht : At b g k t) (j : Fin 4) (n : Fin 128) : iblk m c 5 t (ix2 j n) = (m (c, Proc.tc.devRef main_arg3) : FVec Ideal S6144x4 .f32) (ix2 (Mixer.colB g n) j) := by
  have hb := b.isLt
  have hg := g.isLt
  have hk := k.isLt
  unfold At at ht
  have he : (win0_5.blk t).view.emb (ix2 j n) = ix2 j (Mixer.colB g n) := by
    blk_ext [idx_chan t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of taps of the output map. -/
theorem blk6 (ht : At b g k t) (j : Fin 4) (n : Fin 128) : iblk m c 6 t (ix2 j n) = (m (c, Proc.tc.devRef main_arg3) : FVec Ideal S6144x4 .f32) (ix2 (Mixer.colC g n) j) := by
  have hb := b.isLt
  have hg := g.isLt
  have hk := k.isLt
  unfold At at ht
  have he : (win0_6.blk t).view.emb (ix2 j n) = ix2 j (Mixer.colC g n) := by
    blk_ext [idx_chan t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of convolution bias of the inner channels. -/
theorem blk7 (ht : At b g k t) (q : Fin 512) : iblk m c 7 t (ix2 0 q) = (m (c, Proc.tc.devRef main_arg4) : FVec Ideal S6144 .f32) (ix1 (Mixer.colX g q)) := by
  have hb := b.isLt
  have hg := g.isLt
  have hk := k.isLt
  unfold At at ht
  have he : (win0_7.blk t).view.emb (ix2 0 q) = ix2 0 (Mixer.colX g q) := by
    blk_ext [idx_chan t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of convolution bias of the input map. -/
theorem blk8 (ht : At b g k t) (n : Fin 128) : iblk m c 8 t (ix2 0 n) = (m (c, Proc.tc.devRef main_arg4) : FVec Ideal S6144 .f32) (ix1 (Mixer.colB g n)) := by
  have hb := b.isLt
  have hg := g.isLt
  have hk := k.isLt
  unfold At at ht
  have he : (win0_8.blk t).view.emb (ix2 0 n) = ix2 0 (Mixer.colB g n) := by
    blk_ext [idx_chan t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of convolution bias of the output map. -/
theorem blk9 (ht : At b g k t) (n : Fin 128) : iblk m c 9 t (ix2 0 n) = (m (c, Proc.tc.devRef main_arg4) : FVec Ideal S6144 .f32) (ix1 (Mixer.colC g n)) := by
  have hb := b.isLt
  have hg := g.isLt
  have hk := k.isLt
  unfold At at ht
  have he : (win0_9.blk t).view.emb (ix2 0 n) = ix2 0 (Mixer.colC g n) := by
    blk_ext [idx_chan t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of raw steps. -/
theorem blk10 (ht : At b g k t) (r : Fin 8) (l : Fin 128) : iblk m c 10 t (ix2 r l) = (m (c, Proc.tc.devRef main_arg2) : FVec Ideal S8192x64 .f32) (ix2 (Mixer.flat b (Mixer.rowOf k l)) (Mixer.headCol g r)) := by
  have hb := b.isLt
  have hg := g.isLt
  have hk := k.isLt
  unfold At at ht
  have he : (win0_10.blk t).view.emb (ix2 r l) = ix2 (Mixer.headCol g r) (Mixer.flat b (Mixer.rowOf k l)) := by
    blk_ext [idx_step t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of step bias, along a row. -/
theorem blk11 (ht : At b g k t) (r : Fin 8) : iblk m c 11 t (ix3 0 0 r) = (m (c, Proc.tc.devRef main_arg5) : FVec Ideal S64 .f32) (ix1 (Mixer.headCol g r)) := by
  have hb := b.isLt
  have hg := g.isLt
  have hk := k.isLt
  unfold At at ht
  have he : (win0_11.blk t).view.emb (ix3 0 0 r) = ix3 g 0 r := by
    blk_ext [idx_step t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of step bias, along a column. -/
theorem blk12 (ht : At b g k t) (r : Fin 8) : iblk m c 12 t (ix2 r 0) = (m (c, Proc.tc.devRef main_arg5) : FVec Ideal S64 .f32) (ix1 (Mixer.headCol g r)) := by
  have hb := b.isLt
  have hg := g.isLt
  have hk := k.isLt
  unfold At at ht
  have he : (win0_12.blk t).view.emb (ix2 r 0) = ix2 (Mixer.headCol g r) 0 := by
    blk_ext [idx_step t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of decay logarithms, along a row. -/
theorem blk13 (ht : At b g k t) (r : Fin 8) : iblk m c 13 t (ix3 0 0 r) = (m (c, Proc.tc.devRef main_arg6) : FVec Ideal S64 .f32) (ix1 (Mixer.headCol g r)) := by
  have hb := b.isLt
  have hg := g.isLt
  have hk := k.isLt
  unfold At at ht
  have he : (win0_13.blk t).view.emb (ix3 0 0 r) = ix3 g 0 r := by
    blk_ext [idx_step t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of decay logarithms, along a column. -/
theorem blk14 (ht : At b g k t) (r : Fin 8) : iblk m c 14 t (ix2 r 0) = (m (c, Proc.tc.devRef main_arg6) : FVec Ideal S64 .f32) (ix1 (Mixer.headCol g r)) := by
  have hb := b.isLt
  have hg := g.isLt
  have hk := k.isLt
  unfold At at ht
  have he : (win0_14.blk t).view.emb (ix2 r 0) = ix2 (Mixer.headCol g r) 0 := by
    blk_ext [idx_step t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- The block of direct scales, repeated over the channels. -/
theorem blk15 (ht : At b g k t) (q : Fin 512) : iblk m c 15 t (ix2 0 q) = (m (c, Proc.tc.devRef main_arg7) : FVec Ideal S64 .f32) (ix1 (Mixer.headCol g (Mixer.hd q))) := by
  have hb := b.isLt
  have hg := g.isLt
  have hk := k.isLt
  unfold At at ht
  have he : (win0_15.blk t).view.emb (ix2 0 q) = ix2 0 (Mixer.grpCol g q) := by
    blk_ext [idx_step t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.hd]
  exact congrArg (fun x => (m (c, Proc.tc.devRef main_arg7) : FVec Ideal S64 .f32) (ix1 x)) (Fin.ext (show (g.1 * 512 + q.1) / 64 = g.1 * 8 + q.1 / 64 by omega))

/-- The block of normalisation scales. -/
theorem blk16 (ht : At b g k t) (q : Fin 512) : iblk m c 16 t (ix2 0 q) = (m (c, Proc.tc.devRef main_arg8) : FVec Ideal S4096 .f32) (ix1 (Mixer.grpCol g q)) := by
  have hb := b.isLt
  have hg := g.isLt
  have hk := k.isLt
  unfold At at ht
  have he : (win0_16.blk t).view.emb (ix2 0 q) = ix2 0 (Mixer.grpCol g q) := by
    blk_ext [idx_step t, Mixer.flat, Mixer.rowOf, Mixer.grpCol, Mixer.colX, Mixer.colB, Mixer.colC, Mixer.headCol, Mixer.hd, ht]
    all_goals omega
  simp only [iblk]
  entry_read
  blk_simp
  rw [he]
  pointwise [Mixer.headCol, Mixer.grpCol, Mixer.colX, Mixer.colB, Mixer.colC, Mixer.flat, Mixer.rowOf]

/-- Where the block of the result lies. -/
theorem blk17 (ht : At b g k t) (l : Fin 128) (q : Fin 512) :
    (win0_17.blk t).view.emb (ix2 l q) = ix2 (Mixer.flat b (Mixer.rowOf k l)) (Mixer.grpCol g q) := by
  have hb := b.isLt
  have hg := g.isLt
  have hk := k.isLt
  unfold At at ht
  blk_ext [idx_rows t, Mixer.flat, Mixer.rowOf, Mixer.grpCol, ht]
  all_goals omega

end Cert.KernelIdeal.Mixer

end
-- ==== Proof.KernelPoint.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.WordCmp
public import proofs.«01_k».proof.Proof.KernelBlock
public import proofs.«01_k».proof.Proof.KernelChan
public import proofs.«01_k».proof.Proof.KernelEntry

@[expose] public section

set_option maxRecDepth 16384

noncomputable section

namespace Cert.KernelIdeal.Mixer

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

section Operands

variable (c : Dev nD)

/-- The kernel's arguments on device `c`, as functions of their indices. -/
abbrev W0 : Fin 8192 → Fin 4096 → EReal := fun i j => (m (c, Proc.tc.devRef main_arg0) : FVec Ideal S8192x4096 .f32) (ix2 i j)
/-- The raw channels. -/
abbrev W1 : Fin 8192 → Fin 6144 → EReal := fun i j => (m (c, Proc.tc.devRef main_arg1) : FVec Ideal S8192x6144 .f32) (ix2 i j)
/-- The raw steps. -/
abbrev W2 : Fin 8192 → Fin 64 → EReal := fun i j => (m (c, Proc.tc.devRef main_arg2) : FVec Ideal S8192x64 .f32) (ix2 i j)
/-- The taps of the convolution. -/
abbrev W3 : Fin 6144 → Fin 4 → EReal := fun i j => (m (c, Proc.tc.devRef main_arg3) : FVec Ideal S6144x4 .f32) (ix2 i j)
/-- The bias of the convolution. -/
abbrev W4 : Fin 6144 → EReal := fun j => (m (c, Proc.tc.devRef main_arg4) : FVec Ideal S6144 .f32) (ix1 j)
/-- The bias of the steps. -/
abbrev W5 : Fin 64 → EReal := fun j => (m (c, Proc.tc.devRef main_arg5) : FVec Ideal S64 .f32) (ix1 j)
/-- The logarithms of the decays. -/
abbrev W6 : Fin 64 → EReal := fun j => (m (c, Proc.tc.devRef main_arg6) : FVec Ideal S64 .f32) (ix1 j)
/-- The direct scales. -/
abbrev W7 : Fin 64 → EReal := fun j => (m (c, Proc.tc.devRef main_arg7) : FVec Ideal S64 .f32) (ix1 j)
/-- The normalisation scales. -/
abbrev W8 : Fin 4096 → EReal := fun j => (m (c, Proc.tc.devRef main_arg8) : FVec Ideal S4096 .f32) (ix1 j)

variable (b : Fin 2) (g : Fin 8) (k : Fin 32) (t : Fin cfg0.N)

/-- Raw row `j - 8` of sequence `b`, in the 768 columns of group `g`: 512 inner channels, 128 entries of
the input map, 128 of the output map. -/
def rows (j : ℕ) (κ : Fin 768) : EReal :=
  if h : κ.1 < 512 then Mixer.raw (W1 m c) b j (Mixer.colX g ⟨κ.1, h⟩)
  else if h' : κ.1 < 640 then Mixer.raw (W1 m c) b j (Mixer.colB g ⟨κ.1 - 512, by omega⟩)
  else Mixer.raw (W1 m c) b j (Mixer.colC g ⟨κ.1 - 640, by omega⟩)

/-- The inner columns of `rows`. -/
theorem rows_inner (j : ℕ) (q : Fin 512) :
    rows m c b g j (⟨q.1, by omega⟩ : Fin 768) = Mixer.raw (W1 m c) b j (Mixer.colX g q) :=
  dif_pos q.isLt

/-- The columns of `rows` for the input map. -/
theorem rows_in (j : ℕ) (n : Fin 128) :
    rows m c b g j (⟨512 + n.1, by omega⟩ : Fin 768) = Mixer.raw (W1 m c) b j (Mixer.colB g n) := by
  have h1 : ¬ 512 + n.1 < 512 := by omega
  have h2 : 512 + n.1 < 640 := by omega
  refine (dif_neg h1).trans ((dif_pos h2).trans ?_)
  exact congrArg (fun x => Mixer.raw (W1 m c) b j (Mixer.colB g x)) (Fin.ext (show 512 + n.1 - 512 = n.1 by omega))

/-- The columns of `rows` for the output map. -/
theorem rows_out (j : ℕ) (n : Fin 128) :
    rows m c b g j (⟨640 + n.1, by omega⟩ : Fin 768) = Mixer.raw (W1 m c) b j (Mixer.colC g n) := by
  have h1 : ¬ 640 + n.1 < 512 := by omega
  have h2 : ¬ 640 + n.1 < 640 := by omega
  refine (dif_neg h1).trans ((dif_neg h2).trans ?_)
  exact congrArg (fun x => Mixer.raw (W1 m c) b j (Mixer.colC g x)) (Fin.ext (show 640 + n.1 - 640 = n.1 by omega))

/-- The rows before a sequence are zero. -/
theorem rows_zero (j : ℕ) (hj : j < 8) (κ : Fin 768) : rows m c b g j κ = 0 := by
  have h0 : ∀ ch, Mixer.raw (W1 m c) b j ch = 0 := fun ch => dif_neg (by omega)
  unfold rows
  split
  · exact h0 _
  · split
    · exact h0 _
    · exact h0 _

/-- A row of a chunk, as a raw row of its sequence. -/
theorem raw_row (l : Fin 128) (ch : Fin 6144) :
    Mixer.raw (W1 m c) b (k.1 * 128 + (l.1 + 8)) ch = W1 m c (Mixer.flat b (Mixer.rowOf k l)) ch := by
  have h : 8 ≤ k.1 * 128 + (l.1 + 8) ∧ k.1 * 128 + (l.1 + 8) - 8 < 4096 := by omega
  refine (dif_pos h).trans ?_
  exact congrArg (fun x => W1 m c (Mixer.flat b x) ch) (Fin.ext (show k.1 * 128 + (l.1 + 8) - 8 = k.1 * 128 + l.1 by omega))

variable (v30 v36 v41 v46 : Vec Ideal S128x768 .f32)

/-- The convolved inner channels at one point. -/
abbrev opX : FVec Ideal S128x512 .f32 :=
  k0_pay13 (F := Ideal) (k0_pay8 (F := Ideal) (iblk m c 4 t) (iblk m c 5 t) (iblk m c 6 t)) (k0_pay9 (F := Ideal) (iblk m c 7 t))
    (k0_pay10 (F := Ideal) (iblk m c 8 t)) (iblk m c 9 t) v30 v36 v41 v46

/-- The convolved entries of the input map at one point. -/
abbrev opB : FVec Ideal S128x128 .f32 :=
  k0_pay14 (F := Ideal) (k0_pay8 (F := Ideal) (iblk m c 4 t) (iblk m c 5 t) (iblk m c 6 t)) (k0_pay9 (F := Ideal) (iblk m c 7 t))
    (k0_pay10 (F := Ideal) (iblk m c 8 t)) (iblk m c 9 t) v30 v36 v41 v46

/-- The convolved entries of the output map at one point. -/
abbrev opC : FVec Ideal S128x128 .f32 :=
  k0_pay15 (F := Ideal) (k0_pay8 (F := Ideal) (iblk m c 4 t) (iblk m c 5 t) (iblk m c 6 t)) (k0_pay9 (F := Ideal) (iblk m c 7 t))
    (k0_pay10 (F := Ideal) (iblk m c 8 t)) (iblk m c 9 t) v30 v36 v41 v46

/-- The steps at one point, rows down. -/
abbrev opD : FVec Ideal S128x8 .f32 :=
  k0_pay22 k0_pay18 (k0_pay19 (F := Ideal) (iblk m c 10 t)) (k0_pay20 (F := Ideal) (iblk m c 10 t))
    (k0_pay21 (F := Ideal) (iblk m c 10 t)) (iblk m c 11 t)

/-- The running sums at one point, rows down. -/
abbrev opS : FVec Ideal S128x8 .f32 := k0_pay26 k0_pay16 (opD m c t) (k0_pay24 (F := Ideal) (iblk m c 13 t))

/-- The running sums at one point, rows across. -/
abbrev opR : FVec Ideal S8x128 .f32 :=
  k0_pay27 (iota .tc S128x128 32 [0] iota_S128x128_d0_w32) (iota .tc S128x128 32 [1] iota_S128x128_d1_w32)
    (k0_pay23 (k0_pay17 (F := Ideal) (iblk m c 10 t)) (iblk m c 12 t)) (k0_pay25 (F := Ideal) (iblk m c 14 t))

/-- The steps at one point, spread over the channels. -/
abbrev opDX : FVec Ideal S128x512 .f32 :=
  k0_pay31 (opD m c t) (iota .tc S8x512 32 [0] iota_S8x512_d0_w32) (iota .tc S8x512 32 [1] iota_S8x512_d1_w32)
      64#32 k0_pay28 k0_pay29

/-- The spreading matrix. -/
abbrev opE : FVec Ideal S8x512 .bf16 :=
  k0_pay30 (F := Ideal) (iota .tc S8x512 32 [0] iota_S8x512_d0_w32)
        (iota .tc S8x512 32 [1] iota_S8x512_d1_w32) 64#32 k0_pay28 k0_pay29

/-- The second part of the running sums, spread. -/
abbrev opS2 : FVec Ideal S128x512 .f32 :=
  k0_pay36 (opS m c t) (iota .tc S8x512 32 [0] iota_S8x512_d0_w32) (iota .tc S8x512 32 [1] iota_S8x512_d1_w32)
        64#32 k0_pay28 k0_pay29

/-- The third part of the running sums, spread. -/
abbrev opS3 : FVec Ideal S128x512 .f32 :=
  k0_pay37 (opS m c t) (iota .tc S8x512 32 [0] iota_S8x512_d0_w32) (iota .tc S8x512 32 [1] iota_S8x512_d1_w32)
        64#32 k0_pay28 k0_pay29

/-- The running sums at one point, spread over the channels. -/
abbrev opSX : FVec Ideal S128x512 .f32 := k0_pay38 opE (k0_pay35 (opS m c t)) (opS2 m c t) (opS3 m c t)

/-- The four shifted reads of the chunk hold rows `l + 5` to `l + 8` of the sequence. -/
def Shifted : Prop := ∀ (l : Fin 128) (κ : Fin 768),
  v30 (ix2 l κ) = rows m c b g (k.1 * 128 + (l.1 + 5)) κ ∧ v36 (ix2 l κ) = rows m c b g (k.1 * 128 + (l.1 + 6)) κ ∧
  v41 (ix2 l κ) = rows m c b g (k.1 * 128 + (l.1 + 7)) κ ∧ v46 (ix2 l κ) = rows m c b g (k.1 * 128 + (l.1 + 8)) κ

variable (ht : At b g k t)

include ht

/-- The convolved inner channels are the specification's. -/
theorem opX_apply (hv : Shifted m c b g k v30 v36 v41 v46) (l : Fin 128) (q : Fin 512) :
    opX m c t v30 v36 v41 v46 (ix2 l q) = Mixer.cX (W1 m c) (W3 m c) (W4 m c) b g k l q := by
  rw [opX, chan_inner, (hv l _).1, (hv l _).2.1, (hv l _).2.2.1, (hv l _).2.2.2, rows_inner, rows_inner, rows_inner, rows_inner,
    blk4 m c b g k t ht, blk4 m c b g k t ht, blk4 m c b g k t ht, blk4 m c b g k t ht, blk7 m c b g k t ht]
  rfl

/-- The convolved entries of the input map are the specification's. -/
theorem opB_apply (hv : Shifted m c b g k v30 v36 v41 v46) (l : Fin 128) (q : Fin 128) :
    opB m c t v30 v36 v41 v46 (ix2 l q) = Mixer.cB (W1 m c) (W3 m c) (W4 m c) b g k l q := by
  rw [opB, chan_in, (hv l _).1, (hv l _).2.1, (hv l _).2.2.1, (hv l _).2.2.2, rows_in, rows_in, rows_in, rows_in,
    blk5 m c b g k t ht, blk5 m c b g k t ht, blk5 m c b g k t ht, blk5 m c b g k t ht, blk8 m c b g k t ht]
  rfl

/-- The convolved entries of the output map are the specification's. -/
theorem opC_apply (hv : Shifted m c b g k v30 v36 v41 v46) (l : Fin 128) (q : Fin 128) :
    opC m c t v30 v36 v41 v46 (ix2 l q) = Mixer.cC (W1 m c) (W3 m c) (W4 m c) b g k l q := by
  rw [opC, chan_out, (hv l _).1, (hv l _).2.1, (hv l _).2.2.1, (hv l _).2.2.2, rows_out, rows_out, rows_out, rows_out,
    blk6 m c b g k t ht, blk6 m c b g k t ht, blk6 m c b g k t ht, blk6 m c b g k t ht, blk9 m c b g k t ht]
  rfl

variable (h2 : ∀ i j, Mixer.Finite (W2 m c i j)) (h5 : ∀ j, Mixer.Finite (W5 m c j)) (h6 : ∀ j, Mixer.Finite (W6 m c j))

include h2

/-- The steps, rows down, are the specification's. -/
theorem opD_apply (l : Fin 128) (r : Fin 8) : opD m c t (ix2 l r) = Mixer.cD (W2 m c) (W5 m c) b g k l r := by
  rw [opD, steps_col _ _ (fun r l => by rw [blk10 m c b g k t ht]; exact h2 _ _), blk10 m c b g k t ht, blk11 m c b g k t ht]
  rfl

include h5

omit ht in
/-- The specification's steps are finite. -/
theorem cD_finite (l : Fin 128) (r : Fin 8) : Mixer.Finite (Mixer.cD (W2 m c) (W5 m c) b g k l r) :=
  ((h2 _ _).add (h5 _)).softplus

/-- The steps are finite. -/
theorem opD_finite (l : Fin 128) (r : Fin 8) : Mixer.Finite (opD m c t (ix2 l r)) := by
  rw [opD_apply m c b g k t ht h2]
  exact cD_finite m c b g k h2 h5 l r

/-- The steps spread over the channels are the specification's. -/
theorem opDX_apply (l : Fin 128) (q : Fin 512) :
    opDX m c t (ix2 l q) = Mixer.cD (W2 m c) (W5 m c) b g k l (Mixer.hd q) := by
  rw [opDX, spread_step _ (opD_finite m c b g k t ht h2 h5), opD_apply m c b g k t ht h2]

include h6

/-- The running sums, rows down, are the specification's. -/
theorem opS_apply (l : Fin 128) (r : Fin 8) :
    opS m c t (ix2 l r) = Mixer.cS (W2 m c) (W5 m c) (W6 m c) b g k l r := by
  rw [opS, sums_col _ _ (opD_finite m c b g k t ht h2 h5) (fun r => by rw [blk13 m c b g k t ht]; exact h6 _),
    blk13 m c b g k t ht, funext fun x => opD_apply m c b g k t ht h2 x r]
  rfl

/-- The running sums are finite. -/
theorem opS_finite (l : Fin 128) (r : Fin 8) : Mixer.Finite (opS m c t (ix2 l r)) := by
  rw [opS_apply m c b g k t ht h2 h5 h6]
  exact Mixer.Finite.cum (fun x => cD_finite m c b g k h2 h5 x r) (h6 _) l

/-- The running sums, rows across, are the specification's. -/
theorem opR_apply (l : Fin 128) (r : Fin 8) :
    opR m c t (ix2 r l) = Mixer.cS (W2 m c) (W5 m c) (W6 m c) b g k l r := by
  have hs : ∀ (r : Fin 8) (x : Fin 128), k0_pay23 (k0_pay17 (F := Ideal) (iblk m c 10 t)) (iblk m c 12 t) (ix2 r x) =
      Mixer.cD (W2 m c) (W5 m c) b g k x r := fun r x => by
    rw [steps_row, blk10 m c b g k t ht, blk12 m c b g k t ht]
    rfl
  rw [opR, sums_row _ _ (fun r x => by rw [hs]; exact cD_finite m c b g k h2 h5 x r)
    (fun r => by rw [blk14 m c b g k t ht]; exact h6 _), blk14 m c b g k t ht, funext fun x => hs r x]
  rfl

/-- The running sums spread over the channels are the specification's. -/
theorem opSX_apply (l : Fin 128) (q : Fin 512) :
    opSX m c t (ix2 l q) = Mixer.cS (W2 m c) (W5 m c) (W6 m c) b g k l (Mixer.hd q) := by
  rw [opSX, spread_sum _ (opS_finite m c b g k t ht h2 h5 h6), opS_apply m c b g k t ht h2 h5 h6]

/-- The carried state after a point, from the one before. -/
theorem point_state (hv : Shifted m c b g k v30 v36 v41 v46) (H : Vec Ideal S128x512 .f32) (n : Fin 128) (q : Fin 512) :
    k0_pay1 (k0_pay39 (opX m c t v30 v36 v41 v46) (opDX m c t)) (k0_pay41 (opB m c t v30 v36 v41 v46)) H
      (k0_pay54 (opSX m c t)) (k0_pay55 (opSX m c t)) (ix2 n q) =
      Mixer.blkH (Mixer.cX (W1 m c) (W3 m c) (W4 m c) b g k) (Mixer.cB (W1 m c) (W3 m c) (W4 m c) b g k)
        (Mixer.cD (W2 m c) (W5 m c) b g k) (Mixer.cS (W2 m c) (W5 m c) (W6 m c) b g k) (fun n q => H (ix2 n q)) n q := by
  rw [block_state _ _ _ _ _ _ _ (opDX_apply m c b g k t ht h2 h5) (opSX_apply m c b g k t ht h2 h5 h6),
    funext₂ (opX_apply m c b g k t v30 v36 v41 v46 ht hv), funext₂ (opB_apply m c b g k t v30 v36 v41 v46 ht hv)]

/-- The rows a point writes, from the state before it. -/
theorem point_out (hv : Shifted m c b g k v30 v36 v41 v46) (H : Vec Ideal S128x512 .f32) (l : Fin 128) (q : Fin 512) :
    k0_pay2 (k0_pay53 (opX m c t v30 v36 v41 v46) k0_pay16 (opS m c t) (opR m c t)
        (k0_pay40 (opX m c t v30 v36 v41 v46) (opDX m c t)) (k0_pay43 (opB m c t v30 v36 v41 v46) (opC m c t v30 v36 v41 v46))
        (k0_pay44 (opC m c t v30 v36 v41 v46) opE (k0_pay35 (opS m c t)) (opS2 m c t) (opS3 m c t) H)
        (iota .tc S128x128 32 [1] iota_S128x128_d1_w32)
        (k0_pay45 (opX m c t v30 v36 v41 v46) (opB m c t v30 v36 v41 v46) (opC m c t v30 v36 v41 v46) k0_pay16 (opS m c t) (opR m c t)
          (opDX m c t))
        (k0_pay49 k0_pay16 (opS m c t) (opR m c t) (k0_pay43 (opB m c t v30 v36 v41 v46) (opC m c t v30 v36 v41 v46))
          (iota .tc S128x128 32 [1] iota_S128x128_d1_w32) (k0_pay46 (opX m c t v30 v36 v41 v46) (opDX m c t))
          (k0_pay47 (opR m c t)) (k0_pay48 (opS m c t)))
        (k0_pay50 (k0_pay40 (opX m c t v30 v36 v41 v46) (opDX m c t)))
        (k0_pay51 k0_pay16 (opS m c t) (opR m c t) (k0_pay40 (opX m c t v30 v36 v41 v46) (opDX m c t))
          (k0_pay43 (opB m c t v30 v36 v41 v46) (opC m c t v30 v36 v41 v46)))
        (k0_pay52 k0_pay16 (opS m c t) (opR m c t)) (Scalar.ofBits .f32 0x00000000#32) (iblk m c 15 t))
      (iblk m c 0 t) (iblk m c 16 t) (ix2 l q) =
      Mixer.normRow (fun x => Mixer.blkY (Mixer.cX (W1 m c) (W3 m c) (W4 m c) b g k) (Mixer.cB (W1 m c) (W3 m c) (W4 m c) b g k)
          (Mixer.cC (W1 m c) (W3 m c) (W4 m c) b g k) (Mixer.cD (W2 m c) (W5 m c) b g k)
          (Mixer.cS (W2 m c) (W5 m c) (W6 m c) b g k) (fun n q => H (ix2 n q)) (fun r => W7 m c (Mixer.headCol g r)) l x *
          Mixer.silu (W0 m c (Mixer.flat b (Mixer.rowOf k l)) (Mixer.grpCol g x))) (W8 m c (Mixer.grpCol g q)) q := by
  rw [block_norm, blk16 m c b g k t ht]
  refine congrArg (fun u => Mixer.normRow u (W8 m c (Mixer.grpCol g q)) q) (funext fun x => ?_)
  rw [block_rows _ _ _ _ _ _ _ _ (opDX_apply m c b g k t ht h2 h5) (opS_apply m c b g k t ht h2 h5 h6)
      (opR_apply m c b g k t ht h2 h5 h6),
    block_outside _ _ _ _ (opS_finite m c b g k t ht h2 h5 h6) (opS_apply m c b g k t ht h2 h5 h6),
    blk0 m c b g k t ht, blk15 m c b g k t ht, opX_apply m c b g k t v30 v36 v41 v46 ht hv,
    funext₂ (opX_apply m c b g k t v30 v36 v41 v46 ht hv), funext₂ (opB_apply m c b g k t v30 v36 v41 v46 ht hv),
    funext₂ (opC_apply m c b g k t v30 v36 v41 v46 ht hv)]
  rfl

end Operands

end Cert.KernelIdeal.Mixer

end
-- ==== Proof.Steps.lean ====
module

public import proofs.«01_k».proof.Defs
public import proofs.«01_k».proof.Proof.KernelPoint
public import Idealize.ShloMosaic.Lib.ReduceAll

/-!
# What the precondition gives

`finite_steps` says that the three arrays the step sizes are made of hold no infinity.  Read back
index by index, it is the finiteness the kernel's split of a number into three parts needs.
-/

@[expose] public section

set_option maxRecDepth 16384

noncomputable section

namespace Cert.KernelIdeal.Mixer

open Cert.KernelIdeal Cert.KernelIdeal.Gen Idealize.ShloMosaic Idealize.ShloMosaic.TcCoe

/-- The side conditions of the printed precondition. -/
theorem steps_facts : Cert.Pre_finite_steps.Facts where
  bcast_S_S8192x64 := by decide
  reducesTo_S8192x64_S_d0_1 := by decide
  h_S_ := by decide
  bcast_S_S64 := by decide
  reducesTo_S64_S_d0 := by decide

/-- A number whose absolute value is below the top one is finite. -/
theorem finite_of_abs {v : EReal} (h : max v (-v) < ⊤) : Mixer.Finite v := by
  induction v with
  | bot => simp at h
  | top => simp at h
  | coe r => exact ⟨r, rfl⟩

/-- An array whose entries' absolute values are all below infinity has finite entries. -/
theorem finite_of_all {s t u z : Shape} [Subsingleton t.Idx] {axes : List (Fin s.rank)} (x : FVec Ideal s .f32)
    (f : Fin z.rank → Fin s.rank) (hb : z.BroadcastsInDim s f) (h : s.ReducesTo axes t) (hu : 0 < u.numel) (init : u.Idx → BitVec 1)
    (e : Host.reduce IntOp.andi (cmpf .olt (Host.absf x) (broadcastInDim s f hb (constant z .f32 0x7F800000#32))) init h hu = fun _ => 1#1)
    (j : t.Idx) (i : s.Idx) : Mixer.Finite (x i) := by
  have := Host.reduce_andi_all _ init h hu j (congrFun e j) i
  refine finite_of_abs ?_
  have h1 : (BitVec.ofBool (decide (max (x i) (-(x i)) < Ideal.ofBits .f32 0x7F800000#32))) = 1#1 := this
  have h2 : Ideal.ofBits .f32 0x7F800000#32 = ⊤ := by simp [Ideal.ofBits, Ideal.ieee]
  rw [h2] at h1
  by_contra hn
  rw [decide_eq_false hn] at h1
  exact absurd h1 (by decide)

section Given

variable (m : (ℓ : Loc nD τ sig) → Buf (Elt Ideal) ℓ) (h : Pre_KernelIdeal_finite_steps (hPre_finite_steps := steps_facts) m)
  (c : Dev nD)

include h

/-- The step inputs are finite. -/
theorem finite2 (i : Fin 8192) (j : Fin 64) : Mixer.Finite (W2 m c i j) := by
  haveI := steps_facts
  have := (h c).1
  dsimp only [Cert.Pre_finite_steps.fn] at this
  exact finite_of_all _ _ _ _ _ _ this (fun a => a.elim0) _

/-- The step biases are finite. -/
theorem finite5 (j : Fin 64) : Mixer.Finite (W5 m c j) := by
  haveI := steps_facts
  have := (h c).2.1
  dsimp only [Cert.Pre_finite_steps.fn] at this
  exact finite_of_all _ _ _ _ _ _ this (fun a => a.elim0) _

/-- The decay logarithms are finite. -/
theorem finite6 (j : Fin 64) : Mixer.Finite (W6 m c j) := by
  haveI := steps_facts
  have := (h c).2.2
  dsimp only [Cert.Pre_finite_steps.fn] at this
  exact finite_of_all _ _ _ _ _ _ this (fun a => a.elim0) _

end Given

end Cert.KernelIdeal.Mixer

end
-- ==== Proof.KernelPad.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.WordCmp
public import Idealize.ShloMosaic.Lib.WritesUnit
public import proofs.«01_k».proof.Proof.Finite

@[expose] public section

set_option maxRecDepth 16384

noncomputable section

namespace Cert.KernelIdeal.Mixer

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The store of one chunk's raw rows below the eight carried ones: the scratch then holds the rows
of `P` from 0 to 136, if the rows above are `P`'s first eight. -/
theorem pad_rows {κ : Kind} {sp : Space} (v : View sig κ sp S136x768 .f32) (P : ℕ → Fin 768 → EReal)
    (i1 : Vec Ideal S128x512 .f32) (i2 i3 : Vec Ideal S128x128 .f32)
    (h1 : ∀ (l : Fin 128) (q : Fin 512), i1 (ix2 l q) = P (l.1 + 8) (⟨q.1, by omega⟩ : Fin 768))
    (h2 : ∀ (l : Fin 128) (q : Fin 128), i2 (ix2 l q) = P (l.1 + 8) (⟨512 + q.1, by omega⟩ : Fin 768))
    (h3 : ∀ (l : Fin 128) (q : Fin 128), i3 (ix2 l q) = P (l.1 + 8) (⟨640 + q.1, by omega⟩ : Fin 768))
    (f : v.ty.Contents (Elt Ideal)) (rest : List (View.Piece (Elt Ideal) S136x768 .f32)) (ρ : Fin 136) (k : Fin 768)
    (hp : ρ.1 < 8 → v.read (Elt Ideal) (v.writes (Elt Ideal) f rest) (ix2 ρ k) = P ρ.1 k) :
    v.read (Elt Ideal) (v.writes (Elt Ideal) f
      (⟨Rect.unit ![8, 640] ![128, 128] inb_S136x768_S128x128_8_640, k0_pay7 (F := Ideal) i3⟩ ::
        ⟨Rect.unit ![8, 512] ![128, 128] inb_S136x768_S128x128_8_512, k0_pay6 (F := Ideal) i2⟩ ::
        ⟨Rect.unit ![8, 0] ![128, 512] inb_S136x768_S128x512_8_0, k0_pay5 (F := Ideal) i1⟩ :: rest)) (ix2 ρ k) = P ρ.1 k := by
  have e5 : ∀ (l : Fin 128) (q : Fin 512), k0_pay5 (F := Ideal) i1 (ix2 l q) = i1 (ix2 l q) := fun l q => by pointwise [k0_pay5]
  have e6 : ∀ (l : Fin 128) (q : Fin 128), k0_pay6 (F := Ideal) i2 (ix2 l q) = i2 (ix2 l q) := fun l q => by pointwise [k0_pay6]
  have e7 : ∀ (l : Fin 128) (q : Fin 128), k0_pay7 (F := Ideal) i3 (ix2 l q) = i3 (ix2 l q) := fun l q => by pointwise [k0_pay7]
  by_cases hρ : ρ.1 < 8
  · refine (View.read_writes_cons_unit_of_not_mem v f (off' := ![8, 640]) _ _ _ _ rfl 0 (Or.inl hρ)).trans ?_
    refine (View.read_writes_cons_unit_of_not_mem v f (off' := ![8, 512]) _ _ _ _ rfl 0 (Or.inl hρ)).trans ?_
    refine (View.read_writes_cons_unit_of_not_mem v f (off' := ![8, 0]) _ _ _ _ rfl 0 (Or.inl hρ)).trans ?_
    exact hp hρ
  · have hl : ρ.1 - 8 < 128 := by omega
    have hs : ρ.1 - 8 + 8 = ρ.1 := by omega
    by_cases h7 : 640 ≤ k.1
    · have hk : k.1 - 640 < 128 := by omega
      refine (View.read_writes_cons_unit_of_mem v f (off' := ![8, 640]) _ _ _ _
        (ix2 (⟨ρ.1 - 8, hl⟩ : Fin 128) (⟨k.1 - 640, hk⟩ : Fin 128)) rfl ?_).trans ?_
      · exact Fin.forall_fin_two.mpr ⟨show ρ.1 = 8 + (ρ.1 - 8) by omega, show k.1 = 640 + (k.1 - 640) by omega⟩
      · refine (e7 _ _).trans ((h3 _ _).trans ?_)
        show P (ρ.1 - 8 + 8) _ = _
        rw [hs]
        exact congrArg (P ρ.1) (Fin.ext (show 640 + (k.1 - 640) = k.1 by omega))
    · refine (View.read_writes_cons_unit_of_not_mem v f (off' := ![8, 640]) _ _ _ _ rfl 1 (Or.inl (show k.1 < 640 by omega))).trans ?_
      by_cases h6 : 512 ≤ k.1
      · have hk : k.1 - 512 < 128 := by omega
        refine (View.read_writes_cons_unit_of_mem v f (off' := ![8, 512]) _ _ _ _
          (ix2 (⟨ρ.1 - 8, hl⟩ : Fin 128) (⟨k.1 - 512, hk⟩ : Fin 128)) rfl ?_).trans ?_
        · exact Fin.forall_fin_two.mpr ⟨show ρ.1 = 8 + (ρ.1 - 8) by omega, show k.1 = 512 + (k.1 - 512) by omega⟩
        · refine (e6 _ _).trans ((h2 _ _).trans ?_)
          show P (ρ.1 - 8 + 8) _ = _
          rw [hs]
          exact congrArg (P ρ.1) (Fin.ext (show 512 + (k.1 - 512) = k.1 by omega))
      · refine (View.read_writes_cons_unit_of_not_mem v f (off' := ![8, 512]) _ _ _ _ rfl 1 (Or.inl (show k.1 < 512 by omega))).trans ?_
        refine (View.read_writes_cons_unit_of_mem v f (off' := ![8, 0]) _ _ _ _
          (ix2 (⟨ρ.1 - 8, hl⟩ : Fin 128) (⟨k.1, by omega⟩ : Fin 512)) rfl ?_).trans ?_
        · exact Fin.forall_fin_two.mpr ⟨show ρ.1 = 8 + (ρ.1 - 8) by omega, show k.1 = 0 + k.1 by omega⟩
        · refine (e5 _ _).trans ((h1 _ _).trans ?_)
          show P (ρ.1 - 8 + 8) _ = _
          rw [hs]

/-- The zeroed eight rows above the first chunk. -/
theorem pad_zero {κ : Kind} {sp : Space} (v : View sig κ sp S136x768 .f32) (f : v.ty.Contents (Elt Ideal))
    (ρ : Fin 136) (k : Fin 768) (hρ : ρ.1 < 8) :
    v.read (Elt Ideal) (v.writes (Elt Ideal) f
      [⟨Rect.unit ![0, 0] ![8, 768] inb_S136x768_S8x768_0_0, k0_pay4 (F := Ideal)⟩]) (ix2 ρ k) = (0 : EReal) := by
  refine (View.read_writes_cons_unit_of_mem v f (off' := ![0, 0]) _ _ _ _
    (ix2 (⟨ρ.1, hρ⟩ : Fin 8) k) rfl ?_).trans ?_
  · exact Fin.forall_fin_two.mpr ⟨show ρ.1 = 0 + ρ.1 by omega, show k.1 = 0 + k.1 by omega⟩
  · pointwise [k0_pay4]

/-- The eight rows carried over are the ones just stored, whatever lies below. -/
theorem pad_head {κ : Kind} {sp : Space} (v : View sig κ sp S136x768 .f32) (f : v.ty.Contents (Elt Ideal))
    (w : Vec Ideal S8x768 .f32) (rest : List (View.Piece (Elt Ideal) S136x768 .f32))
    (ρ : Fin 136) (k : Fin 768) (hρ : ρ.1 < 8) :
    v.read (Elt Ideal) (v.writes (Elt Ideal) f
      (⟨Rect.unit ![0, 0] ![8, 768] inb_S136x768_S8x768_0_0, k0_pay11 (F := Ideal) w⟩ :: rest)) (ix2 ρ k) =
      w (ix2 (⟨ρ.1, hρ⟩ : Fin 8) k) := by
  refine (View.read_writes_cons_unit_of_mem v f (off' := ![0, 0]) _ _ _ _
    (ix2 (⟨ρ.1, hρ⟩ : Fin 8) k) rfl ?_).trans ?_
  · exact Fin.forall_fin_two.mpr ⟨show ρ.1 = 0 + ρ.1 by omega, show k.1 = 0 + k.1 by omega⟩
  · pointwise [k0_pay11]

end Cert.KernelIdeal.Mixer

end
-- ==== Proof.KernelState.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.WordCmp
public import Idealize.ShloMosaic.Lib.Pipeline.ReadBack
public import proofs.«01_k».proof.Proof.KernelPoint
public import proofs.«01_k».proof.Proof.KernelPad

@[expose] public section

set_option maxRecDepth 16384

noncomputable section

namespace Cert.KernelIdeal.Mixer

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

variable (c : Dev nD) (b : Fin 2) (g : Fin 8) (k : Fin 32) (t : Fin cfg0.N)

/-- A point's raw rows, stored below the eight carried ones. -/
theorem block_rows_stored (ht : At b g k t) :
    (∀ (l : Fin 128) (q : Fin 512), iblk m c 1 t (ix2 l q) = rows m c b g (k.1 * 128 + (l.1 + 8)) (⟨q.1, by omega⟩ : Fin 768)) ∧
    (∀ (l : Fin 128) (q : Fin 128), iblk m c 2 t (ix2 l q) = rows m c b g (k.1 * 128 + (l.1 + 8)) (⟨512 + q.1, by omega⟩ : Fin 768)) ∧
    (∀ (l : Fin 128) (q : Fin 128), iblk m c 3 t (ix2 l q) = rows m c b g (k.1 * 128 + (l.1 + 8)) (⟨640 + q.1, by omega⟩ : Fin 768)) :=
  ⟨fun l q => by rw [blk1 m c b g k t ht, rows_inner, raw_row],
   fun l q => by rw [blk2 m c b g k t ht, rows_in, raw_row],
   fun l q => by rw [blk3 m c b g k t ht, rows_out, raw_row]⟩

/-- The index a load of whole rows from row `o` reads. -/
theorem load_idx {p : ℕ} (o : ℕ) (inb : ∀ a, (![o, 0] : Fin 2 → ℕ) a + (![p, 768] : Fin 2 → ℕ) a ≤ S136x768.size a)
    (l : Fin p) (κ : Fin 768) (h : o + l.1 < 136) :
    (Rect.unit (s := S136x768) ![o, 0] ![p, 768] inb).idx (ix2 l κ) = ix2 (⟨o + l.1, h⟩ : Fin 136) κ :=
  funext fun a => Fin.ext ((Rect.idx_unit_val _ _ inb (ix2 l κ) a).trans
    ((Fin.forall_fin_two (p := fun a => (![o, 0] : Fin 2 → ℕ) a + ((ix2 l κ : (⟨2, ![p, 768]⟩ : Shape).Idx) a : ℕ) =
      ((ix2 (⟨o + l.1, h⟩ : Fin 136) κ : S136x768.Idx) a : ℕ))).mpr ⟨rfl, show 0 + κ.1 = κ.1 from Nat.zero_add _⟩ a))

set_option maxHeartbeats 1600000 in
/-- What the scratch of raw rows carries out of a point: the last eight rows of its chunk. -/
theorem pad_step (ht : At b g k t) (ρ : Fin 136) (hρ : ρ.1 < 8) (κ : Fin 768) :
    (outsAt0 m c t.val t.isLt).2.2 (ix2 ρ κ) = rows m c b g ((k.1 + 1) * 128 + ρ.1) κ := by
  obtain ⟨s1, s2, s3⟩ := block_rows_stored m c b g k t ht
  have hj : k.1 * 128 + (128 + ρ.1) = (k.1 + 1) * 128 + ρ.1 := by omega
  by_cases h : t.val % 32 = 0
  · rw [outsAt0_A m c t h]
    frame_out
    rw [← View.read_writes_junk_eq_canon (View.whole cc0_scratch1)]
    refine (pad_head (View.whole cc0_scratch1) _ _ _ ρ κ hρ).trans ?_
    rw [View.readCov_eq_canon', ← View.read_writes_junk_eq_canon (View.whole cc0_scratch1)]
    refine (congrArg (View.read (Elt Ideal) (View.whole cc0_scratch1) _)
      (load_idx 128 _ (⟨ρ.1, hρ⟩ : Fin 8) κ (show 128 + ρ.1 < 136 by omega))).trans ?_
    refine (pad_rows (View.whole cc0_scratch1) (fun j => rows m c b g (k.1 * 128 + j)) _ _ _ s1 s2 s3 _ _ _ κ
      (fun hlt => absurd (show 128 + ρ.1 < 8 from hlt) (by omega))).trans ?_
    exact congrArg (fun j => rows m c b g j κ) hj
  · rw [outsAt0_B m c t h]
    frame_out
    rw [← View.read_writes_junk_eq_canon (View.whole cc0_scratch1)]
    refine (pad_head (View.whole cc0_scratch1) _ _ _ ρ κ hρ).trans ?_
    rw [View.readCov_eq_canon', ← View.read_writes_junk_eq_canon (View.whole cc0_scratch1)]
    refine (congrArg (View.read (Elt Ideal) (View.whole cc0_scratch1) _)
      (load_idx 128 _ (⟨ρ.1, hρ⟩ : Fin 8) κ (show 128 + ρ.1 < 136 by omega))).trans ?_
    refine (pad_rows (View.whole cc0_scratch1) (fun j => rows m c b g (k.1 * 128 + j)) _ _ _ s1 s2 s3 _ _ _ κ
      (fun hlt => absurd (show 128 + ρ.1 < 8 from hlt) (by omega))).trans ?_
    exact congrArg (fun j => rows m c b g j κ) hj

/-- The scratch of raw rows at a first chunk: the zeroed eight rows, then the chunk's. -/
theorem pad_first (ht : At b g k t) (h : t.val % 32 = 0) (f : (View.whole cc0_scratch1).ty.Contents (Elt Ideal)) (ρ : Fin 136) (κ : Fin 768) :
    View.read (Elt Ideal) (View.whole cc0_scratch1) ((View.whole cc0_scratch1).writes (Elt Ideal) f
      [⟨Rect.unit ![8, 640] ![128, 128] inb_S136x768_S128x128_8_640, k0_pay7 (F := Ideal) (iblk m c 3 t)⟩,
        ⟨Rect.unit ![8, 512] ![128, 128] inb_S136x768_S128x128_8_512, k0_pay6 (F := Ideal) (iblk m c 2 t)⟩,
        ⟨Rect.unit ![8, 0] ![128, 512] inb_S136x768_S128x512_8_0, k0_pay5 (F := Ideal) (iblk m c 1 t)⟩,
        ⟨Rect.unit ![0, 0] ![8, 768] inb_S136x768_S8x768_0_0, k0_pay4 (F := Ideal)⟩]) (ix2 ρ κ) =
      rows m c b g (k.1 * 128 + ρ.1) κ := by
  obtain ⟨s1, s2, s3⟩ := block_rows_stored m c b g k t ht
  unfold At at ht
  refine pad_rows (View.whole cc0_scratch1) (fun j => rows m c b g (k.1 * 128 + j)) _ _ _ s1 s2 s3 f _ ρ κ fun hlt => ?_
  refine (pad_zero (View.whole cc0_scratch1) f ρ κ hlt).trans ?_
  exact (rows_zero m c b g (k.1 * 128 + ρ.1) (by omega) κ).symm

/-- The scratch of raw rows at a later chunk: the eight rows carried over, then the chunk's. -/
theorem pad_later (ht : At b g k t) (f : (View.whole cc0_scratch1).ty.Contents (Elt Ideal)) (ρ : Fin 136) (κ : Fin 768)
    (hf : 8 ≤ ρ.1 ∨ ∀ (ρ : Fin 136), ρ.1 < 8 → View.read (Elt Ideal) (View.whole cc0_scratch1) f (ix2 ρ κ) = rows m c b g (k.1 * 128 + ρ.1) κ) :
    View.read (Elt Ideal) (View.whole cc0_scratch1) ((View.whole cc0_scratch1).writes (Elt Ideal) f
      [⟨Rect.unit ![8, 640] ![128, 128] inb_S136x768_S128x128_8_640, k0_pay7 (F := Ideal) (iblk m c 3 t)⟩,
        ⟨Rect.unit ![8, 512] ![128, 128] inb_S136x768_S128x128_8_512, k0_pay6 (F := Ideal) (iblk m c 2 t)⟩,
        ⟨Rect.unit ![8, 0] ![128, 512] inb_S136x768_S128x512_8_0, k0_pay5 (F := Ideal) (iblk m c 1 t)⟩]) (ix2 ρ κ) =
      rows m c b g (k.1 * 128 + ρ.1) κ := by
  obtain ⟨s1, s2, s3⟩ := block_rows_stored m c b g k t ht
  refine pad_rows (View.whole cc0_scratch1) (fun j => rows m c b g (k.1 * 128 + j)) _ _ _ s1 s2 s3 f _ ρ κ fun hlt => ?_
  rcases hf with hf | hf
  · omega
  · exact hf ρ hlt

/-- The point before `t`. -/
abbrev before (t : Fin cfg0.N) : Fin cfg0.N := ⟨t.val - 1, Nat.lt_of_le_of_lt (Nat.sub_le _ _) t.isLt⟩

/-- The chunk before `k`. -/
abbrev chunkBefore (k : Fin 32) : Fin 32 := ⟨k.1 - 1, by omega⟩

/-- The point before a later chunk is the chunk before it, of the same group. -/
theorem before_at (ht : At b g k t) (h : ¬ t.val % 32 = 0) : At b g (chunkBefore k) (before t) := by
  unfold At at ht ⊢
  show t.val - 1 = (b.1 * 8 + g.1) * 32 + (k.1 - 1)
  omega

/-- The eight rows a later chunk finds in the scratch. -/
theorem pad_before (ht : At b g k t) (h : ¬ t.val % 32 = 0) (ρ : Fin 136) (hρ : ρ.1 < 8) (κ : Fin 768) :
    (outsAt0 m c (before t).val (before t).isLt).2.2 (ix2 ρ κ) = rows m c b g (k.1 * 128 + ρ.1) κ := by
  refine (pad_step m c b g (chunkBefore k) (before t) (before_at b g k t ht h) ρ hρ κ).trans ?_
  unfold At at ht
  exact congrArg (fun j => rows m c b g j κ) (show (k.1 - 1 + 1) * 128 + ρ.1 = k.1 * 128 + ρ.1 by
    rw [show k.1 - 1 + 1 = k.1 by omega])

/-- The state after a chunk, from the state before it. -/
theorem state_succ (n : Fin 128) (q : Fin 512) :
    Mixer.blkH (Mixer.cX (W1 m c) (W3 m c) (W4 m c) b g k) (Mixer.cB (W1 m c) (W3 m c) (W4 m c) b g k)
      (Mixer.cD (W2 m c) (W5 m c) b g k) (Mixer.cS (W2 m c) (W5 m c) (W6 m c) b g k)
      (Mixer.state (W1 m c) (W2 m c) (W3 m c) (W4 m c) (W5 m c) (W6 m c) b g k.1) n q = Mixer.state (W1 m c) (W2 m c) (W3 m c) (W4 m c) (W5 m c) (W6 m c) b g (k.1 + 1) n q :=
  (congrFun (congrFun (dif_pos k.isLt) n) q).symm

/-- The zeroed state is the state entering the first chunk. -/
theorem state_zero (hk : k.1 = 0) :
    (fun n q => (k0_pay3 (F := Ideal) (ix2 n q) : EReal)) = Mixer.state (W1 m c) (W2 m c) (W3 m c) (W4 m c) (W5 m c) (W6 m c) b g k.1 := by
  rw [hk]
  funext n q
  show _ = (0 : EReal)
  pointwise [k0_pay3]

variable (h2 : ∀ i j, Mixer.Finite (W2 m c i j)) (h5 : ∀ j, Mixer.Finite (W5 m c j)) (h6 : ∀ j, Mixer.Finite (W6 m c j))

include h2 h5 h6

set_option maxHeartbeats 3200000 in
/-- The carried state after the first chunk of a group. -/
theorem state_first (ht : At b g k t) (h : t.val % 32 = 0) (n : Fin 128) (q : Fin 512) :
    (outsAt0 m c t.val t.isLt).2.1 (ix2 n q) = Mixer.state (W1 m c) (W2 m c) (W3 m c) (W4 m c) (W5 m c) (W6 m c) b g (k.1 + 1) n q := by
  have F := fun f => pad_first m c b g k t ht h f
  rw [outsAt0_A m c t h]
  frame_out
  refine (point_state m c b g k t _ _ _ _ ht h2 h5 h6 ?_ _ n q).trans ?_
  · intro l κ
    refine ⟨?_, ?_, ?_, ?_⟩
    · rw [View.readCov_eq_canon', ← View.read_writes_junk_eq_canon (View.whole cc0_scratch1)]
      refine (congrArg (View.read (Elt Ideal) (View.whole cc0_scratch1) _)
        (load_idx 5 _ l κ (by omega))).trans ((F _ _ κ).trans ?_)
      exact congrArg (fun j => rows m c b g j κ) (show k.1 * 128 + (5 + l.1) = k.1 * 128 + (l.1 + 5) by omega)
    · rw [View.readCov_eq_canon', ← View.read_writes_junk_eq_canon (View.whole cc0_scratch1)]
      refine (congrArg (View.read (Elt Ideal) (View.whole cc0_scratch1) _)
        (load_idx 6 _ l κ (by omega))).trans ((F _ _ κ).trans ?_)
      exact congrArg (fun j => rows m c b g j κ) (show k.1 * 128 + (6 + l.1) = k.1 * 128 + (l.1 + 6) by omega)
    · rw [View.readCov_eq_canon', ← View.read_writes_junk_eq_canon (View.whole cc0_scratch1)]
      refine (congrArg (View.read (Elt Ideal) (View.whole cc0_scratch1) _)
        (load_idx 7 _ l κ (by omega))).trans ((F _ _ κ).trans ?_)
      exact congrArg (fun j => rows m c b g j κ) (show k.1 * 128 + (7 + l.1) = k.1 * 128 + (l.1 + 7) by omega)
    · rw [View.readCov_eq_canon', ← View.read_writes_junk_eq_canon (View.whole cc0_scratch1)]
      refine (congrArg (View.read (Elt Ideal) (View.whole cc0_scratch1) _)
        (load_idx 8 _ l κ (by omega))).trans ((F _ _ κ).trans ?_)
      exact congrArg (fun j => rows m c b g j κ) (show k.1 * 128 + (8 + l.1) = k.1 * 128 + (l.1 + 8) by omega)
  · have hk : k.1 = 0 := by unfold At at ht; omega
    rw [state_zero m c b g k hk]
    exact state_succ m c b g k n q

set_option maxHeartbeats 3200000 in
/-- The carried state after a later chunk. -/
theorem state_next (ht : At b g k t) (h : ¬ t.val % 32 = 0)
    (hs : ∀ n q, (outsAt0 m c (before t).val (before t).isLt).2.1 (ix2 n q) = Mixer.state (W1 m c) (W2 m c) (W3 m c) (W4 m c) (W5 m c) (W6 m c) b g k.1 n q) (n : Fin 128) (q : Fin 512) :
    (outsAt0 m c t.val t.isLt).2.1 (ix2 n q) = Mixer.state (W1 m c) (W2 m c) (W3 m c) (W4 m c) (W5 m c) (W6 m c) b g (k.1 + 1) n q := by
  have F := fun f => pad_later m c b g k t ht f
  have pb := pad_before m c b g k t ht h
  rw [outsAt0_B m c t h]
  frame_out
  refine (point_state m c b g k t _ _ _ _ ht h2 h5 h6 ?_ _ n q).trans ?_
  · intro l κ
    refine ⟨?_, ?_, ?_, ?_⟩
    · refine (View.ld_unit_apply_of _ _ _ _ _ (ix2 (⟨5 + l.1, by omega⟩ : Fin 136) κ) ?_).trans ((F _ _ κ (Or.inr fun ρ hρ => ?_)).trans ?_)
      · exact Fin.forall_fin_two.mpr ⟨rfl, (Nat.zero_add _).symm⟩
      · refine (congrFun (read_unread_whole cc0_scratch1 _ _) _).trans (pb ρ hρ κ)
      · exact congrArg (fun j => rows m c b g j κ) (show k.1 * 128 + (5 + l.1) = k.1 * 128 + (l.1 + 5) by omega)
    · refine (View.ld_unit_apply_of _ _ _ _ _ (ix2 (⟨6 + l.1, by omega⟩ : Fin 136) κ) ?_).trans ((F _ _ κ (Or.inr fun ρ hρ => ?_)).trans ?_)
      · exact Fin.forall_fin_two.mpr ⟨rfl, (Nat.zero_add _).symm⟩
      · refine (congrFun (read_unread_whole cc0_scratch1 _ _) _).trans (pb ρ hρ κ)
      · exact congrArg (fun j => rows m c b g j κ) (show k.1 * 128 + (6 + l.1) = k.1 * 128 + (l.1 + 6) by omega)
    · refine (View.ld_unit_apply_of _ _ _ _ _ (ix2 (⟨7 + l.1, by omega⟩ : Fin 136) κ) ?_).trans ((F _ _ κ (Or.inr fun ρ hρ => ?_)).trans ?_)
      · exact Fin.forall_fin_two.mpr ⟨rfl, (Nat.zero_add _).symm⟩
      · refine (congrFun (read_unread_whole cc0_scratch1 _ _) _).trans (pb ρ hρ κ)
      · exact congrArg (fun j => rows m c b g j κ) (show k.1 * 128 + (7 + l.1) = k.1 * 128 + (l.1 + 7) by omega)
    · rw [View.readCov_eq_canon', ← View.read_writes_junk_eq_canon (View.whole cc0_scratch1)]
      refine (congrArg (View.read (Elt Ideal) (View.whole cc0_scratch1) _)
        (load_idx 8 _ l κ (by omega))).trans ((F _ _ κ (Or.inl (by show 8 ≤ 8 + l.1; omega))).trans ?_)
      exact congrArg (fun j => rows m c b g j κ) (show k.1 * 128 + (8 + l.1) = k.1 * 128 + (l.1 + 8) by omega)
  · rw [read_unread_whole cc0_scratch0]
    refine Eq.trans ?_ (state_succ m c b g k n q)
    exact congrArg (fun H => Mixer.blkH (Mixer.cX (W1 m c) (W3 m c) (W4 m c) b g k) (Mixer.cB (W1 m c) (W3 m c) (W4 m c) b g k)
      (Mixer.cD (W2 m c) (W5 m c) b g k) (Mixer.cS (W2 m c) (W5 m c) (W6 m c) b g k) H n q) (funext₂ hs)

/-- The carried state after every point. -/
theorem state_at : ∀ (j : ℕ) (hj : j < 32) (t : Fin cfg0.N), At b g ⟨j, hj⟩ t → ∀ (n : Fin 128) (q : Fin 512),
    (outsAt0 m c t.val t.isLt).2.1 (ix2 n q) = Mixer.state (W1 m c) (W2 m c) (W3 m c) (W4 m c) (W5 m c) (W6 m c) b g (j + 1) n q
  | 0, hj, t, ht, n, q => state_first m c b g ⟨0, hj⟩ t h2 h5 h6 ht (by unfold At at ht; simp only [] at ht; omega) n q
  | j + 1, hj, t, ht, n, q => by
      have h : ¬ t.val % 32 = 0 := by
        unfold At at ht
        simp only [] at ht
        omega
      exact state_next m c b g ⟨j + 1, hj⟩ t h2 h5 h6 ht h
        (fun n q => state_at j (by omega) (before t) (before_at b g ⟨j + 1, hj⟩ t ht h) n q) n q

set_option maxHeartbeats 3200000 in
/-- The rows the first chunk of a group writes. -/
theorem out_first (ht : At b g k t) (h : t.val % 32 = 0) (l : Fin 128) (q : Fin 512) :
    (outsAt0 m c t.val t.isLt).1 (ix2 l q) = Mixer.out (W0 m c) (W1 m c) (W2 m c) (W3 m c) (W4 m c) (W5 m c) (W6 m c) (W7 m c) (W8 m c) b g k l q := by
  have F := fun f => pad_first m c b g k t ht h f
  rw [outsAt0_A m c t h]
  frame_out
  refine (point_out m c b g k t _ _ _ _ ht h2 h5 h6 ?_ _ l q).trans ?_
  · intro l κ
    refine ⟨?_, ?_, ?_, ?_⟩
    · rw [View.readCov_eq_canon', ← View.read_writes_junk_eq_canon (View.whole cc0_scratch1)]
      refine (congrArg (View.read (Elt Ideal) (View.whole cc0_scratch1) _)
        (load_idx 5 _ l κ (by omega))).trans ((F _ _ κ).trans ?_)
      exact congrArg (fun j => rows m c b g j κ) (show k.1 * 128 + (5 + l.1) = k.1 * 128 + (l.1 + 5) by omega)
    · rw [View.readCov_eq_canon', ← View.read_writes_junk_eq_canon (View.whole cc0_scratch1)]
      refine (congrArg (View.read (Elt Ideal) (View.whole cc0_scratch1) _)
        (load_idx 6 _ l κ (by omega))).trans ((F _ _ κ).trans ?_)
      exact congrArg (fun j => rows m c b g j κ) (show k.1 * 128 + (6 + l.1) = k.1 * 128 + (l.1 + 6) by omega)
    · rw [View.readCov_eq_canon', ← View.read_writes_junk_eq_canon (View.whole cc0_scratch1)]
      refine (congrArg (View.read (Elt Ideal) (View.whole cc0_scratch1) _)
        (load_idx 7 _ l κ (by omega))).trans ((F _ _ κ).trans ?_)
      exact congrArg (fun j => rows m c b g j κ) (show k.1 * 128 + (7 + l.1) = k.1 * 128 + (l.1 + 7) by omega)
    · rw [View.readCov_eq_canon', ← View.read_writes_junk_eq_canon (View.whole cc0_scratch1)]
      refine (congrArg (View.read (Elt Ideal) (View.whole cc0_scratch1) _)
        (load_idx 8 _ l κ (by omega))).trans ((F _ _ κ).trans ?_)
      exact congrArg (fun j => rows m c b g j κ) (show k.1 * 128 + (8 + l.1) = k.1 * 128 + (l.1 + 8) by omega)
  · have hk : k.1 = 0 := by unfold At at ht; omega
    rw [state_zero m c b g k hk]
    rfl

set_option maxHeartbeats 3200000 in
/-- The rows a later chunk writes. -/
theorem out_next (ht : At b g k t) (h : ¬ t.val % 32 = 0) (l : Fin 128) (q : Fin 512) :
    (outsAt0 m c t.val t.isLt).1 (ix2 l q) = Mixer.out (W0 m c) (W1 m c) (W2 m c) (W3 m c) (W4 m c) (W5 m c) (W6 m c) (W7 m c) (W8 m c) b g k l q := by
  have F := fun f => pad_later m c b g k t ht f
  have pb := pad_before m c b g k t ht h
  have hs : ∀ n q, (outsAt0 m c (before t).val (before t).isLt).2.1 (ix2 n q) = Mixer.state (W1 m c) (W2 m c) (W3 m c) (W4 m c) (W5 m c) (W6 m c) b g k.1 n q := fun n q => by
    have e : k.1 - 1 + 1 = k.1 := by unfold At at ht; omega
    have := state_at m c b g h2 h5 h6 (k.1 - 1) (by omega) (before t) (before_at b g k t ht h) n q
    rwa [e] at this
  rw [outsAt0_B m c t h]
  frame_out
  refine (point_out m c b g k t _ _ _ _ ht h2 h5 h6 ?_ _ l q).trans ?_
  · intro l κ
    refine ⟨?_, ?_, ?_, ?_⟩
    · refine (View.ld_unit_apply_of _ _ _ _ _ (ix2 (⟨5 + l.1, by omega⟩ : Fin 136) κ) ?_).trans ((F _ _ κ (Or.inr fun ρ hρ => ?_)).trans ?_)
      · exact Fin.forall_fin_two.mpr ⟨rfl, (Nat.zero_add _).symm⟩
      · refine (congrFun (read_unread_whole cc0_scratch1 _ _) _).trans (pb ρ hρ κ)
      · exact congrArg (fun j => rows m c b g j κ) (show k.1 * 128 + (5 + l.1) = k.1 * 128 + (l.1 + 5) by omega)
    · refine (View.ld_unit_apply_of _ _ _ _ _ (ix2 (⟨6 + l.1, by omega⟩ : Fin 136) κ) ?_).trans ((F _ _ κ (Or.inr fun ρ hρ => ?_)).trans ?_)
      · exact Fin.forall_fin_two.mpr ⟨rfl, (Nat.zero_add _).symm⟩
      · refine (congrFun (read_unread_whole cc0_scratch1 _ _) _).trans (pb ρ hρ κ)
      · exact congrArg (fun j => rows m c b g j κ) (show k.1 * 128 + (6 + l.1) = k.1 * 128 + (l.1 + 6) by omega)
    · refine (View.ld_unit_apply_of _ _ _ _ _ (ix2 (⟨7 + l.1, by omega⟩ : Fin 136) κ) ?_).trans ((F _ _ κ (Or.inr fun ρ hρ => ?_)).trans ?_)
      · exact Fin.forall_fin_two.mpr ⟨rfl, (Nat.zero_add _).symm⟩
      · refine (congrFun (read_unread_whole cc0_scratch1 _ _) _).trans (pb ρ hρ κ)
      · exact congrArg (fun j => rows m c b g j κ) (show k.1 * 128 + (7 + l.1) = k.1 * 128 + (l.1 + 7) by omega)
    · rw [View.readCov_eq_canon', ← View.read_writes_junk_eq_canon (View.whole cc0_scratch1)]
      refine (congrArg (View.read (Elt Ideal) (View.whole cc0_scratch1) _)
        (load_idx 8 _ l κ (by omega))).trans ((F _ _ κ (Or.inl (by show 8 ≤ 8 + l.1; omega))).trans ?_)
      exact congrArg (fun j => rows m c b g j κ) (show k.1 * 128 + (8 + l.1) = k.1 * 128 + (l.1 + 8) by omega)
  · rw [read_unread_whole cc0_scratch0, funext₂ hs]
    rfl

/-- The rows every point writes. -/
theorem out_at (ht : At b g k t) (l : Fin 128) (q : Fin 512) :
    (outsAt0 m c t.val t.isLt).1 (ix2 l q) = Mixer.out (W0 m c) (W1 m c) (W2 m c) (W3 m c) (W4 m c) (W5 m c) (W6 m c) (W7 m c) (W8 m c) b g k l q := by
  by_cases h : t.val % 32 = 0
  · exact out_first m c b g k t h2 h5 h6 ht h l q
  · exact out_next m c b g k t h2 h5 h6 ht h l q

end Cert.KernelIdeal.Mixer

end
-- ==== Proof.KernelArray.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.WordCmp
public import proofs.«01_k».proof.Proof.KernelState

@[expose] public section

set_option maxRecDepth 16384

noncomputable section

namespace Cert.KernelIdeal.Mixer

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

variable (c : Dev nD)

/-- The mixer's result as an array: row `i 0` is row `l` of chunk `k` of sequence `b`, column `i 1` is
channel `q` of group `g`. -/
def result : S8192x4096.Idx → EReal := fun i =>
  Mixer.out (W0 m c) (W1 m c) (W2 m c) (W3 m c) (W4 m c) (W5 m c) (W6 m c) (W7 m c) (W8 m c)
    ⟨(i 0).val / 4096, Nat.div_lt_of_lt_mul (i 0).isLt⟩ ⟨(i 1).val / 512, Nat.div_lt_of_lt_mul (i 1).isLt⟩
    ⟨(i 0).val % 4096 / 128, by omega⟩ ⟨(i 0).val % 128, by omega⟩ ⟨(i 1).val % 512, by omega⟩

/-- The result at a row of a chunk and a channel of a group. -/
theorem result_apply (b : Fin 2) (g : Fin 8) (k : Fin 32) (l : Fin 128) (q : Fin 512) :
    result m c (ix2 (Mixer.flat b (Mixer.rowOf k l)) (Mixer.grpCol g q)) =
      Mixer.out (W0 m c) (W1 m c) (W2 m c) (W3 m c) (W4 m c) (W5 m c) (W6 m c) (W7 m c) (W8 m c) b g k l q := by
  have hb := b.isLt
  have hg := g.isLt
  have hk := k.isLt
  have hl := l.isLt
  have hq := q.isLt
  have e1 : (b.1 * 4096 + (k.1 * 128 + l.1)) / 4096 = b.1 := by omega
  have e2 : (g.1 * 512 + q.1) / 512 = g.1 := by omega
  have e3 : (b.1 * 4096 + (k.1 * 128 + l.1)) % 4096 / 128 = k.1 := by omega
  have e4 : (b.1 * 4096 + (k.1 * 128 + l.1)) % 128 = l.1 := by omega
  have e5 : (g.1 * 512 + q.1) % 512 = q.1 := by omega
  have a1 : (⟨(b.1 * 4096 + (k.1 * 128 + l.1)) / 4096, by omega⟩ : Fin 2) = b := Fin.ext e1
  have a2 : (⟨(g.1 * 512 + q.1) / 512, by omega⟩ : Fin 8) = g := Fin.ext e2
  have a3 : (⟨(b.1 * 4096 + (k.1 * 128 + l.1)) % 4096 / 128, by omega⟩ : Fin 32) = k := Fin.ext e3
  have a4 : (⟨(b.1 * 4096 + (k.1 * 128 + l.1)) % 128, by omega⟩ : Fin 128) = l := Fin.ext e4
  have a5 : (⟨(g.1 * 512 + q.1) % 512, by omega⟩ : Fin 512) = q := Fin.ext e5
  show Mixer.out (W0 m c) (W1 m c) (W2 m c) (W3 m c) (W4 m c) (W5 m c) (W6 m c) (W7 m c) (W8 m c)
    ⟨(b.1 * 4096 + (k.1 * 128 + l.1)) / 4096, _⟩ ⟨(g.1 * 512 + q.1) / 512, _⟩
    ⟨(b.1 * 4096 + (k.1 * 128 + l.1)) % 4096 / 128, _⟩ ⟨(b.1 * 4096 + (k.1 * 128 + l.1)) % 128, _⟩ ⟨(g.1 * 512 + q.1) % 512, _⟩ = _
  rw [a1, a2, a3, a4, a5]

variable (h2 : ∀ i j, Mixer.Finite (W2 m c i j)) (h5 : ∀ j, Mixer.Finite (W5 m c j)) (h6 : ∀ j, Mixer.Finite (W6 m c j))

include h2 h5 h6

/-- The kernel's result array is the mixer's. -/
theorem final : (dats m 0 c).arrAt 17 cfg0.N = result m c := by
  refine (dats m 0 c).arrAt_eq_of_covers 17 _ (by decide +kernel) fun t hf y => ?_
  have hN : t.val < 512 := t.isLt
  blk_simp
  rw [after0_17]
  rw [eq_ix2 y]
  have ht : At ⟨t.val / 256, by omega⟩ ⟨t.val / 32 % 8, by omega⟩ ⟨t.val % 32, by omega⟩ t := by
    show t.val = (t.val / 256 * 8 + t.val / 32 % 8) * 32 + t.val % 32
    omega
  refine (out_at m c _ _ _ t h2 h5 h6 ht (y 0) (y 1)).trans ?_
  refine Eq.trans ?_ (congrArg (result m c) (blk17 _ _ _ t ht (y 0) (y 1))).symm
  exact (result_apply m c _ _ _ _ _).symm

end Cert.KernelIdeal.Mixer

end
-- ==== Proof.RefStages.lean ====
module

public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Mixer

open Cert.ReferenceIdeal Cert.ReferenceIdeal.Gen Cert.ReferenceIdeal.Value Idealize.ShloMosaic Idealize.ShloMosaic.TcCoe Idealize.SL.Sem

/-- The raw channels of every sequence with three rows of zeros in front. -/
def padRows (x1 : FVec Ideal S8192x6144 .f32) : FVec Ideal S2x4099x6144 .f32 :=
  pad S2x4099x6144 ![0, 3, 0] ![0, 0, 0] ![0, 0, 0] (shapeCast _ x1 shapeCasts_S8192x6144_S2x4096x6144) (sitofp .f32 (constantI S_ 32 0#32)) pads_S2x4096x6144_S2x4099x6144_000_300_000 h_S_

/-- The causal depthwise convolution: four shifted products and the bias. -/
def conv (padded : FVec Ideal S2x4099x6144 .f32) (x3 : FVec Ideal S6144x4 .f32) (x4 : FVec Ideal S6144 .f32) : FVec Ideal S2x4096x6144 .f32 :=
  addf (addf (addf (addf (addf (broadcastInDim S2x4096x6144 ![] bcast_S_S2x4096x6144 (constant S_ .f32 0x00000000#32)) (mulf (extractStridedSlice S2x4096x6144 ![0, 0, 0] padded slices_S2x4099x6144_S2x4096x6144_0_0_0) (broadcastInDim S2x4096x6144 ![0, 1, 2] bcast_S1x1x6144_S2x4096x6144_0_1_2 (broadcastInDim S1x1x6144 ![2] bcast_S6144_S1x1x6144_2 (shapeCast _ (extractStridedSlice S6144x1 ![0, 0] x3 slices_S6144x4_S6144x1_0_0) shapeCasts_S6144x1_S6144))))) (mulf (extractStridedSlice S2x4096x6144 ![0, 1, 0] padded slices_S2x4099x6144_S2x4096x6144_0_1_0) (broadcastInDim S2x4096x6144 ![0, 1, 2] bcast_S1x1x6144_S2x4096x6144_0_1_2 (broadcastInDim S1x1x6144 ![2] bcast_S6144_S1x1x6144_2 (shapeCast _ (extractStridedSlice S6144x1 ![0, 1] x3 slices_S6144x4_S6144x1_0_1) shapeCasts_S6144x1_S6144))))) (mulf (extractStridedSlice S2x4096x6144 ![0, 2, 0] padded slices_S2x4099x6144_S2x4096x6144_0_2_0) (broadcastInDim S2x4096x6144 ![0, 1, 2] bcast_S1x1x6144_S2x4096x6144_0_1_2 (broadcastInDim S1x1x6144 ![2] bcast_S6144_S1x1x6144_2 (shapeCast _ (extractStridedSlice S6144x1 ![0, 2] x3 slices_S6144x4_S6144x1_0_2) shapeCasts_S6144x1_S6144))))) (mulf (extractStridedSlice S2x4096x6144 ![0, 3, 0] padded slices_S2x4099x6144_S2x4096x6144_0_3_0) (broadcastInDim S2x4096x6144 ![0, 1, 2] bcast_S1x1x6144_S2x4096x6144_0_1_2 (broadcastInDim S1x1x6144 ![2] bcast_S6144_S1x1x6144_2 (shapeCast _ (extractStridedSlice S6144x1 ![0, 3] x3 slices_S6144x4_S6144x1_0_3) shapeCasts_S6144x1_S6144))))) (broadcastInDim S2x4096x6144 ![0, 1, 2] bcast_S1x1x6144_S2x4096x6144_0_1_2 (broadcastInDim S1x1x6144 ![2] bcast_S6144_S1x1x6144_2 x4))

/-- `silu` of the convolution. -/
def act (pre : FVec Ideal S2x4096x6144 .f32) : FVec Ideal S2x4096x6144 .f32 :=
  mulf pre (Host.divf (broadcastInDim S2x4096x6144 ![] bcast_S_S2x4096x6144 (constant S_ .f32 0x3F800000#32)) (addf (broadcastInDim S2x4096x6144 ![] bcast_S_S2x4096x6144 (constant S_ .f32 0x3F800000#32)) (Host.exp (Host.negf pre))))

/-- The step sizes: `softplus` of the raw steps and their bias, per group and head. -/
def steps (x2 : FVec Ideal S8192x64 .f32) (x5 : FVec Ideal S64 .f32) : FVec Ideal S2x4096x8x8 .f32 :=
  shapeCast _ (select (cmpf .une (subf (addf (shapeCast _ x2 shapeCasts_S8192x64_S2x4096x64) (broadcastInDim S2x4096x64 ![0, 1, 2] bcast_S1x1x64_S2x4096x64_0_1_2 (broadcastInDim S1x1x64 ![2] bcast_S64_S1x1x64_2 x5))) (broadcastInDim S2x4096x64 ![] bcast_S_S2x4096x64 (constant S_ .f32 0x00000000#32))) (subf (addf (shapeCast _ x2 shapeCasts_S8192x64_S2x4096x64) (broadcastInDim S2x4096x64 ![0, 1, 2] bcast_S1x1x64_S2x4096x64_0_1_2 (broadcastInDim S1x1x64 ![2] bcast_S64_S1x1x64_2 x5))) (broadcastInDim S2x4096x64 ![] bcast_S_S2x4096x64 (constant S_ .f32 0x00000000#32)))) (addf (addf (shapeCast _ x2 shapeCasts_S8192x64_S2x4096x64) (broadcastInDim S2x4096x64 ![0, 1, 2] bcast_S1x1x64_S2x4096x64_0_1_2 (broadcastInDim S1x1x64 ![2] bcast_S64_S1x1x64_2 x5))) (broadcastInDim S2x4096x64 ![] bcast_S_S2x4096x64 (constant S_ .f32 0x00000000#32))) (addf (maximumf (addf (shapeCast _ x2 shapeCasts_S8192x64_S2x4096x64) (broadcastInDim S2x4096x64 ![0, 1, 2] bcast_S1x1x64_S2x4096x64_0_1_2 (broadcastInDim S1x1x64 ![2] bcast_S64_S1x1x64_2 x5))) (broadcastInDim S2x4096x64 ![] bcast_S_S2x4096x64 (constant S_ .f32 0x00000000#32))) (Host.log1p (Host.exp (Host.negf (Host.absf (subf (addf (shapeCast _ x2 shapeCasts_S8192x64_S2x4096x64) (broadcastInDim S2x4096x64 ![0, 1, 2] bcast_S1x1x64_S2x4096x64_0_1_2 (broadcastInDim S1x1x64 ![2] bcast_S64_S1x1x64_2 x5))) (broadcastInDim S2x4096x64 ![] bcast_S_S2x4096x64 (constant S_ .f32 0x00000000#32))))))))) shapeCasts_S2x4096x64_S2x4096x8x8

/-- The running sums of the decays inside each chunk. -/
def decaySums (d : FVec Ideal S2x4096x8x8 .f32) (x6 : FVec Ideal S64 .f32) : FVec Ideal S2x32x8x8x128 .f32 :=
  Host.reduceWindowAdd ![1, 1, 1, 1, 128] ![1, 1, 1, 1, 1] ![0, 0, 0, 0, 127] ![0, 0, 0, 0, 0] (transpose S2x32x8x8x128 [0, 1, 3, 4, 2] (shapeCast _ (mulf d (broadcastInDim S2x4096x8x8 ![0, 1, 2, 3] bcast_S1x1x8x8_S2x4096x8x8_0_1_2_3 (broadcastInDim S1x1x8x8 ![2, 3] bcast_S8x8_S1x1x8x8_2_3 (Host.negf (shapeCast _ (Host.exp x6) shapeCasts_S64_S8x8))))) shapeCasts_S2x4096x8x8_S2x32x128x8x8) transposes_S2x32x128x8x8_S2x32x8x8x128_0_1_3_4_2) (broadcastInDim S_ ![] bcast_S_S_ (constant S_ .f32 0x00000000#32)) reduceWindows_S2x32x8x8x128_S2x32x8x8x128_w1s1p0_0_w1s1p0_0_w1s1p0_0_w1s1p0_0_w128s1p127_0 h_S_

/-- The mixer input of each head. -/
def heads (v : FVec Ideal S2x4096x6144 .f32) : FVec Ideal S2x4096x8x8x64 .f32 :=
  shapeCast _ (extractStridedSlice S2x4096x4096 ![0, 0, 0] v slices_S2x4096x6144_S2x4096x4096_0_0_0) shapeCasts_S2x4096x4096_S2x4096x8x8x64

/-- The input maps `B`, cut into chunks. -/
def inMaps (v : FVec Ideal S2x4096x6144 .f32) : FVec Ideal S2x32x128x8x128 .f32 :=
  shapeCast _ (shapeCast _ (extractStridedSlice S2x4096x1024 ![0, 0, 4096] v slices_S2x4096x6144_S2x4096x1024_0_0_4096) shapeCasts_S2x4096x1024_S2x4096x8x128) shapeCasts_S2x4096x8x128_S2x32x128x8x128

/-- The output maps `C`, cut into chunks. -/
def outMaps (v : FVec Ideal S2x4096x6144 .f32) : FVec Ideal S2x32x128x8x128 .f32 :=
  shapeCast _ (shapeCast _ (extractStridedSlice S2x4096x1024 ![0, 0, 5120] v slices_S2x4096x6144_S2x4096x1024_0_0_5120) shapeCasts_S2x4096x1024_S2x4096x8x128) shapeCasts_S2x4096x8x128_S2x32x128x8x128

/-- The mixer input times the step size, cut into chunks. -/
def stepped (xs : FVec Ideal S2x4096x8x8x64 .f32) (d : FVec Ideal S2x4096x8x8 .f32) : FVec Ideal S2x32x128x8x8x64 .f32 :=
  shapeCast _ (mulf xs (broadcastInDim S2x4096x8x8x64 ![0, 1, 2, 3, 4] bcast_S2x4096x8x8x1_S2x4096x8x8x64_0_1_2_3_4 (broadcastInDim S2x4096x8x8x1 ![0, 1, 2, 3] bcast_S2x4096x8x8_S2x4096x8x8x1_0_1_2_3 d))) shapeCasts_S2x4096x8x8x64_S2x32x128x8x8x64

/-- The scores `C · B` inside a chunk. -/
def scores (cmv : FVec Ideal S2x32x128x8x128 .f32) (bmv : FVec Ideal S2x32x128x8x128 .f32) : FVec Ideal S2x32x8x128x128 .f32 :=
  Host.dotGeneral dot_S2x32x128x8x128_S2x32x128x8x128_S2x32x8x128x128_4_4_2_2_013_013 none cmv bmv

/-- The decay between two positions of a chunk, zero above the diagonal. -/
def decayMask (a : FVec Ideal S2x32x8x8x128 .f32) : FVec Ideal S2x32x8x8x128x128 .f32 :=
  select (broadcastInDim S2x32x8x8x128x128 ![4, 5] bcast_S128x128_S2x32x8x8x128x128_4_5 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (Host.exp (select (broadcastInDim S2x32x8x8x128x128 ![4, 5] bcast_S128x128_S2x32x8x8x128x128_4_5 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (subf (broadcastInDim S2x32x8x8x128x128 ![0, 1, 2, 3, 4, 5] bcast_S2x32x8x8x128x1_S2x32x8x8x128x128_0_1_2_3_4_5 (broadcastInDim S2x32x8x8x128x1 ![0, 1, 2, 3, 4] bcast_S2x32x8x8x128_S2x32x8x8x128x1_0_1_2_3_4 a)) (broadcastInDim S2x32x8x8x128x128 ![0, 1, 2, 3, 4, 5] bcast_S2x32x8x8x1x128_S2x32x8x8x128x128_0_1_2_3_4_5 (broadcastInDim S2x32x8x8x1x128 ![0, 1, 2, 3, 5] bcast_S2x32x8x8x128_S2x32x8x8x1x128_0_1_2_3_5 a))) (broadcastInDim S2x32x8x8x128x128 ![] bcast_S_S2x32x8x8x128x128 (id (constant S_ .f32 0x00000000#32))))) (broadcastInDim S2x32x8x8x128x128 ![] bcast_S_S2x32x8x8x128x128 (id (constant S_ .f32 0x00000000#32)))

/-- What a chunk contributes to its own outputs. -/
def inChunk (xd : FVec Ideal S2x32x128x8x8x64 .f32) (sc : FVec Ideal S2x32x8x128x128 .f32) (sg : FVec Ideal S2x32x8x8x128x128 .f32) : FVec Ideal S2x32x128x8x8x64 .f32 :=
  transpose S2x32x128x8x8x64 [0, 1, 5, 2, 3, 4] (Host.dotGeneral dot_S2x32x128x8x8x64_S2x32x8x8x128x128_S2x32x8x8x64x128_2_5_5_4_0134_0123 none xd (mulf (broadcastInDim S2x32x8x8x128x128 ![0, 1, 2, 3, 4, 5] bcast_S2x32x8x1x128x128_S2x32x8x8x128x128_0_1_2_3_4_5 (broadcastInDim S2x32x8x1x128x128 ![0, 1, 2, 4, 5] bcast_S2x32x8x128x128_S2x32x8x1x128x128_0_1_2_4_5 sc)) sg)) transposes_S2x32x8x8x64x128_S2x32x128x8x8x64_0_1_5_2_3_4

/-- What the state entering a chunk contributes to its outputs. -/
def fromState (prev : FVec Ideal S32x2x8x8x64x128 .f32) (cmv : FVec Ideal S2x32x128x8x128 .f32) (a : FVec Ideal S2x32x8x8x128 .f32) : FVec Ideal S2x32x128x8x8x64 .f32 :=
  mulf (transpose S2x32x128x8x8x64 [0, 1, 5, 2, 3, 4] (Host.dotGeneral dot_S2x32x8x8x64x128_S2x32x128x8x128_S2x32x8x8x64x128_5_4_34_2_012_013 none (transpose S2x32x8x8x64x128 [1, 0, 2, 3, 4, 5] prev transposes_S32x2x8x8x64x128_S2x32x8x8x64x128_1_0_2_3_4_5) cmv) transposes_S2x32x8x8x64x128_S2x32x128x8x8x64_0_1_5_2_3_4) (broadcastInDim S2x32x128x8x8x64 ![0, 1, 2, 3, 4, 5] bcast_S2x32x128x8x8x1_S2x32x128x8x8x64_0_1_2_3_4_5 (broadcastInDim S2x32x128x8x8x1 ![0, 1, 2, 3, 4] bcast_S2x32x128x8x8_S2x32x128x8x8x1_0_1_2_3_4 (transpose S2x32x128x8x8 [0, 1, 4, 2, 3] (Host.exp a) transposes_S2x32x8x8x128_S2x32x128x8x8_0_1_4_2_3)))

/-- The mixer output with the skip term. -/
def mixed (di : FVec Ideal S2x32x128x8x8x64 .f32) (off : FVec Ideal S2x32x128x8x8x64 .f32) (x7 : FVec Ideal S64 .f32) (xs : FVec Ideal S2x4096x8x8x64 .f32) : FVec Ideal S2x4096x8x8x64 .f32 :=
  addf (shapeCast _ (addf di off) shapeCasts_S2x32x128x8x8x64_S2x4096x8x8x64) (mulf (broadcastInDim S2x4096x8x8x64 ![0, 1, 2, 3, 4] bcast_S1x1x8x8x1_S2x4096x8x8x64_0_1_2_3_4 (broadcastInDim S1x1x8x8x1 ![2, 3, 4] bcast_S8x8x1_S1x1x8x8x1_2_3_4 (broadcastInDim S8x8x1 ![0, 1] bcast_S8x8_S8x8x1_0_1 (shapeCast _ x7 shapeCasts_S64_S8x8)))) xs)

/-- The gated output, per group. -/
def gated (y : FVec Ideal S2x4096x8x8x64 .f32) (x0 : FVec Ideal S8192x4096 .f32) : FVec Ideal S2x4096x8x512 .f32 :=
  shapeCast _ (mulf (shapeCast _ y shapeCasts_S2x4096x8x8x64_S2x4096x4096) (mulf (shapeCast _ x0 shapeCasts_S8192x4096_S2x4096x4096) (Host.divf (broadcastInDim S2x4096x4096 ![] bcast_S_S2x4096x4096 (constant S_ .f32 0x3F800000#32)) (addf (broadcastInDim S2x4096x4096 ![] bcast_S_S2x4096x4096 (constant S_ .f32 0x3F800000#32)) (Host.exp (Host.negf (shapeCast _ x0 shapeCasts_S8192x4096_S2x4096x4096))))))) shapeCasts_S2x4096x4096_S2x4096x8x512

/-- The group norm of the gated output, rounded to the result's format. -/
def normed (u : FVec Ideal S2x4096x8x512 .f32) (x8 : FVec Ideal S4096 .f32) : FVec Ideal S8192x4096 .bf16 :=
  truncf .bf16 (shapeCast _ (mulf (shapeCast _ (mulf u (broadcastInDim S2x4096x8x512 ![0, 1, 2, 3] bcast_S2x4096x8x1_S2x4096x8x512_0_1_2_3 (Host.rsqrt (addf (Host.divf (broadcastInDim S2x4096x8x1 ![0, 1, 2] bcast_S2x4096x8_S2x4096x8x1_0_1_2 (Host.reduceAdd (mulf u u) (constant S_ .f32 0x00000000#32) reducesTo_S2x4096x8x512_S2x4096x8_d3 h_S_)) (broadcastInDim S2x4096x8x1 ![] bcast_S_S2x4096x8x1 (constant S_ .f32 0x44000000#32))) (broadcastInDim S2x4096x8x1 ![] bcast_S_S2x4096x8x1 (constant S_ .f32 0x3727C5AC#32)))))) shapeCasts_S2x4096x8x512_S2x4096x4096) (broadcastInDim S2x4096x4096 ![0, 1, 2] bcast_S1x1x4096_S2x4096x4096_0_1_2 (broadcastInDim S1x1x4096 ![2] bcast_S4096_S1x1x4096_2 x8))) shapeCasts_S2x4096x4096_S8192x4096) bitsLt_bf16_f32

/-- The activated channels of the arguments. -/
def chans (x1 : FVec Ideal S8192x6144 .f32) (x3 : FVec Ideal S6144x4 .f32) (x4 : FVec Ideal S6144 .f32) : FVec Ideal S2x4096x6144 .f32 :=
  act (conv (padRows x1) x3 x4)

/-- What the operations after the loop make of the arguments and of the states entering each chunk. -/
def result (x0 : FVec Ideal S8192x4096 .f32) (x1 : FVec Ideal S8192x6144 .f32) (x2 : FVec Ideal S8192x64 .f32) (x3 : FVec Ideal S6144x4 .f32)
    (x4 : FVec Ideal S6144 .f32) (x5 x6 x7 : FVec Ideal S64 .f32) (x8 : FVec Ideal S4096 .f32) (prev : FVec Ideal S32x2x8x8x64x128 .f32) :
    FVec Ideal S8192x4096 .bf16 :=
  normed (gated (mixed
      (inChunk (stepped (heads (chans x1 x3 x4)) (steps x2 x5)) (scores (outMaps (chans x1 x3 x4)) (inMaps (chans x1 x3 x4)))
        (decayMask (decaySums (steps x2 x5) x6)))
      (fromState prev (outMaps (chans x1 x3 x4)) (decaySums (steps x2 x5) x6)) x7 (heads (chans x1 x3 x4))) x0) x8

/-- The generated result term is `result` of the buffers it starts from. -/
theorem out_eq (V0 : Valuation τ sig (Elt Ideal)) :
    out_main_v193 V0 = result (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_v78_4)) := rfl

end Cert.ReferenceIdeal.Mixer
end
-- ==== Proof.RefRead.lean ====
module

public import proofs.«01_k».proof.Proof.RefStages
public import proofs.«01_k».proof.Proof.Spec
public import Idealize.ShloMosaic.Lib.Pointwise
public import Idealize.ShloMosaic.Lib.WordCmp
public import Idealize.ShloMosaic.Lib.Claim

@[expose] public section

set_option maxRecDepth 16384

noncomputable section

namespace Cert.ReferenceIdeal.Mixer

open Cert.ReferenceIdeal Cert.ReferenceIdeal.Gen Cert.ReferenceIdeal.Value Idealize.ShloMosaic Idealize.ShloMosaic.TcCoe Idealize.SL.Sem

/-- A left fold of a sum from zero is the sum. -/
theorem foldl_add_eq_sum {n : ℕ} (f : Fin n → EReal) : (List.finRange n).foldl (fun r i => r + f i) 0 = ∑ i, f i := by
  rw [Fin.sum_univ_def, List.sum_eq_foldl, List.foldl_map]

/-- The coordinates of position `n` of a window of 128 elements along the last of five axes. -/
theorem window_coord (n : Fin (⟨5, ![1, 1, 1, 1, 128]⟩ : Shape).numel) :
    (((⟨5, ![1, 1, 1, 1, 128]⟩ : Shape).rowMajor.symm n) 0).val = 0 ∧ (((⟨5, ![1, 1, 1, 1, 128]⟩ : Shape).rowMajor.symm n) 1).val = 0
      ∧ (((⟨5, ![1, 1, 1, 1, 128]⟩ : Shape).rowMajor.symm n) 2).val = 0 ∧ (((⟨5, ![1, 1, 1, 1, 128]⟩ : Shape).rowMajor.symm n) 3).val = 0
      ∧ (((⟨5, ![1, 1, 1, 1, 128]⟩ : Shape).rowMajor.symm n) 4).val = n.val := by
  have h := Shape.rowMajor_val_five ((⟨5, ![1, 1, 1, 1, 128]⟩ : Shape).rowMajor.symm n)
  rw [Equiv.apply_symm_apply] at h
  generalize (⟨5, ![1, 1, 1, 1, 128]⟩ : Shape).rowMajor.symm n = i at h ⊢
  have h0 : (i 0).val < 1 := (i 0).isLt
  have h1 : (i 1).val < 1 := (i 1).isLt
  have h2 : (i 2).val < 1 := (i 2).isLt
  have h3 : (i 3).val < 1 := (i 3).isLt
  have h4 : n.val = ((((i 0).val * 1 + (i 1).val) * 1 + (i 2).val) * 1 + (i 3).val) * 128 + (i 4).val := h
  omega

/-- The sum over a trailing window of 128 along the last axis, from zero, is the sum of the entries up to the current one. -/
theorem windowSum_apply (x : FVec Ideal S2x32x8x8x128 .f32) (init : FVec Ideal S_ .f32) (h0 : init ix0 = 0)
    (b : Fin 2) (c : Fin 32) (g r : Fin 8) (l : Fin 128) :
    Host.reduceWindowAdd ![1, 1, 1, 1, 128] ![1, 1, 1, 1, 1] ![0, 0, 0, 0, 127] ![0, 0, 0, 0, 0] x init
        reduceWindows_S2x32x8x8x128_S2x32x8x8x128_w1s1p0_0_w1s1p0_0_w1s1p0_0_w1s1p0_0_w128s1p127_0 h_S_ (ix5 b c g r l)
      = ∑ k : Fin 128, if k.1 ≤ l.1 then x (ix5 b c g r k) else 0 := by
  have hi : init (Shape.Idx.first h_S_) = 0 := (congrArg init (funext fun a => a.elim0)).trans h0
  unfold Host.reduceWindowAdd
  rw [Ideal.hostReduceWindowAdd_def, hi]
  unfold Ideal.hostReduceWindowAdd Host.reduceWindow
  refine (foldl_add_eq_sum _).trans ?_
  refine Fintype.sum_equiv ((finCongr (show (⟨5, ![1, 1, 1, 1, 128]⟩ : Shape).numel = 128 by decide)).trans (Equiv.addRight (l + 1))) _ _ fun n => ?_
  obtain ⟨w0, w1, w2, w3, w4⟩ := window_coord n
  have hn : n.val < 128 := n.isLt
  have hl := l.isLt
  have hk : (((finCongr (show (⟨5, ![1, 1, 1, 1, 128]⟩ : Shape).numel = 128 by decide)).trans (Equiv.addRight (l + 1))) n).val = (n.val + (l.val + 1)) % 128 := by
    show (n.val + (l.val + 1) % 128) % 128 = _
    omega
  generalize ((finCongr (show (⟨5, ![1, 1, 1, 1, 128]⟩ : Shape).numel = 128 by decide)).trans (Equiv.addRight (l + 1))) n = k at hk ⊢
  by_cases hc : 127 ≤ l.val + n.val
  · rw [if_pos (by omega), dif_pos ?_]
    · refine congrArg x (funext fun a => Fin.ext ?_)
      match a with
      | ⟨0, _⟩ => show b.val * 1 + _ - 0 = b.val; erw [w0]; omega
      | ⟨1, _⟩ => show c.val * 1 + _ - 0 = c.val; erw [w1]; omega
      | ⟨2, _⟩ => show g.val * 1 + _ - 0 = g.val; erw [w2]; omega
      | ⟨3, _⟩ => show r.val * 1 + _ - 0 = r.val; erw [w3]; omega
      | ⟨4, _⟩ => show l.val * 1 + _ - 127 = k.val; erw [w4]; omega
    · intro a
      match a with
      | ⟨0, _⟩ => show 0 ≤ b.val * 1 + _ ∧ b.val * 1 + _ - 0 < 2; erw [w0]; omega
      | ⟨1, _⟩ => show 0 ≤ c.val * 1 + _ ∧ c.val * 1 + _ - 0 < 32; erw [w1]; omega
      | ⟨2, _⟩ => show 0 ≤ g.val * 1 + _ ∧ g.val * 1 + _ - 0 < 8; erw [w2]; omega
      | ⟨3, _⟩ => show 0 ≤ r.val * 1 + _ ∧ r.val * 1 + _ - 0 < 8; erw [w3]; omega
      | ⟨4, _⟩ => show 127 ≤ l.val * 1 + _ ∧ l.val * 1 + _ - 127 < 128; erw [w4]; omega
  · rw [if_neg (by omega), dif_neg ?_]
    intro hin
    have := hin 4
    change 127 ≤ l.val * 1 + _ ∧ _ at this
    erw [w4] at this
    omega

/-- An entry of the padded rows is the row the convolution meets, zero in front of the sequence. -/
theorem pad_eq_raw (x1 : FVec Ideal S8192x6144 .f32) (b : Fin 2) (j k : ℕ) (hk : j + 5 = k) (ch : Fin 6144) :
    (if h : 3 ≤ j ∧ j - 3 < 4096 then x1 (ix2 (⟨b.1 * 4096 + (j - 3), by omega⟩ : Fin 8192) ch) else (FloatOps.sitofp (F := Ideal) FTy.f32 0#32))
      = Mixer.raw (fun i j => x1 (ix2 i j)) b k ch := by
  subst hk
  unfold Mixer.raw Mixer.flat
  have e : j + 5 - 8 = j - 3 := by omega
  by_cases h : 3 ≤ j ∧ j - 3 < 4096
  · rw [dif_pos h, dif_pos (by omega)]
    simp only [e]
  · rw [dif_neg h, dif_neg (by omega)]
    show ((((0#32 : BitVec 32).toInt : ℝ) : EReal)) = 0
    simp

/-- A row inside the sequence. -/
theorem raw_inside (x1 : FVec Ideal S8192x6144 .f32) (b : Fin 2) (s : Fin 4096) (ch : Fin 6144) :
    Mixer.raw (fun i j => x1 (ix2 i j)) b (s.1 + 8) ch = x1 (ix2 (⟨b.1 * 4096 + s.1, by omega⟩ : Fin 8192) ch) := by
  unfold Mixer.raw Mixer.flat
  rw [dif_pos (by omega)]
  simp only [Nat.add_sub_cancel]

/-- Adding the bias first or last is the same. -/
theorem bias_last (p0 p1 p2 p3 v : EReal) : p0 + p1 + p2 + p3 + v = v + p0 + p1 + p2 + p3 := by
  ac_rfl

/-- A convolved channel of the reference. -/
theorem chans_apply (x1 : FVec Ideal S8192x6144 .f32) (x3 : FVec Ideal S6144x4 .f32) (x4 : FVec Ideal S6144 .f32)
    (b : Fin 2) (s : Fin 4096) (ch : Fin 6144) :
    chans x1 x3 x4 (ix3 b s ch) = Mixer.chan (fun i j => x1 (ix2 i j)) (fun i j => x3 (ix2 i j)) (fun i => x4 (ix1 i)) b s ch := by
  unfold Mixer.chan Mixer.tap4 Mixer.silu Ideal.logistic
  pointwise [chans, act, conv, padRows]
  rw [pad_eq_raw x1 b s.1 (s.1 + 5) rfl ch, pad_eq_raw x1 b (1 + s.1) (s.1 + 6) (by omega) ch,
    pad_eq_raw x1 b (2 + s.1) (s.1 + 7) (by omega) ch, ← raw_inside x1 b s ch]
  rw [bias_last]

/-- A step size of the reference. -/
theorem steps_apply (x2 : FVec Ideal S8192x64 .f32) (x5 : FVec Ideal S64 .f32) (b : Fin 2) (s : Fin 4096) (g r : Fin 8) :
    steps x2 x5 (ix4 b s g r) = Mixer.step (fun i j => x2 (ix2 i j)) (fun i => x5 (ix1 i)) b s (Mixer.headCol g r) := by
  unfold Mixer.step Mixer.softplus
  pointwise [steps]
  rw [if_neg (fun h => h rfl)]
  rfl

/-- The accumulated decay exponents of the reference. -/
theorem decaySums_apply (d : FVec Ideal S2x4096x8x8 .f32) (x6 : FVec Ideal S64 .f32) (b : Fin 2) (c : Fin 32) (g r : Fin 8) (l : Fin 128) :
    decaySums d x6 (ix5 b c g r l) = Mixer.cum (fun k => d (ix4 b (Mixer.rowOf c k) g r)) (x6 (ix1 (Mixer.headCol g r))) l := by
  unfold decaySums Mixer.cum
  rw [windowSum_apply _ _ (by pointwise [])]
  refine Finset.sum_congr rfl fun k _ => ?_
  pointwise []
  rfl

/-- A head's entry of the reference. -/
theorem heads_apply (v : FVec Ideal S2x4096x6144 .f32) (b : Fin 2) (s : Fin 4096) (g r : Fin 8) (p : Fin 64) (q : Fin 512) (hq : r.1 * 64 + p.1 = q.1) :
    heads v (ix5 b s g r p) = v (ix3 b s (Mixer.colX g q)) := by
  pointwise [heads]
  refine congrArg v (congrArg (ix3 b s) (Fin.ext ?_))
  show g.1 * 512 + r.1 * 64 + p.1 = g.1 * 512 + q.1
  omega

/-- An entry of the input maps of the reference. -/
theorem inMaps_apply (v : FVec Ideal S2x4096x6144 .f32) (b : Fin 2) (c : Fin 32) (l : Fin 128) (g : Fin 8) (n : Fin 128) :
    inMaps v (ix5 b c l g n) = v (ix3 b (Mixer.rowOf c l) (Mixer.colB g n)) := by
  pointwise [inMaps]
  rfl

/-- An entry of the output maps of the reference. -/
theorem outMaps_apply (v : FVec Ideal S2x4096x6144 .f32) (b : Fin 2) (c : Fin 32) (l : Fin 128) (g : Fin 8) (n : Fin 128) :
    outMaps v (ix5 b c l g n) = v (ix3 b (Mixer.rowOf c l) (Mixer.colC g n)) := by
  pointwise [outMaps]
  rfl

/-- A stepped entry of the reference. -/
theorem stepped_apply (xs : FVec Ideal S2x4096x8x8x64 .f32) (d : FVec Ideal S2x4096x8x8 .f32) (b : Fin 2) (c : Fin 32) (l : Fin 128) (g r : Fin 8) (p : Fin 64) :
    stepped xs d (ix6 b c l g r p) = xs (ix5 b (Mixer.rowOf c l) g r p) * d (ix4 b (Mixer.rowOf c l) g r) := by
  pointwise [stepped]
  rfl

/-- A score of the reference. -/
theorem scores_apply (C B : FVec Ideal S2x32x128x8x128 .f32) (b : Fin 2) (c : Fin 32) (g : Fin 8) (l s : Fin 128) :
    scores C B (ix5 b c g l s) = ∑ x : Fin 128, C (ix5 b c l g x) * B (ix5 b c s g x) := by
  pointwise [scores]

/-- A decay of the reference, zero above the diagonal. -/
theorem decayMask_apply (a : FVec Ideal S2x32x8x8x128 .f32) (b : Fin 2) (c : Fin 32) (g r : Fin 8) (l s : Fin 128) :
    decayMask a (ix6 b c g r l s) = if s.1 ≤ l.1 then Ideal.exp (a (ix5 b c g r l) - a (ix5 b c g r s)) else 0 := by
  have hs : IntOp.cmpi .sge (IntOp.addi (BitVec.ofNat 32 l.1) 0#32) (BitVec.ofNat 32 s.1) = BitVec.ofBool (decide (s.1 ≤ l.1)) := by
    rw [show IntOp.addi (BitVec.ofNat 32 l.1) 0#32 = BitVec.ofNat 32 l.1 from BitVec.add_zero _]
    exact WordCmp.cmpi_sge_ofNat (by omega) (by omega)
  have hz : (constant S_ FTy.f32 0#32 : FVec Ideal S_ .f32) ix0 = 0 := by pointwise []
  pointwise [decayMask]
  rw [hs]
  by_cases h : s.1 ≤ l.1
  · simp only [h, decide_true, if_true]
    rfl
  · simp only [h, decide_false, if_false]
    exact hz

/-- What the chunk itself contributes, in the reference. -/
theorem inChunk_apply (xd : FVec Ideal S2x32x128x8x8x64 .f32) (sc : FVec Ideal S2x32x8x128x128 .f32) (sg : FVec Ideal S2x32x8x8x128x128 .f32)
    (b : Fin 2) (c : Fin 32) (l : Fin 128) (g r : Fin 8) (p : Fin 64) :
    inChunk xd sc sg (ix6 b c l g r p) = ∑ x : Fin 128, xd (ix6 b c x g r p) * (sc (ix5 b c g l x) * sg (ix6 b c g r l x)) := by
  pointwise [inChunk]

/-- What the entering state contributes, in the reference. -/
theorem fromState_apply (prev : FVec Ideal S32x2x8x8x64x128 .f32) (C : FVec Ideal S2x32x128x8x128 .f32) (a : FVec Ideal S2x32x8x8x128 .f32)
    (b : Fin 2) (c : Fin 32) (l : Fin 128) (g r : Fin 8) (p : Fin 64) :
    fromState prev C a (ix6 b c l g r p) = (∑ x : Fin 128, prev (ix6 c b g r p x) * C (ix5 b c l g x)) * Ideal.exp (a (ix5 b c g r l)) := by
  pointwise [fromState]

/-- The sum of the three contributions, in the reference. -/
theorem mixed_apply (di off : FVec Ideal S2x32x128x8x8x64 .f32) (x7 : FVec Ideal S64 .f32) (xs : FVec Ideal S2x4096x8x8x64 .f32)
    (b : Fin 2) (c : Fin 32) (l : Fin 128) (g r : Fin 8) (p : Fin 64) :
    mixed di off x7 xs (ix5 b (Mixer.rowOf c l) g r p)
      = di (ix6 b c l g r p) + off (ix6 b c l g r p) + x7 (ix1 (Mixer.headCol g r)) * xs (ix5 b (Mixer.rowOf c l) g r p) := by
  have e1 : (Mixer.rowOf c l).1 / 128 = c.1 := by simp only [Mixer.rowOf]; omega
  have e2 : (Mixer.rowOf c l).1 % 128 = l.1 := by simp only [Mixer.rowOf]; omega
  pointwise [mixed]
  simp only [e1, e2]
  rfl

/-- A gated entry of the reference. -/
theorem gated_apply (y : FVec Ideal S2x4096x8x8x64 .f32) (x0 : FVec Ideal S8192x4096 .f32) (b : Fin 2) (s : Fin 4096) (g r : Fin 8) (p : Fin 64) (q : Fin 512) (hq : r.1 * 64 + p.1 = q.1) :
    gated y x0 (ix4 b s g q) = y (ix5 b s g r p) * Mixer.silu (x0 (ix2 (Mixer.flat b s) (Mixer.grpCol g q))) := by
  unfold Mixer.silu Ideal.logistic
  have e1 : (g.1 * 512 + q.1) / 64 % 8 = r.1 := by omega
  have e2 : (g.1 * 512 + q.1) % 64 = p.1 := by omega
  pointwise [gated]
  simp only [e1, e2]
  rfl

/-- A normed entry of the reference. -/
theorem normed_apply (u : FVec Ideal S2x4096x8x512 .f32) (x8 : FVec Ideal S4096 .f32) (b : Fin 2) (s : Fin 4096) (g : Fin 8) (q : Fin 512) :
    normed u x8 (ix2 (Mixer.flat b s) (Mixer.grpCol g q)) = Mixer.normRow (fun x => u (ix4 b s g x)) (x8 (ix1 (Mixer.grpCol g q))) q := by
  unfold Mixer.normRow
  have e1 : (Mixer.flat b s).1 / 4096 = b.1 := by simp only [Mixer.flat]; omega
  have e2 : (Mixer.flat b s).1 % 4096 = s.1 := by simp only [Mixer.flat]; omega
  have e3 : (Mixer.grpCol g q).1 / 512 = g.1 := by simp only [Mixer.grpCol]; omega
  have e4 : (Mixer.grpCol g q).1 % 512 = q.1 := by simp only [Mixer.grpCol]; omega
  pointwise [normed]
  simp only [e1, e2, e3, e4]

end Cert.ReferenceIdeal.Mixer
end
-- ==== Proof.RefLoop.lean ====
module

public import proofs.«01_k».proof.Proof.RefRead
public import Idealize.ShloMosaic.Lib.Pointwise
public import Idealize.ShloMosaic.Lib.StableHlo.Predicate
public import Idealize.ShloMosaic.Lib.Claim

@[expose] public section

set_option maxRecDepth 16384

noncomputable section

namespace Cert.ReferenceIdeal.Mixer

open Cert.ReferenceIdeal Cert.ReferenceIdeal.Gen Cert.ReferenceIdeal.Value Idealize.ShloMosaic Idealize.ShloMosaic.TcCoe Idealize.SL.Sem

open Idealize.ShloMosaic.StableHlo

variable (m : (ℓ : Loc nD τ sig) → Buf (Elt Ideal) ℓ)

/-- What each chunk adds to the state, chunks outermost. -/
def gains (xd : FVec Ideal S2x32x128x8x8x64 .f32) (a : FVec Ideal S2x32x8x8x128 .f32) (bm : FVec Ideal S2x32x128x8x128 .f32) : FVec Ideal S32x2x8x8x64x128 .f32 :=
  transpose S32x2x8x8x64x128 [1, 0, 2, 3, 4, 5] (Host.dotGeneral dot_S2x32x128x8x8x64_S2x32x128x8x128_S2x32x8x8x64x128_2_2_45_4_013_013 none
    (mulf (broadcastInDim S2x32x128x8x8x64 ![0, 1, 2, 3, 4, 5] bcast_S2x32x128x8x8x1_S2x32x128x8x8x64_0_1_2_3_4_5
      (broadcastInDim S2x32x128x8x8x1 ![0, 1, 2, 3, 4] bcast_S2x32x128x8x8_S2x32x128x8x8x1_0_1_2_3_4
        (transpose S2x32x128x8x8 [0, 1, 4, 2, 3] (Host.exp (subf (broadcastInDim S2x32x8x8x128 ![0, 1, 2, 3, 4] bcast_S2x32x8x8x1_S2x32x8x8x128_0_1_2_3_4
          (extractStridedSlice S2x32x8x8x1 ![0, 0, 0, 0, 127] a slices_S2x32x8x8x128_S2x32x8x8x1_0_0_0_0_127)) a)) transposes_S2x32x8x8x128_S2x32x128x8x8_0_1_4_2_3))) xd) bm)
    transposes_S2x32x8x8x64x128_S32x2x8x8x64x128_1_0_2_3_4_5

/-- The decay over each whole chunk, chunks outermost. -/
def lastDecay (a : FVec Ideal S2x32x8x8x128 .f32) : FVec Ideal S32x2x8x8 .f32 :=
  transpose S32x2x8x8 [1, 0, 2, 3] (Host.exp (shapeCast S2x32x8x8 (extractStridedSlice S2x32x8x8x1 ![0, 0, 0, 0, 127] a slices_S2x32x8x8x128_S2x32x8x8x1_0_0_0_0_127) shapeCasts_S2x32x8x8x1_S2x32x8x8))
    transposes_S2x32x8x8_S32x2x8x8_1_0_2_3

set_option maxRecDepth 16384 in
set_option maxHeartbeats 2000000 in
/-- The gains at the loop's entry. -/
theorem entry_gains (c : Dev nD) : entryContents preI m c (Proc.devRef .tc main_v78_0)
    = gains (stepped (heads (chans (m ((c.tc : Thread nD τ).loc main_arg1)) (m ((c.tc : Thread nD τ).loc main_arg3)) (m ((c.tc : Thread nD τ).loc main_arg4)))) (steps (m ((c.tc : Thread nD τ).loc main_arg2)) (m ((c.tc : Thread nD τ).loc main_arg5))))
        (decaySums (steps (m ((c.tc : Thread nD τ).loc main_arg2)) (m ((c.tc : Thread nD τ).loc main_arg5))) (m ((c.tc : Thread nD τ).loc main_arg6)))
        (inMaps (chans (m ((c.tc : Thread nD τ).loc main_arg1)) (m ((c.tc : Thread nD τ).loc main_arg3)) (m ((c.tc : Thread nD τ).loc main_arg4)))) := by
  simp only [entryContents, preI, afterL_cons, afterL_nil, hostOps0, hostOps0_1, hostOps0_2, hostOps0_3, hostOps0_4, hostOps0_5, hostOps0_6, hostOps0_7, hostOps0_8]
  after_results_entrywise []

set_option maxRecDepth 16384 in
set_option maxHeartbeats 2000000 in
/-- The whole-chunk decays at the loop's entry. -/
theorem entry_decay (c : Dev nD) : entryContents preI m c (Proc.devRef .tc main_v78_1)
    = lastDecay (decaySums (steps (m ((c.tc : Thread nD τ).loc main_arg2)) (m ((c.tc : Thread nD τ).loc main_arg5))) (m ((c.tc : Thread nD τ).loc main_arg6))) := by
  simp only [entryContents, preI, afterL_cons, afterL_nil, hostOps0, hostOps0_1, hostOps0_2, hostOps0_3, hostOps0_4, hostOps0_5, hostOps0_6, hostOps0_7, hostOps0_8]
  after_results_entrywise []

/-- The state at the loop's entry is zero. -/
theorem entry_state (c : Dev nD) : entryContents preI m c (Proc.devRef .tc main_v78_3)
    = (broadcastInDim S2x8x8x64x128 ![] bcast_S_S2x8x8x64x128 (constant S_ .f32 0x00000000#32) : FVec Ideal S2x8x8x64x128 .f32) := by
  simp only [entryContents, preI, afterL_cons, afterL_nil, hostOps0, hostOps0_1, hostOps0_2, hostOps0_3, hostOps0_4, hostOps0_5, hostOps0_6, hostOps0_7, hostOps0_8]
  after_results_entrywise []

/-- A gain, read at an index. -/
theorem gains_apply (xd : FVec Ideal S2x32x128x8x8x64 .f32) (a : FVec Ideal S2x32x8x8x128 .f32) (bm : FVec Ideal S2x32x128x8x128 .f32)
    (b : Fin 2) (c : Fin 32) (g r : Fin 8) (p : Fin 64) (n : Fin 128) :
    gains xd a bm (ix6 c b g r p n) = ∑ l : Fin 128, (Ideal.exp (a (ix5 b c g r 127) - a (ix5 b c g r l)) * xd (ix6 b c l g r p)) * bm (ix5 b c l g n) := by
  pointwise [gains]

/-- A whole-chunk decay, read at an index. -/
theorem lastDecay_apply (a : FVec Ideal S2x32x8x8x128 .f32) (b : Fin 2) (c : Fin 32) (g r : Fin 8) :
    lastDecay a (ix4 c b g r) = Ideal.exp (a (ix5 b c g r 127)) := by
  pointwise [lastDecay]

/-- One trip: the counter. -/
theorem step_ctr (V : Valuation τ sig (Elt Ideal)) (k : ℕ) (h : V (Proc.devRef .tc main_v78_2) = fun _ => BitVec.ofNat 32 k) :
    STEP V (Proc.devRef .tc main_v78_2) = fun _ => BitVec.ofNat 32 (k + 1) := by
  rw [STEP_main_v78_2]
  unfold step_main_v78_2
  rw [h]
  funext i
  exact (BitVec.ofNat_add _ _).symm

/-- A start inside an axis is not moved. -/
theorem clamp_at {s t : Shape} (ht : t.rank = s.rank) (st : Fin s.rank → ℤ) (a : Fin s.rank) (k : ℕ) (h : st a = (k : ℤ))
    (hk : k ≤ s.size a - t.size (a.cast ht.symm)) : Host.clampedStart s t ht st a = k := by
  unfold Host.clampedStart
  rw [h]
  omega

/-- An axis that is taken whole starts at zero. -/
theorem clamp_whole {s t : Shape} (ht : t.rank = s.rank) (st : Fin s.rank → ℤ) (a : Fin s.rank)
    (hk : s.size a - t.size (a.cast ht.symm) = 0) : Host.clampedStart s t ht st a = 0 := by
  unfold Host.clampedStart
  omega

/-- Slice `k` of a per-chunk array of states. -/
theorem slice_gain (x : FVec Ideal S32x2x8x8x64x128 .f32) (st : Fin 6 → ℤ) (k : ℕ) (hk : k < 32) (h : st 0 = (k : ℤ))
    (b : Fin 2) (g r : Fin 8) (p : Fin 64) (n : Fin 128) :
    shapeCast S2x8x8x64x128 (Host.dynamicSlice S1x2x8x8x64x128 x st sliceFits_S32x2x8x8x64x128_S1x2x8x8x64x128) shapeCasts_S1x2x8x8x64x128_S2x8x8x64x128 (ix5 b g r p n)
      = x (ix6 (⟨k, hk⟩ : Fin 32) b g r p n) := by
  have c0 : Host.clampedStart S32x2x8x8x64x128 S1x2x8x8x64x128 rfl st 0 = k := clamp_at (s := S32x2x8x8x64x128) (t := S1x2x8x8x64x128) rfl st 0 k h (show k ≤ 31 by omega)
  have c1 : Host.clampedStart S32x2x8x8x64x128 S1x2x8x8x64x128 rfl st 1 = 0 := clamp_whole (s := S32x2x8x8x64x128) (t := S1x2x8x8x64x128) rfl st 1 rfl
  have c2 : Host.clampedStart S32x2x8x8x64x128 S1x2x8x8x64x128 rfl st 2 = 0 := clamp_whole (s := S32x2x8x8x64x128) (t := S1x2x8x8x64x128) rfl st 2 rfl
  have c3 : Host.clampedStart S32x2x8x8x64x128 S1x2x8x8x64x128 rfl st 3 = 0 := clamp_whole (s := S32x2x8x8x64x128) (t := S1x2x8x8x64x128) rfl st 3 rfl
  have c4 : Host.clampedStart S32x2x8x8x64x128 S1x2x8x8x64x128 rfl st 4 = 0 := clamp_whole (s := S32x2x8x8x64x128) (t := S1x2x8x8x64x128) rfl st 4 rfl
  have c5 : Host.clampedStart S32x2x8x8x64x128 S1x2x8x8x64x128 rfl st 5 = 0 := clamp_whole (s := S32x2x8x8x64x128) (t := S1x2x8x8x64x128) rfl st 5 rfl
  pointwise []
  simp only [c0, c1, c2, c3, c4, c5, Nat.zero_add, Nat.add_zero]

/-- Slice `k` of a per-chunk array of decays. -/
theorem slice_decay (x : FVec Ideal S32x2x8x8 .f32) (st : Fin 4 → ℤ) (k : ℕ) (hk : k < 32) (h : st 0 = (k : ℤ))
    (b : Fin 2) (g r : Fin 8) (p : Fin 64) (n : Fin 128) :
    broadcastInDim S2x8x8x64x128 ![0, 1, 2, 3, 4] bcast_S2x8x8x1x1_S2x8x8x64x128_0_1_2_3_4 (broadcastInDim S2x8x8x1x1 ![0, 1, 2] bcast_S2x8x8_S2x8x8x1x1_0_1_2
      (shapeCast S2x8x8 (Host.dynamicSlice S1x2x8x8 x st sliceFits_S32x2x8x8_S1x2x8x8) shapeCasts_S1x2x8x8_S2x8x8)) (ix5 b g r p n)
      = x (ix4 (⟨k, hk⟩ : Fin 32) b g r) := by
  have c0 : Host.clampedStart S32x2x8x8 S1x2x8x8 rfl st 0 = k := clamp_at (s := S32x2x8x8) (t := S1x2x8x8) rfl st 0 k h (show k ≤ 31 by omega)
  have c1 : Host.clampedStart S32x2x8x8 S1x2x8x8 rfl st 1 = 0 := clamp_whole (s := S32x2x8x8) (t := S1x2x8x8) rfl st 1 rfl
  have c2 : Host.clampedStart S32x2x8x8 S1x2x8x8 rfl st 2 = 0 := clamp_whole (s := S32x2x8x8) (t := S1x2x8x8) rfl st 2 rfl
  have c3 : Host.clampedStart S32x2x8x8 S1x2x8x8 rfl st 3 = 0 := clamp_whole (s := S32x2x8x8) (t := S1x2x8x8) rfl st 3 rfl
  pointwise []
  simp only [c0, c1, c2, c3, Nat.zero_add, Nat.add_zero]

/-- Writing slice `k` of a per-chunk array of states. -/
theorem write_record (x : FVec Ideal S32x2x8x8x64x128 .f32) (u : FVec Ideal S2x8x8x64x128 .f32) (st : Fin 6 → ℤ) (k : ℕ) (hk : k < 32) (h : st 0 = (k : ℤ))
    (j : Fin 32) (b : Fin 2) (g r : Fin 8) (p : Fin 64) (n : Fin 128) :
    Host.dynamicUpdateSlice x (broadcastInDim S1x2x8x8x64x128 ![1, 2, 3, 4, 5] bcast_S2x8x8x64x128_S1x2x8x8x64x128_1_2_3_4_5 u) st updateFits_S32x2x8x8x64x128_S1x2x8x8x64x128 (ix6 j b g r p n)
      = if j.1 = k then u (ix5 b g r p n) else x (ix6 j b g r p n) := by
  have c0 : Host.clampedStart S32x2x8x8x64x128 S1x2x8x8x64x128 rfl st 0 = k := clamp_at (s := S32x2x8x8x64x128) (t := S1x2x8x8x64x128) rfl st 0 k h (show k ≤ 31 by omega)
  have c1 : Host.clampedStart S32x2x8x8x64x128 S1x2x8x8x64x128 rfl st 1 = 0 := clamp_whole (s := S32x2x8x8x64x128) (t := S1x2x8x8x64x128) rfl st 1 rfl
  have c2 : Host.clampedStart S32x2x8x8x64x128 S1x2x8x8x64x128 rfl st 2 = 0 := clamp_whole (s := S32x2x8x8x64x128) (t := S1x2x8x8x64x128) rfl st 2 rfl
  have c3 : Host.clampedStart S32x2x8x8x64x128 S1x2x8x8x64x128 rfl st 3 = 0 := clamp_whole (s := S32x2x8x8x64x128) (t := S1x2x8x8x64x128) rfl st 3 rfl
  have c4 : Host.clampedStart S32x2x8x8x64x128 S1x2x8x8x64x128 rfl st 4 = 0 := clamp_whole (s := S32x2x8x8x64x128) (t := S1x2x8x8x64x128) rfl st 4 rfl
  have c5 : Host.clampedStart S32x2x8x8x64x128 S1x2x8x8x64x128 rfl st 5 = 0 := clamp_whole (s := S32x2x8x8x64x128) (t := S1x2x8x8x64x128) rfl st 5 rfl
  pointwise []
  simp only [c0, c1, c2, c3, c4, c5, Nat.sub_zero, Nat.zero_le, and_true]
  by_cases hj : j.1 = k
  · rw [if_pos hj, dif_pos ?_]
    exact ⟨⟨hj.ge, hj ▸ Nat.lt_succ_self _⟩, ⟨trivial, b.isLt⟩, ⟨trivial, g.isLt⟩, ⟨trivial, r.isLt⟩, ⟨trivial, p.isLt⟩, trivial, n.isLt⟩
  · rw [if_neg hj, dif_neg ?_]
    rintro ⟨⟨h1, h2⟩, -⟩
    omega

/-- One trip: the state. -/
theorem step_state (V : Valuation τ sig (Elt Ideal)) (k : ℕ) (hk : k < 32) (h : V (Proc.devRef .tc main_v78_2) = fun _ => BitVec.ofNat 32 k)
    (x0 : FVec Ideal S32x2x8x8x64x128 .f32) (h0 : V (Proc.devRef .tc main_v78_0) = x0)
    (x1 : FVec Ideal S32x2x8x8 .f32) (h1 : V (Proc.devRef .tc main_v78_1) = x1)
    (x3 : FVec Ideal S2x8x8x64x128 .f32) (h3 : V (Proc.devRef .tc main_v78_3) = x3)
    (b : Fin 2) (g r : Fin 8) (p : Fin 64) (n : Fin 128) :
    (STEP V (Proc.devRef .tc main_v78_3) : FVec Ideal S2x8x8x64x128 .f32) (ix5 b g r p n)
      = x3 (ix5 b g r p n) * x1 (ix4 (⟨k, hk⟩ : Fin 32) b g r) + x0 (ix6 (⟨k, hk⟩ : Fin 32) b g r p n) := by
  have hv : (BitVec.ofNat 32 k).toInt = (k : ℤ) := StableHlo.Predicate.toInt_ofNat_small k (by omega)
  rw [STEP_main_v78_3]
  unfold step_main_v78_3
  rw [h, h0, h1, h3]
  exact Ideal.add_congr (congrArg (x3 (ix5 b g r p n) * ·) (slice_decay x1 _ k hk hv b g r p n)) (slice_gain x0 _ k hk hv b g r p n)

/-- One trip: the record of entering states. -/
theorem step_record (V : Valuation τ sig (Elt Ideal)) (k : ℕ) (hk : k < 32) (h : V (Proc.devRef .tc main_v78_2) = fun _ => BitVec.ofNat 32 k)
    (x4 : FVec Ideal S32x2x8x8x64x128 .f32) (h4 : V (Proc.devRef .tc main_v78_4) = x4)
    (x3 : FVec Ideal S2x8x8x64x128 .f32) (h3 : V (Proc.devRef .tc main_v78_3) = x3)
    (j : Fin 32) (b : Fin 2) (g r : Fin 8) (p : Fin 64) (n : Fin 128) :
    (STEP V (Proc.devRef .tc main_v78_4) : FVec Ideal S32x2x8x8x64x128 .f32) (ix6 j b g r p n)
      = if j.1 = k then x3 (ix5 b g r p n) else x4 (ix6 j b g r p n) := by
  have hv : (BitVec.ofNat 32 k).toInt = (k : ℤ) := StableHlo.Predicate.toInt_ofNat_small k (by omega)
  rw [STEP_main_v78_4]
  unfold step_main_v78_4
  rw [h, h4, h3]
  exact write_record x4 x3 _ k hk hv j b g r p n

end Cert.ReferenceIdeal.Mixer
end
-- ==== Proof.RefValue.lean ====
module

public import proofs.«01_k».proof.Proof.RefLoop
public import Idealize.ShloMosaic.Lib.Pointwise
public import Idealize.ShloMosaic.Lib.Claim

@[expose] public section

set_option maxRecDepth 16384

noncomputable section

namespace Cert.ReferenceIdeal.Mixer

open Cert.ReferenceIdeal Cert.ReferenceIdeal.Gen Cert.ReferenceIdeal.Value Idealize.ShloMosaic Idealize.ShloMosaic.TcCoe Idealize.SL.Sem

open Idealize.ShloMosaic.StableHlo

variable (m : (ℓ : Loc nD τ sig) → Buf (Elt Ideal) ℓ)

/-- A matrix as a function of its two coordinates. -/
abbrev mat {a b : ℕ} {φ : FTy} (x : FVec Ideal ⟨2, ![a, b]⟩ φ) : Fin a → Fin b → EReal := fun i j => x (ix2 i j)

/-- A vector as a function of its coordinate. -/
abbrev vec {a : ℕ} {φ : FTy} (x : FVec Ideal ⟨1, ![a]⟩ φ) : Fin a → EReal := fun i => x (ix1 i)

section Pure

variable (x0 : FVec Ideal S8192x4096 .f32) (x1 : FVec Ideal S8192x6144 .f32) (x2 : FVec Ideal S8192x64 .f32) (x3 : FVec Ideal S6144x4 .f32)
  (x4 : FVec Ideal S6144 .f32) (x5 x6 x7 : FVec Ideal S64 .f32) (x8 : FVec Ideal S4096 .f32)

/-- The head of a channel, from its two coordinates. -/
theorem hd_eq (r : Fin 8) (p : Fin 64) (q : Fin 512) (hq : r.1 * 64 + p.1 = q.1) : Mixer.hd q = r :=
  Fin.ext (by show q.1 / 64 = r.1; omega)

/-- The reference's decay exponents. -/
theorem exps_eq (b : Fin 2) (c : Fin 32) (g r : Fin 8) (l : Fin 128) :
    decaySums (steps x2 x5) x6 (ix5 b c g r l) = Mixer.cS (mat x2) (vec x5) (vec x6) b g c l r := by
  rw [decaySums_apply]
  unfold Mixer.cS Mixer.cD
  simp only [steps_apply]

/-- The reference's stepped input. -/
theorem stepped_eq (b : Fin 2) (c : Fin 32) (l : Fin 128) (g r : Fin 8) (p : Fin 64) (q : Fin 512) (hq : r.1 * 64 + p.1 = q.1) :
    stepped (heads (chans x1 x3 x4)) (steps x2 x5) (ix6 b c l g r p)
      = Mixer.cX (mat x1) (mat x3) (vec x4) b g c l q * Mixer.cD (mat x2) (vec x5) b g c l (Mixer.hd q) := by
  rw [stepped_apply, heads_apply _ b _ g r p q hq, chans_apply, steps_apply, hd_eq r p q hq]
  rfl

/-- The reference's input maps. -/
theorem inMaps_eq (b : Fin 2) (c : Fin 32) (l : Fin 128) (g : Fin 8) (n : Fin 128) :
    inMaps (chans x1 x3 x4) (ix5 b c l g n) = Mixer.cB (mat x1) (mat x3) (vec x4) b g c l n := by
  rw [inMaps_apply, chans_apply]
  rfl

/-- The reference's output maps. -/
theorem outMaps_eq (b : Fin 2) (c : Fin 32) (l : Fin 128) (g : Fin 8) (n : Fin 128) :
    outMaps (chans x1 x3 x4) (ix5 b c l g n) = Mixer.cC (mat x1) (mat x3) (vec x4) b g c l n := by
  rw [outMaps_apply, chans_apply]
  rfl

/-- What the reference adds to the state at a chunk. -/
theorem gains_eq (b : Fin 2) (c : Fin 32) (g r : Fin 8) (p : Fin 64) (n : Fin 128) (q : Fin 512) (hq : r.1 * 64 + p.1 = q.1) :
    gains (stepped (heads (chans x1 x3 x4)) (steps x2 x5)) (decaySums (steps x2 x5) x6) (inMaps (chans x1 x3 x4)) (ix6 c b g r p n)
      = Mixer.gain (Mixer.cX (mat x1) (mat x3) (vec x4) b g c) (Mixer.cB (mat x1) (mat x3) (vec x4) b g c) (Mixer.cD (mat x2) (vec x5) b g c)
          (Mixer.cS (mat x2) (vec x5) (vec x6) b g c) n q := by
  rw [gains_apply]
  unfold Mixer.gain
  refine Finset.sum_congr rfl fun l _ => ?_
  rw [stepped_eq x1 x2 x3 x4 x5 b c l g r p q hq, inMaps_eq, exps_eq, exps_eq, hd_eq r p q hq]
  ac_rfl

/-- The reference's decay over a whole chunk. -/
theorem lastDecay_eq (b : Fin 2) (c : Fin 32) (g r : Fin 8) :
    lastDecay (decaySums (steps x2 x5) x6) (ix4 c b g r) = Ideal.exp (Mixer.cS (mat x2) (vec x5) (vec x6) b g c 127 r) := by
  rw [lastDecay_apply, exps_eq]

/-- The reference's result, where the record holds the states entering the chunks. -/
theorem result_eq (prev : FVec Ideal S32x2x8x8x64x128 .f32)
    (hprev : ∀ (c : Fin 32) (b : Fin 2) (g r : Fin 8) (p : Fin 64) (n : Fin 128) (q : Fin 512), r.1 * 64 + p.1 = q.1 →
      prev (ix6 c b g r p n) = Mixer.state (mat x1) (mat x2) (mat x3) (vec x4) (vec x5) (vec x6) b g c.1 n q)
    (b : Fin 2) (g : Fin 8) (c : Fin 32) (l : Fin 128) (q : Fin 512) :
    result x0 x1 x2 x3 x4 x5 x6 x7 x8 prev (ix2 (Mixer.flat b (Mixer.rowOf c l)) (Mixer.grpCol g q))
      = Mixer.out (mat x0) (mat x1) (mat x2) (mat x3) (vec x4) (vec x5) (vec x6) (vec x7) (vec x8) b g c l q := by
  unfold result Mixer.out
  rw [normed_apply]
  refine congrArg (fun f => Mixer.normRow f _ q) (funext fun k => ?_)
  obtain ⟨r, p, hk⟩ : ∃ (r : Fin 8) (p : Fin 64), r.1 * 64 + p.1 = k.1 := ⟨⟨k.1 / 64, by omega⟩, ⟨k.1 % 64, by omega⟩, by show k.1 / 64 * 64 + k.1 % 64 = k.1; omega⟩
  rw [gated_apply _ _ b _ g r p k hk, mixed_apply]
  refine congrArg (· * _) ?_
  unfold Mixer.cY Mixer.blkY Mixer.inside Mixer.outside
  rw [hd_eq r p k hk, inChunk_apply, fromState_apply, heads_apply _ b _ g r p k hk, chans_apply]
  refine Ideal.add_congr (Ideal.add_congr (Finset.sum_congr rfl fun s _ => ?_) ?_) rfl
  · rw [stepped_eq x1 x2 x3 x4 x5 b c s g r p k hk, scores_apply, decayMask_apply, exps_eq, exps_eq, hd_eq r p k hk]
    simp only [inMaps_eq, outMaps_eq]
    by_cases hs : s.1 ≤ l.1
    · rw [if_pos hs, if_pos hs]
      ac_rfl
    · rw [if_neg hs, if_neg hs, mul_zero, mul_zero]
  · rw [exps_eq]
    refine Ideal.mul_congr (Finset.sum_congr rfl fun n _ => ?_) rfl
    rw [outMaps_eq, hprev c b g r p n k hk]
    ac_rfl

end Pure

section Loop

variable (c : Dev nD)

/-- The reference's arguments. -/
abbrev A0 : FVec Ideal S8192x4096 .f32 := m ((c.tc : Thread nD τ).loc main_arg0)
abbrev A1 : FVec Ideal S8192x6144 .f32 := m ((c.tc : Thread nD τ).loc main_arg1)
abbrev A2 : FVec Ideal S8192x64 .f32 := m ((c.tc : Thread nD τ).loc main_arg2)
abbrev A3 : FVec Ideal S6144x4 .f32 := m ((c.tc : Thread nD τ).loc main_arg3)
abbrev A4 : FVec Ideal S6144 .f32 := m ((c.tc : Thread nD τ).loc main_arg4)
abbrev A5 : FVec Ideal S64 .f32 := m ((c.tc : Thread nD τ).loc main_arg5)
abbrev A6 : FVec Ideal S64 .f32 := m ((c.tc : Thread nD τ).loc main_arg6)
abbrev A7 : FVec Ideal S64 .f32 := m ((c.tc : Thread nD τ).loc main_arg7)
abbrev A8 : FVec Ideal S4096 .f32 := m ((c.tc : Thread nD τ).loc main_arg8)

/-- The state entering chunk `k`. -/
abbrev stateAt (b : Fin 2) (g : Fin 8) (k : ℕ) (n : Fin 128) (q : Fin 512) : EReal :=
  Mixer.state (mat (A1 m c)) (mat (A2 m c)) (mat (A3 m c)) (vec (A4 m c)) (vec (A5 m c)) (vec (A6 m c)) b g k n q

/-- What the carried buffers hold after `k` trips: the counter is `k`, the state is the one entering chunk `k`, and the record
holds the states entering the earlier chunks. -/
theorem loop_inv : ∀ k : ℕ, k ≤ 32 →
    (STEP^[k] (entryContents preI m c)) (Proc.devRef .tc main_v78_2) = (fun _ => BitVec.ofNat 32 k)
    ∧ (STEP^[k] (entryContents preI m c)) (Proc.devRef .tc main_v78_0) = entryContents preI m c (Proc.devRef .tc main_v78_0)
    ∧ (STEP^[k] (entryContents preI m c)) (Proc.devRef .tc main_v78_1) = entryContents preI m c (Proc.devRef .tc main_v78_1)
    ∧ (∀ (b : Fin 2) (g r : Fin 8) (p : Fin 64) (n : Fin 128) (q : Fin 512), r.1 * 64 + p.1 = q.1 →
        ((STEP^[k] (entryContents preI m c)) (Proc.devRef .tc main_v78_3) : FVec Ideal S2x8x8x64x128 .f32) (ix5 b g r p n) = stateAt m c b g k n q)
    ∧ (∀ (j : Fin 32) (b : Fin 2) (g r : Fin 8) (p : Fin 64) (n : Fin 128) (q : Fin 512), r.1 * 64 + p.1 = q.1 → j.1 < k →
        ((STEP^[k] (entryContents preI m c)) (Proc.devRef .tc main_v78_4) : FVec Ideal S32x2x8x8x64x128 .f32) (ix6 j b g r p n) = stateAt m c b g j.1 n q)
  | 0, _ => by
    refine ⟨ctr_entry m c, rfl, rfl, fun b g r p n q _ => ?_, fun j b g r p n q _ hj => absurd hj (Nat.not_lt_zero _)⟩
    refine (congrFun (entry_state m c) (ix5 b g r p n)).trans ?_
    show (broadcastInDim S2x8x8x64x128 ![] bcast_S_S2x8x8x64x128 (constant S_ .f32 0x00000000#32) : FVec Ideal S2x8x8x64x128 .f32) (ix5 b g r p n) = (0 : EReal)
    pointwise []
  | k + 1, hk => by
    obtain ⟨i2, i0, i1, i3, i4⟩ := loop_inv k (by omega)
    rw [Function.iterate_succ_apply']
    generalize STEP^[k] (entryContents preI m c) = V at i2 i0 i1 i3 i4 ⊢
    refine ⟨step_ctr V k i2, (STEP_main_v78_0 V).trans i0, (STEP_main_v78_1 V).trans i1, fun b g r p n q hq => ?_, fun j b g r p n q hq hj => ?_⟩
    · rw [step_state V k (by omega) i2 _ (i0.trans (entry_gains m c)) _ (i1.trans (entry_decay m c)) _ rfl, i3 b g r p n q hq,
        gains_eq _ _ _ _ _ _ _ _ g r p n q hq, lastDecay_eq]
      show _ = Mixer.state _ _ _ _ _ _ b g (k + 1) n q
      unfold Mixer.state
      rw [dif_pos (show k < 32 by omega)]
      unfold Mixer.blkH
      rw [hd_eq r p q hq]
    · rw [step_record V k (by omega) i2 _ rfl _ rfl]
      by_cases h : j.1 = k
      · rw [if_pos h, i3 b g r p n q hq, h]
      · rw [if_neg h, i4 j b g r p n q hq (by omega)]

/-- THE REFERENCE: its result at row `l` of chunk `c` of sequence `b` and channel `q` of group `g`. -/
theorem reference_value (b : Fin 2) (g : Fin 8) (ck : Fin 32) (l : Fin 128) (q : Fin 512) :
    (out_main_v193 (STEP^[32] (entryContents preI m c)) : FVec Ideal S8192x4096 .bf16) (ix2 (Mixer.flat b (Mixer.rowOf ck l)) (Mixer.grpCol g q))
      = Mixer.out (mat (A0 m c)) (mat (A1 m c)) (mat (A2 m c)) (mat (A3 m c)) (vec (A4 m c)) (vec (A5 m c)) (vec (A6 m c)) (vec (A7 m c)) (vec (A8 m c)) b g ck l q := by
  rw [out_eq, iter_main_arg0, iter_main_arg1, iter_main_arg2, iter_main_arg3, iter_main_arg4, iter_main_arg5, iter_main_arg6, iter_main_arg7, iter_main_arg8]
  exact result_eq _ _ _ _ _ _ _ _ _ _ (fun j b g r p n q hq => (loop_inv m c 32 le_rfl).2.2.2.2 j b g r p n q hq j.2) b g ck l q

end Loop

end Cert.ReferenceIdeal.Mixer
end
-- ==== Proof.MixerClaim.lean ====
module

public import proofs.«01_k».proof.Proof.Steps
public import proofs.«01_k».proof.Proof.KernelArray
public import proofs.«01_k».proof.Proof.RefValue

/-!
# The mixer's claim

Kernel and reference leave the same array: both are `Mixer.out` of the arguments, read at a row of
a chunk of a sequence and a channel of a group.
-/

@[expose] public section

set_option maxRecDepth 16384

noncomputable section

namespace Cert.Proof

open Idealize.ShloMosaic Idealize.ShloMosaic.TcCoe Idealize.SL.Sem

/-- Two result arrays that agree at every row of every chunk and every channel of every group are equal. -/
theorem ext_rows (x y : (⟨2, ![8192, 4096]⟩ : Shape).Idx → EReal)
    (h : ∀ (b : Fin 2) (g : Fin 8) (k : Fin 32) (l : Fin 128) (q : Fin 512),
      x (ix2 (Mixer.flat b (Mixer.rowOf k l)) (Mixer.grpCol g q)) = y (ix2 (Mixer.flat b (Mixer.rowOf k l)) (Mixer.grpCol g q))) :
    x = y := by
  funext i
  rw [eq_ix2 i]
  have h0 : (i 0).1 < 8192 := (i 0).2
  have h1 : (i 1).1 < 4096 := (i 1).2
  have := h ⟨(i 0).1 / 4096, by omega⟩ ⟨(i 1).1 / 512, by omega⟩ ⟨(i 0).1 % 4096 / 128, by omega⟩ ⟨(i 0).1 % 128, by omega⟩ ⟨(i 1).1 % 512, by omega⟩
  have e0 : Mixer.flat ⟨(i 0).1 / 4096, by omega⟩ (Mixer.rowOf ⟨(i 0).1 % 4096 / 128, by omega⟩ ⟨(i 0).1 % 128, by omega⟩) = i 0 :=
    Fin.ext (by show (i 0).1 / 4096 * 4096 + ((i 0).1 % 4096 / 128 * 128 + (i 0).1 % 128) = (i 0).1; omega)
  have e1 : Mixer.grpCol ⟨(i 1).1 / 512, by omega⟩ ⟨(i 1).1 % 512, by omega⟩ = i 1 :=
    Fin.ext (by show (i 1).1 / 512 * 512 + (i 1).1 % 512 = (i 1).1; omega)
  rw [e0, e1] at this
  exact this

set_option maxHeartbeats 1600000 in
/-- `Cert.algebraic_KernelIdeal_ReferenceIdeal_pre_finite_steps`: the mixer's kernel and its reference agree. -/
theorem mixer : Cert.algebraic_KernelIdeal_ReferenceIdeal_pre_finite_steps (hKernelIdeal := Cert.KernelIdeal.Gen.facts)
    (hReferenceIdeal := Cert.ReferenceIdeal.Gen.facts) (hPre_finite_steps := Cert.KernelIdeal.Mixer.steps_facts) := by
  pair_intro
  · run_from Cert.KernelIdeal.Value.run_blocks m g
  · run_from Cert.ReferenceIdeal.Value.run m' g'
    rw [Cert.KernelIdeal.Mixer.final m c (Cert.KernelIdeal.Mixer.finite2 m hpre c) (Cert.KernelIdeal.Mixer.finite5 m hpre c)
      (Cert.KernelIdeal.Mixer.finite6 m hpre c)]
    refine ext_rows _ _ fun b g k l q => ?_
    rw [Cert.KernelIdeal.Mixer.result_apply]
    refine (Cert.ReferenceIdeal.Mixer.reference_value m' c b g k l q).trans ?_
    obtain ⟨h0, h1, h2, h3, h4, h5, h6, h7, h8⟩ := hagree c
    have e0 : Cert.ReferenceIdeal.Mixer.mat (Cert.ReferenceIdeal.Mixer.A0 m' c) = Cert.KernelIdeal.Mixer.W0 m c :=
      funext fun i => funext fun j => congrFun h0 (ix2 i j)
    have e1 : Cert.ReferenceIdeal.Mixer.mat (Cert.ReferenceIdeal.Mixer.A1 m' c) = Cert.KernelIdeal.Mixer.W1 m c :=
      funext fun i => funext fun j => congrFun h1 (ix2 i j)
    have e2 : Cert.ReferenceIdeal.Mixer.mat (Cert.ReferenceIdeal.Mixer.A2 m' c) = Cert.KernelIdeal.Mixer.W2 m c :=
      funext fun i => funext fun j => congrFun h2 (ix2 i j)
    have e3 : Cert.ReferenceIdeal.Mixer.mat (Cert.ReferenceIdeal.Mixer.A3 m' c) = Cert.KernelIdeal.Mixer.W3 m c :=
      funext fun i => funext fun j => congrFun h3 (ix2 i j)
    have e4 : Cert.ReferenceIdeal.Mixer.vec (Cert.ReferenceIdeal.Mixer.A4 m' c) = Cert.KernelIdeal.Mixer.W4 m c :=
      funext fun j => congrFun h4 (ix1 j)
    have e5 : Cert.ReferenceIdeal.Mixer.vec (Cert.ReferenceIdeal.Mixer.A5 m' c) = Cert.KernelIdeal.Mixer.W5 m c :=
      funext fun j => congrFun h5 (ix1 j)
    have e6 : Cert.ReferenceIdeal.Mixer.vec (Cert.ReferenceIdeal.Mixer.A6 m' c) = Cert.KernelIdeal.Mixer.W6 m c :=
      funext fun j => congrFun h6 (ix1 j)
    have e7 : Cert.ReferenceIdeal.Mixer.vec (Cert.ReferenceIdeal.Mixer.A7 m' c) = Cert.KernelIdeal.Mixer.W7 m c :=
      funext fun j => congrFun h7 (ix1 j)
    have e8 : Cert.ReferenceIdeal.Mixer.vec (Cert.ReferenceIdeal.Mixer.A8 m' c) = Cert.KernelIdeal.Mixer.W8 m c :=
      funext fun j => congrFun h8 (ix1 j)
    rw [e0, e1, e2, e3, e4, e5, e6, e7, e8]

end Cert.Proof

end
-- ==== Proof.UpBody.lean ====
module

public import proofs.«01_k».proof.Proof.Gen.KernelUpIdeal.Launch
public import proofs.«01_k».proof.Proof.Gen.KernelUpIdeal.Skeleton
public import Idealize.ShloMosaic.Lib.Pipeline.FrameBody
public import Idealize.ShloMosaic.Lib.Ring
public import Idealize.ShloMosaic.Lib.VecWindow
public import Idealize.ShloMosaic.Lib.Tactic

@[expose] public section

set_option maxRecDepth 16384

noncomputable section

namespace Cert.Proof.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

/-- The first half of the landing buffer, as the copies address it. -/
abbrev slot0 : Memref sig .tc .vmem S4096x512 .f32 :=
  ((Memref.whole cc0_scratch0).slice (Rect.unit (s := S2x4096x512) ![0, 0, 0] S1x4096x512.size inb_S2x4096x512_S1x4096x512_0_0_0) (fun _ => rfl)).squeeze S4096x512 squeezes_S1x4096x512_S4096x512
/-- The second half of the landing buffer. -/
abbrev slot1 : Memref sig .tc .vmem S4096x512 .f32 :=
  ((Memref.whole cc0_scratch0).slice (Rect.unit (s := S2x4096x512) ![1, 0, 0] S1x4096x512.size inb_S2x4096x512_S1x4096x512_1_0_0) (fun _ => rfl)).squeeze S4096x512 squeezes_S1x4096x512_S4096x512

/-- The semaphore of the copy of gate weights. -/
abbrev sem0 : DmaSem sig := ((cc0_scratch2.slice (Rect.unit (s := S2) ![0] S1.size inb_S2_S1_0)).squeeze S_ squeezes_S1_S_).sem
/-- The semaphore of the copy of up weights. -/
abbrev sem1 : DmaSem sig := ((cc0_scratch2.slice (Rect.unit (s := S2) ![1] S1.size inb_S2_S1_1)).squeeze S_ squeezes_S1_S_).sem

/-- A block of the gate weights at an offset. -/
abbrev srcG (off : Fin 4 → Nat) (h : ∀ a, off a + S1x1x4096x512.size a ≤ S2x16x4096x1536.size a) : Memref sig .tc .hbm S4096x512 .f32 :=
  ((Memref.whole main_arg2).slice (Rect.unit (s := S2x16x4096x1536) off S1x1x4096x512.size h) (fun _ => rfl)).squeeze S4096x512 squeezes_S1x1x4096x512_S4096x512
/-- A block of the up weights at an offset. -/
abbrev srcU (off : Fin 4 → Nat) (h : ∀ a, off a + S1x1x4096x512.size a ≤ S2x16x4096x1536.size a) : Memref sig .tc .hbm S4096x512 .f32 :=
  ((Memref.whole main_arg3).slice (Rect.unit (s := S2x16x4096x1536) off S1x1x4096x512.size h) (fun _ => rfl)).squeeze S4096x512 squeezes_S1x1x4096x512_S4096x512

/-- Where the block of expert `e`, column block `j`, begins in a weight array. -/
def offs (e : Fin 16) (j : Fin 3) : Fin 4 → Nat := ![0, e.val, 0, 512 * j.val]

/-- Every such block lies inside its array. -/
theorem offs_inb (e : Fin 16) (j : Fin 3) : ∀ a, offs e j a + S1x1x4096x512.size a ≤ S2x16x4096x1536.size a := by
  have h1 := e.isLt
  have h2 := j.isLt
  intro a
  fin_cases a
  · show 0 + 1 ≤ 2; omega
  · show e.val + 1 ≤ 16; omega
  · show 0 + 4096 ≤ 4096; omega
  · show 512 * j.val + 512 ≤ 1536; omega

variable (c : Dev nD)

/-- The contents of a gate array and of an up array, and of the table. -/
abbrev WG : Type := Buf (Elt F) ((c : Thread nD τ).loc main_arg2)
abbrev WU : Type := Buf (Elt F) ((c : Thread nD τ).loc main_arg3)
abbrev Tab : Type := Buf (Elt F) ((c : Thread nD τ).loc main_arg0)

/-- A word of the table, read as the body reads it. -/
abbrev rd (off : Fin 2 → Nat) (h : ∀ a, off a + S1x1.size a ≤ S5x80.size a) (tab : Tab (F := F) c) : BitVec 32 :=
  View.readAt (Elt F) (Memref.whole main_arg0).view (Rect.unit (s := S5x80) off S1x1.size h).toLoadRect tab
    (Shape.Idx.first (show 0 < S1x1.numel by decide))

/-- A copy of gate weights under way: on its completion the first half of the landing buffer holds `f`, and the block it
    reads is given back. -/
abbrev flightG (off : Fin 4 → Nat) (h : ∀ a, off a + S1x1x4096x512.size a ≤ S2x16x4096x1536.size a) (wg : WG (F := F) c)
    (f : Buf (Elt F) ((c : Thread nD τ).loc cc0_scratch0)) : sProp 𝕄 :=
  Transfers.Flight (countersEmb (U := Pipeline.UD sig nD τ)) (c : Thread nD τ) (.dma sem0) default 262144
    iprop((slot0.view.loc (c : Thread nD τ) ↦[slot0.view.set]{fullShare} f) ∗ ((Memref.whole main_arg2).view.loc (c : Thread nD τ) ↦[(srcG off h).view.set]{fullShare} wg))
/-- The same for up weights and the second half. -/
abbrev flightU (off : Fin 4 → Nat) (h : ∀ a, off a + S1x1x4096x512.size a ≤ S2x16x4096x1536.size a) (wu : WU (F := F) c)
    (f : Buf (Elt F) ((c : Thread nD τ).loc cc0_scratch0)) : sProp 𝕄 :=
  Transfers.Flight (countersEmb (U := Pipeline.UD sig nD τ)) (c : Thread nD τ) (.dma sem1) default 262144
    iprop((slot1.view.loc (c : Thread nD τ) ↦[slot1.view.set]{fullShare} f) ∗ ((Memref.whole main_arg3).view.loc (c : Thread nD τ) ↦[(srcU off h).view.set]{fullShare} wu))

/-- Both copies under way from the blocks at an offset. -/
def flyingAt (wg : WG (F := F) c) (wu : WU (F := F) c) (off : Fin 4 → Nat) (h : ∀ a, off a + S1x1x4096x512.size a ≤ S2x16x4096x1536.size a) : sProp 𝕄 :=
  iprop(∃ fg, ∃ fu, ⌜slot0.view.read (Elt F) fg = (srcG off h).view.read (Elt F) wg ∧ slot1.view.read (Elt F) fu = (srcU off h).view.read (Elt F) wu⌝
    ∗ flightG c off h wg fg ∗ flightU c off h wu fu
    ∗ ((Memref.whole main_arg2).view.loc (c : Thread nD τ) ↦[Finset.univ \ (srcG off h).view.set]{fullShare} wg)
    ∗ ((Memref.whole main_arg3).view.loc (c : Thread nD τ) ↦[Finset.univ \ (srcU off h).view.set]{fullShare} wu))

/-- Both copies under way for expert `e`, column block `j`. -/
abbrev flying (wg : WG (F := F) c) (wu : WU (F := F) c) (e : Fin 16) (j : Fin 3) : sProp 𝕄 := flyingAt c wg wu (offs e j) (offs_inb e j)

/-- Copies from an offset that is the block's own are that block's copies. -/
theorem flyingAt_eq (wg : WG (F := F) c) (wu : WU (F := F) c) (off : Fin 4 → Nat) (h) (e : Fin 16) (j : Fin 3) (ho : off = offs e j) :
    (flyingAt c wg wu off h : sProp 𝕄) ⊢ flying c wg wu e j := by subst ho; exact .rfl

/-- A block read at an offset that is its own is that block. -/
theorem srcG_eq (wg : WG (F := F) c) (off : Fin 4 → Nat) (h) (e : Fin 16) (j : Fin 3) (ho : off = offs e j) :
    (srcG off h).view.read (Elt F) wg = (srcG (offs e j) (offs_inb e j)).view.read (Elt F) wg := by subst ho; rfl
theorem srcU_eq (wu : WU (F := F) c) (off : Fin 4 → Nat) (h) (e : Fin 16) (j : Fin 3) (ho : off = offs e j) :
    (srcU off h).view.read (Elt F) wu = (srcU (offs e j) (offs_inb e j)).view.read (Elt F) wu := by subst ho; rfl

/-- No copy under way: both halves, both weight arrays and both semaphores are at hand. -/
def resting (wg : WG (F := F) c) (wu : WU (F := F) c) : sProp 𝕄 :=
  iprop((∃ fg, slot0.view.loc (c : Thread nD τ) ↦[slot0.view.set]{fullShare} fg) ∗ (∃ fu, slot1.view.loc (c : Thread nD τ) ↦[slot1.view.set]{fullShare} fu)
    ∗ ((Memref.whole main_arg2).view.loc (c : Thread nD τ) ↦{fullShare} wg) ∗ ((Memref.whole main_arg3).view.loc (c : Thread nD τ) ↦{fullShare} wu)
    ∗ semVal ((c : Thread nD τ), SemLoc.dma sem0) 0 ∗ semVal ((c : Thread nD τ), SemLoc.dma sem1) 0)

/-- A weight block as the body keeps it for the products: rounded, with a leading axis of one. -/
def slab (b : Vec F S4096x512 .f32) : Vec F S1x4096x512 .bf16 :=
  shapeCast S1x4096x512 (truncf .bf16 b bitsLt_bf16_f32) shapeCasts_S4096x512_S1x4096x512

abbrev slabG (wg : WG (F := F) c) (e : Fin 16) (j : Fin 3) : Vec F S1x4096x512 .bf16 := slab ((srcG (offs e j) (offs_inb e j)).view.read (Elt F) wg)
abbrev slabU (wu : WU (F := F) c) (e : Fin 16) (j : Fin 3) : Vec F S1x4096x512 .bf16 := slab ((srcU (offs e j) (offs_inb e j)).view.read (Elt F) wu)

abbrev half0 : Rect S2x4096x512 := Rect.unit (s := S2x4096x512) ![0, 0, 0] S1x4096x512.size inb_S2x4096x512_S1x4096x512_0_0_0
abbrev half1 : Rect S2x4096x512 := Rect.unit (s := S2x4096x512) ![1, 0, 0] S1x4096x512.size inb_S2x4096x512_S1x4096x512_1_0_0

/-- What the body stores of a landed half is its slab. -/
theorem pay3_eq (f : Buf (Elt F) ((c : Thread nD τ).loc cc0_scratch0)) :
    k0_pay3 (View.readAt (Elt F) (Memref.whole cc0_scratch0).view half0.toLoadRect f) = slab (slot0.view.read (Elt F) f) := rfl
theorem pay4_eq (f : Buf (Elt F) ((c : Thread nD τ).loc cc0_scratch0)) :
    k0_pay4 (View.readAt (Elt F) (Memref.whole cc0_scratch0).view half1.toLoadRect f) = slab (slot1.view.read (Elt F) f) := rfl

/-- After both halves are stored, the first half reads as what was stored there, -/
theorem read_half0 (f : Buf (Elt F) ((c : Thread nD τ).loc cc0_scratch1)) (p q : Vec F S1x4096x512 .bf16) :
    View.readAt (Elt F) (Memref.whole cc0_scratch1).view half0.toLoadRect ((Memref.whole cc0_scratch1).view.writes (Elt F) f [⟨half1, p⟩, ⟨half0, q⟩]) = q := by
  funext x
  refine (View.read_writes_cons_miss_of_axis (Memref.whole cc0_scratch1).view f ⟨half1, p⟩ [⟨half0, q⟩] (half0.emb x) 0 1 1 rfl rfl rfl (Or.inl ?_)).trans
    (View.read_writes_cons_emb (Memref.whole cc0_scratch1).view f half0 q [] x)
  have h : (x 0).val < 1 := (x 0).isLt
  show 0 + 1 * (x 0).val < 1
  omega
/-- and the second half too. -/
theorem read_half1 (f : Buf (Elt F) ((c : Thread nD τ).loc cc0_scratch1)) (p q : Vec F S1x4096x512 .bf16) :
    View.readAt (Elt F) (Memref.whole cc0_scratch1).view half1.toLoadRect ((Memref.whole cc0_scratch1).view.writes (Elt F) f [⟨half1, p⟩, ⟨half0, q⟩]) = p :=
  funext fun x => View.read_writes_cons_emb (Memref.whole cc0_scratch1).view f half1 p [⟨half0, q⟩] x

/-- A half copied over twice reads as the later copy. -/
theorem read_copied_twice {sp : Space} {s : Shape} {e : EltTy} (v : View sig .tc sp s e) (f : v.ty.Contents (Elt F)) (x y : s.Idx → Elt F e) :
    v.read (Elt F) (v.writes (Elt F) f [⟨Rect.whole s, x⟩, ⟨Rect.whole s, y⟩]) = x := by
  funext z
  have h := View.read_writes_cons_emb v f (Rect.whole s) x [⟨Rect.whole s, y⟩] z
  rwa [Rect.emb_whole_apply] at h

/-- The weight buffer holds the slabs of expert `e`, column block `j`. -/
def loaded (wg : WG (F := F) c) (wu : WU (F := F) c) (e : Fin 16) (j : Fin 3) : sProp 𝕄 :=
  iprop(∃ wb, ⌜View.readAt (Elt F) (Memref.whole cc0_scratch1).view half0.toLoadRect wb = slabG c wg e j
      ∧ View.readAt (Elt F) (Memref.whole cc0_scratch1).view half1.toLoadRect wb = slabU c wu e j⌝
    ∗ ((Memref.whole cc0_scratch1).view.loc (c : Thread nD τ) ↦{fullShare} wb))

/-- What a tile's result is: the gated product where the tile is a real one, zero where not. -/
def tileOut (v : BitVec 32) (x : Vec F S256x4096 .bf16) (g u : Vec F S1x4096x512 .bf16) : Vec F S256x512 .bf16 :=
  if k0_cond4 v = 1#1 then k0_pay1 x g u else k0_pay2

/-- The two conditions on a tile's validity exclude one another and one of them holds. -/
theorem cond45 (v : BitVec 32) : (k0_cond4 v = 1#1 ∧ ¬ k0_cond5 v = 1#1) ∨ (¬ k0_cond4 v = 1#1 ∧ k0_cond5 v = 1#1) := by
  unfold k0_cond4 k0_cond5
  dsimp only [Scalar.cmpi, IntOp.cmpi]
  generalize (v == 1#32) = b
  cases b <;> decide

/-- The body at whole memrefs. -/
abbrev bodyAt (i : grid0.Coords) (A3 : Memref sig .tc .vmem S256x4096 .bf16) (h3 : A3.IsWhole) (A6 : Memref sig .tc .vmem S256x512 .bf16) (h6 : A6.IsWhole) :
    Prog (TpuEff nD τ sig (Elt F) Λ₀ .tc) PUnit :=
  cc0_moe_gate_up i (Memref.whole main_arg0) (Memref.isWhole_whole _) A3 h3 (Memref.whole main_arg2) (Memref.isWhole_whole _) (Memref.whole main_arg3) (Memref.isWhole_whole _)
            A6 h6 (Memref.whole cc0_scratch0) (Memref.isWhole_whole _) (Memref.whole cc0_scratch1) (Memref.isWhole_whole _) cc0_scratch2

/-- The body's share of the table. -/
abbrev tabP (tab : Tab (F := F) c) : sProp 𝕄 := (Memref.whole main_arg0).view.loc (c : Thread nD τ) ↦{fullShare.right} tab

end Cert.Proof.Up

end
-- ==== Proof.UpRuns.lean ====
module

public import proofs.«01_k».proof.Pre_runs_ok
public import Idealize.ShloMosaic.Lib.ReduceAll
public import Idealize.ShloMosaic.Lib.WordCmp
public import Idealize.ShloMosaic.Lib.ValueLayout

@[expose] public section

noncomputable section

/-! The table of runs that the gate/up call of the expert layer reads: what its words say of one another, which run the
    copies under way after a grid point belong to, and that the precondition `runs_ok` states it. No program is named here. -/

namespace Cert.Proof.UpRuns

open Idealize.ShloMosaic

/-- The tile of rows a point works on, and the block of columns, of the point's number. -/
def row (k : Nat) : Fin 80 := ⟨k % 80, Nat.mod_lt _ (by decide)⟩
def col (k : Nat) : Fin 3 := ⟨k / 80 % 3, Nat.mod_lt _ (by decide)⟩

/-! ## What the table says -/

/-- The table of runs, in plain words: experts and next experts are numbers below sixteen; a run begins at the first
    tile; inside a run nothing changes; a new run is the one announced, and not after a last one; the last tile's run is the
    last and announces the first. -/
structure Runs (w : Fin 5 → Fin 80 → BitVec 32) : Prop where
  expert : ∀ i, (w 0 i).toNat < 16
  next : ∀ i, (w 3 i).toNat < 16
  start : w 2 0 = 1#32
  same : ∀ i i' : Fin 80, i'.val = i.val + 1 → w 2 i' ≠ 1#32 → w 0 i' = w 0 i ∧ w 3 i' = w 3 i ∧ w 4 i' = w 4 i
  turn : ∀ i i' : Fin 80, i'.val = i.val + 1 → w 2 i' = 1#32 → w 4 i ≠ 1#32 ∧ w 3 i = w 0 i'
  last : w 4 79 = 1#32
  back : w 3 79 = w 0 0

/-- The expert of a tile, and the next run's. -/
def expertOf (w : Fin 5 → Fin 80 → BitVec 32) (i : Fin 80) : Fin 16 := ⟨(w 0 i).toNat % 16, Nat.mod_lt _ (by decide)⟩
def nextOf (w : Fin 5 → Fin 80 → BitVec 32) (i : Fin 80) : Fin 16 := ⟨(w 3 i).toNat % 16, Nat.mod_lt _ (by decide)⟩

/-- Whether the copies are done after a point, and which column block the copies under way after it are of. -/
def done (w : Fin 5 → Fin 80 → BitVec 32) (k : Nat) : Prop := w 4 (row k) = 1#32 ∧ (col k).val = 2
def colNext (w : Fin 5 → Fin 80 → BitVec 32) (k : Nat) : Fin 3 := if w 4 (row k) = 1#32 then col (k + 80) else col k

variable {w : Fin 5 → Fin 80 → BitVec 32} (hw : Runs w)
include hw

theorem expertOf_val (i : Fin 80) : (expertOf w i).val = (w 0 i).toNat := Nat.mod_eq_of_lt (hw.expert i)
theorem nextOf_val (i : Fin 80) : (nextOf w i).val = (w 3 i).toNat := Nat.mod_eq_of_lt (hw.next i)

/-- Where a run begins, the copies under way are of its own expert and column block. -/
theorem arrive (k : Nat) (hk : k + 1 < 240) (h : w 2 (row (k + 1)) = 1#32) :
    ¬ done w k ∧ nextOf w (row k) = expertOf w (row (k + 1)) ∧ colNext w k = col (k + 1) := by
  unfold done colNext nextOf expertOf
  by_cases h0 : (k + 1) % 80 = 0
  · have hr : row k = 79 := Fin.ext (by show k % 80 = 79; omega)
    have hr' : row (k + 1) = 0 := Fin.ext h0
    rw [hr, hr', if_pos hw.last]
    refine ⟨fun hd => ?_, Fin.ext (congrArg (fun v : BitVec 32 => v.toNat % 16) hw.back), Fin.ext ?_⟩
    · have : k / 80 % 3 = 2 := hd.2
      omega
    · show (k + 80) / 80 % 3 = (k + 1) / 80 % 3
      omega
  · obtain ⟨h4, h3⟩ := hw.turn (row k) (row (k + 1)) (by show (k + 1) % 80 = k % 80 + 1; omega) h
    rw [if_neg h4]
    refine ⟨fun hd => h4 hd.1, Fin.ext (congrArg (fun v : BitVec 32 => v.toNat % 16) h3), Fin.ext ?_⟩
    show k / 80 % 3 = (k + 1) / 80 % 3
    omega

/-- Inside a run everything is as at the point before. -/
theorem stay (k : Nat) (h : w 2 (row (k + 1)) ≠ 1#32) :
    expertOf w (row (k + 1)) = expertOf w (row k) ∧ col (k + 1) = col k ∧ (done w (k + 1) ↔ done w k)
      ∧ nextOf w (row (k + 1)) = nextOf w (row k) ∧ colNext w (k + 1) = colNext w k := by
  have h0 : (k + 1) % 80 ≠ 0 := fun h0 => h (by rw [show row (k + 1) = 0 from Fin.ext h0]; exact hw.start)
  obtain ⟨a, b, d⟩ := hw.same (row k) (row (k + 1)) (by show (k + 1) % 80 = k % 80 + 1; omega) h
  have hc : col (k + 1) = col k := Fin.ext (by show (k + 1) / 80 % 3 = k / 80 % 3; omega)
  have hc' : col (k + 1 + 80) = col (k + 80) := Fin.ext (by show (k + 1 + 80) / 80 % 3 = (k + 80) / 80 % 3; omega)
  unfold done colNext nextOf expertOf
  rw [d, hc, hc']
  exact ⟨Fin.ext (congrArg (fun v : BitVec 32 => v.toNat % 16) a), rfl, Iff.rfl,
    Fin.ext (congrArg (fun v : BitVec 32 => v.toNat % 16) b), rfl⟩

end Cert.Proof.UpRuns

namespace Cert.Proof.UpRuns

open Idealize.ShloMosaic Idealize.ShloMosaic.ValueIdx Cert.Pre_runs_ok

/-! ## The precondition states it -/

/-- The word of a table in row `r` at tile `i`. -/
def word (tab : IVec S5x80 32) (r : Fin 5) (i : Fin 80) : BitVec 32 := tab (ix2 r i)

/-- A row of the table, sliced out and flattened, holds the row's words. -/
theorem row_word (tab : IVec S5x80 32) (r : Fin 5) (off : Fin 2 → Nat) (h : S5x80.Slices off S1x80) (ho : off = ![r.val, 0])
    (h' : S1x80.ShapeCasts S80) (i : Fin 80) : shapeCast S80 (extractStridedSlice S1x80 off tab h) h' (ix1 i) = word tab r i := by
  subst ho
  refine (shapeCast_1a_a_apply (a := 80) (extractStridedSlice S1x80 ![r.val, 0] tab h) h' i).trans ?_
  unfold extractStridedSlice word
  refine congrArg tab (funext fun a => Fin.ext ?_)
  fin_cases a
  · show r.val + 0 = r.val; omega
  · show 0 + i.val = i.val; omega

variable [Facts]
open Facts

variable {F : FTy → Type} [FloatOps F]

/-- A vector's first element, and its last, as the precondition reads them. -/
theorem at_one (v : IVec S80 32) (k : Fin 80) (off : Fin 1 → Nat) (h : S80.Slices off S1) (ho : off = ![k.val]) (h' : S1.ShapeCasts S_) (j : S_.Idx) :
    shapeCast S_ (extractStridedSlice S1 off v h) h' j = v (ix1 k) := by
  subst ho
  refine (shapeCast_apply (extractStridedSlice S1 ![k.val] v h) h' j (ix1 (0 : Fin 1)) ?_).trans ?_
  · have := (S1.rowMajor (ix1 (0 : Fin 1))).isLt
    have := (S_.rowMajor j).isLt
    have h1 : S1.numel = 1 := by decide
    have h2 : S_.numel = 1 := by decide
    omega
  · unfold extractStridedSlice
    refine congrArg v (funext fun a => Fin.ext ?_)
    fin_cases a
    show k.val + 0 = k.val; omega

/-- A vector without its first element, and without its last. -/
theorem tail_at (v : IVec S80 32) (h : S80.Slices ![1] S79) (i : Fin 79) : extractStridedSlice S79 ![1] v h (ix1 i) = v (ix1 (⟨i.val + 1, by omega⟩ : Fin 80)) := by
  unfold extractStridedSlice
  refine congrArg v (funext fun a => Fin.ext ?_)
  fin_cases a
  show 1 + i.val = i.val + 1; omega
theorem init_at (v : IVec S80 32) (h : S80.Slices ![0] S79) (i : Fin 79) : extractStridedSlice S79 ![0] v h (ix1 i) = v (ix1 (⟨i.val, by omega⟩ : Fin 80)) := by
  unfold extractStridedSlice
  refine congrArg v (funext fun a => Fin.ext ?_)
  fin_cases a
  show 0 + i.val = i.val; omega

instance : Subsingleton S_.Idx := ⟨fun a b => funext fun i => i.elim0⟩

/-- A table meeting the precondition is a table of runs. -/
theorem runs_of_pre (tab : IVec S5x80 32) (x : FVec F S20480x4096 .bf16) (g u : FVec F S2x16x4096x1536 .f32)
    (h : (fn (F := F) tab x g u).1 = (fun _ => 1#1) ∧ (fn (F := F) tab x g u).2.1 = (fun _ => 1#1) ∧ (fn (F := F) tab x g u).2.2.1 = (fun _ => 1#1)
      ∧ (fn (F := F) tab x g u).2.2.2.1 = (fun _ => 1#1) ∧ (fn (F := F) tab x g u).2.2.2.2.1 = (fun _ => 1#1) ∧ (fn (F := F) tab x g u).2.2.2.2.2 = (fun _ => 1#1)) :
    Runs (word tab) := by
  let j : S_.Idx := fun i => i.elim0
  let r0 : IVec S80 32 := shapeCast S80 (extractStridedSlice S1x80 ![0, 0] tab slices_S5x80_S1x80_0_0) shapeCasts_S1x80_S80
  let r2 : IVec S80 32 := shapeCast S80 (extractStridedSlice S1x80 ![2, 0] tab slices_S5x80_S1x80_2_0) shapeCasts_S1x80_S80
  let r3 : IVec S80 32 := shapeCast S80 (extractStridedSlice S1x80 ![3, 0] tab slices_S5x80_S1x80_3_0) shapeCasts_S1x80_S80
  let r4 : IVec S80 32 := shapeCast S80 (extractStridedSlice S1x80 ![4, 0] tab slices_S5x80_S1x80_4_0) shapeCasts_S1x80_S80
  have e0 : ∀ i : Fin 80, r0 (ix1 i) = word tab 0 i := row_word tab 0 _ _ rfl _
  have e2 : ∀ i : Fin 80, r2 (ix1 i) = word tab 2 i := row_word tab 2 _ _ rfl _
  have e3 : ∀ i : Fin 80, r3 (ix1 i) = word tab 3 i := row_word tab 3 _ _ rfl _
  have e4 : ∀ i : Fin 80, r4 (ix1 i) = word tab 4 i := row_word tab 4 _ _ rfl _
  have small : ∀ v : BitVec 32, IntOp.andi (IntOp.cmpi .sge v 0#32) (IntOp.cmpi .slt v 16#32) = 1#1 → v.toNat < 16 := fun v hv => by
    have : IntOp.andi (IntOp.cmpi .sge v 0#32) (IntOp.cmpi .slt v 16#32) = 1#1 ↔ v.toNat < 16 := by word_cmp
    exact this.1 hv
  obtain ⟨h1, h2, h3, h4, h5, h6⟩ := h
  have f1 : ∀ i : Fin 80, IntOp.andi (IntOp.cmpi .sge (r0 (ix1 i)) 0#32) (IntOp.cmpi .slt (r0 (ix1 i)) 16#32) = 1#1 := fun i =>
    Host.reduce_andi_all _ _ reducesTo_S80_S_d0 h_S_ j (congrFun h1 j) (ix1 i)
  have f2 : ∀ i : Fin 80, IntOp.andi (IntOp.cmpi .sge (r3 (ix1 i)) 0#32) (IntOp.cmpi .slt (r3 (ix1 i)) 16#32) = 1#1 := fun i =>
    Host.reduce_andi_all _ _ reducesTo_S80_S_d0 h_S_ j (congrFun h2 j) (ix1 i)
  have f3 : IntOp.cmpi .eq (shapeCast S_ (extractStridedSlice S1 ![0] r2 slices_S80_S1_0) shapeCasts_S1_S_ j) 1#32 = 1#1 := congrFun h3 j
  have f4 : ∀ i : Fin 79, IntOp.ori (IntOp.cmpi .eq (extractStridedSlice S79 ![1] r2 slices_S80_S79_1 (ix1 i)) 1#32)
      (IntOp.andi (IntOp.andi (IntOp.cmpi .eq (extractStridedSlice S79 ![1] r0 slices_S80_S79_1 (ix1 i)) (extractStridedSlice S79 ![0] r0 slices_S80_S79_0 (ix1 i)))
        (IntOp.cmpi .eq (extractStridedSlice S79 ![1] r3 slices_S80_S79_1 (ix1 i)) (extractStridedSlice S79 ![0] r3 slices_S80_S79_0 (ix1 i))))
        (IntOp.cmpi .eq (extractStridedSlice S79 ![1] r4 slices_S80_S79_1 (ix1 i)) (extractStridedSlice S79 ![0] r4 slices_S80_S79_0 (ix1 i)))) = 1#1 := fun i =>
    Host.reduce_andi_all _ _ reducesTo_S79_S_d0 h_S_ j (congrFun h4 j) (ix1 i)
  have f5 : ∀ i : Fin 79, IntOp.ori (IntOp.cmpi .ne (extractStridedSlice S79 ![1] r2 slices_S80_S79_1 (ix1 i)) 1#32)
      (IntOp.andi (IntOp.cmpi .ne (extractStridedSlice S79 ![0] r4 slices_S80_S79_0 (ix1 i)) 1#32)
        (IntOp.cmpi .eq (extractStridedSlice S79 ![0] r3 slices_S80_S79_0 (ix1 i)) (extractStridedSlice S79 ![1] r0 slices_S80_S79_1 (ix1 i)))) = 1#1 := fun i =>
    Host.reduce_andi_all _ _ reducesTo_S79_S_d0 h_S_ j (congrFun h5 j) (ix1 i)
  have f6 : IntOp.andi (IntOp.cmpi .eq (shapeCast S_ (extractStridedSlice S1 ![79] r4 slices_S80_S1_79) shapeCasts_S1_S_ j) 1#32)
      (IntOp.cmpi .eq (shapeCast S_ (extractStridedSlice S1 ![79] r3 slices_S80_S1_79) shapeCasts_S1_S_ j) (shapeCast S_ (extractStridedSlice S1 ![0] r0 slices_S80_S1_0) shapeCasts_S1_S_ j)) = 1#1 :=
    congrFun h6 j
  rw [at_one r2 0 ![0] slices_S80_S1_0 rfl, e2, IntOp.cmpi_eq] at f3
  rw [at_one r4 79 ![79] slices_S80_S1_79 rfl, at_one r3 79 ![79] slices_S80_S1_79 rfl, at_one r0 0 ![0] slices_S80_S1_0 rfl, e4, e3, e0, IntOp.andi_eq_one, IntOp.cmpi_eq, IntOp.cmpi_eq] at f6
  simp only [tail_at, init_at, e0, e2, e3, e4, IntOp.ori_eq_one, IntOp.andi_eq_one, IntOp.cmpi_eq, IntOp.cmpi_ne] at f4 f5
  refine ⟨fun i => small _ (by rw [← e0]; exact f1 i), fun i => small _ (by rw [← e3]; exact f2 i), f3, ?_, ?_, f6.1, f6.2⟩
  · intro i i' hi hne
    have hlt : i.val + 1 < 80 := hi ▸ i'.isLt
    obtain rfl : i' = ⟨i.val + 1, hlt⟩ := Fin.ext hi
    rcases f4 ⟨i.val, by omega⟩ with h | ⟨⟨a, b⟩, d⟩
    · exact absurd h hne
    · exact ⟨a, b, d⟩
  · intro i i' hi heq
    have hlt : i.val + 1 < 80 := hi ▸ i'.isLt
    obtain rfl : i' = ⟨i.val + 1, hlt⟩ := Fin.ext hi
    rcases f5 ⟨i.val, by omega⟩ with h | ⟨a, b⟩
    · exact absurd heq h
    · exact ⟨a, b⟩

end Cert.Proof.UpRuns

end
-- ==== Proof.UpTable.lean ====
module

public import proofs.«01_k».proof.Proof.UpBody
public import proofs.«01_k».proof.Proof.UpRuns

@[expose] public section

set_option maxRecDepth 16384

noncomputable section

namespace Cert.Proof.Up

open Cert.KernelUpIdeal Cert.KernelUpIdeal.Gen Cert.Proof.UpRuns
open Idealize.ShloMosaic Idealize.ShloMosaic.TcCoe

variable {F : FTy → Type} [FloatOps F]

/-! ## Points of the grid -/

/-- They are the point's coordinates. -/
theorem coords_row : ∀ t : Fin 240, (grid0.coords t 1).val = (row t.val).val := by decide +kernel
theorem coords_col : ∀ t : Fin 240, (grid0.coords t 0).val = (col t.val).val := by decide +kernel

/-- Only the first point issues its own copies. -/
theorem cond1_iff : ∀ t : Fin 240, k0_cond1 (grid0.coords t) = 1#1 ↔ t.val = 0 := by decide +kernel

/-- A run begins where the third row of the table holds one. -/
theorem cond2_iff (v : BitVec 32) : k0_cond2 v = 1#1 ↔ v = 1#32 := by
  rw [← beq_iff_eq (a := v)]
  unfold k0_cond2
  dsimp only [Scalar.cmpi, IntOp.cmpi]
  generalize (v == 1#32) = b
  cases b <;> decide

/-- Copies are issued unless the run is the table's last and the column block the last. -/
theorem cond3_iff (i : grid0.Coords) (v : BitVec 32) : k0_cond3 i v = 1#1 ↔ ¬ (v = 1#32 ∧ (i 0).val = 2) := by
  rw [← beq_iff_eq (a := v)]
  unfold k0_cond3
  dsimp only [Scalar.cmpi, IntOp.cmpi]
  generalize (v == 1#32) = b
  generalize (i 0) = j
  revert j
  cases b <;> decide

/-- Where the blocks the body copies begin. -/
theorem off1_eq (v : BitVec 32) : k0_off1 v = ![0, v.toNat, 0, 0] := rfl
theorem off4_eq (i : grid0.Coords) (v : BitVec 32) : k0_off4 i v = ![0, v.toNat, 0, 512 * (i 0).val] := by
  have h : ∀ j : Fin 3, (Scalar.muli (BitVec.ofNat 32 j.val) 512#32).toNat = 512 * j.val := by decide
  unfold k0_off4
  exact congrArg (fun n => (![0, v.toNat, 0, n] : Fin 4 → Nat)) (h (i 0))
theorem off7_eq (i : grid0.Coords) (v w : BitVec 32) :
    k0_off7 i v w = ![0, w.toNat, 0, 512 * (if v = 1#32 then (i 0).val + 1 else (i 0).val)] := by
  by_cases hv : v = 1#32
  · subst hv
    have h : ∀ j : Fin 3, (Scalar.muli (BitVec.ofNat 32 j.val + 1#32) 512#32).toNat = 512 * (j.val + 1) := by decide
    rw [if_pos rfl]
    exact congrArg (fun n => (![0, w.toNat, 0, n] : Fin 4 → Nat)) (h (i 0))
  · have h : ∀ j : Fin 3, (Scalar.muli (BitVec.ofNat 32 j.val) 512#32).toNat = 512 * j.val := by decide
    rw [if_neg hv]
    have hb : (v == 1#32) = false := by simpa using hv
    unfold k0_off7
    dsimp only [Scalar.cmpi, IntOp.cmpi]
    rw [hb]
    exact congrArg (fun n => (![0, w.toNat, 0, n] : Fin 4 → Nat)) (h (i 0))

end Cert.Proof.Up

end
-- ==== Proof.UpStart.lean ====
module

public import proofs.«01_k».proof.Proof.UpBody

@[expose] public section

set_option maxRecDepth 16384

noncomputable section

namespace Cert.Proof.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- The first point of the grid: its own copies are issued first, and the rest is as at any point that begins a run. -/
theorem run_start (i : grid0.Coords) (tab : Tab (F := F) c) (wg : WG (F := F) c) (wu : WU (F := F) c) (e : Fin 16) (j : Fin 3)
    (h1 : k0_cond1 i = 1#1)
    (hc1 : k0_chk1 i (rd c ![0, 0] inb_S5x80_S1x1_0_0 tab))
    (ho1 : k0_off1 (rd c ![0, 0] inb_S5x80_S1x1_0_0 tab) = offs e j)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : k0_cond3 i (rd c (k0_off5 i) (k0_off5_inb i) tab) = 1#1)
    (hc4 : k0_chk4 i (rd c (k0_off2 i) (k0_off2_inb i) tab) (rd c (k0_off5 i) (k0_off5_inb i) tab) (rd c (k0_off6 i) (k0_off6_inb i) tab))
    (P' : sProp 𝕄) (hb : ∀ a, k0_off7 i (rd c (k0_off5 i) (k0_off5_inb i) tab) (rd c (k0_off6 i) (k0_off6_inb i) tab) a + S1x1x4096x512.size a ≤ S2x16x4096x1536.size a)
    (ho : flyingAt c wg wu (k0_off7 i (rd c (k0_off5 i) (k0_off5_inb i) tab) (rd c (k0_off6 i) (k0_off6_inb i) tab)) hb ⊢ P')
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ resting c wg wu ∗ (∃ wb, (Memref.whole cc0_scratch1).view.loc (c : Thread nD τ) ↦{fullShare} wb)
        ∗ owns (c : Thread nD τ) A3 fullShare x ∗ (∃ d, owns (c : Thread nD τ) A6 fullShare d) ∗ (∃ W, owes (c : Thread nD τ) 0 W)
        ∗ (iprop(tabP c tab ∗ P' ∗ loaded c wg wu e j
            ∗ owns (c : Thread nD τ) A3 fullShare x
            ∗ owns (c : Thread nD τ) A6 fullShare (tileOut (rd c (k0_off8 i) (k0_off8_inb i) tab) x (slabG c wg e j) (slabU c wu e j))
            ∗ (∃ W, owes (c : Thread nD τ) 0 W)) -∗ K ⟨⟩))
      ⊢ wp frame (wpE (defs₀ (F := F)) Variants.none c none) Set.univ (bodyAt (F := F) i A3 w3 A6 w6) K := by
  unfold bodyAt
  rw [cc0_moe_gate_up_eq_skeleton]; unfold cc0_moe_gate_up_skel
  unfold resting owns tileOut
  iintro ⟨HT, ⟨⟨%fg, HG_dst⟩, ⟨%fu, HU_dst⟩, HWG, HWU, HG, HU⟩, ⟨%wb, HB⟩, ⟨%f3, %hf3, H3⟩, ⟨%d6, %f6, -, H6⟩, ⟨%W, HO⟩, HK⟩
  subst hf3
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact h4 | exact h5 | exact hc2 | exact hc4 | exact hc3 _ _ _ | exact hc1)
  all_goals
    sl_step
    iapply HK
    isplitl [HT]; · iexact HT
    isplitl [HG HU HWG HWU]
    · iapply ho
      unfold flyingAt
      iexists _, _
      isplitr
      swap
      · isplitl [HG]; · iexact HG
        isplitl [HU]; · iexact HU
        isplitl [HWG]; · iexact HWG
        iexact HWU
      ipureintro
      exact ⟨read_copied_twice _ _ _ _, read_copied_twice _ _ _ _⟩
    isplitl [HB]
    · unfold loaded
      iexists _
      isplitr
      swap; · iexact HB
      ipureintro
      refine ⟨?_, ?_⟩
      · exact (read_half0 c _ _ _).trans ((pay3_eq c _).trans (congrArg slab ((View.read_writes_whole _ _ _).trans (srcG_eq c wg _ _ e j ho1))))
      · exact (read_half1 c _ _ _).trans ((pay4_eq c _).trans (congrArg slab ((View.read_writes_whole _ _ _).trans (srcU_eq c wu _ _ e j ho1))))
    isplitl [H3]
    · iexists _
      isplitr; · ipureintro; rfl
      iexact H3
    isplitl [H6]
    · iexists _
      isplitr
      swap; · iexact H6
      ipureintro
      first
        | refine Eq.trans ?_ (if_neg h4).symm
          exact View.read_writes_full A6.view _ inb_S256x512_S256x512_0_0 _ []
        | refine Eq.trans ?_ (if_pos h4).symm
          refine (View.read_writes_full A6.view _ inb_S256x512_S256x512_0_0 _ []).trans ?_
          rw [View.readAt_full]
          refine congrArg₂ (k0_pay1 _) ?_ ?_
          · unfold run_start.sl.v20 run_start.sl.HB_2
            exact (read_half0 c _ _ _).trans ((pay3_eq c _).trans (congrArg slab ((View.read_writes_whole _ _ _).trans (srcG_eq c wg _ _ e j ho1))))
          · unfold run_start.sl.v23 run_start.sl.HB_2
            exact (read_half1 c _ _ _).trans ((pay4_eq c _).trans (congrArg slab ((View.read_writes_whole _ _ _).trans (srcU_eq c wu _ _ e j ho1))))
    iexists _; iexact HO

end Cert.Proof.Up

end
-- ==== Proof.UpGo.lean ====
module

public import proofs.«01_k».proof.Proof.UpBody

@[expose] public section

set_option maxRecDepth 16384

noncomputable section

namespace Cert.Proof.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 1600000 in
/-- A point that begins an expert's run, not the first of the grid, with copies to issue: the copies under way land, their
    slabs are stored, the next copies are issued, and the tile is computed. -/
theorem run_first_go (i : grid0.Coords) (tab : Tab (F := F) c) (wg : WG (F := F) c) (wu : WU (F := F) c) (e : Fin 16) (j : Fin 3)
    (h1 : ¬ k0_cond1 i = 1#1)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : k0_cond3 i (rd c (k0_off5 i) (k0_off5_inb i) tab) = 1#1)
    (hc4 : k0_chk4 i (rd c (k0_off2 i) (k0_off2_inb i) tab) (rd c (k0_off5 i) (k0_off5_inb i) tab) (rd c (k0_off6 i) (k0_off6_inb i) tab))
    (P' : sProp 𝕄) (hb : ∀ a, k0_off7 i (rd c (k0_off5 i) (k0_off5_inb i) tab) (rd c (k0_off6 i) (k0_off6_inb i) tab) a + S1x1x4096x512.size a ≤ S2x16x4096x1536.size a)
    (ho : flyingAt c wg wu (k0_off7 i (rd c (k0_off5 i) (k0_off5_inb i) tab) (rd c (k0_off6 i) (k0_off6_inb i) tab)) hb ⊢ P')
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ flying c wg wu e j ∗ (∃ wb, (Memref.whole cc0_scratch1).view.loc (c : Thread nD τ) ↦{fullShare} wb)
        ∗ owns (c : Thread nD τ) A3 fullShare x ∗ (∃ d, owns (c : Thread nD τ) A6 fullShare d) ∗ (∃ W, owes (c : Thread nD τ) 0 W)
        ∗ (iprop(tabP c tab ∗ P' ∗ loaded c wg wu e j
            ∗ owns (c : Thread nD τ) A3 fullShare x
            ∗ owns (c : Thread nD τ) A6 fullShare (tileOut (rd c (k0_off8 i) (k0_off8_inb i) tab) x (slabG c wg e j) (slabU c wu e j))
            ∗ (∃ W, owes (c : Thread nD τ) 0 W)) -∗ K ⟨⟩))
      ⊢ wp frame (wpE (defs₀ (F := F)) Variants.none c none) Set.univ (bodyAt (F := F) i A3 w3 A6 w6) K := by
  unfold bodyAt
  rw [cc0_moe_gate_up_eq_skeleton]; unfold cc0_moe_gate_up_skel
  unfold flying flyingAt owns tileOut
  iintro ⟨HT, ⟨%fg, %fu, %hf, HG, HU, HWG, HWU⟩, ⟨%wb, HB⟩, ⟨%f3, %hf3, H3⟩, ⟨%d6, %f6, -, H6⟩, ⟨%W, HO⟩, HK⟩
  subst hf3
  obtain ⟨hf0, hf1⟩ := hf
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact h4 | exact h5 | exact hc2 | exact hc4 | exact hc3 _ _ _)
  all_goals
    sl_step
    iapply HK
    isplitl [HT]; · iexact HT
    isplitl [HG HU HWG HWU]
    · iapply ho
      unfold flyingAt
      iexists _, _
      isplitr
      swap
      · isplitl [HG]; · iexact HG
        isplitl [HU]; · iexact HU
        isplitl [HWG]; · iexact HWG
        iexact HWU
      ipureintro
      exact ⟨View.read_writes_whole _ _ _, View.read_writes_whole _ _ _⟩
    isplitl [HB]
    · unfold loaded
      iexists _
      isplitr
      swap; · iexact HB
      ipureintro
      exact ⟨(read_half0 c _ _ _).trans ((pay3_eq c _).trans (congrArg slab hf0)), (read_half1 c _ _ _).trans ((pay4_eq c _).trans (congrArg slab hf1))⟩
    isplitl [H3]
    · iexists _
      isplitr; · ipureintro; rfl
      iexact H3
    isplitl [H6]
    · iexists _
      isplitr
      swap; · iexact H6
      ipureintro
      first
        | refine Eq.trans ?_ (if_neg h4).symm
          exact View.read_writes_full A6.view _ inb_S256x512_S256x512_0_0 _ []
        | refine Eq.trans ?_ (if_pos h4).symm
          refine (View.read_writes_full A6.view _ inb_S256x512_S256x512_0_0 _ []).trans ?_
          rw [View.readAt_full]
          refine congrArg₂ (k0_pay1 _) ?_ ?_
          · unfold run_first_go.sl.v20 run_first_go.sl.HB_2
            exact (read_half0 c _ _ _).trans ((pay3_eq c _).trans (congrArg slab hf0))
          · unfold run_first_go.sl.v23 run_first_go.sl.HB_2
            exact (read_half1 c _ _ _).trans ((pay4_eq c _).trans (congrArg slab hf1))
    iexists _; iexact HO

end Cert.Proof.Up

end
-- ==== Proof.UpStop.lean ====
module

public import proofs.«01_k».proof.Proof.UpBody

@[expose] public section

set_option maxRecDepth 16384

noncomputable section

namespace Cert.Proof.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 1600000 in
/-- A point that begins an expert's run with nothing left to copy: as above, and nothing is under way after. -/
theorem run_first_stop (i : grid0.Coords) (tab : Tab (F := F) c) (wg : WG (F := F) c) (wu : WU (F := F) c) (e : Fin 16) (j : Fin 3)
    (h1 : ¬ k0_cond1 i = 1#1)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : ¬ k0_cond3 i (rd c (k0_off5 i) (k0_off5_inb i) tab) = 1#1)
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ flying c wg wu e j ∗ (∃ wb, (Memref.whole cc0_scratch1).view.loc (c : Thread nD τ) ↦{fullShare} wb)
        ∗ owns (c : Thread nD τ) A3 fullShare x ∗ (∃ d, owns (c : Thread nD τ) A6 fullShare d) ∗ (∃ W, owes (c : Thread nD τ) 0 W)
        ∗ (iprop(tabP c tab ∗ resting c wg wu ∗ loaded c wg wu e j
            ∗ owns (c : Thread nD τ) A3 fullShare x
            ∗ owns (c : Thread nD τ) A6 fullShare (tileOut (rd c (k0_off8 i) (k0_off8_inb i) tab) x (slabG c wg e j) (slabU c wu e j))
            ∗ (∃ W, owes (c : Thread nD τ) 0 W)) -∗ K ⟨⟩))
      ⊢ wp frame (wpE (defs₀ (F := F)) Variants.none c none) Set.univ (bodyAt (F := F) i A3 w3 A6 w6) K := by
  unfold bodyAt
  rw [cc0_moe_gate_up_eq_skeleton]; unfold cc0_moe_gate_up_skel
  unfold flying flyingAt owns tileOut
  iintro ⟨HT, ⟨%fg, %fu, %hf, HG, HU, HWG, HWU⟩, ⟨%wb, HB⟩, ⟨%f3, %hf3, H3⟩, ⟨%d6, %f6, -, H6⟩, ⟨%W, HO⟩, HK⟩
  subst hf3
  obtain ⟨hf0, hf1⟩ := hf
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact h4 | exact h5 | exact hc2 | exact hc3 _ _ _)
  all_goals
    sl_step
    iapply HK
    isplitl [HT]; · iexact HT
    isplitl [HG HU HWG HWU HG_dst HU_dst]
    · unfold resting
      isplitl [HG_dst]; · iexists _; iexact HG_dst
      isplitl [HU_dst]; · iexists _; iexact HU_dst
      isplitl [HWG]; · iexact HWG
      isplitl [HWU]; · iexact HWU
      isplitl [HG]; · iexact HG
      iexact HU
    isplitl [HB]
    · unfold loaded
      iexists _
      isplitr
      swap; · iexact HB
      ipureintro
      exact ⟨(read_half0 c _ _ _).trans ((pay3_eq c _).trans (congrArg slab hf0)), (read_half1 c _ _ _).trans ((pay4_eq c _).trans (congrArg slab hf1))⟩
    isplitl [H3]
    · iexists _
      isplitr; · ipureintro; rfl
      iexact H3
    isplitl [H6]
    · iexists _
      isplitr
      swap; · iexact H6
      ipureintro
      first
        | refine Eq.trans ?_ (if_neg h4).symm
          exact View.read_writes_full A6.view _ inb_S256x512_S256x512_0_0 _ []
        | refine Eq.trans ?_ (if_pos h4).symm
          refine (View.read_writes_full A6.view _ inb_S256x512_S256x512_0_0 _ []).trans ?_
          rw [View.readAt_full]
          refine congrArg₂ (k0_pay1 _) ?_ ?_
          · unfold run_first_stop.sl.v20 run_first_stop.sl.HB_2
            exact (read_half0 c _ _ _).trans ((pay3_eq c _).trans (congrArg slab hf0))
          · unfold run_first_stop.sl.v23 run_first_stop.sl.HB_2
            exact (read_half1 c _ _ _).trans ((pay4_eq c _).trans (congrArg slab hf1))
    iexists _; iexact HO

end Cert.Proof.Up

end
-- ==== Proof.UpAgain.lean ====
module

public import proofs.«01_k».proof.Proof.UpBody

@[expose] public section

set_option maxRecDepth 16384

noncomputable section

namespace Cert.Proof.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 1600000 in
/-- A point inside an expert's run: no copy is waited for or issued, the tile is computed from the slabs at hand. -/
theorem run_again (i : grid0.Coords) (tab : Tab (F := F) c) (wg : WG (F := F) c) (wu : WU (F := F) c) (e : Fin 16) (j : Fin 3)
    (h1 : ¬ k0_cond1 i = 1#1)
    (h2 : ¬ k0_cond2 (rd c (k0_off2 i) (k0_off2_inb i) tab) = 1#1)
    (P : sProp 𝕄)
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ P ∗ loaded c wg wu e j
        ∗ owns (c : Thread nD τ) A3 fullShare x ∗ (∃ d, owns (c : Thread nD τ) A6 fullShare d) ∗ (∃ W, owes (c : Thread nD τ) 0 W)
        ∗ (iprop(tabP c tab ∗ P ∗ loaded c wg wu e j
            ∗ owns (c : Thread nD τ) A3 fullShare x
            ∗ owns (c : Thread nD τ) A6 fullShare (tileOut (rd c (k0_off8 i) (k0_off8_inb i) tab) x (slabG c wg e j) (slabU c wu e j))
            ∗ (∃ W, owes (c : Thread nD τ) 0 W)) -∗ K ⟨⟩))
      ⊢ wp frame (wpE (defs₀ (F := F)) Variants.none c none) Set.univ (bodyAt (F := F) i A3 w3 A6 w6) K := by
  unfold bodyAt
  rw [cc0_moe_gate_up_eq_skeleton]; unfold cc0_moe_gate_up_skel
  unfold loaded owns tileOut
  iintro ⟨HT, HP, ⟨%wb, %hb, HB⟩, ⟨%f3, %hf3, H3⟩, ⟨%d6, %f6, -, H6⟩, ⟨%W, HO⟩, HK⟩
  subst hf3
  obtain ⟨hb0, hb1⟩ := hb
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h4 | exact h5)
  all_goals
    sl_step
    iapply HK
    isplitl [HT]; · iexact HT
    isplitl [HP]; · iexact HP
    isplitl [HB]
    · iexists _
      isplitr
      swap; · iexact HB
      ipureintro
      exact ⟨hb0, hb1⟩
    isplitl [H3]
    · iexists _
      isplitr; · ipureintro; rfl
      iexact H3
    isplitl [H6]
    · iexists _
      isplitr
      swap; · iexact H6
      ipureintro
      first
        | refine Eq.trans ?_ (if_neg h4).symm
          exact View.read_writes_full A6.view _ inb_S256x512_S256x512_0_0 _ []
        | refine Eq.trans ?_ (if_pos h4).symm
          refine (View.read_writes_full A6.view _ inb_S256x512_S256x512_0_0 _ []).trans ?_
          exact congrArg (fun v => k0_pay1 v _ _) (View.readAt_full A3.view f3 inb_S256x4096_S256x4096_0_0)
    iexists _; iexact HO

end Cert.Proof.Up

end
-- ==== Proof.UpStep.lean ====
module

public import proofs.«01_k».proof.Proof.UpTable
public import proofs.«01_k».proof.Proof.UpStart
public import proofs.«01_k».proof.Proof.UpGo
public import proofs.«01_k».proof.Proof.UpStop
public import proofs.«01_k».proof.Proof.UpAgain

@[expose] public section

set_option maxRecDepth 16384

noncomputable section

namespace Cert.Proof.Up

open Cert.KernelUpIdeal Cert.KernelUpIdeal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The table's word in row `r` at tile `i`. -/
def words (tab : Tab (F := F) c) (r : Fin 5) (i : Fin 80) : BitVec 32 :=
  rd c ![r.val, i.val] (by
    have h1 := r.isLt
    have h2 := i.isLt
    intro a
    fin_cases a
    · show r.val + 1 ≤ 5; omega
    · show i.val + 1 ≤ 80; omega) tab

/-- A read of the table at an offset is the word there. -/
theorem rd_words (tab : Tab (F := F) c) (off : Fin 2 → Nat) (h) (r : Fin 5) (i : Fin 80) (ho : off = ![r.val, i.val]) :
    rd c off h tab = words c tab r i := by subst ho; rfl

/-- The copies under way after point `k`: none after the last run's last column block. -/
def moving (tab : Tab (F := F) c) (wg : WG (F := F) c) (wu : WU (F := F) c) (k : Nat) : sProp 𝕄 :=
  if words c tab 4 (row k) = 1#32 ∧ (col k).val = 2 then resting c wg wu
  else flying c wg wu (nextOf (words c tab) (row k)) (colNext (words c tab) k)

/-- What the body finds at point `n`: at first nothing loaded and no copy under way; later the slabs of the point before,
    and the copies under way after it. -/
def core (tab : Tab (F := F) c) (wg : WG (F := F) c) (wu : WU (F := F) c) : Nat → sProp 𝕄
  | 0 => iprop(resting c wg wu ∗ (∃ wb, (Memref.whole cc0_scratch1).view.loc (c : Thread nD τ) ↦{fullShare} wb))
  | k + 1 => iprop(moving c tab wg wu k ∗ loaded c wg wu (expertOf (words c tab) (row k)) (col k))

/-- The tile's result at point `t`. -/
def tileAt (tab : Tab (F := F) c) (wg : WG (F := F) c) (wu : WU (F := F) c) (t : Fin 240) (x : Vec F S256x4096 .bf16) : Vec F S256x512 .bf16 :=
  tileOut (words c tab 1 (row t.val)) x (slabG c wg (expertOf (words c tab) (row t.val)) (col t.val)) (slabU c wu (expertOf (words c tab) (row t.val)) (col t.val))

/-- The column block of the next copies, while there are any. -/
theorem colNext_val (w : Fin 5 → Fin 80 → BitVec 32) (k : Nat) (hk : k < 240) (hd : ¬ (w 4 (row k) = 1#32 ∧ (col k).val = 2)) :
    (colNext w k).val = if w 4 (row k) = 1#32 then (col k).val + 1 else (col k).val := by
  unfold colNext
  by_cases h : w 4 (row k) = 1#32
  · rw [if_pos h, if_pos h]
    have h2 : ¬ k / 80 % 3 = 2 := fun h2 => hd ⟨h, h2⟩
    show (k + 80) / 80 % 3 = k / 80 % 3 + 1
    omega
  · rw [if_neg h, if_neg h]

section
variable (tab : Tab (F := F) c) (hw : Runs (words c tab)) (t : Fin 240)
include hw

/-- The offset of the blocks the next copies read. -/
theorem off7_at (hd : ¬ (words c tab 4 (row t.val) = 1#32 ∧ (col t.val).val = 2)) :
    k0_off7 (grid0.coords t) (words c tab 4 (row t.val)) (words c tab 3 (row t.val))
      = offs (nextOf (words c tab) (row t.val)) (colNext (words c tab) t.val) := by
  rw [off7_eq, coords_col]
  unfold offs
  rw [colNext_val _ _ t.isLt hd, nextOf_val hw]

/-- The offset of the blocks the copies that land read. -/
theorem off4_at : k0_off4 (grid0.coords t) (words c tab 0 (row t.val)) = offs (expertOf (words c tab) (row t.val)) (col t.val) := by
  rw [off4_eq, coords_col]
  unfold offs
  rw [expertOf_val hw]
end

/-- One point: the body runs from what it finds at point `t` to what the next point finds, and leaves the tile's result. -/
theorem step (tab : Tab (F := F) c) (hw : Runs (words c tab)) (wg : WG (F := F) c) (wu : WU (F := F) c) (t : Fin 240)
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ core c tab wg wu t.val
        ∗ owns (c : Thread nD τ) A3 fullShare x ∗ (∃ d, owns (c : Thread nD τ) A6 fullShare d) ∗ (∃ W, owes (c : Thread nD τ) 0 W)
        ∗ (iprop(tabP c tab ∗ core c tab wg wu (t.val + 1)
            ∗ owns (c : Thread nD τ) A3 fullShare x
            ∗ owns (c : Thread nD τ) A6 fullShare (tileAt c tab wg wu t x)
            ∗ (∃ W, owes (c : Thread nD τ) 0 W)) -∗ K ⟨⟩))
      ⊢ wp frame (wpE (defs₀ (F := F)) Variants.none c none) Set.univ (bodyAt (F := F) (grid0.coords t) A3 w3 A6 w6) K := by
  have r2 : rd c (k0_off2 (grid0.coords t)) (k0_off2_inb _) tab = words c tab 2 (row t.val) := rd_words c tab _ _ _ _ (by rw [k0_off2_eq, coords_row]; rfl)
  have r3 : rd c (k0_off3 (grid0.coords t)) (k0_off3_inb _) tab = words c tab 0 (row t.val) := rd_words c tab _ _ _ _ (by rw [k0_off3_eq, coords_row]; rfl)
  have r5 : rd c (k0_off5 (grid0.coords t)) (k0_off5_inb _) tab = words c tab 4 (row t.val) := rd_words c tab _ _ _ _ (by rw [k0_off5_eq, coords_row]; rfl)
  have r6 : rd c (k0_off6 (grid0.coords t)) (k0_off6_inb _) tab = words c tab 3 (row t.val) := rd_words c tab _ _ _ _ (by rw [k0_off6_eq, coords_row]; rfl)
  have r8 : rd c (k0_off8 (grid0.coords t)) (k0_off8_inb _) tab = words c tab 1 (row t.val) := rd_words c tab _ _ _ _ (by rw [k0_off8_eq, coords_row]; rfl)
  have hi : (grid0.coords t 0).val = (col t.val).val := coords_col t
  have hc2 : k0_chk2 (grid0.coords t) (rd c (k0_off2 (grid0.coords t)) (k0_off2_inb _) tab) (rd c (k0_off3 (grid0.coords t)) (k0_off3_inb _) tab) := by
    rw [r3]
    intro _
    rw [off4_at c tab hw t]
    exact offs_inb _ _
  unfold tileAt
  rw [← r8]
  by_cases h2 : words c tab 2 (row t.val) = 1#32
  · have h2' : k0_cond2 (rd c (k0_off2 (grid0.coords t)) (k0_off2_inb _) tab) = 1#1 := by rw [r2]; exact (cond2_iff _).2 h2
    by_cases hd : words c tab 4 (row t.val) = 1#32 ∧ (col t.val).val = 2
    · have h3' : ¬ k0_cond3 (grid0.coords t) (rd c (k0_off5 (grid0.coords t)) (k0_off5_inb _) tab) = 1#1 := by
        rw [r5, cond3_iff, hi]; exact fun h => h hd
      obtain ⟨_ | k, hk⟩ := t
      · exact absurd hd.2 (by decide : ¬ (col 0).val = 2)
      have h1 : ¬ k0_cond1 (grid0.coords ⟨k + 1, hk⟩) = 1#1 := fun h => by cases (cond1_iff _).1 h
      obtain ⟨hd0, hn, hcn⟩ := arrive hw k hk h2
      unfold done at hd0
      dsimp only [core]
      unfold moving
      rw [if_neg hd0, if_pos hd, hn, hcn]
      refine BIBase.Entails.trans ?_ (run_first_stop c (grid0.coords ⟨k + 1, hk⟩) tab wg wu (expertOf (words c tab) (row (k + 1))) (col (k + 1)) h1 h2' hc2 h3' A3 w3 A6 w6 x K)
      unfold loaded
      iintro ⟨HT, ⟨HF, ⟨%wb, %_, HB⟩⟩, H3, H6, HO, HK⟩
      isplitl [HT]; · iexact HT
      isplitl [HF]; · iexact HF
      isplitl [HB]; · iexists wb; iexact HB
      isplitl [H3]; · iexact H3
      isplitl [H6]; · iexact H6
      isplitl [HO]; · iexact HO
      iintro ⟨HT, HR, HL, H3, H6, HO⟩
      iapply HK
      isplitl [HT]; · iexact HT
      isplitl [HR HL]; · isplitl [HR]; · iexact HR
                         iexact HL
      isplitl [H3]; · iexact H3
      isplitl [H6]; · iexact H6
      iexact HO
    · have h3' : k0_cond3 (grid0.coords t) (rd c (k0_off5 (grid0.coords t)) (k0_off5_inb _) tab) = 1#1 := by
        rw [r5, cond3_iff, hi]; exact hd
      have h7 : k0_off7 (grid0.coords t) (rd c (k0_off5 (grid0.coords t)) (k0_off5_inb _) tab) (rd c (k0_off6 (grid0.coords t)) (k0_off6_inb _) tab)
          = offs (nextOf (words c tab) (row t.val)) (colNext (words c tab) t.val) := by rw [r5, r6]; exact off7_at c tab hw t hd
      have hb : ∀ a, k0_off7 (grid0.coords t) (rd c (k0_off5 (grid0.coords t)) (k0_off5_inb _) tab) (rd c (k0_off6 (grid0.coords t)) (k0_off6_inb _) tab) a
          + S1x1x4096x512.size a ≤ S2x16x4096x1536.size a := by rw [h7]; exact offs_inb _ _
      have hc4 : k0_chk4 (grid0.coords t) (rd c (k0_off2 (grid0.coords t)) (k0_off2_inb _) tab) (rd c (k0_off5 (grid0.coords t)) (k0_off5_inb _) tab)
          (rd c (k0_off6 (grid0.coords t)) (k0_off6_inb _) tab) := fun _ _ => hb
      have ho : flyingAt c wg wu (k0_off7 (grid0.coords t) (rd c (k0_off5 (grid0.coords t)) (k0_off5_inb _) tab) (rd c (k0_off6 (grid0.coords t)) (k0_off6_inb _) tab)) hb
          ⊢ moving c tab wg wu t.val := by
        unfold moving
        rw [if_neg hd]
        exact flyingAt_eq c wg wu _ _ _ _ h7
      obtain ⟨_ | k, hk⟩ := t
      · have h1 : k0_cond1 (grid0.coords ⟨0, hk⟩) = 1#1 := (cond1_iff _).2 rfl
        have r1 : rd c ![0, 0] inb_S5x80_S1x1_0_0 tab = words c tab 0 (row 0) := rd_words c tab _ _ _ _ rfl
        have ho1 : k0_off1 (rd c ![0, 0] inb_S5x80_S1x1_0_0 tab) = offs (expertOf (words c tab) (row 0)) (col 0) := by
          rw [r1, off1_eq]; unfold offs; rw [expertOf_val hw]; rfl
        have hc1 : k0_chk1 (grid0.coords ⟨0, hk⟩) (rd c ![0, 0] inb_S5x80_S1x1_0_0 tab) := fun _ => by
          rw [ho1]; exact offs_inb _ _
        refine BIBase.Entails.trans ?_ (run_start c (grid0.coords ⟨0, hk⟩) tab wg wu (expertOf (words c tab) (row 0)) (col 0) h1 hc1 ho1 h2' hc2 h3' hc4
          (moving c tab wg wu 0) hb ho A3 w3 A6 w6 x K)
        dsimp only [core]
        iintro ⟨HT, ⟨HF, HB⟩, H3, H6, HO, HK⟩
        isplitl [HT]; · iexact HT
        isplitl [HF]; · iexact HF
        isplitl [HB]; · iexact HB
        isplitl [H3]; · iexact H3
        isplitl [H6]; · iexact H6
        isplitl [HO]; · iexact HO
        iintro ⟨HT, HR, HL, H3, H6, HO⟩
        iapply HK
        isplitl [HT]; · iexact HT
        isplitl [HR HL]; · isplitl [HR]; · iexact HR
                           iexact HL
        isplitl [H3]; · iexact H3
        isplitl [H6]; · iexact H6
        iexact HO
      · have h1 : ¬ k0_cond1 (grid0.coords ⟨k + 1, hk⟩) = 1#1 := fun h => by cases (cond1_iff _).1 h
        obtain ⟨hd0, hn, hcn⟩ := arrive hw k hk h2
        unfold done at hd0
        refine BIBase.Entails.trans ?_ (run_first_go c (grid0.coords ⟨k + 1, hk⟩) tab wg wu (expertOf (words c tab) (row (k + 1))) (col (k + 1)) h1 h2' hc2 h3' hc4
          (moving c tab wg wu (k + 1)) hb ho A3 w3 A6 w6 x K)
        dsimp only [core]
        rw [show (moving c tab wg wu k : sProp 𝕄) = flying c wg wu (expertOf (words c tab) (row (k + 1))) (col (k + 1)) by
          unfold moving; rw [if_neg hd0, hn, hcn]]
        generalize (moving c tab wg wu (k + 1) : sProp 𝕄) = M
        rw [show (loaded c wg wu (expertOf (words c tab) (row k)) (col k) : sProp 𝕄) = iprop(∃ wb, ⌜View.readAt (Elt F) (Memref.whole cc0_scratch1).view half0.toLoadRect wb = slabG c wg (expertOf (words c tab) (row k)) (col k)
            ∧ View.readAt (Elt F) (Memref.whole cc0_scratch1).view half1.toLoadRect wb = slabU c wu (expertOf (words c tab) (row k)) (col k)⌝
          ∗ ((Memref.whole cc0_scratch1).view.loc (c : Thread nD τ) ↦{fullShare} wb)) from rfl]
        iintro ⟨HT, ⟨HF, ⟨%wb, %_, HB⟩⟩, H3, H6, HO, HK⟩
        isplitl [HT]; · iexact HT
        isplitl [HF]; · iexact HF
        isplitl [HB]; · iexists wb; iexact HB
        isplitl [H3]; · iexact H3
        isplitl [H6]; · iexact H6
        isplitl [HO]; · iexact HO
        iintro ⟨HT, HR, HL, H3, H6, HO⟩
        iapply HK
        isplitl [HT]; · iexact HT
        isplitl [HR HL]; · isplitl [HR]; · iexact HR
                           iexact HL
        isplitl [H3]; · iexact H3
        isplitl [H6]; · iexact H6
        iexact HO
  · have h2' : ¬ k0_cond2 (rd c (k0_off2 (grid0.coords t)) (k0_off2_inb _) tab) = 1#1 := by rw [r2, cond2_iff]; exact h2
    obtain ⟨_ | k, hk⟩ := t
    · exact absurd hw.start h2
    have h1 : ¬ k0_cond1 (grid0.coords ⟨k + 1, hk⟩) = 1#1 := fun h => by cases (cond1_iff _).1 h
    obtain ⟨he, hcol, hdd, hn, hcn⟩ := stay hw k h2
    have hM : (moving c tab wg wu (k + 1) : sProp 𝕄) = moving c tab wg wu k := by
      unfold moving; rw [hn, hcn]; exact if_congr hdd rfl rfl
    refine BIBase.Entails.trans ?_ (run_again c (grid0.coords ⟨k + 1, hk⟩) tab wg wu (expertOf (words c tab) (row (k + 1))) (col (k + 1)) h1 h2'
      (moving c tab wg wu k) A3 w3 A6 w6 x K)
    dsimp only [core]
    rw [hM, he, hcol]
    iintro ⟨HT, ⟨HF, HB⟩, H3, H6, HO, HK⟩
    isplitl [HT]; · iexact HT
    isplitl [HF]; · iexact HF
    isplitl [HB]; · iexact HB
    isplitl [H3]; · iexact H3
    isplitl [H6]; · iexact H6
    isplitl [HO]; · iexact HO
    iintro ⟨HT, HR, HL, H3, H6, HO⟩
    iapply HK
    isplitl [HT]; · iexact HT
    isplitl [HR HL]; · isplitl [HR]; · iexact HR
                       iexact HL
    isplitl [H3]; · iexact H3
    isplitl [H6]; · iexact H6
    iexact HO

end Cert.Proof.Up

end
-- ==== Proof.UpFrame.lean ====
module

public import proofs.«01_k».proof.Proof.UpStep
public import proofs.«01_k».proof.Defs

@[expose] public section

set_option maxRecDepth 16384

noncomputable section

namespace Cert.Proof.Up

open Cert.KernelUpIdeal Cert.KernelUpIdeal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays as launched: no host operation stands before the call. -/
abbrev V (c : Dev nD) (b : Ref sig .tc) : Buf (Elt F) ((c : Thread nD τ).loc b) := m ((c : Thread nD τ).loc b)

/-- The table's contents as the call's side condition takes them. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl
abbrev adm : (pcfg0 (F := F)).Adm := ⟨tbl m, trivial⟩
abbrev cfgM := cfg0 (F := F) (adm m)

/-- The table, the gate weights and the up weights on a device. -/
abbrev tabM (c : Dev nD) : Tab (F := F) c := m ((c : Thread nD τ).loc main_arg0)
abbrev wgM (c : Dev nD) : WG (F := F) c := m ((c : Thread nD τ).loc main_arg2)
abbrev wuM (c : Dev nD) : WU (F := F) c := m ((c : Thread nD τ).loc main_arg3)

/-- A window's block at a point, read off its array as launched. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The state between points: the table, the generator register, and what the body finds at the point. -/
def stateAt (c : Dev nD) (n : Nat) (_ : n ≤ (cfgM m).N) : sProp 𝕄 :=
  iprop(tabP c (tabM m c) ∗ (∃ r, prngReg (c : Thread nD τ).1 r) ∗ core c (tabM m c) (wgM m c) (wuM m c) n)

/-- The proof data: arrays as launched; after the body the rows' block in place and the tile's result stored. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => tileAt c (tabM m c) (wgM m c) (wuM m c) t (iblk m c 0 t)
  Φ j := stateAt m c j.val (Nat.le_of_lt_succ j.isLt)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; rfl
theorem after0_1 (c : Dev nD) (t : Fin (cfgM m).N) :
    (dats m 0 c).after 1 t = tileAt c (tabM m c) (wgM m c) (wuM m c) t (iblk m c 0 t) := by dsimp only [dats]; rfl

/-- The rows' staging buffer holds its block at every point. -/
theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The staging buffers of a point. -/
abbrev st0_0 (t : Fin (cfgM m).N) : Memref sig .tc .vmem S256x4096 .bf16 := spec0_0.stage ((cfgM m).slots t 0)
abbrev st0_1 (t : Fin (cfgM m).N) : Memref sig .tc .vmem S256x512 .bf16 := spec0_1.stage ((cfgM m).slots t 1)

/-- The body as a point calls it. -/
abbrev bodyAt0 (t : Fin (cfgM m).N) : Prog (TpuEff nD τ sig (Elt F) Λ₀ .tc) PUnit :=
  bodyAt (F := F) (grid0.coords t) (st0_0 m t) (hstage0_0 (((cfgM m).slots t 0).cast nbuf0_0)) (st0_1 m t) (hstage0_1 (((cfgM m).slots t 1).cast nbuf0_1))

/-- What the body is called with at a point, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d)))
def bodyPost (c : Dev nD) (t : Fin (cfgM m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t))

theorem Phi_before (c : Dev nD) (t : Fin (cfgM m).N) :
    (dats m 0 c).Φ t.castSucc = stateAt m c t.val (Nat.le_of_lt t.isLt) := by
  dsimp only [dats]; exact Pipeline.Dat.Φ_castSucc (stateAt m c) t
theorem Phi_after (c : Dev nD) (t : Fin (cfgM m).N) :
    (dats m 0 c).Φ t.succ = stateAt m c (t.val + 1) t.isLt := by
  dsimp only [dats]; rfl

set_option maxHeartbeats 800000 in
/-- The body at any point. -/
theorem sound_body (c : Dev nD) (hw : Runs (words c (tabM m c))) (t : Fin (cfgM m).N) :
    bodyPre m c t ⊢ wp frame (wpE (defs₀ (F := F)) Variants.none c none) Set.univ (bodyAt0 m t) (fun _ => bodyPost m c t) := by
  unfold bodyPre bodyPost bodyAt0
  simp only [before0_0]
  rw [Phi_before, Phi_after, after0_0, after0_1]
  unfold stateAt Dat.owesAt
  iintro ⟨⟨HT, HP, HC⟩, ⟨%W, %_, HO⟩, ⟨%d0, H0⟩, ⟨%d1, H1⟩⟩
  iapply (step c (tabM m c) hw (wgM m c) (wuM m c) t _ _ _ _ (iblk m c 0 t) _)
  isplitl [HT]; · iexact HT
  isplitl [HC]; · iexact HC
  isplitl [H0]; · iexact H0
  isplitl [H1]; · iexists _; iexact H1
  isplitl [HO]; · iexists _; iexact HO
  iintro ⟨HT, HC, H0, H1, ⟨%W', HO⟩⟩
  isplitl [HT HP HC]
  · isplitl [HT]; · iexact HT
    isplitl [HP]; · iexact HP
    iexact HC
  isplitl [HO]
  · iexists W'
    isplitr
    · ipureintro; exact fun _ _ => Or.inl trivial
    iexact HO
  isplitl [H0]; · iexact H0
  iexact H1

/-- The body table's row at a point's slots is the body. -/
theorem defs₀_row (t : Fin (cfgM m).N) :
    defs₀ (F := F) .tc (cfgM m).body ((cfgM m).bodyArgs t ((cfgM m).slots t)) = bodyAt0 m t := by
  unfold defs₀; rw [Defs.onTc_tc]

/-- A tile is either a real one or not, so the body stores its output block at every point. -/
theorem idle_1 (t : Fin (cfgM m).N) : (cfgM m).idle 1 ((cfgM m).grid.coords t) = false := by
  show idle0 (adm m).1 1 (grid0.coords t) = false
  show (!(k0_cond4 ((adm m).1.atD 0 (k0_off8 (grid0.coords t))) == 1#1) && !(k0_cond5 ((adm m).1.atD 0 (k0_off8 (grid0.coords t))) == 1#1)) = false
  rcases cond45 ((adm m).1.atD 0 (k0_off8 (grid0.coords t))) with ⟨h, _⟩ | ⟨_, h⟩
  · rw [h]; rfl
  · rw [h, Bool.and_comm]; rfl

/-- What the obligation asks of the output's buffer, by whether the point leaves it unwritten. -/
def outBack (c : Dev nD) (t : Fin (cfgM m).N) (b : Bool) : sProp 𝕄 :=
  match b with
  | true =>
    match ((cfgM m).win 1).flush t with
    | false => iprop(∃ d, owns (c : Thread nD τ) (st0_1 m t) fullShare ((dats m 0 c).before 1 t d))
    | true => owns (c : Thread nD τ) (st0_1 m t) fullShare ((dats m 0 c).after 1 t)
  | false => owns (c : Thread nD τ) (st0_1 m t) fullShare ((dats m 0 c).after 1 t)

/-- The pipeline's obligation on the body, at every point. -/
theorem body_obligation (c : Dev nD) (hw : Runs (words c (tabM m c))) :
    BodyObligation (dats m 0 c) (defs₀ (F := F)) Variants.none () Set.univ := fun t => by
  rw [bigSep_W0, bigSep_W0, defs₀_row]
  refine triple_restated (sound_body m c hw t) rfl .rfl fun _ => ?_
  show bodyPost m c t ⊢ iprop((dats m 0 c).Φ t.succ ∗ (dats m 0 c).owesAt () t.succ
    ∗ owns (c : Thread nD τ) (st0_0 m t) fullShare ((dats m 0 c).after 0 t) ∗ outBack m c t ((cfgM m).idle 1 ((cfgM m).grid.coords t)))
  rw [idle_1]
  exact .rfl

/-! ## The landing buffer as its two halves -/

theorem slot0_set : slot0.view.set = half0.set := (View.set_reshape _ _).trans (View.set_slice_whole _ _)
theorem slot1_set : slot1.view.set = half1.set := (View.set_reshape _ _).trans (View.set_slice_whole _ _)
theorem halves_disjoint : Disjoint half0.set half1.set := Rect.unit_disjoint 0 (Or.inl (show 0 + 1 ≤ 1 by omega))
theorem halves_cover : half0.set ∪ half1.set = Finset.univ := by
  ext i
  simp only [Finset.mem_union, Finset.mem_univ, iff_true]
  have h0 : (i 0).val < 2 := (i 0).isLt
  have h1 : (i 1).val < 4096 := (i 1).isLt
  have h2 : (i 2).val < 512 := (i 2).isLt
  rcases Nat.lt_or_ge (i 0).val 1 with h | h
  · left
    refine (Rect.mem_set_unit).2 fun a => ?_
    match a with
    | 0 => exact ⟨Nat.zero_le _, show (i 0).val < 0 + 1 by omega⟩
    | 1 => exact ⟨Nat.zero_le _, show (i 1).val < 0 + 4096 by omega⟩
    | 2 => exact ⟨Nat.zero_le _, show (i 2).val < 0 + 512 by omega⟩
  · right
    refine (Rect.mem_set_unit).2 fun a => ?_
    match a with
    | 0 => exact ⟨h, show (i 0).val < 1 + 1 by omega⟩
    | 1 => exact ⟨Nat.zero_le _, show (i 1).val < 0 + 4096 by omega⟩
    | 2 => exact ⟨Nat.zero_le _, show (i 2).val < 0 + 512 by omega⟩

theorem halve (c : Dev nD) (f : Buf (Elt F) ((c : Thread nD τ).loc cc0_scratch0)) :
    (((c : Thread nD τ).loc cc0_scratch0 ↦{fullShare} f : sProp 𝕄))
      ⊢ iprop((slot0.view.loc (c : Thread nD τ) ↦[slot0.view.set]{fullShare} f) ∗ (slot1.view.loc (c : Thread nD τ) ↦[slot1.view.set]{fullShare} f)) := by
  rw [slot0_set, slot1_set]
  rw [← halves_cover]
  exact (pointsTo_union halves_disjoint).1
theorem unhalve (c : Dev nD) (f g : Buf (Elt F) ((c : Thread nD τ).loc cc0_scratch0)) :
    iprop((slot0.view.loc (c : Thread nD τ) ↦[slot0.view.set]{fullShare} f) ∗ (slot1.view.loc (c : Thread nD τ) ↦[slot1.view.set]{fullShare} g))
      ⊢ (iprop(∃ f : Buf (Elt F) ((c : Thread nD τ).loc cc0_scratch0), (c : Thread nD τ).loc cc0_scratch0 ↦{fullShare} f) : sProp 𝕄) := by
  rw [slot0_set, slot1_set]
  refine (pointsTo_join halves_disjoint).trans ?_
  rw [halves_cover]
  iintro H
  iexists _
  iexact H

/-! ## What the call hands the body at first and takes back at the end -/

/-- The body's own semaphores. -/
abbrev osem0 : Fin 2 → SemLoc sig := fun | 0 => .dma sem0 | 1 => .dma sem1
theorem own0 : Pipeline.OwnSemFacts spec0 osem0 := by decide
/-- The arrays the body copies from itself. -/
abbrev H0 : Finset (Ref sig .tc) := {main_arg2, main_arg3}
theorem H0_sub : H0 ⊆ Pipeline.restRefsP sig pre0 spec0 := by decide

theorem tableHalf_eq (c : Dev nD) : (Pipeline.ΦT pre0 (tbl m) c : sProp 𝕄) = ((c : Thread nD τ).loc main_arg0 ↦{fullShare.right} tbl m 0) := by
  unfold Pipeline.ΦT Pipeline.prefHeld
  rw [show (Finset.univ : Finset (Fin 1)) = {(0 : Fin 1)} from by decide, bigSep_singleton]; rfl
theorem ownSems_eq (c : Dev nD) : (Pipeline.ownSems0 osem0 c : sProp 𝕄)
    = iprop(semVal ((c : Thread nD τ), SemLoc.dma sem0) 0 ∗ semVal ((c : Thread nD τ), SemLoc.dma sem1) 0) :=
  bigSep_univ_eq_bigSepL [(0 : Fin 2), (1 : Fin 2)] (by decide) (by decide) _
theorem lent_eq (c : Dev nD) : (bigSep H0 fun b => (((c : Thread nD τ).loc b) ↦{fullShare} V m c b) : sProp 𝕄)
    = iprop(((c : Thread nD τ).loc main_arg2 ↦{fullShare} wgM m c) ∗ ((c : Thread nD τ).loc main_arg3 ↦{fullShare} wuM m c)) := by
  exact bigSep_eq_bigSepL_of_eq [main_arg2, main_arg3] (by decide) (by decide) _

theorem lent_in (c : Dev nD) :
    iprop(Pipeline.ΦD osem0 spec0 H0 (V m) c ∗ Pipeline.ΦT pre0 (tbl m) c) ⊢ (dats m 0 c).Φ 0 := by
  rw [tableHalf_eq, Pipeline.ΦD_eq, scopedRest0_eq, ownSems_eq, lent_eq]
  obtain rfl : c = 0 := Subsingleton.elim _ _
  show _ ⊢ stateAt m 0 0 (Nat.zero_le _)
  unfold stateAt core resting
  iintro ⟨⟨⟨⟨%f, HF⟩, ⟨%b, HB⟩⟩, HP, ⟨HS0, HS1⟩, HG, HU⟩, HT⟩
  ihave ⟨HF0, HF1⟩ := (halve 0 f) $$ HF
  isplitl [HT]; · iexact HT
  isplitl [HP]; · iexact HP
  isplitr [HB]; swap
  · iexists _; iexact HB
  isplitl [HF0]; · iexists _; iexact HF0
  isplitl [HF1]; · iexists _; iexact HF1
  isplitl [HG]; · iexact HG
  isplitl [HU]; · iexact HU
  isplitl [HS0]; · iexact HS0
  iexact HS1

theorem lent_out (c : Dev nD) (hw : Runs (words c (tabM m c))) :
    (dats m 0 c).Φ (Fin.last (cfgM m).N) ⊢ Pipeline.ΦD osem0 spec0 H0 (V m) c := by
  rw [Pipeline.ΦD_eq, scopedRest0_eq, ownSems_eq, lent_eq]
  have hN : (cfgM m).N = 239 + 1 := N_0
  show stateAt m c (cfgM m).N (Nat.le_refl _) ⊢ _
  unfold stateAt
  rw [hN]
  unfold core moving
  dsimp only
  rw [if_pos ⟨hw.last, by decide⟩]
  unfold resting loaded
  iintro ⟨-, HP, ⟨⟨%f, HF0⟩, ⟨%g, HF1⟩, HG, HU, HS0, HS1⟩, ⟨%b, -, HB⟩⟩
  isplitl [HF0 HF1 HB]
  · isplitl [HF0 HF1]
    · iapply (unhalve c f g)
      isplitl [HF0]; · iexact HF0
      iexact HF1
    iexists _; iexact HB
  isplitl [HP]; · iexact HP
  isplitl [HS0 HS1]
  · isplitl [HS0]; · iexact HS0
    iexact HS1
  isplitl [HG]; · iexact HG
  iexact HU

/-! ## The call -/

set_option maxHeartbeats 800000 in
set_option backward.isDefEq.respectTransparency.types false in
/-- The program runs to its end, its arrays as the points leave them and every semaphore back at zero. -/
theorem run_of (hw : ∀ c : Dev nD, Runs (words c (tabM m c))) :
    θ_run defs (onTc main) ⟨m, fun _ => 0, ρ⟩ fun r =>
      Pipeline.FramePost (Pipeline.pin (pcfgs (F := F)) (fun _ => adm m)) (dats m) (0 : Fin 1) (V m) r ∧ r.2.sem = fun _ => 0 :=
  Pipeline.θ_run_frameP_dma (Q' := _) pcfgs (fun _ => adm m) (dats m) (0 : Fin 1) launch0 osem0 defs₀ Variants.none own0 H0 H0_sub m ρ main
    (hbody := fun c => (body_obligation m c (hw c)).loose)
    (hshare := fun c => (dats m 0 c).share_full fun _ => rfl)
    (howed := fun _ _ => rfl)
    (V := V m)
    (hmain := Pipeline.hmainP_region pcfgs 0 defs₀ Variants.none m main fun c => (main_chain c).trans rfl)
    (hA := A_eq m)
    (hpf := V_pre m)
    (hin := lent_in m)
    (hout := fun c => lent_out m c (hw c))

/-- A word as the body reads it is the table's element. -/
theorem words_word (c : Dev nD) (tab : Tab (F := F) c) : words c tab = word tab := by
  funext r i
  refine congrArg tab (funext fun a => Fin.ext ?_)
  match a with
  | 0 => exact Nat.add_zero _
  | 1 => exact Nat.add_zero _

/-- What a run table's words are to the body. -/
theorem runs_words (c : Dev nD) (h : Runs (word (m ((c : Thread nD τ).loc main_arg0)))) : Runs (words c (tabM m c)) :=
  (words_word c (tabM m c)).symm ▸ h

theorem rest0 : main_arg0 ∈ Pipeline.restRefs sig spec0 := Pipeline.mem_restRefs_of main_arg0 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)

/-- At a run table the call leaves its arguments as they were and every semaphore at zero. -/
theorem frame_of (hw : ∀ c : Dev nD, Runs (word (m ((c : Thread nD τ).loc main_arg0)))) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun _ h => ⟨fun c =>
    ⟨(h.1 c).2 main_arg0 rest0,
     ((h.1 c).1 0).trans (((dats m 0 c).arrAt_in 0 rfl _).trans (A_eq m c 0)),
     (h.1 c).2 main_arg2 rest2,
     (h.1 c).2 main_arg3 rest3⟩, h.2⟩)
    (run_of m ρ fun c => runs_words m c (hw c))

/-- At a run table the call ends with its result array as the points leave it, its arguments as they were. -/
theorem result_of (hw : ∀ c : Dev nD, Runs (word (m ((c : Thread nD τ).loc main_arg0)))) :
    θ_run (defs (F := F)) (onTc (τ := τ) (main (F := F))) ⟨m, fun _ => 0, ρ⟩ fun r => ∀ c : Dev nD,
      r.2.mem ((c.tc : Thread nD τ).loc main_v0) = (dats m 0 c).arrAt 1 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c =>
    ⟨(h.1 c).1 1,
     (h.1 c).2 main_arg0 rest0,
     ((h.1 c).1 0).trans (((dats m 0 c).arrAt_in 0 rfl _).trans (A_eq m c 0)),
     (h.1 c).2 main_arg2 rest2,
     (h.1 c).2 main_arg3 rest3⟩)
    (run_of m ρ fun c => runs_words m c (hw c))

end Cert.Proof.Up

end
-- ==== Proof.UpRef.lean ====
module

public import proofs.«01_k».proof.Proof.Gen.ReferenceUpIdeal.Run
public import proofs.«01_k».proof.Proof.UpRuns
public import Idealize.ShloMosaic.Lib.Pipeline.ValueKit
public import Idealize.ShloMosaic.Lib.Pointwise
public import Idealize.ShloMosaic.Lib.Quiescent

/-! # The reference's array, entry by entry

The reference adds, over the sixteen experts, the gated product of the rows with that expert's weights where the row
belongs to the expert. A row belongs to its tile's expert, or to none where its tile is not a real one, so the sum is the one
term of its expert, or zero. -/

@[expose] public section

set_option maxRecDepth 16384

noncomputable section

namespace Cert.Proof.UpRef

open Cert.ReferenceUpIdeal Cert.ReferenceUpIdeal.Gen Cert.ReferenceUpIdeal.Value Cert.Proof.UpRuns
open Idealize.ShloMosaic Idealize.ShloMosaic.TcCoe Idealize.ShloMosaic.StableHlo Idealize.SL.Sem

/-- A row of the rows times a column of one expert's weights. -/
def prod (x : FVec Ideal S20480x4096 .bf16) (w : FVec Ideal S2x16x4096x1536 .f32) (e : Fin 16) (r : Fin 20480) (j : Fin 1536) : EReal :=
  ∑ k : Fin 4096, x (ix2 r k) * w (ix4 0 e k j)

/-- The gated product at an entry, of the gate's product and the up product there. -/
def gated (g u : EReal) : EReal := g * Ideal.div 1 (1 + Ideal.exp (-g)) * u

/-- The word naming the expert of a row: its tile's expert, or sixteen where the tile is not a real one. -/
def owner (tab : IVec S5x80 32) (i : Fin 80) : BitVec 32 := if word tab 1 i = 1#32 then word tab 0 i else 16#32

/-- The tile of a row. -/
def tileOf (r : Fin 20480) : Fin 80 := ⟨r.val / 256, by have := r.isLt; omega⟩

/-- One product of the reference at an entry. -/
theorem prod_at (x : FVec Ideal S20480x4096 .bf16) (w : FVec Ideal S2x16x4096x1536 .f32) (e : Fin 16) (off : Fin 4 → Nat)
    (h : S2x16x4096x1536.Slices off S1x1x4096x1536) (ho : off = ![0, e.val, 0, 0]) (r : Fin 20480) (j : Fin 1536) :
    Host.dotGeneral dot_S20480x4096_S4096x1536_S20480x1536_1_0_0_1_n_n none (extf .f32 x bitsLt_bf16_f32)
      (shapeCast S4096x1536 (extractStridedSlice S1x1x4096x1536 off w h) shapeCasts_S1x1x4096x1536_S4096x1536) (ix2 r j) = prod x w e r j := by
  subst ho
  unfold prod
  pointwise

/-- A choice by an equality of words is a choice by their being equal. -/
theorem select_eq {α : Type} (a b : BitVec 32) (x y : α) : Scalar.select (IntOp.cmpi .eq a b) x y = if a = b then x else y := by
  unfold Scalar.select IntOp.cmpi
  by_cases h : a = b
  · subst h; simp
  · have h' : (a == b) = false := beq_eq_false_iff_ne.2 h
    simp [h, h']

/-- One term of the reference's sum at an entry. -/
theorem term_at (acc g u : FVec Ideal S20480x1536 .f32) (o : IVec S20480x1 32) (n : BitVec 32) (r : Fin 20480) (j : Fin 1536) :
    addf acc (select (broadcastInDim S20480x1536 ![0, 1] bcast_S20480x1_S20480x1536_0_1 (cmpi .eq o (broadcastInDim S20480x1 ![] bcast_S_S20480x1 (constantI S_ 32 n))))
      (mulf (mulf g (Host.divf (broadcastInDim S20480x1536 ![] bcast_S_S20480x1536 (constant S_ .f32 0x3F800000#32)) (addf (broadcastInDim S20480x1536 ![] bcast_S_S20480x1536 (constant S_ .f32 0x3F800000#32)) (Host.exp (Host.negf g))))) u)
      (broadcastInDim S20480x1536 ![] bcast_S_S20480x1536 (id (constant S_ .f32 0x00000000#32)))) (ix2 r j)
    = acc (ix2 r j) + (if o (ix2 r 0) = n then gated (g (ix2 r j)) (u (ix2 r j)) else 0) := by
  have h0 : ((id (constant (F := Ideal) S_ .f32 0x00000000#32)) ix0 : EReal) = 0 := by
    show (constant (F := Ideal) S_ .f32 0x00000000#32) ix0 = 0
    pointwise
  pointwise [gated]
  rw [select_eq, h0]

/-- The same, from what stands at the entry before it. -/
theorem step_at (acc g u : FVec Ideal S20480x1536 .f32) (o : IVec S20480x1 32) (n : BitVec 32) (r : Fin 20480) (j : Fin 1536) {A G U : EReal} {w : BitVec 32}
    (ha : acc (ix2 r j) = A) (hg : g (ix2 r j) = G) (hu : u (ix2 r j) = U) (ho : o (ix2 r 0) = w) :
    addf acc (select (broadcastInDim S20480x1536 ![0, 1] bcast_S20480x1_S20480x1536_0_1 (cmpi .eq o (broadcastInDim S20480x1 ![] bcast_S_S20480x1 (constantI S_ 32 n))))
      (mulf (mulf g (Host.divf (broadcastInDim S20480x1536 ![] bcast_S_S20480x1536 (constant S_ .f32 0x3F800000#32)) (addf (broadcastInDim S20480x1536 ![] bcast_S_S20480x1536 (constant S_ .f32 0x3F800000#32)) (Host.exp (Host.negf g))))) u)
      (broadcastInDim S20480x1536 ![] bcast_S_S20480x1536 (id (constant S_ .f32 0x00000000#32)))) (ix2 r j)
    = A + (if w = n then gated G U else 0) := by
  subst ha hg hu ho
  exact term_at acc g u o n r j

/-- The word of a row's expert as the reference spreads it. -/
theorem owner_at (V0 : Valuation τ sig (Elt Ideal)) (r : Fin 20480) :
    res_main_v10 V0 (ix2 r 0) = owner (V0 (Proc.devRef .tc main_arg0)) (tileOf r) := by
  unfold res_main_v10
  pointwise
  rw [select_eq]
  rfl

/-- Of sixteen terms, each for one expert, the one of the word's expert is left. -/
theorem pick (w : BitVec 32) (f : Fin 16 → EReal) :
    (((((((((((((((((0 : EReal) + (if w = 0#32 then f 0 else 0)) + (if w = 1#32 then f 1 else 0)) + (if w = 2#32 then f 2 else 0)) + (if w = 3#32 then f 3 else 0))
      + (if w = 4#32 then f 4 else 0)) + (if w = 5#32 then f 5 else 0)) + (if w = 6#32 then f 6 else 0)) + (if w = 7#32 then f 7 else 0))
      + (if w = 8#32 then f 8 else 0)) + (if w = 9#32 then f 9 else 0)) + (if w = 10#32 then f 10 else 0)) + (if w = 11#32 then f 11 else 0))
      + (if w = 12#32 then f 12 else 0)) + (if w = 13#32 then f 13 else 0)) + (if w = 14#32 then f 14 else 0)) + (if w = 15#32 then f 15 else 0))
    = if h : w.toNat < 16 then f ⟨w.toNat, h⟩ else 0 := by
  by_cases h : w.toNat < 16
  · rw [dif_pos h]
    obtain ⟨e, he⟩ : ∃ e : Fin 16, w = BitVec.ofNat 32 e.val := ⟨⟨w.toNat, h⟩, by simp⟩
    subst he
    fin_cases e <;> simp
  · rw [dif_neg h]
    have hne : ∀ n : BitVec 32, n.toNat < 16 → ¬ w = n := fun n hn hw => h (hw ▸ hn)
    simp [hne]

/-- One product of the reference at an entry, from its arguments. -/
theorem from_rows (V0 : Valuation τ sig (Elt Ideal)) (w : FVec Ideal S2x16x4096x1536 .f32) (e : Fin 16) (off : Fin 4 → Nat)
    (h : S2x16x4096x1536.Slices off S1x1x4096x1536) (ho : off = ![0, e.val, 0, 0]) (r : Fin 20480) (j : Fin 1536) :
    Host.dotGeneral (F := Ideal) (φ₁ := .f32) (φ₂ := .f32) dot_S20480x4096_S4096x1536_S20480x1536_1_0_0_1_n_n none (res_main_v0 V0 : FVec Ideal S20480x4096 .f32)
      (shapeCast S4096x1536 (extractStridedSlice S1x1x4096x1536 off w h) shapeCasts_S1x1x4096x1536_S4096x1536) (ix2 r j)
      = prod (V0 (Proc.devRef .tc main_arg1)) w e r j := prod_at _ w e off h ho r j

/-- The sum begins at zero. -/
theorem zero_at (r : Fin 20480) (j : Fin 1536) :
    (broadcastInDim S20480x1536 ![] bcast_S_S20480x1536 (constant (F := Ideal) S_ .f32 0x00000000#32)) (ix2 r j) = (0 : EReal) := by
  pointwise

/-- Rounding changes nothing here. -/
theorem round_at (v : FVec Ideal S20480x1536 .f32) (r : Fin 20480) (j : Fin 1536) :
    (truncf .bf16 v bitsLt_bf16_f32 : FVec Ideal S20480x1536 .bf16) (ix2 r j) = v (ix2 r j) := by
  pointwise

/-- An entry of the result: the gated product with the row's expert's weights, or zero. -/
def entry (tab : IVec S5x80 32) (x : FVec Ideal S20480x4096 .bf16) (g u : FVec Ideal S2x16x4096x1536 .f32) (r : Fin 20480) (j : Fin 1536) : EReal :=
  if h : (owner tab (tileOf r)).toNat < 16 then gated (prod x g ⟨_, h⟩ r j) (prod x u ⟨_, h⟩ r j) else 0

/-- The result array. -/
def array (tab : IVec S5x80 32) (x : FVec Ideal S20480x4096 .bf16) (g u : FVec Ideal S2x16x4096x1536 .f32) : FVec Ideal S20480x1536 .bf16 :=
  fun y => entry tab x g u (y 0) (y 1)

set_option maxHeartbeats 4000000 in
/-- The reference's composed term at an entry. -/
theorem term_entry (V0 : Valuation τ sig (Elt Ideal)) (r : Fin 20480) (j : Fin 1536) :
    (truncf .bf16 (addf (res_main_v281 V0) (select (broadcastInDim S20480x1536 ![0, 1] bcast_S20480x1_S20480x1536_0_1 (cmpi .eq (res_main_v10 V0) (broadcastInDim S20480x1 ![] bcast_S_S20480x1 (constantI S_ 32 15#32)))) (mulf (mulf (res_main_v284 V0) (Host.divf (broadcastInDim S20480x1536 ![] bcast_S_S20480x1536 (constant S_ .f32 0x3F800000#32)) (addf (broadcastInDim S20480x1536 ![] bcast_S_S20480x1536 (constant S_ .f32 0x3F800000#32)) (Host.exp (Host.negf (res_main_v284 V0)))))) (Host.dotGeneral (F := Ideal) (φ₁ := .f32) (φ₂ := .f32) dot_S20480x4096_S4096x1536_S20480x1536_1_0_0_1_n_n none (res_main_v0 V0) (shapeCast _ (extractStridedSlice S1x1x4096x1536 ![0, 15, 0, 0] (V0 (Proc.devRef .tc main_arg3) : FVec Ideal S2x16x4096x1536 .f32) slices_S2x16x4096x1536_S1x1x4096x1536_0_15_0_0) shapeCasts_S1x1x4096x1536_S4096x1536))) (broadcastInDim S20480x1536 ![] bcast_S_S20480x1536 (id (constant S_ .f32 0x00000000#32))))) bitsLt_bf16_f32 : FVec Ideal S20480x1536 .bf16) (ix2 r j)
    = entry (V0 (Proc.devRef .tc main_arg0)) (V0 (Proc.devRef .tc main_arg1)) (V0 (Proc.devRef .tc main_arg2)) (V0 (Proc.devRef .tc main_arg3)) r j := by
  have h1 := step_at _ _ _ _ 4#32 r j (step_at _ _ _ _ 3#32 r j (step_at _ _ _ _ 2#32 r j (step_at _ _ _ _ 1#32 r j (step_at _ _ _ _ 0#32 r j (zero_at r j)
      (from_rows V0 (V0 (Proc.devRef .tc main_arg2)) 0 ![0, 0, 0, 0] slices_S2x16x4096x1536_S1x1x4096x1536_0_0_0_0 rfl r j)
      (from_rows V0 (V0 (Proc.devRef .tc main_arg3)) 0 ![0, 0, 0, 0] slices_S2x16x4096x1536_S1x1x4096x1536_0_0_0_0 rfl r j) (owner_at V0 r))
      (from_rows V0 (V0 (Proc.devRef .tc main_arg2)) 1 ![0, 1, 0, 0] slices_S2x16x4096x1536_S1x1x4096x1536_0_1_0_0 rfl r j)
      (from_rows V0 (V0 (Proc.devRef .tc main_arg3)) 1 ![0, 1, 0, 0] slices_S2x16x4096x1536_S1x1x4096x1536_0_1_0_0 rfl r j) (owner_at V0 r))
      (from_rows V0 (V0 (Proc.devRef .tc main_arg2)) 2 ![0, 2, 0, 0] slices_S2x16x4096x1536_S1x1x4096x1536_0_2_0_0 rfl r j)
      (from_rows V0 (V0 (Proc.devRef .tc main_arg3)) 2 ![0, 2, 0, 0] slices_S2x16x4096x1536_S1x1x4096x1536_0_2_0_0 rfl r j) (owner_at V0 r))
      (from_rows V0 (V0 (Proc.devRef .tc main_arg2)) 3 ![0, 3, 0, 0] slices_S2x16x4096x1536_S1x1x4096x1536_0_3_0_0 rfl r j)
      (from_rows V0 (V0 (Proc.devRef .tc main_arg3)) 3 ![0, 3, 0, 0] slices_S2x16x4096x1536_S1x1x4096x1536_0_3_0_0 rfl r j) (owner_at V0 r))
      (from_rows V0 (V0 (Proc.devRef .tc main_arg2)) 4 ![0, 4, 0, 0] slices_S2x16x4096x1536_S1x1x4096x1536_0_4_0_0 rfl r j)
      (from_rows V0 (V0 (Proc.devRef .tc main_arg3)) 4 ![0, 4, 0, 0] slices_S2x16x4096x1536_S1x1x4096x1536_0_4_0_0 rfl r j) (owner_at V0 r)
  have h2 := step_at _ _ _ _ 9#32 r j (step_at _ _ _ _ 8#32 r j (step_at _ _ _ _ 7#32 r j (step_at _ _ _ _ 6#32 r j (step_at _ _ _ _ 5#32 r j ((show res_main_v101 V0 (ix2 r j) = _ from h1))
      (from_rows V0 (V0 (Proc.devRef .tc main_arg2)) 5 ![0, 5, 0, 0] slices_S2x16x4096x1536_S1x1x4096x1536_0_5_0_0 rfl r j)
      (from_rows V0 (V0 (Proc.devRef .tc main_arg3)) 5 ![0, 5, 0, 0] slices_S2x16x4096x1536_S1x1x4096x1536_0_5_0_0 rfl r j) (owner_at V0 r))
      (from_rows V0 (V0 (Proc.devRef .tc main_arg2)) 6 ![0, 6, 0, 0] slices_S2x16x4096x1536_S1x1x4096x1536_0_6_0_0 rfl r j)
      (from_rows V0 (V0 (Proc.devRef .tc main_arg3)) 6 ![0, 6, 0, 0] slices_S2x16x4096x1536_S1x1x4096x1536_0_6_0_0 rfl r j) (owner_at V0 r))
      (from_rows V0 (V0 (Proc.devRef .tc main_arg2)) 7 ![0, 7, 0, 0] slices_S2x16x4096x1536_S1x1x4096x1536_0_7_0_0 rfl r j)
      (from_rows V0 (V0 (Proc.devRef .tc main_arg3)) 7 ![0, 7, 0, 0] slices_S2x16x4096x1536_S1x1x4096x1536_0_7_0_0 rfl r j) (owner_at V0 r))
      (from_rows V0 (V0 (Proc.devRef .tc main_arg2)) 8 ![0, 8, 0, 0] slices_S2x16x4096x1536_S1x1x4096x1536_0_8_0_0 rfl r j)
      (from_rows V0 (V0 (Proc.devRef .tc main_arg3)) 8 ![0, 8, 0, 0] slices_S2x16x4096x1536_S1x1x4096x1536_0_8_0_0 rfl r j) (owner_at V0 r))
      (from_rows V0 (V0 (Proc.devRef .tc main_arg2)) 9 ![0, 9, 0, 0] slices_S2x16x4096x1536_S1x1x4096x1536_0_9_0_0 rfl r j)
      (from_rows V0 (V0 (Proc.devRef .tc main_arg3)) 9 ![0, 9, 0, 0] slices_S2x16x4096x1536_S1x1x4096x1536_0_9_0_0 rfl r j) (owner_at V0 r)
  have h3 := step_at _ _ _ _ 14#32 r j (step_at _ _ _ _ 13#32 r j (step_at _ _ _ _ 12#32 r j (step_at _ _ _ _ 11#32 r j (step_at _ _ _ _ 10#32 r j ((show res_main_v191 V0 (ix2 r j) = _ from h2))
      (from_rows V0 (V0 (Proc.devRef .tc main_arg2)) 10 ![0, 10, 0, 0] slices_S2x16x4096x1536_S1x1x4096x1536_0_10_0_0 rfl r j)
      (from_rows V0 (V0 (Proc.devRef .tc main_arg3)) 10 ![0, 10, 0, 0] slices_S2x16x4096x1536_S1x1x4096x1536_0_10_0_0 rfl r j) (owner_at V0 r))
      (from_rows V0 (V0 (Proc.devRef .tc main_arg2)) 11 ![0, 11, 0, 0] slices_S2x16x4096x1536_S1x1x4096x1536_0_11_0_0 rfl r j)
      (from_rows V0 (V0 (Proc.devRef .tc main_arg3)) 11 ![0, 11, 0, 0] slices_S2x16x4096x1536_S1x1x4096x1536_0_11_0_0 rfl r j) (owner_at V0 r))
      (from_rows V0 (V0 (Proc.devRef .tc main_arg2)) 12 ![0, 12, 0, 0] slices_S2x16x4096x1536_S1x1x4096x1536_0_12_0_0 rfl r j)
      (from_rows V0 (V0 (Proc.devRef .tc main_arg3)) 12 ![0, 12, 0, 0] slices_S2x16x4096x1536_S1x1x4096x1536_0_12_0_0 rfl r j) (owner_at V0 r))
      (from_rows V0 (V0 (Proc.devRef .tc main_arg2)) 13 ![0, 13, 0, 0] slices_S2x16x4096x1536_S1x1x4096x1536_0_13_0_0 rfl r j)
      (from_rows V0 (V0 (Proc.devRef .tc main_arg3)) 13 ![0, 13, 0, 0] slices_S2x16x4096x1536_S1x1x4096x1536_0_13_0_0 rfl r j) (owner_at V0 r))
      (from_rows V0 (V0 (Proc.devRef .tc main_arg2)) 14 ![0, 14, 0, 0] slices_S2x16x4096x1536_S1x1x4096x1536_0_14_0_0 rfl r j)
      (from_rows V0 (V0 (Proc.devRef .tc main_arg3)) 14 ![0, 14, 0, 0] slices_S2x16x4096x1536_S1x1x4096x1536_0_14_0_0 rfl r j) (owner_at V0 r)
  exact (round_at _ r j).trans ((step_at _ _ _ _ 15#32 r j ((show res_main_v281 V0 (ix2 r j) = _ from h3))
      (from_rows V0 (V0 (Proc.devRef .tc main_arg2)) 15 ![0, 15, 0, 0] slices_S2x16x4096x1536_S1x1x4096x1536_0_15_0_0 rfl r j)
      (from_rows V0 (V0 (Proc.devRef .tc main_arg3)) 15 ![0, 15, 0, 0] slices_S2x16x4096x1536_S1x1x4096x1536_0_15_0_0 rfl r j) (owner_at V0 r)).trans
    (pick _ fun e => gated (prod (V0 (Proc.devRef .tc main_arg1)) (V0 (Proc.devRef .tc main_arg2)) e r j)
      (prod (V0 (Proc.devRef .tc main_arg1)) (V0 (Proc.devRef .tc main_arg3)) e r j)))

/-- The reference ends with its result array at `array` of its arguments, its arguments as they were. -/
theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v300) = array (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (funext fun y => by
    obtain ⟨i, j, rfl⟩ : ∃ (i : Fin 20480) (j : Fin 1536), y = ix2 i j := ⟨y 0, y 1, eq_ix2 y⟩
    exact term_entry (launchContents m c) i j), (h c).2⟩)
    (Cert.ReferenceUpIdeal.Value.run (F := Ideal) m ρ)

/-- The reference leaves its arguments as they were; it has no semaphore, so every counter ends at zero. -/
theorem kept (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => (h c).2, sem_eq_zero_of_no_sems (by decide) r.2⟩)
    (Cert.ReferenceUpIdeal.Value.run (F := Ideal) m ρ)

end Cert.Proof.UpRef

end
-- ==== Proof.UpValue.lean ====
module

public import proofs.«01_k».proof.Proof.UpFrame
public import proofs.«01_k».proof.Proof.UpRef
public import Idealize.ShloMosaic.Lib.Pipeline.Covers
public import Idealize.ShloMosaic.Lib.WordCmp

/-! # The kernel's array, entry by entry

A point stores the block of its tile's rows and its column block; over the grid the blocks fill the array, and what a
point stores at an entry is the reference's entry there. -/

@[expose] public section

set_option maxRecDepth 16384

noncomputable section

namespace Cert.Proof.Up

open Cert.KernelUpIdeal Cert.KernelUpIdeal.Gen Cert.Proof.UpRuns
open Idealize.ShloMosaic Idealize.ShloMosaic.TcCoe Idealize.SL.Sem
open Idealize.ShloMosaic.Pipeline (Dat)

variable (m : (ℓ : Loc nD τ sig) → Buf (Elt Ideal) ℓ)

/-- The row of the array a tile's row is, and the column a column block's column is. -/
def rowAt (t : Fin 240) (i : Fin 256) : Fin 20480 := ⟨(row t.val).val * 256 + i.val, by have := (row t.val).isLt; omega⟩
def colAt (t : Fin 240) (j : Fin 512) : Fin 1536 := ⟨(col t.val).val * 512 + j.val, by have := (col t.val).isLt; omega⟩

/-- The windows' block indices at every grid point. -/
theorem idx0 (t : Fin (cfgM m).N) : ((cfgM m).win 0).index t = ![(row t.val).val, 0] := by
  have h : ∀ t : Fin 240, cc0_transform_0 (grid0.coords t) = ![(row t.val).val, 0] := by decide +kernel
  exact h t
theorem idx1 (t : Fin (cfgM m).N) : ((cfgM m).win 1).index t = ![(row t.val).val, (col t.val).val] := by
  have h : ∀ t : Fin 240, cc0_transform_3 (grid0.coords t) = ![(row t.val).val, (col t.val).val] := by decide +kernel
  exact h t

/-- The rows' block holds the tile's rows. -/
theorem rows_at (c : Dev nD) (t : Fin (cfgM m).N) (i : Fin 256) (k : Fin 4096) :
    iblk m c 0 t (ix2 i k) = m ((c : Thread nD τ).loc main_arg1) (ix2 (rowAt t i) k) := by
  have he : (((cfgM m).win 0).blk t).view.emb (ix2 i k) = ix2 (rowAt t i) k := by blk_ext [idx0 m t, rowAt]
  exact congrArg (m ((c : Thread nD τ).loc main_arg1)) he

/-- A slab holds its expert's columns, rounded. -/
theorem src_emb (s : Fin 4 → Nat) (e : Fin 16) (t : Fin 240) (h : s = offs e (col t.val)) (inb : ∀ a, s a + S1x1x4096x512.size a ≤ S2x16x4096x1536.size a)
    (hn : S4096x512.numel = S1x1x4096x512.numel) (k : Fin 4096) (j : Fin 512) :
    (Rect.unit (s := S2x16x4096x1536) s S1x1x4096x512.size inb).emb (Shape.reshapeEquiv hn (ix2 k j)) = ix4 (0 : Fin 2) e k (colAt t j) := by
  subst h
  rw [show Shape.reshapeEquiv hn (ix2 k j) = ix4 (0 : Fin 1) (0 : Fin 1) k j from ValueIdx.reshapeEquiv_ix2_11ab hn k j]
  funext a
  refine Fin.ext ?_
  match a with
  | 0 => rfl
  | 1 => show e.val + 1 * 0 = e.val; omega
  | 2 => show 0 + 1 * k.val = k.val; omega
  | 3 => show 512 * (col t.val).val + 1 * j.val = (col t.val).val * 512 + j.val; omega
theorem slabG_at (c : Dev nD) (w : WG (F := Ideal) c) (e : Fin 16) (t : Fin 240) (k : Fin 4096) (j : Fin 512) :
    slabG c w e (col t.val) (ix3 0 k j) = w (ix4 0 e k (colAt t j)) := by
  unfold slabG slab
  pointwise
  exact congrArg w (src_emb _ e t rfl (offs_inb e _) _ k j)
theorem slabU_at (c : Dev nD) (w : WU (F := Ideal) c) (e : Fin 16) (t : Fin 240) (k : Fin 4096) (j : Fin 512) :
    slabU c w e (col t.val) (ix3 0 k j) = w (ix4 0 e k (colAt t j)) := by
  unfold slabU slab
  pointwise
  exact congrArg w (src_emb _ e t rfl (offs_inb e _) _ k j)

/-- What the body stores of a real tile, at an entry. -/
theorem stored (x : Vec Ideal S256x4096 .bf16) (g u : Vec Ideal S1x4096x512 .bf16) (i : Fin 256) (j : Fin 512) :
    k0_pay1 x g u (ix2 i j) = UpRef.gated (∑ k : Fin 4096, x (ix2 i k) * g (ix3 0 k j)) (∑ k : Fin 4096, x (ix2 i k) * u (ix3 0 k j)) := by
  pointwise [k0_pay1, UpRef.gated]
  rfl

/-- And of the others. -/
theorem stored_zero (i : Fin 256) (j : Fin 512) : (k0_pay2 (F := Ideal)) (ix2 i j) = (0 : EReal) := by
  pointwise [k0_pay2]

/-- The blocks fill the array. -/
theorem cover : ((cfgM m).win 1).Covers :=
  ((cfgM m).win 1).covers_of_indexMap_surj rfl (show ∀ a : Fin 2, 0 < S256x512.size a by decide) fun β => by
    have h0 : (β (show Fin 2 from 0)).val < 80 := lt_of_lt_of_eq (β (show Fin 2 from 0)).isLt (show (20480 + 256 - 1) / 256 = 80 by decide)
    have h1 : (β (show Fin 2 from 1)).val < 3 := lt_of_lt_of_eq (β (show Fin 2 from 1)).isLt (show (1536 + 512 - 1) / 512 = 3 by decide)
    generalize hb0 : (β (show Fin 2 from 0)).val = b0 at h0
    generalize hb1 : (β (show Fin 2 from 1)).val = b1 at h1
    refine ⟨grid0.coords ⟨80 * b1 + b0, show 80 * b1 + b0 < 240 by omega⟩, fun a => ?_⟩
    refine (congrFun (idx1 m ⟨80 * b1 + b0, show 80 * b1 + b0 < 240 by omega⟩) a).trans ?_
    match a with
    | ⟨0, _⟩ => exact Eq.trans (show (80 * b1 + b0) % 80 = b0 by omega) hb0.symm
    | ⟨1, _⟩ => exact Eq.trans (show (80 * b1 + b0) / 80 % 3 = b1 by omega) hb1.symm

/-- What a point stores at an entry is the reference's entry there. -/
theorem tile_entry (c : Dev nD) (hw : Runs (word (m ((c : Thread nD τ).loc main_arg0)))) (t : Fin (cfgM m).N) (i : Fin 256) (j : Fin 512) :
    tileAt c (tabM m c) (wgM m c) (wuM m c) t (iblk m c 0 t) (ix2 i j)
      = UpRef.entry (m ((c : Thread nD τ).loc main_arg0)) (m ((c : Thread nD τ).loc main_arg1)) (m ((c : Thread nD τ).loc main_arg2))
          (m ((c : Thread nD τ).loc main_arg3)) (rowAt t i) (colAt t j) := by
  have ht : UpRef.tileOf (rowAt t i) = row t.val := Fin.ext (by
    show ((row t.val).val * 256 + i.val) / 256 = (row t.val).val
    have := i.isLt
    omega)
  have hc : k0_cond4 (word (m ((c : Thread nD τ).loc main_arg0)) 1 (row t.val)) = 1#1
      ↔ word (m ((c : Thread nD τ).loc main_arg0)) 1 (row t.val) = 1#32 := by
    unfold k0_cond4
    word_cmp
    exact ⟨fun h => BitVec.eq_of_toNat_eq h, fun h => h ▸ rfl⟩
  unfold tileAt tileOut UpRef.entry
  rw [words_word]
  show (if k0_cond4 (word (m ((c : Thread nD τ).loc main_arg0)) 1 (row t.val)) = 1#1 then _ else _ : Vec Ideal S256x512 .bf16) (ix2 i j) = _
  unfold UpRef.owner
  rw [ht]
  by_cases h : word (m ((c : Thread nD τ).loc main_arg0)) 1 (row t.val) = 1#32
  · simp only [if_pos (hc.2 h), if_pos h, dif_pos (hw.expert (row t.val))]
    refine (stored _ _ _ i j).trans ?_
    have he : expertOf (word (m ((c : Thread nD τ).loc main_arg0))) (row t.val) = ⟨_, hw.expert (row t.val)⟩ := Fin.ext (expertOf_val hw _)
    unfold UpRef.prod
    rw [← he]
    congr 1 <;> refine Finset.sum_congr rfl fun k _ => ?_
    · exact congrArg₂ (· * ·) (rows_at m c t i k) (slabG_at c _ _ t k j)
    · exact congrArg₂ (· * ·) (rows_at m c t i k) (slabU_at c _ _ t k j)
  · simp only [if_neg (fun h' => h (hc.1 h')), if_neg h]
    rw [stored_zero]
    rfl

/-- The array at the end is the reference's. -/
theorem final (c : Dev nD) (hw : Runs (word (m ((c : Thread nD τ).loc main_arg0)))) :
    (dats m 0 c).arrAt 1 (cfgM m).N = UpRef.array (m ((c : Thread nD τ).loc main_arg0)) (m ((c : Thread nD τ).loc main_arg1))
      (m ((c : Thread nD τ).loc main_arg2)) (m ((c : Thread nD τ).loc main_arg3)) := by
  refine (dats m 0 c).arrAt_eq_of_covers 1 _ (cover m) fun t _ y => ?_
  rw [after0_1]
  have hy : ∀ y : S256x512.Idx, ∃ (i : Fin 256) (j : Fin 512), y = ix2 i j := fun y => ⟨y 0, y 1, by funext a; match a with | 0 => rfl | 1 => rfl⟩
  obtain ⟨i, j, rfl⟩ := hy y
  have he : (((cfgM m).win 1).blk t).view.emb (ix2 i j) = ix2 (rowAt t i) (colAt t j) := by blk_ext [idx1 m t, rowAt, colAt]
  exact (tile_entry m c hw t i j).trans (congrArg (UpRef.array (m ((c : Thread nD τ).loc main_arg0)) (m ((c : Thread nD τ).loc main_arg1))
      (m ((c : Thread nD τ).loc main_arg2)) (m ((c : Thread nD τ).loc main_arg3))) he).symm

end Cert.Proof.Up

end
-- ==== Proof.UpSame.lean ====
module

public import proofs.«01_k».proof.Proof.UpFrame
public import proofs.«01_k».proof.Proof.Gen.KernelUp.Launch

/-! # The kernel on words is the kernel on numbers

No operation was rewritten in the gate/up call, so its two programs are one, written twice; what `UpFrame` says at
every reading of the floats it says of both. -/

@[expose] public section

set_option maxRecDepth 16384

noncomputable section

namespace Cert.Proof.UpSame

open Idealize.ShloMosaic Idealize.ShloMosaic.TcCoe Idealize.SL.Sem

/-- The two programs run the same bodies. -/
theorem bodies : Cert.KernelUp.defs₀ (F := Bits) = Cert.KernelUpIdeal.defs₀ (F := Bits) := by
  unfold Cert.KernelUp.defs₀ Cert.KernelUpIdeal.defs₀
  refine congrArg Defs.onTc ?_
  funext l x
  match l, x with
  | 0, (t, s) => rfl

/-- And so the same calls. -/
theorem calls : Cert.KernelUp.defs (F := Bits) = Cert.KernelUpIdeal.defs (F := Bits) :=
  congrArg (Pipeline.defs (Cert.KernelUp.pcfgs (F := Bits))) bodies

section
open Cert.KernelUp

/-- The kernel on words leaves its arguments as they were at a table of runs, and every semaphore at zero. -/
theorem frame_of (m : (ℓ : Loc nD τ sig) → Buf (Elt Bits) ℓ) (ρ : Dev nD → PrngReg)
    (hw : ∀ c : Dev nD, UpRuns.Runs (UpRuns.word (m ((c.tc : Thread nD τ).loc main_arg0)))) :
    θ_run (defs (F := Bits)) (onTc (τ := τ) (main (F := Bits))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  rw [calls]
  exact Up.frame_of (F := Bits) m ρ hw

end

end Cert.Proof.UpSame

end
-- ==== Proof.UpClaims.lean ====
module

public import proofs.«01_k».proof.Proof.UpValue
public import proofs.«01_k».proof.Proof.UpSame
public import proofs.«01_k».proof.Defs

/-! # The claims about the gate/up call of the expert layer

Its kernel leaves its arguments as they were and every semaphore at zero, on words and on numbers, at every table of runs
the precondition admits; there its result is its reference's. -/

@[expose] public section

set_option maxRecDepth 16384

noncomputable section

namespace Cert.Proof

open Idealize.ShloMosaic Idealize.ShloMosaic.TcCoe Idealize.SL.Sem

/-- The shape conditions the precondition on the table of runs states. -/
theorem runs_facts : Cert.Pre_runs_ok.Facts where
  slices_S5x80_S1x80_0_0 := by decide
  shapeCasts_S1x80_S80 := by decide
  slices_S5x80_S1x80_2_0 := by decide
  slices_S5x80_S1x80_3_0 := by decide
  slices_S5x80_S1x80_4_0 := by decide
  bcast_S_S80 := by decide
  reducesTo_S80_S_d0 := by decide
  h_S_ := by decide
  slices_S80_S1_0 := by decide
  shapeCasts_S1_S_ := by decide
  slices_S80_S79_1 := by decide
  bcast_S_S79 := by decide
  slices_S80_S79_0 := by decide
  reducesTo_S79_S_d0 := by decide
  slices_S80_S1_79 := by decide

/-- The kernel on words, at a table of runs, leaves its arguments as they were and every semaphore at zero. -/
theorem up_frame_bits : Cert.quiescent_KernelUp (hKernelUp := Cert.KernelUp.Gen.facts) (hPre_runs_ok := runs_facts) := fun m g h =>
  UpSame.frame_of m g fun c => by
    haveI := runs_facts
    exact UpRuns.runs_of_pre (F := Bits) _ _ _ _ (h c)

/-- The kernel on numbers, at a table of runs, leaves its arguments as they were and every semaphore at zero. -/
theorem up_frame : Cert.quiescent_KernelUpIdeal (hKernelUpIdeal := Cert.KernelUpIdeal.Gen.facts) (hPre_runs_ok := runs_facts) := fun m g h =>
  Up.frame_of m g fun c => by
    haveI := runs_facts
    exact UpRuns.runs_of_pre (F := Ideal) _ _ _ _ (h c)

/-- The kernel on numbers and its reference agree at every table of runs. -/
theorem up_value : Cert.algebraic_KernelUpIdeal_ReferenceUpIdeal (hKernelUpIdeal := Cert.KernelUpIdeal.Gen.facts)
    (hReferenceUpIdeal := Cert.ReferenceUpIdeal.Gen.facts) (hPre_runs_ok := runs_facts) := fun m g m' g' h ha => by
  have hw := fun c => by
    haveI := runs_facts
    exact UpRuns.runs_of_pre (F := Ideal) _ _ _ _ (h c)
  refine ⟨fun c => (Up.dats m 0 c).arrAt 1 (Up.cfgM m).N, Up.result_of m g hw,
    (θ_run _ _ _).mono (fun r hr c => ⟨(hr c).1.trans ?_, (hr c).2⟩) (UpRef.result m' g')⟩
  exact (congr (congr (congr (congrArg UpRef.array (ha c).1) (ha c).2.1) (ha c).2.2.1) (ha c).2.2.2).trans (Up.final m c (hw c)).symm

end Cert.Proof

end
-- ==== Proof.Up1Body.lean ====
module

public import proofs.«01_k».proof.Proof.Gen.KernelUp1Ideal.Launch
public import proofs.«01_k».proof.Proof.Gen.KernelUp1Ideal.Skeleton
public import Idealize.ShloMosaic.Lib.Pipeline.FrameBody
public import Idealize.ShloMosaic.Lib.Ring
public import Idealize.ShloMosaic.Lib.VecWindow
public import Idealize.ShloMosaic.Lib.Tactic

@[expose] public section

set_option maxRecDepth 16384

noncomputable section

namespace Cert.Proof.Up1

open Cert.KernelUp1Ideal Cert.KernelUp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

/-- The first half of the landing buffer, as the copies address it. -/
abbrev slot0 : Memref sig .tc .vmem S4096x512 .f32 :=
  ((Memref.whole cc0_scratch0).slice (Rect.unit (s := S2x4096x512) ![0, 0, 0] S1x4096x512.size inb_S2x4096x512_S1x4096x512_0_0_0) (fun _ => rfl)).squeeze S4096x512 squeezes_S1x4096x512_S4096x512
/-- The second half of the landing buffer. -/
abbrev slot1 : Memref sig .tc .vmem S4096x512 .f32 :=
  ((Memref.whole cc0_scratch0).slice (Rect.unit (s := S2x4096x512) ![1, 0, 0] S1x4096x512.size inb_S2x4096x512_S1x4096x512_1_0_0) (fun _ => rfl)).squeeze S4096x512 squeezes_S1x4096x512_S4096x512

/-- The semaphore of the copy of gate weights. -/
abbrev sem0 : DmaSem sig := ((cc0_scratch2.slice (Rect.unit (s := S2) ![0] S1.size inb_S2_S1_0)).squeeze S_ squeezes_S1_S_).sem
/-- The semaphore of the copy of up weights. -/
abbrev sem1 : DmaSem sig := ((cc0_scratch2.slice (Rect.unit (s := S2) ![1] S1.size inb_S2_S1_1)).squeeze S_ squeezes_S1_S_).sem

/-- A block of the gate weights at an offset. -/
abbrev srcG (off : Fin 4 → Nat) (h : ∀ a, off a + S1x1x4096x512.size a ≤ S2x16x4096x1536.size a) : Memref sig .tc .hbm S4096x512 .f32 :=
  ((Memref.whole main_arg2).slice (Rect.unit (s := S2x16x4096x1536) off S1x1x4096x512.size h) (fun _ => rfl)).squeeze S4096x512 squeezes_S1x1x4096x512_S4096x512
/-- A block of the up weights at an offset. -/
abbrev srcU (off : Fin 4 → Nat) (h : ∀ a, off a + S1x1x4096x512.size a ≤ S2x16x4096x1536.size a) : Memref sig .tc .hbm S4096x512 .f32 :=
  ((Memref.whole main_arg3).slice (Rect.unit (s := S2x16x4096x1536) off S1x1x4096x512.size h) (fun _ => rfl)).squeeze S4096x512 squeezes_S1x1x4096x512_S4096x512

/-- Where the block of expert `e`, column block `j`, begins in a weight array. -/
def offs (e : Fin 16) (j : Fin 3) : Fin 4 → Nat := ![1, e.val, 0, 512 * j.val]

/-- Every such block lies inside its array. -/
theorem offs_inb (e : Fin 16) (j : Fin 3) : ∀ a, offs e j a + S1x1x4096x512.size a ≤ S2x16x4096x1536.size a := by
  have h1 := e.isLt
  have h2 := j.isLt
  intro a
  fin_cases a
  · show 1 + 1 ≤ 2; omega
  · show e.val + 1 ≤ 16; omega
  · show 0 + 4096 ≤ 4096; omega
  · show 512 * j.val + 512 ≤ 1536; omega

variable (c : Dev nD)

/-- The contents of a gate array and of an up array, and of the table. -/
abbrev WG : Type := Buf (Elt F) ((c : Thread nD τ).loc main_arg2)
abbrev WU : Type := Buf (Elt F) ((c : Thread nD τ).loc main_arg3)
abbrev Tab : Type := Buf (Elt F) ((c : Thread nD τ).loc main_arg0)

/-- A word of the table, read as the body reads it. -/
abbrev rd (off : Fin 2 → Nat) (h : ∀ a, off a + S1x1.size a ≤ S5x80.size a) (tab : Tab (F := F) c) : BitVec 32 :=
  View.readAt (Elt F) (Memref.whole main_arg0).view (Rect.unit (s := S5x80) off S1x1.size h).toLoadRect tab
    (Shape.Idx.first (show 0 < S1x1.numel by decide))

/-- A copy of gate weights under way: on its completion the first half of the landing buffer holds `f`, and the block it
    reads is given back. -/
abbrev flightG (off : Fin 4 → Nat) (h : ∀ a, off a + S1x1x4096x512.size a ≤ S2x16x4096x1536.size a) (wg : WG (F := F) c)
    (f : Buf (Elt F) ((c : Thread nD τ).loc cc0_scratch0)) : sProp 𝕄 :=
  Transfers.Flight (countersEmb (U := Pipeline.UD sig nD τ)) (c : Thread nD τ) (.dma sem0) default 262144
    iprop((slot0.view.loc (c : Thread nD τ) ↦[slot0.view.set]{fullShare} f) ∗ ((Memref.whole main_arg2).view.loc (c : Thread nD τ) ↦[(srcG off h).view.set]{fullShare} wg))
/-- The same for up weights and the second half. -/
abbrev flightU (off : Fin 4 → Nat) (h : ∀ a, off a + S1x1x4096x512.size a ≤ S2x16x4096x1536.size a) (wu : WU (F := F) c)
    (f : Buf (Elt F) ((c : Thread nD τ).loc cc0_scratch0)) : sProp 𝕄 :=
  Transfers.Flight (countersEmb (U := Pipeline.UD sig nD τ)) (c : Thread nD τ) (.dma sem1) default 262144
    iprop((slot1.view.loc (c : Thread nD τ) ↦[slot1.view.set]{fullShare} f) ∗ ((Memref.whole main_arg3).view.loc (c : Thread nD τ) ↦[(srcU off h).view.set]{fullShare} wu))

/-- Both copies under way from the blocks at an offset. -/
def flyingAt (wg : WG (F := F) c) (wu : WU (F := F) c) (off : Fin 4 → Nat) (h : ∀ a, off a + S1x1x4096x512.size a ≤ S2x16x4096x1536.size a) : sProp 𝕄 :=
  iprop(∃ fg, ∃ fu, ⌜slot0.view.read (Elt F) fg = (srcG off h).view.read (Elt F) wg ∧ slot1.view.read (Elt F) fu = (srcU off h).view.read (Elt F) wu⌝
    ∗ flightG c off h wg fg ∗ flightU c off h wu fu
    ∗ ((Memref.whole main_arg2).view.loc (c : Thread nD τ) ↦[Finset.univ \ (srcG off h).view.set]{fullShare} wg)
    ∗ ((Memref.whole main_arg3).view.loc (c : Thread nD τ) ↦[Finset.univ \ (srcU off h).view.set]{fullShare} wu))

/-- Both copies under way for expert `e`, column block `j`. -/
abbrev flying (wg : WG (F := F) c) (wu : WU (F := F) c) (e : Fin 16) (j : Fin 3) : sProp 𝕄 := flyingAt c wg wu (offs e j) (offs_inb e j)

/-- Copies from an offset that is the block's own are that block's copies. -/
theorem flyingAt_eq (wg : WG (F := F) c) (wu : WU (F := F) c) (off : Fin 4 → Nat) (h) (e : Fin 16) (j : Fin 3) (ho : off = offs e j) :
    (flyingAt c wg wu off h : sProp 𝕄) ⊢ flying c wg wu e j := by subst ho; exact .rfl

/-- A block read at an offset that is its own is that block. -/
theorem srcG_eq (wg : WG (F := F) c) (off : Fin 4 → Nat) (h) (e : Fin 16) (j : Fin 3) (ho : off = offs e j) :
    (srcG off h).view.read (Elt F) wg = (srcG (offs e j) (offs_inb e j)).view.read (Elt F) wg := by subst ho; rfl
theorem srcU_eq (wu : WU (F := F) c) (off : Fin 4 → Nat) (h) (e : Fin 16) (j : Fin 3) (ho : off = offs e j) :
    (srcU off h).view.read (Elt F) wu = (srcU (offs e j) (offs_inb e j)).view.read (Elt F) wu := by subst ho; rfl

/-- No copy under way: both halves, both weight arrays and both semaphores are at hand. -/
def resting (wg : WG (F := F) c) (wu : WU (F := F) c) : sProp 𝕄 :=
  iprop((∃ fg, slot0.view.loc (c : Thread nD τ) ↦[slot0.view.set]{fullShare} fg) ∗ (∃ fu, slot1.view.loc (c : Thread nD τ) ↦[slot1.view.set]{fullShare} fu)
    ∗ ((Memref.whole main_arg2).view.loc (c : Thread nD τ) ↦{fullShare} wg) ∗ ((Memref.whole main_arg3).view.loc (c : Thread nD τ) ↦{fullShare} wu)
    ∗ semVal ((c : Thread nD τ), SemLoc.dma sem0) 0 ∗ semVal ((c : Thread nD τ), SemLoc.dma sem1) 0)

/-- A weight block as the body keeps it for the products: rounded, with a leading axis of one. -/
def slab (b : Vec F S4096x512 .f32) : Vec F S1x4096x512 .bf16 :=
  shapeCast S1x4096x512 (truncf .bf16 b bitsLt_bf16_f32) shapeCasts_S4096x512_S1x4096x512

abbrev slabG (wg : WG (F := F) c) (e : Fin 16) (j : Fin 3) : Vec F S1x4096x512 .bf16 := slab ((srcG (offs e j) (offs_inb e j)).view.read (Elt F) wg)
abbrev slabU (wu : WU (F := F) c) (e : Fin 16) (j : Fin 3) : Vec F S1x4096x512 .bf16 := slab ((srcU (offs e j) (offs_inb e j)).view.read (Elt F) wu)

abbrev half0 : Rect S2x4096x512 := Rect.unit (s := S2x4096x512) ![0, 0, 0] S1x4096x512.size inb_S2x4096x512_S1x4096x512_0_0_0
abbrev half1 : Rect S2x4096x512 := Rect.unit (s := S2x4096x512) ![1, 0, 0] S1x4096x512.size inb_S2x4096x512_S1x4096x512_1_0_0

/-- What the body stores of a landed half is its slab. -/
theorem pay3_eq (f : Buf (Elt F) ((c : Thread nD τ).loc cc0_scratch0)) :
    k0_pay3 (View.readAt (Elt F) (Memref.whole cc0_scratch0).view half0.toLoadRect f) = slab (slot0.view.read (Elt F) f) := rfl
theorem pay4_eq (f : Buf (Elt F) ((c : Thread nD τ).loc cc0_scratch0)) :
    k0_pay4 (View.readAt (Elt F) (Memref.whole cc0_scratch0).view half1.toLoadRect f) = slab (slot1.view.read (Elt F) f) := rfl

/-- After both halves are stored, the first half reads as what was stored there, -/
theorem read_half0 (f : Buf (Elt F) ((c : Thread nD τ).loc cc0_scratch1)) (p q : Vec F S1x4096x512 .bf16) :
    View.readAt (Elt F) (Memref.whole cc0_scratch1).view half0.toLoadRect ((Memref.whole cc0_scratch1).view.writes (Elt F) f [⟨half1, p⟩, ⟨half0, q⟩]) = q := by
  funext x
  refine (View.read_writes_cons_miss_of_axis (Memref.whole cc0_scratch1).view f ⟨half1, p⟩ [⟨half0, q⟩] (half0.emb x) 0 1 1 rfl rfl rfl (Or.inl ?_)).trans
    (View.read_writes_cons_emb (Memref.whole cc0_scratch1).view f half0 q [] x)
  have h : (x 0).val < 1 := (x 0).isLt
  show 0 + 1 * (x 0).val < 1
  omega
/-- and the second half too. -/
theorem read_half1 (f : Buf (Elt F) ((c : Thread nD τ).loc cc0_scratch1)) (p q : Vec F S1x4096x512 .bf16) :
    View.readAt (Elt F) (Memref.whole cc0_scratch1).view half1.toLoadRect ((Memref.whole cc0_scratch1).view.writes (Elt F) f [⟨half1, p⟩, ⟨half0, q⟩]) = p :=
  funext fun x => View.read_writes_cons_emb (Memref.whole cc0_scratch1).view f half1 p [⟨half0, q⟩] x

/-- A half copied over twice reads as the later copy. -/
theorem read_copied_twice {sp : Space} {s : Shape} {e : EltTy} (v : View sig .tc sp s e) (f : v.ty.Contents (Elt F)) (x y : s.Idx → Elt F e) :
    v.read (Elt F) (v.writes (Elt F) f [⟨Rect.whole s, x⟩, ⟨Rect.whole s, y⟩]) = x := by
  funext z
  have h := View.read_writes_cons_emb v f (Rect.whole s) x [⟨Rect.whole s, y⟩] z
  rwa [Rect.emb_whole_apply] at h

/-- The weight buffer holds the slabs of expert `e`, column block `j`. -/
def loaded (wg : WG (F := F) c) (wu : WU (F := F) c) (e : Fin 16) (j : Fin 3) : sProp 𝕄 :=
  iprop(∃ wb, ⌜View.readAt (Elt F) (Memref.whole cc0_scratch1).view half0.toLoadRect wb = slabG c wg e j
      ∧ View.readAt (Elt F) (Memref.whole cc0_scratch1).view half1.toLoadRect wb = slabU c wu e j⌝
    ∗ ((Memref.whole cc0_scratch1).view.loc (c : Thread nD τ) ↦{fullShare} wb))

/-- What a tile's result is: the gated product where the tile is a real one, zero where not. -/
def tileOut (v : BitVec 32) (x : Vec F S256x4096 .bf16) (g u : Vec F S1x4096x512 .bf16) : Vec F S256x512 .bf16 :=
  if k0_cond4 v = 1#1 then k0_pay1 x g u else k0_pay2

/-- The two conditions on a tile's validity exclude one another and one of them holds. -/
theorem cond45 (v : BitVec 32) : (k0_cond4 v = 1#1 ∧ ¬ k0_cond5 v = 1#1) ∨ (¬ k0_cond4 v = 1#1 ∧ k0_cond5 v = 1#1) := by
  unfold k0_cond4 k0_cond5
  dsimp only [Scalar.cmpi, IntOp.cmpi]
  generalize (v == 1#32) = b
  cases b <;> decide

/-- The body at whole memrefs. -/
abbrev bodyAt (i : grid0.Coords) (A3 : Memref sig .tc .vmem S256x4096 .bf16) (h3 : A3.IsWhole) (A6 : Memref sig .tc .vmem S256x512 .bf16) (h6 : A6.IsWhole) :
    Prog (TpuEff nD τ sig (Elt F) Λ₀ .tc) PUnit :=
  cc0_moe_gate_up i (Memref.whole main_arg0) (Memref.isWhole_whole _) A3 h3 (Memref.whole main_arg2) (Memref.isWhole_whole _) (Memref.whole main_arg3) (Memref.isWhole_whole _)
            A6 h6 (Memref.whole cc0_scratch0) (Memref.isWhole_whole _) (Memref.whole cc0_scratch1) (Memref.isWhole_whole _) cc0_scratch2

/-- The body's share of the table. -/
abbrev tabP (tab : Tab (F := F) c) : sProp 𝕄 := (Memref.whole main_arg0).view.loc (c : Thread nD τ) ↦{fullShare.right} tab

end Cert.Proof.Up1

end
-- ==== Proof.Up1Table.lean ====
module

public import proofs.«01_k».proof.Proof.Up1Body
public import proofs.«01_k».proof.Proof.UpRuns

@[expose] public section

set_option maxRecDepth 16384

noncomputable section

namespace Cert.Proof.Up1

open Cert.KernelUp1Ideal Cert.KernelUp1Ideal.Gen Cert.Proof.UpRuns
open Idealize.ShloMosaic Idealize.ShloMosaic.TcCoe

variable {F : FTy → Type} [FloatOps F]

/-! ## Points of the grid -/

/-- They are the point's coordinates. -/
theorem coords_row : ∀ t : Fin 240, (grid0.coords t 1).val = (row t.val).val := by decide +kernel
theorem coords_col : ∀ t : Fin 240, (grid0.coords t 0).val = (col t.val).val := by decide +kernel

/-- Only the first point issues its own copies. -/
theorem cond1_iff : ∀ t : Fin 240, k0_cond1 (grid0.coords t) = 1#1 ↔ t.val = 0 := by decide +kernel

/-- A run begins where the third row of the table holds one. -/
theorem cond2_iff (v : BitVec 32) : k0_cond2 v = 1#1 ↔ v = 1#32 := by
  rw [← beq_iff_eq (a := v)]
  unfold k0_cond2
  dsimp only [Scalar.cmpi, IntOp.cmpi]
  generalize (v == 1#32) = b
  cases b <;> decide

/-- Copies are issued unless the run is the table's last and the column block the last. -/
theorem cond3_iff (i : grid0.Coords) (v : BitVec 32) : k0_cond3 i v = 1#1 ↔ ¬ (v = 1#32 ∧ (i 0).val = 2) := by
  rw [← beq_iff_eq (a := v)]
  unfold k0_cond3
  dsimp only [Scalar.cmpi, IntOp.cmpi]
  generalize (v == 1#32) = b
  generalize (i 0) = j
  revert j
  cases b <;> decide

/-- Where the blocks the body copies begin. -/
theorem off1_eq (v : BitVec 32) : k0_off1 v = ![1, v.toNat, 0, 0] := rfl
theorem off4_eq (i : grid0.Coords) (v : BitVec 32) : k0_off4 i v = ![1, v.toNat, 0, 512 * (i 0).val] := by
  have h : ∀ j : Fin 3, (Scalar.muli (BitVec.ofNat 32 j.val) 512#32).toNat = 512 * j.val := by decide
  unfold k0_off4
  exact congrArg (fun n => (![1, v.toNat, 0, n] : Fin 4 → Nat)) (h (i 0))
theorem off7_eq (i : grid0.Coords) (v w : BitVec 32) :
    k0_off7 i v w = ![1, w.toNat, 0, 512 * (if v = 1#32 then (i 0).val + 1 else (i 0).val)] := by
  by_cases hv : v = 1#32
  · subst hv
    have h : ∀ j : Fin 3, (Scalar.muli (BitVec.ofNat 32 j.val + 1#32) 512#32).toNat = 512 * (j.val + 1) := by decide
    rw [if_pos rfl]
    exact congrArg (fun n => (![1, w.toNat, 0, n] : Fin 4 → Nat)) (h (i 0))
  · have h : ∀ j : Fin 3, (Scalar.muli (BitVec.ofNat 32 j.val) 512#32).toNat = 512 * j.val := by decide
    rw [if_neg hv]
    have hb : (v == 1#32) = false := by simpa using hv
    unfold k0_off7
    dsimp only [Scalar.cmpi, IntOp.cmpi]
    rw [hb]
    exact congrArg (fun n => (![1, w.toNat, 0, n] : Fin 4 → Nat)) (h (i 0))

end Cert.Proof.Up1

end
-- ==== Proof.Up1Start.lean ====
module

public import proofs.«01_k».proof.Proof.Up1Body

@[expose] public section

set_option maxRecDepth 16384

noncomputable section

namespace Cert.Proof.Up1

open Cert.KernelUp1Ideal Cert.KernelUp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- The first point of the grid: its own copies are issued first, and the rest is as at any point that begins a run. -/
theorem run_start (i : grid0.Coords) (tab : Tab (F := F) c) (wg : WG (F := F) c) (wu : WU (F := F) c) (e : Fin 16) (j : Fin 3)
    (h1 : k0_cond1 i = 1#1)
    (hc1 : k0_chk1 i (rd c ![0, 0] inb_S5x80_S1x1_0_0 tab))
    (ho1 : k0_off1 (rd c ![0, 0] inb_S5x80_S1x1_0_0 tab) = offs e j)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : k0_cond3 i (rd c (k0_off5 i) (k0_off5_inb i) tab) = 1#1)
    (hc4 : k0_chk4 i (rd c (k0_off2 i) (k0_off2_inb i) tab) (rd c (k0_off5 i) (k0_off5_inb i) tab) (rd c (k0_off6 i) (k0_off6_inb i) tab))
    (P' : sProp 𝕄) (hb : ∀ a, k0_off7 i (rd c (k0_off5 i) (k0_off5_inb i) tab) (rd c (k0_off6 i) (k0_off6_inb i) tab) a + S1x1x4096x512.size a ≤ S2x16x4096x1536.size a)
    (ho : flyingAt c wg wu (k0_off7 i (rd c (k0_off5 i) (k0_off5_inb i) tab) (rd c (k0_off6 i) (k0_off6_inb i) tab)) hb ⊢ P')
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ resting c wg wu ∗ (∃ wb, (Memref.whole cc0_scratch1).view.loc (c : Thread nD τ) ↦{fullShare} wb)
        ∗ owns (c : Thread nD τ) A3 fullShare x ∗ (∃ d, owns (c : Thread nD τ) A6 fullShare d) ∗ (∃ W, owes (c : Thread nD τ) 0 W)
        ∗ (iprop(tabP c tab ∗ P' ∗ loaded c wg wu e j
            ∗ owns (c : Thread nD τ) A3 fullShare x
            ∗ owns (c : Thread nD τ) A6 fullShare (tileOut (rd c (k0_off8 i) (k0_off8_inb i) tab) x (slabG c wg e j) (slabU c wu e j))
            ∗ (∃ W, owes (c : Thread nD τ) 0 W)) -∗ K ⟨⟩))
      ⊢ wp frame (wpE (defs₀ (F := F)) Variants.none c none) Set.univ (bodyAt (F := F) i A3 w3 A6 w6) K := by
  unfold bodyAt
  rw [cc0_moe_gate_up_eq_skeleton]; unfold cc0_moe_gate_up_skel
  unfold resting owns tileOut
  iintro ⟨HT, ⟨⟨%fg, HG_dst⟩, ⟨%fu, HU_dst⟩, HWG, HWU, HG, HU⟩, ⟨%wb, HB⟩, ⟨%f3, %hf3, H3⟩, ⟨%d6, %f6, -, H6⟩, ⟨%W, HO⟩, HK⟩
  subst hf3
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact h4 | exact h5 | exact hc2 | exact hc4 | exact hc3 _ _ _ | exact hc1)
  all_goals
    sl_step
    iapply HK
    isplitl [HT]; · iexact HT
    isplitl [HG HU HWG HWU]
    · iapply ho
      unfold flyingAt
      iexists _, _
      isplitr
      swap
      · isplitl [HG]; · iexact HG
        isplitl [HU]; · iexact HU
        isplitl [HWG]; · iexact HWG
        iexact HWU
      ipureintro
      exact ⟨read_copied_twice _ _ _ _, read_copied_twice _ _ _ _⟩
    isplitl [HB]
    · unfold loaded
      iexists _
      isplitr
      swap; · iexact HB
      ipureintro
      refine ⟨?_, ?_⟩
      · exact (read_half0 c _ _ _).trans ((pay3_eq c _).trans (congrArg slab ((View.read_writes_whole _ _ _).trans (srcG_eq c wg _ _ e j ho1))))
      · exact (read_half1 c _ _ _).trans ((pay4_eq c _).trans (congrArg slab ((View.read_writes_whole _ _ _).trans (srcU_eq c wu _ _ e j ho1))))
    isplitl [H3]
    · iexists _
      isplitr; · ipureintro; rfl
      iexact H3
    isplitl [H6]
    · iexists _
      isplitr
      swap; · iexact H6
      ipureintro
      first
        | refine Eq.trans ?_ (if_neg h4).symm
          exact View.read_writes_full A6.view _ inb_S256x512_S256x512_0_0 _ []
        | refine Eq.trans ?_ (if_pos h4).symm
          refine (View.read_writes_full A6.view _ inb_S256x512_S256x512_0_0 _ []).trans ?_
          rw [View.readAt_full]
          refine congrArg₂ (k0_pay1 _) ?_ ?_
          · unfold run_start.sl.v20 run_start.sl.HB_2
            exact (read_half0 c _ _ _).trans ((pay3_eq c _).trans (congrArg slab ((View.read_writes_whole _ _ _).trans (srcG_eq c wg _ _ e j ho1))))
          · unfold run_start.sl.v23 run_start.sl.HB_2
            exact (read_half1 c _ _ _).trans ((pay4_eq c _).trans (congrArg slab ((View.read_writes_whole _ _ _).trans (srcU_eq c wu _ _ e j ho1))))
    iexists _; iexact HO

end Cert.Proof.Up1

end
-- ==== Proof.Up1Go.lean ====
module

public import proofs.«01_k».proof.Proof.Up1Body

@[expose] public section

set_option maxRecDepth 16384

noncomputable section

namespace Cert.Proof.Up1

open Cert.KernelUp1Ideal Cert.KernelUp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 1600000 in
/-- A point that begins an expert's run, not the first of the grid, with copies to issue: the copies under way land, their
    slabs are stored, the next copies are issued, and the tile is computed. -/
theorem run_first_go (i : grid0.Coords) (tab : Tab (F := F) c) (wg : WG (F := F) c) (wu : WU (F := F) c) (e : Fin 16) (j : Fin 3)
    (h1 : ¬ k0_cond1 i = 1#1)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : k0_cond3 i (rd c (k0_off5 i) (k0_off5_inb i) tab) = 1#1)
    (hc4 : k0_chk4 i (rd c (k0_off2 i) (k0_off2_inb i) tab) (rd c (k0_off5 i) (k0_off5_inb i) tab) (rd c (k0_off6 i) (k0_off6_inb i) tab))
    (P' : sProp 𝕄) (hb : ∀ a, k0_off7 i (rd c (k0_off5 i) (k0_off5_inb i) tab) (rd c (k0_off6 i) (k0_off6_inb i) tab) a + S1x1x4096x512.size a ≤ S2x16x4096x1536.size a)
    (ho : flyingAt c wg wu (k0_off7 i (rd c (k0_off5 i) (k0_off5_inb i) tab) (rd c (k0_off6 i) (k0_off6_inb i) tab)) hb ⊢ P')
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ flying c wg wu e j ∗ (∃ wb, (Memref.whole cc0_scratch1).view.loc (c : Thread nD τ) ↦{fullShare} wb)
        ∗ owns (c : Thread nD τ) A3 fullShare x ∗ (∃ d, owns (c : Thread nD τ) A6 fullShare d) ∗ (∃ W, owes (c : Thread nD τ) 0 W)
        ∗ (iprop(tabP c tab ∗ P' ∗ loaded c wg wu e j
            ∗ owns (c : Thread nD τ) A3 fullShare x
            ∗ owns (c : Thread nD τ) A6 fullShare (tileOut (rd c (k0_off8 i) (k0_off8_inb i) tab) x (slabG c wg e j) (slabU c wu e j))
            ∗ (∃ W, owes (c : Thread nD τ) 0 W)) -∗ K ⟨⟩))
      ⊢ wp frame (wpE (defs₀ (F := F)) Variants.none c none) Set.univ (bodyAt (F := F) i A3 w3 A6 w6) K := by
  unfold bodyAt
  rw [cc0_moe_gate_up_eq_skeleton]; unfold cc0_moe_gate_up_skel
  unfold flying flyingAt owns tileOut
  iintro ⟨HT, ⟨%fg, %fu, %hf, HG, HU, HWG, HWU⟩, ⟨%wb, HB⟩, ⟨%f3, %hf3, H3⟩, ⟨%d6, %f6, -, H6⟩, ⟨%W, HO⟩, HK⟩
  subst hf3
  obtain ⟨hf0, hf1⟩ := hf
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact h4 | exact h5 | exact hc2 | exact hc4 | exact hc3 _ _ _)
  all_goals
    sl_step
    iapply HK
    isplitl [HT]; · iexact HT
    isplitl [HG HU HWG HWU]
    · iapply ho
      unfold flyingAt
      iexists _, _
      isplitr
      swap
      · isplitl [HG]; · iexact HG
        isplitl [HU]; · iexact HU
        isplitl [HWG]; · iexact HWG
        iexact HWU
      ipureintro
      exact ⟨View.read_writes_whole _ _ _, View.read_writes_whole _ _ _⟩
    isplitl [HB]
    · unfold loaded
      iexists _
      isplitr
      swap; · iexact HB
      ipureintro
      exact ⟨(read_half0 c _ _ _).trans ((pay3_eq c _).trans (congrArg slab hf0)), (read_half1 c _ _ _).trans ((pay4_eq c _).trans (congrArg slab hf1))⟩
    isplitl [H3]
    · iexists _
      isplitr; · ipureintro; rfl
      iexact H3
    isplitl [H6]
    · iexists _
      isplitr
      swap; · iexact H6
      ipureintro
      first
        | refine Eq.trans ?_ (if_neg h4).symm
          exact View.read_writes_full A6.view _ inb_S256x512_S256x512_0_0 _ []
        | refine Eq.trans ?_ (if_pos h4).symm
          refine (View.read_writes_full A6.view _ inb_S256x512_S256x512_0_0 _ []).trans ?_
          rw [View.readAt_full]
          refine congrArg₂ (k0_pay1 _) ?_ ?_
          · unfold run_first_go.sl.v20 run_first_go.sl.HB_2
            exact (read_half0 c _ _ _).trans ((pay3_eq c _).trans (congrArg slab hf0))
          · unfold run_first_go.sl.v23 run_first_go.sl.HB_2
            exact (read_half1 c _ _ _).trans ((pay4_eq c _).trans (congrArg slab hf1))
    iexists _; iexact HO

end Cert.Proof.Up1

end
-- ==== Proof.Up1Stop.lean ====
module

public import proofs.«01_k».proof.Proof.Up1Body

@[expose] public section

set_option maxRecDepth 16384

noncomputable section

namespace Cert.Proof.Up1

open Cert.KernelUp1Ideal Cert.KernelUp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 1600000 in
/-- A point that begins an expert's run with nothing left to copy: as above, and nothing is under way after. -/
theorem run_first_stop (i : grid0.Coords) (tab : Tab (F := F) c) (wg : WG (F := F) c) (wu : WU (F := F) c) (e : Fin 16) (j : Fin 3)
    (h1 : ¬ k0_cond1 i = 1#1)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : ¬ k0_cond3 i (rd c (k0_off5 i) (k0_off5_inb i) tab) = 1#1)
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ flying c wg wu e j ∗ (∃ wb, (Memref.whole cc0_scratch1).view.loc (c : Thread nD τ) ↦{fullShare} wb)
        ∗ owns (c : Thread nD τ) A3 fullShare x ∗ (∃ d, owns (c : Thread nD τ) A6 fullShare d) ∗ (∃ W, owes (c : Thread nD τ) 0 W)
        ∗ (iprop(tabP c tab ∗ resting c wg wu ∗ loaded c wg wu e j
            ∗ owns (c : Thread nD τ) A3 fullShare x
            ∗ owns (c : Thread nD τ) A6 fullShare (tileOut (rd c (k0_off8 i) (k0_off8_inb i) tab) x (slabG c wg e j) (slabU c wu e j))
            ∗ (∃ W, owes (c : Thread nD τ) 0 W)) -∗ K ⟨⟩))
      ⊢ wp frame (wpE (defs₀ (F := F)) Variants.none c none) Set.univ (bodyAt (F := F) i A3 w3 A6 w6) K := by
  unfold bodyAt
  rw [cc0_moe_gate_up_eq_skeleton]; unfold cc0_moe_gate_up_skel
  unfold flying flyingAt owns tileOut
  iintro ⟨HT, ⟨%fg, %fu, %hf, HG, HU, HWG, HWU⟩, ⟨%wb, HB⟩, ⟨%f3, %hf3, H3⟩, ⟨%d6, %f6, -, H6⟩, ⟨%W, HO⟩, HK⟩
  subst hf3
  obtain ⟨hf0, hf1⟩ := hf
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact h4 | exact h5 | exact hc2 | exact hc3 _ _ _)
  all_goals
    sl_step
    iapply HK
    isplitl [HT]; · iexact HT
    isplitl [HG HU HWG HWU HG_dst HU_dst]
    · unfold resting
      isplitl [HG_dst]; · iexists _; iexact HG_dst
      isplitl [HU_dst]; · iexists _; iexact HU_dst
      isplitl [HWG]; · iexact HWG
      isplitl [HWU]; · iexact HWU
      isplitl [HG]; · iexact HG
      iexact HU
    isplitl [HB]
    · unfold loaded
      iexists _
      isplitr
      swap; · iexact HB
      ipureintro
      exact ⟨(read_half0 c _ _ _).trans ((pay3_eq c _).trans (congrArg slab hf0)), (read_half1 c _ _ _).trans ((pay4_eq c _).trans (congrArg slab hf1))⟩
    isplitl [H3]
    · iexists _
      isplitr; · ipureintro; rfl
      iexact H3
    isplitl [H6]
    · iexists _
      isplitr
      swap; · iexact H6
      ipureintro
      first
        | refine Eq.trans ?_ (if_neg h4).symm
          exact View.read_writes_full A6.view _ inb_S256x512_S256x512_0_0 _ []
        | refine Eq.trans ?_ (if_pos h4).symm
          refine (View.read_writes_full A6.view _ inb_S256x512_S256x512_0_0 _ []).trans ?_
          rw [View.readAt_full]
          refine congrArg₂ (k0_pay1 _) ?_ ?_
          · unfold run_first_stop.sl.v20 run_first_stop.sl.HB_2
            exact (read_half0 c _ _ _).trans ((pay3_eq c _).trans (congrArg slab hf0))
          · unfold run_first_stop.sl.v23 run_first_stop.sl.HB_2
            exact (read_half1 c _ _ _).trans ((pay4_eq c _).trans (congrArg slab hf1))
    iexists _; iexact HO

end Cert.Proof.Up1

end
-- ==== Proof.Up1Again.lean ====
module

public import proofs.«01_k».proof.Proof.Up1Body

@[expose] public section

set_option maxRecDepth 16384

noncomputable section

namespace Cert.Proof.Up1

open Cert.KernelUp1Ideal Cert.KernelUp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 1600000 in
/-- A point inside an expert's run: no copy is waited for or issued, the tile is computed from the slabs at hand. -/
theorem run_again (i : grid0.Coords) (tab : Tab (F := F) c) (wg : WG (F := F) c) (wu : WU (F := F) c) (e : Fin 16) (j : Fin 3)
    (h1 : ¬ k0_cond1 i = 1#1)
    (h2 : ¬ k0_cond2 (rd c (k0_off2 i) (k0_off2_inb i) tab) = 1#1)
    (P : sProp 𝕄)
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ P ∗ loaded c wg wu e j
        ∗ owns (c : Thread nD τ) A3 fullShare x ∗ (∃ d, owns (c : Thread nD τ) A6 fullShare d) ∗ (∃ W, owes (c : Thread nD τ) 0 W)
        ∗ (iprop(tabP c tab ∗ P ∗ loaded c wg wu e j
            ∗ owns (c : Thread nD τ) A3 fullShare x
            ∗ owns (c : Thread nD τ) A6 fullShare (tileOut (rd c (k0_off8 i) (k0_off8_inb i) tab) x (slabG c wg e j) (slabU c wu e j))
            ∗ (∃ W, owes (c : Thread nD τ) 0 W)) -∗ K ⟨⟩))
      ⊢ wp frame (wpE (defs₀ (F := F)) Variants.none c none) Set.univ (bodyAt (F := F) i A3 w3 A6 w6) K := by
  unfold bodyAt
  rw [cc0_moe_gate_up_eq_skeleton]; unfold cc0_moe_gate_up_skel
  unfold loaded owns tileOut
  iintro ⟨HT, HP, ⟨%wb, %hb, HB⟩, ⟨%f3, %hf3, H3⟩, ⟨%d6, %f6, -, H6⟩, ⟨%W, HO⟩, HK⟩
  subst hf3
  obtain ⟨hb0, hb1⟩ := hb
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h4 | exact h5)
  all_goals
    sl_step
    iapply HK
    isplitl [HT]; · iexact HT
    isplitl [HP]; · iexact HP
    isplitl [HB]
    · iexists _
      isplitr
      swap; · iexact HB
      ipureintro
      exact ⟨hb0, hb1⟩
    isplitl [H3]
    · iexists _
      isplitr; · ipureintro; rfl
      iexact H3
    isplitl [H6]
    · iexists _
      isplitr
      swap; · iexact H6
      ipureintro
      first
        | refine Eq.trans ?_ (if_neg h4).symm
          exact View.read_writes_full A6.view _ inb_S256x512_S256x512_0_0 _ []
        | refine Eq.trans ?_ (if_pos h4).symm
          refine (View.read_writes_full A6.view _ inb_S256x512_S256x512_0_0 _ []).trans ?_
          exact congrArg (fun v => k0_pay1 v _ _) (View.readAt_full A3.view f3 inb_S256x4096_S256x4096_0_0)
    iexists _; iexact HO

end Cert.Proof.Up1

end
-- ==== Proof.Up1Step.lean ====
module

public import proofs.«01_k».proof.Proof.Up1Table
public import proofs.«01_k».proof.Proof.Up1Start
public import proofs.«01_k».proof.Proof.Up1Go
public import proofs.«01_k».proof.Proof.Up1Stop
public import proofs.«01_k».proof.Proof.Up1Again

@[expose] public section

set_option maxRecDepth 16384

noncomputable section

namespace Cert.Proof.Up1

open Cert.KernelUp1Ideal Cert.KernelUp1Ideal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The table's word in row `r` at tile `i`. -/
def words (tab : Tab (F := F) c) (r : Fin 5) (i : Fin 80) : BitVec 32 :=
  rd c ![r.val, i.val] (by
    have h1 := r.isLt
    have h2 := i.isLt
    intro a
    fin_cases a
    · show r.val + 1 ≤ 5; omega
    · show i.val + 1 ≤ 80; omega) tab

/-- A read of the table at an offset is the word there. -/
theorem rd_words (tab : Tab (F := F) c) (off : Fin 2 → Nat) (h) (r : Fin 5) (i : Fin 80) (ho : off = ![r.val, i.val]) :
    rd c off h tab = words c tab r i := by subst ho; rfl

/-- The copies under way after point `k`: none after the last run's last column block. -/
def moving (tab : Tab (F := F) c) (wg : WG (F := F) c) (wu : WU (F := F) c) (k : Nat) : sProp 𝕄 :=
  if words c tab 4 (row k) = 1#32 ∧ (col k).val = 2 then resting c wg wu
  else flying c wg wu (nextOf (words c tab) (row k)) (colNext (words c tab) k)

/-- What the body finds at point `n`: at first nothing loaded and no copy under way; later the slabs of the point before,
    and the copies under way after it. -/
def core (tab : Tab (F := F) c) (wg : WG (F := F) c) (wu : WU (F := F) c) : Nat → sProp 𝕄
  | 0 => iprop(resting c wg wu ∗ (∃ wb, (Memref.whole cc0_scratch1).view.loc (c : Thread nD τ) ↦{fullShare} wb))
  | k + 1 => iprop(moving c tab wg wu k ∗ loaded c wg wu (expertOf (words c tab) (row k)) (col k))

/-- The tile's result at point `t`. -/
def tileAt (tab : Tab (F := F) c) (wg : WG (F := F) c) (wu : WU (F := F) c) (t : Fin 240) (x : Vec F S256x4096 .bf16) : Vec F S256x512 .bf16 :=
  tileOut (words c tab 1 (row t.val)) x (slabG c wg (expertOf (words c tab) (row t.val)) (col t.val)) (slabU c wu (expertOf (words c tab) (row t.val)) (col t.val))

/-- The column block of the next copies, while there are any. -/
theorem colNext_val (w : Fin 5 → Fin 80 → BitVec 32) (k : Nat) (hk : k < 240) (hd : ¬ (w 4 (row k) = 1#32 ∧ (col k).val = 2)) :
    (colNext w k).val = if w 4 (row k) = 1#32 then (col k).val + 1 else (col k).val := by
  unfold colNext
  by_cases h : w 4 (row k) = 1#32
  · rw [if_pos h, if_pos h]
    have h2 : ¬ k / 80 % 3 = 2 := fun h2 => hd ⟨h, h2⟩
    show (k + 80) / 80 % 3 = k / 80 % 3 + 1
    omega
  · rw [if_neg h, if_neg h]

section
variable (tab : Tab (F := F) c) (hw : Runs (words c tab)) (t : Fin 240)
include hw

/-- The offset of the blocks the next copies read. -/
theorem off7_at (hd : ¬ (words c tab 4 (row t.val) = 1#32 ∧ (col t.val).val = 2)) :
    k0_off7 (grid0.coords t) (words c tab 4 (row t.val)) (words c tab 3 (row t.val))
      = offs (nextOf (words c tab) (row t.val)) (colNext (words c tab) t.val) := by
  rw [off7_eq, coords_col]
  unfold offs
  rw [colNext_val _ _ t.isLt hd, nextOf_val hw]

/-- The offset of the blocks the copies that land read. -/
theorem off4_at : k0_off4 (grid0.coords t) (words c tab 0 (row t.val)) = offs (expertOf (words c tab) (row t.val)) (col t.val) := by
  rw [off4_eq, coords_col]
  unfold offs
  rw [expertOf_val hw]
end

/-- One point: the body runs from what it finds at point `t` to what the next point finds, and leaves the tile's result. -/
theorem step (tab : Tab (F := F) c) (hw : Runs (words c tab)) (wg : WG (F := F) c) (wu : WU (F := F) c) (t : Fin 240)
    (A3 : Memref sig .tc .vmem S256x4096 .bf16) (w3 : A3.IsWhole) (A6 : Memref sig .tc .vmem S256x512 .bf16) (w6 : A6.IsWhole)
    (x : Vec F S256x4096 .bf16) (K : PUnit → sProp 𝕄) :
    iprop(tabP c tab ∗ core c tab wg wu t.val
        ∗ owns (c : Thread nD τ) A3 fullShare x ∗ (∃ d, owns (c : Thread nD τ) A6 fullShare d) ∗ (∃ W, owes (c : Thread nD τ) 0 W)
        ∗ (iprop(tabP c tab ∗ core c tab wg wu (t.val + 1)
            ∗ owns (c : Thread nD τ) A3 fullShare x
            ∗ owns (c : Thread nD τ) A6 fullShare (tileAt c tab wg wu t x)
            ∗ (∃ W, owes (c : Thread nD τ) 0 W)) -∗ K ⟨⟩))
      ⊢ wp frame (wpE (defs₀ (F := F)) Variants.none c none) Set.univ (bodyAt (F := F) (grid0.coords t) A3 w3 A6 w6) K := by
  have r2 : rd c (k0_off2 (grid0.coords t)) (k0_off2_inb _) tab = words c tab 2 (row t.val) := rd_words c tab _ _ _ _ (by rw [k0_off2_eq, coords_row]; rfl)
  have r3 : rd c (k0_off3 (grid0.coords t)) (k0_off3_inb _) tab = words c tab 0 (row t.val) := rd_words c tab _ _ _ _ (by rw [k0_off3_eq, coords_row]; rfl)
  have r5 : rd c (k0_off5 (grid0.coords t)) (k0_off5_inb _) tab = words c tab 4 (row t.val) := rd_words c tab _ _ _ _ (by rw [k0_off5_eq, coords_row]; rfl)
  have r6 : rd c (k0_off6 (grid0.coords t)) (k0_off6_inb _) tab = words c tab 3 (row t.val) := rd_words c tab _ _ _ _ (by rw [k0_off6_eq, coords_row]; rfl)
  have r8 : rd c (k0_off8 (grid0.coords t)) (k0_off8_inb _) tab = words c tab 1 (row t.val) := rd_words c tab _ _ _ _ (by rw [k0_off8_eq, coords_row]; rfl)
  have hi : (grid0.coords t 0).val = (col t.val).val := coords_col t
  have hc2 : k0_chk2 (grid0.coords t) (rd c (k0_off2 (grid0.coords t)) (k0_off2_inb _) tab) (rd c (k0_off3 (grid0.coords t)) (k0_off3_inb _) tab) := by
    rw [r3]
    intro _
    rw [off4_at c tab hw t]
    exact offs_inb _ _
  unfold tileAt
  rw [← r8]
  by_cases h2 : words c tab 2 (row t.val) = 1#32
  · have h2' : k0_cond2 (rd c (k0_off2 (grid0.coords t)) (k0_off2_inb _) tab) = 1#1 := by rw [r2]; exact (cond2_iff _).2 h2
    by_cases hd : words c tab 4 (row t.val) = 1#32 ∧ (col t.val).val = 2
    · have h3' : ¬ k0_cond3 (grid0.coords t) (rd c (k0_off5 (grid0.coords t)) (k0_off5_inb _) tab) = 1#1 := by
        rw [r5, cond3_iff, hi]; exact fun h => h hd
      obtain ⟨_ | k, hk⟩ := t
      · exact absurd hd.2 (by decide : ¬ (col 0).val = 2)
      have h1 : ¬ k0_cond1 (grid0.coords ⟨k + 1, hk⟩) = 1#1 := fun h => by cases (cond1_iff _).1 h
      obtain ⟨hd0, hn, hcn⟩ := arrive hw k hk h2
      unfold done at hd0
      dsimp only [core]
      unfold moving
      rw [if_neg hd0, if_pos hd, hn, hcn]
      refine BIBase.Entails.trans ?_ (run_first_stop c (grid0.coords ⟨k + 1, hk⟩) tab wg wu (expertOf (words c tab) (row (k + 1))) (col (k + 1)) h1 h2' hc2 h3' A3 w3 A6 w6 x K)
      unfold loaded
      iintro ⟨HT, ⟨HF, ⟨%wb, %_, HB⟩⟩, H3, H6, HO, HK⟩
      isplitl [HT]; · iexact HT
      isplitl [HF]; · iexact HF
      isplitl [HB]; · iexists wb; iexact HB
      isplitl [H3]; · iexact H3
      isplitl [H6]; · iexact H6
      isplitl [HO]; · iexact HO
      iintro ⟨HT, HR, HL, H3, H6, HO⟩
      iapply HK
      isplitl [HT]; · iexact HT
      isplitl [HR HL]; · isplitl [HR]; · iexact HR
                         iexact HL
      isplitl [H3]; · iexact H3
      isplitl [H6]; · iexact H6
      iexact HO
    · have h3' : k0_cond3 (grid0.coords t) (rd c (k0_off5 (grid0.coords t)) (k0_off5_inb _) tab) = 1#1 := by
        rw [r5, cond3_iff, hi]; exact hd
      have h7 : k0_off7 (grid0.coords t) (rd c (k0_off5 (grid0.coords t)) (k0_off5_inb _) tab) (rd c (k0_off6 (grid0.coords t)) (k0_off6_inb _) tab)
          = offs (nextOf (words c tab) (row t.val)) (colNext (words c tab) t.val) := by rw [r5, r6]; exact off7_at c tab hw t hd
      have hb : ∀ a, k0_off7 (grid0.coords t) (rd c (k0_off5 (grid0.coords t)) (k0_off5_inb _) tab) (rd c (k0_off6 (grid0.coords t)) (k0_off6_inb _) tab) a
          + S1x1x4096x512.size a ≤ S2x16x4096x1536.size a := by rw [h7]; exact offs_inb _ _
      have hc4 : k0_chk4 (grid0.coords t) (rd c (k0_off2 (grid0.coords t)) (k0_off2_inb _) tab) (rd c (k0_off5 (grid0.coords t)) (k0_off5_inb _) tab)
          (rd c (k0_off6 (grid0.coords t)) (k0_off6_inb _) tab) := fun _ _ => hb
      have ho : flyingAt c wg wu (k0_off7 (grid0.coords t) (rd c (k0_off5 (grid0.coords t)) (k0_off5_inb _) tab) (rd c (k0_off6 (grid0.coords t)) (k0_off6_inb _) tab)) hb
          ⊢ moving c tab wg wu t.val := by
        unfold moving
        rw [if_neg hd]
        exact flyingAt_eq c wg wu _ _ _ _ h7
      obtain ⟨_ | k, hk⟩ := t
      · have h1 : k0_cond1 (grid0.coords ⟨0, hk⟩) = 1#1 := (cond1_iff _).2 rfl
        have r1 : rd c ![0, 0] inb_S5x80_S1x1_0_0 tab = words c tab 0 (row 0) := rd_words c tab _ _ _ _ rfl
        have ho1 : k0_off1 (rd c ![0, 0] inb_S5x80_S1x1_0_0 tab) = offs (expertOf (words c tab) (row 0)) (col 0) := by
          rw [r1, off1_eq]; unfold offs; rw [expertOf_val hw]; rfl
        have hc1 : k0_chk1 (grid0.coords ⟨0, hk⟩) (rd c ![0, 0] inb_S5x80_S1x1_0_0 tab) := fun _ => by
          rw [ho1]; exact offs_inb _ _
        refine BIBase.Entails.trans ?_ (run_start c (grid0.coords ⟨0, hk⟩) tab wg wu (expertOf (words c tab) (row 0)) (col 0) h1 hc1 ho1 h2' hc2 h3' hc4
          (moving c tab wg wu 0) hb ho A3 w3 A6 w6 x K)
        dsimp only [core]
        iintro ⟨HT, ⟨HF, HB⟩, H3, H6, HO, HK⟩
        isplitl [HT]; · iexact HT
        isplitl [HF]; · iexact HF
        isplitl [HB]; · iexact HB
        isplitl [H3]; · iexact H3
        isplitl [H6]; · iexact H6
        isplitl [HO]; · iexact HO
        iintro ⟨HT, HR, HL, H3, H6, HO⟩
        iapply HK
        isplitl [HT]; · iexact HT
        isplitl [HR HL]; · isplitl [HR]; · iexact HR
                           iexact HL
        isplitl [H3]; · iexact H3
        isplitl [H6]; · iexact H6
        iexact HO
      · have h1 : ¬ k0_cond1 (grid0.coords ⟨k + 1, hk⟩) = 1#1 := fun h => by cases (cond1_iff _).1 h
        obtain ⟨hd0, hn, hcn⟩ := arrive hw k hk h2
        unfold done at hd0
        refine BIBase.Entails.trans ?_ (run_first_go c (grid0.coords ⟨k + 1, hk⟩) tab wg wu (expertOf (words c tab) (row (k + 1))) (col (k + 1)) h1 h2' hc2 h3' hc4
          (moving c tab wg wu (k + 1)) hb ho A3 w3 A6 w6 x K)
        dsimp only [core]
        rw [show (moving c tab wg wu k : sProp 𝕄) = flying c wg wu (expertOf (words c tab) (row (k + 1))) (col (k + 1)) by
          unfold moving; rw [if_neg hd0, hn, hcn]]
        generalize (moving c tab wg wu (k + 1) : sProp 𝕄) = M
        rw [show (loaded c wg wu (expertOf (words c tab) (row k)) (col k) : sProp 𝕄) = iprop(∃ wb, ⌜View.readAt (Elt F) (Memref.whole cc0_scratch1).view half0.toLoadRect wb = slabG c wg (expertOf (words c tab) (row k)) (col k)
            ∧ View.readAt (Elt F) (Memref.whole cc0_scratch1).view half1.toLoadRect wb = slabU c wu (expertOf (words c tab) (row k)) (col k)⌝
          ∗ ((Memref.whole cc0_scratch1).view.loc (c : Thread nD τ) ↦{fullShare} wb)) from rfl]
        iintro ⟨HT, ⟨HF, ⟨%wb, %_, HB⟩⟩, H3, H6, HO, HK⟩
        isplitl [HT]; · iexact HT
        isplitl [HF]; · iexact HF
        isplitl [HB]; · iexists wb; iexact HB
        isplitl [H3]; · iexact H3
        isplitl [H6]; · iexact H6
        isplitl [HO]; · iexact HO
        iintro ⟨HT, HR, HL, H3, H6, HO⟩
        iapply HK
        isplitl [HT]; · iexact HT
        isplitl [HR HL]; · isplitl [HR]; · iexact HR
                           iexact HL
        isplitl [H3]; · iexact H3
        isplitl [H6]; · iexact H6
        iexact HO
  · have h2' : ¬ k0_cond2 (rd c (k0_off2 (grid0.coords t)) (k0_off2_inb _) tab) = 1#1 := by rw [r2, cond2_iff]; exact h2
    obtain ⟨_ | k, hk⟩ := t
    · exact absurd hw.start h2
    have h1 : ¬ k0_cond1 (grid0.coords ⟨k + 1, hk⟩) = 1#1 := fun h => by cases (cond1_iff _).1 h
    obtain ⟨he, hcol, hdd, hn, hcn⟩ := stay hw k h2
    have hM : (moving c tab wg wu (k + 1) : sProp 𝕄) = moving c tab wg wu k := by
      unfold moving; rw [hn, hcn]; exact if_congr hdd rfl rfl
    refine BIBase.Entails.trans ?_ (run_again c (grid0.coords ⟨k + 1, hk⟩) tab wg wu (expertOf (words c tab) (row (k + 1))) (col (k + 1)) h1 h2'
      (moving c tab wg wu k) A3 w3 A6 w6 x K)
    dsimp only [core]
    rw [hM, he, hcol]
    iintro ⟨HT, ⟨HF, HB⟩, H3, H6, HO, HK⟩
    isplitl [HT]; · iexact HT
    isplitl [HF]; · iexact HF
    isplitl [HB]; · iexact HB
    isplitl [H3]; · iexact H3
    isplitl [H6]; · iexact H6
    isplitl [HO]; · iexact HO
    iintro ⟨HT, HR, HL, H3, H6, HO⟩
    iapply HK
    isplitl [HT]; · iexact HT
    isplitl [HR HL]; · isplitl [HR]; · iexact HR
                       iexact HL
    isplitl [H3]; · iexact H3
    isplitl [H6]; · iexact H6
    iexact HO

end Cert.Proof.Up1

end
-- ==== Proof.Up1Frame.lean ====
module

public import proofs.«01_k».proof.Proof.Up1Step
public import proofs.«01_k».proof.Defs

@[expose] public section

set_option maxRecDepth 16384

noncomputable section

namespace Cert.Proof.Up1

open Cert.KernelUp1Ideal Cert.KernelUp1Ideal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays as launched: no host operation stands before the call. -/
abbrev V (c : Dev nD) (b : Ref sig .tc) : Buf (Elt F) ((c : Thread nD τ).loc b) := m ((c : Thread nD τ).loc b)

/-- The table's contents as the call's side condition takes them. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl
abbrev adm : (pcfg0 (F := F)).Adm := ⟨tbl m, trivial⟩
abbrev cfgM := cfg0 (F := F) (adm m)

/-- The table, the gate weights and the up weights on a device. -/
abbrev tabM (c : Dev nD) : Tab (F := F) c := m ((c : Thread nD τ).loc main_arg0)
abbrev wgM (c : Dev nD) : WG (F := F) c := m ((c : Thread nD τ).loc main_arg2)
abbrev wuM (c : Dev nD) : WU (F := F) c := m ((c : Thread nD τ).loc main_arg3)

/-- A window's block at a point, read off its array as launched. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The state between points: the table, the generator register, and what the body finds at the point. -/
def stateAt (c : Dev nD) (n : Nat) (_ : n ≤ (cfgM m).N) : sProp 𝕄 :=
  iprop(tabP c (tabM m c) ∗ (∃ r, prngReg (c : Thread nD τ).1 r) ∗ core c (tabM m c) (wgM m c) (wuM m c) n)

/-- The proof data: arrays as launched; after the body the rows' block in place and the tile's result stored. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => tileAt c (tabM m c) (wgM m c) (wuM m c) t (iblk m c 0 t)
  Φ j := stateAt m c j.val (Nat.le_of_lt_succ j.isLt)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; rfl
theorem after0_1 (c : Dev nD) (t : Fin (cfgM m).N) :
    (dats m 0 c).after 1 t = tileAt c (tabM m c) (wgM m c) (wuM m c) t (iblk m c 0 t) := by dsimp only [dats]; rfl

/-- The rows' staging buffer holds its block at every point. -/
theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The staging buffers of a point. -/
abbrev st0_0 (t : Fin (cfgM m).N) : Memref sig .tc .vmem S256x4096 .bf16 := spec0_0.stage ((cfgM m).slots t 0)
abbrev st0_1 (t : Fin (cfgM m).N) : Memref sig .tc .vmem S256x512 .bf16 := spec0_1.stage ((cfgM m).slots t 1)

/-- The body as a point calls it. -/
abbrev bodyAt0 (t : Fin (cfgM m).N) : Prog (TpuEff nD τ sig (Elt F) Λ₀ .tc) PUnit :=
  bodyAt (F := F) (grid0.coords t) (st0_0 m t) (hstage0_0 (((cfgM m).slots t 0).cast nbuf0_0)) (st0_1 m t) (hstage0_1 (((cfgM m).slots t 1).cast nbuf0_1))

/-- What the body is called with at a point, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d)))
def bodyPost (c : Dev nD) (t : Fin (cfgM m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t))

theorem Phi_before (c : Dev nD) (t : Fin (cfgM m).N) :
    (dats m 0 c).Φ t.castSucc = stateAt m c t.val (Nat.le_of_lt t.isLt) := by
  dsimp only [dats]; exact Pipeline.Dat.Φ_castSucc (stateAt m c) t
theorem Phi_after (c : Dev nD) (t : Fin (cfgM m).N) :
    (dats m 0 c).Φ t.succ = stateAt m c (t.val + 1) t.isLt := by
  dsimp only [dats]; rfl

set_option maxHeartbeats 800000 in
/-- The body at any point. -/
theorem sound_body (c : Dev nD) (hw : Runs (words c (tabM m c))) (t : Fin (cfgM m).N) :
    bodyPre m c t ⊢ wp frame (wpE (defs₀ (F := F)) Variants.none c none) Set.univ (bodyAt0 m t) (fun _ => bodyPost m c t) := by
  unfold bodyPre bodyPost bodyAt0
  simp only [before0_0]
  rw [Phi_before, Phi_after, after0_0, after0_1]
  unfold stateAt Dat.owesAt
  iintro ⟨⟨HT, HP, HC⟩, ⟨%W, %_, HO⟩, ⟨%d0, H0⟩, ⟨%d1, H1⟩⟩
  iapply (step c (tabM m c) hw (wgM m c) (wuM m c) t _ _ _ _ (iblk m c 0 t) _)
  isplitl [HT]; · iexact HT
  isplitl [HC]; · iexact HC
  isplitl [H0]; · iexact H0
  isplitl [H1]; · iexists _; iexact H1
  isplitl [HO]; · iexists _; iexact HO
  iintro ⟨HT, HC, H0, H1, ⟨%W', HO⟩⟩
  isplitl [HT HP HC]
  · isplitl [HT]; · iexact HT
    isplitl [HP]; · iexact HP
    iexact HC
  isplitl [HO]
  · iexists W'
    isplitr
    · ipureintro; exact fun _ _ => Or.inl trivial
    iexact HO
  isplitl [H0]; · iexact H0
  iexact H1

/-- The body table's row at a point's slots is the body. -/
theorem defs₀_row (t : Fin (cfgM m).N) :
    defs₀ (F := F) .tc (cfgM m).body ((cfgM m).bodyArgs t ((cfgM m).slots t)) = bodyAt0 m t := by
  unfold defs₀; rw [Defs.onTc_tc]

/-- A tile is either a real one or not, so the body stores its output block at every point. -/
theorem idle_1 (t : Fin (cfgM m).N) : (cfgM m).idle 1 ((cfgM m).grid.coords t) = false := by
  show idle0 (adm m).1 1 (grid0.coords t) = false
  show (!(k0_cond4 ((adm m).1.atD 0 (k0_off8 (grid0.coords t))) == 1#1) && !(k0_cond5 ((adm m).1.atD 0 (k0_off8 (grid0.coords t))) == 1#1)) = false
  rcases cond45 ((adm m).1.atD 0 (k0_off8 (grid0.coords t))) with ⟨h, _⟩ | ⟨_, h⟩
  · rw [h]; rfl
  · rw [h, Bool.and_comm]; rfl

/-- What the obligation asks of the output's buffer, by whether the point leaves it unwritten. -/
def outBack (c : Dev nD) (t : Fin (cfgM m).N) (b : Bool) : sProp 𝕄 :=
  match b with
  | true =>
    match ((cfgM m).win 1).flush t with
    | false => iprop(∃ d, owns (c : Thread nD τ) (st0_1 m t) fullShare ((dats m 0 c).before 1 t d))
    | true => owns (c : Thread nD τ) (st0_1 m t) fullShare ((dats m 0 c).after 1 t)
  | false => owns (c : Thread nD τ) (st0_1 m t) fullShare ((dats m 0 c).after 1 t)

/-- The pipeline's obligation on the body, at every point. -/
theorem body_obligation (c : Dev nD) (hw : Runs (words c (tabM m c))) :
    BodyObligation (dats m 0 c) (defs₀ (F := F)) Variants.none () Set.univ := fun t => by
  rw [bigSep_W0, bigSep_W0, defs₀_row]
  refine triple_restated (sound_body m c hw t) rfl .rfl fun _ => ?_
  show bodyPost m c t ⊢ iprop((dats m 0 c).Φ t.succ ∗ (dats m 0 c).owesAt () t.succ
    ∗ owns (c : Thread nD τ) (st0_0 m t) fullShare ((dats m 0 c).after 0 t) ∗ outBack m c t ((cfgM m).idle 1 ((cfgM m).grid.coords t)))
  rw [idle_1]
  exact .rfl

/-! ## The landing buffer as its two halves -/

theorem slot0_set : slot0.view.set = half0.set := (View.set_reshape _ _).trans (View.set_slice_whole _ _)
theorem slot1_set : slot1.view.set = half1.set := (View.set_reshape _ _).trans (View.set_slice_whole _ _)
theorem halves_disjoint : Disjoint half0.set half1.set := Rect.unit_disjoint 0 (Or.inl (show 0 + 1 ≤ 1 by omega))
theorem halves_cover : half0.set ∪ half1.set = Finset.univ := by
  ext i
  simp only [Finset.mem_union, Finset.mem_univ, iff_true]
  have h0 : (i 0).val < 2 := (i 0).isLt
  have h1 : (i 1).val < 4096 := (i 1).isLt
  have h2 : (i 2).val < 512 := (i 2).isLt
  rcases Nat.lt_or_ge (i 0).val 1 with h | h
  · left
    refine (Rect.mem_set_unit).2 fun a => ?_
    match a with
    | 0 => exact ⟨Nat.zero_le _, show (i 0).val < 0 + 1 by omega⟩
    | 1 => exact ⟨Nat.zero_le _, show (i 1).val < 0 + 4096 by omega⟩
    | 2 => exact ⟨Nat.zero_le _, show (i 2).val < 0 + 512 by omega⟩
  · right
    refine (Rect.mem_set_unit).2 fun a => ?_
    match a with
    | 0 => exact ⟨h, show (i 0).val < 1 + 1 by omega⟩
    | 1 => exact ⟨Nat.zero_le _, show (i 1).val < 0 + 4096 by omega⟩
    | 2 => exact ⟨Nat.zero_le _, show (i 2).val < 0 + 512 by omega⟩

theorem halve (c : Dev nD) (f : Buf (Elt F) ((c : Thread nD τ).loc cc0_scratch0)) :
    (((c : Thread nD τ).loc cc0_scratch0 ↦{fullShare} f : sProp 𝕄))
      ⊢ iprop((slot0.view.loc (c : Thread nD τ) ↦[slot0.view.set]{fullShare} f) ∗ (slot1.view.loc (c : Thread nD τ) ↦[slot1.view.set]{fullShare} f)) := by
  rw [slot0_set, slot1_set]
  rw [← halves_cover]
  exact (pointsTo_union halves_disjoint).1
theorem unhalve (c : Dev nD) (f g : Buf (Elt F) ((c : Thread nD τ).loc cc0_scratch0)) :
    iprop((slot0.view.loc (c : Thread nD τ) ↦[slot0.view.set]{fullShare} f) ∗ (slot1.view.loc (c : Thread nD τ) ↦[slot1.view.set]{fullShare} g))
      ⊢ (iprop(∃ f : Buf (Elt F) ((c : Thread nD τ).loc cc0_scratch0), (c : Thread nD τ).loc cc0_scratch0 ↦{fullShare} f) : sProp 𝕄) := by
  rw [slot0_set, slot1_set]
  refine (pointsTo_join halves_disjoint).trans ?_
  rw [halves_cover]
  iintro H
  iexists _
  iexact H

/-! ## What the call hands the body at first and takes back at the end -/

/-- The body's own semaphores. -/
abbrev osem0 : Fin 2 → SemLoc sig := fun | 0 => .dma sem0 | 1 => .dma sem1
theorem own0 : Pipeline.OwnSemFacts spec0 osem0 := by decide
/-- The arrays the body copies from itself. -/
abbrev H0 : Finset (Ref sig .tc) := {main_arg2, main_arg3}
theorem H0_sub : H0 ⊆ Pipeline.restRefsP sig pre0 spec0 := by decide

theorem tableHalf_eq (c : Dev nD) : (Pipeline.ΦT pre0 (tbl m) c : sProp 𝕄) = ((c : Thread nD τ).loc main_arg0 ↦{fullShare.right} tbl m 0) := by
  unfold Pipeline.ΦT Pipeline.prefHeld
  rw [show (Finset.univ : Finset (Fin 1)) = {(0 : Fin 1)} from by decide, bigSep_singleton]; rfl
theorem ownSems_eq (c : Dev nD) : (Pipeline.ownSems0 osem0 c : sProp 𝕄)
    = iprop(semVal ((c : Thread nD τ), SemLoc.dma sem0) 0 ∗ semVal ((c : Thread nD τ), SemLoc.dma sem1) 0) :=
  bigSep_univ_eq_bigSepL [(0 : Fin 2), (1 : Fin 2)] (by decide) (by decide) _
theorem lent_eq (c : Dev nD) : (bigSep H0 fun b => (((c : Thread nD τ).loc b) ↦{fullShare} V m c b) : sProp 𝕄)
    = iprop(((c : Thread nD τ).loc main_arg2 ↦{fullShare} wgM m c) ∗ ((c : Thread nD τ).loc main_arg3 ↦{fullShare} wuM m c)) := by
  exact bigSep_eq_bigSepL_of_eq [main_arg2, main_arg3] (by decide) (by decide) _

theorem lent_in (c : Dev nD) :
    iprop(Pipeline.ΦD osem0 spec0 H0 (V m) c ∗ Pipeline.ΦT pre0 (tbl m) c) ⊢ (dats m 0 c).Φ 0 := by
  rw [tableHalf_eq, Pipeline.ΦD_eq, scopedRest0_eq, ownSems_eq, lent_eq]
  obtain rfl : c = 0 := Subsingleton.elim _ _
  show _ ⊢ stateAt m 0 0 (Nat.zero_le _)
  unfold stateAt core resting
  iintro ⟨⟨⟨⟨%f, HF⟩, ⟨%b, HB⟩⟩, HP, ⟨HS0, HS1⟩, HG, HU⟩, HT⟩
  ihave ⟨HF0, HF1⟩ := (halve 0 f) $$ HF
  isplitl [HT]; · iexact HT
  isplitl [HP]; · iexact HP
  isplitr [HB]; swap
  · iexists _; iexact HB
  isplitl [HF0]; · iexists _; iexact HF0
  isplitl [HF1]; · iexists _; iexact HF1
  isplitl [HG]; · iexact HG
  isplitl [HU]; · iexact HU
  isplitl [HS0]; · iexact HS0
  iexact HS1

theorem lent_out (c : Dev nD) (hw : Runs (words c (tabM m c))) :
    (dats m 0 c).Φ (Fin.last (cfgM m).N) ⊢ Pipeline.ΦD osem0 spec0 H0 (V m) c := by
  rw [Pipeline.ΦD_eq, scopedRest0_eq, ownSems_eq, lent_eq]
  have hN : (cfgM m).N = 239 + 1 := N_0
  show stateAt m c (cfgM m).N (Nat.le_refl _) ⊢ _
  unfold stateAt
  rw [hN]
  unfold core moving
  dsimp only
  rw [if_pos ⟨hw.last, by decide⟩]
  unfold resting loaded
  iintro ⟨-, HP, ⟨⟨%f, HF0⟩, ⟨%g, HF1⟩, HG, HU, HS0, HS1⟩, ⟨%b, -, HB⟩⟩
  isplitl [HF0 HF1 HB]
  · isplitl [HF0 HF1]
    · iapply (unhalve c f g)
      isplitl [HF0]; · iexact HF0
      iexact HF1
    iexists _; iexact HB
  isplitl [HP]; · iexact HP
  isplitl [HS0 HS1]
  · isplitl [HS0]; · iexact HS0
    iexact HS1
  isplitl [HG]; · iexact HG
  iexact HU

/-! ## The call -/

set_option maxHeartbeats 800000 in
set_option backward.isDefEq.respectTransparency.types false in
/-- The program runs to its end, its arrays as the points leave them and every semaphore back at zero. -/
theorem run_of (hw : ∀ c : Dev nD, Runs (words c (tabM m c))) :
    θ_run defs (onTc main) ⟨m, fun _ => 0, ρ⟩ fun r =>
      Pipeline.FramePost (Pipeline.pin (pcfgs (F := F)) (fun _ => adm m)) (dats m) (0 : Fin 1) (V m) r ∧ r.2.sem = fun _ => 0 :=
  Pipeline.θ_run_frameP_dma (Q' := _) pcfgs (fun _ => adm m) (dats m) (0 : Fin 1) launch0 osem0 defs₀ Variants.none own0 H0 H0_sub m ρ main
    (hbody := fun c => (body_obligation m c (hw c)).loose)
    (hshare := fun c => (dats m 0 c).share_full fun _ => rfl)
    (howed := fun _ _ => rfl)
    (V := V m)
    (hmain := Pipeline.hmainP_region pcfgs 0 defs₀ Variants.none m main fun c => (main_chain c).trans rfl)
    (hA := A_eq m)
    (hpf := V_pre m)
    (hin := lent_in m)
    (hout := fun c => lent_out m c (hw c))

/-- A word as the body reads it is the table's element. -/
theorem words_word (c : Dev nD) (tab : Tab (F := F) c) : words c tab = word tab := by
  funext r i
  refine congrArg tab (funext fun a => Fin.ext ?_)
  match a with
  | 0 => exact Nat.add_zero _
  | 1 => exact Nat.add_zero _

/-- What a run table's words are to the body. -/
theorem runs_words (c : Dev nD) (h : Runs (word (m ((c : Thread nD τ).loc main_arg0)))) : Runs (words c (tabM m c)) :=
  (words_word c (tabM m c)).symm ▸ h

theorem rest0 : main_arg0 ∈ Pipeline.restRefs sig spec0 := Pipeline.mem_restRefs_of main_arg0 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)

/-- At a run table the call leaves its arguments as they were and every semaphore at zero. -/
theorem frame_of (hw : ∀ c : Dev nD, Runs (word (m ((c : Thread nD τ).loc main_arg0)))) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun _ h => ⟨fun c =>
    ⟨(h.1 c).2 main_arg0 rest0,
     ((h.1 c).1 0).trans (((dats m 0 c).arrAt_in 0 rfl _).trans (A_eq m c 0)),
     (h.1 c).2 main_arg2 rest2,
     (h.1 c).2 main_arg3 rest3⟩, h.2⟩)
    (run_of m ρ fun c => runs_words m c (hw c))

/-- At a run table the call ends with its result array as the points leave it, its arguments as they were. -/
theorem result_of (hw : ∀ c : Dev nD, Runs (word (m ((c : Thread nD τ).loc main_arg0)))) :
    θ_run (defs (F := F)) (onTc (τ := τ) (main (F := F))) ⟨m, fun _ => 0, ρ⟩ fun r => ∀ c : Dev nD,
      r.2.mem ((c.tc : Thread nD τ).loc main_v0) = (dats m 0 c).arrAt 1 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c =>
    ⟨(h.1 c).1 1,
     (h.1 c).2 main_arg0 rest0,
     ((h.1 c).1 0).trans (((dats m 0 c).arrAt_in 0 rfl _).trans (A_eq m c 0)),
     (h.1 c).2 main_arg2 rest2,
     (h.1 c).2 main_arg3 rest3⟩)
    (run_of m ρ fun c => runs_words m c (hw c))

end Cert.Proof.Up1

end
-- ==== Proof.Up1Ref.lean ====
module

public import proofs.«01_k».proof.Proof.Gen.ReferenceUp1Ideal.Run
public import proofs.«01_k».proof.Proof.UpRef
public import Idealize.ShloMosaic.Lib.Pipeline.ValueKit
public import Idealize.ShloMosaic.Lib.Pointwise
public import Idealize.ShloMosaic.Lib.Quiescent

/-! # The second layer's reference's array, entry by entry

The reference adds, over the sixteen experts, the gated product of the rows with that expert's weights where the row
belongs to the expert. A row belongs to its tile's expert, or to none where its tile is not a real one, so the sum is the one
term of its expert, or zero. -/

@[expose] public section

set_option maxRecDepth 16384

noncomputable section

namespace Cert.Proof.Up1Ref

open Cert.ReferenceUp1Ideal Cert.ReferenceUp1Ideal.Gen Cert.ReferenceUp1Ideal.Value Cert.Proof.UpRuns
open Cert.Proof.UpRef (gated owner tileOf select_eq pick step_at zero_at round_at)
open Idealize.ShloMosaic Idealize.ShloMosaic.TcCoe Idealize.ShloMosaic.StableHlo Idealize.SL.Sem

/-- A row of the rows times a column of one expert's weights. -/
def prod (x : FVec Ideal S20480x4096 .bf16) (w : FVec Ideal S2x16x4096x1536 .f32) (e : Fin 16) (r : Fin 20480) (j : Fin 1536) : EReal :=
  ∑ k : Fin 4096, x (ix2 r k) * w (ix4 1 e k j)

/-- One product of the reference at an entry. -/
theorem prod_at (x : FVec Ideal S20480x4096 .bf16) (w : FVec Ideal S2x16x4096x1536 .f32) (e : Fin 16) (off : Fin 4 → Nat)
    (h : S2x16x4096x1536.Slices off S1x1x4096x1536) (ho : off = ![1, e.val, 0, 0]) (r : Fin 20480) (j : Fin 1536) :
    Host.dotGeneral dot_S20480x4096_S4096x1536_S20480x1536_1_0_0_1_n_n none (extf .f32 x bitsLt_bf16_f32)
      (shapeCast S4096x1536 (extractStridedSlice S1x1x4096x1536 off w h) shapeCasts_S1x1x4096x1536_S4096x1536) (ix2 r j) = prod x w e r j := by
  subst ho
  unfold prod
  pointwise

/-- The word of a row's expert as the reference spreads it. -/
theorem owner_at (V0 : Valuation τ sig (Elt Ideal)) (r : Fin 20480) :
    res_main_v10 V0 (ix2 r 0) = owner (V0 (Proc.devRef .tc main_arg0)) (tileOf r) := by
  unfold res_main_v10
  pointwise
  rw [select_eq]
  rfl

/-- One product of the reference at an entry, from its arguments. -/
theorem from_rows (V0 : Valuation τ sig (Elt Ideal)) (w : FVec Ideal S2x16x4096x1536 .f32) (e : Fin 16) (off : Fin 4 → Nat)
    (h : S2x16x4096x1536.Slices off S1x1x4096x1536) (ho : off = ![1, e.val, 0, 0]) (r : Fin 20480) (j : Fin 1536) :
    Host.dotGeneral (F := Ideal) (φ₁ := .f32) (φ₂ := .f32) dot_S20480x4096_S4096x1536_S20480x1536_1_0_0_1_n_n none (res_main_v0 V0 : FVec Ideal S20480x4096 .f32)
      (shapeCast S4096x1536 (extractStridedSlice S1x1x4096x1536 off w h) shapeCasts_S1x1x4096x1536_S4096x1536) (ix2 r j)
      = prod (V0 (Proc.devRef .tc main_arg1)) w e r j := prod_at _ w e off h ho r j

/-- An entry of the result: the gated product with the row's expert's weights, or zero. -/
def entry (tab : IVec S5x80 32) (x : FVec Ideal S20480x4096 .bf16) (g u : FVec Ideal S2x16x4096x1536 .f32) (r : Fin 20480) (j : Fin 1536) : EReal :=
  if h : (owner tab (tileOf r)).toNat < 16 then gated (prod x g ⟨_, h⟩ r j) (prod x u ⟨_, h⟩ r j) else 0

/-- The result array. -/
def array (tab : IVec S5x80 32) (x : FVec Ideal S20480x4096 .bf16) (g u : FVec Ideal S2x16x4096x1536 .f32) : FVec Ideal S20480x1536 .bf16 :=
  fun y => entry tab x g u (y 0) (y 1)

set_option maxHeartbeats 4000000 in
/-- The reference's composed term at an entry. -/
theorem term_entry (V0 : Valuation τ sig (Elt Ideal)) (r : Fin 20480) (j : Fin 1536) :
    (truncf .bf16 (addf (res_main_v281 V0) (select (broadcastInDim S20480x1536 ![0, 1] bcast_S20480x1_S20480x1536_0_1 (cmpi .eq (res_main_v10 V0) (broadcastInDim S20480x1 ![] bcast_S_S20480x1 (constantI S_ 32 15#32)))) (mulf (mulf (res_main_v284 V0) (Host.divf (broadcastInDim S20480x1536 ![] bcast_S_S20480x1536 (constant S_ .f32 0x3F800000#32)) (addf (broadcastInDim S20480x1536 ![] bcast_S_S20480x1536 (constant S_ .f32 0x3F800000#32)) (Host.exp (Host.negf (res_main_v284 V0)))))) (Host.dotGeneral (F := Ideal) (φ₁ := .f32) (φ₂ := .f32) dot_S20480x4096_S4096x1536_S20480x1536_1_0_0_1_n_n none (res_main_v0 V0) (shapeCast _ (extractStridedSlice S1x1x4096x1536 ![1, 15, 0, 0] (V0 (Proc.devRef .tc main_arg3) : FVec Ideal S2x16x4096x1536 .f32) slices_S2x16x4096x1536_S1x1x4096x1536_1_15_0_0) shapeCasts_S1x1x4096x1536_S4096x1536))) (broadcastInDim S20480x1536 ![] bcast_S_S20480x1536 (id (constant S_ .f32 0x00000000#32))))) bitsLt_bf16_f32 : FVec Ideal S20480x1536 .bf16) (ix2 r j)
    = entry (V0 (Proc.devRef .tc main_arg0)) (V0 (Proc.devRef .tc main_arg1)) (V0 (Proc.devRef .tc main_arg2)) (V0 (Proc.devRef .tc main_arg3)) r j := by
  have h1 := step_at _ _ _ _ 4#32 r j (step_at _ _ _ _ 3#32 r j (step_at _ _ _ _ 2#32 r j (step_at _ _ _ _ 1#32 r j (step_at _ _ _ _ 0#32 r j (zero_at r j)
      (from_rows V0 (V0 (Proc.devRef .tc main_arg2)) 0 ![1, 0, 0, 0] slices_S2x16x4096x1536_S1x1x4096x1536_1_0_0_0 rfl r j)
      (from_rows V0 (V0 (Proc.devRef .tc main_arg3)) 0 ![1, 0, 0, 0] slices_S2x16x4096x1536_S1x1x4096x1536_1_0_0_0 rfl r j) (owner_at V0 r))
      (from_rows V0 (V0 (Proc.devRef .tc main_arg2)) 1 ![1, 1, 0, 0] slices_S2x16x4096x1536_S1x1x4096x1536_1_1_0_0 rfl r j)
      (from_rows V0 (V0 (Proc.devRef .tc main_arg3)) 1 ![1, 1, 0, 0] slices_S2x16x4096x1536_S1x1x4096x1536_1_1_0_0 rfl r j) (owner_at V0 r))
      (from_rows V0 (V0 (Proc.devRef .tc main_arg2)) 2 ![1, 2, 0, 0] slices_S2x16x4096x1536_S1x1x4096x1536_1_2_0_0 rfl r j)
      (from_rows V0 (V0 (Proc.devRef .tc main_arg3)) 2 ![1, 2, 0, 0] slices_S2x16x4096x1536_S1x1x4096x1536_1_2_0_0 rfl r j) (owner_at V0 r))
      (from_rows V0 (V0 (Proc.devRef .tc main_arg2)) 3 ![1, 3, 0, 0] slices_S2x16x4096x1536_S1x1x4096x1536_1_3_0_0 rfl r j)
      (from_rows V0 (V0 (Proc.devRef .tc main_arg3)) 3 ![1, 3, 0, 0] slices_S2x16x4096x1536_S1x1x4096x1536_1_3_0_0 rfl r j) (owner_at V0 r))
      (from_rows V0 (V0 (Proc.devRef .tc main_arg2)) 4 ![1, 4, 0, 0] slices_S2x16x4096x1536_S1x1x4096x1536_1_4_0_0 rfl r j)
      (from_rows V0 (V0 (Proc.devRef .tc main_arg3)) 4 ![1, 4, 0, 0] slices_S2x16x4096x1536_S1x1x4096x1536_1_4_0_0 rfl r j) (owner_at V0 r)
  have h2 := step_at _ _ _ _ 9#32 r j (step_at _ _ _ _ 8#32 r j (step_at _ _ _ _ 7#32 r j (step_at _ _ _ _ 6#32 r j (step_at _ _ _ _ 5#32 r j ((show res_main_v101 V0 (ix2 r j) = _ from h1))
      (from_rows V0 (V0 (Proc.devRef .tc main_arg2)) 5 ![1, 5, 0, 0] slices_S2x16x4096x1536_S1x1x4096x1536_1_5_0_0 rfl r j)
      (from_rows V0 (V0 (Proc.devRef .tc main_arg3)) 5 ![1, 5, 0, 0] slices_S2x16x4096x1536_S1x1x4096x1536_1_5_0_0 rfl r j) (owner_at V0 r))
      (from_rows V0 (V0 (Proc.devRef .tc main_arg2)) 6 ![1, 6, 0, 0] slices_S2x16x4096x1536_S1x1x4096x1536_1_6_0_0 rfl r j)
      (from_rows V0 (V0 (Proc.devRef .tc main_arg3)) 6 ![1, 6, 0, 0] slices_S2x16x4096x1536_S1x1x4096x1536_1_6_0_0 rfl r j) (owner_at V0 r))
      (from_rows V0 (V0 (Proc.devRef .tc main_arg2)) 7 ![1, 7, 0, 0] slices_S2x16x4096x1536_S1x1x4096x1536_1_7_0_0 rfl r j)
      (from_rows V0 (V0 (Proc.devRef .tc main_arg3)) 7 ![1, 7, 0, 0] slices_S2x16x4096x1536_S1x1x4096x1536_1_7_0_0 rfl r j) (owner_at V0 r))
      (from_rows V0 (V0 (Proc.devRef .tc main_arg2)) 8 ![1, 8, 0, 0] slices_S2x16x4096x1536_S1x1x4096x1536_1_8_0_0 rfl r j)
      (from_rows V0 (V0 (Proc.devRef .tc main_arg3)) 8 ![1, 8, 0, 0] slices_S2x16x4096x1536_S1x1x4096x1536_1_8_0_0 rfl r j) (owner_at V0 r))
      (from_rows V0 (V0 (Proc.devRef .tc main_arg2)) 9 ![1, 9, 0, 0] slices_S2x16x4096x1536_S1x1x4096x1536_1_9_0_0 rfl r j)
      (from_rows V0 (V0 (Proc.devRef .tc main_arg3)) 9 ![1, 9, 0, 0] slices_S2x16x4096x1536_S1x1x4096x1536_1_9_0_0 rfl r j) (owner_at V0 r)
  have h3 := step_at _ _ _ _ 14#32 r j (step_at _ _ _ _ 13#32 r j (step_at _ _ _ _ 12#32 r j (step_at _ _ _ _ 11#32 r j (step_at _ _ _ _ 10#32 r j ((show res_main_v191 V0 (ix2 r j) = _ from h2))
      (from_rows V0 (V0 (Proc.devRef .tc main_arg2)) 10 ![1, 10, 0, 0] slices_S2x16x4096x1536_S1x1x4096x1536_1_10_0_0 rfl r j)
      (from_rows V0 (V0 (Proc.devRef .tc main_arg3)) 10 ![1, 10, 0, 0] slices_S2x16x4096x1536_S1x1x4096x1536_1_10_0_0 rfl r j) (owner_at V0 r))
      (from_rows V0 (V0 (Proc.devRef .tc main_arg2)) 11 ![1, 11, 0, 0] slices_S2x16x4096x1536_S1x1x4096x1536_1_11_0_0 rfl r j)
      (from_rows V0 (V0 (Proc.devRef .tc main_arg3)) 11 ![1, 11, 0, 0] slices_S2x16x4096x1536_S1x1x4096x1536_1_11_0_0 rfl r j) (owner_at V0 r))
      (from_rows V0 (V0 (Proc.devRef .tc main_arg2)) 12 ![1, 12, 0, 0] slices_S2x16x4096x1536_S1x1x4096x1536_1_12_0_0 rfl r j)
      (from_rows V0 (V0 (Proc.devRef .tc main_arg3)) 12 ![1, 12, 0, 0] slices_S2x16x4096x1536_S1x1x4096x1536_1_12_0_0 rfl r j) (owner_at V0 r))
      (from_rows V0 (V0 (Proc.devRef .tc main_arg2)) 13 ![1, 13, 0, 0] slices_S2x16x4096x1536_S1x1x4096x1536_1_13_0_0 rfl r j)
      (from_rows V0 (V0 (Proc.devRef .tc main_arg3)) 13 ![1, 13, 0, 0] slices_S2x16x4096x1536_S1x1x4096x1536_1_13_0_0 rfl r j) (owner_at V0 r))
      (from_rows V0 (V0 (Proc.devRef .tc main_arg2)) 14 ![1, 14, 0, 0] slices_S2x16x4096x1536_S1x1x4096x1536_1_14_0_0 rfl r j)
      (from_rows V0 (V0 (Proc.devRef .tc main_arg3)) 14 ![1, 14, 0, 0] slices_S2x16x4096x1536_S1x1x4096x1536_1_14_0_0 rfl r j) (owner_at V0 r)
  exact (round_at _ r j).trans ((step_at _ _ _ _ 15#32 r j ((show res_main_v281 V0 (ix2 r j) = _ from h3))
      (from_rows V0 (V0 (Proc.devRef .tc main_arg2)) 15 ![1, 15, 0, 0] slices_S2x16x4096x1536_S1x1x4096x1536_1_15_0_0 rfl r j)
      (from_rows V0 (V0 (Proc.devRef .tc main_arg3)) 15 ![1, 15, 0, 0] slices_S2x16x4096x1536_S1x1x4096x1536_1_15_0_0 rfl r j) (owner_at V0 r)).trans
    (pick _ fun e => gated (prod (V0 (Proc.devRef .tc main_arg1)) (V0 (Proc.devRef .tc main_arg2)) e r j)
      (prod (V0 (Proc.devRef .tc main_arg1)) (V0 (Proc.devRef .tc main_arg3)) e r j)))

/-- The reference ends with its result array at `array` of its arguments, its arguments as they were. -/
theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v300) = array (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (funext fun y => by
    obtain ⟨i, j, rfl⟩ : ∃ (i : Fin 20480) (j : Fin 1536), y = ix2 i j := ⟨y 0, y 1, eq_ix2 y⟩
    exact term_entry (launchContents m c) i j), (h c).2⟩)
    (Cert.ReferenceUp1Ideal.Value.run (F := Ideal) m ρ)

/-- The reference leaves its arguments as they were; it has no semaphore, so every counter ends at zero. -/
theorem kept (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => (h c).2, sem_eq_zero_of_no_sems (by decide) r.2⟩)
    (Cert.ReferenceUp1Ideal.Value.run (F := Ideal) m ρ)

end Cert.Proof.Up1Ref

end
-- ==== Proof.Up1Value.lean ====
module

public import proofs.«01_k».proof.Proof.Up1Frame
public import proofs.«01_k».proof.Proof.Up1Ref
public import Idealize.ShloMosaic.Lib.Pipeline.Covers
public import Idealize.ShloMosaic.Lib.WordCmp

/-! # The kernel's array, entry by entry

A point stores the block of its tile's rows and its column block; over the grid the blocks fill the array, and what a
point stores at an entry is the reference's entry there. -/

@[expose] public section

set_option maxRecDepth 16384

noncomputable section

namespace Cert.Proof.Up1

open Cert.KernelUp1Ideal Cert.KernelUp1Ideal.Gen Cert.Proof.UpRuns
open Idealize.ShloMosaic Idealize.ShloMosaic.TcCoe Idealize.SL.Sem
open Idealize.ShloMosaic.Pipeline (Dat)

variable (m : (ℓ : Loc nD τ sig) → Buf (Elt Ideal) ℓ)

/-- The row of the array a tile's row is, and the column a column block's column is. -/
def rowAt (t : Fin 240) (i : Fin 256) : Fin 20480 := ⟨(row t.val).val * 256 + i.val, by have := (row t.val).isLt; omega⟩
def colAt (t : Fin 240) (j : Fin 512) : Fin 1536 := ⟨(col t.val).val * 512 + j.val, by have := (col t.val).isLt; omega⟩

/-- The windows' block indices at every grid point. -/
theorem idx0 (t : Fin (cfgM m).N) : ((cfgM m).win 0).index t = ![(row t.val).val, 0] := by
  have h : ∀ t : Fin 240, cc0_transform_0 (grid0.coords t) = ![(row t.val).val, 0] := by decide +kernel
  exact h t
theorem idx1 (t : Fin (cfgM m).N) : ((cfgM m).win 1).index t = ![(row t.val).val, (col t.val).val] := by
  have h : ∀ t : Fin 240, cc0_transform_3 (grid0.coords t) = ![(row t.val).val, (col t.val).val] := by decide +kernel
  exact h t

/-- The rows' block holds the tile's rows. -/
theorem rows_at (c : Dev nD) (t : Fin (cfgM m).N) (i : Fin 256) (k : Fin 4096) :
    iblk m c 0 t (ix2 i k) = m ((c : Thread nD τ).loc main_arg1) (ix2 (rowAt t i) k) := by
  have he : (((cfgM m).win 0).blk t).view.emb (ix2 i k) = ix2 (rowAt t i) k := by blk_ext [idx0 m t, rowAt]
  exact congrArg (m ((c : Thread nD τ).loc main_arg1)) he

/-- A slab holds its expert's columns, rounded. -/
theorem src_emb (s : Fin 4 → Nat) (e : Fin 16) (t : Fin 240) (h : s = offs e (col t.val)) (inb : ∀ a, s a + S1x1x4096x512.size a ≤ S2x16x4096x1536.size a)
    (hn : S4096x512.numel = S1x1x4096x512.numel) (k : Fin 4096) (j : Fin 512) :
    (Rect.unit (s := S2x16x4096x1536) s S1x1x4096x512.size inb).emb (Shape.reshapeEquiv hn (ix2 k j)) = ix4 (1 : Fin 2) e k (colAt t j) := by
  subst h
  rw [show Shape.reshapeEquiv hn (ix2 k j) = ix4 (0 : Fin 1) (0 : Fin 1) k j from ValueIdx.reshapeEquiv_ix2_11ab hn k j]
  funext a
  refine Fin.ext ?_
  match a with
  | 0 => rfl
  | 1 => show e.val + 1 * 0 = e.val; omega
  | 2 => show 0 + 1 * k.val = k.val; omega
  | 3 => show 512 * (col t.val).val + 1 * j.val = (col t.val).val * 512 + j.val; omega
theorem slabG_at (c : Dev nD) (w : WG (F := Ideal) c) (e : Fin 16) (t : Fin 240) (k : Fin 4096) (j : Fin 512) :
    slabG c w e (col t.val) (ix3 0 k j) = w (ix4 1 e k (colAt t j)) := by
  unfold slabG slab
  pointwise
  exact congrArg w (src_emb _ e t rfl (offs_inb e _) _ k j)
theorem slabU_at (c : Dev nD) (w : WU (F := Ideal) c) (e : Fin 16) (t : Fin 240) (k : Fin 4096) (j : Fin 512) :
    slabU c w e (col t.val) (ix3 0 k j) = w (ix4 1 e k (colAt t j)) := by
  unfold slabU slab
  pointwise
  exact congrArg w (src_emb _ e t rfl (offs_inb e _) _ k j)

/-- What the body stores of a real tile, at an entry. -/
theorem stored (x : Vec Ideal S256x4096 .bf16) (g u : Vec Ideal S1x4096x512 .bf16) (i : Fin 256) (j : Fin 512) :
    k0_pay1 x g u (ix2 i j) = UpRef.gated (∑ k : Fin 4096, x (ix2 i k) * g (ix3 0 k j)) (∑ k : Fin 4096, x (ix2 i k) * u (ix3 0 k j)) := by
  pointwise [k0_pay1, UpRef.gated]
  rfl

/-- And of the others. -/
theorem stored_zero (i : Fin 256) (j : Fin 512) : (k0_pay2 (F := Ideal)) (ix2 i j) = (0 : EReal) := by
  pointwise [k0_pay2]

/-- The blocks fill the array. -/
theorem cover : ((cfgM m).win 1).Covers :=
  ((cfgM m).win 1).covers_of_indexMap_surj rfl (show ∀ a : Fin 2, 0 < S256x512.size a by decide) fun β => by
    have h0 : (β (show Fin 2 from 0)).val < 80 := lt_of_lt_of_eq (β (show Fin 2 from 0)).isLt (show (20480 + 256 - 1) / 256 = 80 by decide)
    have h1 : (β (show Fin 2 from 1)).val < 3 := lt_of_lt_of_eq (β (show Fin 2 from 1)).isLt (show (1536 + 512 - 1) / 512 = 3 by decide)
    generalize hb0 : (β (show Fin 2 from 0)).val = b0 at h0
    generalize hb1 : (β (show Fin 2 from 1)).val = b1 at h1
    refine ⟨grid0.coords ⟨80 * b1 + b0, show 80 * b1 + b0 < 240 by omega⟩, fun a => ?_⟩
    refine (congrFun (idx1 m ⟨80 * b1 + b0, show 80 * b1 + b0 < 240 by omega⟩) a).trans ?_
    match a with
    | ⟨0, _⟩ => exact Eq.trans (show (80 * b1 + b0) % 80 = b0 by omega) hb0.symm
    | ⟨1, _⟩ => exact Eq.trans (show (80 * b1 + b0) / 80 % 3 = b1 by omega) hb1.symm

/-- What a point stores at an entry is the reference's entry there. -/
theorem tile_entry (c : Dev nD) (hw : Runs (word (m ((c : Thread nD τ).loc main_arg0)))) (t : Fin (cfgM m).N) (i : Fin 256) (j : Fin 512) :
    tileAt c (tabM m c) (wgM m c) (wuM m c) t (iblk m c 0 t) (ix2 i j)
      = Up1Ref.entry (m ((c : Thread nD τ).loc main_arg0)) (m ((c : Thread nD τ).loc main_arg1)) (m ((c : Thread nD τ).loc main_arg2))
          (m ((c : Thread nD τ).loc main_arg3)) (rowAt t i) (colAt t j) := by
  have ht : UpRef.tileOf (rowAt t i) = row t.val := Fin.ext (by
    show ((row t.val).val * 256 + i.val) / 256 = (row t.val).val
    have := i.isLt
    omega)
  have hc : k0_cond4 (word (m ((c : Thread nD τ).loc main_arg0)) 1 (row t.val)) = 1#1
      ↔ word (m ((c : Thread nD τ).loc main_arg0)) 1 (row t.val) = 1#32 := by
    unfold k0_cond4
    word_cmp
    exact ⟨fun h => BitVec.eq_of_toNat_eq h, fun h => h ▸ rfl⟩
  unfold tileAt tileOut Up1Ref.entry
  rw [words_word]
  show (if k0_cond4 (word (m ((c : Thread nD τ).loc main_arg0)) 1 (row t.val)) = 1#1 then _ else _ : Vec Ideal S256x512 .bf16) (ix2 i j) = _
  unfold UpRef.owner
  rw [ht]
  by_cases h : word (m ((c : Thread nD τ).loc main_arg0)) 1 (row t.val) = 1#32
  · simp only [if_pos (hc.2 h), if_pos h, dif_pos (hw.expert (row t.val))]
    refine (stored _ _ _ i j).trans ?_
    have he : expertOf (word (m ((c : Thread nD τ).loc main_arg0))) (row t.val) = ⟨_, hw.expert (row t.val)⟩ := Fin.ext (expertOf_val hw _)
    unfold Up1Ref.prod
    rw [← he]
    congr 1 <;> refine Finset.sum_congr rfl fun k _ => ?_
    · exact congrArg₂ (· * ·) (rows_at m c t i k) (slabG_at c _ _ t k j)
    · exact congrArg₂ (· * ·) (rows_at m c t i k) (slabU_at c _ _ t k j)
  · simp only [if_neg (fun h' => h (hc.1 h')), if_neg h]
    rw [stored_zero]
    rfl

/-- The array at the end is the reference's. -/
theorem final (c : Dev nD) (hw : Runs (word (m ((c : Thread nD τ).loc main_arg0)))) :
    (dats m 0 c).arrAt 1 (cfgM m).N = Up1Ref.array (m ((c : Thread nD τ).loc main_arg0)) (m ((c : Thread nD τ).loc main_arg1))
      (m ((c : Thread nD τ).loc main_arg2)) (m ((c : Thread nD τ).loc main_arg3)) := by
  refine (dats m 0 c).arrAt_eq_of_covers 1 _ (cover m) fun t _ y => ?_
  rw [after0_1]
  have hy : ∀ y : S256x512.Idx, ∃ (i : Fin 256) (j : Fin 512), y = ix2 i j := fun y => ⟨y 0, y 1, by funext a; match a with | 0 => rfl | 1 => rfl⟩
  obtain ⟨i, j, rfl⟩ := hy y
  have he : (((cfgM m).win 1).blk t).view.emb (ix2 i j) = ix2 (rowAt t i) (colAt t j) := by blk_ext [idx1 m t, rowAt, colAt]
  exact (tile_entry m c hw t i j).trans (congrArg (Up1Ref.array (m ((c : Thread nD τ).loc main_arg0)) (m ((c : Thread nD τ).loc main_arg1))
      (m ((c : Thread nD τ).loc main_arg2)) (m ((c : Thread nD τ).loc main_arg3))) he).symm

end Cert.Proof.Up1

end
-- ==== Proof.Up1Same.lean ====
module

public import proofs.«01_k».proof.Proof.Up1Frame
public import proofs.«01_k».proof.Proof.Gen.KernelUp1.Launch

/-! # The kernel on words is the kernel on numbers

No operation was rewritten in the gate/up call, so its two programs are one, written twice; what `UpFrame` says at
every reading of the floats it says of both. -/

@[expose] public section

set_option maxRecDepth 16384

noncomputable section

namespace Cert.Proof.Up1Same

open Idealize.ShloMosaic Idealize.ShloMosaic.TcCoe Idealize.SL.Sem

/-- The two programs run the same bodies. -/
theorem bodies : Cert.KernelUp1.defs₀ (F := Bits) = Cert.KernelUp1Ideal.defs₀ (F := Bits) := by
  unfold Cert.KernelUp1.defs₀ Cert.KernelUp1Ideal.defs₀
  refine congrArg Defs.onTc ?_
  funext l x
  match l, x with
  | 0, (t, s) => rfl

/-- And so the same calls. -/
theorem calls : Cert.KernelUp1.defs (F := Bits) = Cert.KernelUp1Ideal.defs (F := Bits) :=
  congrArg (Pipeline.defs (Cert.KernelUp1.pcfgs (F := Bits))) bodies

section
open Cert.KernelUp1

/-- The kernel on words leaves its arguments as they were at a table of runs, and every semaphore at zero. -/
theorem frame_of (m : (ℓ : Loc nD τ sig) → Buf (Elt Bits) ℓ) (ρ : Dev nD → PrngReg)
    (hw : ∀ c : Dev nD, UpRuns.Runs (UpRuns.word (m ((c.tc : Thread nD τ).loc main_arg0)))) :
    θ_run (defs (F := Bits)) (onTc (τ := τ) (main (F := Bits))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  rw [calls]
  exact Up1.frame_of (F := Bits) m ρ hw

end

end Cert.Proof.Up1Same

end
-- ==== Proof.Up1Claims.lean ====
module

public import proofs.«01_k».proof.Proof.Up1Value
public import proofs.«01_k».proof.Proof.Up1Same
public import proofs.«01_k».proof.Proof.UpClaims
public import proofs.«01_k».proof.Defs

/-! # The claims about the gate/up call of the second layer's experts

Its kernel leaves its arguments as they were and every semaphore at zero, on words and on numbers, at every table of runs
the precondition admits; there its result is its reference's. -/

@[expose] public section

set_option maxRecDepth 16384

noncomputable section

namespace Cert.Proof

open Idealize.ShloMosaic Idealize.ShloMosaic.TcCoe Idealize.SL.Sem

/-- The kernel on words, at a table of runs, leaves its arguments as they were and every semaphore at zero. -/
theorem up1_frame_bits : Cert.quiescent_KernelUp1 (hKernelUp1 := Cert.KernelUp1.Gen.facts) (hPre_runs_ok := runs_facts) := fun m g h =>
  Up1Same.frame_of m g fun c => by
    haveI := runs_facts
    exact UpRuns.runs_of_pre (F := Bits) _ _ _ _ (h c)

/-- The kernel on numbers, at a table of runs, leaves its arguments as they were and every semaphore at zero. -/
theorem up1_frame : Cert.quiescent_KernelUp1Ideal (hKernelUp1Ideal := Cert.KernelUp1Ideal.Gen.facts) (hPre_runs_ok := runs_facts) := fun m g h =>
  Up1.frame_of m g fun c => by
    haveI := runs_facts
    exact UpRuns.runs_of_pre (F := Ideal) _ _ _ _ (h c)

/-- The kernel on numbers and its reference agree at every table of runs. -/
theorem up1_value : Cert.algebraic_KernelUp1Ideal_ReferenceUp1Ideal (hKernelUp1Ideal := Cert.KernelUp1Ideal.Gen.facts)
    (hReferenceUp1Ideal := Cert.ReferenceUp1Ideal.Gen.facts) (hPre_runs_ok := runs_facts) := fun m g m' g' h ha => by
  have hw := fun c => by
    haveI := runs_facts
    exact UpRuns.runs_of_pre (F := Ideal) _ _ _ _ (h c)
  refine ⟨fun c => (Up1.dats m 0 c).arrAt 1 (Up1.cfgM m).N, Up1.result_of m g hw,
    (θ_run _ _ _).mono (fun r hr c => ⟨(hr c).1.trans ?_, (hr c).2⟩) (Up1Ref.result m' g')⟩
  exact (congr (congr (congr (congrArg Up1Ref.array (ha c).1) (ha c).2.1) (ha c).2.2.1) (ha c).2.2.2).trans (Up1.final m c (hw c)).symm

end Cert.Proof

end
-- ==== Proof.DownBody.lean ====
module

public import proofs.«01_k».proof.Proof.Gen.KernelDownIdeal.Launch
public import proofs.«01_k».proof.Proof.Gen.KernelDownIdeal.Skeleton
public import Idealize.ShloMosaic.Lib.Pipeline.FrameBody
public import Idealize.ShloMosaic.Lib.Ring
public import Idealize.ShloMosaic.Lib.VecWindow
public import Idealize.ShloMosaic.Lib.Pipeline.Value
public import Idealize.ShloMosaic.Lib.ValueLayout
public import Idealize.ShloMosaic.Lib.Tactic

@[expose] public section

set_option maxRecDepth 16384

noncomputable section

namespace Cert.Proof.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

/-- The landing buffer, as the copies address it. -/
abbrev slot : Memref sig .tc .vmem S1536x4096 .f32 :=
  ((Memref.whole cc0_scratch0).slice (Rect.unit (s := S1x1536x4096) ![0, 0, 0] S1x1536x4096.size inb_S1x1536x4096_S1x1536x4096_0_0_0) (fun _ => rfl)).squeeze S1536x4096 squeezes_S1x1536x4096_S1536x4096

/-- The semaphore of the copies. -/
abbrev semW : DmaSem sig := ((cc0_scratch2.slice (Rect.unit (s := S1) ![0] S1.size inb_S1_S1_0)).squeeze S_ squeezes_S1_S_).sem

/-- A block of the down weights at an offset. -/
abbrev src (off : Fin 4 → Nat) (h : ∀ a, off a + S1x1x1536x4096.size a ≤ S2x16x1536x4096.size a) : Memref sig .tc .hbm S1536x4096 .f32 :=
  ((Memref.whole main_arg2).slice (Rect.unit (s := S2x16x1536x4096) off S1x1x1536x4096.size h) (fun _ => rfl)).squeeze S1536x4096 squeezes_S1x1x1536x4096_S1536x4096

/-- Where the weights of expert `e` begin in the array. -/
def offs (e : Fin 16) : Fin 4 → Nat := ![0, e.val, 0, 0]

/-- Every such block lies inside the array. -/
theorem offs_inb (e : Fin 16) : ∀ a, offs e a + S1x1x1536x4096.size a ≤ S2x16x1536x4096.size a := by
  have h1 := e.isLt
  intro a
  fin_cases a
  · show 0 + 1 ≤ 2; omega
  · show e.val + 1 ≤ 16; omega
  · show 0 + 1536 ≤ 1536; omega
  · show 0 + 4096 ≤ 4096; omega

variable (c : Dev nD)

/-- The contents of a weight array, and of the table. -/
abbrev WD : Type := Buf (Elt F) ((c : Thread nD τ).loc main_arg2)
abbrev Tab : Type := Buf (Elt F) ((c : Thread nD τ).loc main_arg0)

/-- A word of the table, read as the body reads it. -/
abbrev rd (off : Fin 2 → Nat) (h : ∀ a, off a + S1x1.size a ≤ S5x80.size a) (tab : Tab (F := F) c) : BitVec 32 :=
  View.readAt (Elt F) (Memref.whole main_arg0).view (Rect.unit (s := S5x80) off S1x1.size h).toLoadRect tab
    (Shape.Idx.first (show 0 < S1x1.numel by decide))

/-- A copy of weights under way: on its completion the landing buffer holds `f`, and the block it reads is given back. -/
abbrev flight (off : Fin 4 → Nat) (h : ∀ a, off a + S1x1x1536x4096.size a ≤ S2x16x1536x4096.size a) (wd : WD (F := F) c)
    (f : Buf (Elt F) ((c : Thread nD τ).loc cc0_scratch0)) : sProp 𝕄 :=
  Transfers.Flight (countersEmb (U := Pipeline.UD sig nD τ)) (c : Thread nD τ) (.dma semW) default 786432
    iprop((slot.view.loc (c : Thread nD τ) ↦[slot.view.set]{fullShare} f) ∗ ((Memref.whole main_arg2).view.loc (c : Thread nD τ) ↦[(src off h).view.set]{fullShare} wd))

/-- The copy under way from the block at an offset. -/
def flyingAt (wd : WD (F := F) c) (off : Fin 4 → Nat) (h : ∀ a, off a + S1x1x1536x4096.size a ≤ S2x16x1536x4096.size a) : sProp 𝕄 :=
  iprop(∃ f, ⌜slot.view.read (Elt F) f = (src off h).view.read (Elt F) wd⌝
    ∗ flight c off h wd f
    ∗ ((Memref.whole main_arg2).view.loc (c : Thread nD τ) ↦[Finset.univ \ (src off h).view.set]{fullShare} wd))

/-- The copy under way for expert `e`. -/
abbrev flying (wd : WD (F := F) c) (e : Fin 16) : sProp 𝕄 := flyingAt c wd (offs e) (offs_inb e)

/-- A copy from an offset that is the expert's own is that expert's copy. -/
theorem flyingAt_eq (wd : WD (F := F) c) (off : Fin 4 → Nat) (h) (e : Fin 16) (ho : off = offs e) :
    (flyingAt c wd off h : sProp 𝕄) ⊢ flying c wd e := by subst ho; exact .rfl

/-- A block read at an offset that is its own is that block. -/
theorem src_eq (wd : WD (F := F) c) (off : Fin 4 → Nat) (h) (e : Fin 16) (ho : off = offs e) :
    (src off h).view.read (Elt F) wd = (src (offs e) (offs_inb e)).view.read (Elt F) wd := by subst ho; rfl

/-- No copy under way: the landing buffer, the weights and the semaphore are at hand. -/
def resting (wd : WD (F := F) c) : sProp 𝕄 :=
  iprop((∃ f, slot.view.loc (c : Thread nD τ) ↦[slot.view.set]{fullShare} f)
    ∗ ((Memref.whole main_arg2).view.loc (c : Thread nD τ) ↦{fullShare} wd)
    ∗ semVal ((c : Thread nD τ), SemLoc.dma semW) 0)

/-- A weight block as the body keeps it for the products: rounded, with a leading axis of one. -/
def slab (b : Vec F S1536x4096 .f32) : Vec F S1x1536x4096 .bf16 :=
  shapeCast S1x1536x4096 (truncf .bf16 b bitsLt_bf16_f32) shapeCasts_S1536x4096_S1x1536x4096

/-- The slab of expert `e`. -/
abbrev slabOf (wd : WD (F := F) c) (e : Fin 16) : Vec F S1x1536x4096 .bf16 := slab ((src (offs e) (offs_inb e)).view.read (Elt F) wd)

/-- The whole of a weight buffer. -/
abbrev full : Rect S1x1536x4096 := Rect.unit (s := S1x1536x4096) ![0, 0, 0] S1x1536x4096.size inb_S1x1536x4096_S1x1536x4096_0_0_0

/-- What the body stores of a landed block is its slab. -/
theorem pay1_eq (f : Buf (Elt F) ((c : Thread nD τ).loc cc0_scratch0)) :
    k0_pay1 (View.readAt (Elt F) (Memref.whole cc0_scratch0).view full.toLoadRect f) = slab (slot.view.read (Elt F) f) := rfl

/-- After a slab is stored, the buffer reads as that slab. -/
theorem read_kept (f : Buf (Elt F) ((c : Thread nD τ).loc cc0_scratch1)) (p : Vec F S1x1536x4096 .bf16) :
    View.readAt (Elt F) (Memref.whole cc0_scratch1).view full.toLoadRect ((Memref.whole cc0_scratch1).view.writes (Elt F) f [⟨full, p⟩]) = p :=
  funext fun x => View.read_writes_cons_emb (Memref.whole cc0_scratch1).view f full p [] x

/-- A buffer copied over twice reads as the later copy. -/
theorem read_copied_twice {sp : Space} {s : Shape} {e : EltTy} (v : View sig .tc sp s e) (f : v.ty.Contents (Elt F)) (x y : s.Idx → Elt F e) :
    v.read (Elt F) (v.writes (Elt F) f [⟨Rect.whole s, x⟩, ⟨Rect.whole s, y⟩]) = x := by
  funext z
  have h := View.read_writes_cons_emb v f (Rect.whole s) x [⟨Rect.whole s, y⟩] z
  rwa [Rect.emb_whole_apply] at h

/-- The weight buffer holds the slab of expert `e`. -/
def loaded (wd : WD (F := F) c) (e : Fin 16) : sProp 𝕄 :=
  iprop(∃ wb, ⌜View.readAt (Elt F) (Memref.whole cc0_scratch1).view full.toLoadRect wb = slabOf c wd e⌝
    ∗ ((Memref.whole cc0_scratch1).view.loc (c : Thread nD τ) ↦{fullShare} wb))

/-! ## The tile's result -/

/-- The weighted products laid out by blocks of 128 columns, as the result is. -/
def spread (v : Vec F S256x4096 .f32) : Vec F S256x32x128 .f32 := fun y =>
  v (ValueIdx.ix2 (y 0) (⟨128 * (y 1).val + (y 2).val, by
    have h1 : (y 1).val < 32 := (y 1).isLt
    have h2 : (y 2).val < 128 := (y 2).isLt
    omega⟩ : Fin 4096))

/-- What a tile's result is: the weighted products where the tile is a real one, zero where not. -/
def tileOut (v : BitVec 32) (x : Vec F S256x1536 .bf16) (b : Vec F S1x1536x4096 .bf16) (r : Vec F S256x1 .f32) : Vec F S256x32x128 .f32 :=
  if k0_cond4 v = 1#1 then spread (k0_pay7 x b r) else k0_pay6

/-- Block `n` of 128 columns lies in the result's block, and in the products. -/
theorem part_inb (n : Fin 32) : ∀ a, (![0, n.val, 0] : Fin 3 → Nat) a + S256x1x128.size a ≤ S256x32x128.size a := by
  have h := n.isLt
  intro a
  fin_cases a
  · show 0 + 256 ≤ 256; omega
  · show n.val + 1 ≤ 32; omega
  · show 0 + 128 ≤ 128; omega
theorem part_slices (n : Fin 32) : S256x4096.Slices ![0, 128 * n.val] S256x128 :=
  ⟨rfl, fun a => by
    have h := n.isLt
    fin_cases a
    · show 0 + 256 ≤ 256; omega
    · show 128 * n.val + 128 ≤ 4096; omega⟩

/-- The body's store of block `n`. -/
def part (v : Vec F S256x4096 .f32) (n : Fin 32) : View.Piece (Elt F) S256x32x128 .f32 :=
  ⟨Rect.unit (s := S256x32x128) ![0, n.val, 0] S256x1x128.size (part_inb n),
    shapeCast S256x1x128 (extractStridedSlice S256x128 ![0, 128 * n.val] v (part_slices n)) shapeCasts_S256x128_S256x1x128⟩

/-- The body's stores of all blocks, the last one first. -/
def parts (v : Vec F S256x4096 .f32) : List (View.Piece (Elt F) S256x32x128 .f32) :=
  [part v 31, part v 30, part v 29, part v 28, part v 27, part v 26, part v 25, part v 24,
   part v 23, part v 22, part v 21, part v 20, part v 19, part v 18, part v 17, part v 16,
   part v 15, part v 14, part v 13, part v 12, part v 11, part v 10, part v 9, part v 8,
   part v 7, part v 6, part v 5, part v 4, part v 3, part v 2, part v 1, part v 0]

/-- Every block is among them. -/
theorem part_mem (v : Vec F S256x4096 .f32) (n : Fin 32) : part v n ∈ parts v := by
  unfold parts
  fin_cases n <;> simp only [List.mem_cons, Fin.reduceFinMk, Fin.zero_eta, Fin.mk_one, true_or, or_true]

/-- And they are blocks only. -/
theorem of_mem_parts (v : Vec F S256x4096 .f32) (p) (h : p ∈ parts v) : ∃ n, p = part v n := by
  unfold parts at h
  simp only [List.mem_cons, List.not_mem_nil, or_false] at h
  rcases h with h | h | h | h | h | h | h | h | h | h | h | h | h | h | h | h | h | h | h | h | h | h | h | h | h | h | h | h | h | h | h | h
  all_goals exact ⟨_, h⟩

/-- A block holds its part of the products. -/
theorem part_apply (v : Vec F S256x4096 .f32) (n : Fin 32) (x : (part v n).1.shape.Idx) : (part v n).2 x = spread v ((part v n).1.emb x) := by
  have h0 : (x 0).val < 256 := (x 0).isLt
  have h1 : (x 1).val < 1 := (x 1).isLt
  have h2 : (x 2).val < 128 := (x 2).isLt
  have hn := n.isLt
  refine (shapeCast_apply (extractStridedSlice S256x128 ![0, 128 * n.val] v (part_slices n)) shapeCasts_S256x128_S256x1x128 x
    (ValueIdx.ix2 (⟨(x 0).val, h0⟩ : Fin 256) (⟨(x 2).val, h2⟩ : Fin 128)) ?_).trans ?_
  · refine (Shape.rowMajor_val_two (d := ![256, 128]) _).trans (Eq.trans ?_ (Shape.rowMajor_val_three (d := ![256, 1, 128]) x).symm)
    show (x 0).val * 128 + (x 2).val = ((x 0).val * 1 + (x 1).val) * 128 + (x 2).val
    omega
  · unfold extractStridedSlice spread
    refine congrArg v (funext fun a => Fin.ext ?_)
    fin_cases a
    · show 0 + (x 0).val = 0 + 1 * (x 0).val; omega
    · show 128 * n.val + (x 2).val = 128 * (n.val + 1 * (x 1).val) + (0 + 1 * (x 2).val); omega

/-- After all the stores the result's block is the products by blocks. -/
theorem read_parts {sp : Space} (A : View sig .tc sp S256x32x128 .f32) (f : A.ty.Contents (Elt F)) (v : Vec F S256x4096 .f32) :
    A.read (Elt F) (A.writes (Elt F) f (parts v)) = spread v := by
  funext y
  refine View.read_writes_apply_of_pieces A f (spread v) (parts v) (fun p hp x => ?_) y ?_
  · obtain ⟨n, rfl⟩ := of_mem_parts v p hp
    exact part_apply v n x
  · refine ⟨part v (y 1), part_mem v (y 1), (Rect.mem_set_unit (inb := part_inb (y 1))).2 fun a => ?_⟩
    have h0 : (y 0).val < 256 := (y 0).isLt
    have h2 : (y 2).val < 128 := (y 2).isLt
    match a with
    | 0 => exact ⟨Nat.zero_le _, show (y 0).val < 0 + 256 by omega⟩
    | 1 => exact ⟨Nat.le_refl _, show (y 1).val < (y 1).val + 1 by omega⟩
    | 2 => exact ⟨Nat.zero_le _, show (y 2).val < 0 + 128 by omega⟩

/-- The two conditions on a tile's validity exclude one another and one of them holds. -/
theorem cond45 (v : BitVec 32) : (k0_cond4 v = 1#1 ∧ ¬ k0_cond5 v = 1#1) ∨ (¬ k0_cond4 v = 1#1 ∧ k0_cond5 v = 1#1) := by
  unfold k0_cond4 k0_cond5
  dsimp only [Scalar.cmpi, IntOp.cmpi]
  generalize (v == 1#32) = b
  cases b <;> decide

/-- The body at whole memrefs. -/
abbrev bodyAt (i : grid0.Coords) (A3 : Memref sig .tc .vmem S256x1536 .bf16) (h3 : A3.IsWhole) (A5 : Memref sig .tc .vmem S256x1 .f32) (h5 : A5.IsWhole)
    (A6 : Memref sig .tc .vmem S256x32x128 .f32) (h6 : A6.IsWhole) :
    Prog (TpuEff nD τ sig (Elt F) Λ₀ .tc) PUnit :=
  cc0_moe_down i (Memref.whole main_arg0) (Memref.isWhole_whole _) A3 h3 (Memref.whole main_arg2) (Memref.isWhole_whole _) A5 h5
            A6 h6 (Memref.whole cc0_scratch0) (Memref.isWhole_whole _) (Memref.whole cc0_scratch1) (Memref.isWhole_whole _) cc0_scratch2

/-- The body's share of the table. -/
abbrev tabP (tab : Tab (F := F) c) : sProp 𝕄 := (Memref.whole main_arg0).view.loc (c : Thread nD τ) ↦{fullShare.right} tab

end Cert.Proof.Down

end
-- ==== Proof.DownTable.lean ====
module

public import proofs.«01_k».proof.Proof.DownBody
public import proofs.«01_k».proof.Proof.UpRuns

@[expose] public section

set_option maxRecDepth 16384

noncomputable section

namespace Cert.Proof.Down

open Cert.KernelDownIdeal Cert.KernelDownIdeal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

/-! ## Points of the grid -/

/-- A point's tile is its number. -/
theorem coords_row : ∀ t : Fin 80, (grid0.coords t 1).val = (row t.val).val := by decide +kernel

/-- Only the first point issues its own copy. -/
theorem cond1_iff : ∀ t : Fin 80, k0_cond1 (grid0.coords t) = 1#1 ↔ t.val = 0 := by decide +kernel

/-- A run begins where the third row of the table holds one. -/
theorem cond2_iff (v : BitVec 32) : k0_cond2 v = 1#1 ↔ v = 1#32 := by
  rw [← beq_iff_eq (a := v)]
  unfold k0_cond2
  dsimp only [Scalar.cmpi, IntOp.cmpi]
  generalize (v == 1#32) = b
  cases b <;> decide

/-- A copy is issued unless the run is the table's last. -/
theorem cond3_iff (i : grid0.Coords) (v : BitVec 32) : k0_cond3 i v = 1#1 ↔ ¬ v = 1#32 := by
  rw [← beq_iff_eq (a := v)]
  unfold k0_cond3
  dsimp only [Scalar.cmpi, IntOp.cmpi]
  generalize (v == 1#32) = b
  generalize (i 0) = j
  revert j
  cases b <;> decide

/-- Where the blocks the body copies begin. -/
theorem off1_eq (v : BitVec 32) : k0_off1 v = ![0, v.toNat, 0, 0] := rfl
theorem off4_eq (i : grid0.Coords) (v : BitVec 32) : k0_off4 i v = ![0, v.toNat, 0, 0] := by
  have h : ∀ j : Fin 1, (Scalar.muli (BitVec.ofNat 32 j.val) 4096#32).toNat = 0 := by decide
  unfold k0_off4
  exact congrArg (fun n => (![0, v.toNat, 0, n] : Fin 4 → Nat)) (h (i 0))
theorem off7_eq (i : grid0.Coords) (v w : BitVec 32) (hv : ¬ v = 1#32) : k0_off7 i v w = ![0, w.toNat, 0, 0] := by
  have h : ∀ j : Fin 1, (Scalar.muli (BitVec.ofNat 32 j.val) 4096#32).toNat = 0 := by decide
  have hb : (v == 1#32) = false := by simpa using hv
  unfold k0_off7
  dsimp only [Scalar.cmpi, IntOp.cmpi]
  rw [hb]
  exact congrArg (fun n => (![0, w.toNat, 0, n] : Fin 4 → Nat)) (h (i 0))

/-! ## From a point to the next -/

/-- Where a run begins after the first point, the run before was not the last and announced this one. -/
theorem arrive {w : Fin 5 → Fin 80 → BitVec 32} (hw : Runs w) (k : Nat) (hk : k + 1 < 80) (h : w 2 (row (k + 1)) = 1#32) :
    ¬ w 4 (row k) = 1#32 ∧ nextOf w (row k) = expertOf w (row (k + 1)) := by
  obtain ⟨h4, h3⟩ := hw.turn (row k) (row (k + 1)) (by show (k + 1) % 80 = k % 80 + 1; omega) h
  exact ⟨h4, Fin.ext (congrArg (fun v : BitVec 32 => v.toNat % 16) h3)⟩

/-- Inside a run everything is as at the point before. -/
theorem stay {w : Fin 5 → Fin 80 → BitVec 32} (hw : Runs w) (k : Nat) (h : w 2 (row (k + 1)) ≠ 1#32) :
    expertOf w (row (k + 1)) = expertOf w (row k) ∧ (w 4 (row (k + 1)) = 1#32 ↔ w 4 (row k) = 1#32)
      ∧ nextOf w (row (k + 1)) = nextOf w (row k) := by
  have h0 : (k + 1) % 80 ≠ 0 := fun h0 => h (by rw [show row (k + 1) = 0 from Fin.ext h0]; exact hw.start)
  obtain ⟨a, b, d⟩ := hw.same (row k) (row (k + 1)) (by show (k + 1) % 80 = k % 80 + 1; omega) h
  unfold nextOf expertOf
  rw [d]
  exact ⟨Fin.ext (congrArg (fun v : BitVec 32 => v.toNat % 16) a), Iff.rfl,
    Fin.ext (congrArg (fun v : BitVec 32 => v.toNat % 16) b)⟩

end Cert.Proof.Down

end
-- ==== Proof.DownStart.lean ====
module

public import proofs.«01_k».proof.Proof.DownBody

@[expose] public section

set_option maxRecDepth 16384

noncomputable section

namespace Cert.Proof.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- The first point of the grid, with another run to come: its own copy is issued first, and the rest is as at any point that
    begins a run. -/
theorem run_start (i : grid0.Coords) (tab : Tab (F := F) c) (wd : WD (F := F) c) (e : Fin 16)
    (h1 : k0_cond1 i = 1#1)
    (hc1 : k0_chk1 i (rd c ![0, 0] inb_S5x80_S1x1_0_0 tab))
    (ho1 : k0_off1 (rd c ![0, 0] inb_S5x80_S1x1_0_0 tab) = offs e)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : k0_cond3 i (rd c (k0_off5 i) (k0_off5_inb i) tab) = 1#1)
    (hc4 : k0_chk4 i (rd c (k0_off2 i) (k0_off2_inb i) tab) (rd c (k0_off5 i) (k0_off5_inb i) tab) (rd c (k0_off6 i) (k0_off6_inb i) tab))
    (P' : sProp 𝕄) (hb : ∀ a, k0_off7 i (rd c (k0_off5 i) (k0_off5_inb i) tab) (rd c (k0_off6 i) (k0_off6_inb i) tab) a + S1x1x1536x4096.size a ≤ S2x16x1536x4096.size a)
    (ho : flyingAt c wd (k0_off7 i (rd c (k0_off5 i) (k0_off5_inb i) tab) (rd c (k0_off6 i) (k0_off6_inb i) tab)) hb ⊢ P')
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ resting c wd ∗ (∃ wb, (Memref.whole cc0_scratch1).view.loc (c : Thread nD τ) ↦{fullShare} wb)
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ P' ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold resting owns tileOut
  iintro ⟨HT, ⟨⟨%f, HG_dst⟩, HW, HG⟩, ⟨%wb, HB⟩, ⟨%f3, %hf3, H3⟩, ⟨%f5, %hf5, H5⟩, ⟨%d6, %f6, -, H6⟩, ⟨%W, HO⟩, HK⟩
  subst hf3
  subst hf5
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact hc2 | exact hc3 _ _ _ | exact hc4 | exact hc1 | exact h4 | exact h5)
  all_goals
    sl_step
    iapply HK
    isplitl [HT]; · iexact HT
    isplitl [HG HW]
    · iapply ho
      unfold flyingAt
      iexists _
      isplitr
      swap
      · isplitl [HG]; · iexact HG
        iexact HW
      ipureintro
      exact read_copied_twice _ _ _ _
    isplitl [HB]
    · unfold loaded
      iexists _
      isplitr
      swap; · iexact HB
      ipureintro
      exact (read_kept c _ _).trans ((pay1_eq c _).trans (congrArg slab ((View.read_writes_whole _ _ _).trans (src_eq c wd _ _ e ho1))))
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
          refine congrArg (fun b => k0_pay7 _ b _) ?_
          unfold run_start.sl.v20 run_start.sl.HB_1
          exact (read_kept c _ _).trans ((pay1_eq c _).trans (congrArg slab ((View.read_writes_whole _ _ _).trans (src_eq c wd _ _ e ho1))))
    iexists _; iexact HO

end Cert.Proof.Down

end
-- ==== Proof.DownOnly.lean ====
module

public import proofs.«01_k».proof.Proof.DownBody

@[expose] public section

set_option maxRecDepth 16384

noncomputable section

namespace Cert.Proof.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- The first point of the grid where the table has a single run: its own copy is issued and lands, and none follows. -/
theorem run_only (i : grid0.Coords) (tab : Tab (F := F) c) (wd : WD (F := F) c) (e : Fin 16)
    (h1 : k0_cond1 i = 1#1)
    (hc1 : k0_chk1 i (rd c ![0, 0] inb_S5x80_S1x1_0_0 tab))
    (ho1 : k0_off1 (rd c ![0, 0] inb_S5x80_S1x1_0_0 tab) = offs e)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : ¬ k0_cond3 i (rd c (k0_off5 i) (k0_off5_inb i) tab) = 1#1)
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ resting c wd ∗ (∃ wb, (Memref.whole cc0_scratch1).view.loc (c : Thread nD τ) ↦{fullShare} wb)
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ resting c wd ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold resting owns tileOut
  iintro ⟨HT, ⟨⟨%f, HG_dst⟩, HW, HG⟩, ⟨%wb, HB⟩, ⟨%f3, %hf3, H3⟩, ⟨%f5, %hf5, H5⟩, ⟨%d6, %f6, -, H6⟩, ⟨%W, HO⟩, HK⟩
  subst hf3
  subst hf5
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact hc2 | exact hc3 _ _ _ | exact hc1 | exact h4 | exact h5)
  all_goals
    sl_step
    iapply HK
    isplitl [HT]; · iexact HT
    isplitl [HG HW HG_dst]
    · isplitl [HG_dst]; · iexists _; iexact HG_dst
      isplitl [HW]; · iexact HW
      iexact HG
    isplitl [HB]
    · unfold loaded
      iexists _
      isplitr
      swap; · iexact HB
      ipureintro
      exact (read_kept c _ _).trans ((pay1_eq c _).trans (congrArg slab ((View.read_writes_whole _ _ _).trans (src_eq c wd _ _ e ho1))))
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
          refine congrArg (fun b => k0_pay7 _ b _) ?_
          unfold run_only.sl.v20 run_only.sl.HB_1
          exact (read_kept c _ _).trans ((pay1_eq c _).trans (congrArg slab ((View.read_writes_whole _ _ _).trans (src_eq c wd _ _ e ho1))))
    iexists _; iexact HO

end Cert.Proof.Down

end
-- ==== Proof.DownGo.lean ====
module

public import proofs.«01_k».proof.Proof.DownBody

@[expose] public section

set_option maxRecDepth 16384

noncomputable section

namespace Cert.Proof.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- A point that begins an expert's run, not the first of the grid, with a copy to issue: the copy under way lands, its slab is
    stored, the next copy is issued, and the tile is computed. -/
theorem run_first_go (i : grid0.Coords) (tab : Tab (F := F) c) (wd : WD (F := F) c) (e : Fin 16)
    (h1 : ¬ k0_cond1 i = 1#1)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : k0_cond3 i (rd c (k0_off5 i) (k0_off5_inb i) tab) = 1#1)
    (hc4 : k0_chk4 i (rd c (k0_off2 i) (k0_off2_inb i) tab) (rd c (k0_off5 i) (k0_off5_inb i) tab) (rd c (k0_off6 i) (k0_off6_inb i) tab))
    (P' : sProp 𝕄) (hb : ∀ a, k0_off7 i (rd c (k0_off5 i) (k0_off5_inb i) tab) (rd c (k0_off6 i) (k0_off6_inb i) tab) a + S1x1x1536x4096.size a ≤ S2x16x1536x4096.size a)
    (ho : flyingAt c wd (k0_off7 i (rd c (k0_off5 i) (k0_off5_inb i) tab) (rd c (k0_off6 i) (k0_off6_inb i) tab)) hb ⊢ P')
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ flying c wd e ∗ (∃ wb, (Memref.whole cc0_scratch1).view.loc (c : Thread nD τ) ↦{fullShare} wb)
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ P' ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold flying flyingAt owns tileOut
  iintro ⟨HT, ⟨%f, %hf, HG, HW⟩, ⟨%wb, HB⟩, ⟨%f3, %hf3, H3⟩, ⟨%f5, %hf5, H5⟩, ⟨%d6, %f6, -, H6⟩, ⟨%W, HO⟩, HK⟩
  subst hf3
  subst hf5
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact hc2 | exact hc3 _ _ _ | exact hc4 | exact h4 | exact h5)
  all_goals
    sl_step
    iapply HK
    isplitl [HT]; · iexact HT
    isplitl [HG HW]
    · iapply ho
      unfold flyingAt
      iexists _
      isplitr
      swap
      · isplitl [HG]; · iexact HG
        iexact HW
      ipureintro
      exact View.read_writes_whole _ _ _
    isplitl [HB]
    · unfold loaded
      iexists _
      isplitr
      swap; · iexact HB
      ipureintro
      exact (read_kept c _ _).trans ((pay1_eq c _).trans (congrArg slab hf))
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
          refine congrArg (fun b => k0_pay7 _ b _) ?_
          unfold run_first_go.sl.v20 run_first_go.sl.HB_1
          exact (read_kept c _ _).trans ((pay1_eq c _).trans (congrArg slab hf))
    iexists _; iexact HO

end Cert.Proof.Down

end
-- ==== Proof.DownStop.lean ====
module

public import proofs.«01_k».proof.Proof.DownBody

@[expose] public section

set_option maxRecDepth 16384

noncomputable section

namespace Cert.Proof.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- A point that begins an expert's run with nothing left to copy: as above, and nothing is under way after. -/
theorem run_first_stop (i : grid0.Coords) (tab : Tab (F := F) c) (wd : WD (F := F) c) (e : Fin 16)
    (h1 : ¬ k0_cond1 i = 1#1)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : ¬ k0_cond3 i (rd c (k0_off5 i) (k0_off5_inb i) tab) = 1#1)
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ flying c wd e ∗ (∃ wb, (Memref.whole cc0_scratch1).view.loc (c : Thread nD τ) ↦{fullShare} wb)
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ resting c wd ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold flying flyingAt owns tileOut
  iintro ⟨HT, ⟨%f, %hf, HG, HW⟩, ⟨%wb, HB⟩, ⟨%f3, %hf3, H3⟩, ⟨%f5, %hf5, H5⟩, ⟨%d6, %f6, -, H6⟩, ⟨%W, HO⟩, HK⟩
  subst hf3
  subst hf5
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact hc2 | exact hc3 _ _ _ | exact h4 | exact h5)
  all_goals
    sl_step
    iapply HK
    isplitl [HT]; · iexact HT
    isplitl [HG HW HG_dst]
    · unfold resting
      isplitl [HG_dst]; · iexists _; iexact HG_dst
      isplitl [HW]; · iexact HW
      iexact HG
    isplitl [HB]
    · unfold loaded
      iexists _
      isplitr
      swap; · iexact HB
      ipureintro
      exact (read_kept c _ _).trans ((pay1_eq c _).trans (congrArg slab hf))
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
          refine congrArg (fun b => k0_pay7 _ b _) ?_
          unfold run_first_stop.sl.v20 run_first_stop.sl.HB_1
          exact (read_kept c _ _).trans ((pay1_eq c _).trans (congrArg slab hf))
    iexists _; iexact HO

end Cert.Proof.Down

end
-- ==== Proof.DownAgain.lean ====
module

public import proofs.«01_k».proof.Proof.DownBody

@[expose] public section

set_option maxRecDepth 16384

noncomputable section

namespace Cert.Proof.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- A point inside an expert's run: no copy is waited for or issued, the tile is computed from the slab at hand. -/
theorem run_again (i : grid0.Coords) (tab : Tab (F := F) c) (wd : WD (F := F) c) (e : Fin 16)
    (h1 : ¬ k0_cond1 i = 1#1)
    (h2 : ¬ k0_cond2 (rd c (k0_off2 i) (k0_off2_inb i) tab) = 1#1)
    (P : sProp 𝕄)
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ P ∗ loaded c wd e
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ P ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold loaded owns tileOut
  iintro ⟨HT, HP, ⟨%wb, %hb, HB⟩, ⟨%f3, %hf3, H3⟩, ⟨%f5, %hf5, H5⟩, ⟨%d6, %f6, -, H6⟩, ⟨%W, HO⟩, HK⟩
  subst hf3
  subst hf5
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h4 | exact h5)
  all_goals
    sl_step
    iapply HK
    isplitl [HT]; · iexact HT
    isplitl [HP]; · iexact HP
    isplitl [HB]
    · iexists _
      isplitr
      swap; · iexact HB
      ipureintro
      exact hb
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
    iexists _; iexact HO

end Cert.Proof.Down

end
-- ==== Proof.DownStep.lean ====
module

public import proofs.«01_k».proof.Proof.DownTable
public import proofs.«01_k».proof.Proof.DownStart
public import proofs.«01_k».proof.Proof.DownOnly
public import proofs.«01_k».proof.Proof.DownGo
public import proofs.«01_k».proof.Proof.DownStop
public import proofs.«01_k».proof.Proof.DownAgain

@[expose] public section

set_option maxRecDepth 16384

noncomputable section

namespace Cert.Proof.Down

open Cert.KernelDownIdeal Cert.KernelDownIdeal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

/-- The table's word in row `r` at tile `i`. -/
def words (tab : Tab (F := F) c) (r : Fin 5) (i : Fin 80) : BitVec 32 :=
  rd c ![r.val, i.val] (by
    have h1 := r.isLt
    have h2 := i.isLt
    intro a
    fin_cases a
    · show r.val + 1 ≤ 5; omega
    · show i.val + 1 ≤ 80; omega) tab

/-- A read of the table at an offset is the word there. -/
theorem rd_words (tab : Tab (F := F) c) (off : Fin 2 → Nat) (h) (r : Fin 5) (i : Fin 80) (ho : off = ![r.val, i.val]) :
    rd c off h tab = words c tab r i := by subst ho; rfl

/-- The copy under way after point `k`: none inside the last run. -/
def moving (tab : Tab (F := F) c) (wd : WD (F := F) c) (k : Nat) : sProp 𝕄 :=
  if words c tab 4 (row k) = 1#32 then resting c wd else flying c wd (nextOf (words c tab) (row k))

/-- What the body finds at point `n`: at first nothing loaded and no copy under way; later the slab of the point before,
    and the copy under way after it. -/
def core (tab : Tab (F := F) c) (wd : WD (F := F) c) : Nat → sProp 𝕄
  | 0 => iprop(resting c wd ∗ (∃ wb, (Memref.whole cc0_scratch1).view.loc (c : Thread nD τ) ↦{fullShare} wb))
  | k + 1 => iprop(moving c tab wd k ∗ loaded c wd (expertOf (words c tab) (row k)))

/-- The tile's result at point `t`. -/
def tileAt (tab : Tab (F := F) c) (wd : WD (F := F) c) (t : Fin 80) (x : Vec F S256x1536 .bf16) (r : Vec F S256x1 .f32) : Vec F S256x32x128 .f32 :=
  tileOut (words c tab 1 (row t.val)) x (slabOf c wd (expertOf (words c tab) (row t.val))) r

/-- The body finds the weight buffer in some state, loaded or not. -/
theorem loaded_some (wd : WD (F := F) c) (e : Fin 16) :
    (loaded c wd e : sProp 𝕄) ⊢ iprop(∃ wb, (Memref.whole cc0_scratch1).view.loc (c : Thread nD τ) ↦{fullShare} wb) := by
  unfold loaded
  iintro ⟨%wb, %_, HB⟩
  iexists wb; iexact HB

set_option maxHeartbeats 800000 in
/-- One point: the body runs from what it finds at point `t` to what the next point finds, and leaves the tile's result. -/
theorem step (tab : Tab (F := F) c) (hw : Runs (words c tab)) (wd : WD (F := F) c) (t : Fin 80)
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ core c tab wd t.val
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ core c tab wd (t.val + 1)
            ∗ owns (c : Thread nD τ) A3 fullShare x ∗ owns (c : Thread nD τ) A5 fullShare r
            ∗ owns (c : Thread nD τ) A6 fullShare (tileAt c tab wd t x r)
            ∗ (∃ W, owes (c : Thread nD τ) 0 W)) -∗ K ⟨⟩))
      ⊢ wp frame (wpE (defs₀ (F := F)) Variants.none c none) Set.univ (bodyAt (F := F) (grid0.coords t) A3 w3 A5 w5 A6 w6) K := by
  have r2 : rd c (k0_off2 (grid0.coords t)) (k0_off2_inb _) tab = words c tab 2 (row t.val) := rd_words c tab _ _ _ _ (by rw [k0_off2_eq, coords_row]; rfl)
  have r3 : rd c (k0_off3 (grid0.coords t)) (k0_off3_inb _) tab = words c tab 0 (row t.val) := rd_words c tab _ _ _ _ (by rw [k0_off3_eq, coords_row]; rfl)
  have r5 : rd c (k0_off5 (grid0.coords t)) (k0_off5_inb _) tab = words c tab 4 (row t.val) := rd_words c tab _ _ _ _ (by rw [k0_off5_eq, coords_row]; rfl)
  have r6 : rd c (k0_off6 (grid0.coords t)) (k0_off6_inb _) tab = words c tab 3 (row t.val) := rd_words c tab _ _ _ _ (by rw [k0_off6_eq, coords_row]; rfl)
  have r8 : rd c (k0_off8 (grid0.coords t)) (k0_off8_inb _) tab = words c tab 1 (row t.val) := rd_words c tab _ _ _ _ (by rw [k0_off8_eq, coords_row]; rfl)
  have hc2 : k0_chk2 (grid0.coords t) (rd c (k0_off2 (grid0.coords t)) (k0_off2_inb _) tab) (rd c (k0_off3 (grid0.coords t)) (k0_off3_inb _) tab) := by
    rw [r3]
    intro _
    have h := expertOf_val hw (row t.val)
    rw [off4_eq, ← h]
    exact offs_inb _
  unfold tileAt
  rw [← r8]
  by_cases h2 : words c tab 2 (row t.val) = 1#32
  · have h2' : k0_cond2 (rd c (k0_off2 (grid0.coords t)) (k0_off2_inb _) tab) = 1#1 := by rw [r2]; exact (cond2_iff _).2 h2
    have r1 : rd c ![0, 0] inb_S5x80_S1x1_0_0 tab = words c tab 0 (row 0) := rd_words c tab _ _ _ _ rfl
    have ho1 : k0_off1 (rd c ![0, 0] inb_S5x80_S1x1_0_0 tab) = offs (expertOf (words c tab) (row 0)) := by
      rw [r1, off1_eq]; unfold offs; rw [expertOf_val hw]
    have hc1 : k0_chk1 (grid0.coords t) (rd c ![0, 0] inb_S5x80_S1x1_0_0 tab) := fun _ => by
      rw [ho1]; exact offs_inb _
    by_cases hd : words c tab 4 (row t.val) = 1#32
    · have h3' : ¬ k0_cond3 (grid0.coords t) (rd c (k0_off5 (grid0.coords t)) (k0_off5_inb _) tab) = 1#1 := by
        rw [r5, cond3_iff]; exact fun h => h hd
      have hM : (moving c tab wd t.val : sProp 𝕄) = resting c wd := by unfold moving; rw [if_pos hd]
      obtain ⟨_ | k, hk⟩ := t
      · have h1 : k0_cond1 (grid0.coords ⟨0, hk⟩) = 1#1 := (cond1_iff _).2 rfl
        dsimp only [core]
        rw [show (moving c tab wd 0 : sProp 𝕄) = resting c wd from hM]
        refine BIBase.Entails.trans ?_ (run_only c (grid0.coords ⟨0, hk⟩) tab wd (expertOf (words c tab) (row 0)) h1 hc1 ho1 h2' hc2 h3' A3 w3 A5 w5 A6 w6 x r K)
        iintro ⟨HT, ⟨HF, HB⟩, H3, H5, H6, HO, HK⟩
        isplitl [HT]; · iexact HT
        isplitl [HF]; · iexact HF
        isplitl [HB]; · iexact HB
        isplitl [H3]; · iexact H3
        isplitl [H5]; · iexact H5
        isplitl [H6]; · iexact H6
        isplitl [HO]; · iexact HO
        iintro ⟨HT, HR, HL, H3, H5, H6, HO⟩
        iapply HK
        isplitl [HT]; · iexact HT
        isplitl [HR HL]; · isplitl [HR]; · iexact HR
                           iexact HL
        isplitl [H3]; · iexact H3
        isplitl [H5]; · iexact H5
        isplitl [H6]; · iexact H6
        iexact HO
      · have h1 : ¬ k0_cond1 (grid0.coords ⟨k + 1, hk⟩) = 1#1 := fun h => by cases (cond1_iff _).1 h
        obtain ⟨hd0, hn⟩ := arrive hw k hk h2
        dsimp only [core]
        rw [show (moving c tab wd (k + 1) : sProp 𝕄) = resting c wd from hM,
          show (moving c tab wd k : sProp 𝕄) = flying c wd (expertOf (words c tab) (row (k + 1))) by unfold moving; rw [if_neg hd0, hn]]
        refine BIBase.Entails.trans ?_ (run_first_stop c (grid0.coords ⟨k + 1, hk⟩) tab wd (expertOf (words c tab) (row (k + 1))) h1 h2' hc2 h3' A3 w3 A5 w5 A6 w6 x r K)
        iintro ⟨HT, ⟨HF, HB⟩, H3, H5, H6, HO, HK⟩
        isplitl [HT]; · iexact HT
        isplitl [HF]; · iexact HF
        isplitl [HB]; · iapply (loaded_some c wd _); iexact HB
        isplitl [H3]; · iexact H3
        isplitl [H5]; · iexact H5
        isplitl [H6]; · iexact H6
        isplitl [HO]; · iexact HO
        iintro ⟨HT, HR, HL, H3, H5, H6, HO⟩
        iapply HK
        isplitl [HT]; · iexact HT
        isplitl [HR HL]; · isplitl [HR]; · iexact HR
                           iexact HL
        isplitl [H3]; · iexact H3
        isplitl [H5]; · iexact H5
        isplitl [H6]; · iexact H6
        iexact HO
    · have h3' : k0_cond3 (grid0.coords t) (rd c (k0_off5 (grid0.coords t)) (k0_off5_inb _) tab) = 1#1 := by
        rw [r5, cond3_iff]; exact hd
      have h7 : k0_off7 (grid0.coords t) (rd c (k0_off5 (grid0.coords t)) (k0_off5_inb _) tab) (rd c (k0_off6 (grid0.coords t)) (k0_off6_inb _) tab) = offs (nextOf (words c tab) (row t.val)) := by
        rw [r5, r6, off7_eq _ _ _ hd]; unfold offs; rw [nextOf_val hw]
      have hb : ∀ a, k0_off7 (grid0.coords t) (rd c (k0_off5 (grid0.coords t)) (k0_off5_inb _) tab) (rd c (k0_off6 (grid0.coords t)) (k0_off6_inb _) tab) a + S1x1x1536x4096.size a ≤ S2x16x1536x4096.size a := by
        rw [h7]; exact offs_inb _
      have hc4 : k0_chk4 (grid0.coords t) (rd c (k0_off2 (grid0.coords t)) (k0_off2_inb _) tab) (rd c (k0_off5 (grid0.coords t)) (k0_off5_inb _) tab) (rd c (k0_off6 (grid0.coords t)) (k0_off6_inb _) tab) := fun _ _ => hb
      have ho : flyingAt c wd (k0_off7 (grid0.coords t) (rd c (k0_off5 (grid0.coords t)) (k0_off5_inb _) tab) (rd c (k0_off6 (grid0.coords t)) (k0_off6_inb _) tab)) hb ⊢ moving c tab wd t.val := by
        unfold moving
        rw [if_neg hd]
        exact flyingAt_eq c wd _ _ _ h7
      obtain ⟨_ | k, hk⟩ := t
      · have h1 : k0_cond1 (grid0.coords ⟨0, hk⟩) = 1#1 := (cond1_iff _).2 rfl
        refine BIBase.Entails.trans ?_ (run_start c (grid0.coords ⟨0, hk⟩) tab wd (expertOf (words c tab) (row 0)) h1 hc1 ho1 h2' hc2 h3' hc4
          (moving c tab wd 0) hb ho A3 w3 A5 w5 A6 w6 x r K)
        dsimp only [core]
        iintro ⟨HT, ⟨HF, HB⟩, H3, H5, H6, HO, HK⟩
        isplitl [HT]; · iexact HT
        isplitl [HF]; · iexact HF
        isplitl [HB]; · iexact HB
        isplitl [H3]; · iexact H3
        isplitl [H5]; · iexact H5
        isplitl [H6]; · iexact H6
        isplitl [HO]; · iexact HO
        iintro ⟨HT, HR, HL, H3, H5, H6, HO⟩
        iapply HK
        isplitl [HT]; · iexact HT
        isplitl [HR HL]; · isplitl [HR]; · iexact HR
                           iexact HL
        isplitl [H3]; · iexact H3
        isplitl [H5]; · iexact H5
        isplitl [H6]; · iexact H6
        iexact HO
      · have h1 : ¬ k0_cond1 (grid0.coords ⟨k + 1, hk⟩) = 1#1 := fun h => by cases (cond1_iff _).1 h
        obtain ⟨hd0, hn⟩ := arrive hw k hk h2
        refine BIBase.Entails.trans ?_ (run_first_go c (grid0.coords ⟨k + 1, hk⟩) tab wd (expertOf (words c tab) (row (k + 1))) h1 h2' hc2 h3' hc4
          (moving c tab wd (k + 1)) hb ho A3 w3 A5 w5 A6 w6 x r K)
        dsimp only [core]
        rw [show (moving c tab wd k : sProp 𝕄) = flying c wd (expertOf (words c tab) (row (k + 1))) by
          unfold moving; rw [if_neg hd0, hn]]
        generalize (moving c tab wd (k + 1) : sProp 𝕄) = M
        iintro ⟨HT, ⟨HF, HB⟩, H3, H5, H6, HO, HK⟩
        isplitl [HT]; · iexact HT
        isplitl [HF]; · iexact HF
        isplitl [HB]; · iapply (loaded_some c wd _); iexact HB
        isplitl [H3]; · iexact H3
        isplitl [H5]; · iexact H5
        isplitl [H6]; · iexact H6
        isplitl [HO]; · iexact HO
        iintro ⟨HT, HR, HL, H3, H5, H6, HO⟩
        iapply HK
        isplitl [HT]; · iexact HT
        isplitl [HR HL]; · isplitl [HR]; · iexact HR
                           iexact HL
        isplitl [H3]; · iexact H3
        isplitl [H5]; · iexact H5
        isplitl [H6]; · iexact H6
        iexact HO
  · have h2' : ¬ k0_cond2 (rd c (k0_off2 (grid0.coords t)) (k0_off2_inb _) tab) = 1#1 := by rw [r2, cond2_iff]; exact h2
    obtain ⟨_ | k, hk⟩ := t
    · exact absurd hw.start h2
    have h1 : ¬ k0_cond1 (grid0.coords ⟨k + 1, hk⟩) = 1#1 := fun h => by cases (cond1_iff _).1 h
    obtain ⟨he, hdd, hn⟩ := stay hw k h2
    have hM : (moving c tab wd (k + 1) : sProp 𝕄) = moving c tab wd k := by
      unfold moving; rw [hn]; exact if_congr hdd rfl rfl
    refine BIBase.Entails.trans ?_ (run_again c (grid0.coords ⟨k + 1, hk⟩) tab wd (expertOf (words c tab) (row (k + 1))) h1 h2'
      (moving c tab wd k) A3 w3 A5 w5 A6 w6 x r K)
    dsimp only [core]
    rw [hM, he]
    iintro ⟨HT, ⟨HF, HB⟩, H3, H5, H6, HO, HK⟩
    isplitl [HT]; · iexact HT
    isplitl [HF]; · iexact HF
    isplitl [HB]; · iexact HB
    isplitl [H3]; · iexact H3
    isplitl [H5]; · iexact H5
    isplitl [H6]; · iexact H6
    isplitl [HO]; · iexact HO
    iintro ⟨HT, HR, HL, H3, H5, H6, HO⟩
    iapply HK
    isplitl [HT]; · iexact HT
    isplitl [HR HL]; · isplitl [HR]; · iexact HR
                       iexact HL
    isplitl [H3]; · iexact H3
    isplitl [H5]; · iexact H5
    isplitl [H6]; · iexact H6
    iexact HO

end Cert.Proof.Down

end
-- ==== Proof.DownFrame.lean ====
module

public import proofs.«01_k».proof.Proof.DownStep
public import Idealize.ShloMosaic.Lib.StableHlo.RunRead
public import proofs.«01_k».proof.Defs

@[expose] public section

set_option maxRecDepth 16384

noncomputable section

namespace Cert.Proof.Down

open Cert.KernelDownIdeal Cert.KernelDownIdeal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays as the call finds them: the row weights have been laid out as a column. -/
abbrev V (c : Dev nD) (b : Ref sig .tc) : Buf (Elt F) ((c : Thread nD τ).loc b) := StableHlo.after hostOps0 (fun b => m (c, b)) b

/-- The host's reshape takes no fresh array. -/
theorem host_fresh : (hostOps0 : List (HloOp τ sig (Elt F))).Forall fun op => op.fresh = ∅ := by
  simp only [List.Forall]; repeat' constructor

/-- It leaves the arguments as launched, -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
/-- and makes the column of row weights. -/
theorem V_weights (c : Dev nD) : V m c main_v0 = shapeCast S20480x1 (m ((c : Thread nD τ).loc main_arg3)) shapeCasts_S20480_S20480x1 := by
  unfold V hostOps0
  after_reads_simp
  rfl

/-- The table's contents as the call's side condition takes them. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl
abbrev adm : (pcfg0 (F := F)).Adm := ⟨tbl m, trivial⟩
abbrev cfgM := cfg0 (F := F) (adm m)

/-- The table and the weights on a device. -/
abbrev tabM (c : Dev nD) : Tab (F := F) c := V m c main_arg0
abbrev wdM (c : Dev nD) : WD (F := F) c := V m c main_arg2

/-- A window's block at a point, read off its array as launched. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The state between points: the table, the generator register, and what the body finds at the point. -/
def stateAt (c : Dev nD) (n : Nat) (_ : n ≤ (cfgM m).N) : sProp 𝕄 :=
  iprop(tabP c (tabM m c) ∗ (∃ r, prngReg (c : Thread nD τ).1 r) ∗ core c (tabM m c) (wdM m c) n)

/-- The proof data: arrays as the call finds them; after the body the blocks of rows and row weights in place and the
    tile's result stored. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => tileAt c (tabM m c) (wdM m c) t (iblk m c 0 t) (iblk m c 1 t)
  Φ j := stateAt m c j.val (Nat.le_of_lt_succ j.isLt)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; rfl
theorem after0_1 (c : Dev nD) (t : Fin (cfgM m).N) : (dats m 0 c).after 1 t = iblk m c 1 t := by dsimp only [dats]; rfl
theorem after0_2 (c : Dev nD) (t : Fin (cfgM m).N) :
    (dats m 0 c).after 2 t = tileAt c (tabM m c) (wdM m c) t (iblk m c 0 t) (iblk m c 1 t) := by dsimp only [dats]; rfl

/-- The staging buffers of the rows and of the row weights hold their blocks at every point. -/
theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- The staging buffers of a point. -/
abbrev st0_0 (t : Fin (cfgM m).N) : Memref sig .tc .vmem S256x1536 .bf16 := spec0_0.stage ((cfgM m).slots t 0)
abbrev st0_1 (t : Fin (cfgM m).N) : Memref sig .tc .vmem S256x1 .f32 := spec0_1.stage ((cfgM m).slots t 1)
abbrev st0_2 (t : Fin (cfgM m).N) : Memref sig .tc .vmem S256x32x128 .f32 := spec0_2.stage ((cfgM m).slots t 2)

/-- The body as a point calls it. -/
abbrev bodyAt0 (t : Fin (cfgM m).N) : Prog (TpuEff nD τ sig (Elt F) Λ₀ .tc) PUnit :=
  bodyAt (F := F) (grid0.coords t) (st0_0 m t) (hstage0_0 (((cfgM m).slots t 0).cast nbuf0_0)) (st0_1 m t) (hstage0_1 (((cfgM m).slots t 1).cast nbuf0_1))
    (st0_2 m t) (hstage0_2 (((cfgM m).slots t 2).cast nbuf0_2))

/-- What the body is called with at a point, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d)))
def bodyPost (c : Dev nD) (t : Fin (cfgM m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t))

theorem Phi_before (c : Dev nD) (t : Fin (cfgM m).N) :
    (dats m 0 c).Φ t.castSucc = stateAt m c t.val (Nat.le_of_lt t.isLt) := by
  dsimp only [dats]; exact Pipeline.Dat.Φ_castSucc (stateAt m c) t
theorem Phi_after (c : Dev nD) (t : Fin (cfgM m).N) :
    (dats m 0 c).Φ t.succ = stateAt m c (t.val + 1) t.isLt := by
  dsimp only [dats]; rfl

set_option maxHeartbeats 800000 in
/-- The body at any point. -/
theorem sound_body (c : Dev nD) (hw : Runs (words c (tabM m c))) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1]
  rw [Phi_before, Phi_after, after0_0, after0_1, after0_2]
  unfold stateAt Dat.owesAt
  iintro ⟨⟨HT, HP, HC⟩, ⟨%W, %_, HO⟩, ⟨%d0, H0⟩, ⟨%d1, H1⟩, ⟨%d2, H2⟩⟩
  iapply (step c (tabM m c) hw (wdM m c) t _ _ _ _ _ _ (iblk m c 0 t) (iblk m c 1 t) _)
  isplitl [HT]; · iexact HT
  isplitl [HC]; · iexact HC
  isplitl [H0]; · iexact H0
  isplitl [H1]; · iexact H1
  isplitl [H2]; · iexists _; iexact H2
  isplitl [HO]; · iexists _; iexact HO
  iintro ⟨HT, HC, H0, H1, H2, ⟨%W', HO⟩⟩
  isplitl [HT HP HC]
  · isplitl [HT]; · iexact HT
    isplitl [HP]; · iexact HP
    iexact HC
  isplitl [HO]
  · iexists W'
    isplitr
    · ipureintro; exact fun _ _ => Or.inl trivial
    iexact HO
  isplitl [H0]; · iexact H0
  isplitl [H1]; · iexact H1
  iexact H2

/-- The body table's row at a point's slots is the body. -/
theorem defs₀_row (t : Fin (cfgM m).N) :
    defs₀ (F := F) .tc (cfgM m).body ((cfgM m).bodyArgs t ((cfgM m).slots t)) = bodyAt0 m t := by
  unfold defs₀; rw [Defs.onTc_tc]

/-- A tile is either a real one or not, so the body stores its output block at every point. -/
theorem idle_2 (t : Fin (cfgM m).N) : (cfgM m).idle 2 ((cfgM m).grid.coords t) = false := by
  show idle0 (adm m).1 2 (grid0.coords t) = false
  show (!(k0_cond4 ((adm m).1.atD 0 (k0_off8 (grid0.coords t))) == 1#1) && !(k0_cond5 ((adm m).1.atD 0 (k0_off8 (grid0.coords t))) == 1#1)) = false
  rcases cond45 ((adm m).1.atD 0 (k0_off8 (grid0.coords t))) with ⟨h, _⟩ | ⟨_, h⟩
  · rw [h]; rfl
  · rw [h, Bool.and_comm]; rfl

/-- What the obligation asks of the output's buffer, by whether the point leaves it unwritten. -/
def outBack (c : Dev nD) (t : Fin (cfgM m).N) (b : Bool) : sProp 𝕄 :=
  match b with
  | true =>
    match ((cfgM m).win 2).flush t with
    | false => iprop(∃ d, owns (c : Thread nD τ) (st0_2 m t) fullShare ((dats m 0 c).before 2 t d))
    | true => owns (c : Thread nD τ) (st0_2 m t) fullShare ((dats m 0 c).after 2 t)
  | false => owns (c : Thread nD τ) (st0_2 m t) fullShare ((dats m 0 c).after 2 t)

/-- The pipeline's obligation on the body, at every point. -/
theorem body_obligation (c : Dev nD) (hw : Runs (words c (tabM m c))) :
    BodyObligation (dats m 0 c) (defs₀ (F := F)) Variants.none () Set.univ := fun t => by
  rw [bigSep_W0, bigSep_W0, defs₀_row]
  refine triple_restated (sound_body m c hw t) rfl .rfl fun _ => ?_
  show bodyPost m c t ⊢ iprop((dats m 0 c).Φ t.succ ∗ (dats m 0 c).owesAt () t.succ
    ∗ owns (c : Thread nD τ) (st0_0 m t) fullShare ((dats m 0 c).after 0 t) ∗ owns (c : Thread nD τ) (st0_1 m t) fullShare ((dats m 0 c).after 1 t)
    ∗ outBack m c t ((cfgM m).idle 2 ((cfgM m).grid.coords t)))
  rw [idle_2]
  exact .rfl

/-! ## What the call hands the body at first and takes back at the end -/

/-- The landing buffer as the copies address it is the whole of it. -/
theorem slot_set : slot.view.set = Finset.univ := by
  refine ((View.set_reshape _ _).trans (View.set_slice_whole _ _)).trans ?_
  ext i
  simp only [Finset.mem_univ, iff_true]
  refine (Rect.mem_set_unit).2 fun a => ?_
  match a with
  | 0 => exact ⟨Nat.zero_le _, show (i 0).val < 0 + 1 from (Nat.zero_add 1).symm ▸ (i 0).isLt⟩
  | 1 => exact ⟨Nat.zero_le _, show (i 1).val < 0 + 1536 from (Nat.zero_add 1536).symm ▸ (i 1).isLt⟩
  | 2 => exact ⟨Nat.zero_le _, show (i 2).val < 0 + 4096 from (Nat.zero_add 4096).symm ▸ (i 2).isLt⟩
theorem slot_whole (c : Dev nD) (f : Buf (Elt F) ((c : Thread nD τ).loc cc0_scratch0)) :
    ((slot.view.loc (c : Thread nD τ) ↦[slot.view.set]{fullShare} f) : sProp 𝕄) = ((c : Thread nD τ).loc cc0_scratch0 ↦{fullShare} f) := by
  rw [slot_set]
theorem slot_some (c : Dev nD) : (iprop(∃ f, (c : Thread nD τ).loc cc0_scratch0 ↦{fullShare} f) : sProp 𝕄)
    = iprop(∃ f, slot.view.loc (c : Thread nD τ) ↦[slot.view.set]{fullShare} f) :=
  congrArg (fun P : Buf (Elt F) ((c : Thread nD τ).loc cc0_scratch0) → sProp 𝕄 => iprop(∃ f, P f)) (funext fun f => (slot_whole c f).symm)

/-- The body's own semaphore. -/
abbrev osem0 : Fin 1 → SemLoc sig := fun _ => .dma semW
theorem own0 : Pipeline.OwnSemFacts spec0 osem0 := by decide
/-- The array the body copies from itself. -/
abbrev H0 : Finset (Ref sig .tc) := {main_arg2}
theorem H0_sub : H0 ⊆ Pipeline.restRefsP sig pre0 spec0 := by decide

theorem tableHalf_eq (c : Dev nD) : (Pipeline.ΦT pre0 (tbl m) c : sProp 𝕄) = ((c : Thread nD τ).loc main_arg0 ↦{fullShare.right} tbl m 0) := by
  unfold Pipeline.ΦT Pipeline.prefHeld
  rw [show (Finset.univ : Finset (Fin 1)) = {(0 : Fin 1)} from by decide, bigSep_singleton]; rfl
theorem ownSems_eq (c : Dev nD) : (Pipeline.ownSems0 osem0 c : sProp 𝕄) = semVal ((c : Thread nD τ), SemLoc.dma semW) 0 :=
  bigSep_univ_eq_bigSepL [(0 : Fin 1)] (by decide) (by decide) _
theorem lent_eq (c : Dev nD) : (bigSep H0 fun b => (((c : Thread nD τ).loc b) ↦{fullShare} V m c b) : sProp 𝕄)
    = ((c : Thread nD τ).loc main_arg2 ↦{fullShare} wdM m c) := by
  exact bigSep_eq_bigSepL_of_eq [main_arg2] (by decide) (by decide) _

theorem lent_in (c : Dev nD) :
    iprop(Pipeline.ΦD osem0 spec0 H0 (V m) c ∗ Pipeline.ΦT pre0 (tbl m) c) ⊢ (dats m 0 c).Φ 0 := by
  rw [tableHalf_eq, Pipeline.ΦD_eq, scopedRest0_eq, slot_some, ownSems_eq, lent_eq]
  obtain rfl : c = 0 := Subsingleton.elim _ _
  show _ ⊢ stateAt m 0 0 (Nat.zero_le _)
  unfold stateAt core
  iintro ⟨⟨⟨HF, ⟨%b, HB⟩⟩, HP, HS, HW⟩, HT⟩
  isplitl [HT]; · iexact HT
  isplitl [HP]; · iexact HP
  isplitr [HB]; swap
  · iexists _; iexact HB
  unfold resting
  isplitl [HF]; · iexact HF
  isplitl [HW]; · iexact HW
  iexact HS

theorem lent_out (c : Dev nD) (hw : Runs (words c (tabM m c))) :
    (dats m 0 c).Φ (Fin.last (cfgM m).N) ⊢ Pipeline.ΦD osem0 spec0 H0 (V m) c := by
  rw [Pipeline.ΦD_eq, scopedRest0_eq, slot_some, ownSems_eq, lent_eq]
  have hN : (cfgM m).N = 79 + 1 := N_0
  show stateAt m c (cfgM m).N (Nat.le_refl _) ⊢ _
  unfold stateAt
  rw [hN]
  unfold core moving
  dsimp only
  rw [if_pos (show words c (tabM m c) 4 (row 79) = 1#32 from hw.last)]
  unfold resting loaded
  iintro ⟨-, HP, ⟨HF, HW, HS⟩, ⟨%b, -, HB⟩⟩
  isplitl [HF HB]
  · isplitl [HF]; · iexact HF
    iexists _; iexact HB
  isplitl [HP]; · iexact HP
  isplitl [HS]; · iexact HS
  iexact HW

/-! ## The call -/

set_option maxHeartbeats 800000 in
set_option backward.isDefEq.respectTransparency.types false in
/-- The program runs to its end, its arrays as the points leave them and every semaphore back at zero. -/
theorem run_of (hw : ∀ c : Dev nD, Runs (words c (tabM m c))) :
    θ_run defs (onTc main) ⟨m, fun _ => 0, ρ⟩ fun r =>
      Pipeline.FramePost (Pipeline.pin (pcfgs (F := F)) (fun _ => adm m)) (dats m) (0 : Fin 1) (V m) r ∧ r.2.sem = fun _ => 0 :=
  Pipeline.θ_run_frameP_dma (Q' := _) pcfgs (fun _ => adm m) (dats m) (0 : Fin 1) launch0 osem0 defs₀ Variants.none own0 H0 H0_sub m ρ main
    (hbody := fun c => (body_obligation m c (hw c)).loose)
    (hshare := fun c => (dats m 0 c).share_full fun _ => rfl)
    (howed := fun _ _ => rfl)
    (V := V m)
    (hmain := Pipeline.hmainP_prefix pcfgs 0 defs₀ Variants.none m main hostOps0 hostOps0_sub host_fresh main_chain)
    (hA := A_eq m)
    (hpf := V_pre m)
    (hin := lent_in m)
    (hout := fun c => lent_out m c (hw c))

/-- A word as the body reads it is the table's element. -/
theorem words_word (c : Dev nD) (tab : Tab (F := F) c) : words c tab = word tab := by
  funext r i
  refine congrArg tab (funext fun a => Fin.ext ?_)
  match a with
  | 0 => exact Nat.add_zero _
  | 1 => exact Nat.add_zero _

/-- What a run table's words are to the body. -/
theorem runs_words (c : Dev nD) (h : Runs (word (m ((c : Thread nD τ).loc main_arg0)))) : Runs (words c (tabM m c)) := by
  rw [words_word, tabM, V_arg0]
  exact h

theorem rest0 : main_arg0 ∈ Pipeline.restRefs sig spec0 := Pipeline.mem_restRefs_of main_arg0 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)

/-- At a run table the call leaves its arguments as they were and every semaphore at zero. -/
theorem frame_of (hw : ∀ c : Dev nD, Runs (word (m ((c : Thread nD τ).loc main_arg0)))) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun _ h => ⟨fun c =>
    ⟨((h.1 c).2 main_arg0 rest0).trans (V_arg0 m c),
     ((h.1 c).1 0).trans (((dats m 0 c).arrAt_in 0 rfl _).trans ((A_eq m c 0).trans (V_arg1 m c))),
     ((h.1 c).2 main_arg2 rest2).trans (V_arg2 m c),
     ((h.1 c).2 main_arg3 rest3).trans (V_arg3 m c)⟩, h.2⟩)
    (run_of m ρ fun c => runs_words m c (hw c))

/-- At a run table the call ends with its result array as the points leave it, its arguments as they were. -/
theorem result_of (hw : ∀ c : Dev nD, Runs (word (m ((c : Thread nD τ).loc main_arg0)))) :
    θ_run (defs (F := F)) (onTc (τ := τ) (main (F := F))) ⟨m, fun _ => 0, ρ⟩ fun r => ∀ c : Dev nD,
      r.2.mem ((c.tc : Thread nD τ).loc main_v1) = (dats m 0 c).arrAt 2 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c =>
    ⟨(h.1 c).1 2,
     ((h.1 c).2 main_arg0 rest0).trans (V_arg0 m c),
     ((h.1 c).1 0).trans (((dats m 0 c).arrAt_in 0 rfl _).trans ((A_eq m c 0).trans (V_arg1 m c))),
     ((h.1 c).2 main_arg2 rest2).trans (V_arg2 m c),
     ((h.1 c).2 main_arg3 rest3).trans (V_arg3 m c)⟩)
    (run_of m ρ fun c => runs_words m c (hw c))

end Cert.Proof.Down

end
-- ==== Proof.DownRef.lean ====
module

public import proofs.«01_k».proof.Proof.Gen.ReferenceDownIdeal.Run
public import proofs.«01_k».proof.Proof.UpRef
public import Idealize.ShloMosaic.Lib.Pipeline.Value

/-! # The down call's reference, entry by entry

The reference adds, over the sixteen experts, the weighted product of the rows with that expert's weights where the row
belongs to the expert. A row belongs to its tile's expert, or to none where its tile is not a real one, so the sum is the one
term of its expert, or zero. -/

@[expose] public section

set_option maxRecDepth 16384

noncomputable section

namespace Cert.Proof.DownRef

open Cert.ReferenceDownIdeal Cert.ReferenceDownIdeal.Gen Cert.ReferenceDownIdeal.Value
open Cert.Proof.UpRuns (word)
open Cert.Proof.UpRef (owner tileOf select_eq pick)
open Idealize.ShloMosaic Idealize.ShloMosaic.TcCoe Idealize.ShloMosaic.StableHlo Idealize.SL.Sem

/-- A row of the gated products times a column of one expert's weights. -/
def prod (x : FVec Ideal S20480x1536 .bf16) (w : FVec Ideal S2x16x1536x4096 .f32) (e : Fin 16) (r : Fin 20480) (j : Fin 4096) : EReal :=
  ∑ k : Fin 1536, x (ix2 r k) * w (ix4 0 e k j)

/-- One product of the reference at an entry. -/
theorem prod_at (x : FVec Ideal S20480x1536 .bf16) (w : FVec Ideal S2x16x1536x4096 .f32) (e : Fin 16) (off : Fin 4 → Nat)
    (h : S2x16x1536x4096.Slices off S1x1x1536x4096) (ho : off = ![0, e.val, 0, 0]) (r : Fin 20480) (j : Fin 4096) :
    Host.dotGeneral dot_S20480x1536_S1536x4096_S20480x4096_1_0_0_1_n_n none (extf .f32 x bitsLt_bf16_f32)
      (shapeCast S1536x4096 (extractStridedSlice S1x1x1536x4096 off w h) shapeCasts_S1x1x1536x4096_S1536x4096) (ix2 r j) = prod x w e r j := by
  subst ho
  unfold prod
  pointwise

/-- One term of the reference's sum at an entry. -/
theorem term_at (acc p : FVec Ideal S20480x4096 .f32) (rw : FVec Ideal S20480 .f32) (o : IVec S20480x1 32) (n : BitVec 32) (r : Fin 20480) (j : Fin 4096) :
    addf acc (select (broadcastInDim S20480x4096 ![0, 1] bcast_S20480x1_S20480x4096_0_1 (cmpi .eq o (broadcastInDim S20480x1 ![] bcast_S_S20480x1 (constantI S_ 32 n))))
      (mulf (broadcastInDim S20480x4096 ![0, 1] bcast_S20480x1_S20480x4096_0_1 (broadcastInDim S20480x1 ![0] bcast_S20480_S20480x1_0 rw)) p)
      (broadcastInDim S20480x4096 ![] bcast_S_S20480x4096 (id (constant S_ .f32 0x00000000#32)))) (ix2 r j)
    = acc (ix2 r j) + (if o (ix2 r 0) = n then rw (ix1 r) * p (ix2 r j) else 0) := by
  have h0 : ((id (constant (F := Ideal) S_ .f32 0x00000000#32)) ix0 : EReal) = 0 := by
    show (constant (F := Ideal) S_ .f32 0x00000000#32) ix0 = 0
    pointwise
  pointwise
  rw [select_eq, h0]

/-- The same, from what stands at the entry before it. -/
theorem step_at (acc p : FVec Ideal S20480x4096 .f32) (rw : FVec Ideal S20480 .f32) (o : IVec S20480x1 32) (n : BitVec 32) (r : Fin 20480) (j : Fin 4096)
    {A Q : EReal} {w : BitVec 32} (ha : acc (ix2 r j) = A) (hp : p (ix2 r j) = Q) (ho : o (ix2 r 0) = w) :
    addf acc (select (broadcastInDim S20480x4096 ![0, 1] bcast_S20480x1_S20480x4096_0_1 (cmpi .eq o (broadcastInDim S20480x1 ![] bcast_S_S20480x1 (constantI S_ 32 n))))
      (mulf (broadcastInDim S20480x4096 ![0, 1] bcast_S20480x1_S20480x4096_0_1 (broadcastInDim S20480x1 ![0] bcast_S20480_S20480x1_0 rw)) p)
      (broadcastInDim S20480x4096 ![] bcast_S_S20480x4096 (id (constant S_ .f32 0x00000000#32)))) (ix2 r j)
    = A + (if w = n then rw (ix1 r) * Q else 0) := by
  subst ha hp ho
  exact term_at acc p rw o n r j

/-- The word of a row's expert as the reference spreads it. -/
theorem owner_at (V0 : Valuation τ sig (Elt Ideal)) (r : Fin 20480) :
    res_main_v10 V0 (ix2 r 0) = owner (V0 (Proc.devRef .tc main_arg0)) (tileOf r) := by
  unfold res_main_v10
  pointwise
  rw [select_eq]
  rfl

/-- One product of the reference at an entry, from its arguments. -/
theorem from_rows (V0 : Valuation τ sig (Elt Ideal)) (w : FVec Ideal S2x16x1536x4096 .f32) (e : Fin 16) (off : Fin 4 → Nat)
    (h : S2x16x1536x4096.Slices off S1x1x1536x4096) (ho : off = ![0, e.val, 0, 0]) (r : Fin 20480) (j : Fin 4096) :
    Host.dotGeneral (F := Ideal) (φ₁ := .f32) (φ₂ := .f32) dot_S20480x1536_S1536x4096_S20480x4096_1_0_0_1_n_n none (res_main_v0 V0 : FVec Ideal S20480x1536 .f32)
      (shapeCast S1536x4096 (extractStridedSlice S1x1x1536x4096 off w h) shapeCasts_S1x1x1536x4096_S1536x4096) (ix2 r j)
      = prod (V0 (Proc.devRef .tc main_arg1)) w e r j := prod_at _ w e off h ho r j

/-- The sum begins at zero. -/
theorem zero_at (r : Fin 20480) (j : Fin 4096) :
    (broadcastInDim S20480x4096 ![] bcast_S_S20480x4096 (constant (F := Ideal) S_ .f32 0x00000000#32)) (ix2 r j) = (0 : EReal) := by
  pointwise

/-- The column a block's lane is. -/
def colOf (s : Fin 32) (l : Fin 128) : Fin 4096 := ⟨128 * s.val + l.val, by have := s.isLt; have := l.isLt; omega⟩

/-- The result lays the columns out by blocks of 128. -/
theorem lay_at (v : FVec Ideal S20480x4096 .f32) (r : Fin 20480) (s : Fin 32) (l : Fin 128) :
    shapeCast S20480x32x128 v shapeCasts_S20480x4096_S20480x32x128 (ix3 r s l) = v (ix2 r (colOf s l)) := by
  refine shapeCast_apply v shapeCasts_S20480x4096_S20480x32x128 (ix3 r s l) (ix2 r (colOf s l)) ?_
  refine (Shape.rowMajor_val_two (d := ![20480, 4096]) _).trans (Eq.trans ?_ (Shape.rowMajor_val_three (d := ![20480, 32, 128]) _).symm)
  show r.val * 4096 + (128 * s.val + l.val) = (r.val * 32 + s.val) * 128 + l.val
  omega

/-- The row's weight times the product with an expert's weights. -/
def weighted (x : FVec Ideal S20480x1536 .bf16) (w : FVec Ideal S2x16x1536x4096 .f32) (rw : FVec Ideal S20480 .f32) (e : Fin 16) (r : Fin 20480)
    (j : Fin 4096) : EReal := rw (ix1 r) * prod x w e r j

/-- An entry of the result: the row's weight times the product with the row's expert's weights, or zero. -/
def entry (tab : IVec S5x80 32) (x : FVec Ideal S20480x1536 .bf16) (w : FVec Ideal S2x16x1536x4096 .f32) (rw : FVec Ideal S20480 .f32)
    (r : Fin 20480) (j : Fin 4096) : EReal :=
  if h : (owner tab (tileOf r)).toNat < 16 then weighted x w rw ⟨_, h⟩ r j else 0

/-- The result array. -/
def array (tab : IVec S5x80 32) (x : FVec Ideal S20480x1536 .bf16) (w : FVec Ideal S2x16x1536x4096 .f32) (rw : FVec Ideal S20480 .f32) :
    FVec Ideal S20480x32x128 .f32 :=
  fun y => entry tab x w rw (y 0) (colOf (y 1) (y 2))

set_option maxHeartbeats 2000000 in
/-- The reference's composed term at an entry. -/
theorem term_entry (V0 : Valuation τ sig (Elt Ideal)) (r : Fin 20480) (j : Fin 4096) :
    (addf (addf (addf (addf (res_main_v131 V0) (select (broadcastInDim S20480x4096 ![0, 1] bcast_S20480x1_S20480x4096_0_1 (cmpi .eq (res_main_v10 V0) (broadcastInDim S20480x1 ![] bcast_S_S20480x1 (constantI S_ 32 12#32)))) (mulf (broadcastInDim S20480x4096 ![0, 1] bcast_S20480x1_S20480x4096_0_1 (broadcastInDim S20480x1 ![0] bcast_S20480_S20480x1_0 (V0 (Proc.devRef .tc main_arg3)))) (Host.dotGeneral (F := Ideal) (φ₁ := .f32) (φ₂ := .f32) dot_S20480x1536_S1536x4096_S20480x4096_1_0_0_1_n_n none (res_main_v0 V0 : FVec Ideal S20480x1536 .f32) (shapeCast _ (extractStridedSlice S1x1x1536x4096 ![0, 12, 0, 0] (V0 (Proc.devRef .tc main_arg2) : FVec Ideal S2x16x1536x4096 .f32) slices_S2x16x1536x4096_S1x1x1536x4096_0_12_0_0) shapeCasts_S1x1x1536x4096_S1536x4096))) (broadcastInDim S20480x4096 ![] bcast_S_S20480x4096 (id (constant S_ .f32 0x00000000#32))))) (select (broadcastInDim S20480x4096 ![0, 1] bcast_S20480x1_S20480x4096_0_1 (cmpi .eq (res_main_v10 V0) (broadcastInDim S20480x1 ![] bcast_S_S20480x1 (constantI S_ 32 13#32)))) (mulf (broadcastInDim S20480x4096 ![0, 1] bcast_S20480x1_S20480x4096_0_1 (broadcastInDim S20480x1 ![0] bcast_S20480_S20480x1_0 (V0 (Proc.devRef .tc main_arg3)))) (Host.dotGeneral (F := Ideal) (φ₁ := .f32) (φ₂ := .f32) dot_S20480x1536_S1536x4096_S20480x4096_1_0_0_1_n_n none (res_main_v0 V0 : FVec Ideal S20480x1536 .f32) (shapeCast _ (extractStridedSlice S1x1x1536x4096 ![0, 13, 0, 0] (V0 (Proc.devRef .tc main_arg2) : FVec Ideal S2x16x1536x4096 .f32) slices_S2x16x1536x4096_S1x1x1536x4096_0_13_0_0) shapeCasts_S1x1x1536x4096_S1536x4096))) (broadcastInDim S20480x4096 ![] bcast_S_S20480x4096 (id (constant S_ .f32 0x00000000#32))))) (select (broadcastInDim S20480x4096 ![0, 1] bcast_S20480x1_S20480x4096_0_1 (cmpi .eq (res_main_v10 V0) (broadcastInDim S20480x1 ![] bcast_S_S20480x1 (constantI S_ 32 14#32)))) (mulf (broadcastInDim S20480x4096 ![0, 1] bcast_S20480x1_S20480x4096_0_1 (broadcastInDim S20480x1 ![0] bcast_S20480_S20480x1_0 (V0 (Proc.devRef .tc main_arg3)))) (Host.dotGeneral (F := Ideal) (φ₁ := .f32) (φ₂ := .f32) dot_S20480x1536_S1536x4096_S20480x4096_1_0_0_1_n_n none (res_main_v0 V0 : FVec Ideal S20480x1536 .f32) (shapeCast _ (extractStridedSlice S1x1x1536x4096 ![0, 14, 0, 0] (V0 (Proc.devRef .tc main_arg2) : FVec Ideal S2x16x1536x4096 .f32) slices_S2x16x1536x4096_S1x1x1536x4096_0_14_0_0) shapeCasts_S1x1x1536x4096_S1536x4096))) (broadcastInDim S20480x4096 ![] bcast_S_S20480x4096 (id (constant S_ .f32 0x00000000#32))))) (select (broadcastInDim S20480x4096 ![0, 1] bcast_S20480x1_S20480x4096_0_1 (cmpi .eq (res_main_v10 V0) (broadcastInDim S20480x1 ![] bcast_S_S20480x1 (constantI S_ 32 15#32)))) (mulf (broadcastInDim S20480x4096 ![0, 1] bcast_S20480x1_S20480x4096_0_1 (broadcastInDim S20480x1 ![0] bcast_S20480_S20480x1_0 (V0 (Proc.devRef .tc main_arg3)))) (Host.dotGeneral (F := Ideal) (φ₁ := .f32) (φ₂ := .f32) dot_S20480x1536_S1536x4096_S20480x4096_1_0_0_1_n_n none (res_main_v0 V0 : FVec Ideal S20480x1536 .f32) (shapeCast _ (extractStridedSlice S1x1x1536x4096 ![0, 15, 0, 0] (V0 (Proc.devRef .tc main_arg2) : FVec Ideal S2x16x1536x4096 .f32) slices_S2x16x1536x4096_S1x1x1536x4096_0_15_0_0) shapeCasts_S1x1x1536x4096_S1536x4096))) (broadcastInDim S20480x4096 ![] bcast_S_S20480x4096 (id (constant S_ .f32 0x00000000#32))))) (ix2 r j)
    = entry (V0 (Proc.devRef .tc main_arg0)) (V0 (Proc.devRef .tc main_arg1)) (V0 (Proc.devRef .tc main_arg2)) (V0 (Proc.devRef .tc main_arg3)) r j := by
  have h1 := step_at _ _ (V0 (Proc.devRef .tc main_arg3)) _ 5#32 r j (step_at _ _ (V0 (Proc.devRef .tc main_arg3)) _ 4#32 r j (step_at _ _ (V0 (Proc.devRef .tc main_arg3)) _ 3#32 r j (step_at _ _ (V0 (Proc.devRef .tc main_arg3)) _ 2#32 r j (step_at _ _ (V0 (Proc.devRef .tc main_arg3)) _ 1#32 r j (step_at _ _ (V0 (Proc.devRef .tc main_arg3)) _ 0#32 r j (zero_at r j)
      (from_rows V0 (V0 (Proc.devRef .tc main_arg2)) 0 ![0, 0, 0, 0] slices_S2x16x1536x4096_S1x1x1536x4096_0_0_0_0 rfl r j) (owner_at V0 r))
      (from_rows V0 (V0 (Proc.devRef .tc main_arg2)) 1 ![0, 1, 0, 0] slices_S2x16x1536x4096_S1x1x1536x4096_0_1_0_0 rfl r j) (owner_at V0 r))
      (from_rows V0 (V0 (Proc.devRef .tc main_arg2)) 2 ![0, 2, 0, 0] slices_S2x16x1536x4096_S1x1x1536x4096_0_2_0_0 rfl r j) (owner_at V0 r))
      (from_rows V0 (V0 (Proc.devRef .tc main_arg2)) 3 ![0, 3, 0, 0] slices_S2x16x1536x4096_S1x1x1536x4096_0_3_0_0 rfl r j) (owner_at V0 r))
      (from_rows V0 (V0 (Proc.devRef .tc main_arg2)) 4 ![0, 4, 0, 0] slices_S2x16x1536x4096_S1x1x1536x4096_0_4_0_0 rfl r j) (owner_at V0 r))
      (from_rows V0 (V0 (Proc.devRef .tc main_arg2)) 5 ![0, 5, 0, 0] slices_S2x16x1536x4096_S1x1x1536x4096_0_5_0_0 rfl r j) (owner_at V0 r)
  have h2 := step_at _ _ (V0 (Proc.devRef .tc main_arg3)) _ 11#32 r j (step_at _ _ (V0 (Proc.devRef .tc main_arg3)) _ 10#32 r j (step_at _ _ (V0 (Proc.devRef .tc main_arg3)) _ 9#32 r j (step_at _ _ (V0 (Proc.devRef .tc main_arg3)) _ 8#32 r j (step_at _ _ (V0 (Proc.devRef .tc main_arg3)) _ 7#32 r j (step_at _ _ (V0 (Proc.devRef .tc main_arg3)) _ 6#32 r j (show res_main_v71 V0 (ix2 r j) = _ from h1)
      (from_rows V0 (V0 (Proc.devRef .tc main_arg2)) 6 ![0, 6, 0, 0] slices_S2x16x1536x4096_S1x1x1536x4096_0_6_0_0 rfl r j) (owner_at V0 r))
      (from_rows V0 (V0 (Proc.devRef .tc main_arg2)) 7 ![0, 7, 0, 0] slices_S2x16x1536x4096_S1x1x1536x4096_0_7_0_0 rfl r j) (owner_at V0 r))
      (from_rows V0 (V0 (Proc.devRef .tc main_arg2)) 8 ![0, 8, 0, 0] slices_S2x16x1536x4096_S1x1x1536x4096_0_8_0_0 rfl r j) (owner_at V0 r))
      (from_rows V0 (V0 (Proc.devRef .tc main_arg2)) 9 ![0, 9, 0, 0] slices_S2x16x1536x4096_S1x1x1536x4096_0_9_0_0 rfl r j) (owner_at V0 r))
      (from_rows V0 (V0 (Proc.devRef .tc main_arg2)) 10 ![0, 10, 0, 0] slices_S2x16x1536x4096_S1x1x1536x4096_0_10_0_0 rfl r j) (owner_at V0 r))
      (from_rows V0 (V0 (Proc.devRef .tc main_arg2)) 11 ![0, 11, 0, 0] slices_S2x16x1536x4096_S1x1x1536x4096_0_11_0_0 rfl r j) (owner_at V0 r)
  exact (step_at _ _ (V0 (Proc.devRef .tc main_arg3)) _ 15#32 r j (step_at _ _ (V0 (Proc.devRef .tc main_arg3)) _ 14#32 r j (step_at _ _ (V0 (Proc.devRef .tc main_arg3)) _ 13#32 r j (step_at _ _ (V0 (Proc.devRef .tc main_arg3)) _ 12#32 r j (show res_main_v131 V0 (ix2 r j) = _ from h2)
      (from_rows V0 (V0 (Proc.devRef .tc main_arg2)) 12 ![0, 12, 0, 0] slices_S2x16x1536x4096_S1x1x1536x4096_0_12_0_0 rfl r j) (owner_at V0 r))
      (from_rows V0 (V0 (Proc.devRef .tc main_arg2)) 13 ![0, 13, 0, 0] slices_S2x16x1536x4096_S1x1x1536x4096_0_13_0_0 rfl r j) (owner_at V0 r))
      (from_rows V0 (V0 (Proc.devRef .tc main_arg2)) 14 ![0, 14, 0, 0] slices_S2x16x1536x4096_S1x1x1536x4096_0_14_0_0 rfl r j) (owner_at V0 r))
      (from_rows V0 (V0 (Proc.devRef .tc main_arg2)) 15 ![0, 15, 0, 0] slices_S2x16x1536x4096_S1x1x1536x4096_0_15_0_0 rfl r j) (owner_at V0 r)).trans
    (pick _ fun e => weighted (V0 (Proc.devRef .tc main_arg1)) (V0 (Proc.devRef .tc main_arg2)) (V0 (Proc.devRef .tc main_arg3)) e r j)

/-- The reference ends with its result array at `array` of its arguments, its arguments as they were. -/
theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v172) = array (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (funext fun y => by
    obtain ⟨i, s, l, rfl⟩ : ∃ (i : Fin 20480) (s : Fin 32) (l : Fin 128), y = ix3 i s l := ⟨y 0, y 1, y 2, eq_ix3 y⟩
    exact (lay_at _ i s l).trans (term_entry (launchContents m c) i (colOf s l))), (h c).2⟩)
    (Cert.ReferenceDownIdeal.Value.run (F := Ideal) m ρ)

/-- The reference leaves its arguments as they were; it has no semaphore, so every counter ends at zero. -/
theorem kept (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => (h c).2, sem_eq_zero_of_no_sems (by decide) r.2⟩)
    (Cert.ReferenceDownIdeal.Value.run (F := Ideal) m ρ)

end Cert.Proof.DownRef

end
-- ==== Proof.DownValue.lean ====
module

public import proofs.«01_k».proof.Proof.DownFrame
public import proofs.«01_k».proof.Proof.DownRef
public import Idealize.ShloMosaic.Lib.Pipeline.Covers
public import Idealize.ShloMosaic.Lib.WordCmp

/-! # The down kernel's array, entry by entry

A point stores the block of its tile's rows; over the grid the blocks fill the array, and what a point stores at an entry is
the reference's entry there. -/

@[expose] public section

set_option maxRecDepth 16384

noncomputable section

namespace Cert.Proof.Down

open Cert.KernelDownIdeal Cert.KernelDownIdeal.Gen Cert.Proof.UpRuns
open Idealize.ShloMosaic Idealize.ShloMosaic.TcCoe Idealize.SL.Sem
open Idealize.ShloMosaic.Pipeline (Dat)
open Cert.Proof.DownRef (colOf)

variable (m : (ℓ : Loc nD τ sig) → Buf (Elt Ideal) ℓ)

/-- The row of the array a tile's row is. -/
def rowAt (t : Fin 80) (i : Fin 256) : Fin 20480 := ⟨(row t.val).val * 256 + i.val, by have := (row t.val).isLt; omega⟩

/-- The windows' block indices at every grid point. -/
theorem idx0 (t : Fin (cfgM m).N) : ((cfgM m).win 0).index t = ![(row t.val).val, 0] := by
  have h : ∀ t : Fin 80, cc0_transform_0 (grid0.coords t) = ![(row t.val).val, 0] := by decide +kernel
  exact h t
theorem idx1 (t : Fin (cfgM m).N) : ((cfgM m).win 1).index t = ![(row t.val).val, 0] := by
  have h : ∀ t : Fin 80, cc0_transform_2 (grid0.coords t) = ![(row t.val).val, 0] := by decide +kernel
  exact h t
theorem idx2 (t : Fin (cfgM m).N) : ((cfgM m).win 2).index t = ![(row t.val).val, 0, 0] := by
  have h : ∀ t : Fin 80, cc0_transform_3 (grid0.coords t) = ![(row t.val).val, 0, 0] := by decide +kernel
  exact h t

/-- The rows' block holds the tile's rows, -/
theorem rows_at (c : Dev nD) (t : Fin (cfgM m).N) (i : Fin 256) (k : Fin 1536) :
    iblk m c 0 t (ix2 i k) = m ((c : Thread nD τ).loc main_arg1) (ix2 (rowAt t i) k) := by
  have he : (((cfgM m).win 0).blk t).view.emb (ix2 i k) = ix2 (rowAt t i) k := by blk_ext [idx0 m t, rowAt]
  exact (congrFun (V_arg1 m c) _).trans (congrArg (m ((c : Thread nD τ).loc main_arg1)) he)

/-- and the row weights' block their weights. -/
theorem column_at (v : Vec Ideal S20480 .f32) (r : Fin 20480) (o : Fin 1) : shapeCast S20480x1 v shapeCasts_S20480_S20480x1 (ix2 r o) = v (ix1 r) := by
  refine shapeCast_apply v shapeCasts_S20480_S20480x1 (ix2 r o) (ix1 r) ?_
  refine (Shape.rowMajor_val_one (d := ![20480]) _).trans (Eq.trans ?_ (Shape.rowMajor_val_two (d := ![20480, 1]) _).symm)
  show r.val = r.val * 1 + o.val
  have := o.isLt
  omega
theorem weights_at (c : Dev nD) (t : Fin (cfgM m).N) (i : Fin 256) (o : Fin 1) :
    iblk m c 1 t (ix2 i o) = m ((c : Thread nD τ).loc main_arg3) (ix1 (rowAt t i)) := by
  have he : (((cfgM m).win 1).blk t).view.emb (ix2 i o) = ix2 (rowAt t i) o := by blk_ext [idx1 m t, rowAt]
  exact (congrFun (V_weights m c) _).trans ((congrArg (shapeCast S20480x1 (m ((c : Thread nD τ).loc main_arg3)) shapeCasts_S20480_S20480x1) he).trans
    (column_at _ _ o))

/-- A slab holds its expert's weights, rounded. -/
theorem src_emb (s : Fin 4 → Nat) (e : Fin 16) (h : s = offs e) (inb : ∀ a, s a + S1x1x1536x4096.size a ≤ S2x16x1536x4096.size a)
    (hn : S1536x4096.numel = S1x1x1536x4096.numel) (k : Fin 1536) (j : Fin 4096) :
    (Rect.unit (s := S2x16x1536x4096) s S1x1x1536x4096.size inb).emb (Shape.reshapeEquiv hn (ix2 k j)) = ix4 (0 : Fin 2) e k j := by
  subst h
  rw [show Shape.reshapeEquiv hn (ix2 k j) = ix4 (0 : Fin 1) (0 : Fin 1) k j from ValueIdx.reshapeEquiv_ix2_11ab hn k j]
  funext a
  refine Fin.ext ?_
  match a with
  | 0 => rfl
  | 1 => show e.val + 1 * 0 = e.val; omega
  | 2 => show 0 + 1 * k.val = k.val; omega
  | 3 => show 0 + 1 * j.val = j.val; omega
theorem slab_at (c : Dev nD) (w : WD (F := Ideal) c) (e : Fin 16) (k : Fin 1536) (j : Fin 4096) :
    slabOf c w e (ix3 0 k j) = w (ix4 0 e k j) := by
  unfold slabOf slab
  pointwise
  exact congrArg w (src_emb _ e rfl (offs_inb e) _ k j)

/-- What the body stores of a real tile, at an entry. -/
theorem stored (x : Vec Ideal S256x1536 .bf16) (b : Vec Ideal S1x1536x4096 .bf16) (r : Vec Ideal S256x1 .f32) (i : Fin 256) (j : Fin 4096) :
    k0_pay7 x b r (ix2 i j) = (∑ k : Fin 1536, x (ix2 i k) * b (ix3 0 k j)) * r (ix2 i 0) := by
  pointwise [k0_pay7]

/-- And of the others. -/
theorem stored_zero (i : Fin 256) (s : Fin 32) (l : Fin 128) : (k0_pay6 (F := Ideal)) (ix3 i s l) = (0 : EReal) := by
  pointwise [k0_pay6]

/-- The blocks fill the array. -/
theorem cover : ((cfgM m).win 2).Covers :=
  ((cfgM m).win 2).covers_of_indexMap_surj rfl (show ∀ a : Fin 3, 0 < S256x32x128.size a by decide) fun β => by
    have h0 : (β (show Fin 3 from 0)).val < 80 := lt_of_lt_of_eq (β (show Fin 3 from 0)).isLt (show (20480 + 256 - 1) / 256 = 80 by decide)
    have h1 : (β (show Fin 3 from 1)).val < 1 := lt_of_lt_of_eq (β (show Fin 3 from 1)).isLt (show (32 + 32 - 1) / 32 = 1 by decide)
    have h2 : (β (show Fin 3 from 2)).val < 1 := lt_of_lt_of_eq (β (show Fin 3 from 2)).isLt (show (128 + 128 - 1) / 128 = 1 by decide)
    generalize hb0 : (β (show Fin 3 from 0)).val = b0 at h0
    generalize hb1 : (β (show Fin 3 from 1)).val = b1 at h1
    generalize hb2 : (β (show Fin 3 from 2)).val = b2 at h2
    refine ⟨grid0.coords ⟨b0, show b0 < 80 by omega⟩, fun a => ?_⟩
    refine (congrFun (idx2 m ⟨b0, show b0 < 80 by omega⟩) a).trans ?_
    match a with
    | ⟨0, _⟩ => exact Eq.trans (show b0 % 80 = b0 by omega) hb0.symm
    | ⟨1, _⟩ => exact Eq.trans (show 0 = b1 by omega) hb1.symm
    | ⟨2, _⟩ => exact Eq.trans (show 0 = b2 by omega) hb2.symm

/-- What a point stores at an entry is the reference's entry there. -/
theorem tile_entry (c : Dev nD) (hw : Runs (word (m ((c : Thread nD τ).loc main_arg0)))) (t : Fin (cfgM m).N) (i : Fin 256) (s : Fin 32) (l : Fin 128) :
    tileAt c (tabM m c) (wdM m c) t (iblk m c 0 t) (iblk m c 1 t) (ix3 i s l)
      = DownRef.entry (m ((c : Thread nD τ).loc main_arg0)) (m ((c : Thread nD τ).loc main_arg1)) (m ((c : Thread nD τ).loc main_arg2))
          (m ((c : Thread nD τ).loc main_arg3)) (rowAt t i) (colOf s l) := by
  have ht : UpRef.tileOf (rowAt t i) = row t.val := Fin.ext (by
    show ((row t.val).val * 256 + i.val) / 256 = (row t.val).val
    have := i.isLt
    omega)
  have hc : k0_cond4 (word (m ((c : Thread nD τ).loc main_arg0)) 1 (row t.val)) = 1#1
      ↔ word (m ((c : Thread nD τ).loc main_arg0)) 1 (row t.val) = 1#32 := by
    unfold k0_cond4
    word_cmp
    exact ⟨fun h => BitVec.eq_of_toNat_eq h, fun h => h ▸ rfl⟩
  unfold tileAt tileOut DownRef.entry
  rw [words_word, tabM, wdM, V_arg0, V_arg2]
  show (if k0_cond4 (word (m ((c : Thread nD τ).loc main_arg0)) 1 (row t.val)) = 1#1 then _ else _ : Vec Ideal S256x32x128 .f32) (ix3 i s l) = _
  unfold UpRef.owner
  rw [ht]
  by_cases h : word (m ((c : Thread nD τ).loc main_arg0)) 1 (row t.val) = 1#32
  · simp only [if_pos (hc.2 h), if_pos h, dif_pos (hw.expert (row t.val))]
    refine (stored _ _ _ i (colOf s l)).trans ?_
    have he : expertOf (word (m ((c : Thread nD τ).loc main_arg0))) (row t.val) = ⟨_, hw.expert (row t.val)⟩ := Fin.ext (expertOf_val hw _)
    unfold DownRef.weighted DownRef.prod
    rw [← he]
    refine (mul_comm _ _).trans ?_
    refine congrArg₂ (· * ·) (weights_at m c t i 0) (Finset.sum_congr rfl fun k _ => ?_)
    exact congrArg₂ (· * ·) (rows_at m c t i k) (slab_at c _ _ k (colOf s l))
  · simp only [if_neg (fun h' => h (hc.1 h')), if_neg h]
    rw [stored_zero]
    rfl

/-- The array at the end is the reference's. -/
theorem final (c : Dev nD) (hw : Runs (word (m ((c : Thread nD τ).loc main_arg0)))) :
    (dats m 0 c).arrAt 2 (cfgM m).N = DownRef.array (m ((c : Thread nD τ).loc main_arg0)) (m ((c : Thread nD τ).loc main_arg1)) (m ((c : Thread nD τ).loc main_arg2))
          (m ((c : Thread nD τ).loc main_arg3)) := by
  refine (dats m 0 c).arrAt_eq_of_covers 2 _ (cover m) fun t _ y => ?_
  rw [after0_2]
  have hy : ∀ y : S256x32x128.Idx, ∃ (i : Fin 256) (s : Fin 32) (l : Fin 128), y = ix3 i s l :=
    fun y => ⟨y 0, y 1, y 2, by funext a; match a with | 0 => rfl | 1 => rfl | 2 => rfl⟩
  obtain ⟨i, s, l, rfl⟩ := hy y
  have he : (((cfgM m).win 2).blk t).view.emb (ix3 i s l) = ix3 (rowAt t i) s l := by blk_ext [idx2 m t, rowAt]
  exact (tile_entry m c hw t i s l).trans (congrArg (DownRef.array (m ((c : Thread nD τ).loc main_arg0)) (m ((c : Thread nD τ).loc main_arg1)) (m ((c : Thread nD τ).loc main_arg2))
          (m ((c : Thread nD τ).loc main_arg3))) he).symm

end Cert.Proof.Down

end
-- ==== Proof.DownSame.lean ====
module

public import proofs.«01_k».proof.Proof.DownFrame
public import proofs.«01_k».proof.Proof.Gen.KernelDown.Launch

/-! # The kernel on words is the kernel on numbers

No operation was rewritten in the down call, so its two programs are one, written twice; what `DownFrame` says at
every reading of the floats it says of both. -/

@[expose] public section

set_option maxRecDepth 16384

noncomputable section

namespace Cert.Proof.DownSame

open Idealize.ShloMosaic Idealize.ShloMosaic.TcCoe Idealize.SL.Sem

/-- The two programs run the same bodies. -/
theorem bodies : Cert.KernelDown.defs₀ (F := Bits) = Cert.KernelDownIdeal.defs₀ (F := Bits) := by
  unfold Cert.KernelDown.defs₀ Cert.KernelDownIdeal.defs₀
  refine congrArg Defs.onTc ?_
  funext l x
  match l, x with
  | 0, (t, s) => rfl

/-- And so the same calls. -/
theorem calls : Cert.KernelDown.defs (F := Bits) = Cert.KernelDownIdeal.defs (F := Bits) :=
  congrArg (Pipeline.defs (Cert.KernelDown.pcfgs (F := Bits))) bodies

section
open Cert.KernelDown

/-- The kernel on words leaves its arguments as they were at a table of runs, and every semaphore at zero. -/
theorem frame_of (m : (ℓ : Loc nD τ sig) → Buf (Elt Bits) ℓ) (ρ : Dev nD → PrngReg)
    (hw : ∀ c : Dev nD, UpRuns.Runs (UpRuns.word (m ((c.tc : Thread nD τ).loc main_arg0)))) :
    θ_run (defs (F := Bits)) (onTc (τ := τ) (main (F := Bits))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  rw [calls]
  exact Down.frame_of (F := Bits) m ρ hw

end

end Cert.Proof.DownSame

end
-- ==== Proof.DownClaims.lean ====
module

public import proofs.«01_k».proof.Proof.DownValue
public import proofs.«01_k».proof.Proof.DownSame
public import proofs.«01_k».proof.Proof.UpClaims
public import proofs.«01_k».proof.Defs

/-! # The claims about the down call of the expert layer

Its kernel leaves its arguments as they were and every semaphore at zero, on words and on numbers, at every table of runs
the precondition admits; there its result is its reference's. -/

@[expose] public section

set_option maxRecDepth 16384

noncomputable section

namespace Cert.Proof

open Idealize.ShloMosaic Idealize.ShloMosaic.TcCoe Idealize.SL.Sem

/-- The shape conditions the precondition on the table of runs states. -/
theorem runs_down_facts : Cert.Pre_runs_ok_down.Facts where
  slices_S5x80_S1x80_0_0 := by decide
  shapeCasts_S1x80_S80 := by decide
  slices_S5x80_S1x80_2_0 := by decide
  slices_S5x80_S1x80_3_0 := by decide
  slices_S5x80_S1x80_4_0 := by decide
  bcast_S_S80 := by decide
  reducesTo_S80_S_d0 := by decide
  h_S_ := by decide
  slices_S80_S1_0 := by decide
  shapeCasts_S1_S_ := by decide
  slices_S80_S79_1 := by decide
  bcast_S_S79 := by decide
  slices_S80_S79_0 := by decide
  reducesTo_S79_S_d0 := by decide
  slices_S80_S1_79 := by decide

/-- The precondition reads the table alone, and says of it what the gate/up call's says. -/
theorem runs_of_down {F : FTy → Type} [FloatOps F] (tab : IVec Cert.Pre_runs_ok_down.S5x80 32) (x : FVec F Cert.Pre_runs_ok_down.S20480x1536 .bf16)
    (w : FVec F Cert.Pre_runs_ok_down.S2x16x1536x4096 .f32) (r : FVec F Cert.Pre_runs_ok_down.S20480 .f32)
    (h : letI := runs_down_facts
      (Cert.Pre_runs_ok_down.fn (F := F) tab x w r).1 = (fun _ => 1#1) ∧ (Cert.Pre_runs_ok_down.fn (F := F) tab x w r).2.1 = (fun _ => 1#1)
      ∧ (Cert.Pre_runs_ok_down.fn (F := F) tab x w r).2.2.1 = (fun _ => 1#1) ∧ (Cert.Pre_runs_ok_down.fn (F := F) tab x w r).2.2.2.1 = (fun _ => 1#1)
      ∧ (Cert.Pre_runs_ok_down.fn (F := F) tab x w r).2.2.2.2.1 = (fun _ => 1#1) ∧ (Cert.Pre_runs_ok_down.fn (F := F) tab x w r).2.2.2.2.2 = (fun _ => 1#1)) :
    UpRuns.Runs (UpRuns.word tab) := by
  haveI := runs_facts
  exact UpRuns.runs_of_pre (F := F) tab (constant _ .bf16 0#16) (constant _ .f32 0#32) (constant _ .f32 0#32) h

/-- The kernel on words, at a table of runs, leaves its arguments as they were and every semaphore at zero. -/
theorem down_frame_bits : Cert.quiescent_KernelDown (hKernelDown := Cert.KernelDown.Gen.facts) (hPre_runs_ok_down := runs_down_facts) := fun m g h =>
  DownSame.frame_of m g fun c => by
    exact runs_of_down (F := Bits) _ _ _ _ (h c)

/-- The kernel on numbers, at a table of runs, leaves its arguments as they were and every semaphore at zero. -/
theorem down_frame : Cert.quiescent_KernelDownIdeal (hKernelDownIdeal := Cert.KernelDownIdeal.Gen.facts) (hPre_runs_ok_down := runs_down_facts) := fun m g h =>
  Down.frame_of m g fun c => by
    exact runs_of_down (F := Ideal) _ _ _ _ (h c)

/-- The kernel on numbers and its reference agree at every table of runs. -/
theorem down_value : Cert.algebraic_KernelDownIdeal_ReferenceDownIdeal (hKernelDownIdeal := Cert.KernelDownIdeal.Gen.facts)
    (hReferenceDownIdeal := Cert.ReferenceDownIdeal.Gen.facts) (hPre_runs_ok_down := runs_down_facts) := fun m g m' g' h ha => by
  have hw := fun c => by
    exact runs_of_down (F := Ideal) _ _ _ _ (h c)
  refine ⟨fun c => (Down.dats m 0 c).arrAt 2 (Down.cfgM m).N, Down.result_of m g hw,
    (θ_run _ _ _).mono (fun r hr c => ⟨(hr c).1.trans ?_, (hr c).2⟩) (DownRef.result m' g')⟩
  exact (congr (congr (congr (congrArg DownRef.array (ha c).1) (ha c).2.1) (ha c).2.2.1) (ha c).2.2.2).trans (Down.final m c (hw c)).symm

end Cert.Proof

end
-- ==== Proof.Down1Body.lean ====
module

public import proofs.«01_k».proof.Proof.Gen.KernelDown1Ideal.Launch
public import proofs.«01_k».proof.Proof.Gen.KernelDown1Ideal.Skeleton
public import Idealize.ShloMosaic.Lib.Pipeline.FrameBody
public import Idealize.ShloMosaic.Lib.Ring
public import Idealize.ShloMosaic.Lib.VecWindow
public import Idealize.ShloMosaic.Lib.Pipeline.Value
public import Idealize.ShloMosaic.Lib.ValueLayout
public import Idealize.ShloMosaic.Lib.Tactic

@[expose] public section

set_option maxRecDepth 16384

noncomputable section

namespace Cert.Proof.Down1

open Cert.KernelDown1Ideal Cert.KernelDown1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

/-- The landing buffer, as the copies address it. -/
abbrev slot : Memref sig .tc .vmem S1536x4096 .f32 :=
  ((Memref.whole cc0_scratch0).slice (Rect.unit (s := S1x1536x4096) ![0, 0, 0] S1x1536x4096.size inb_S1x1536x4096_S1x1536x4096_0_0_0) (fun _ => rfl)).squeeze S1536x4096 squeezes_S1x1536x4096_S1536x4096

/-- The semaphore of the copies. -/
abbrev semW : DmaSem sig := ((cc0_scratch2.slice (Rect.unit (s := S1) ![0] S1.size inb_S1_S1_0)).squeeze S_ squeezes_S1_S_).sem

/-- A block of the down weights at an offset. -/
abbrev src (off : Fin 4 → Nat) (h : ∀ a, off a + S1x1x1536x4096.size a ≤ S2x16x1536x4096.size a) : Memref sig .tc .hbm S1536x4096 .f32 :=
  ((Memref.whole main_arg2).slice (Rect.unit (s := S2x16x1536x4096) off S1x1x1536x4096.size h) (fun _ => rfl)).squeeze S1536x4096 squeezes_S1x1x1536x4096_S1536x4096

/-- Where the weights of expert `e` begin in the array. -/
def offs (e : Fin 16) : Fin 4 → Nat := ![1, e.val, 0, 0]

/-- Every such block lies inside the array. -/
theorem offs_inb (e : Fin 16) : ∀ a, offs e a + S1x1x1536x4096.size a ≤ S2x16x1536x4096.size a := by
  have h1 := e.isLt
  intro a
  fin_cases a
  · show 1 + 1 ≤ 2; omega
  · show e.val + 1 ≤ 16; omega
  · show 0 + 1536 ≤ 1536; omega
  · show 0 + 4096 ≤ 4096; omega

variable (c : Dev nD)

/-- The contents of a weight array, and of the table. -/
abbrev WD : Type := Buf (Elt F) ((c : Thread nD τ).loc main_arg2)
abbrev Tab : Type := Buf (Elt F) ((c : Thread nD τ).loc main_arg0)

/-- A word of the table, read as the body reads it. -/
abbrev rd (off : Fin 2 → Nat) (h : ∀ a, off a + S1x1.size a ≤ S5x80.size a) (tab : Tab (F := F) c) : BitVec 32 :=
  View.readAt (Elt F) (Memref.whole main_arg0).view (Rect.unit (s := S5x80) off S1x1.size h).toLoadRect tab
    (Shape.Idx.first (show 0 < S1x1.numel by decide))

/-- A copy of weights under way: on its completion the landing buffer holds `f`, and the block it reads is given back. -/
abbrev flight (off : Fin 4 → Nat) (h : ∀ a, off a + S1x1x1536x4096.size a ≤ S2x16x1536x4096.size a) (wd : WD (F := F) c)
    (f : Buf (Elt F) ((c : Thread nD τ).loc cc0_scratch0)) : sProp 𝕄 :=
  Transfers.Flight (countersEmb (U := Pipeline.UD sig nD τ)) (c : Thread nD τ) (.dma semW) default 786432
    iprop((slot.view.loc (c : Thread nD τ) ↦[slot.view.set]{fullShare} f) ∗ ((Memref.whole main_arg2).view.loc (c : Thread nD τ) ↦[(src off h).view.set]{fullShare} wd))

/-- The copy under way from the block at an offset. -/
def flyingAt (wd : WD (F := F) c) (off : Fin 4 → Nat) (h : ∀ a, off a + S1x1x1536x4096.size a ≤ S2x16x1536x4096.size a) : sProp 𝕄 :=
  iprop(∃ f, ⌜slot.view.read (Elt F) f = (src off h).view.read (Elt F) wd⌝
    ∗ flight c off h wd f
    ∗ ((Memref.whole main_arg2).view.loc (c : Thread nD τ) ↦[Finset.univ \ (src off h).view.set]{fullShare} wd))

/-- The copy under way for expert `e`. -/
abbrev flying (wd : WD (F := F) c) (e : Fin 16) : sProp 𝕄 := flyingAt c wd (offs e) (offs_inb e)

/-- A copy from an offset that is the expert's own is that expert's copy. -/
theorem flyingAt_eq (wd : WD (F := F) c) (off : Fin 4 → Nat) (h) (e : Fin 16) (ho : off = offs e) :
    (flyingAt c wd off h : sProp 𝕄) ⊢ flying c wd e := by subst ho; exact .rfl

/-- A block read at an offset that is its own is that block. -/
theorem src_eq (wd : WD (F := F) c) (off : Fin 4 → Nat) (h) (e : Fin 16) (ho : off = offs e) :
    (src off h).view.read (Elt F) wd = (src (offs e) (offs_inb e)).view.read (Elt F) wd := by subst ho; rfl

/-- No copy under way: the landing buffer, the weights and the semaphore are at hand. -/
def resting (wd : WD (F := F) c) : sProp 𝕄 :=
  iprop((∃ f, slot.view.loc (c : Thread nD τ) ↦[slot.view.set]{fullShare} f)
    ∗ ((Memref.whole main_arg2).view.loc (c : Thread nD τ) ↦{fullShare} wd)
    ∗ semVal ((c : Thread nD τ), SemLoc.dma semW) 0)

/-- A weight block as the body keeps it for the products: rounded, with a leading axis of one. -/
def slab (b : Vec F S1536x4096 .f32) : Vec F S1x1536x4096 .bf16 :=
  shapeCast S1x1536x4096 (truncf .bf16 b bitsLt_bf16_f32) shapeCasts_S1536x4096_S1x1536x4096

/-- The slab of expert `e`. -/
abbrev slabOf (wd : WD (F := F) c) (e : Fin 16) : Vec F S1x1536x4096 .bf16 := slab ((src (offs e) (offs_inb e)).view.read (Elt F) wd)

/-- The whole of a weight buffer. -/
abbrev full : Rect S1x1536x4096 := Rect.unit (s := S1x1536x4096) ![0, 0, 0] S1x1536x4096.size inb_S1x1536x4096_S1x1536x4096_0_0_0

/-- What the body stores of a landed block is its slab. -/
theorem pay1_eq (f : Buf (Elt F) ((c : Thread nD τ).loc cc0_scratch0)) :
    k0_pay1 (View.readAt (Elt F) (Memref.whole cc0_scratch0).view full.toLoadRect f) = slab (slot.view.read (Elt F) f) := rfl

/-- After a slab is stored, the buffer reads as that slab. -/
theorem read_kept (f : Buf (Elt F) ((c : Thread nD τ).loc cc0_scratch1)) (p : Vec F S1x1536x4096 .bf16) :
    View.readAt (Elt F) (Memref.whole cc0_scratch1).view full.toLoadRect ((Memref.whole cc0_scratch1).view.writes (Elt F) f [⟨full, p⟩]) = p :=
  funext fun x => View.read_writes_cons_emb (Memref.whole cc0_scratch1).view f full p [] x

/-- A buffer copied over twice reads as the later copy. -/
theorem read_copied_twice {sp : Space} {s : Shape} {e : EltTy} (v : View sig .tc sp s e) (f : v.ty.Contents (Elt F)) (x y : s.Idx → Elt F e) :
    v.read (Elt F) (v.writes (Elt F) f [⟨Rect.whole s, x⟩, ⟨Rect.whole s, y⟩]) = x := by
  funext z
  have h := View.read_writes_cons_emb v f (Rect.whole s) x [⟨Rect.whole s, y⟩] z
  rwa [Rect.emb_whole_apply] at h

/-- The weight buffer holds the slab of expert `e`. -/
def loaded (wd : WD (F := F) c) (e : Fin 16) : sProp 𝕄 :=
  iprop(∃ wb, ⌜View.readAt (Elt F) (Memref.whole cc0_scratch1).view full.toLoadRect wb = slabOf c wd e⌝
    ∗ ((Memref.whole cc0_scratch1).view.loc (c : Thread nD τ) ↦{fullShare} wb))

/-! ## The tile's result -/

/-- The weighted products laid out by blocks of 128 columns, as the result is. -/
def spread (v : Vec F S256x4096 .f32) : Vec F S256x32x128 .f32 := fun y =>
  v (ValueIdx.ix2 (y 0) (⟨128 * (y 1).val + (y 2).val, by
    have h1 : (y 1).val < 32 := (y 1).isLt
    have h2 : (y 2).val < 128 := (y 2).isLt
    omega⟩ : Fin 4096))

/-- What a tile's result is: the weighted products where the tile is a real one, zero where not. -/
def tileOut (v : BitVec 32) (x : Vec F S256x1536 .bf16) (b : Vec F S1x1536x4096 .bf16) (r : Vec F S256x1 .f32) : Vec F S256x32x128 .f32 :=
  if k0_cond4 v = 1#1 then spread (k0_pay7 x b r) else k0_pay6

/-- Block `n` of 128 columns lies in the result's block, and in the products. -/
theorem part_inb (n : Fin 32) : ∀ a, (![0, n.val, 0] : Fin 3 → Nat) a + S256x1x128.size a ≤ S256x32x128.size a := by
  have h := n.isLt
  intro a
  fin_cases a
  · show 0 + 256 ≤ 256; omega
  · show n.val + 1 ≤ 32; omega
  · show 0 + 128 ≤ 128; omega
theorem part_slices (n : Fin 32) : S256x4096.Slices ![0, 128 * n.val] S256x128 :=
  ⟨rfl, fun a => by
    have h := n.isLt
    fin_cases a
    · show 0 + 256 ≤ 256; omega
    · show 128 * n.val + 128 ≤ 4096; omega⟩

/-- The body's store of block `n`. -/
def part (v : Vec F S256x4096 .f32) (n : Fin 32) : View.Piece (Elt F) S256x32x128 .f32 :=
  ⟨Rect.unit (s := S256x32x128) ![0, n.val, 0] S256x1x128.size (part_inb n),
    shapeCast S256x1x128 (extractStridedSlice S256x128 ![0, 128 * n.val] v (part_slices n)) shapeCasts_S256x128_S256x1x128⟩

/-- The body's stores of all blocks, the last one first. -/
def parts (v : Vec F S256x4096 .f32) : List (View.Piece (Elt F) S256x32x128 .f32) :=
  [part v 31, part v 30, part v 29, part v 28, part v 27, part v 26, part v 25, part v 24,
   part v 23, part v 22, part v 21, part v 20, part v 19, part v 18, part v 17, part v 16,
   part v 15, part v 14, part v 13, part v 12, part v 11, part v 10, part v 9, part v 8,
   part v 7, part v 6, part v 5, part v 4, part v 3, part v 2, part v 1, part v 0]

/-- Every block is among them. -/
theorem part_mem (v : Vec F S256x4096 .f32) (n : Fin 32) : part v n ∈ parts v := by
  unfold parts
  fin_cases n <;> simp only [List.mem_cons, Fin.reduceFinMk, Fin.zero_eta, Fin.mk_one, true_or, or_true]

/-- And they are blocks only. -/
theorem of_mem_parts (v : Vec F S256x4096 .f32) (p) (h : p ∈ parts v) : ∃ n, p = part v n := by
  unfold parts at h
  simp only [List.mem_cons, List.not_mem_nil, or_false] at h
  rcases h with h | h | h | h | h | h | h | h | h | h | h | h | h | h | h | h | h | h | h | h | h | h | h | h | h | h | h | h | h | h | h | h
  all_goals exact ⟨_, h⟩

/-- A block holds its part of the products. -/
theorem part_apply (v : Vec F S256x4096 .f32) (n : Fin 32) (x : (part v n).1.shape.Idx) : (part v n).2 x = spread v ((part v n).1.emb x) := by
  have h0 : (x 0).val < 256 := (x 0).isLt
  have h1 : (x 1).val < 1 := (x 1).isLt
  have h2 : (x 2).val < 128 := (x 2).isLt
  have hn := n.isLt
  refine (shapeCast_apply (extractStridedSlice S256x128 ![0, 128 * n.val] v (part_slices n)) shapeCasts_S256x128_S256x1x128 x
    (ValueIdx.ix2 (⟨(x 0).val, h0⟩ : Fin 256) (⟨(x 2).val, h2⟩ : Fin 128)) ?_).trans ?_
  · refine (Shape.rowMajor_val_two (d := ![256, 128]) _).trans (Eq.trans ?_ (Shape.rowMajor_val_three (d := ![256, 1, 128]) x).symm)
    show (x 0).val * 128 + (x 2).val = ((x 0).val * 1 + (x 1).val) * 128 + (x 2).val
    omega
  · unfold extractStridedSlice spread
    refine congrArg v (funext fun a => Fin.ext ?_)
    fin_cases a
    · show 0 + (x 0).val = 0 + 1 * (x 0).val; omega
    · show 128 * n.val + (x 2).val = 128 * (n.val + 1 * (x 1).val) + (0 + 1 * (x 2).val); omega

/-- After all the stores the result's block is the products by blocks. -/
theorem read_parts {sp : Space} (A : View sig .tc sp S256x32x128 .f32) (f : A.ty.Contents (Elt F)) (v : Vec F S256x4096 .f32) :
    A.read (Elt F) (A.writes (Elt F) f (parts v)) = spread v := by
  funext y
  refine View.read_writes_apply_of_pieces A f (spread v) (parts v) (fun p hp x => ?_) y ?_
  · obtain ⟨n, rfl⟩ := of_mem_parts v p hp
    exact part_apply v n x
  · refine ⟨part v (y 1), part_mem v (y 1), (Rect.mem_set_unit (inb := part_inb (y 1))).2 fun a => ?_⟩
    have h0 : (y 0).val < 256 := (y 0).isLt
    have h2 : (y 2).val < 128 := (y 2).isLt
    match a with
    | 0 => exact ⟨Nat.zero_le _, show (y 0).val < 0 + 256 by omega⟩
    | 1 => exact ⟨Nat.le_refl _, show (y 1).val < (y 1).val + 1 by omega⟩
    | 2 => exact ⟨Nat.zero_le _, show (y 2).val < 0 + 128 by omega⟩

/-- The two conditions on a tile's validity exclude one another and one of them holds. -/
theorem cond45 (v : BitVec 32) : (k0_cond4 v = 1#1 ∧ ¬ k0_cond5 v = 1#1) ∨ (¬ k0_cond4 v = 1#1 ∧ k0_cond5 v = 1#1) := by
  unfold k0_cond4 k0_cond5
  dsimp only [Scalar.cmpi, IntOp.cmpi]
  generalize (v == 1#32) = b
  cases b <;> decide

/-- The body at whole memrefs. -/
abbrev bodyAt (i : grid0.Coords) (A3 : Memref sig .tc .vmem S256x1536 .bf16) (h3 : A3.IsWhole) (A5 : Memref sig .tc .vmem S256x1 .f32) (h5 : A5.IsWhole)
    (A6 : Memref sig .tc .vmem S256x32x128 .f32) (h6 : A6.IsWhole) :
    Prog (TpuEff nD τ sig (Elt F) Λ₀ .tc) PUnit :=
  cc0_moe_down i (Memref.whole main_arg0) (Memref.isWhole_whole _) A3 h3 (Memref.whole main_arg2) (Memref.isWhole_whole _) A5 h5
            A6 h6 (Memref.whole cc0_scratch0) (Memref.isWhole_whole _) (Memref.whole cc0_scratch1) (Memref.isWhole_whole _) cc0_scratch2

/-- The body's share of the table. -/
abbrev tabP (tab : Tab (F := F) c) : sProp 𝕄 := (Memref.whole main_arg0).view.loc (c : Thread nD τ) ↦{fullShare.right} tab

end Cert.Proof.Down1

end
-- ==== Proof.Down1Table.lean ====
module

public import proofs.«01_k».proof.Proof.Down1Body
public import proofs.«01_k».proof.Proof.UpRuns

@[expose] public section

set_option maxRecDepth 16384

noncomputable section

namespace Cert.Proof.Down1

open Cert.KernelDown1Ideal Cert.KernelDown1Ideal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

/-! ## Points of the grid -/

/-- A point's tile is its number. -/
theorem coords_row : ∀ t : Fin 80, (grid0.coords t 1).val = (row t.val).val := by decide +kernel

/-- Only the first point issues its own copy. -/
theorem cond1_iff : ∀ t : Fin 80, k0_cond1 (grid0.coords t) = 1#1 ↔ t.val = 0 := by decide +kernel

/-- A run begins where the third row of the table holds one. -/
theorem cond2_iff (v : BitVec 32) : k0_cond2 v = 1#1 ↔ v = 1#32 := by
  rw [← beq_iff_eq (a := v)]
  unfold k0_cond2
  dsimp only [Scalar.cmpi, IntOp.cmpi]
  generalize (v == 1#32) = b
  cases b <;> decide

/-- A copy is issued unless the run is the table's last. -/
theorem cond3_iff (i : grid0.Coords) (v : BitVec 32) : k0_cond3 i v = 1#1 ↔ ¬ v = 1#32 := by
  rw [← beq_iff_eq (a := v)]
  unfold k0_cond3
  dsimp only [Scalar.cmpi, IntOp.cmpi]
  generalize (v == 1#32) = b
  generalize (i 0) = j
  revert j
  cases b <;> decide

/-- Where the blocks the body copies begin. -/
theorem off1_eq (v : BitVec 32) : k0_off1 v = ![1, v.toNat, 0, 0] := rfl
theorem off4_eq (i : grid0.Coords) (v : BitVec 32) : k0_off4 i v = ![1, v.toNat, 0, 0] := by
  have h : ∀ j : Fin 1, (Scalar.muli (BitVec.ofNat 32 j.val) 4096#32).toNat = 0 := by decide
  unfold k0_off4
  exact congrArg (fun n => (![1, v.toNat, 0, n] : Fin 4 → Nat)) (h (i 0))
theorem off7_eq (i : grid0.Coords) (v w : BitVec 32) (hv : ¬ v = 1#32) : k0_off7 i v w = ![1, w.toNat, 0, 0] := by
  have h : ∀ j : Fin 1, (Scalar.muli (BitVec.ofNat 32 j.val) 4096#32).toNat = 0 := by decide
  have hb : (v == 1#32) = false := by simpa using hv
  unfold k0_off7
  dsimp only [Scalar.cmpi, IntOp.cmpi]
  rw [hb]
  exact congrArg (fun n => (![1, w.toNat, 0, n] : Fin 4 → Nat)) (h (i 0))

/-! ## From a point to the next -/

/-- Where a run begins after the first point, the run before was not the last and announced this one. -/
theorem arrive {w : Fin 5 → Fin 80 → BitVec 32} (hw : Runs w) (k : Nat) (hk : k + 1 < 80) (h : w 2 (row (k + 1)) = 1#32) :
    ¬ w 4 (row k) = 1#32 ∧ nextOf w (row k) = expertOf w (row (k + 1)) := by
  obtain ⟨h4, h3⟩ := hw.turn (row k) (row (k + 1)) (by show (k + 1) % 80 = k % 80 + 1; omega) h
  exact ⟨h4, Fin.ext (congrArg (fun v : BitVec 32 => v.toNat % 16) h3)⟩

/-- Inside a run everything is as at the point before. -/
theorem stay {w : Fin 5 → Fin 80 → BitVec 32} (hw : Runs w) (k : Nat) (h : w 2 (row (k + 1)) ≠ 1#32) :
    expertOf w (row (k + 1)) = expertOf w (row k) ∧ (w 4 (row (k + 1)) = 1#32 ↔ w 4 (row k) = 1#32)
      ∧ nextOf w (row (k + 1)) = nextOf w (row k) := by
  have h0 : (k + 1) % 80 ≠ 0 := fun h0 => h (by rw [show row (k + 1) = 0 from Fin.ext h0]; exact hw.start)
  obtain ⟨a, b, d⟩ := hw.same (row k) (row (k + 1)) (by show (k + 1) % 80 = k % 80 + 1; omega) h
  unfold nextOf expertOf
  rw [d]
  exact ⟨Fin.ext (congrArg (fun v : BitVec 32 => v.toNat % 16) a), Iff.rfl,
    Fin.ext (congrArg (fun v : BitVec 32 => v.toNat % 16) b)⟩

end Cert.Proof.Down1

end
-- ==== Proof.Down1Start.lean ====
module

public import proofs.«01_k».proof.Proof.Down1Body

@[expose] public section

set_option maxRecDepth 16384

noncomputable section

namespace Cert.Proof.Down1

open Cert.KernelDown1Ideal Cert.KernelDown1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- The first point of the grid, with another run to come: its own copy is issued first, and the rest is as at any point that
    begins a run. -/
theorem run_start (i : grid0.Coords) (tab : Tab (F := F) c) (wd : WD (F := F) c) (e : Fin 16)
    (h1 : k0_cond1 i = 1#1)
    (hc1 : k0_chk1 i (rd c ![0, 0] inb_S5x80_S1x1_0_0 tab))
    (ho1 : k0_off1 (rd c ![0, 0] inb_S5x80_S1x1_0_0 tab) = offs e)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : k0_cond3 i (rd c (k0_off5 i) (k0_off5_inb i) tab) = 1#1)
    (hc4 : k0_chk4 i (rd c (k0_off2 i) (k0_off2_inb i) tab) (rd c (k0_off5 i) (k0_off5_inb i) tab) (rd c (k0_off6 i) (k0_off6_inb i) tab))
    (P' : sProp 𝕄) (hb : ∀ a, k0_off7 i (rd c (k0_off5 i) (k0_off5_inb i) tab) (rd c (k0_off6 i) (k0_off6_inb i) tab) a + S1x1x1536x4096.size a ≤ S2x16x1536x4096.size a)
    (ho : flyingAt c wd (k0_off7 i (rd c (k0_off5 i) (k0_off5_inb i) tab) (rd c (k0_off6 i) (k0_off6_inb i) tab)) hb ⊢ P')
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ resting c wd ∗ (∃ wb, (Memref.whole cc0_scratch1).view.loc (c : Thread nD τ) ↦{fullShare} wb)
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ P' ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold resting owns tileOut
  iintro ⟨HT, ⟨⟨%f, HG_dst⟩, HW, HG⟩, ⟨%wb, HB⟩, ⟨%f3, %hf3, H3⟩, ⟨%f5, %hf5, H5⟩, ⟨%d6, %f6, -, H6⟩, ⟨%W, HO⟩, HK⟩
  subst hf3
  subst hf5
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact hc2 | exact hc3 _ _ _ | exact hc4 | exact hc1 | exact h4 | exact h5)
  all_goals
    sl_step
    iapply HK
    isplitl [HT]; · iexact HT
    isplitl [HG HW]
    · iapply ho
      unfold flyingAt
      iexists _
      isplitr
      swap
      · isplitl [HG]; · iexact HG
        iexact HW
      ipureintro
      exact read_copied_twice _ _ _ _
    isplitl [HB]
    · unfold loaded
      iexists _
      isplitr
      swap; · iexact HB
      ipureintro
      exact (read_kept c _ _).trans ((pay1_eq c _).trans (congrArg slab ((View.read_writes_whole _ _ _).trans (src_eq c wd _ _ e ho1))))
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
          refine congrArg (fun b => k0_pay7 _ b _) ?_
          unfold run_start.sl.v20 run_start.sl.HB_1
          exact (read_kept c _ _).trans ((pay1_eq c _).trans (congrArg slab ((View.read_writes_whole _ _ _).trans (src_eq c wd _ _ e ho1))))
    iexists _; iexact HO

end Cert.Proof.Down1

end
-- ==== Proof.Down1Only.lean ====
module

public import proofs.«01_k».proof.Proof.Down1Body

@[expose] public section

set_option maxRecDepth 16384

noncomputable section

namespace Cert.Proof.Down1

open Cert.KernelDown1Ideal Cert.KernelDown1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- The first point of the grid where the table has a single run: its own copy is issued and lands, and none follows. -/
theorem run_only (i : grid0.Coords) (tab : Tab (F := F) c) (wd : WD (F := F) c) (e : Fin 16)
    (h1 : k0_cond1 i = 1#1)
    (hc1 : k0_chk1 i (rd c ![0, 0] inb_S5x80_S1x1_0_0 tab))
    (ho1 : k0_off1 (rd c ![0, 0] inb_S5x80_S1x1_0_0 tab) = offs e)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : ¬ k0_cond3 i (rd c (k0_off5 i) (k0_off5_inb i) tab) = 1#1)
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ resting c wd ∗ (∃ wb, (Memref.whole cc0_scratch1).view.loc (c : Thread nD τ) ↦{fullShare} wb)
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ resting c wd ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold resting owns tileOut
  iintro ⟨HT, ⟨⟨%f, HG_dst⟩, HW, HG⟩, ⟨%wb, HB⟩, ⟨%f3, %hf3, H3⟩, ⟨%f5, %hf5, H5⟩, ⟨%d6, %f6, -, H6⟩, ⟨%W, HO⟩, HK⟩
  subst hf3
  subst hf5
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact hc2 | exact hc3 _ _ _ | exact hc1 | exact h4 | exact h5)
  all_goals
    sl_step
    iapply HK
    isplitl [HT]; · iexact HT
    isplitl [HG HW HG_dst]
    · isplitl [HG_dst]; · iexists _; iexact HG_dst
      isplitl [HW]; · iexact HW
      iexact HG
    isplitl [HB]
    · unfold loaded
      iexists _
      isplitr
      swap; · iexact HB
      ipureintro
      exact (read_kept c _ _).trans ((pay1_eq c _).trans (congrArg slab ((View.read_writes_whole _ _ _).trans (src_eq c wd _ _ e ho1))))
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
          refine congrArg (fun b => k0_pay7 _ b _) ?_
          unfold run_only.sl.v20 run_only.sl.HB_1
          exact (read_kept c _ _).trans ((pay1_eq c _).trans (congrArg slab ((View.read_writes_whole _ _ _).trans (src_eq c wd _ _ e ho1))))
    iexists _; iexact HO

end Cert.Proof.Down1

end
-- ==== Proof.Down1Go.lean ====
module

public import proofs.«01_k».proof.Proof.Down1Body

@[expose] public section

set_option maxRecDepth 16384

noncomputable section

namespace Cert.Proof.Down1

open Cert.KernelDown1Ideal Cert.KernelDown1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- A point that begins an expert's run, not the first of the grid, with a copy to issue: the copy under way lands, its slab is
    stored, the next copy is issued, and the tile is computed. -/
theorem run_first_go (i : grid0.Coords) (tab : Tab (F := F) c) (wd : WD (F := F) c) (e : Fin 16)
    (h1 : ¬ k0_cond1 i = 1#1)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : k0_cond3 i (rd c (k0_off5 i) (k0_off5_inb i) tab) = 1#1)
    (hc4 : k0_chk4 i (rd c (k0_off2 i) (k0_off2_inb i) tab) (rd c (k0_off5 i) (k0_off5_inb i) tab) (rd c (k0_off6 i) (k0_off6_inb i) tab))
    (P' : sProp 𝕄) (hb : ∀ a, k0_off7 i (rd c (k0_off5 i) (k0_off5_inb i) tab) (rd c (k0_off6 i) (k0_off6_inb i) tab) a + S1x1x1536x4096.size a ≤ S2x16x1536x4096.size a)
    (ho : flyingAt c wd (k0_off7 i (rd c (k0_off5 i) (k0_off5_inb i) tab) (rd c (k0_off6 i) (k0_off6_inb i) tab)) hb ⊢ P')
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ flying c wd e ∗ (∃ wb, (Memref.whole cc0_scratch1).view.loc (c : Thread nD τ) ↦{fullShare} wb)
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ P' ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold flying flyingAt owns tileOut
  iintro ⟨HT, ⟨%f, %hf, HG, HW⟩, ⟨%wb, HB⟩, ⟨%f3, %hf3, H3⟩, ⟨%f5, %hf5, H5⟩, ⟨%d6, %f6, -, H6⟩, ⟨%W, HO⟩, HK⟩
  subst hf3
  subst hf5
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact hc2 | exact hc3 _ _ _ | exact hc4 | exact h4 | exact h5)
  all_goals
    sl_step
    iapply HK
    isplitl [HT]; · iexact HT
    isplitl [HG HW]
    · iapply ho
      unfold flyingAt
      iexists _
      isplitr
      swap
      · isplitl [HG]; · iexact HG
        iexact HW
      ipureintro
      exact View.read_writes_whole _ _ _
    isplitl [HB]
    · unfold loaded
      iexists _
      isplitr
      swap; · iexact HB
      ipureintro
      exact (read_kept c _ _).trans ((pay1_eq c _).trans (congrArg slab hf))
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
          refine congrArg (fun b => k0_pay7 _ b _) ?_
          unfold run_first_go.sl.v20 run_first_go.sl.HB_1
          exact (read_kept c _ _).trans ((pay1_eq c _).trans (congrArg slab hf))
    iexists _; iexact HO

end Cert.Proof.Down1

end
-- ==== Proof.Down1Stop.lean ====
module

public import proofs.«01_k».proof.Proof.Down1Body

@[expose] public section

set_option maxRecDepth 16384

noncomputable section

namespace Cert.Proof.Down1

open Cert.KernelDown1Ideal Cert.KernelDown1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- A point that begins an expert's run with nothing left to copy: as above, and nothing is under way after. -/
theorem run_first_stop (i : grid0.Coords) (tab : Tab (F := F) c) (wd : WD (F := F) c) (e : Fin 16)
    (h1 : ¬ k0_cond1 i = 1#1)
    (h2 : k0_cond2 (rd c (k0_off2 i) (k0_off2_inb i) tab) = 1#1)
    (hc2 : k0_chk2 i (rd c (k0_off2 i) (k0_off2_inb i) tab) (rd c (k0_off3 i) (k0_off3_inb i) tab))
    (h3 : ¬ k0_cond3 i (rd c (k0_off5 i) (k0_off5_inb i) tab) = 1#1)
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ flying c wd e ∗ (∃ wb, (Memref.whole cc0_scratch1).view.loc (c : Thread nD τ) ↦{fullShare} wb)
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ resting c wd ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold flying flyingAt owns tileOut
  iintro ⟨HT, ⟨%f, %hf, HG, HW⟩, ⟨%wb, HB⟩, ⟨%f3, %hf3, H3⟩, ⟨%f5, %hf5, H5⟩, ⟨%d6, %f6, -, H6⟩, ⟨%W, HO⟩, HK⟩
  subst hf3
  subst hf5
  have hc3 := k0_chk3_all
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h3 | exact hc2 | exact hc3 _ _ _ | exact h4 | exact h5)
  all_goals
    sl_step
    iapply HK
    isplitl [HT]; · iexact HT
    isplitl [HG HW HG_dst]
    · unfold resting
      isplitl [HG_dst]; · iexists _; iexact HG_dst
      isplitl [HW]; · iexact HW
      iexact HG
    isplitl [HB]
    · unfold loaded
      iexists _
      isplitr
      swap; · iexact HB
      ipureintro
      exact (read_kept c _ _).trans ((pay1_eq c _).trans (congrArg slab hf))
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
          refine congrArg (fun b => k0_pay7 _ b _) ?_
          unfold run_first_stop.sl.v20 run_first_stop.sl.HB_1
          exact (read_kept c _ _).trans ((pay1_eq c _).trans (congrArg slab hf))
    iexists _; iexact HO

end Cert.Proof.Down1

end
-- ==== Proof.Down1Again.lean ====
module

public import proofs.«01_k».proof.Proof.Down1Body

@[expose] public section

set_option maxRecDepth 16384

noncomputable section

namespace Cert.Proof.Down1

open Cert.KernelDown1Ideal Cert.KernelDown1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

set_option maxHeartbeats 800000 in
/-- A point inside an expert's run: no copy is waited for or issued, the tile is computed from the slab at hand. -/
theorem run_again (i : grid0.Coords) (tab : Tab (F := F) c) (wd : WD (F := F) c) (e : Fin 16)
    (h1 : ¬ k0_cond1 i = 1#1)
    (h2 : ¬ k0_cond2 (rd c (k0_off2 i) (k0_off2_inb i) tab) = 1#1)
    (P : sProp 𝕄)
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ P ∗ loaded c wd e
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ P ∗ loaded c wd e
            ∗ owns (c : Thread nD τ) A3 fullShare x ∗ owns (c : Thread nD τ) A5 fullShare r
            ∗ owns (c : Thread nD τ) A6 fullShare (tileOut (rd c (k0_off8 i) (k0_off8_inb i) tab) x (slabOf c wd e) r)
            ∗ (∃ W, owes (c : Thread nD τ) 0 W)) -∗ K ⟨⟩))
      ⊢ wp frame (wpE (defs₀ (F := F)) Variants.none c none) Set.univ (bodyAt (F := F) i A3 w3 A5 w5 A6 w6) K := by
  unfold bodyAt
  rw [cc0_moe_down_eq_skeleton]; unfold cc0_moe_down_skel
  unfold loaded owns tileOut
  iintro ⟨HT, HP, ⟨%wb, %hb, HB⟩, ⟨%f3, %hf3, H3⟩, ⟨%f5, %hf5, H5⟩, ⟨%d6, %f6, -, H6⟩, ⟨%W, HO⟩, HK⟩
  subst hf3
  subst hf5
  rcases cond45 (rd c (k0_off8 i) (k0_off8_inb i) tab) with ⟨h4, h5⟩ | ⟨h4, h5⟩
  all_goals
    set_option sl_exec.dmaWindow true in
    set_option sl_exec.dmaWindowLent true in
    sl_exec (disch := first | exact h1 | exact h2 | exact h4 | exact h5)
  all_goals
    sl_step
    iapply HK
    isplitl [HT]; · iexact HT
    isplitl [HP]; · iexact HP
    isplitl [HB]
    · iexists _
      isplitr
      swap; · iexact HB
      ipureintro
      exact hb
    isplitl [H3]
    · iexists _
      isplitr; · ipureintro; rfl
      iexact H3
    isplitl [H5]
    · iexists _
      isplitr; · ipureintro; rfl
      iexact H5
    isplitl [H6]
    · iexists _
      isplitr
      swap; · iexact H6
      ipureintro
      first
        | refine Eq.trans ?_ (if_neg h4).symm
          exact View.read_writes_full A6.view _ inb_S256x32x128_S256x32x128_0_0_0 _ []
        | refine Eq.trans ?_ (if_pos h4).symm
          refine (read_parts A6.view _ (k0_pay7 _ _ _)).trans (congrArg spread ?_)
          rw [View.readAt_full, View.readAt_full]
    iexists _; iexact HO

end Cert.Proof.Down1

end
-- ==== Proof.Down1Step.lean ====
module

public import proofs.«01_k».proof.Proof.Down1Table
public import proofs.«01_k».proof.Proof.Down1Start
public import proofs.«01_k».proof.Proof.Down1Only
public import proofs.«01_k».proof.Proof.Down1Go
public import proofs.«01_k».proof.Proof.Down1Stop
public import proofs.«01_k».proof.Proof.Down1Again

@[expose] public section

set_option maxRecDepth 16384

noncomputable section

namespace Cert.Proof.Down1

open Cert.KernelDown1Ideal Cert.KernelDown1Ideal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (c : Dev nD)

/-- The table's word in row `r` at tile `i`. -/
def words (tab : Tab (F := F) c) (r : Fin 5) (i : Fin 80) : BitVec 32 :=
  rd c ![r.val, i.val] (by
    have h1 := r.isLt
    have h2 := i.isLt
    intro a
    fin_cases a
    · show r.val + 1 ≤ 5; omega
    · show i.val + 1 ≤ 80; omega) tab

/-- A read of the table at an offset is the word there. -/
theorem rd_words (tab : Tab (F := F) c) (off : Fin 2 → Nat) (h) (r : Fin 5) (i : Fin 80) (ho : off = ![r.val, i.val]) :
    rd c off h tab = words c tab r i := by subst ho; rfl

/-- The copy under way after point `k`: none inside the last run. -/
def moving (tab : Tab (F := F) c) (wd : WD (F := F) c) (k : Nat) : sProp 𝕄 :=
  if words c tab 4 (row k) = 1#32 then resting c wd else flying c wd (nextOf (words c tab) (row k))

/-- What the body finds at point `n`: at first nothing loaded and no copy under way; later the slab of the point before,
    and the copy under way after it. -/
def core (tab : Tab (F := F) c) (wd : WD (F := F) c) : Nat → sProp 𝕄
  | 0 => iprop(resting c wd ∗ (∃ wb, (Memref.whole cc0_scratch1).view.loc (c : Thread nD τ) ↦{fullShare} wb))
  | k + 1 => iprop(moving c tab wd k ∗ loaded c wd (expertOf (words c tab) (row k)))

/-- The tile's result at point `t`. -/
def tileAt (tab : Tab (F := F) c) (wd : WD (F := F) c) (t : Fin 80) (x : Vec F S256x1536 .bf16) (r : Vec F S256x1 .f32) : Vec F S256x32x128 .f32 :=
  tileOut (words c tab 1 (row t.val)) x (slabOf c wd (expertOf (words c tab) (row t.val))) r

/-- The body finds the weight buffer in some state, loaded or not. -/
theorem loaded_some (wd : WD (F := F) c) (e : Fin 16) :
    (loaded c wd e : sProp 𝕄) ⊢ iprop(∃ wb, (Memref.whole cc0_scratch1).view.loc (c : Thread nD τ) ↦{fullShare} wb) := by
  unfold loaded
  iintro ⟨%wb, %_, HB⟩
  iexists wb; iexact HB

set_option maxHeartbeats 800000 in
/-- One point: the body runs from what it finds at point `t` to what the next point finds, and leaves the tile's result. -/
theorem step (tab : Tab (F := F) c) (hw : Runs (words c tab)) (wd : WD (F := F) c) (t : Fin 80)
    (A3 : Memref sig .tc .vmem S256x1536 .bf16) (w3 : A3.IsWhole) (A5 : Memref sig .tc .vmem S256x1 .f32) (w5 : A5.IsWhole)
    (A6 : Memref sig .tc .vmem S256x32x128 .f32) (w6 : A6.IsWhole)
    (x : Vec F S256x1536 .bf16) (r : Vec F S256x1 .f32) (K : PUnit → sProp 𝕄) :
    iprop(tabP c tab ∗ core c tab wd t.val
        ∗ owns (c : Thread nD τ) A3 fullShare x ∗ owns (c : Thread nD τ) A5 fullShare r ∗ (∃ d, owns (c : Thread nD τ) A6 fullShare d) ∗ (∃ W, owes (c : Thread nD τ) 0 W)
        ∗ (iprop(tabP c tab ∗ core c tab wd (t.val + 1)
            ∗ owns (c : Thread nD τ) A3 fullShare x ∗ owns (c : Thread nD τ) A5 fullShare r
            ∗ owns (c : Thread nD τ) A6 fullShare (tileAt c tab wd t x r)
            ∗ (∃ W, owes (c : Thread nD τ) 0 W)) -∗ K ⟨⟩))
      ⊢ wp frame (wpE (defs₀ (F := F)) Variants.none c none) Set.univ (bodyAt (F := F) (grid0.coords t) A3 w3 A5 w5 A6 w6) K := by
  have r2 : rd c (k0_off2 (grid0.coords t)) (k0_off2_inb _) tab = words c tab 2 (row t.val) := rd_words c tab _ _ _ _ (by rw [k0_off2_eq, coords_row]; rfl)
  have r3 : rd c (k0_off3 (grid0.coords t)) (k0_off3_inb _) tab = words c tab 0 (row t.val) := rd_words c tab _ _ _ _ (by rw [k0_off3_eq, coords_row]; rfl)
  have r5 : rd c (k0_off5 (grid0.coords t)) (k0_off5_inb _) tab = words c tab 4 (row t.val) := rd_words c tab _ _ _ _ (by rw [k0_off5_eq, coords_row]; rfl)
  have r6 : rd c (k0_off6 (grid0.coords t)) (k0_off6_inb _) tab = words c tab 3 (row t.val) := rd_words c tab _ _ _ _ (by rw [k0_off6_eq, coords_row]; rfl)
  have r8 : rd c (k0_off8 (grid0.coords t)) (k0_off8_inb _) tab = words c tab 1 (row t.val) := rd_words c tab _ _ _ _ (by rw [k0_off8_eq, coords_row]; rfl)
  have hc2 : k0_chk2 (grid0.coords t) (rd c (k0_off2 (grid0.coords t)) (k0_off2_inb _) tab) (rd c (k0_off3 (grid0.coords t)) (k0_off3_inb _) tab) := by
    rw [r3]
    intro _
    have h := expertOf_val hw (row t.val)
    rw [off4_eq, ← h]
    exact offs_inb _
  unfold tileAt
  rw [← r8]
  by_cases h2 : words c tab 2 (row t.val) = 1#32
  · have h2' : k0_cond2 (rd c (k0_off2 (grid0.coords t)) (k0_off2_inb _) tab) = 1#1 := by rw [r2]; exact (cond2_iff _).2 h2
    have r1 : rd c ![0, 0] inb_S5x80_S1x1_0_0 tab = words c tab 0 (row 0) := rd_words c tab _ _ _ _ rfl
    have ho1 : k0_off1 (rd c ![0, 0] inb_S5x80_S1x1_0_0 tab) = offs (expertOf (words c tab) (row 0)) := by
      rw [r1, off1_eq]; unfold offs; rw [expertOf_val hw]
    have hc1 : k0_chk1 (grid0.coords t) (rd c ![0, 0] inb_S5x80_S1x1_0_0 tab) := fun _ => by
      rw [ho1]; exact offs_inb _
    by_cases hd : words c tab 4 (row t.val) = 1#32
    · have h3' : ¬ k0_cond3 (grid0.coords t) (rd c (k0_off5 (grid0.coords t)) (k0_off5_inb _) tab) = 1#1 := by
        rw [r5, cond3_iff]; exact fun h => h hd
      have hM : (moving c tab wd t.val : sProp 𝕄) = resting c wd := by unfold moving; rw [if_pos hd]
      obtain ⟨_ | k, hk⟩ := t
      · have h1 : k0_cond1 (grid0.coords ⟨0, hk⟩) = 1#1 := (cond1_iff _).2 rfl
        dsimp only [core]
        rw [show (moving c tab wd 0 : sProp 𝕄) = resting c wd from hM]
        refine BIBase.Entails.trans ?_ (run_only c (grid0.coords ⟨0, hk⟩) tab wd (expertOf (words c tab) (row 0)) h1 hc1 ho1 h2' hc2 h3' A3 w3 A5 w5 A6 w6 x r K)
        iintro ⟨HT, ⟨HF, HB⟩, H3, H5, H6, HO, HK⟩
        isplitl [HT]; · iexact HT
        isplitl [HF]; · iexact HF
        isplitl [HB]; · iexact HB
        isplitl [H3]; · iexact H3
        isplitl [H5]; · iexact H5
        isplitl [H6]; · iexact H6
        isplitl [HO]; · iexact HO
        iintro ⟨HT, HR, HL, H3, H5, H6, HO⟩
        iapply HK
        isplitl [HT]; · iexact HT
        isplitl [HR HL]; · isplitl [HR]; · iexact HR
                           iexact HL
        isplitl [H3]; · iexact H3
        isplitl [H5]; · iexact H5
        isplitl [H6]; · iexact H6
        iexact HO
      · have h1 : ¬ k0_cond1 (grid0.coords ⟨k + 1, hk⟩) = 1#1 := fun h => by cases (cond1_iff _).1 h
        obtain ⟨hd0, hn⟩ := arrive hw k hk h2
        dsimp only [core]
        rw [show (moving c tab wd (k + 1) : sProp 𝕄) = resting c wd from hM,
          show (moving c tab wd k : sProp 𝕄) = flying c wd (expertOf (words c tab) (row (k + 1))) by unfold moving; rw [if_neg hd0, hn]]
        refine BIBase.Entails.trans ?_ (run_first_stop c (grid0.coords ⟨k + 1, hk⟩) tab wd (expertOf (words c tab) (row (k + 1))) h1 h2' hc2 h3' A3 w3 A5 w5 A6 w6 x r K)
        iintro ⟨HT, ⟨HF, HB⟩, H3, H5, H6, HO, HK⟩
        isplitl [HT]; · iexact HT
        isplitl [HF]; · iexact HF
        isplitl [HB]; · iapply (loaded_some c wd _); iexact HB
        isplitl [H3]; · iexact H3
        isplitl [H5]; · iexact H5
        isplitl [H6]; · iexact H6
        isplitl [HO]; · iexact HO
        iintro ⟨HT, HR, HL, H3, H5, H6, HO⟩
        iapply HK
        isplitl [HT]; · iexact HT
        isplitl [HR HL]; · isplitl [HR]; · iexact HR
                           iexact HL
        isplitl [H3]; · iexact H3
        isplitl [H5]; · iexact H5
        isplitl [H6]; · iexact H6
        iexact HO
    · have h3' : k0_cond3 (grid0.coords t) (rd c (k0_off5 (grid0.coords t)) (k0_off5_inb _) tab) = 1#1 := by
        rw [r5, cond3_iff]; exact hd
      have h7 : k0_off7 (grid0.coords t) (rd c (k0_off5 (grid0.coords t)) (k0_off5_inb _) tab) (rd c (k0_off6 (grid0.coords t)) (k0_off6_inb _) tab) = offs (nextOf (words c tab) (row t.val)) := by
        rw [r5, r6, off7_eq _ _ _ hd]; unfold offs; rw [nextOf_val hw]
      have hb : ∀ a, k0_off7 (grid0.coords t) (rd c (k0_off5 (grid0.coords t)) (k0_off5_inb _) tab) (rd c (k0_off6 (grid0.coords t)) (k0_off6_inb _) tab) a + S1x1x1536x4096.size a ≤ S2x16x1536x4096.size a := by
        rw [h7]; exact offs_inb _
      have hc4 : k0_chk4 (grid0.coords t) (rd c (k0_off2 (grid0.coords t)) (k0_off2_inb _) tab) (rd c (k0_off5 (grid0.coords t)) (k0_off5_inb _) tab) (rd c (k0_off6 (grid0.coords t)) (k0_off6_inb _) tab) := fun _ _ => hb
      have ho : flyingAt c wd (k0_off7 (grid0.coords t) (rd c (k0_off5 (grid0.coords t)) (k0_off5_inb _) tab) (rd c (k0_off6 (grid0.coords t)) (k0_off6_inb _) tab)) hb ⊢ moving c tab wd t.val := by
        unfold moving
        rw [if_neg hd]
        exact flyingAt_eq c wd _ _ _ h7
      obtain ⟨_ | k, hk⟩ := t
      · have h1 : k0_cond1 (grid0.coords ⟨0, hk⟩) = 1#1 := (cond1_iff _).2 rfl
        refine BIBase.Entails.trans ?_ (run_start c (grid0.coords ⟨0, hk⟩) tab wd (expertOf (words c tab) (row 0)) h1 hc1 ho1 h2' hc2 h3' hc4
          (moving c tab wd 0) hb ho A3 w3 A5 w5 A6 w6 x r K)
        dsimp only [core]
        iintro ⟨HT, ⟨HF, HB⟩, H3, H5, H6, HO, HK⟩
        isplitl [HT]; · iexact HT
        isplitl [HF]; · iexact HF
        isplitl [HB]; · iexact HB
        isplitl [H3]; · iexact H3
        isplitl [H5]; · iexact H5
        isplitl [H6]; · iexact H6
        isplitl [HO]; · iexact HO
        iintro ⟨HT, HR, HL, H3, H5, H6, HO⟩
        iapply HK
        isplitl [HT]; · iexact HT
        isplitl [HR HL]; · isplitl [HR]; · iexact HR
                           iexact HL
        isplitl [H3]; · iexact H3
        isplitl [H5]; · iexact H5
        isplitl [H6]; · iexact H6
        iexact HO
      · have h1 : ¬ k0_cond1 (grid0.coords ⟨k + 1, hk⟩) = 1#1 := fun h => by cases (cond1_iff _).1 h
        obtain ⟨hd0, hn⟩ := arrive hw k hk h2
        refine BIBase.Entails.trans ?_ (run_first_go c (grid0.coords ⟨k + 1, hk⟩) tab wd (expertOf (words c tab) (row (k + 1))) h1 h2' hc2 h3' hc4
          (moving c tab wd (k + 1)) hb ho A3 w3 A5 w5 A6 w6 x r K)
        dsimp only [core]
        rw [show (moving c tab wd k : sProp 𝕄) = flying c wd (expertOf (words c tab) (row (k + 1))) by
          unfold moving; rw [if_neg hd0, hn]]
        generalize (moving c tab wd (k + 1) : sProp 𝕄) = M
        iintro ⟨HT, ⟨HF, HB⟩, H3, H5, H6, HO, HK⟩
        isplitl [HT]; · iexact HT
        isplitl [HF]; · iexact HF
        isplitl [HB]; · iapply (loaded_some c wd _); iexact HB
        isplitl [H3]; · iexact H3
        isplitl [H5]; · iexact H5
        isplitl [H6]; · iexact H6
        isplitl [HO]; · iexact HO
        iintro ⟨HT, HR, HL, H3, H5, H6, HO⟩
        iapply HK
        isplitl [HT]; · iexact HT
        isplitl [HR HL]; · isplitl [HR]; · iexact HR
                           iexact HL
        isplitl [H3]; · iexact H3
        isplitl [H5]; · iexact H5
        isplitl [H6]; · iexact H6
        iexact HO
  · have h2' : ¬ k0_cond2 (rd c (k0_off2 (grid0.coords t)) (k0_off2_inb _) tab) = 1#1 := by rw [r2, cond2_iff]; exact h2
    obtain ⟨_ | k, hk⟩ := t
    · exact absurd hw.start h2
    have h1 : ¬ k0_cond1 (grid0.coords ⟨k + 1, hk⟩) = 1#1 := fun h => by cases (cond1_iff _).1 h
    obtain ⟨he, hdd, hn⟩ := stay hw k h2
    have hM : (moving c tab wd (k + 1) : sProp 𝕄) = moving c tab wd k := by
      unfold moving; rw [hn]; exact if_congr hdd rfl rfl
    refine BIBase.Entails.trans ?_ (run_again c (grid0.coords ⟨k + 1, hk⟩) tab wd (expertOf (words c tab) (row (k + 1))) h1 h2'
      (moving c tab wd k) A3 w3 A5 w5 A6 w6 x r K)
    dsimp only [core]
    rw [hM, he]
    iintro ⟨HT, ⟨HF, HB⟩, H3, H5, H6, HO, HK⟩
    isplitl [HT]; · iexact HT
    isplitl [HF]; · iexact HF
    isplitl [HB]; · iexact HB
    isplitl [H3]; · iexact H3
    isplitl [H5]; · iexact H5
    isplitl [H6]; · iexact H6
    isplitl [HO]; · iexact HO
    iintro ⟨HT, HR, HL, H3, H5, H6, HO⟩
    iapply HK
    isplitl [HT]; · iexact HT
    isplitl [HR HL]; · isplitl [HR]; · iexact HR
                       iexact HL
    isplitl [H3]; · iexact H3
    isplitl [H5]; · iexact H5
    isplitl [H6]; · iexact H6
    iexact HO

end Cert.Proof.Down1

end
-- ==== Proof.Down1Frame.lean ====
module

public import proofs.«01_k».proof.Proof.Down1Step
public import Idealize.ShloMosaic.Lib.StableHlo.RunRead
public import proofs.«01_k».proof.Defs

@[expose] public section

set_option maxRecDepth 16384

noncomputable section

namespace Cert.Proof.Down1

open Cert.KernelDown1Ideal Cert.KernelDown1Ideal.Gen Cert.Proof.UpRuns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays as the call finds them: the row weights have been laid out as a column. -/
abbrev V (c : Dev nD) (b : Ref sig .tc) : Buf (Elt F) ((c : Thread nD τ).loc b) := StableHlo.after hostOps0 (fun b => m (c, b)) b

/-- The host's reshape takes no fresh array. -/
theorem host_fresh : (hostOps0 : List (HloOp τ sig (Elt F))).Forall fun op => op.fresh = ∅ := by
  simp only [List.Forall]; repeat' constructor

/-- It leaves the arguments as launched, -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
/-- and makes the column of row weights. -/
theorem V_weights (c : Dev nD) : V m c main_v0 = shapeCast S20480x1 (m ((c : Thread nD τ).loc main_arg3)) shapeCasts_S20480_S20480x1 := by
  unfold V hostOps0
  after_reads_simp
  rfl

/-- The table's contents as the call's side condition takes them. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl
abbrev adm : (pcfg0 (F := F)).Adm := ⟨tbl m, trivial⟩
abbrev cfgM := cfg0 (F := F) (adm m)

/-- The table and the weights on a device. -/
abbrev tabM (c : Dev nD) : Tab (F := F) c := V m c main_arg0
abbrev wdM (c : Dev nD) : WD (F := F) c := V m c main_arg2

/-- A window's block at a point, read off its array as launched. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The state between points: the table, the generator register, and what the body finds at the point. -/
def stateAt (c : Dev nD) (n : Nat) (_ : n ≤ (cfgM m).N) : sProp 𝕄 :=
  iprop(tabP c (tabM m c) ∗ (∃ r, prngReg (c : Thread nD τ).1 r) ∗ core c (tabM m c) (wdM m c) n)

/-- The proof data: arrays as the call finds them; after the body the blocks of rows and row weights in place and the
    tile's result stored. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => tileAt c (tabM m c) (wdM m c) t (iblk m c 0 t) (iblk m c 1 t)
  Φ j := stateAt m c j.val (Nat.le_of_lt_succ j.isLt)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; rfl
theorem after0_1 (c : Dev nD) (t : Fin (cfgM m).N) : (dats m 0 c).after 1 t = iblk m c 1 t := by dsimp only [dats]; rfl
theorem after0_2 (c : Dev nD) (t : Fin (cfgM m).N) :
    (dats m 0 c).after 2 t = tileAt c (tabM m c) (wdM m c) t (iblk m c 0 t) (iblk m c 1 t) := by dsimp only [dats]; rfl

/-- The staging buffers of the rows and of the row weights hold their blocks at every point. -/
theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- The staging buffers of a point. -/
abbrev st0_0 (t : Fin (cfgM m).N) : Memref sig .tc .vmem S256x1536 .bf16 := spec0_0.stage ((cfgM m).slots t 0)
abbrev st0_1 (t : Fin (cfgM m).N) : Memref sig .tc .vmem S256x1 .f32 := spec0_1.stage ((cfgM m).slots t 1)
abbrev st0_2 (t : Fin (cfgM m).N) : Memref sig .tc .vmem S256x32x128 .f32 := spec0_2.stage ((cfgM m).slots t 2)

/-- The body as a point calls it. -/
abbrev bodyAt0 (t : Fin (cfgM m).N) : Prog (TpuEff nD τ sig (Elt F) Λ₀ .tc) PUnit :=
  bodyAt (F := F) (grid0.coords t) (st0_0 m t) (hstage0_0 (((cfgM m).slots t 0).cast nbuf0_0)) (st0_1 m t) (hstage0_1 (((cfgM m).slots t 1).cast nbuf0_1))
    (st0_2 m t) (hstage0_2 (((cfgM m).slots t 2).cast nbuf0_2))

/-- What the body is called with at a point, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d)))
def bodyPost (c : Dev nD) (t : Fin (cfgM m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t))

theorem Phi_before (c : Dev nD) (t : Fin (cfgM m).N) :
    (dats m 0 c).Φ t.castSucc = stateAt m c t.val (Nat.le_of_lt t.isLt) := by
  dsimp only [dats]; exact Pipeline.Dat.Φ_castSucc (stateAt m c) t
theorem Phi_after (c : Dev nD) (t : Fin (cfgM m).N) :
    (dats m 0 c).Φ t.succ = stateAt m c (t.val + 1) t.isLt := by
  dsimp only [dats]; rfl

set_option maxHeartbeats 800000 in
/-- The body at any point. -/
theorem sound_body (c : Dev nD) (hw : Runs (words c (tabM m c))) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1]
  rw [Phi_before, Phi_after, after0_0, after0_1, after0_2]
  unfold stateAt Dat.owesAt
  iintro ⟨⟨HT, HP, HC⟩, ⟨%W, %_, HO⟩, ⟨%d0, H0⟩, ⟨%d1, H1⟩, ⟨%d2, H2⟩⟩
  iapply (step c (tabM m c) hw (wdM m c) t _ _ _ _ _ _ (iblk m c 0 t) (iblk m c 1 t) _)
  isplitl [HT]; · iexact HT
  isplitl [HC]; · iexact HC
  isplitl [H0]; · iexact H0
  isplitl [H1]; · iexact H1
  isplitl [H2]; · iexists _; iexact H2
  isplitl [HO]; · iexists _; iexact HO
  iintro ⟨HT, HC, H0, H1, H2, ⟨%W', HO⟩⟩
  isplitl [HT HP HC]
  · isplitl [HT]; · iexact HT
    isplitl [HP]; · iexact HP
    iexact HC
  isplitl [HO]
  · iexists W'
    isplitr
    · ipureintro; exact fun _ _ => Or.inl trivial
    iexact HO
  isplitl [H0]; · iexact H0
  isplitl [H1]; · iexact H1
  iexact H2

/-- The body table's row at a point's slots is the body. -/
theorem defs₀_row (t : Fin (cfgM m).N) :
    defs₀ (F := F) .tc (cfgM m).body ((cfgM m).bodyArgs t ((cfgM m).slots t)) = bodyAt0 m t := by
  unfold defs₀; rw [Defs.onTc_tc]

/-- A tile is either a real one or not, so the body stores its output block at every point. -/
theorem idle_2 (t : Fin (cfgM m).N) : (cfgM m).idle 2 ((cfgM m).grid.coords t) = false := by
  show idle0 (adm m).1 2 (grid0.coords t) = false
  show (!(k0_cond4 ((adm m).1.atD 0 (k0_off8 (grid0.coords t))) == 1#1) && !(k0_cond5 ((adm m).1.atD 0 (k0_off8 (grid0.coords t))) == 1#1)) = false
  rcases cond45 ((adm m).1.atD 0 (k0_off8 (grid0.coords t))) with ⟨h, _⟩ | ⟨_, h⟩
  · rw [h]; rfl
  · rw [h, Bool.and_comm]; rfl

/-- What the obligation asks of the output's buffer, by whether the point leaves it unwritten. -/
def outBack (c : Dev nD) (t : Fin (cfgM m).N) (b : Bool) : sProp 𝕄 :=
  match b with
  | true =>
    match ((cfgM m).win 2).flush t with
    | false => iprop(∃ d, owns (c : Thread nD τ) (st0_2 m t) fullShare ((dats m 0 c).before 2 t d))
    | true => owns (c : Thread nD τ) (st0_2 m t) fullShare ((dats m 0 c).after 2 t)
  | false => owns (c : Thread nD τ) (st0_2 m t) fullShare ((dats m 0 c).after 2 t)

/-- The pipeline's obligation on the body, at every point. -/
theorem body_obligation (c : Dev nD) (hw : Runs (words c (tabM m c))) :
    BodyObligation (dats m 0 c) (defs₀ (F := F)) Variants.none () Set.univ := fun t => by
  rw [bigSep_W0, bigSep_W0, defs₀_row]
  refine triple_restated (sound_body m c hw t) rfl .rfl fun _ => ?_
  show bodyPost m c t ⊢ iprop((dats m 0 c).Φ t.succ ∗ (dats m 0 c).owesAt () t.succ
    ∗ owns (c : Thread nD τ) (st0_0 m t) fullShare ((dats m 0 c).after 0 t) ∗ owns (c : Thread nD τ) (st0_1 m t) fullShare ((dats m 0 c).after 1 t)
    ∗ outBack m c t ((cfgM m).idle 2 ((cfgM m).grid.coords t)))
  rw [idle_2]
  exact .rfl

/-! ## What the call hands the body at first and takes back at the end -/

/-- The landing buffer as the copies address it is the whole of it. -/
theorem slot_set : slot.view.set = Finset.univ := by
  refine ((View.set_reshape _ _).trans (View.set_slice_whole _ _)).trans ?_
  ext i
  simp only [Finset.mem_univ, iff_true]
  refine (Rect.mem_set_unit).2 fun a => ?_
  match a with
  | 0 => exact ⟨Nat.zero_le _, show (i 0).val < 0 + 1 from (Nat.zero_add 1).symm ▸ (i 0).isLt⟩
  | 1 => exact ⟨Nat.zero_le _, show (i 1).val < 0 + 1536 from (Nat.zero_add 1536).symm ▸ (i 1).isLt⟩
  | 2 => exact ⟨Nat.zero_le _, show (i 2).val < 0 + 4096 from (Nat.zero_add 4096).symm ▸ (i 2).isLt⟩
theorem slot_whole (c : Dev nD) (f : Buf (Elt F) ((c : Thread nD τ).loc cc0_scratch0)) :
    ((slot.view.loc (c : Thread nD τ) ↦[slot.view.set]{fullShare} f) : sProp 𝕄) = ((c : Thread nD τ).loc cc0_scratch0 ↦{fullShare} f) := by
  rw [slot_set]
theorem slot_some (c : Dev nD) : (iprop(∃ f, (c : Thread nD τ).loc cc0_scratch0 ↦{fullShare} f) : sProp 𝕄)
    = iprop(∃ f, slot.view.loc (c : Thread nD τ) ↦[slot.view.set]{fullShare} f) :=
  congrArg (fun P : Buf (Elt F) ((c : Thread nD τ).loc cc0_scratch0) → sProp 𝕄 => iprop(∃ f, P f)) (funext fun f => (slot_whole c f).symm)

/-- The body's own semaphore. -/
abbrev osem0 : Fin 1 → SemLoc sig := fun _ => .dma semW
theorem own0 : Pipeline.OwnSemFacts spec0 osem0 := by decide
/-- The array the body copies from itself. -/
abbrev H0 : Finset (Ref sig .tc) := {main_arg2}
theorem H0_sub : H0 ⊆ Pipeline.restRefsP sig pre0 spec0 := by decide

theorem tableHalf_eq (c : Dev nD) : (Pipeline.ΦT pre0 (tbl m) c : sProp 𝕄) = ((c : Thread nD τ).loc main_arg0 ↦{fullShare.right} tbl m 0) := by
  unfold Pipeline.ΦT Pipeline.prefHeld
  rw [show (Finset.univ : Finset (Fin 1)) = {(0 : Fin 1)} from by decide, bigSep_singleton]; rfl
theorem ownSems_eq (c : Dev nD) : (Pipeline.ownSems0 osem0 c : sProp 𝕄) = semVal ((c : Thread nD τ), SemLoc.dma semW) 0 :=
  bigSep_univ_eq_bigSepL [(0 : Fin 1)] (by decide) (by decide) _
theorem lent_eq (c : Dev nD) : (bigSep H0 fun b => (((c : Thread nD τ).loc b) ↦{fullShare} V m c b) : sProp 𝕄)
    = ((c : Thread nD τ).loc main_arg2 ↦{fullShare} wdM m c) := by
  exact bigSep_eq_bigSepL_of_eq [main_arg2] (by decide) (by decide) _

theorem lent_in (c : Dev nD) :
    iprop(Pipeline.ΦD osem0 spec0 H0 (V m) c ∗ Pipeline.ΦT pre0 (tbl m) c) ⊢ (dats m 0 c).Φ 0 := by
  rw [tableHalf_eq, Pipeline.ΦD_eq, scopedRest0_eq, slot_some, ownSems_eq, lent_eq]
  obtain rfl : c = 0 := Subsingleton.elim _ _
  show _ ⊢ stateAt m 0 0 (Nat.zero_le _)
  unfold stateAt core
  iintro ⟨⟨⟨HF, ⟨%b, HB⟩⟩, HP, HS, HW⟩, HT⟩
  isplitl [HT]; · iexact HT
  isplitl [HP]; · iexact HP
  isplitr [HB]; swap
  · iexists _; iexact HB
  unfold resting
  isplitl [HF]; · iexact HF
  isplitl [HW]; · iexact HW
  iexact HS

theorem lent_out (c : Dev nD) (hw : Runs (words c (tabM m c))) :
    (dats m 0 c).Φ (Fin.last (cfgM m).N) ⊢ Pipeline.ΦD osem0 spec0 H0 (V m) c := by
  rw [Pipeline.ΦD_eq, scopedRest0_eq, slot_some, ownSems_eq, lent_eq]
  have hN : (cfgM m).N = 79 + 1 := N_0
  show stateAt m c (cfgM m).N (Nat.le_refl _) ⊢ _
  unfold stateAt
  rw [hN]
  unfold core moving
  dsimp only
  rw [if_pos (show words c (tabM m c) 4 (row 79) = 1#32 from hw.last)]
  unfold resting loaded
  iintro ⟨-, HP, ⟨HF, HW, HS⟩, ⟨%b, -, HB⟩⟩
  isplitl [HF HB]
  · isplitl [HF]; · iexact HF
    iexists _; iexact HB
  isplitl [HP]; · iexact HP
  isplitl [HS]; · iexact HS
  iexact HW

/-! ## The call -/

set_option maxHeartbeats 800000 in
set_option backward.isDefEq.respectTransparency.types false in
/-- The program runs to its end, its arrays as the points leave them and every semaphore back at zero. -/
theorem run_of (hw : ∀ c : Dev nD, Runs (words c (tabM m c))) :
    θ_run defs (onTc main) ⟨m, fun _ => 0, ρ⟩ fun r =>
      Pipeline.FramePost (Pipeline.pin (pcfgs (F := F)) (fun _ => adm m)) (dats m) (0 : Fin 1) (V m) r ∧ r.2.sem = fun _ => 0 :=
  Pipeline.θ_run_frameP_dma (Q' := _) pcfgs (fun _ => adm m) (dats m) (0 : Fin 1) launch0 osem0 defs₀ Variants.none own0 H0 H0_sub m ρ main
    (hbody := fun c => (body_obligation m c (hw c)).loose)
    (hshare := fun c => (dats m 0 c).share_full fun _ => rfl)
    (howed := fun _ _ => rfl)
    (V := V m)
    (hmain := Pipeline.hmainP_prefix pcfgs 0 defs₀ Variants.none m main hostOps0 hostOps0_sub host_fresh main_chain)
    (hA := A_eq m)
    (hpf := V_pre m)
    (hin := lent_in m)
    (hout := fun c => lent_out m c (hw c))

/-- A word as the body reads it is the table's element. -/
theorem words_word (c : Dev nD) (tab : Tab (F := F) c) : words c tab = word tab := by
  funext r i
  refine congrArg tab (funext fun a => Fin.ext ?_)
  match a with
  | 0 => exact Nat.add_zero _
  | 1 => exact Nat.add_zero _

/-- What a run table's words are to the body. -/
theorem runs_words (c : Dev nD) (h : Runs (word (m ((c : Thread nD τ).loc main_arg0)))) : Runs (words c (tabM m c)) := by
  rw [words_word, tabM, V_arg0]
  exact h

theorem rest0 : main_arg0 ∈ Pipeline.restRefs sig spec0 := Pipeline.mem_restRefs_of main_arg0 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)

/-- At a run table the call leaves its arguments as they were and every semaphore at zero. -/
theorem frame_of (hw : ∀ c : Dev nD, Runs (word (m ((c : Thread nD τ).loc main_arg0)))) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun _ h => ⟨fun c =>
    ⟨((h.1 c).2 main_arg0 rest0).trans (V_arg0 m c),
     ((h.1 c).1 0).trans (((dats m 0 c).arrAt_in 0 rfl _).trans ((A_eq m c 0).trans (V_arg1 m c))),
     ((h.1 c).2 main_arg2 rest2).trans (V_arg2 m c),
     ((h.1 c).2 main_arg3 rest3).trans (V_arg3 m c)⟩, h.2⟩)
    (run_of m ρ fun c => runs_words m c (hw c))

/-- At a run table the call ends with its result array as the points leave it, its arguments as they were. -/
theorem result_of (hw : ∀ c : Dev nD, Runs (word (m ((c : Thread nD τ).loc main_arg0)))) :
    θ_run (defs (F := F)) (onTc (τ := τ) (main (F := F))) ⟨m, fun _ => 0, ρ⟩ fun r => ∀ c : Dev nD,
      r.2.mem ((c.tc : Thread nD τ).loc main_v1) = (dats m 0 c).arrAt 2 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c =>
    ⟨(h.1 c).1 2,
     ((h.1 c).2 main_arg0 rest0).trans (V_arg0 m c),
     ((h.1 c).1 0).trans (((dats m 0 c).arrAt_in 0 rfl _).trans ((A_eq m c 0).trans (V_arg1 m c))),
     ((h.1 c).2 main_arg2 rest2).trans (V_arg2 m c),
     ((h.1 c).2 main_arg3 rest3).trans (V_arg3 m c)⟩)
    (run_of m ρ fun c => runs_words m c (hw c))

end Cert.Proof.Down1

end
-- ==== Proof.Down1Ref.lean ====
module

public import proofs.«01_k».proof.Proof.Gen.ReferenceDown1Ideal.Run
public import proofs.«01_k».proof.Proof.DownRef

/-! # The second layer's down call's reference, entry by entry

The reference adds, over the sixteen experts, the weighted product of the rows with that expert's weights where the row
belongs to the expert. A row belongs to its tile's expert, or to none where its tile is not a real one, so the sum is the one
term of its expert, or zero. -/

@[expose] public section

set_option maxRecDepth 16384

noncomputable section

namespace Cert.Proof.Down1Ref

open Cert.ReferenceDown1Ideal Cert.ReferenceDown1Ideal.Gen Cert.ReferenceDown1Ideal.Value
open Cert.Proof.UpRuns (word)
open Cert.Proof.UpRef (owner tileOf select_eq pick)
open Cert.Proof.DownRef (step_at zero_at colOf lay_at)
open Idealize.ShloMosaic Idealize.ShloMosaic.TcCoe Idealize.ShloMosaic.StableHlo Idealize.SL.Sem

/-- A row of the gated products times a column of one expert's weights. -/
def prod (x : FVec Ideal S20480x1536 .bf16) (w : FVec Ideal S2x16x1536x4096 .f32) (e : Fin 16) (r : Fin 20480) (j : Fin 4096) : EReal :=
  ∑ k : Fin 1536, x (ix2 r k) * w (ix4 1 e k j)

/-- One product of the reference at an entry. -/
theorem prod_at (x : FVec Ideal S20480x1536 .bf16) (w : FVec Ideal S2x16x1536x4096 .f32) (e : Fin 16) (off : Fin 4 → Nat)
    (h : S2x16x1536x4096.Slices off S1x1x1536x4096) (ho : off = ![1, e.val, 0, 0]) (r : Fin 20480) (j : Fin 4096) :
    Host.dotGeneral dot_S20480x1536_S1536x4096_S20480x4096_1_0_0_1_n_n none (extf .f32 x bitsLt_bf16_f32)
      (shapeCast S1536x4096 (extractStridedSlice S1x1x1536x4096 off w h) shapeCasts_S1x1x1536x4096_S1536x4096) (ix2 r j) = prod x w e r j := by
  subst ho
  unfold prod
  pointwise

/-- The word of a row's expert as the reference spreads it. -/
theorem owner_at (V0 : Valuation τ sig (Elt Ideal)) (r : Fin 20480) :
    res_main_v10 V0 (ix2 r 0) = owner (V0 (Proc.devRef .tc main_arg0)) (tileOf r) := by
  unfold res_main_v10
  pointwise
  rw [select_eq]
  rfl

/-- One product of the reference at an entry, from its arguments. -/
theorem from_rows (V0 : Valuation τ sig (Elt Ideal)) (w : FVec Ideal S2x16x1536x4096 .f32) (e : Fin 16) (off : Fin 4 → Nat)
    (h : S2x16x1536x4096.Slices off S1x1x1536x4096) (ho : off = ![1, e.val, 0, 0]) (r : Fin 20480) (j : Fin 4096) :
    Host.dotGeneral (F := Ideal) (φ₁ := .f32) (φ₂ := .f32) dot_S20480x1536_S1536x4096_S20480x4096_1_0_0_1_n_n none (res_main_v0 V0 : FVec Ideal S20480x1536 .f32)
      (shapeCast S1536x4096 (extractStridedSlice S1x1x1536x4096 off w h) shapeCasts_S1x1x1536x4096_S1536x4096) (ix2 r j)
      = prod (V0 (Proc.devRef .tc main_arg1)) w e r j := prod_at _ w e off h ho r j

/-- The row's weight times the product with an expert's weights. -/
def weighted (x : FVec Ideal S20480x1536 .bf16) (w : FVec Ideal S2x16x1536x4096 .f32) (rw : FVec Ideal S20480 .f32) (e : Fin 16) (r : Fin 20480)
    (j : Fin 4096) : EReal := rw (ix1 r) * prod x w e r j

/-- An entry of the result: the row's weight times the product with the row's expert's weights, or zero. -/
def entry (tab : IVec S5x80 32) (x : FVec Ideal S20480x1536 .bf16) (w : FVec Ideal S2x16x1536x4096 .f32) (rw : FVec Ideal S20480 .f32)
    (r : Fin 20480) (j : Fin 4096) : EReal :=
  if h : (owner tab (tileOf r)).toNat < 16 then weighted x w rw ⟨_, h⟩ r j else 0

/-- The result array. -/
def array (tab : IVec S5x80 32) (x : FVec Ideal S20480x1536 .bf16) (w : FVec Ideal S2x16x1536x4096 .f32) (rw : FVec Ideal S20480 .f32) :
    FVec Ideal S20480x32x128 .f32 :=
  fun y => entry tab x w rw (y 0) (colOf (y 1) (y 2))

set_option maxHeartbeats 2000000 in
/-- The reference's composed term at an entry. -/
theorem term_entry (V0 : Valuation τ sig (Elt Ideal)) (r : Fin 20480) (j : Fin 4096) :
    (addf (addf (addf (addf (res_main_v131 V0) (select (broadcastInDim S20480x4096 ![0, 1] bcast_S20480x1_S20480x4096_0_1 (cmpi .eq (res_main_v10 V0) (broadcastInDim S20480x1 ![] bcast_S_S20480x1 (constantI S_ 32 12#32)))) (mulf (broadcastInDim S20480x4096 ![0, 1] bcast_S20480x1_S20480x4096_0_1 (broadcastInDim S20480x1 ![0] bcast_S20480_S20480x1_0 (V0 (Proc.devRef .tc main_arg3)))) (Host.dotGeneral (F := Ideal) (φ₁ := .f32) (φ₂ := .f32) dot_S20480x1536_S1536x4096_S20480x4096_1_0_0_1_n_n none (res_main_v0 V0 : FVec Ideal S20480x1536 .f32) (shapeCast _ (extractStridedSlice S1x1x1536x4096 ![1, 12, 0, 0] (V0 (Proc.devRef .tc main_arg2) : FVec Ideal S2x16x1536x4096 .f32) slices_S2x16x1536x4096_S1x1x1536x4096_1_12_0_0) shapeCasts_S1x1x1536x4096_S1536x4096))) (broadcastInDim S20480x4096 ![] bcast_S_S20480x4096 (id (constant S_ .f32 0x00000000#32))))) (select (broadcastInDim S20480x4096 ![0, 1] bcast_S20480x1_S20480x4096_0_1 (cmpi .eq (res_main_v10 V0) (broadcastInDim S20480x1 ![] bcast_S_S20480x1 (constantI S_ 32 13#32)))) (mulf (broadcastInDim S20480x4096 ![0, 1] bcast_S20480x1_S20480x4096_0_1 (broadcastInDim S20480x1 ![0] bcast_S20480_S20480x1_0 (V0 (Proc.devRef .tc main_arg3)))) (Host.dotGeneral (F := Ideal) (φ₁ := .f32) (φ₂ := .f32) dot_S20480x1536_S1536x4096_S20480x4096_1_0_0_1_n_n none (res_main_v0 V0 : FVec Ideal S20480x1536 .f32) (shapeCast _ (extractStridedSlice S1x1x1536x4096 ![1, 13, 0, 0] (V0 (Proc.devRef .tc main_arg2) : FVec Ideal S2x16x1536x4096 .f32) slices_S2x16x1536x4096_S1x1x1536x4096_1_13_0_0) shapeCasts_S1x1x1536x4096_S1536x4096))) (broadcastInDim S20480x4096 ![] bcast_S_S20480x4096 (id (constant S_ .f32 0x00000000#32))))) (select (broadcastInDim S20480x4096 ![0, 1] bcast_S20480x1_S20480x4096_0_1 (cmpi .eq (res_main_v10 V0) (broadcastInDim S20480x1 ![] bcast_S_S20480x1 (constantI S_ 32 14#32)))) (mulf (broadcastInDim S20480x4096 ![0, 1] bcast_S20480x1_S20480x4096_0_1 (broadcastInDim S20480x1 ![0] bcast_S20480_S20480x1_0 (V0 (Proc.devRef .tc main_arg3)))) (Host.dotGeneral (F := Ideal) (φ₁ := .f32) (φ₂ := .f32) dot_S20480x1536_S1536x4096_S20480x4096_1_0_0_1_n_n none (res_main_v0 V0 : FVec Ideal S20480x1536 .f32) (shapeCast _ (extractStridedSlice S1x1x1536x4096 ![1, 14, 0, 0] (V0 (Proc.devRef .tc main_arg2) : FVec Ideal S2x16x1536x4096 .f32) slices_S2x16x1536x4096_S1x1x1536x4096_1_14_0_0) shapeCasts_S1x1x1536x4096_S1536x4096))) (broadcastInDim S20480x4096 ![] bcast_S_S20480x4096 (id (constant S_ .f32 0x00000000#32))))) (select (broadcastInDim S20480x4096 ![0, 1] bcast_S20480x1_S20480x4096_0_1 (cmpi .eq (res_main_v10 V0) (broadcastInDim S20480x1 ![] bcast_S_S20480x1 (constantI S_ 32 15#32)))) (mulf (broadcastInDim S20480x4096 ![0, 1] bcast_S20480x1_S20480x4096_0_1 (broadcastInDim S20480x1 ![0] bcast_S20480_S20480x1_0 (V0 (Proc.devRef .tc main_arg3)))) (Host.dotGeneral (F := Ideal) (φ₁ := .f32) (φ₂ := .f32) dot_S20480x1536_S1536x4096_S20480x4096_1_0_0_1_n_n none (res_main_v0 V0 : FVec Ideal S20480x1536 .f32) (shapeCast _ (extractStridedSlice S1x1x1536x4096 ![1, 15, 0, 0] (V0 (Proc.devRef .tc main_arg2) : FVec Ideal S2x16x1536x4096 .f32) slices_S2x16x1536x4096_S1x1x1536x4096_1_15_0_0) shapeCasts_S1x1x1536x4096_S1536x4096))) (broadcastInDim S20480x4096 ![] bcast_S_S20480x4096 (id (constant S_ .f32 0x00000000#32))))) (ix2 r j)
    = entry (V0 (Proc.devRef .tc main_arg0)) (V0 (Proc.devRef .tc main_arg1)) (V0 (Proc.devRef .tc main_arg2)) (V0 (Proc.devRef .tc main_arg3)) r j := by
  have h1 := step_at _ _ (V0 (Proc.devRef .tc main_arg3)) _ 5#32 r j (step_at _ _ (V0 (Proc.devRef .tc main_arg3)) _ 4#32 r j (step_at _ _ (V0 (Proc.devRef .tc main_arg3)) _ 3#32 r j (step_at _ _ (V0 (Proc.devRef .tc main_arg3)) _ 2#32 r j (step_at _ _ (V0 (Proc.devRef .tc main_arg3)) _ 1#32 r j (step_at _ _ (V0 (Proc.devRef .tc main_arg3)) _ 0#32 r j (zero_at r j)
      (from_rows V0 (V0 (Proc.devRef .tc main_arg2)) 0 ![1, 0, 0, 0] slices_S2x16x1536x4096_S1x1x1536x4096_1_0_0_0 rfl r j) (owner_at V0 r))
      (from_rows V0 (V0 (Proc.devRef .tc main_arg2)) 1 ![1, 1, 0, 0] slices_S2x16x1536x4096_S1x1x1536x4096_1_1_0_0 rfl r j) (owner_at V0 r))
      (from_rows V0 (V0 (Proc.devRef .tc main_arg2)) 2 ![1, 2, 0, 0] slices_S2x16x1536x4096_S1x1x1536x4096_1_2_0_0 rfl r j) (owner_at V0 r))
      (from_rows V0 (V0 (Proc.devRef .tc main_arg2)) 3 ![1, 3, 0, 0] slices_S2x16x1536x4096_S1x1x1536x4096_1_3_0_0 rfl r j) (owner_at V0 r))
      (from_rows V0 (V0 (Proc.devRef .tc main_arg2)) 4 ![1, 4, 0, 0] slices_S2x16x1536x4096_S1x1x1536x4096_1_4_0_0 rfl r j) (owner_at V0 r))
      (from_rows V0 (V0 (Proc.devRef .tc main_arg2)) 5 ![1, 5, 0, 0] slices_S2x16x1536x4096_S1x1x1536x4096_1_5_0_0 rfl r j) (owner_at V0 r)
  have h2 := step_at _ _ (V0 (Proc.devRef .tc main_arg3)) _ 11#32 r j (step_at _ _ (V0 (Proc.devRef .tc main_arg3)) _ 10#32 r j (step_at _ _ (V0 (Proc.devRef .tc main_arg3)) _ 9#32 r j (step_at _ _ (V0 (Proc.devRef .tc main_arg3)) _ 8#32 r j (step_at _ _ (V0 (Proc.devRef .tc main_arg3)) _ 7#32 r j (step_at _ _ (V0 (Proc.devRef .tc main_arg3)) _ 6#32 r j (show res_main_v71 V0 (ix2 r j) = _ from h1)
      (from_rows V0 (V0 (Proc.devRef .tc main_arg2)) 6 ![1, 6, 0, 0] slices_S2x16x1536x4096_S1x1x1536x4096_1_6_0_0 rfl r j) (owner_at V0 r))
      (from_rows V0 (V0 (Proc.devRef .tc main_arg2)) 7 ![1, 7, 0, 0] slices_S2x16x1536x4096_S1x1x1536x4096_1_7_0_0 rfl r j) (owner_at V0 r))
      (from_rows V0 (V0 (Proc.devRef .tc main_arg2)) 8 ![1, 8, 0, 0] slices_S2x16x1536x4096_S1x1x1536x4096_1_8_0_0 rfl r j) (owner_at V0 r))
      (from_rows V0 (V0 (Proc.devRef .tc main_arg2)) 9 ![1, 9, 0, 0] slices_S2x16x1536x4096_S1x1x1536x4096_1_9_0_0 rfl r j) (owner_at V0 r))
      (from_rows V0 (V0 (Proc.devRef .tc main_arg2)) 10 ![1, 10, 0, 0] slices_S2x16x1536x4096_S1x1x1536x4096_1_10_0_0 rfl r j) (owner_at V0 r))
      (from_rows V0 (V0 (Proc.devRef .tc main_arg2)) 11 ![1, 11, 0, 0] slices_S2x16x1536x4096_S1x1x1536x4096_1_11_0_0 rfl r j) (owner_at V0 r)
  exact (step_at _ _ (V0 (Proc.devRef .tc main_arg3)) _ 15#32 r j (step_at _ _ (V0 (Proc.devRef .tc main_arg3)) _ 14#32 r j (step_at _ _ (V0 (Proc.devRef .tc main_arg3)) _ 13#32 r j (step_at _ _ (V0 (Proc.devRef .tc main_arg3)) _ 12#32 r j (show res_main_v131 V0 (ix2 r j) = _ from h2)
      (from_rows V0 (V0 (Proc.devRef .tc main_arg2)) 12 ![1, 12, 0, 0] slices_S2x16x1536x4096_S1x1x1536x4096_1_12_0_0 rfl r j) (owner_at V0 r))
      (from_rows V0 (V0 (Proc.devRef .tc main_arg2)) 13 ![1, 13, 0, 0] slices_S2x16x1536x4096_S1x1x1536x4096_1_13_0_0 rfl r j) (owner_at V0 r))
      (from_rows V0 (V0 (Proc.devRef .tc main_arg2)) 14 ![1, 14, 0, 0] slices_S2x16x1536x4096_S1x1x1536x4096_1_14_0_0 rfl r j) (owner_at V0 r))
      (from_rows V0 (V0 (Proc.devRef .tc main_arg2)) 15 ![1, 15, 0, 0] slices_S2x16x1536x4096_S1x1x1536x4096_1_15_0_0 rfl r j) (owner_at V0 r)).trans
    (pick _ fun e => weighted (V0 (Proc.devRef .tc main_arg1)) (V0 (Proc.devRef .tc main_arg2)) (V0 (Proc.devRef .tc main_arg3)) e r j)

/-- The reference ends with its result array at `array` of its arguments, its arguments as they were. -/
theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v172) = array (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (funext fun y => by
    obtain ⟨i, s, l, rfl⟩ : ∃ (i : Fin 20480) (s : Fin 32) (l : Fin 128), y = ix3 i s l := ⟨y 0, y 1, y 2, eq_ix3 y⟩
    exact (lay_at _ i s l).trans (term_entry (launchContents m c) i (colOf s l))), (h c).2⟩)
    (Cert.ReferenceDown1Ideal.Value.run (F := Ideal) m ρ)

/-- The reference leaves its arguments as they were; it has no semaphore, so every counter ends at zero. -/
theorem kept (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => (h c).2, sem_eq_zero_of_no_sems (by decide) r.2⟩)
    (Cert.ReferenceDown1Ideal.Value.run (F := Ideal) m ρ)

end Cert.Proof.Down1Ref

end
-- ==== Proof.Down1Value.lean ====
module

public import proofs.«01_k».proof.Proof.Down1Frame
public import proofs.«01_k».proof.Proof.Down1Ref
public import Idealize.ShloMosaic.Lib.Pipeline.Covers
public import Idealize.ShloMosaic.Lib.WordCmp

/-! # The down kernel's array, entry by entry

A point stores the block of its tile's rows; over the grid the blocks fill the array, and what a point stores at an entry is
the reference's entry there. -/

@[expose] public section

set_option maxRecDepth 16384

noncomputable section

namespace Cert.Proof.Down1

open Cert.KernelDown1Ideal Cert.KernelDown1Ideal.Gen Cert.Proof.UpRuns
open Idealize.ShloMosaic Idealize.ShloMosaic.TcCoe Idealize.SL.Sem
open Idealize.ShloMosaic.Pipeline (Dat)
open Cert.Proof.DownRef (colOf)

variable (m : (ℓ : Loc nD τ sig) → Buf (Elt Ideal) ℓ)

/-- The row of the array a tile's row is. -/
def rowAt (t : Fin 80) (i : Fin 256) : Fin 20480 := ⟨(row t.val).val * 256 + i.val, by have := (row t.val).isLt; omega⟩

/-- The windows' block indices at every grid point. -/
theorem idx0 (t : Fin (cfgM m).N) : ((cfgM m).win 0).index t = ![(row t.val).val, 0] := by
  have h : ∀ t : Fin 80, cc0_transform_0 (grid0.coords t) = ![(row t.val).val, 0] := by decide +kernel
  exact h t
theorem idx1 (t : Fin (cfgM m).N) : ((cfgM m).win 1).index t = ![(row t.val).val, 0] := by
  have h : ∀ t : Fin 80, cc0_transform_2 (grid0.coords t) = ![(row t.val).val, 0] := by decide +kernel
  exact h t
theorem idx2 (t : Fin (cfgM m).N) : ((cfgM m).win 2).index t = ![(row t.val).val, 0, 0] := by
  have h : ∀ t : Fin 80, cc0_transform_3 (grid0.coords t) = ![(row t.val).val, 0, 0] := by decide +kernel
  exact h t

/-- The rows' block holds the tile's rows, -/
theorem rows_at (c : Dev nD) (t : Fin (cfgM m).N) (i : Fin 256) (k : Fin 1536) :
    iblk m c 0 t (ix2 i k) = m ((c : Thread nD τ).loc main_arg1) (ix2 (rowAt t i) k) := by
  have he : (((cfgM m).win 0).blk t).view.emb (ix2 i k) = ix2 (rowAt t i) k := by blk_ext [idx0 m t, rowAt]
  exact (congrFun (V_arg1 m c) _).trans (congrArg (m ((c : Thread nD τ).loc main_arg1)) he)

/-- and the row weights' block their weights. -/
theorem column_at (v : Vec Ideal S20480 .f32) (r : Fin 20480) (o : Fin 1) : shapeCast S20480x1 v shapeCasts_S20480_S20480x1 (ix2 r o) = v (ix1 r) := by
  refine shapeCast_apply v shapeCasts_S20480_S20480x1 (ix2 r o) (ix1 r) ?_
  refine (Shape.rowMajor_val_one (d := ![20480]) _).trans (Eq.trans ?_ (Shape.rowMajor_val_two (d := ![20480, 1]) _).symm)
  show r.val = r.val * 1 + o.val
  have := o.isLt
  omega
theorem weights_at (c : Dev nD) (t : Fin (cfgM m).N) (i : Fin 256) (o : Fin 1) :
    iblk m c 1 t (ix2 i o) = m ((c : Thread nD τ).loc main_arg3) (ix1 (rowAt t i)) := by
  have he : (((cfgM m).win 1).blk t).view.emb (ix2 i o) = ix2 (rowAt t i) o := by blk_ext [idx1 m t, rowAt]
  exact (congrFun (V_weights m c) _).trans ((congrArg (shapeCast S20480x1 (m ((c : Thread nD τ).loc main_arg3)) shapeCasts_S20480_S20480x1) he).trans
    (column_at _ _ o))

/-- A slab holds its expert's weights, rounded. -/
theorem src_emb (s : Fin 4 → Nat) (e : Fin 16) (h : s = offs e) (inb : ∀ a, s a + S1x1x1536x4096.size a ≤ S2x16x1536x4096.size a)
    (hn : S1536x4096.numel = S1x1x1536x4096.numel) (k : Fin 1536) (j : Fin 4096) :
    (Rect.unit (s := S2x16x1536x4096) s S1x1x1536x4096.size inb).emb (Shape.reshapeEquiv hn (ix2 k j)) = ix4 (1 : Fin 2) e k j := by
  subst h
  rw [show Shape.reshapeEquiv hn (ix2 k j) = ix4 (0 : Fin 1) (0 : Fin 1) k j from ValueIdx.reshapeEquiv_ix2_11ab hn k j]
  funext a
  refine Fin.ext ?_
  match a with
  | 0 => rfl
  | 1 => show e.val + 1 * 0 = e.val; omega
  | 2 => show 0 + 1 * k.val = k.val; omega
  | 3 => show 0 + 1 * j.val = j.val; omega
theorem slab_at (c : Dev nD) (w : WD (F := Ideal) c) (e : Fin 16) (k : Fin 1536) (j : Fin 4096) :
    slabOf c w e (ix3 0 k j) = w (ix4 1 e k j) := by
  unfold slabOf slab
  pointwise
  exact congrArg w (src_emb _ e rfl (offs_inb e) _ k j)

/-- What the body stores of a real tile, at an entry. -/
theorem stored (x : Vec Ideal S256x1536 .bf16) (b : Vec Ideal S1x1536x4096 .bf16) (r : Vec Ideal S256x1 .f32) (i : Fin 256) (j : Fin 4096) :
    k0_pay7 x b r (ix2 i j) = (∑ k : Fin 1536, x (ix2 i k) * b (ix3 0 k j)) * r (ix2 i 0) := by
  pointwise [k0_pay7]

/-- And of the others. -/
theorem stored_zero (i : Fin 256) (s : Fin 32) (l : Fin 128) : (k0_pay6 (F := Ideal)) (ix3 i s l) = (0 : EReal) := by
  pointwise [k0_pay6]

/-- The blocks fill the array. -/
theorem cover : ((cfgM m).win 2).Covers :=
  ((cfgM m).win 2).covers_of_indexMap_surj rfl (show ∀ a : Fin 3, 0 < S256x32x128.size a by decide) fun β => by
    have h0 : (β (show Fin 3 from 0)).val < 80 := lt_of_lt_of_eq (β (show Fin 3 from 0)).isLt (show (20480 + 256 - 1) / 256 = 80 by decide)
    have h1 : (β (show Fin 3 from 1)).val < 1 := lt_of_lt_of_eq (β (show Fin 3 from 1)).isLt (show (32 + 32 - 1) / 32 = 1 by decide)
    have h2 : (β (show Fin 3 from 2)).val < 1 := lt_of_lt_of_eq (β (show Fin 3 from 2)).isLt (show (128 + 128 - 1) / 128 = 1 by decide)
    generalize hb0 : (β (show Fin 3 from 0)).val = b0 at h0
    generalize hb1 : (β (show Fin 3 from 1)).val = b1 at h1
    generalize hb2 : (β (show Fin 3 from 2)).val = b2 at h2
    refine ⟨grid0.coords ⟨b0, show b0 < 80 by omega⟩, fun a => ?_⟩
    refine (congrFun (idx2 m ⟨b0, show b0 < 80 by omega⟩) a).trans ?_
    match a with
    | ⟨0, _⟩ => exact Eq.trans (show b0 % 80 = b0 by omega) hb0.symm
    | ⟨1, _⟩ => exact Eq.trans (show 0 = b1 by omega) hb1.symm
    | ⟨2, _⟩ => exact Eq.trans (show 0 = b2 by omega) hb2.symm

/-- What a point stores at an entry is the reference's entry there. -/
theorem tile_entry (c : Dev nD) (hw : Runs (word (m ((c : Thread nD τ).loc main_arg0)))) (t : Fin (cfgM m).N) (i : Fin 256) (s : Fin 32) (l : Fin 128) :
    tileAt c (tabM m c) (wdM m c) t (iblk m c 0 t) (iblk m c 1 t) (ix3 i s l)
      = Down1Ref.entry (m ((c : Thread nD τ).loc main_arg0)) (m ((c : Thread nD τ).loc main_arg1)) (m ((c : Thread nD τ).loc main_arg2))
          (m ((c : Thread nD τ).loc main_arg3)) (rowAt t i) (colOf s l) := by
  have ht : UpRef.tileOf (rowAt t i) = row t.val := Fin.ext (by
    show ((row t.val).val * 256 + i.val) / 256 = (row t.val).val
    have := i.isLt
    omega)
  have hc : k0_cond4 (word (m ((c : Thread nD τ).loc main_arg0)) 1 (row t.val)) = 1#1
      ↔ word (m ((c : Thread nD τ).loc main_arg0)) 1 (row t.val) = 1#32 := by
    unfold k0_cond4
    word_cmp
    exact ⟨fun h => BitVec.eq_of_toNat_eq h, fun h => h ▸ rfl⟩
  unfold tileAt tileOut Down1Ref.entry
  rw [words_word, tabM, wdM, V_arg0, V_arg2]
  show (if k0_cond4 (word (m ((c : Thread nD τ).loc main_arg0)) 1 (row t.val)) = 1#1 then _ else _ : Vec Ideal S256x32x128 .f32) (ix3 i s l) = _
  unfold UpRef.owner
  rw [ht]
  by_cases h : word (m ((c : Thread nD τ).loc main_arg0)) 1 (row t.val) = 1#32
  · simp only [if_pos (hc.2 h), if_pos h, dif_pos (hw.expert (row t.val))]
    refine (stored _ _ _ i (colOf s l)).trans ?_
    have he : expertOf (word (m ((c : Thread nD τ).loc main_arg0))) (row t.val) = ⟨_, hw.expert (row t.val)⟩ := Fin.ext (expertOf_val hw _)
    unfold Down1Ref.weighted Down1Ref.prod
    rw [← he]
    refine (mul_comm _ _).trans ?_
    refine congrArg₂ (· * ·) (weights_at m c t i 0) (Finset.sum_congr rfl fun k _ => ?_)
    exact congrArg₂ (· * ·) (rows_at m c t i k) (slab_at c _ _ k (colOf s l))
  · simp only [if_neg (fun h' => h (hc.1 h')), if_neg h]
    rw [stored_zero]
    rfl

/-- The array at the end is the reference's. -/
theorem final (c : Dev nD) (hw : Runs (word (m ((c : Thread nD τ).loc main_arg0)))) :
    (dats m 0 c).arrAt 2 (cfgM m).N = Down1Ref.array (m ((c : Thread nD τ).loc main_arg0)) (m ((c : Thread nD τ).loc main_arg1)) (m ((c : Thread nD τ).loc main_arg2))
          (m ((c : Thread nD τ).loc main_arg3)) := by
  refine (dats m 0 c).arrAt_eq_of_covers 2 _ (cover m) fun t _ y => ?_
  rw [after0_2]
  have hy : ∀ y : S256x32x128.Idx, ∃ (i : Fin 256) (s : Fin 32) (l : Fin 128), y = ix3 i s l :=
    fun y => ⟨y 0, y 1, y 2, by funext a; match a with | 0 => rfl | 1 => rfl | 2 => rfl⟩
  obtain ⟨i, s, l, rfl⟩ := hy y
  have he : (((cfgM m).win 2).blk t).view.emb (ix3 i s l) = ix3 (rowAt t i) s l := by blk_ext [idx2 m t, rowAt]
  exact (tile_entry m c hw t i s l).trans (congrArg (Down1Ref.array (m ((c : Thread nD τ).loc main_arg0)) (m ((c : Thread nD τ).loc main_arg1)) (m ((c : Thread nD τ).loc main_arg2))
          (m ((c : Thread nD τ).loc main_arg3))) he).symm

end Cert.Proof.Down1

end
-- ==== Proof.Down1Same.lean ====
module

public import proofs.«01_k».proof.Proof.Down1Frame
public import proofs.«01_k».proof.Proof.Gen.KernelDown1.Launch

/-! # The kernel on words is the kernel on numbers

No operation was rewritten in the down call, so its two programs are one, written twice; what `Down1Frame` says at
every reading of the floats it says of both. -/

@[expose] public section

set_option maxRecDepth 16384

noncomputable section

namespace Cert.Proof.Down1Same

open Idealize.ShloMosaic Idealize.ShloMosaic.TcCoe Idealize.SL.Sem

/-- The two programs run the same bodies. -/
theorem bodies : Cert.KernelDown1.defs₀ (F := Bits) = Cert.KernelDown1Ideal.defs₀ (F := Bits) := by
  unfold Cert.KernelDown1.defs₀ Cert.KernelDown1Ideal.defs₀
  refine congrArg Defs.onTc ?_
  funext l x
  match l, x with
  | 0, (t, s) => rfl

/-- And so the same calls. -/
theorem calls : Cert.KernelDown1.defs (F := Bits) = Cert.KernelDown1Ideal.defs (F := Bits) :=
  congrArg (Pipeline.defs (Cert.KernelDown1.pcfgs (F := Bits))) bodies

section
open Cert.KernelDown1

/-- The kernel on words leaves its arguments as they were at a table of runs, and every semaphore at zero. -/
theorem frame_of (m : (ℓ : Loc nD τ sig) → Buf (Elt Bits) ℓ) (ρ : Dev nD → PrngReg)
    (hw : ∀ c : Dev nD, UpRuns.Runs (UpRuns.word (m ((c.tc : Thread nD τ).loc main_arg0)))) :
    θ_run (defs (F := Bits)) (onTc (τ := τ) (main (F := Bits))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  rw [calls]
  exact Down1.frame_of (F := Bits) m ρ hw

end

end Cert.Proof.Down1Same

end
-- ==== Proof.Down1Claims.lean ====
module

public import proofs.«01_k».proof.Proof.Down1Value
public import proofs.«01_k».proof.Proof.Down1Same
public import proofs.«01_k».proof.Proof.DownClaims
public import proofs.«01_k».proof.Defs

/-! # The claims about the down call of the second layer's experts

Its kernel leaves its arguments as they were and every semaphore at zero, on words and on numbers, at every table of runs
the precondition admits; there its result is its reference's. -/

@[expose] public section

set_option maxRecDepth 16384

noncomputable section

namespace Cert.Proof

open Idealize.ShloMosaic Idealize.ShloMosaic.TcCoe Idealize.SL.Sem

/-- The kernel on words, at a table of runs, leaves its arguments as they were and every semaphore at zero. -/
theorem down1_frame_bits : Cert.quiescent_KernelDown1 (hKernelDown1 := Cert.KernelDown1.Gen.facts) (hPre_runs_ok_down := runs_down_facts) := fun m g h =>
  Down1Same.frame_of m g fun c => by
    exact runs_of_down (F := Bits) _ _ _ _ (h c)

/-- The kernel on numbers, at a table of runs, leaves its arguments as they were and every semaphore at zero. -/
theorem down1_frame : Cert.quiescent_KernelDown1Ideal (hKernelDown1Ideal := Cert.KernelDown1Ideal.Gen.facts) (hPre_runs_ok_down := runs_down_facts) := fun m g h =>
  Down1.frame_of m g fun c => by
    exact runs_of_down (F := Ideal) _ _ _ _ (h c)

/-- The kernel on numbers and its reference agree at every table of runs. -/
theorem down1_value : Cert.algebraic_KernelDown1Ideal_ReferenceDown1Ideal (hKernelDown1Ideal := Cert.KernelDown1Ideal.Gen.facts)
    (hReferenceDown1Ideal := Cert.ReferenceDown1Ideal.Gen.facts) (hPre_runs_ok_down := runs_down_facts) := fun m g m' g' h ha => by
  have hw := fun c => by
    exact runs_of_down (F := Ideal) _ _ _ _ (h c)
  refine ⟨fun c => (Down1.dats m 0 c).arrAt 2 (Down1.cfgM m).N, Down1.result_of m g hw,
    (θ_run _ _ _).mono (fun r hr c => ⟨(hr c).1.trans ?_, (hr c).2⟩) (Down1Ref.result m' g')⟩
  exact (congr (congr (congr (congrArg Down1Ref.array (ha c).1) (ha c).2.1) (ha c).2.2.1) (ha c).2.2.2).trans (Down1.final m c (hw c)).symm

end Cert.Proof

end
-- ==== Proof.Z.lean ====
module

public import proofs.«01_k».proof.Proof.Gen.KernelZIdeal.Value
public import proofs.«01_k».proof.Proof.Gen.ReferenceZIdeal.Run
public import Idealize.ShloMosaic.Lib.Pipeline.ValueKit
public import Idealize.ShloMosaic.Lib.Pointwise
public import Idealize.ShloMosaic.Lib.Claim

/-! # The gate's columns of the input projection

The kernel multiplies the rounded input by the transposed, rounded weights, 1024 rows and 512 columns at a time,
over the first 4096 columns of the weights; the reference multiplies by the whole weight matrix and takes those columns. -/

@[expose] public section

set_option maxRecDepth 16384

noncomputable section

namespace Cert.KernelZIdeal.Proj

open Cert.KernelZIdeal Cert.KernelZIdeal.Gen Idealize.ShloMosaic Idealize.ShloMosaic.TcCoe Idealize.SL.Sem
open Idealize.ShloMosaic.Pipeline (Dat)

variable (m : (ℓ : Loc nD τ sig) → Buf (Elt Ideal) ℓ)

/-- The reference's term over an input and a weight matrix. -/
abbrev REF (X : FVec Ideal S8192x4096 .f32) (W : FVec Ideal S4096x15424 .f32) : FVec Ideal S8192x4096 .f32 :=
  extractStridedSlice Cert.ReferenceZIdeal.S8192x4096 ![0, 0] (Host.dotGeneral Cert.ReferenceZIdeal.dot_S8192x4096_S4096x15424_S8192x15424_1_0_0_1_n_n none X W)
    Cert.ReferenceZIdeal.Gen.slices_S8192x15424_S8192x4096_0_0

/-- The four windows' block indices at every grid point. -/
theorem idx : ∀ t : Fin cfg0.N, win0_0.index t = ![t.val / 8, 0] ∧ win0_1.index t = ![t.val % 8, 0]
    ∧ win0_2.index t = ![0, t.val % 8] ∧ win0_3.index t = ![t.val / 8, t.val % 8] :=
  (by decide +kernel : ∀ t : Fin grid0.N, _)

/-- The row of the array a block's row is. -/
def row (t : Fin cfg0.N) (i : Fin 1024) : Fin 8192 := ⟨t.val / 8 * 1024 + i.val, by have h : t.val < 64 := t.isLt; omega⟩

/-- The column of the result a block's column is. -/
def col (t : Fin cfg0.N) (j : Fin 512) : Fin 4096 := ⟨t.val % 8 * 512 + j.val, by omega⟩

/-- The column of the weight matrix that makes a column of the result. -/
def wcol (j : Fin 4096) : Fin 15424 := ⟨0 + j.val, by omega⟩

/-- The panel's block holds the panel's rows. -/
theorem panel (c : Dev nD) (t : Fin cfg0.N) (i : Fin 1024) (k : Fin 4096) :
    iblk m c 0 t (ix2 i k) = m ((c : Thread nD τ).loc main_arg0) (ix2 (row t i) k) := by
  have he : (win0_0.blk t).view.emb (ix2 i k) = ix2 (row t i) k := by blk_ext [idx t, row]
  simp only [iblk]
  entry_read
  blk_simp
  rw [he]
  pointwise

/-- The weights' block, transposed, holds the weights' columns. -/
theorem weights (c : Dev nD) (t : Fin cfg0.N) (k : Fin 4096) (j : Fin 512) :
    X0_1 m c t (ix2 j k) = m ((c : Thread nD τ).loc main_arg1) (ix2 k (wcol (col t j))) := by
  unfold X0_1 Pipeline.Window.fill
  rw [dif_pos (moved0_1 t _)]
  simp only [iblk]
  entry_read
  blk_simp
  pointwise
  blk_ext [idx t, wcol, col]
  all_goals omega

/-- No bias: the row added to every product is zero. -/
theorem bias (c : Dev nD) (t : Fin cfg0.N) (j : Fin 512) : iblk m c 2 t (ix2 0 j) = (0 : EReal) := by
  simp only [iblk]
  entry_read
  blk_simp
  pointwise

/-- What the body stores is the added row plus the product of the panel's block with the weights' block, row by row. -/
theorem stored (b : Vec Ideal S1x512 .f32) (w : Vec Ideal S512x4096 .bf16) (x : Vec Ideal S1024x4096 .bf16)
    (i : Fin 1024) (j : Fin 512) : k0_pay1 b w x (ix2 i j) = b (ix2 0 j) + ∑ k : Fin 4096, x (ix2 i k) * w (ix2 j k) := by
  pointwise [k0_pay1]

/-- What the reference computes at a row and a column. -/
theorem ref_at (X : FVec Ideal S8192x4096 .f32) (W : FVec Ideal S4096x15424 .f32) (i : Fin 8192) (j : Fin 4096) :
    REF X W (ix2 i j) = ∑ k : Fin 4096, X (ix2 i k) * W (ix2 k (wcol j)) := by
  pointwise [REF]
  blk_point [wcol]

/-- The kernel's result array is the reference's term of its arguments. -/
theorem final (c : Dev nD) : (dats m 0 c).arrAt 3 cfg0.N
    = REF (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  obtain ⟨i, j, rfl⟩ : ∃ (i : Fin 1024) (j : Fin 512), y = ix2 i j := ⟨y 0, y 1, eq_ix2 y⟩
  have he : (win0_3.blk t).view.emb (ix2 i j) = ix2 (row t i) (col t j) := by blk_ext [idx t, row, col]
  refine Eq.trans ?_ (congrArg (REF (m ((c : Thread nD τ).loc main_arg0)) (m ((c : Thread nD τ).loc main_arg1))) he).symm
  refine (stored _ _ _ i j).trans (Eq.trans ?_ (ref_at _ _ _ _).symm)
  rw [bias, zero_add]
  exact Finset.sum_congr rfl fun k _ => by rw [panel, weights]

end Cert.KernelZIdeal.Proj

end
-- ==== Proof.Xbc.lean ====
module

public import proofs.«01_k».proof.Proof.Gen.KernelXbcIdeal.Value
public import proofs.«01_k».proof.Proof.Gen.ReferenceXbcIdeal.Run
public import Idealize.ShloMosaic.Lib.Pipeline.ValueKit
public import Idealize.ShloMosaic.Lib.Pointwise
public import Idealize.ShloMosaic.Lib.Claim

/-! # The state-space columns of the input projection

As for the gate's columns, over the 6144 columns of the weights that start at column 4096. -/

@[expose] public section

set_option maxRecDepth 16384

noncomputable section

namespace Cert.KernelXbcIdeal.Proj

open Cert.KernelXbcIdeal Cert.KernelXbcIdeal.Gen Idealize.ShloMosaic Idealize.ShloMosaic.TcCoe Idealize.SL.Sem
open Idealize.ShloMosaic.Pipeline (Dat)

variable (m : (ℓ : Loc nD τ sig) → Buf (Elt Ideal) ℓ)

/-- The reference's term over an input and a weight matrix. -/
abbrev REF (X : FVec Ideal S8192x4096 .f32) (W : FVec Ideal S4096x15424 .f32) : FVec Ideal S8192x6144 .f32 :=
  extractStridedSlice Cert.ReferenceXbcIdeal.S8192x6144 ![0, 4096] (Host.dotGeneral Cert.ReferenceXbcIdeal.dot_S8192x4096_S4096x15424_S8192x15424_1_0_0_1_n_n none X W)
    Cert.ReferenceXbcIdeal.Gen.slices_S8192x15424_S8192x6144_0_4096

/-- The four windows' block indices at every grid point. -/
theorem idx : ∀ t : Fin cfg0.N, win0_0.index t = ![t.val / 12, 0] ∧ win0_1.index t = ![t.val % 12 + 8, 0]
    ∧ win0_2.index t = ![0, t.val % 12] ∧ win0_3.index t = ![t.val / 12, t.val % 12] :=
  (by decide +kernel : ∀ t : Fin grid0.N, _)

/-- The row of the array a block's row is. -/
def row (t : Fin cfg0.N) (i : Fin 1024) : Fin 8192 := ⟨t.val / 12 * 1024 + i.val, by have h : t.val < 96 := t.isLt; omega⟩

/-- The column of the result a block's column is. -/
def col (t : Fin cfg0.N) (j : Fin 512) : Fin 6144 := ⟨t.val % 12 * 512 + j.val, by omega⟩

/-- The column of the weight matrix that makes a column of the result. -/
def wcol (j : Fin 6144) : Fin 15424 := ⟨4096 + j.val, by omega⟩

/-- The panel's block holds the panel's rows. -/
theorem panel (c : Dev nD) (t : Fin cfg0.N) (i : Fin 1024) (k : Fin 4096) :
    iblk m c 0 t (ix2 i k) = m ((c : Thread nD τ).loc main_arg0) (ix2 (row t i) k) := by
  have he : (win0_0.blk t).view.emb (ix2 i k) = ix2 (row t i) k := by blk_ext [idx t, row]
  simp only [iblk]
  entry_read
  blk_simp
  rw [he]
  pointwise

/-- The weights' block, transposed, holds the weights' columns. -/
theorem weights (c : Dev nD) (t : Fin cfg0.N) (k : Fin 4096) (j : Fin 512) :
    X0_1 m c t (ix2 j k) = m ((c : Thread nD τ).loc main_arg1) (ix2 k (wcol (col t j))) := by
  unfold X0_1 Pipeline.Window.fill
  rw [dif_pos (moved0_1 t _)]
  simp only [iblk]
  entry_read
  blk_simp
  pointwise
  blk_ext [idx t, wcol, col]
  all_goals omega

/-- No bias: the row added to every product is zero. -/
theorem bias (c : Dev nD) (t : Fin cfg0.N) (j : Fin 512) : iblk m c 2 t (ix2 0 j) = (0 : EReal) := by
  simp only [iblk]
  entry_read
  blk_simp
  pointwise

/-- What the body stores is the added row plus the product of the panel's block with the weights' block, row by row. -/
theorem stored (b : Vec Ideal S1x512 .f32) (w : Vec Ideal S512x4096 .bf16) (x : Vec Ideal S1024x4096 .bf16)
    (i : Fin 1024) (j : Fin 512) : k0_pay1 b w x (ix2 i j) = b (ix2 0 j) + ∑ k : Fin 4096, x (ix2 i k) * w (ix2 j k) := by
  pointwise [k0_pay1]

/-- What the reference computes at a row and a column. -/
theorem ref_at (X : FVec Ideal S8192x4096 .f32) (W : FVec Ideal S4096x15424 .f32) (i : Fin 8192) (j : Fin 6144) :
    REF X W (ix2 i j) = ∑ k : Fin 4096, X (ix2 i k) * W (ix2 k (wcol j)) := by
  pointwise [REF]
  blk_point [wcol]

/-- The kernel's result array is the reference's term of its arguments. -/
theorem final (c : Dev nD) : (dats m 0 c).arrAt 3 cfg0.N
    = REF (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  obtain ⟨i, j, rfl⟩ : ∃ (i : Fin 1024) (j : Fin 512), y = ix2 i j := ⟨y 0, y 1, eq_ix2 y⟩
  have he : (win0_3.blk t).view.emb (ix2 i j) = ix2 (row t i) (col t j) := by blk_ext [idx t, row, col]
  refine Eq.trans ?_ (congrArg (REF (m ((c : Thread nD τ).loc main_arg0)) (m ((c : Thread nD τ).loc main_arg1))) he).symm
  refine (stored _ _ _ i j).trans (Eq.trans ?_ (ref_at _ _ _ _).symm)
  rw [bias, zero_add]
  exact Finset.sum_congr rfl fun k _ => by rw [panel, weights]

end Cert.KernelXbcIdeal.Proj

end
-- ==== Proof.Qkv.lean ====
module

public import proofs.«01_k».proof.Proof.Gen.KernelQkvIdeal.Value
public import proofs.«01_k».proof.Proof.Gen.ReferenceQkvIdeal.Run
public import Idealize.ShloMosaic.Lib.Pipeline.ValueKit
public import Idealize.ShloMosaic.Lib.Pointwise
public import Idealize.ShloMosaic.Lib.Claim

/-! # The attention columns of the input projection

The kernel multiplies the rounded input by the last 5120 columns of the weights, transposed, rounded and cut out
beforehand, and adds a bias; the reference multiplies by the whole weight matrix, takes those columns and adds the bias. -/

@[expose] public section

set_option maxRecDepth 16384

noncomputable section

namespace Cert.KernelQkvIdeal.Proj

open Cert.KernelQkvIdeal Cert.KernelQkvIdeal.Gen Idealize.ShloMosaic Idealize.ShloMosaic.TcCoe Idealize.SL.Sem
open Idealize.ShloMosaic.Pipeline (Dat)

variable (m : (ℓ : Loc nD τ sig) → Buf (Elt Ideal) ℓ)

/-- The reference's term over an input, a weight matrix and a bias. -/
abbrev REF (X : FVec Ideal S8192x4096 .f32) (W : FVec Ideal S4096x15424 .f32) (B : FVec Ideal S5120 .f32) : FVec Ideal S8192x5120 .f32 :=
  addf (extractStridedSlice Cert.ReferenceQkvIdeal.S8192x5120 ![0, 10304] (Host.dotGeneral Cert.ReferenceQkvIdeal.dot_S8192x4096_S4096x15424_S8192x15424_1_0_0_1_n_n none X W)
    Cert.ReferenceQkvIdeal.Gen.slices_S8192x15424_S8192x5120_0_10304)
    (broadcastInDim Cert.ReferenceQkvIdeal.S8192x5120 ![0, 1] Cert.ReferenceQkvIdeal.Gen.bcast_S1x5120_S8192x5120_0_1
      (broadcastInDim Cert.ReferenceQkvIdeal.S1x5120 ![1] Cert.ReferenceQkvIdeal.Gen.bcast_S5120_S1x5120_1 B))

/-- The four windows' block indices at every grid point. -/
theorem idx : ∀ t : Fin cfg0.N, win0_0.index t = ![t.val / 10, 0] ∧ win0_1.index t = ![t.val % 10, 0]
    ∧ win0_2.index t = ![0, t.val % 10] ∧ win0_3.index t = ![t.val / 10, t.val % 10] :=
  (by decide +kernel : ∀ t : Fin grid0.N, _)

/-- The row of the array a block's row is. -/
def row (t : Fin cfg0.N) (i : Fin 1024) : Fin 8192 := ⟨t.val / 10 * 1024 + i.val, by have h : t.val < 80 := t.isLt; omega⟩

/-- The column of the result a block's column is. -/
def col (t : Fin cfg0.N) (j : Fin 512) : Fin 5120 := ⟨t.val % 10 * 512 + j.val, by omega⟩

/-- The column of the weight matrix that makes a column of the result. -/
def wcol (j : Fin 5120) : Fin 15424 := ⟨10304 + j.val, by omega⟩

/-- The panel's block holds the panel's rows. -/
theorem panel (c : Dev nD) (t : Fin cfg0.N) (i : Fin 1024) (k : Fin 4096) :
    iblk m c 0 t (ix2 i k) = m ((c : Thread nD τ).loc main_arg0) (ix2 (row t i) k) := by
  have he : (win0_0.blk t).view.emb (ix2 i k) = ix2 (row t i) k := by blk_ext [idx t, row]
  simp only [iblk]
  entry_read
  blk_simp
  rw [he]
  pointwise

/-- The weights' block, transposed, holds the weights' columns. -/
theorem weights (c : Dev nD) (t : Fin cfg0.N) (k : Fin 4096) (j : Fin 512) :
    iblk m c 1 t (ix2 j k) = m ((c : Thread nD τ).loc main_arg1) (ix2 k (wcol (col t j))) := by
  have he : (win0_1.blk t).view.emb (ix2 j k) = ix2 (col t j) k := by blk_ext [idx t, wcol, col]
  simp only [iblk]
  entry_read
  blk_simp
  rw [he]
  pointwise
  blk_ext [wcol]

/-- The bias's block holds the bias's entries. -/
theorem bias (c : Dev nD) (t : Fin cfg0.N) (j : Fin 512) :
    iblk m c 2 t (ix2 0 j) = m ((c : Thread nD τ).loc main_arg2) (ix1 (col t j)) := by
  have he : (win0_2.blk t).view.emb (ix2 0 j) = ix2 0 (col t j) := by blk_ext [idx t, col]
  simp only [iblk]
  entry_read
  blk_simp
  rw [he]
  pointwise

/-- What the body stores is the added row plus the product of the panel's block with the weights' block, row by row. -/
theorem stored (b : Vec Ideal S1x512 .f32) (w : Vec Ideal S512x4096 .bf16) (x : Vec Ideal S1024x4096 .bf16)
    (i : Fin 1024) (j : Fin 512) : k0_pay1 b w x (ix2 i j) = b (ix2 0 j) + ∑ k : Fin 4096, x (ix2 i k) * w (ix2 j k) := by
  pointwise [k0_pay1]

/-- What the reference computes at a row and a column. -/
theorem ref_at (X : FVec Ideal S8192x4096 .f32) (W : FVec Ideal S4096x15424 .f32) (B : FVec Ideal S5120 .f32) (i : Fin 8192) (j : Fin 5120) :
    REF X W B (ix2 i j) = (∑ k : Fin 4096, X (ix2 i k) * W (ix2 k (wcol j))) + B (ix1 j) := by
  pointwise [REF]
  blk_point [wcol]

/-- The kernel's result array is the reference's term of its arguments. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨i, j, rfl⟩ : ∃ (i : Fin 1024) (j : Fin 512), y = ix2 i j := ⟨y 0, y 1, eq_ix2 y⟩
  have he : (win0_3.blk t).view.emb (ix2 i j) = ix2 (row t i) (col t j) := by blk_ext [idx t, row, col]
  refine Eq.trans ?_ (congrArg (REF (m ((c : Thread nD τ).loc main_arg0)) (m ((c : Thread nD τ).loc main_arg1)) (m ((c : Thread nD τ).loc main_arg2))) he).symm
  refine (stored _ _ _ i j).trans (Eq.trans ?_ (ref_at _ _ _ _ _).symm)
  rw [bias, add_comm]
  exact congrArg (· + _) (Finset.sum_congr rfl fun k _ => by rw [panel, weights])

end Cert.KernelQkvIdeal.Proj

end
-- ==== Proof.OutProj.lean ====
module

public import proofs.«01_k».proof.Proof.Gen.KernelOutIdeal.Value
public import proofs.«01_k».proof.Proof.Gen.ReferenceOutIdeal.Run
public import Idealize.ShloMosaic.Lib.Pipeline.ValueKit
public import Idealize.ShloMosaic.Lib.Pointwise
public import Idealize.ShloMosaic.Lib.Claim

/-! # The output projection

The kernel takes the two panels it projects separately: it multiplies one by the upper half of the weights, the
other by the lower half, and adds both to the bias. The reference concatenates the panels and multiplies once. -/

@[expose] public section

set_option maxRecDepth 16384

noncomputable section

namespace Cert.KernelOutIdeal.Proj

open Cert.KernelOutIdeal Cert.KernelOutIdeal.Gen Idealize.ShloMosaic Idealize.ShloMosaic.TcCoe Idealize.SL.Sem
open Idealize.ShloMosaic.Pipeline (Dat)

variable (m : (ℓ : Loc nD τ sig) → Buf (Elt Ideal) ℓ)

/-- The reference's term over the two panels, the weights and a bias. -/
abbrev REF (X Y : FVec Ideal S8192x4096 .bf16) (W : FVec Ideal S8192x4096 .f32) (B : FVec Ideal S4096 .f32) : FVec Ideal S8192x4096 .f32 :=
  addf (Host.dotGeneral Cert.ReferenceOutIdeal.dot_S8192x8192_S8192x4096_S8192x4096_1_0_0_1_n_n none
      (concatenate Cert.ReferenceOutIdeal.S8192x8192 1
        [⟨Cert.ReferenceOutIdeal.S8192x4096, (extf .f32 X Cert.ReferenceOutIdeal.Gen.bitsLt_bf16_f32)⟩,
          ⟨Cert.ReferenceOutIdeal.S8192x4096, (extf .f32 Y Cert.ReferenceOutIdeal.Gen.bitsLt_bf16_f32)⟩]
        Cert.ReferenceOutIdeal.Gen.concatenates_S8192x4096_S8192x4096_S8192x8192_d1) W)
    (broadcastInDim Cert.ReferenceOutIdeal.S8192x4096 ![0, 1] Cert.ReferenceOutIdeal.Gen.bcast_S1x4096_S8192x4096_0_1
      (broadcastInDim Cert.ReferenceOutIdeal.S1x4096 ![1] Cert.ReferenceOutIdeal.Gen.bcast_S4096_S1x4096_1 B))

/-- The windows' block indices at every grid point. -/
theorem idx : ∀ t : Fin cfg0.N, win0_0.index t = ![t.val / 16, 0] ∧ win0_1.index t = ![t.val / 16, 0] ∧ win0_2.index t = ![0, t.val % 16]
    ∧ win0_3.index t = ![0, t.val % 16] ∧ win0_4.index t = ![t.val / 16, t.val % 16] :=
  (by decide +kernel : ∀ t : Fin grid0.N, _)

/-- The row of the array a block's row is. -/
def row (t : Fin cfg0.N) (i : Fin 1024) : Fin 8192 := ⟨t.val / 16 * 1024 + i.val, by have h : t.val < 128 := t.isLt; omega⟩

/-- The column of the array a block's column is. -/
def col (t : Fin cfg0.N) (j : Fin 256) : Fin 4096 := ⟨t.val % 16 * 256 + j.val, by omega⟩

/-- A row of the weights' upper half. -/
def upper (k : Fin 4096) : Fin 8192 := ⟨k.val, by omega⟩

/-- A row of the weights' lower half. -/
def lower (k : Fin 4096) : Fin 8192 := ⟨4096 + k.val, by omega⟩

/-- The first panel's block holds the first panel's rows. -/
theorem panel (c : Dev nD) (t : Fin cfg0.N) (i : Fin 1024) (k : Fin 4096) :
    iblk m c 0 t (ix2 i k) = m ((c : Thread nD τ).loc main_arg0) (ix2 (row t i) k) := by
  have he : (win0_0.blk t).view.emb (ix2 i k) = ix2 (row t i) k := by blk_ext [idx t, row]
  simp only [iblk]
  entry_read
  blk_simp
  rw [he]

/-- The second panel's block holds the second panel's rows. -/
theorem panel' (c : Dev nD) (t : Fin cfg0.N) (i : Fin 1024) (k : Fin 4096) :
    iblk m c 1 t (ix2 i k) = m ((c : Thread nD τ).loc main_arg1) (ix2 (row t i) k) := by
  have he : (win0_1.blk t).view.emb (ix2 i k) = ix2 (row t i) k := by blk_ext [idx t, row]
  simp only [iblk]
  entry_read
  blk_simp
  rw [he]

/-- The weights' block holds the weights' columns. -/
theorem weights (c : Dev nD) (t : Fin cfg0.N) (k : Fin 8192) (j : Fin 256) :
    iblk m c 2 t (ix2 k j) = m ((c : Thread nD τ).loc main_arg2) (ix2 k (col t j)) := by
  have he : (win0_2.blk t).view.emb (ix2 k j) = ix2 k (col t j) := by blk_ext [idx t, col]
  simp only [iblk]
  entry_read
  blk_simp
  rw [he]
  pointwise

/-- The first load of the weights' block takes its upper half. -/
theorem weights_upper (c : Dev nD) (t : Fin cfg0.N) (k : Fin 4096) (j : Fin 256) :
    View.ld (iblk m c 2 t) r0_1 (ix2 k j) = m ((c : Thread nD τ).loc main_arg2) (ix2 (upper k) (col t j)) := by
  refine (View.ld_unit_apply_of _ _ _ _ _ (ix2 (upper k) j) (fun a => ?_)).trans (weights m c t (upper k) j)
  fin_cases a <;> simp [upper]

/-- The second load of the weights' block takes its lower half. -/
theorem weights_lower (c : Dev nD) (t : Fin cfg0.N) (k : Fin 4096) (j : Fin 256) :
    View.ld (iblk m c 2 t) r0_3 (ix2 k j) = m ((c : Thread nD τ).loc main_arg2) (ix2 (lower k) (col t j)) := by
  refine (View.ld_unit_apply_of _ _ _ _ _ (ix2 (lower k) j) (fun a => ?_)).trans (weights m c t (lower k) j)
  fin_cases a <;> simp [lower]

/-- The bias's block holds the bias's entries. -/
theorem bias (c : Dev nD) (t : Fin cfg0.N) (j : Fin 256) :
    iblk m c 3 t (ix2 0 j) = m ((c : Thread nD τ).loc main_arg3) (ix1 (col t j)) := by
  have he : (win0_3.blk t).view.emb (ix2 0 j) = ix2 0 (col t j) := by blk_ext [idx t, col]
  simp only [iblk]
  entry_read
  blk_simp
  rw [he]
  pointwise

/-- What the body stores is the added row plus one panel's product plus the other's. -/
theorem stored (b : Vec Ideal S1x256 .f32) (w : Vec Ideal S4096x256 .bf16) (x : Vec Ideal S1024x4096 .bf16)
    (v : Vec Ideal S4096x256 .bf16) (y : Vec Ideal S1024x4096 .bf16) (i : Fin 1024) (j : Fin 256) :
    k0_pay1 b w x v y (ix2 i j)
      = b (ix2 0 j) + (∑ k : Fin 4096, x (ix2 i k) * w (ix2 k j)) + ∑ k : Fin 4096, y (ix2 i k) * v (ix2 k j) := by
  pointwise [k0_pay1]

/-- What the reference computes at a row and a column. -/
theorem ref_at (X Y : FVec Ideal S8192x4096 .bf16) (W : FVec Ideal S8192x4096 .f32) (B : FVec Ideal S4096 .f32) (i : Fin 8192) (j : Fin 4096) :
    REF X Y W B (ix2 i j) = (∑ k : Fin 4096, X (ix2 i k) * W (ix2 (upper k) j)) + (∑ k : Fin 4096, Y (ix2 i k) * W (ix2 (lower k) j)) + B (ix1 j) := by
  pointwise [REF]
  rfl

/-- The kernel's result array is the reference's term of its arguments. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  frame_out
  obtain ⟨i, j, rfl⟩ : ∃ (i : Fin 1024) (j : Fin 256), y = ix2 i j := ⟨y 0, y 1, eq_ix2 y⟩
  have he : (win0_4.blk t).view.emb (ix2 i j) = ix2 (row t i) (col t j) := by blk_ext [idx t, row, col]
  refine Eq.trans ?_ (congrArg (REF (m ((c : Thread nD τ).loc main_arg0)) (m ((c : Thread nD τ).loc main_arg1)) (m ((c : Thread nD τ).loc main_arg2))
        (m ((c : Thread nD τ).loc main_arg3))) he).symm
  refine (stored _ _ _ _ _ i j).trans (Eq.trans ?_ (ref_at _ _ _ _ _ _).symm)
  simp only [panel, panel', weights_upper, weights_lower, bias]
  rw [add_assoc]
  exact add_comm _ _

end Cert.KernelOutIdeal.Proj

end
-- ==== Proof.Rkvo.lean ====
module

public import proofs.«01_k».proof.Proof.Gen.KernelRkvoIdeal.Value
public import proofs.«01_k».proof.Proof.Gen.ReferenceRkvoIdeal.Run
public import Idealize.ShloMosaic.Lib.Pipeline.ValueKit
public import Idealize.ShloMosaic.Lib.Pointwise
public import Idealize.ShloMosaic.Lib.Claim

/-! # A square projection

The kernel multiplies a panel by a rounded weight matrix, 1024 rows and 512 columns at a time. -/

@[expose] public section

set_option maxRecDepth 16384

noncomputable section

namespace Cert.KernelRkvoIdeal.Proj

open Cert.KernelRkvoIdeal Cert.KernelRkvoIdeal.Gen Idealize.ShloMosaic Idealize.ShloMosaic.TcCoe Idealize.SL.Sem
open Idealize.ShloMosaic.Pipeline (Dat)

variable (m : (ℓ : Loc nD τ sig) → Buf (Elt Ideal) ℓ)

/-- The reference's term over a panel and a weight matrix. -/
abbrev REF (X : FVec Ideal S8192x4096 .bf16) (W : FVec Ideal S4096x4096 .f32) : FVec Ideal S8192x4096 .f32 :=
  Host.dotGeneral Cert.ReferenceRkvoIdeal.dot_S8192x4096_S4096x4096_S8192x4096_1_0_0_1_n_n none
    (extf .f32 X Cert.ReferenceRkvoIdeal.Gen.bitsLt_bf16_f32) W

/-- The four windows' block indices at every grid point. -/
theorem idx : ∀ t : Fin cfg0.N, win0_0.index t = ![t.val / 8, 0] ∧ win0_1.index t = ![0, t.val % 8]
    ∧ win0_2.index t = ![0, t.val % 8] ∧ win0_3.index t = ![t.val / 8, t.val % 8] :=
  (by decide +kernel : ∀ t : Fin grid0.N, _)

/-- The row of the array a block's row is. -/
def row (t : Fin cfg0.N) (i : Fin 1024) : Fin 8192 := ⟨t.val / 8 * 1024 + i.val, by have h : t.val < 64 := t.isLt; omega⟩

/-- The column of the array a block's column is. -/
def col (t : Fin cfg0.N) (j : Fin 512) : Fin 4096 := ⟨t.val % 8 * 512 + j.val, by omega⟩

/-- The panel's block holds the panel's rows. -/
theorem panel (c : Dev nD) (t : Fin cfg0.N) (i : Fin 1024) (k : Fin 4096) :
    iblk m c 0 t (ix2 i k) = m ((c : Thread nD τ).loc main_arg0) (ix2 (row t i) k) := by
  have he : (win0_0.blk t).view.emb (ix2 i k) = ix2 (row t i) k := by blk_ext [idx t, row]
  simp only [iblk]
  entry_read
  blk_simp
  rw [he]

/-- The weights' block holds the weights' columns. -/
theorem weights (c : Dev nD) (t : Fin cfg0.N) (k : Fin 4096) (j : Fin 512) :
    iblk m c 1 t (ix2 k j) = m ((c : Thread nD τ).loc main_arg1) (ix2 k (col t j)) := by
  have he : (win0_1.blk t).view.emb (ix2 k j) = ix2 k (col t j) := by blk_ext [idx t, col]
  simp only [iblk]
  entry_read
  blk_simp
  rw [he]
  pointwise

/-- No bias: the row added to every product is zero. -/
theorem bias (c : Dev nD) (t : Fin cfg0.N) (j : Fin 512) : iblk m c 2 t (ix2 0 j) = (0 : EReal) := by
  simp only [iblk]
  entry_read
  blk_simp
  pointwise

/-- What the body stores is the added row plus the product of the two blocks. -/
theorem stored (b : Vec Ideal S1x512 .f32) (w : Vec Ideal S4096x512 .bf16) (x : Vec Ideal S1024x4096 .bf16)
    (i : Fin 1024) (j : Fin 512) : k0_pay1 b w x (ix2 i j) = b (ix2 0 j) + ∑ k : Fin 4096, x (ix2 i k) * w (ix2 k j) := by
  pointwise [k0_pay1]

/-- What the reference computes at a row and a column. -/
theorem ref_at (X : FVec Ideal S8192x4096 .bf16) (W : FVec Ideal S4096x4096 .f32) (i : Fin 8192) (j : Fin 4096) :
    REF X W (ix2 i j) = ∑ k : Fin 4096, X (ix2 i k) * W (ix2 k j) := by
  pointwise [REF]

/-- The kernel's result array is the reference's term of its arguments. -/
theorem final (c : Dev nD) : (dats m 0 c).arrAt 3 cfg0.N
    = REF (m ((c : Thread nD τ).loc main_arg0)) (m ((c : Thread nD τ).loc main_arg1)) := by
  refine (dats m 0 c).arrAt_eq_of_covers 3 _ (by decide +kernel) fun t _ y => ?_
  blk_simp
  rw [after0_3]
  frame_out
  obtain ⟨i, j, rfl⟩ : ∃ (i : Fin 1024) (j : Fin 512), y = ix2 i j := ⟨y 0, y 1, eq_ix2 y⟩
  have he : (win0_3.blk t).view.emb (ix2 i j) = ix2 (row t i) (col t j) := by blk_ext [idx t, row, col]
  refine Eq.trans ?_ (congrArg (REF (m ((c : Thread nD τ).loc main_arg0)) (m ((c : Thread nD τ).loc main_arg1))) he).symm
  refine (stored _ _ _ i j).trans (Eq.trans ?_ (ref_at _ _ _ _).symm)
  rw [bias, zero_add]
  exact Finset.sum_congr rfl fun k _ => by rw [panel, weights]

end Cert.KernelRkvoIdeal.Proj

end
-- ==== Proof.Decay.lean ====
module

public import proofs.«01_k».proof.Proof.Gen.KernelDecayIdeal.Value
public import proofs.«01_k».proof.Proof.Gen.ReferenceDecayIdeal.Run
public import Idealize.ShloMosaic.Lib.Pipeline.ValueKit
public import Idealize.ShloMosaic.Lib.Pointwise
public import Idealize.ShloMosaic.Lib.Claim

/-! # The decay's low-rank map

The kernel runs both products of a block of 512 rows at one grid point, the narrow tensor between them never leaving it. -/

@[expose] public section

set_option maxRecDepth 16384

noncomputable section

namespace Cert.KernelDecayIdeal.Proj

open Cert.KernelDecayIdeal Cert.KernelDecayIdeal.Gen Idealize.ShloMosaic Idealize.ShloMosaic.TcCoe Idealize.SL.Sem
open Idealize.ShloMosaic.Pipeline (Dat)

variable (m : (ℓ : Loc nD τ sig) → Buf (Elt Ideal) ℓ)

/-- The reference's term over an input, the two factors and a bias. -/
abbrev REF (X : FVec Ideal S8192x4096 .bf16) (A : FVec Ideal S4096x128 .f32) (D : FVec Ideal S128x4096 .f32) (B : FVec Ideal S4096 .f32) :
    FVec Ideal S8192x4096 .f32 :=
  addf (broadcastInDim Cert.ReferenceDecayIdeal.S8192x4096 ![0, 1] Cert.ReferenceDecayIdeal.Gen.bcast_S1x4096_S8192x4096_0_1
      (broadcastInDim Cert.ReferenceDecayIdeal.S1x4096 ![1] Cert.ReferenceDecayIdeal.Gen.bcast_S4096_S1x4096_1 B))
    (Host.dotGeneral Cert.ReferenceDecayIdeal.dot_S8192x128_S128x4096_S8192x4096_1_0_0_1_n_n none
    (Host.tanh (Host.dotGeneral Cert.ReferenceDecayIdeal.dot_S8192x4096_S4096x128_S8192x128_1_0_0_1_n_n none (extf .f32 X Cert.ReferenceDecayIdeal.Gen.bitsLt_bf16_f32) A)) D)

/-- The windows' block indices at every grid point: blocks of rows of the input and of the result, all else whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The row of the array a block's row is. -/
def row (t : Fin cfg0.N) (i : Fin 512) : Fin 8192 := ⟨t.val * 512 + i.val, by have h : t.val < 16 := t.isLt; omega⟩

/-- The input's block holds the input's rows. -/
theorem input (c : Dev nD) (t : Fin cfg0.N) (i : Fin 512) (k : Fin 4096) :
    iblk m c 0 t (ix2 i k) = m ((c : Thread nD τ).loc main_arg0) (ix2 (row t i) k) := by
  have he : (win0_0.blk t).view.emb (ix2 i k) = ix2 (row t i) k := by blk_ext [idx t, row]
  simp only [iblk]
  entry_read
  blk_simp
  rw [he]

/-- The first factor's block is the first factor. -/
theorem down (c : Dev nD) (t : Fin cfg0.N) (k : Fin 4096) (r : Fin 128) :
    iblk m c 1 t (ix2 k r) = m ((c : Thread nD τ).loc main_arg1) (ix2 k r) := by
  have he : (win0_1.blk t).view.emb (ix2 k r) = ix2 k r := by blk_ext [idx t]
  simp only [iblk]
  entry_read
  blk_simp
  rw [he]
  pointwise

/-- The second factor's block is the second factor. -/
theorem up (c : Dev nD) (t : Fin cfg0.N) (r : Fin 128) (j : Fin 4096) :
    iblk m c 2 t (ix2 r j) = m ((c : Thread nD τ).loc main_arg2) (ix2 r j) := by
  have he : (win0_2.blk t).view.emb (ix2 r j) = ix2 r j := by blk_ext [idx t]
  simp only [iblk]
  entry_read
  blk_simp
  rw [he]
  pointwise

/-- The bias's block is the bias. -/
theorem bias (c : Dev nD) (t : Fin cfg0.N) (j : Fin 4096) :
    iblk m c 3 t (ix2 0 j) = m ((c : Thread nD τ).loc main_arg3) (ix1 j) := by
  have he : (win0_3.blk t).view.emb (ix2 0 j) = ix2 0 j := by blk_ext [idx t]
  simp only [iblk]
  entry_read
  blk_simp
  rw [he]
  pointwise

/-- What the body stores: the product of the two factors with the input's block, the hyperbolic tangent between them, plus the added row. -/
theorem stored (x : Vec Ideal S512x4096 .bf16) (a : Vec Ideal S4096x128 .bf16) (d : Vec Ideal S128x4096 .bf16) (b : Vec Ideal S1x4096 .f32)
    (i : Fin 512) (j : Fin 4096) : k0_pay1 x a d b (ix2 i j)
      = (∑ r : Fin 128, Ideal.tanh (∑ k : Fin 4096, x (ix2 i k) * a (ix2 k r)) * d (ix2 r j)) + b (ix2 0 j) := by
  pointwise [k0_pay1]

/-- What the reference computes at a row and a column. -/
theorem ref_at (X : FVec Ideal S8192x4096 .bf16) (A : FVec Ideal S4096x128 .f32) (D : FVec Ideal S128x4096 .f32) (B : FVec Ideal S4096 .f32) (i : Fin 8192) (j : Fin 4096) :
    REF X A D B (ix2 i j) = B (ix1 j) + ∑ r : Fin 128, Ideal.tanh (∑ k : Fin 4096, X (ix2 i k) * A (ix2 k r)) * D (ix2 r j) := by
  pointwise [REF]

/-- The kernel's result array is the reference's term of its arguments. -/
theorem final (c : Dev nD) : (dats m 0 c).arrAt 4 cfg0.N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨i, j, rfl⟩ : ∃ (i : Fin 512) (j : Fin 4096), y = ix2 i j := ⟨y 0, y 1, eq_ix2 y⟩
  have he : (win0_4.blk t).view.emb (ix2 i j) = ix2 (row t i) j := by blk_ext [idx t, row]
  refine Eq.trans ?_ (congrArg (REF (m ((c : Thread nD τ).loc main_arg0)) (m ((c : Thread nD τ).loc main_arg1)) (m ((c : Thread nD τ).loc main_arg2)) (m ((c : Thread nD τ).loc main_arg3))) he).symm
  refine (stored _ _ _ _ i j).trans (Eq.trans ?_ (ref_at _ _ _ _ _ _).symm)
  simp only [input, down, up, bias]
  exact add_comm _ _

end Cert.KernelDecayIdeal.Proj

end
-- ==== Proof.Rate.lean ====
module

public import proofs.«01_k».proof.Proof.Gen.KernelRateIdeal.Value
public import proofs.«01_k».proof.Proof.Gen.ReferenceRateIdeal.Run
public import Idealize.ShloMosaic.Lib.Pipeline.ValueKit
public import Idealize.ShloMosaic.Lib.Pointwise
public import Idealize.ShloMosaic.Lib.Claim

/-! # The rate's low-rank map

As the decay's, with nothing between the two products. -/

@[expose] public section

set_option maxRecDepth 16384

noncomputable section

namespace Cert.KernelRateIdeal.Proj

open Cert.KernelRateIdeal Cert.KernelRateIdeal.Gen Idealize.ShloMosaic Idealize.ShloMosaic.TcCoe Idealize.SL.Sem
open Idealize.ShloMosaic.Pipeline (Dat)

variable (m : (ℓ : Loc nD τ sig) → Buf (Elt Ideal) ℓ)

/-- The reference's term over an input, the two factors and a bias. -/
abbrev REF (X : FVec Ideal S8192x4096 .bf16) (A : FVec Ideal S4096x128 .f32) (D : FVec Ideal S128x4096 .f32) (B : FVec Ideal S4096 .f32) :
    FVec Ideal S8192x4096 .f32 :=
  addf (broadcastInDim Cert.ReferenceRateIdeal.S8192x4096 ![0, 1] Cert.ReferenceRateIdeal.Gen.bcast_S1x4096_S8192x4096_0_1
      (broadcastInDim Cert.ReferenceRateIdeal.S1x4096 ![1] Cert.ReferenceRateIdeal.Gen.bcast_S4096_S1x4096_1 B))
    (Host.dotGeneral Cert.ReferenceRateIdeal.dot_S8192x128_S128x4096_S8192x4096_1_0_0_1_n_n none
    (Host.dotGeneral Cert.ReferenceRateIdeal.dot_S8192x4096_S4096x128_S8192x128_1_0_0_1_n_n none (extf .f32 X Cert.ReferenceRateIdeal.Gen.bitsLt_bf16_f32) A) D)

/-- The windows' block indices at every grid point: blocks of rows of the input and of the result, all else whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The row of the array a block's row is. -/
def row (t : Fin cfg0.N) (i : Fin 512) : Fin 8192 := ⟨t.val * 512 + i.val, by have h : t.val < 16 := t.isLt; omega⟩

/-- The input's block holds the input's rows. -/
theorem input (c : Dev nD) (t : Fin cfg0.N) (i : Fin 512) (k : Fin 4096) :
    iblk m c 0 t (ix2 i k) = m ((c : Thread nD τ).loc main_arg0) (ix2 (row t i) k) := by
  have he : (win0_0.blk t).view.emb (ix2 i k) = ix2 (row t i) k := by blk_ext [idx t, row]
  simp only [iblk]
  entry_read
  blk_simp
  rw [he]

/-- The first factor's block is the first factor. -/
theorem down (c : Dev nD) (t : Fin cfg0.N) (k : Fin 4096) (r : Fin 128) :
    iblk m c 1 t (ix2 k r) = m ((c : Thread nD τ).loc main_arg1) (ix2 k r) := by
  have he : (win0_1.blk t).view.emb (ix2 k r) = ix2 k r := by blk_ext [idx t]
  simp only [iblk]
  entry_read
  blk_simp
  rw [he]
  pointwise

/-- The second factor's block is the second factor. -/
theorem up (c : Dev nD) (t : Fin cfg0.N) (r : Fin 128) (j : Fin 4096) :
    iblk m c 2 t (ix2 r j) = m ((c : Thread nD τ).loc main_arg2) (ix2 r j) := by
  have he : (win0_2.blk t).view.emb (ix2 r j) = ix2 r j := by blk_ext [idx t]
  simp only [iblk]
  entry_read
  blk_simp
  rw [he]
  pointwise

/-- The bias's block is the bias. -/
theorem bias (c : Dev nD) (t : Fin cfg0.N) (j : Fin 4096) :
    iblk m c 3 t (ix2 0 j) = m ((c : Thread nD τ).loc main_arg3) (ix1 j) := by
  have he : (win0_3.blk t).view.emb (ix2 0 j) = ix2 0 j := by blk_ext [idx t]
  simp only [iblk]
  entry_read
  blk_simp
  rw [he]
  pointwise

/-- What the body stores: the product of the two factors with the input's block, plus the added row. -/
theorem stored (x : Vec Ideal S512x4096 .bf16) (a : Vec Ideal S4096x128 .bf16) (d : Vec Ideal S128x4096 .bf16) (b : Vec Ideal S1x4096 .f32)
    (i : Fin 512) (j : Fin 4096) : k0_pay1 x a d b (ix2 i j)
      = (∑ r : Fin 128, (∑ k : Fin 4096, x (ix2 i k) * a (ix2 k r)) * d (ix2 r j)) + b (ix2 0 j) := by
  pointwise [k0_pay1]

/-- What the reference computes at a row and a column. -/
theorem ref_at (X : FVec Ideal S8192x4096 .bf16) (A : FVec Ideal S4096x128 .f32) (D : FVec Ideal S128x4096 .f32) (B : FVec Ideal S4096 .f32) (i : Fin 8192) (j : Fin 4096) :
    REF X A D B (ix2 i j) = B (ix1 j) + ∑ r : Fin 128, (∑ k : Fin 4096, X (ix2 i k) * A (ix2 k r)) * D (ix2 r j) := by
  pointwise [REF]

/-- The kernel's result array is the reference's term of its arguments. -/
theorem final (c : Dev nD) : (dats m 0 c).arrAt 4 cfg0.N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨i, j, rfl⟩ : ∃ (i : Fin 512) (j : Fin 4096), y = ix2 i j := ⟨y 0, y 1, eq_ix2 y⟩
  have he : (win0_4.blk t).view.emb (ix2 i j) = ix2 (row t i) j := by blk_ext [idx t, row]
  refine Eq.trans ?_ (congrArg (REF (m ((c : Thread nD τ).loc main_arg0)) (m ((c : Thread nD τ).loc main_arg1)) (m ((c : Thread nD τ).loc main_arg2)) (m ((c : Thread nD τ).loc main_arg3))) he).symm
  refine (stored _ _ _ _ i j).trans (Eq.trans ?_ (ref_at _ _ _ _ _ _).symm)
  simp only [input, down, up, bias]
  exact add_comm _ _

end Cert.KernelRateIdeal.Proj

end
-- ==== Proof.Gate.lean ====
module

public import proofs.«01_k».proof.Proof.Gen.KernelGateIdeal.Value
public import proofs.«01_k».proof.Proof.Gen.ReferenceGateIdeal.Run
public import Idealize.ShloMosaic.Lib.Pipeline.ValueKit
public import Idealize.ShloMosaic.Lib.Pointwise
public import Idealize.ShloMosaic.Lib.Claim

/-! # The gate's low-rank map

As the decay's, of rank 480, with the sigmoid between the two products and no bias. -/

@[expose] public section

set_option maxRecDepth 16384

noncomputable section

namespace Cert.KernelGateIdeal.Proj

open Cert.KernelGateIdeal Cert.KernelGateIdeal.Gen Idealize.ShloMosaic Idealize.ShloMosaic.TcCoe Idealize.SL.Sem
open Idealize.ShloMosaic.Pipeline (Dat)

variable (m : (ℓ : Loc nD τ sig) → Buf (Elt Ideal) ℓ)

/-- The reference's term over an input, the two factors. -/
abbrev REF (X : FVec Ideal S8192x4096 .bf16) (A : FVec Ideal S4096x480 .f32) (D : FVec Ideal S480x4096 .f32) :
    FVec Ideal S8192x4096 .f32 :=
  Host.dotGeneral Cert.ReferenceGateIdeal.dot_S8192x480_S480x4096_S8192x4096_1_0_0_1_n_n none
    (Host.divf (broadcastInDim Cert.ReferenceGateIdeal.S8192x480 ![] Cert.ReferenceGateIdeal.Gen.bcast_S_S8192x480 (constant S_ .f32 0x3F800000#32))
      (addf (broadcastInDim Cert.ReferenceGateIdeal.S8192x480 ![] Cert.ReferenceGateIdeal.Gen.bcast_S_S8192x480 (constant S_ .f32 0x3F800000#32))
        (Host.exp (Host.negf (Host.dotGeneral Cert.ReferenceGateIdeal.dot_S8192x4096_S4096x480_S8192x480_1_0_0_1_n_n none (extf .f32 X Cert.ReferenceGateIdeal.Gen.bitsLt_bf16_f32) A))))) D

/-- The windows' block indices at every grid point: blocks of rows of the input and of the result, all else whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The row of the array a block's row is. -/
def row (t : Fin cfg0.N) (i : Fin 512) : Fin 8192 := ⟨t.val * 512 + i.val, by have h : t.val < 16 := t.isLt; omega⟩

/-- The input's block holds the input's rows. -/
theorem input (c : Dev nD) (t : Fin cfg0.N) (i : Fin 512) (k : Fin 4096) :
    iblk m c 0 t (ix2 i k) = m ((c : Thread nD τ).loc main_arg0) (ix2 (row t i) k) := by
  have he : (win0_0.blk t).view.emb (ix2 i k) = ix2 (row t i) k := by blk_ext [idx t, row]
  simp only [iblk]
  entry_read
  blk_simp
  rw [he]

/-- The first factor's block is the first factor. -/
theorem down (c : Dev nD) (t : Fin cfg0.N) (k : Fin 4096) (r : Fin 480) :
    iblk m c 1 t (ix2 k r) = m ((c : Thread nD τ).loc main_arg1) (ix2 k r) := by
  have he : (win0_1.blk t).view.emb (ix2 k r) = ix2 k r := by blk_ext [idx t]
  simp only [iblk]
  entry_read
  blk_simp
  rw [he]
  pointwise

/-- The second factor's block is the second factor. -/
theorem up (c : Dev nD) (t : Fin cfg0.N) (r : Fin 480) (j : Fin 4096) :
    iblk m c 2 t (ix2 r j) = m ((c : Thread nD τ).loc main_arg2) (ix2 r j) := by
  have he : (win0_2.blk t).view.emb (ix2 r j) = ix2 r j := by blk_ext [idx t]
  simp only [iblk]
  entry_read
  blk_simp
  rw [he]
  pointwise

/-- No bias: the row added to every product is zero. -/
theorem bias (c : Dev nD) (t : Fin cfg0.N) (j : Fin 4096) : iblk m c 3 t (ix2 0 j) = (0 : EReal) := by
  simp only [iblk]
  entry_read
  blk_simp
  pointwise

/-- What the body stores: the product of the two factors with the input's block, the sigmoid between them, plus the added row. -/
theorem stored (x : Vec Ideal S512x4096 .bf16) (a : Vec Ideal S4096x480 .bf16) (d : Vec Ideal S480x4096 .bf16) (b : Vec Ideal S1x4096 .f32)
    (i : Fin 512) (j : Fin 4096) : k0_pay1 x a d b (ix2 i j)
      = (∑ r : Fin 480, Ideal.logistic (∑ k : Fin 4096, x (ix2 i k) * a (ix2 k r)) * d (ix2 r j)) + b (ix2 0 j) := by
  pointwise [k0_pay1]

/-- What the reference computes at a row and a column. -/
theorem ref_at (X : FVec Ideal S8192x4096 .bf16) (A : FVec Ideal S4096x480 .f32) (D : FVec Ideal S480x4096 .f32) (i : Fin 8192) (j : Fin 4096) :
    REF X A D (ix2 i j) = ∑ r : Fin 480, Ideal.logistic (∑ k : Fin 4096, X (ix2 i k) * A (ix2 k r)) * D (ix2 r j) := by
  pointwise [REF]
  rfl

/-- The kernel's result array is the reference's term of its arguments. -/
theorem final (c : Dev nD) : (dats m 0 c).arrAt 4 cfg0.N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  obtain ⟨i, j, rfl⟩ : ∃ (i : Fin 512) (j : Fin 4096), y = ix2 i j := ⟨y 0, y 1, eq_ix2 y⟩
  have he : (win0_4.blk t).view.emb (ix2 i j) = ix2 (row t i) j := by blk_ext [idx t, row]
  refine Eq.trans ?_ (congrArg (REF (m ((c : Thread nD τ).loc main_arg0)) (m ((c : Thread nD τ).loc main_arg1)) (m ((c : Thread nD τ).loc main_arg2))) he).symm
  refine (stored _ _ _ _ i j).trans (Eq.trans ?_ (ref_at _ _ _ _ _).symm)
  simp only [input, down, up, bias]
  exact add_zero _

end Cert.KernelGateIdeal.Proj

end
-- ==== Proof.ProjectionClaims.lean ====
module

public import proofs.«01_k».proof.Proof.Z
public import proofs.«01_k».proof.Proof.Xbc
public import proofs.«01_k».proof.Proof.Qkv
public import proofs.«01_k».proof.Proof.OutProj
public import proofs.«01_k».proof.Proof.Rkvo
public import proofs.«01_k».proof.Proof.Decay
public import proofs.«01_k».proof.Proof.Rate
public import proofs.«01_k».proof.Proof.Gate
public import proofs.«01_k».proof.Defs
public import Idealize.ShloMosaic.Lib.Claim
public import Idealize.ShloMosaic.Lib.Quiescent

/-! # The projections' claims

For each projection: its reference leaves its arguments as they were and ends with every semaphore counter at zero, and
its kernel's result is its reference's. -/

@[expose] public section

set_option maxRecDepth 16384

noncomputable section

namespace Cert.Proof

open Idealize.ShloMosaic Idealize.ShloMosaic.TcCoe Idealize.SL.Sem

section
open Cert.ReferenceZIdeal

/-- The reference of the gate's columns of the input projection leaves its arguments alone; it has no semaphore, so every counter ends at zero. -/
theorem z_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩)
    (Cert.ReferenceZIdeal.Value.run (F := Ideal) m g)

end

/-- `Cert.algebraic_KernelZIdeal_ReferenceZIdeal`: the kernel of the gate's columns of the input projection and its reference agree. -/
theorem z_value : Cert.algebraic_KernelZIdeal_ReferenceZIdeal (hKernelZIdeal := Cert.KernelZIdeal.Gen.facts)
    (hReferenceZIdeal := Cert.ReferenceZIdeal.Gen.facts) := by
  pair_intro
  · run_from Cert.KernelZIdeal.Value.run_blocks m g
  · hlo_run
    exact (Cert.KernelZIdeal.Proj.final m c).symm

section
open Cert.ReferenceXbcIdeal

/-- The reference of the state-space columns of the input projection leaves its arguments alone; it has no semaphore, so every counter ends at zero. -/
theorem xbc_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩)
    (Cert.ReferenceXbcIdeal.Value.run (F := Ideal) m g)

end

/-- `Cert.algebraic_KernelXbcIdeal_ReferenceXbcIdeal`: the kernel of the state-space columns of the input projection and its reference agree. -/
theorem xbc_value : Cert.algebraic_KernelXbcIdeal_ReferenceXbcIdeal (hKernelXbcIdeal := Cert.KernelXbcIdeal.Gen.facts)
    (hReferenceXbcIdeal := Cert.ReferenceXbcIdeal.Gen.facts) := by
  pair_intro
  · run_from Cert.KernelXbcIdeal.Value.run_blocks m g
  · hlo_run
    exact (Cert.KernelXbcIdeal.Proj.final m c).symm

section
open Cert.ReferenceQkvIdeal

/-- The reference of the attention columns of the input projection leaves its arguments alone; it has no semaphore, so every counter ends at zero. -/
theorem qkv_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩)
    (Cert.ReferenceQkvIdeal.Value.run (F := Ideal) m g)

end

/-- `Cert.algebraic_KernelQkvIdeal_ReferenceQkvIdeal`: the kernel of the attention columns of the input projection and its reference agree. -/
theorem qkv_value : Cert.algebraic_KernelQkvIdeal_ReferenceQkvIdeal (hKernelQkvIdeal := Cert.KernelQkvIdeal.Gen.facts)
    (hReferenceQkvIdeal := Cert.ReferenceQkvIdeal.Gen.facts) := by
  pair_intro
  · run_from Cert.KernelQkvIdeal.Value.run_blocks m g
  · hlo_run
    exact (Cert.KernelQkvIdeal.Proj.final m c).symm

section
open Cert.ReferenceOutIdeal

/-- The reference of the output projection leaves its arguments alone; it has no semaphore, so every counter ends at zero. -/
theorem out_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩)
    (Cert.ReferenceOutIdeal.Value.run (F := Ideal) m g)

end

/-- `Cert.algebraic_KernelOutIdeal_ReferenceOutIdeal`: the kernel of the output projection and its reference agree. -/
theorem out_value : Cert.algebraic_KernelOutIdeal_ReferenceOutIdeal (hKernelOutIdeal := Cert.KernelOutIdeal.Gen.facts)
    (hReferenceOutIdeal := Cert.ReferenceOutIdeal.Gen.facts) := by
  pair_intro
  · run_from Cert.KernelOutIdeal.Value.run_blocks m g
  · hlo_run
    exact (Cert.KernelOutIdeal.Proj.final m c).symm

section
open Cert.ReferenceRkvoIdeal

/-- The reference of the square projection leaves its arguments alone; it has no semaphore, so every counter ends at zero. -/
theorem rkvo_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩)
    (Cert.ReferenceRkvoIdeal.Value.run (F := Ideal) m g)

end

/-- `Cert.algebraic_KernelRkvoIdeal_ReferenceRkvoIdeal`: the kernel of the square projection and its reference agree. -/
theorem rkvo_value : Cert.algebraic_KernelRkvoIdeal_ReferenceRkvoIdeal (hKernelRkvoIdeal := Cert.KernelRkvoIdeal.Gen.facts)
    (hReferenceRkvoIdeal := Cert.ReferenceRkvoIdeal.Gen.facts) := by
  pair_intro
  · run_from Cert.KernelRkvoIdeal.Value.run_blocks m g
  · hlo_run
    exact (Cert.KernelRkvoIdeal.Proj.final m c).symm

section
open Cert.ReferenceDecayIdeal

/-- The reference of the decay's low-rank map leaves its arguments alone; it has no semaphore, so every counter ends at zero. -/
theorem decay_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩)
    (Cert.ReferenceDecayIdeal.Value.run (F := Ideal) m g)

end

/-- `Cert.algebraic_KernelDecayIdeal_ReferenceDecayIdeal`: the kernel of the decay's low-rank map and its reference agree. -/
theorem decay_value : Cert.algebraic_KernelDecayIdeal_ReferenceDecayIdeal (hKernelDecayIdeal := Cert.KernelDecayIdeal.Gen.facts)
    (hReferenceDecayIdeal := Cert.ReferenceDecayIdeal.Gen.facts) := by
  pair_intro
  · run_from Cert.KernelDecayIdeal.Value.run_blocks m g
  · hlo_run
    exact (Cert.KernelDecayIdeal.Proj.final m c).symm

section
open Cert.ReferenceRateIdeal

/-- The reference of the rate's low-rank map leaves its arguments alone; it has no semaphore, so every counter ends at zero. -/
theorem rate_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩)
    (Cert.ReferenceRateIdeal.Value.run (F := Ideal) m g)

end

/-- `Cert.algebraic_KernelRateIdeal_ReferenceRateIdeal`: the kernel of the rate's low-rank map and its reference agree. -/
theorem rate_value : Cert.algebraic_KernelRateIdeal_ReferenceRateIdeal (hKernelRateIdeal := Cert.KernelRateIdeal.Gen.facts)
    (hReferenceRateIdeal := Cert.ReferenceRateIdeal.Gen.facts) := by
  pair_intro
  · run_from Cert.KernelRateIdeal.Value.run_blocks m g
  · hlo_run
    exact (Cert.KernelRateIdeal.Proj.final m c).symm

section
open Cert.ReferenceGateIdeal

/-- The reference of the gate's low-rank map leaves its arguments alone; it has no semaphore, so every counter ends at zero. -/
theorem gate_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩)
    (Cert.ReferenceGateIdeal.Value.run (F := Ideal) m g)

end

/-- `Cert.algebraic_KernelGateIdeal_ReferenceGateIdeal`: the kernel of the gate's low-rank map and its reference agree. -/
theorem gate_value : Cert.algebraic_KernelGateIdeal_ReferenceGateIdeal (hKernelGateIdeal := Cert.KernelGateIdeal.Gen.facts)
    (hReferenceGateIdeal := Cert.ReferenceGateIdeal.Gen.facts) := by
  pair_intro
  · run_from Cert.KernelGateIdeal.Value.run_blocks m g
  · hlo_run
    exact (Cert.KernelGateIdeal.Proj.final m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelZ
public import proofs.«01_k».proof.Proof.Gen.KernelZ.Skeleton
public import proofs.«01_k».proof.Proof.Gen.KernelZ.Launch
public import proofs.«01_k».proof.Proof.Gen.KernelZ.Points
public import proofs.«01_k».proof.Proof.Gen.KernelZ.Frame
public import proofs.«01_k».proof.Proof.Gen.KernelZIdeal
public import proofs.«01_k».proof.Proof.Gen.KernelZIdeal.Skeleton
public import proofs.«01_k».proof.Proof.Gen.KernelZIdeal.Launch
public import proofs.«01_k».proof.Proof.Gen.KernelZIdeal.Points
public import proofs.«01_k».proof.Proof.Gen.KernelZIdeal.Frame
public import proofs.«01_k».proof.Proof.Gen.KernelZIdeal.Value
public import proofs.«01_k».proof.Proof.Gen.ReferenceZIdeal
public import proofs.«01_k».proof.Proof.Gen.ReferenceZIdeal.Run
public import proofs.«01_k».proof.Proof.Gen.KernelXbc
public import proofs.«01_k».proof.Proof.Gen.KernelXbc.Skeleton
public import proofs.«01_k».proof.Proof.Gen.KernelXbc.Launch
public import proofs.«01_k».proof.Proof.Gen.KernelXbc.Points
public import proofs.«01_k».proof.Proof.Gen.KernelXbc.Frame
public import proofs.«01_k».proof.Proof.Gen.KernelXbcIdeal
public import proofs.«01_k».proof.Proof.Gen.KernelXbcIdeal.Skeleton
public import proofs.«01_k».proof.Proof.Gen.KernelXbcIdeal.Launch
public import proofs.«01_k».proof.Proof.Gen.KernelXbcIdeal.Points
public import proofs.«01_k».proof.Proof.Gen.KernelXbcIdeal.Frame
public import proofs.«01_k».proof.Proof.Gen.KernelXbcIdeal.Value
public import proofs.«01_k».proof.Proof.Gen.ReferenceXbcIdeal
public import proofs.«01_k».proof.Proof.Gen.ReferenceXbcIdeal.Run
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelRkvo
public import proofs.«01_k».proof.Proof.Gen.KernelRkvo.Skeleton
public import proofs.«01_k».proof.Proof.Gen.KernelRkvo.Launch
public import proofs.«01_k».proof.Proof.Gen.KernelRkvo.Points
public import proofs.«01_k».proof.Proof.Gen.KernelRkvo.Frame
public import proofs.«01_k».proof.Proof.Gen.KernelRkvoIdeal
public import proofs.«01_k».proof.Proof.Gen.KernelRkvoIdeal.Skeleton
public import proofs.«01_k».proof.Proof.Gen.KernelRkvoIdeal.Launch
public import proofs.«01_k».proof.Proof.Gen.KernelRkvoIdeal.Points
public import proofs.«01_k».proof.Proof.Gen.KernelRkvoIdeal.Frame
public import proofs.«01_k».proof.Proof.Gen.KernelRkvoIdeal.Value
public import proofs.«01_k».proof.Proof.Gen.ReferenceRkvoIdeal
public import proofs.«01_k».proof.Proof.Gen.ReferenceRkvoIdeal.Run
public import proofs.«01_k».proof.Proof.Gen.KernelDecay
public import proofs.«01_k».proof.Proof.Gen.KernelDecay.Skeleton
public import proofs.«01_k».proof.Proof.Gen.KernelDecay.Launch
public import proofs.«01_k».proof.Proof.Gen.KernelDecay.Points
public import proofs.«01_k».proof.Proof.Gen.KernelDecay.Frame
public import proofs.«01_k».proof.Proof.Gen.KernelDecayIdeal
public import proofs.«01_k».proof.Proof.Gen.KernelDecayIdeal.Skeleton
public import proofs.«01_k».proof.Proof.Gen.KernelDecayIdeal.Launch
public import proofs.«01_k».proof.Proof.Gen.KernelDecayIdeal.Points
public import proofs.«01_k».proof.Proof.Gen.KernelDecayIdeal.Frame
public import proofs.«01_k».proof.Proof.Gen.KernelDecayIdeal.Value
public import proofs.«01_k».proof.Proof.Gen.ReferenceDecayIdeal
public import proofs.«01_k».proof.Proof.Gen.ReferenceDecayIdeal.Run
public import proofs.«01_k».proof.Proof.Gen.KernelRate
public import proofs.«01_k».proof.Proof.Gen.KernelRate.Skeleton
public import proofs.«01_k».proof.Proof.Gen.KernelRate.Launch
public import proofs.«01_k».proof.Proof.Gen.KernelRate.Points
public import proofs.«01_k».proof.Proof.Gen.KernelRate.Frame
public import proofs.«01_k».proof.Proof.Gen.KernelRateIdeal
public import proofs.«01_k».proof.Proof.Gen.KernelRateIdeal.Skeleton
public import proofs.«01_k».proof.Proof.Gen.KernelRateIdeal.Launch
public import proofs.«01_k».proof.Proof.Gen.KernelRateIdeal.Points
public import proofs.«01_k».proof.Proof.Gen.KernelRateIdeal.Frame
public import proofs.«01_k».proof.Proof.Gen.KernelRateIdeal.Value
public import proofs.«01_k».proof.Proof.Gen.ReferenceRateIdeal
public import proofs.«01_k».proof.Proof.Gen.ReferenceRateIdeal.Run
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.ReferenceUpIdeal
public import proofs.«01_k».proof.Proof.Gen.ReferenceUpIdeal.Run
public import proofs.«01_k».proof.Proof.Gen.KernelUp1
public import proofs.«01_k».proof.Proof.Gen.KernelUp1.Skeleton
public import proofs.«01_k».proof.Proof.Gen.KernelUp1.Launch
public import proofs.«01_k».proof.Proof.Gen.KernelUp1Ideal
public import proofs.«01_k».proof.Proof.Gen.KernelUp1Ideal.Skeleton
public import proofs.«01_k».proof.Proof.Gen.KernelUp1Ideal.Launch
public import proofs.«01_k».proof.Proof.Gen.ReferenceUp1Ideal
public import proofs.«01_k».proof.Proof.Gen.ReferenceUp1Ideal.Run
public import proofs.«01_k».proof.Proof.Gen.KernelDown
public import proofs.«01_k».proof.Proof.Gen.KernelDown.Skeleton
public import proofs.«01_k».proof.Proof.Gen.KernelDown.Launch
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.ReferenceDownIdeal
public import proofs.«01_k».proof.Proof.Gen.ReferenceDownIdeal.Run
public import proofs.«01_k».proof.Proof.Gen.KernelDown1
public import proofs.«01_k».proof.Proof.Gen.KernelDown1.Skeleton
public import proofs.«01_k».proof.Proof.Gen.KernelDown1.Launch
public import proofs.«01_k».proof.Proof.Gen.KernelDown1Ideal
public import proofs.«01_k».proof.Proof.Gen.KernelDown1Ideal.Skeleton
public import proofs.«01_k».proof.Proof.Gen.KernelDown1Ideal.Launch
public import proofs.«01_k».proof.Proof.Gen.ReferenceDown1Ideal
public import proofs.«01_k».proof.Proof.Gen.ReferenceDown1Ideal.Run
public import Idealize.ShloMosaic.Adequacy
public import Idealize.ShloMosaic.Init
public import proofs.«01_k».proof.Proof.Gen.KernelIdeal.Value
public import proofs.«01_k».proof.Proof.Gen.ReferenceIdeal.Run
public import Idealize.ShloMosaic.Lib.Quiescent
public import proofs.«01_k».proof.Proof.MixerClaim
public import proofs.«01_k».proof.Proof.UpClaims
public import proofs.«01_k».proof.Proof.Up1Claims
public import proofs.«01_k».proof.Proof.DownClaims
public import proofs.«01_k».proof.Proof.Down1Claims
public import proofs.«01_k».proof.Proof.ProjectionClaims

@[expose] public section

noncomputable section

namespace Cert.Proof

open Idealize.ShloMosaic Idealize.SL.Sem

section
open Cert.ReferenceIdeal

/-- The reference leaves its arguments alone; it has no semaphore, so every counter ends at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => (h c).2, sem_eq_zero_of_no_sems (by decide) r.2⟩)
    (Cert.ReferenceIdeal.Value.run (F := Ideal) m g)

end

/-- Everything the statement states, with the witnesses of the programs' shape conditions. -/
theorem claim : Cert.Claim := ⟨Cert.Kernel.Gen.facts, Cert.KernelIdeal.Gen.facts, Cert.ReferenceIdeal.Gen.facts,
  Cert.KernelZ.Gen.facts, Cert.KernelZIdeal.Gen.facts, Cert.ReferenceZIdeal.Gen.facts,
  Cert.KernelXbc.Gen.facts, Cert.KernelXbcIdeal.Gen.facts, Cert.ReferenceXbcIdeal.Gen.facts,
  Cert.KernelQkv.Gen.facts, Cert.KernelQkvIdeal.Gen.facts, Cert.ReferenceQkvIdeal.Gen.facts,
  Cert.KernelOut.Gen.facts, Cert.KernelOutIdeal.Gen.facts, Cert.ReferenceOutIdeal.Gen.facts,
  Cert.KernelRkvo.Gen.facts, Cert.KernelRkvoIdeal.Gen.facts, Cert.ReferenceRkvoIdeal.Gen.facts,
  Cert.KernelDecay.Gen.facts, Cert.KernelDecayIdeal.Gen.facts, Cert.ReferenceDecayIdeal.Gen.facts,
  Cert.KernelRate.Gen.facts, Cert.KernelRateIdeal.Gen.facts, Cert.ReferenceRateIdeal.Gen.facts,
  Cert.KernelGate.Gen.facts, Cert.KernelGateIdeal.Gen.facts, Cert.ReferenceGateIdeal.Gen.facts,
  Cert.KernelUp.Gen.facts, Cert.KernelUpIdeal.Gen.facts, Cert.ReferenceUpIdeal.Gen.facts,
  Cert.KernelUp1.Gen.facts, Cert.KernelUp1Ideal.Gen.facts, Cert.ReferenceUp1Ideal.Gen.facts,
  Cert.KernelDown.Gen.facts, Cert.KernelDownIdeal.Gen.facts, Cert.ReferenceDownIdeal.Gen.facts,
  Cert.KernelDown1.Gen.facts, Cert.KernelDown1Ideal.Gen.facts, Cert.ReferenceDown1Ideal.Gen.facts,
  Cert.KernelIdeal.Mixer.steps_facts, runs_facts, runs_down_facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  fun m g _ => Cert.KernelZ.Gen.frame m g,
  fun m g _ => Cert.KernelZIdeal.Gen.frame m g,
  fun m g _ => z_frame m g,
  fun m g _ => Cert.KernelXbc.Gen.frame m g,
  fun m g _ => Cert.KernelXbcIdeal.Gen.frame m g,
  fun m g _ => xbc_frame m g,
  fun m g _ => Cert.KernelQkv.Gen.frame m g,
  fun m g _ => Cert.KernelQkvIdeal.Gen.frame m g,
  fun m g _ => qkv_frame m g,
  fun m g _ => Cert.KernelOut.Gen.frame m g,
  fun m g _ => Cert.KernelOutIdeal.Gen.frame m g,
  fun m g _ => out_frame m g,
  fun m g _ => Cert.KernelRkvo.Gen.frame m g,
  fun m g _ => Cert.KernelRkvoIdeal.Gen.frame m g,
  fun m g _ => rkvo_frame m g,
  fun m g _ => Cert.KernelDecay.Gen.frame m g,
  fun m g _ => Cert.KernelDecayIdeal.Gen.frame m g,
  fun m g _ => decay_frame m g,
  fun m g _ => Cert.KernelRate.Gen.frame m g,
  fun m g _ => Cert.KernelRateIdeal.Gen.frame m g,
  fun m g _ => rate_frame m g,
  fun m g _ => Cert.KernelGate.Gen.frame m g,
  fun m g _ => Cert.KernelGateIdeal.Gen.frame m g,
  fun m g _ => gate_frame m g,
  up_frame_bits,
  up_frame,
  fun m g _ => UpRef.kept m g,
  fun m g _ => UpRef.kept m g,
  up1_frame_bits,
  up1_frame,
  fun m g _ => Up1Ref.kept m g,
  fun m g _ => Up1Ref.kept m g,
  down_frame_bits,
  down_frame,
  fun m g _ => DownRef.kept m g,
  fun m g _ => DownRef.kept m g,
  down1_frame_bits,
  down1_frame,
  fun m g _ => Down1Ref.kept m g,
  fun m g _ => Down1Ref.kept m g,
  trivial,
  mixer,
  trivial,
  z_value,
  trivial,
  xbc_value,
  trivial,
  qkv_value,
  trivial,
  out_value,
  trivial,
  rkvo_value,
  trivial,
  decay_value,
  trivial,
  rate_value,
  trivial,
  gate_value,
  trivial,
  up_value,
  trivial,
  up1_value,
  trivial,
  down_value,
  trivial,
  down1_value⟩

end Cert.Proof

end
